-- ==== Defs.lean ====
def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelRows (m : (ℓ : Loc Cert.KernelRows.nD Cert.KernelRows.τ Cert.KernelRows.sig) → Buf (Elt Bits) ℓ) : Prop :=
  True

def Pre_KernelRowsIdeal (m : (ℓ : Loc Cert.KernelRowsIdeal.nD Cert.KernelRowsIdeal.τ Cert.KernelRowsIdeal.sig) → Buf (Elt Ideal) ℓ) : Prop :=
  True

def Pre_ReferenceRowsIdeal (m : (ℓ : Loc Cert.ReferenceRowsIdeal.nD Cert.ReferenceRowsIdeal.τ Cert.ReferenceRowsIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelFfnFwd (m : (ℓ : Loc Cert.KernelFfnFwd.nD Cert.KernelFfnFwd.τ Cert.KernelFfnFwd.sig) → Buf (Elt Bits) ℓ) : Prop :=
  True

def Pre_KernelFfnFwdIdeal (m : (ℓ : Loc Cert.KernelFfnFwdIdeal.nD Cert.KernelFfnFwdIdeal.τ Cert.KernelFfnFwdIdeal.sig) → Buf (Elt Ideal) ℓ) : Prop :=
  True

def Pre_ReferenceFfnFwdIdeal (m : (ℓ : Loc Cert.ReferenceFfnFwdIdeal.nD Cert.ReferenceFfnFwdIdeal.τ Cert.ReferenceFfnFwdIdeal.sig) → Buf (Elt Ideal) ℓ) : Prop :=
  True

def Pre_KernelOutFwd (m : (ℓ : Loc Cert.KernelOutFwd.nD Cert.KernelOutFwd.τ Cert.KernelOutFwd.sig) → Buf (Elt Bits) ℓ) : Prop :=
  True

def Pre_KernelOutFwdIdeal (m : (ℓ : Loc Cert.KernelOutFwdIdeal.nD Cert.KernelOutFwdIdeal.τ Cert.KernelOutFwdIdeal.sig) → Buf (Elt Ideal) ℓ) : Prop :=
  True

def Pre_ReferenceOutFwdIdeal (m : (ℓ : Loc Cert.ReferenceOutFwdIdeal.nD Cert.ReferenceOutFwdIdeal.τ Cert.ReferenceOutFwdIdeal.sig) → Buf (Elt Ideal) ℓ) : Prop :=
  True

def Pre_KernelFfnFwd2 (m : (ℓ : Loc Cert.KernelFfnFwd2.nD Cert.KernelFfnFwd2.τ Cert.KernelFfnFwd2.sig) → Buf (Elt Bits) ℓ) : Prop :=
  True

def Pre_KernelFfnFwd2Ideal (m : (ℓ : Loc Cert.KernelFfnFwd2Ideal.nD Cert.KernelFfnFwd2Ideal.τ Cert.KernelFfnFwd2Ideal.sig) → Buf (Elt Ideal) ℓ) : Prop :=
  True

def Pre_ReferenceFfnFwd2Ideal (m : (ℓ : Loc Cert.ReferenceFfnFwd2Ideal.nD Cert.ReferenceFfnFwd2Ideal.τ Cert.ReferenceFfnFwd2Ideal.sig) → Buf (Elt Ideal) ℓ) : Prop :=
  True

def Pre_KernelMixDw (m : (ℓ : Loc Cert.KernelMixDw.nD Cert.KernelMixDw.τ Cert.KernelMixDw.sig) → Buf (Elt Bits) ℓ) : Prop :=
  True

def Pre_KernelMixDwIdeal (m : (ℓ : Loc Cert.KernelMixDwIdeal.nD Cert.KernelMixDwIdeal.τ Cert.KernelMixDwIdeal.sig) → Buf (Elt Ideal) ℓ) : Prop :=
  True

def Pre_ReferenceMixDwIdeal (m : (ℓ : Loc Cert.ReferenceMixDwIdeal.nD Cert.ReferenceMixDwIdeal.τ Cert.ReferenceMixDwIdeal.sig) → Buf (Elt Ideal) ℓ) : Prop :=
  True

def Pre_KernelMixDw2 (m : (ℓ : Loc Cert.KernelMixDw2.nD Cert.KernelMixDw2.τ Cert.KernelMixDw2.sig) → Buf (Elt Bits) ℓ) : Prop :=
  True

def Pre_KernelMixDw2Ideal (m : (ℓ : Loc Cert.KernelMixDw2Ideal.nD Cert.KernelMixDw2Ideal.τ Cert.KernelMixDw2Ideal.sig) → Buf (Elt Ideal) ℓ) : Prop :=
  True

def Pre_ReferenceMixDw2Ideal (m : (ℓ : Loc Cert.ReferenceMixDw2Ideal.nD Cert.ReferenceMixDw2Ideal.τ Cert.ReferenceMixDw2Ideal.sig) → Buf (Elt Ideal) ℓ) : Prop :=
  True

def Pre_KernelAbDw (m : (ℓ : Loc Cert.KernelAbDw.nD Cert.KernelAbDw.τ Cert.KernelAbDw.sig) → Buf (Elt Bits) ℓ) : Prop :=
  True

def Pre_KernelAbDwIdeal (m : (ℓ : Loc Cert.KernelAbDwIdeal.nD Cert.KernelAbDwIdeal.τ Cert.KernelAbDwIdeal.sig) → Buf (Elt Ideal) ℓ) : Prop :=
  True

def Pre_ReferenceAbDwIdeal (m : (ℓ : Loc Cert.ReferenceAbDwIdeal.nD Cert.ReferenceAbDwIdeal.τ Cert.ReferenceAbDwIdeal.sig) → Buf (Elt Ideal) ℓ) : Prop :=
  True

def Pre_KernelQkvDw (m : (ℓ : Loc Cert.KernelQkvDw.nD Cert.KernelQkvDw.τ Cert.KernelQkvDw.sig) → Buf (Elt Bits) ℓ) : Prop :=
  True

def Pre_KernelQkvDwIdeal (m : (ℓ : Loc Cert.KernelQkvDwIdeal.nD Cert.KernelQkvDwIdeal.τ Cert.KernelQkvDwIdeal.sig) → Buf (Elt Ideal) ℓ) : Prop :=
  True

def Pre_ReferenceQkvDwIdeal (m : (ℓ : Loc Cert.ReferenceQkvDwIdeal.nD Cert.ReferenceQkvDwIdeal.τ Cert.ReferenceQkvDwIdeal.sig) → Buf (Elt Ideal) ℓ) : Prop :=
  True

def Pre_KernelAbBwd (m : (ℓ : Loc Cert.KernelAbBwd.nD Cert.KernelAbBwd.τ Cert.KernelAbBwd.sig) → Buf (Elt Bits) ℓ) : Prop :=
  True

def Pre_KernelAbBwdIdeal (m : (ℓ : Loc Cert.KernelAbBwdIdeal.nD Cert.KernelAbBwdIdeal.τ Cert.KernelAbBwdIdeal.sig) → Buf (Elt Ideal) ℓ) : Prop :=
  True

def Pre_ReferenceAbBwdIdeal (m : (ℓ : Loc Cert.ReferenceAbBwdIdeal.nD Cert.ReferenceAbBwdIdeal.τ Cert.ReferenceAbBwdIdeal.sig) → Buf (Elt Ideal) ℓ) : Prop :=
  True

def Pre_KernelQkvBwd (m : (ℓ : Loc Cert.KernelQkvBwd.nD Cert.KernelQkvBwd.τ Cert.KernelQkvBwd.sig) → Buf (Elt Bits) ℓ) : Prop :=
  True

def Pre_KernelQkvBwdIdeal (m : (ℓ : Loc Cert.KernelQkvBwdIdeal.nD Cert.KernelQkvBwdIdeal.τ Cert.KernelQkvBwdIdeal.sig) → Buf (Elt Ideal) ℓ) : Prop :=
  True

def Pre_ReferenceQkvBwdIdeal (m : (ℓ : Loc Cert.ReferenceQkvBwdIdeal.nD Cert.ReferenceQkvBwdIdeal.τ Cert.ReferenceQkvBwdIdeal.sig) → Buf (Elt Ideal) ℓ) : Prop :=
  True

def Pre_KernelAbFwd (m : (ℓ : Loc Cert.KernelAbFwd.nD Cert.KernelAbFwd.τ Cert.KernelAbFwd.sig) → Buf (Elt Bits) ℓ) : Prop :=
  True

def Pre_KernelAbFwdIdeal (m : (ℓ : Loc Cert.KernelAbFwdIdeal.nD Cert.KernelAbFwdIdeal.τ Cert.KernelAbFwdIdeal.sig) → Buf (Elt Ideal) ℓ) : Prop :=
  True

def Pre_ReferenceAbFwdIdeal (m : (ℓ : Loc Cert.ReferenceAbFwdIdeal.nD Cert.ReferenceAbFwdIdeal.τ Cert.ReferenceAbFwdIdeal.sig) → Buf (Elt Ideal) ℓ) : Prop :=
  True

def Pre_KernelQkvFwd (m : (ℓ : Loc Cert.KernelQkvFwd.nD Cert.KernelQkvFwd.τ Cert.KernelQkvFwd.sig) → Buf (Elt Bits) ℓ) : Prop :=
  True

def Pre_KernelQkvFwdIdeal (m : (ℓ : Loc Cert.KernelQkvFwdIdeal.nD Cert.KernelQkvFwdIdeal.τ Cert.KernelQkvFwdIdeal.sig) → Buf (Elt Ideal) ℓ) : Prop :=
  True

def Pre_ReferenceQkvFwdIdeal (m : (ℓ : Loc Cert.ReferenceQkvFwdIdeal.nD Cert.ReferenceQkvFwdIdeal.τ Cert.ReferenceQkvFwdIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamMix (m : (ℓ : Loc Cert.KernelAdamMix.nD Cert.KernelAdamMix.τ Cert.KernelAdamMix.sig) → Buf (Elt Bits) ℓ) : Prop :=
  True

def Pre_KernelAdamMixIdeal (m : (ℓ : Loc Cert.KernelAdamMixIdeal.nD Cert.KernelAdamMixIdeal.τ Cert.KernelAdamMixIdeal.sig) → Buf (Elt Ideal) ℓ) : Prop :=
  True

def Pre_ReferenceAdamMixIdeal (m : (ℓ : Loc Cert.ReferenceAdamMixIdeal.nD Cert.ReferenceAdamMixIdeal.τ Cert.ReferenceAdamMixIdeal.sig) → Buf (Elt Ideal) ℓ) : Prop :=
  True

def Pre_KernelAdamAb (m : (ℓ : Loc Cert.KernelAdamAb.nD Cert.KernelAdamAb.τ Cert.KernelAdamAb.sig) → Buf (Elt Bits) ℓ) : Prop :=
  True

def Pre_KernelAdamAbIdeal (m : (ℓ : Loc Cert.KernelAdamAbIdeal.nD Cert.KernelAdamAbIdeal.τ Cert.KernelAdamAbIdeal.sig) → Buf (Elt Ideal) ℓ) : Prop :=
  True

def Pre_ReferenceAdamAbIdeal (m : (ℓ : Loc Cert.ReferenceAdamAbIdeal.nD Cert.ReferenceAdamAbIdeal.τ Cert.ReferenceAdamAbIdeal.sig) → Buf (Elt Ideal) ℓ) : Prop :=
  True

def Pre_KernelAdamQkv (m : (ℓ : Loc Cert.KernelAdamQkv.nD Cert.KernelAdamQkv.τ Cert.KernelAdamQkv.sig) → Buf (Elt Bits) ℓ) : Prop :=
  True

def Pre_KernelAdamQkvIdeal (m : (ℓ : Loc Cert.KernelAdamQkvIdeal.nD Cert.KernelAdamQkvIdeal.τ Cert.KernelAdamQkvIdeal.sig) → Buf (Elt Ideal) ℓ) : Prop :=
  True

def Pre_ReferenceAdamQkvIdeal (m : (ℓ : Loc Cert.ReferenceAdamQkvIdeal.nD Cert.ReferenceAdamQkvIdeal.τ Cert.ReferenceAdamQkvIdeal.sig) → Buf (Elt Ideal) ℓ) : Prop :=
  True

def Pre_KernelAttnFwd (m : (ℓ : Loc Cert.KernelAttnFwd.nD Cert.KernelAttnFwd.τ Cert.KernelAttnFwd.sig) → Buf (Elt Bits) ℓ) : Prop :=
  True

def Pre_KernelAttnFwdIdeal (m : (ℓ : Loc Cert.KernelAttnFwdIdeal.nD Cert.KernelAttnFwdIdeal.τ Cert.KernelAttnFwdIdeal.sig) → Buf (Elt Ideal) ℓ) : Prop :=
  True

def Pre_KernelAttnFwdIdeal_finite_attn [hPre_finite_attn : Cert.Pre_finite_attn.Facts] (m : (ℓ : Loc Cert.KernelAttnFwdIdeal.nD Cert.KernelAttnFwdIdeal.τ Cert.KernelAttnFwdIdeal.sig) → Buf (Elt Ideal) ℓ) : Prop :=
  ∀ c : Dev Cert.KernelAttnFwdIdeal.nD,
    (Cert.Pre_finite_attn.fn (F := Ideal) (m ((c.tc : Thread Cert.KernelAttnFwdIdeal.nD Cert.KernelAttnFwdIdeal.τ).loc Cert.KernelAttnFwdIdeal.main_arg0)) (m ((c.tc : Thread Cert.KernelAttnFwdIdeal.nD Cert.KernelAttnFwdIdeal.τ).loc Cert.KernelAttnFwdIdeal.main_arg1))) = (fun _ => 1#1)

def Pre_ReferenceAttnFwdIdeal (m : (ℓ : Loc Cert.ReferenceAttnFwdIdeal.nD Cert.ReferenceAttnFwdIdeal.τ Cert.ReferenceAttnFwdIdeal.sig) → Buf (Elt Ideal) ℓ) : Prop :=
  True

def Pre_ReferenceAttnFwdIdeal_finite_attn [hPre_finite_attn : Cert.Pre_finite_attn.Facts] (m : (ℓ : Loc Cert.ReferenceAttnFwdIdeal.nD Cert.ReferenceAttnFwdIdeal.τ Cert.ReferenceAttnFwdIdeal.sig) → Buf (Elt Ideal) ℓ) : Prop :=
  ∀ c : Dev Cert.ReferenceAttnFwdIdeal.nD,
    (Cert.Pre_finite_attn.fn (F := Ideal) (m ((c.tc : Thread Cert.ReferenceAttnFwdIdeal.nD Cert.ReferenceAttnFwdIdeal.τ).loc Cert.ReferenceAttnFwdIdeal.main_arg0)) (m ((c.tc : Thread Cert.ReferenceAttnFwdIdeal.nD Cert.ReferenceAttnFwdIdeal.τ).loc Cert.ReferenceAttnFwdIdeal.main_arg1))) = (fun _ => 1#1)

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2)
      ∧ r.2.mem ((c.tc : Thread Cert.KernelN.nD Cert.KernelN.τ).loc Cert.KernelN.main_arg3) = m ((c.tc : Thread Cert.KernelN.nD Cert.KernelN.τ).loc Cert.KernelN.main_arg3)
      ∧ r.2.mem ((c.tc : Thread Cert.KernelN.nD Cert.KernelN.τ).loc Cert.KernelN.main_arg4) = m ((c.tc : Thread Cert.KernelN.nD Cert.KernelN.τ).loc Cert.KernelN.main_arg4)
      ∧ r.2.mem ((c.tc : Thread Cert.KernelN.nD Cert.KernelN.τ).loc Cert.KernelN.main_arg5) = m ((c.tc : Thread Cert.KernelN.nD Cert.KernelN.τ).loc Cert.KernelN.main_arg5))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
      ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3)
      ∧ r.2.mem ((c.tc : Thread Cert.KernelNIdeal.nD Cert.KernelNIdeal.τ).loc Cert.KernelNIdeal.main_arg4) = m ((c.tc : Thread Cert.KernelNIdeal.nD Cert.KernelNIdeal.τ).loc Cert.KernelNIdeal.main_arg4)
      ∧ r.2.mem ((c.tc : Thread Cert.KernelNIdeal.nD Cert.KernelNIdeal.τ).loc Cert.KernelNIdeal.main_arg5) = m ((c.tc : Thread Cert.KernelNIdeal.nD Cert.KernelNIdeal.τ).loc Cert.KernelNIdeal.main_arg5))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2)
      ∧ r.2.mem ((c.tc : Thread Cert.ReferenceNIdeal.nD Cert.ReferenceNIdeal.τ).loc Cert.ReferenceNIdeal.main_arg3) = m ((c.tc : Thread Cert.ReferenceNIdeal.nD Cert.ReferenceNIdeal.τ).loc Cert.ReferenceNIdeal.main_arg3)
      ∧ r.2.mem ((c.tc : Thread Cert.ReferenceNIdeal.nD Cert.ReferenceNIdeal.τ).loc Cert.ReferenceNIdeal.main_arg4) = m ((c.tc : Thread Cert.ReferenceNIdeal.nD Cert.ReferenceNIdeal.τ).loc Cert.ReferenceNIdeal.main_arg4)
      ∧ r.2.mem ((c.tc : Thread Cert.ReferenceNIdeal.nD Cert.ReferenceNIdeal.τ).loc Cert.ReferenceNIdeal.main_arg5) = m ((c.tc : Thread Cert.ReferenceNIdeal.nD Cert.ReferenceNIdeal.τ).loc Cert.ReferenceNIdeal.main_arg5))
      ∧ r.2.sem = fun _ => 0)

def quiescent_KernelRows [hKernelRows : Cert.KernelRows.Facts] : Prop :=
  ∀ (m : (ℓ : Loc Cert.KernelRows.nD Cert.KernelRows.τ Cert.KernelRows.sig) → Buf (Elt Bits) ℓ) (g : Dev Cert.KernelRows.nD → PrngReg), Pre_KernelRows m →
    θ_run (Cert.KernelRows.defs (F := Bits)) (onTc (τ := Cert.KernelRows.τ) (Cert.KernelRows.main (F := Bits))) ⟨m, fun _ => 0, g⟩ (fun r => (∀ c : Dev Cert.KernelRows.nD,
      r.2.mem ((c.tc : Thread Cert.KernelRows.nD Cert.KernelRows.τ).loc Cert.KernelRows.main_arg0) = m ((c.tc : Thread Cert.KernelRows.nD Cert.KernelRows.τ).loc Cert.KernelRows.main_arg0)
      ∧ r.2.mem ((c.tc : Thread Cert.KernelRows.nD Cert.KernelRows.τ).loc Cert.KernelRows.main_arg1) = m ((c.tc : Thread Cert.KernelRows.nD Cert.KernelRows.τ).loc Cert.KernelRows.main_arg1)
      ∧ r.2.mem ((c.tc : Thread Cert.KernelRows.nD Cert.KernelRows.τ).loc Cert.KernelRows.main_arg2) = m ((c.tc : Thread Cert.KernelRows.nD Cert.KernelRows.τ).loc Cert.KernelRows.main_arg2))
      ∧ r.2.sem = fun _ => 0)

def quiescent_KernelRowsIdeal [hKernelRowsIdeal : Cert.KernelRowsIdeal.Facts] : Prop :=
  ∀ (m : (ℓ : Loc Cert.KernelRowsIdeal.nD Cert.KernelRowsIdeal.τ Cert.KernelRowsIdeal.sig) → Buf (Elt Ideal) ℓ) (g : Dev Cert.KernelRowsIdeal.nD → PrngReg), Pre_KernelRowsIdeal m →
    θ_run (Cert.KernelRowsIdeal.defs (F := Ideal)) (onTc (τ := Cert.KernelRowsIdeal.τ) (Cert.KernelRowsIdeal.main (F := Ideal))) ⟨m, fun _ => 0, g⟩ (fun r => (∀ c : Dev Cert.KernelRowsIdeal.nD,
      r.2.mem ((c.tc : Thread Cert.KernelRowsIdeal.nD Cert.KernelRowsIdeal.τ).loc Cert.KernelRowsIdeal.main_arg0) = m ((c.tc : Thread Cert.KernelRowsIdeal.nD Cert.KernelRowsIdeal.τ).loc Cert.KernelRowsIdeal.main_arg0)
      ∧ r.2.mem ((c.tc : Thread Cert.KernelRowsIdeal.nD Cert.KernelRowsIdeal.τ).loc Cert.KernelRowsIdeal.main_arg1) = m ((c.tc : Thread Cert.KernelRowsIdeal.nD Cert.KernelRowsIdeal.τ).loc Cert.KernelRowsIdeal.main_arg1)
      ∧ r.2.mem ((c.tc : Thread Cert.KernelRowsIdeal.nD Cert.KernelRowsIdeal.τ).loc Cert.KernelRowsIdeal.main_arg2) = m ((c.tc : Thread Cert.KernelRowsIdeal.nD Cert.KernelRowsIdeal.τ).loc Cert.KernelRowsIdeal.main_arg2))
      ∧ r.2.sem = fun _ => 0)

def quiescent_ReferenceRowsIdeal [hReferenceRowsIdeal : Cert.ReferenceRowsIdeal.Facts] : Prop :=
  ∀ (m : (ℓ : Loc Cert.ReferenceRowsIdeal.nD Cert.ReferenceRowsIdeal.τ Cert.ReferenceRowsIdeal.sig) → Buf (Elt Ideal) ℓ) (g : Dev Cert.ReferenceRowsIdeal.nD → PrngReg), Pre_ReferenceRowsIdeal m →
    θ_run (Cert.ReferenceRowsIdeal.defs (F := Ideal)) (onTc (τ := Cert.ReferenceRowsIdeal.τ) (Cert.ReferenceRowsIdeal.main (F := Ideal))) ⟨m, fun _ => 0, g⟩ (fun r => (∀ c : Dev Cert.ReferenceRowsIdeal.nD,
      r.2.mem ((c.tc : Thread Cert.ReferenceRowsIdeal.nD Cert.ReferenceRowsIdeal.τ).loc Cert.ReferenceRowsIdeal.main_arg0) = m ((c.tc : Thread Cert.ReferenceRowsIdeal.nD Cert.ReferenceRowsIdeal.τ).loc Cert.ReferenceRowsIdeal.main_arg0)
      ∧ r.2.mem ((c.tc : Thread Cert.ReferenceRowsIdeal.nD Cert.ReferenceRowsIdeal.τ).loc Cert.ReferenceRowsIdeal.main_arg1) = m ((c.tc : Thread Cert.ReferenceRowsIdeal.nD Cert.ReferenceRowsIdeal.τ).loc Cert.ReferenceRowsIdeal.main_arg1)
      ∧ r.2.mem ((c.tc : Thread Cert.ReferenceRowsIdeal.nD Cert.ReferenceRowsIdeal.τ).loc Cert.ReferenceRowsIdeal.main_arg2) = m ((c.tc : Thread Cert.ReferenceRowsIdeal.nD Cert.ReferenceRowsIdeal.τ).loc Cert.ReferenceRowsIdeal.main_arg2))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelFfnFwd [hKernelFfnFwd : Cert.KernelFfnFwd.Facts] : Prop :=
  ∀ (m : (ℓ : Loc Cert.KernelFfnFwd.nD Cert.KernelFfnFwd.τ Cert.KernelFfnFwd.sig) → Buf (Elt Bits) ℓ) (g : Dev Cert.KernelFfnFwd.nD → PrngReg), Pre_KernelFfnFwd m →
    θ_run (Cert.KernelFfnFwd.defs (F := Bits)) (onTc (τ := Cert.KernelFfnFwd.τ) (Cert.KernelFfnFwd.main (F := Bits))) ⟨m, fun _ => 0, g⟩ (fun r => (∀ c : Dev Cert.KernelFfnFwd.nD,
      r.2.mem ((c.tc : Thread Cert.KernelFfnFwd.nD Cert.KernelFfnFwd.τ).loc Cert.KernelFfnFwd.main_arg0) = m ((c.tc : Thread Cert.KernelFfnFwd.nD Cert.KernelFfnFwd.τ).loc Cert.KernelFfnFwd.main_arg0)
      ∧ r.2.mem ((c.tc : Thread Cert.KernelFfnFwd.nD Cert.KernelFfnFwd.τ).loc Cert.KernelFfnFwd.main_arg1) = m ((c.tc : Thread Cert.KernelFfnFwd.nD Cert.KernelFfnFwd.τ).loc Cert.KernelFfnFwd.main_arg1)
      ∧ r.2.mem ((c.tc : Thread Cert.KernelFfnFwd.nD Cert.KernelFfnFwd.τ).loc Cert.KernelFfnFwd.main_arg2) = m ((c.tc : Thread Cert.KernelFfnFwd.nD Cert.KernelFfnFwd.τ).loc Cert.KernelFfnFwd.main_arg2)
      ∧ r.2.mem ((c.tc : Thread Cert.KernelFfnFwd.nD Cert.KernelFfnFwd.τ).loc Cert.KernelFfnFwd.main_arg3) = m ((c.tc : Thread Cert.KernelFfnFwd.nD Cert.KernelFfnFwd.τ).loc Cert.KernelFfnFwd.main_arg3)
      ∧ r.2.mem ((c.tc : Thread Cert.KernelFfnFwd.nD Cert.KernelFfnFwd.τ).loc Cert.KernelFfnFwd.main_arg4) = m ((c.tc : Thread Cert.KernelFfnFwd.nD Cert.KernelFfnFwd.τ).loc Cert.KernelFfnFwd.main_arg4))
      ∧ r.2.sem = fun _ => 0)

def quiescent_KernelFfnFwdIdeal [hKernelFfnFwdIdeal : Cert.KernelFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg), Pre_KernelFfnFwdIdeal m →
    θ_run (Cert.KernelFfnFwdIdeal.defs (F := Ideal)) (onTc (τ := Cert.KernelFfnFwdIdeal.τ) (Cert.KernelFfnFwdIdeal.main (F := Ideal))) ⟨m, fun _ => 0, g⟩ (fun r => (∀ c : Dev Cert.KernelFfnFwdIdeal.nD,
      r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
      ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
      ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
      ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
      ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ r.2.sem = fun _ => 0)

def quiescent_ReferenceFfnFwdIdeal [hReferenceFfnFwdIdeal : Cert.ReferenceFfnFwdIdeal.Facts] : Prop :=
  ∀ (m : (ℓ : Loc Cert.ReferenceFfnFwdIdeal.nD Cert.ReferenceFfnFwdIdeal.τ Cert.ReferenceFfnFwdIdeal.sig) → Buf (Elt Ideal) ℓ) (g : Dev Cert.ReferenceFfnFwdIdeal.nD → PrngReg), Pre_ReferenceFfnFwdIdeal m →
    θ_run (Cert.ReferenceFfnFwdIdeal.defs (F := Ideal)) (onTc (τ := Cert.ReferenceFfnFwdIdeal.τ) (Cert.ReferenceFfnFwdIdeal.main (F := Ideal))) ⟨m, fun _ => 0, g⟩ (fun r => (∀ c : Dev Cert.ReferenceFfnFwdIdeal.nD,
      r.2.mem ((c.tc : Thread Cert.ReferenceFfnFwdIdeal.nD Cert.ReferenceFfnFwdIdeal.τ).loc Cert.ReferenceFfnFwdIdeal.main_arg0) = m ((c.tc : Thread Cert.ReferenceFfnFwdIdeal.nD Cert.ReferenceFfnFwdIdeal.τ).loc Cert.ReferenceFfnFwdIdeal.main_arg0)
      ∧ r.2.mem ((c.tc : Thread Cert.ReferenceFfnFwdIdeal.nD Cert.ReferenceFfnFwdIdeal.τ).loc Cert.ReferenceFfnFwdIdeal.main_arg1) = m ((c.tc : Thread Cert.ReferenceFfnFwdIdeal.nD Cert.ReferenceFfnFwdIdeal.τ).loc Cert.ReferenceFfnFwdIdeal.main_arg1)
      ∧ r.2.mem ((c.tc : Thread Cert.ReferenceFfnFwdIdeal.nD Cert.ReferenceFfnFwdIdeal.τ).loc Cert.ReferenceFfnFwdIdeal.main_arg2) = m ((c.tc : Thread Cert.ReferenceFfnFwdIdeal.nD Cert.ReferenceFfnFwdIdeal.τ).loc Cert.ReferenceFfnFwdIdeal.main_arg2)
      ∧ r.2.mem ((c.tc : Thread Cert.ReferenceFfnFwdIdeal.nD Cert.ReferenceFfnFwdIdeal.τ).loc Cert.ReferenceFfnFwdIdeal.main_arg3) = m ((c.tc : Thread Cert.ReferenceFfnFwdIdeal.nD Cert.ReferenceFfnFwdIdeal.τ).loc Cert.ReferenceFfnFwdIdeal.main_arg3)
      ∧ r.2.mem ((c.tc : Thread Cert.ReferenceFfnFwdIdeal.nD Cert.ReferenceFfnFwdIdeal.τ).loc Cert.ReferenceFfnFwdIdeal.main_arg4) = m ((c.tc : Thread Cert.ReferenceFfnFwdIdeal.nD Cert.ReferenceFfnFwdIdeal.τ).loc Cert.ReferenceFfnFwdIdeal.main_arg4))
      ∧ r.2.sem = fun _ => 0)

def quiescent_KernelOutFwd [hKernelOutFwd : Cert.KernelOutFwd.Facts] : Prop :=
  ∀ (m : (ℓ : Loc Cert.KernelOutFwd.nD Cert.KernelOutFwd.τ Cert.KernelOutFwd.sig) → Buf (Elt Bits) ℓ) (g : Dev Cert.KernelOutFwd.nD → PrngReg), Pre_KernelOutFwd m →
    θ_run (Cert.KernelOutFwd.defs (F := Bits)) (onTc (τ := Cert.KernelOutFwd.τ) (Cert.KernelOutFwd.main (F := Bits))) ⟨m, fun _ => 0, g⟩ (fun r => (∀ c : Dev Cert.KernelOutFwd.nD,
      r.2.mem ((c.tc : Thread Cert.KernelOutFwd.nD Cert.KernelOutFwd.τ).loc Cert.KernelOutFwd.main_arg0) = m ((c.tc : Thread Cert.KernelOutFwd.nD Cert.KernelOutFwd.τ).loc Cert.KernelOutFwd.main_arg0)
      ∧ r.2.mem ((c.tc : Thread Cert.KernelOutFwd.nD Cert.KernelOutFwd.τ).loc Cert.KernelOutFwd.main_arg1) = m ((c.tc : Thread Cert.KernelOutFwd.nD Cert.KernelOutFwd.τ).loc Cert.KernelOutFwd.main_arg1)
      ∧ r.2.mem ((c.tc : Thread Cert.KernelOutFwd.nD Cert.KernelOutFwd.τ).loc Cert.KernelOutFwd.main_arg2) = m ((c.tc : Thread Cert.KernelOutFwd.nD Cert.KernelOutFwd.τ).loc Cert.KernelOutFwd.main_arg2))
      ∧ r.2.sem = fun _ => 0)

def quiescent_KernelOutFwdIdeal [hKernelOutFwdIdeal : Cert.KernelOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg), Pre_KernelOutFwdIdeal m →
    θ_run (Cert.KernelOutFwdIdeal.defs (F := Ideal)) (onTc (τ := Cert.KernelOutFwdIdeal.τ) (Cert.KernelOutFwdIdeal.main (F := Ideal))) ⟨m, fun _ => 0, g⟩ (fun r => (∀ c : Dev Cert.KernelOutFwdIdeal.nD,
      r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
      ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
      ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2))
      ∧ r.2.sem = fun _ => 0)

def quiescent_ReferenceOutFwdIdeal [hReferenceOutFwdIdeal : Cert.ReferenceOutFwdIdeal.Facts] : Prop :=
  ∀ (m : (ℓ : Loc Cert.ReferenceOutFwdIdeal.nD Cert.ReferenceOutFwdIdeal.τ Cert.ReferenceOutFwdIdeal.sig) → Buf (Elt Ideal) ℓ) (g : Dev Cert.ReferenceOutFwdIdeal.nD → PrngReg), Pre_ReferenceOutFwdIdeal m →
    θ_run (Cert.ReferenceOutFwdIdeal.defs (F := Ideal)) (onTc (τ := Cert.ReferenceOutFwdIdeal.τ) (Cert.ReferenceOutFwdIdeal.main (F := Ideal))) ⟨m, fun _ => 0, g⟩ (fun r => (∀ c : Dev Cert.ReferenceOutFwdIdeal.nD,
      r.2.mem ((c.tc : Thread Cert.ReferenceOutFwdIdeal.nD Cert.ReferenceOutFwdIdeal.τ).loc Cert.ReferenceOutFwdIdeal.main_arg0) = m ((c.tc : Thread Cert.ReferenceOutFwdIdeal.nD Cert.ReferenceOutFwdIdeal.τ).loc Cert.ReferenceOutFwdIdeal.main_arg0)
      ∧ r.2.mem ((c.tc : Thread Cert.ReferenceOutFwdIdeal.nD Cert.ReferenceOutFwdIdeal.τ).loc Cert.ReferenceOutFwdIdeal.main_arg1) = m ((c.tc : Thread Cert.ReferenceOutFwdIdeal.nD Cert.ReferenceOutFwdIdeal.τ).loc Cert.ReferenceOutFwdIdeal.main_arg1)
      ∧ r.2.mem ((c.tc : Thread Cert.ReferenceOutFwdIdeal.nD Cert.ReferenceOutFwdIdeal.τ).loc Cert.ReferenceOutFwdIdeal.main_arg2) = m ((c.tc : Thread Cert.ReferenceOutFwdIdeal.nD Cert.ReferenceOutFwdIdeal.τ).loc Cert.ReferenceOutFwdIdeal.main_arg2))
      ∧ r.2.sem = fun _ => 0)

def quiescent_KernelFfnFwd2 [hKernelFfnFwd2 : Cert.KernelFfnFwd2.Facts] : Prop :=
  ∀ (m : (ℓ : Loc Cert.KernelFfnFwd2.nD Cert.KernelFfnFwd2.τ Cert.KernelFfnFwd2.sig) → Buf (Elt Bits) ℓ) (g : Dev Cert.KernelFfnFwd2.nD → PrngReg), Pre_KernelFfnFwd2 m →
    θ_run (Cert.KernelFfnFwd2.defs (F := Bits)) (onTc (τ := Cert.KernelFfnFwd2.τ) (Cert.KernelFfnFwd2.main (F := Bits))) ⟨m, fun _ => 0, g⟩ (fun r => (∀ c : Dev Cert.KernelFfnFwd2.nD,
      r.2.mem ((c.tc : Thread Cert.KernelFfnFwd2.nD Cert.KernelFfnFwd2.τ).loc Cert.KernelFfnFwd2.main_arg0) = m ((c.tc : Thread Cert.KernelFfnFwd2.nD Cert.KernelFfnFwd2.τ).loc Cert.KernelFfnFwd2.main_arg0)
      ∧ r.2.mem ((c.tc : Thread Cert.KernelFfnFwd2.nD Cert.KernelFfnFwd2.τ).loc Cert.KernelFfnFwd2.main_arg1) = m ((c.tc : Thread Cert.KernelFfnFwd2.nD Cert.KernelFfnFwd2.τ).loc Cert.KernelFfnFwd2.main_arg1)
      ∧ r.2.mem ((c.tc : Thread Cert.KernelFfnFwd2.nD Cert.KernelFfnFwd2.τ).loc Cert.KernelFfnFwd2.main_arg2) = m ((c.tc : Thread Cert.KernelFfnFwd2.nD Cert.KernelFfnFwd2.τ).loc Cert.KernelFfnFwd2.main_arg2)
      ∧ r.2.mem ((c.tc : Thread Cert.KernelFfnFwd2.nD Cert.KernelFfnFwd2.τ).loc Cert.KernelFfnFwd2.main_arg3) = m ((c.tc : Thread Cert.KernelFfnFwd2.nD Cert.KernelFfnFwd2.τ).loc Cert.KernelFfnFwd2.main_arg3)
      ∧ r.2.mem ((c.tc : Thread Cert.KernelFfnFwd2.nD Cert.KernelFfnFwd2.τ).loc Cert.KernelFfnFwd2.main_arg4) = m ((c.tc : Thread Cert.KernelFfnFwd2.nD Cert.KernelFfnFwd2.τ).loc Cert.KernelFfnFwd2.main_arg4)
      ∧ r.2.mem ((c.tc : Thread Cert.KernelFfnFwd2.nD Cert.KernelFfnFwd2.τ).loc Cert.KernelFfnFwd2.main_arg5) = m ((c.tc : Thread Cert.KernelFfnFwd2.nD Cert.KernelFfnFwd2.τ).loc Cert.KernelFfnFwd2.main_arg5))
      ∧ r.2.sem = fun _ => 0)

def quiescent_KernelFfnFwd2Ideal [hKernelFfnFwd2Ideal : Cert.KernelFfnFwd2Ideal.Facts] : Prop :=
  ∀ (m : (ℓ : Loc Cert.KernelFfnFwd2Ideal.nD Cert.KernelFfnFwd2Ideal.τ Cert.KernelFfnFwd2Ideal.sig) → Buf (Elt Ideal) ℓ) (g : Dev Cert.KernelFfnFwd2Ideal.nD → PrngReg), Pre_KernelFfnFwd2Ideal m →
    θ_run (Cert.KernelFfnFwd2Ideal.defs (F := Ideal)) (onTc (τ := Cert.KernelFfnFwd2Ideal.τ) (Cert.KernelFfnFwd2Ideal.main (F := Ideal))) ⟨m, fun _ => 0, g⟩ (fun r => (∀ c : Dev Cert.KernelFfnFwd2Ideal.nD,
      r.2.mem ((c.tc : Thread Cert.KernelFfnFwd2Ideal.nD Cert.KernelFfnFwd2Ideal.τ).loc Cert.KernelFfnFwd2Ideal.main_arg0) = m ((c.tc : Thread Cert.KernelFfnFwd2Ideal.nD Cert.KernelFfnFwd2Ideal.τ).loc Cert.KernelFfnFwd2Ideal.main_arg0)
      ∧ r.2.mem ((c.tc : Thread Cert.KernelFfnFwd2Ideal.nD Cert.KernelFfnFwd2Ideal.τ).loc Cert.KernelFfnFwd2Ideal.main_arg1) = m ((c.tc : Thread Cert.KernelFfnFwd2Ideal.nD Cert.KernelFfnFwd2Ideal.τ).loc Cert.KernelFfnFwd2Ideal.main_arg1)
      ∧ r.2.mem ((c.tc : Thread Cert.KernelFfnFwd2Ideal.nD Cert.KernelFfnFwd2Ideal.τ).loc Cert.KernelFfnFwd2Ideal.main_arg2) = m ((c.tc : Thread Cert.KernelFfnFwd2Ideal.nD Cert.KernelFfnFwd2Ideal.τ).loc Cert.KernelFfnFwd2Ideal.main_arg2)
      ∧ r.2.mem ((c.tc : Thread Cert.KernelFfnFwd2Ideal.nD Cert.KernelFfnFwd2Ideal.τ).loc Cert.KernelFfnFwd2Ideal.main_arg3) = m ((c.tc : Thread Cert.KernelFfnFwd2Ideal.nD Cert.KernelFfnFwd2Ideal.τ).loc Cert.KernelFfnFwd2Ideal.main_arg3)
      ∧ r.2.mem ((c.tc : Thread Cert.KernelFfnFwd2Ideal.nD Cert.KernelFfnFwd2Ideal.τ).loc Cert.KernelFfnFwd2Ideal.main_arg4) = m ((c.tc : Thread Cert.KernelFfnFwd2Ideal.nD Cert.KernelFfnFwd2Ideal.τ).loc Cert.KernelFfnFwd2Ideal.main_arg4)
      ∧ r.2.mem ((c.tc : Thread Cert.KernelFfnFwd2Ideal.nD Cert.KernelFfnFwd2Ideal.τ).loc Cert.KernelFfnFwd2Ideal.main_arg5) = m ((c.tc : Thread Cert.KernelFfnFwd2Ideal.nD Cert.KernelFfnFwd2Ideal.τ).loc Cert.KernelFfnFwd2Ideal.main_arg5))
      ∧ r.2.sem = fun _ => 0)

def quiescent_ReferenceFfnFwd2Ideal [hReferenceFfnFwd2Ideal : Cert.ReferenceFfnFwd2Ideal.Facts] : Prop :=
  ∀ (m : (ℓ : Loc Cert.ReferenceFfnFwd2Ideal.nD Cert.ReferenceFfnFwd2Ideal.τ Cert.ReferenceFfnFwd2Ideal.sig) → Buf (Elt Ideal) ℓ) (g : Dev Cert.ReferenceFfnFwd2Ideal.nD → PrngReg), Pre_ReferenceFfnFwd2Ideal m →
    θ_run (Cert.ReferenceFfnFwd2Ideal.defs (F := Ideal)) (onTc (τ := Cert.ReferenceFfnFwd2Ideal.τ) (Cert.ReferenceFfnFwd2Ideal.main (F := Ideal))) ⟨m, fun _ => 0, g⟩ (fun r => (∀ c : Dev Cert.ReferenceFfnFwd2Ideal.nD,
      r.2.mem ((c.tc : Thread Cert.ReferenceFfnFwd2Ideal.nD Cert.ReferenceFfnFwd2Ideal.τ).loc Cert.ReferenceFfnFwd2Ideal.main_arg0) = m ((c.tc : Thread Cert.ReferenceFfnFwd2Ideal.nD Cert.ReferenceFfnFwd2Ideal.τ).loc Cert.ReferenceFfnFwd2Ideal.main_arg0)
      ∧ r.2.mem ((c.tc : Thread Cert.ReferenceFfnFwd2Ideal.nD Cert.ReferenceFfnFwd2Ideal.τ).loc Cert.ReferenceFfnFwd2Ideal.main_arg1) = m ((c.tc : Thread Cert.ReferenceFfnFwd2Ideal.nD Cert.ReferenceFfnFwd2Ideal.τ).loc Cert.ReferenceFfnFwd2Ideal.main_arg1)
      ∧ r.2.mem ((c.tc : Thread Cert.ReferenceFfnFwd2Ideal.nD Cert.ReferenceFfnFwd2Ideal.τ).loc Cert.ReferenceFfnFwd2Ideal.main_arg2) = m ((c.tc : Thread Cert.ReferenceFfnFwd2Ideal.nD Cert.ReferenceFfnFwd2Ideal.τ).loc Cert.ReferenceFfnFwd2Ideal.main_arg2)
      ∧ r.2.mem ((c.tc : Thread Cert.ReferenceFfnFwd2Ideal.nD Cert.ReferenceFfnFwd2Ideal.τ).loc Cert.ReferenceFfnFwd2Ideal.main_arg3) = m ((c.tc : Thread Cert.ReferenceFfnFwd2Ideal.nD Cert.ReferenceFfnFwd2Ideal.τ).loc Cert.ReferenceFfnFwd2Ideal.main_arg3)
      ∧ r.2.mem ((c.tc : Thread Cert.ReferenceFfnFwd2Ideal.nD Cert.ReferenceFfnFwd2Ideal.τ).loc Cert.ReferenceFfnFwd2Ideal.main_arg4) = m ((c.tc : Thread Cert.ReferenceFfnFwd2Ideal.nD Cert.ReferenceFfnFwd2Ideal.τ).loc Cert.ReferenceFfnFwd2Ideal.main_arg4)
      ∧ r.2.mem ((c.tc : Thread Cert.ReferenceFfnFwd2Ideal.nD Cert.ReferenceFfnFwd2Ideal.τ).loc Cert.ReferenceFfnFwd2Ideal.main_arg5) = m ((c.tc : Thread Cert.ReferenceFfnFwd2Ideal.nD Cert.ReferenceFfnFwd2Ideal.τ).loc Cert.ReferenceFfnFwd2Ideal.main_arg5))
      ∧ r.2.sem = fun _ => 0)

def quiescent_KernelMixDw [hKernelMixDw : Cert.KernelMixDw.Facts] : Prop :=
  ∀ (m : (ℓ : Loc Cert.KernelMixDw.nD Cert.KernelMixDw.τ Cert.KernelMixDw.sig) → Buf (Elt Bits) ℓ) (g : Dev Cert.KernelMixDw.nD → PrngReg), Pre_KernelMixDw m →
    θ_run (Cert.KernelMixDw.defs (F := Bits)) (onTc (τ := Cert.KernelMixDw.τ) (Cert.KernelMixDw.main (F := Bits))) ⟨m, fun _ => 0, g⟩ (fun r => (∀ c : Dev Cert.KernelMixDw.nD,
      r.2.mem ((c.tc : Thread Cert.KernelMixDw.nD Cert.KernelMixDw.τ).loc Cert.KernelMixDw.main_arg0) = m ((c.tc : Thread Cert.KernelMixDw.nD Cert.KernelMixDw.τ).loc Cert.KernelMixDw.main_arg0)
      ∧ r.2.mem ((c.tc : Thread Cert.KernelMixDw.nD Cert.KernelMixDw.τ).loc Cert.KernelMixDw.main_arg1) = m ((c.tc : Thread Cert.KernelMixDw.nD Cert.KernelMixDw.τ).loc Cert.KernelMixDw.main_arg1))
      ∧ r.2.sem = fun _ => 0)

def quiescent_KernelMixDwIdeal [hKernelMixDwIdeal : Cert.KernelMixDwIdeal.Facts] : Prop :=
  ∀ (m : (ℓ : Loc Cert.KernelMixDwIdeal.nD Cert.KernelMixDwIdeal.τ Cert.KernelMixDwIdeal.sig) → Buf (Elt Ideal) ℓ) (g : Dev Cert.KernelMixDwIdeal.nD → PrngReg), Pre_KernelMixDwIdeal m →
    θ_run (Cert.KernelMixDwIdeal.defs (F := Ideal)) (onTc (τ := Cert.KernelMixDwIdeal.τ) (Cert.KernelMixDwIdeal.main (F := Ideal))) ⟨m, fun _ => 0, g⟩ (fun r => (∀ c : Dev Cert.KernelMixDwIdeal.nD,
      r.2.mem ((c.tc : Thread Cert.KernelMixDwIdeal.nD Cert.KernelMixDwIdeal.τ).loc Cert.KernelMixDwIdeal.main_arg0) = m ((c.tc : Thread Cert.KernelMixDwIdeal.nD Cert.KernelMixDwIdeal.τ).loc Cert.KernelMixDwIdeal.main_arg0)
      ∧ r.2.mem ((c.tc : Thread Cert.KernelMixDwIdeal.nD Cert.KernelMixDwIdeal.τ).loc Cert.KernelMixDwIdeal.main_arg1) = m ((c.tc : Thread Cert.KernelMixDwIdeal.nD Cert.KernelMixDwIdeal.τ).loc Cert.KernelMixDwIdeal.main_arg1))
      ∧ r.2.sem = fun _ => 0)

def quiescent_ReferenceMixDwIdeal [hReferenceMixDwIdeal : Cert.ReferenceMixDwIdeal.Facts] : Prop :=
  ∀ (m : (ℓ : Loc Cert.ReferenceMixDwIdeal.nD Cert.ReferenceMixDwIdeal.τ Cert.ReferenceMixDwIdeal.sig) → Buf (Elt Ideal) ℓ) (g : Dev Cert.ReferenceMixDwIdeal.nD → PrngReg), Pre_ReferenceMixDwIdeal m →
    θ_run (Cert.ReferenceMixDwIdeal.defs (F := Ideal)) (onTc (τ := Cert.ReferenceMixDwIdeal.τ) (Cert.ReferenceMixDwIdeal.main (F := Ideal))) ⟨m, fun _ => 0, g⟩ (fun r => (∀ c : Dev Cert.ReferenceMixDwIdeal.nD,
      r.2.mem ((c.tc : Thread Cert.ReferenceMixDwIdeal.nD Cert.ReferenceMixDwIdeal.τ).loc Cert.ReferenceMixDwIdeal.main_arg0) = m ((c.tc : Thread Cert.ReferenceMixDwIdeal.nD Cert.ReferenceMixDwIdeal.τ).loc Cert.ReferenceMixDwIdeal.main_arg0)
      ∧ r.2.mem ((c.tc : Thread Cert.ReferenceMixDwIdeal.nD Cert.ReferenceMixDwIdeal.τ).loc Cert.ReferenceMixDwIdeal.main_arg1) = m ((c.tc : Thread Cert.ReferenceMixDwIdeal.nD Cert.ReferenceMixDwIdeal.τ).loc Cert.ReferenceMixDwIdeal.main_arg1))
      ∧ r.2.sem = fun _ => 0)

def quiescent_KernelMixDw2 [hKernelMixDw2 : Cert.KernelMixDw2.Facts] : Prop :=
  ∀ (m : (ℓ : Loc Cert.KernelMixDw2.nD Cert.KernelMixDw2.τ Cert.KernelMixDw2.sig) → Buf (Elt Bits) ℓ) (g : Dev Cert.KernelMixDw2.nD → PrngReg), Pre_KernelMixDw2 m →
    θ_run (Cert.KernelMixDw2.defs (F := Bits)) (onTc (τ := Cert.KernelMixDw2.τ) (Cert.KernelMixDw2.main (F := Bits))) ⟨m, fun _ => 0, g⟩ (fun r => (∀ c : Dev Cert.KernelMixDw2.nD,
      r.2.mem ((c.tc : Thread Cert.KernelMixDw2.nD Cert.KernelMixDw2.τ).loc Cert.KernelMixDw2.main_arg0) = m ((c.tc : Thread Cert.KernelMixDw2.nD Cert.KernelMixDw2.τ).loc Cert.KernelMixDw2.main_arg0)
      ∧ r.2.mem ((c.tc : Thread Cert.KernelMixDw2.nD Cert.KernelMixDw2.τ).loc Cert.KernelMixDw2.main_arg1) = m ((c.tc : Thread Cert.KernelMixDw2.nD Cert.KernelMixDw2.τ).loc Cert.KernelMixDw2.main_arg1)
      ∧ r.2.mem ((c.tc : Thread Cert.KernelMixDw2.nD Cert.KernelMixDw2.τ).loc Cert.KernelMixDw2.main_arg2) = m ((c.tc : Thread Cert.KernelMixDw2.nD Cert.KernelMixDw2.τ).loc Cert.KernelMixDw2.main_arg2))
      ∧ r.2.sem = fun _ => 0)

def quiescent_KernelMixDw2Ideal [hKernelMixDw2Ideal : Cert.KernelMixDw2Ideal.Facts] : Prop :=
  ∀ (m : (ℓ : Loc Cert.KernelMixDw2Ideal.nD Cert.KernelMixDw2Ideal.τ Cert.KernelMixDw2Ideal.sig) → Buf (Elt Ideal) ℓ) (g : Dev Cert.KernelMixDw2Ideal.nD → PrngReg), Pre_KernelMixDw2Ideal m →
    θ_run (Cert.KernelMixDw2Ideal.defs (F := Ideal)) (onTc (τ := Cert.KernelMixDw2Ideal.τ) (Cert.KernelMixDw2Ideal.main (F := Ideal))) ⟨m, fun _ => 0, g⟩ (fun r => (∀ c : Dev Cert.KernelMixDw2Ideal.nD,
      r.2.mem ((c.tc : Thread Cert.KernelMixDw2Ideal.nD Cert.KernelMixDw2Ideal.τ).loc Cert.KernelMixDw2Ideal.main_arg0) = m ((c.tc : Thread Cert.KernelMixDw2Ideal.nD Cert.KernelMixDw2Ideal.τ).loc Cert.KernelMixDw2Ideal.main_arg0)
      ∧ r.2.mem ((c.tc : Thread Cert.KernelMixDw2Ideal.nD Cert.KernelMixDw2Ideal.τ).loc Cert.KernelMixDw2Ideal.main_arg1) = m ((c.tc : Thread Cert.KernelMixDw2Ideal.nD Cert.KernelMixDw2Ideal.τ).loc Cert.KernelMixDw2Ideal.main_arg1)
      ∧ r.2.mem ((c.tc : Thread Cert.KernelMixDw2Ideal.nD Cert.KernelMixDw2Ideal.τ).loc Cert.KernelMixDw2Ideal.main_arg2) = m ((c.tc : Thread Cert.KernelMixDw2Ideal.nD Cert.KernelMixDw2Ideal.τ).loc Cert.KernelMixDw2Ideal.main_arg2))
      ∧ r.2.sem = fun _ => 0)

def quiescent_ReferenceMixDw2Ideal [hReferenceMixDw2Ideal : Cert.ReferenceMixDw2Ideal.Facts] : Prop :=
  ∀ (m : (ℓ : Loc Cert.ReferenceMixDw2Ideal.nD Cert.ReferenceMixDw2Ideal.τ Cert.ReferenceMixDw2Ideal.sig) → Buf (Elt Ideal) ℓ) (g : Dev Cert.ReferenceMixDw2Ideal.nD → PrngReg), Pre_ReferenceMixDw2Ideal m →
    θ_run (Cert.ReferenceMixDw2Ideal.defs (F := Ideal)) (onTc (τ := Cert.ReferenceMixDw2Ideal.τ) (Cert.ReferenceMixDw2Ideal.main (F := Ideal))) ⟨m, fun _ => 0, g⟩ (fun r => (∀ c : Dev Cert.ReferenceMixDw2Ideal.nD,
      r.2.mem ((c.tc : Thread Cert.ReferenceMixDw2Ideal.nD Cert.ReferenceMixDw2Ideal.τ).loc Cert.ReferenceMixDw2Ideal.main_arg0) = m ((c.tc : Thread Cert.ReferenceMixDw2Ideal.nD Cert.ReferenceMixDw2Ideal.τ).loc Cert.ReferenceMixDw2Ideal.main_arg0)
      ∧ r.2.mem ((c.tc : Thread Cert.ReferenceMixDw2Ideal.nD Cert.ReferenceMixDw2Ideal.τ).loc Cert.ReferenceMixDw2Ideal.main_arg1) = m ((c.tc : Thread Cert.ReferenceMixDw2Ideal.nD Cert.ReferenceMixDw2Ideal.τ).loc Cert.ReferenceMixDw2Ideal.main_arg1)
      ∧ r.2.mem ((c.tc : Thread Cert.ReferenceMixDw2Ideal.nD Cert.ReferenceMixDw2Ideal.τ).loc Cert.ReferenceMixDw2Ideal.main_arg2) = m ((c.tc : Thread Cert.ReferenceMixDw2Ideal.nD Cert.ReferenceMixDw2Ideal.τ).loc Cert.ReferenceMixDw2Ideal.main_arg2))
      ∧ r.2.sem = fun _ => 0)

def quiescent_KernelAbDw [hKernelAbDw : Cert.KernelAbDw.Facts] : Prop :=
  ∀ (m : (ℓ : Loc Cert.KernelAbDw.nD Cert.KernelAbDw.τ Cert.KernelAbDw.sig) → Buf (Elt Bits) ℓ) (g : Dev Cert.KernelAbDw.nD → PrngReg), Pre_KernelAbDw m →
    θ_run (Cert.KernelAbDw.defs (F := Bits)) (onTc (τ := Cert.KernelAbDw.τ) (Cert.KernelAbDw.main (F := Bits))) ⟨m, fun _ => 0, g⟩ (fun r => (∀ c : Dev Cert.KernelAbDw.nD,
      r.2.mem ((c.tc : Thread Cert.KernelAbDw.nD Cert.KernelAbDw.τ).loc Cert.KernelAbDw.main_arg0) = m ((c.tc : Thread Cert.KernelAbDw.nD Cert.KernelAbDw.τ).loc Cert.KernelAbDw.main_arg0)
      ∧ r.2.mem ((c.tc : Thread Cert.KernelAbDw.nD Cert.KernelAbDw.τ).loc Cert.KernelAbDw.main_arg1) = m ((c.tc : Thread Cert.KernelAbDw.nD Cert.KernelAbDw.τ).loc Cert.KernelAbDw.main_arg1))
      ∧ r.2.sem = fun _ => 0)

def quiescent_KernelAbDwIdeal [hKernelAbDwIdeal : Cert.KernelAbDwIdeal.Facts] : Prop :=
  ∀ (m : (ℓ : Loc Cert.KernelAbDwIdeal.nD Cert.KernelAbDwIdeal.τ Cert.KernelAbDwIdeal.sig) → Buf (Elt Ideal) ℓ) (g : Dev Cert.KernelAbDwIdeal.nD → PrngReg), Pre_KernelAbDwIdeal m →
    θ_run (Cert.KernelAbDwIdeal.defs (F := Ideal)) (onTc (τ := Cert.KernelAbDwIdeal.τ) (Cert.KernelAbDwIdeal.main (F := Ideal))) ⟨m, fun _ => 0, g⟩ (fun r => (∀ c : Dev Cert.KernelAbDwIdeal.nD,
      r.2.mem ((c.tc : Thread Cert.KernelAbDwIdeal.nD Cert.KernelAbDwIdeal.τ).loc Cert.KernelAbDwIdeal.main_arg0) = m ((c.tc : Thread Cert.KernelAbDwIdeal.nD Cert.KernelAbDwIdeal.τ).loc Cert.KernelAbDwIdeal.main_arg0)
      ∧ r.2.mem ((c.tc : Thread Cert.KernelAbDwIdeal.nD Cert.KernelAbDwIdeal.τ).loc Cert.KernelAbDwIdeal.main_arg1) = m ((c.tc : Thread Cert.KernelAbDwIdeal.nD Cert.KernelAbDwIdeal.τ).loc Cert.KernelAbDwIdeal.main_arg1))
      ∧ r.2.sem = fun _ => 0)

def quiescent_ReferenceAbDwIdeal [hReferenceAbDwIdeal : Cert.ReferenceAbDwIdeal.Facts] : Prop :=
  ∀ (m : (ℓ : Loc Cert.ReferenceAbDwIdeal.nD Cert.ReferenceAbDwIdeal.τ Cert.ReferenceAbDwIdeal.sig) → Buf (Elt Ideal) ℓ) (g : Dev Cert.ReferenceAbDwIdeal.nD → PrngReg), Pre_ReferenceAbDwIdeal m →
    θ_run (Cert.ReferenceAbDwIdeal.defs (F := Ideal)) (onTc (τ := Cert.ReferenceAbDwIdeal.τ) (Cert.ReferenceAbDwIdeal.main (F := Ideal))) ⟨m, fun _ => 0, g⟩ (fun r => (∀ c : Dev Cert.ReferenceAbDwIdeal.nD,
      r.2.mem ((c.tc : Thread Cert.ReferenceAbDwIdeal.nD Cert.ReferenceAbDwIdeal.τ).loc Cert.ReferenceAbDwIdeal.main_arg0) = m ((c.tc : Thread Cert.ReferenceAbDwIdeal.nD Cert.ReferenceAbDwIdeal.τ).loc Cert.ReferenceAbDwIdeal.main_arg0)
      ∧ r.2.mem ((c.tc : Thread Cert.ReferenceAbDwIdeal.nD Cert.ReferenceAbDwIdeal.τ).loc Cert.ReferenceAbDwIdeal.main_arg1) = m ((c.tc : Thread Cert.ReferenceAbDwIdeal.nD Cert.ReferenceAbDwIdeal.τ).loc Cert.ReferenceAbDwIdeal.main_arg1))
      ∧ r.2.sem = fun _ => 0)

def quiescent_KernelQkvDw [hKernelQkvDw : Cert.KernelQkvDw.Facts] : Prop :=
  ∀ (m : (ℓ : Loc Cert.KernelQkvDw.nD Cert.KernelQkvDw.τ Cert.KernelQkvDw.sig) → Buf (Elt Bits) ℓ) (g : Dev Cert.KernelQkvDw.nD → PrngReg), Pre_KernelQkvDw m →
    θ_run (Cert.KernelQkvDw.defs (F := Bits)) (onTc (τ := Cert.KernelQkvDw.τ) (Cert.KernelQkvDw.main (F := Bits))) ⟨m, fun _ => 0, g⟩ (fun r => (∀ c : Dev Cert.KernelQkvDw.nD,
      r.2.mem ((c.tc : Thread Cert.KernelQkvDw.nD Cert.KernelQkvDw.τ).loc Cert.KernelQkvDw.main_arg0) = m ((c.tc : Thread Cert.KernelQkvDw.nD Cert.KernelQkvDw.τ).loc Cert.KernelQkvDw.main_arg0)
      ∧ r.2.mem ((c.tc : Thread Cert.KernelQkvDw.nD Cert.KernelQkvDw.τ).loc Cert.KernelQkvDw.main_arg1) = m ((c.tc : Thread Cert.KernelQkvDw.nD Cert.KernelQkvDw.τ).loc Cert.KernelQkvDw.main_arg1))
      ∧ r.2.sem = fun _ => 0)

def quiescent_KernelQkvDwIdeal [hKernelQkvDwIdeal : Cert.KernelQkvDwIdeal.Facts] : Prop :=
  ∀ (m : (ℓ : Loc Cert.KernelQkvDwIdeal.nD Cert.KernelQkvDwIdeal.τ Cert.KernelQkvDwIdeal.sig) → Buf (Elt Ideal) ℓ) (g : Dev Cert.KernelQkvDwIdeal.nD → PrngReg), Pre_KernelQkvDwIdeal m →
    θ_run (Cert.KernelQkvDwIdeal.defs (F := Ideal)) (onTc (τ := Cert.KernelQkvDwIdeal.τ) (Cert.KernelQkvDwIdeal.main (F := Ideal))) ⟨m, fun _ => 0, g⟩ (fun r => (∀ c : Dev Cert.KernelQkvDwIdeal.nD,
      r.2.mem ((c.tc : Thread Cert.KernelQkvDwIdeal.nD Cert.KernelQkvDwIdeal.τ).loc Cert.KernelQkvDwIdeal.main_arg0) = m ((c.tc : Thread Cert.KernelQkvDwIdeal.nD Cert.KernelQkvDwIdeal.τ).loc Cert.KernelQkvDwIdeal.main_arg0)
      ∧ r.2.mem ((c.tc : Thread Cert.KernelQkvDwIdeal.nD Cert.KernelQkvDwIdeal.τ).loc Cert.KernelQkvDwIdeal.main_arg1) = m ((c.tc : Thread Cert.KernelQkvDwIdeal.nD Cert.KernelQkvDwIdeal.τ).loc Cert.KernelQkvDwIdeal.main_arg1))
      ∧ r.2.sem = fun _ => 0)

def quiescent_ReferenceQkvDwIdeal [hReferenceQkvDwIdeal : Cert.ReferenceQkvDwIdeal.Facts] : Prop :=
  ∀ (m : (ℓ : Loc Cert.ReferenceQkvDwIdeal.nD Cert.ReferenceQkvDwIdeal.τ Cert.ReferenceQkvDwIdeal.sig) → Buf (Elt Ideal) ℓ) (g : Dev Cert.ReferenceQkvDwIdeal.nD → PrngReg), Pre_ReferenceQkvDwIdeal m →
    θ_run (Cert.ReferenceQkvDwIdeal.defs (F := Ideal)) (onTc (τ := Cert.ReferenceQkvDwIdeal.τ) (Cert.ReferenceQkvDwIdeal.main (F := Ideal))) ⟨m, fun _ => 0, g⟩ (fun r => (∀ c : Dev Cert.ReferenceQkvDwIdeal.nD,
      r.2.mem ((c.tc : Thread Cert.ReferenceQkvDwIdeal.nD Cert.ReferenceQkvDwIdeal.τ).loc Cert.ReferenceQkvDwIdeal.main_arg0) = m ((c.tc : Thread Cert.ReferenceQkvDwIdeal.nD Cert.ReferenceQkvDwIdeal.τ).loc Cert.ReferenceQkvDwIdeal.main_arg0)
      ∧ r.2.mem ((c.tc : Thread Cert.ReferenceQkvDwIdeal.nD Cert.ReferenceQkvDwIdeal.τ).loc Cert.ReferenceQkvDwIdeal.main_arg1) = m ((c.tc : Thread Cert.ReferenceQkvDwIdeal.nD Cert.ReferenceQkvDwIdeal.τ).loc Cert.ReferenceQkvDwIdeal.main_arg1))
      ∧ r.2.sem = fun _ => 0)

def quiescent_KernelAbBwd [hKernelAbBwd : Cert.KernelAbBwd.Facts] : Prop :=
  ∀ (m : (ℓ : Loc Cert.KernelAbBwd.nD Cert.KernelAbBwd.τ Cert.KernelAbBwd.sig) → Buf (Elt Bits) ℓ) (g : Dev Cert.KernelAbBwd.nD → PrngReg), Pre_KernelAbBwd m →
    θ_run (Cert.KernelAbBwd.defs (F := Bits)) (onTc (τ := Cert.KernelAbBwd.τ) (Cert.KernelAbBwd.main (F := Bits))) ⟨m, fun _ => 0, g⟩ (fun r => (∀ c : Dev Cert.KernelAbBwd.nD,
      r.2.mem ((c.tc : Thread Cert.KernelAbBwd.nD Cert.KernelAbBwd.τ).loc Cert.KernelAbBwd.main_arg0) = m ((c.tc : Thread Cert.KernelAbBwd.nD Cert.KernelAbBwd.τ).loc Cert.KernelAbBwd.main_arg0)
      ∧ r.2.mem ((c.tc : Thread Cert.KernelAbBwd.nD Cert.KernelAbBwd.τ).loc Cert.KernelAbBwd.main_arg1) = m ((c.tc : Thread Cert.KernelAbBwd.nD Cert.KernelAbBwd.τ).loc Cert.KernelAbBwd.main_arg1)
      ∧ r.2.mem ((c.tc : Thread Cert.KernelAbBwd.nD Cert.KernelAbBwd.τ).loc Cert.KernelAbBwd.main_arg2) = m ((c.tc : Thread Cert.KernelAbBwd.nD Cert.KernelAbBwd.τ).loc Cert.KernelAbBwd.main_arg2)
      ∧ r.2.mem ((c.tc : Thread Cert.KernelAbBwd.nD Cert.KernelAbBwd.τ).loc Cert.KernelAbBwd.main_arg3) = m ((c.tc : Thread Cert.KernelAbBwd.nD Cert.KernelAbBwd.τ).loc Cert.KernelAbBwd.main_arg3)
      ∧ r.2.mem ((c.tc : Thread Cert.KernelAbBwd.nD Cert.KernelAbBwd.τ).loc Cert.KernelAbBwd.main_arg4) = m ((c.tc : Thread Cert.KernelAbBwd.nD Cert.KernelAbBwd.τ).loc Cert.KernelAbBwd.main_arg4))
      ∧ r.2.sem = fun _ => 0)

def quiescent_KernelAbBwdIdeal [hKernelAbBwdIdeal : Cert.KernelAbBwdIdeal.Facts] : Prop :=
  ∀ (m : (ℓ : Loc Cert.KernelAbBwdIdeal.nD Cert.KernelAbBwdIdeal.τ Cert.KernelAbBwdIdeal.sig) → Buf (Elt Ideal) ℓ) (g : Dev Cert.KernelAbBwdIdeal.nD → PrngReg), Pre_KernelAbBwdIdeal m →
    θ_run (Cert.KernelAbBwdIdeal.defs (F := Ideal)) (onTc (τ := Cert.KernelAbBwdIdeal.τ) (Cert.KernelAbBwdIdeal.main (F := Ideal))) ⟨m, fun _ => 0, g⟩ (fun r => (∀ c : Dev Cert.KernelAbBwdIdeal.nD,
      r.2.mem ((c.tc : Thread Cert.KernelAbBwdIdeal.nD Cert.KernelAbBwdIdeal.τ).loc Cert.KernelAbBwdIdeal.main_arg0) = m ((c.tc : Thread Cert.KernelAbBwdIdeal.nD Cert.KernelAbBwdIdeal.τ).loc Cert.KernelAbBwdIdeal.main_arg0)
      ∧ r.2.mem ((c.tc : Thread Cert.KernelAbBwdIdeal.nD Cert.KernelAbBwdIdeal.τ).loc Cert.KernelAbBwdIdeal.main_arg1) = m ((c.tc : Thread Cert.KernelAbBwdIdeal.nD Cert.KernelAbBwdIdeal.τ).loc Cert.KernelAbBwdIdeal.main_arg1)
      ∧ r.2.mem ((c.tc : Thread Cert.KernelAbBwdIdeal.nD Cert.KernelAbBwdIdeal.τ).loc Cert.KernelAbBwdIdeal.main_arg2) = m ((c.tc : Thread Cert.KernelAbBwdIdeal.nD Cert.KernelAbBwdIdeal.τ).loc Cert.KernelAbBwdIdeal.main_arg2)
      ∧ r.2.mem ((c.tc : Thread Cert.KernelAbBwdIdeal.nD Cert.KernelAbBwdIdeal.τ).loc Cert.KernelAbBwdIdeal.main_arg3) = m ((c.tc : Thread Cert.KernelAbBwdIdeal.nD Cert.KernelAbBwdIdeal.τ).loc Cert.KernelAbBwdIdeal.main_arg3)
      ∧ r.2.mem ((c.tc : Thread Cert.KernelAbBwdIdeal.nD Cert.KernelAbBwdIdeal.τ).loc Cert.KernelAbBwdIdeal.main_arg4) = m ((c.tc : Thread Cert.KernelAbBwdIdeal.nD Cert.KernelAbBwdIdeal.τ).loc Cert.KernelAbBwdIdeal.main_arg4))
      ∧ r.2.sem = fun _ => 0)

def quiescent_ReferenceAbBwdIdeal [hReferenceAbBwdIdeal : Cert.ReferenceAbBwdIdeal.Facts] : Prop :=
  ∀ (m : (ℓ : Loc Cert.ReferenceAbBwdIdeal.nD Cert.ReferenceAbBwdIdeal.τ Cert.ReferenceAbBwdIdeal.sig) → Buf (Elt Ideal) ℓ) (g : Dev Cert.ReferenceAbBwdIdeal.nD → PrngReg), Pre_ReferenceAbBwdIdeal m →
    θ_run (Cert.ReferenceAbBwdIdeal.defs (F := Ideal)) (onTc (τ := Cert.ReferenceAbBwdIdeal.τ) (Cert.ReferenceAbBwdIdeal.main (F := Ideal))) ⟨m, fun _ => 0, g⟩ (fun r => (∀ c : Dev Cert.ReferenceAbBwdIdeal.nD,
      r.2.mem ((c.tc : Thread Cert.ReferenceAbBwdIdeal.nD Cert.ReferenceAbBwdIdeal.τ).loc Cert.ReferenceAbBwdIdeal.main_arg0) = m ((c.tc : Thread Cert.ReferenceAbBwdIdeal.nD Cert.ReferenceAbBwdIdeal.τ).loc Cert.ReferenceAbBwdIdeal.main_arg0)
      ∧ r.2.mem ((c.tc : Thread Cert.ReferenceAbBwdIdeal.nD Cert.ReferenceAbBwdIdeal.τ).loc Cert.ReferenceAbBwdIdeal.main_arg1) = m ((c.tc : Thread Cert.ReferenceAbBwdIdeal.nD Cert.ReferenceAbBwdIdeal.τ).loc Cert.ReferenceAbBwdIdeal.main_arg1)
      ∧ r.2.mem ((c.tc : Thread Cert.ReferenceAbBwdIdeal.nD Cert.ReferenceAbBwdIdeal.τ).loc Cert.ReferenceAbBwdIdeal.main_arg2) = m ((c.tc : Thread Cert.ReferenceAbBwdIdeal.nD Cert.ReferenceAbBwdIdeal.τ).loc Cert.ReferenceAbBwdIdeal.main_arg2)
      ∧ r.2.mem ((c.tc : Thread Cert.ReferenceAbBwdIdeal.nD Cert.ReferenceAbBwdIdeal.τ).loc Cert.ReferenceAbBwdIdeal.main_arg3) = m ((c.tc : Thread Cert.ReferenceAbBwdIdeal.nD Cert.ReferenceAbBwdIdeal.τ).loc Cert.ReferenceAbBwdIdeal.main_arg3)
      ∧ r.2.mem ((c.tc : Thread Cert.ReferenceAbBwdIdeal.nD Cert.ReferenceAbBwdIdeal.τ).loc Cert.ReferenceAbBwdIdeal.main_arg4) = m ((c.tc : Thread Cert.ReferenceAbBwdIdeal.nD Cert.ReferenceAbBwdIdeal.τ).loc Cert.ReferenceAbBwdIdeal.main_arg4))
      ∧ r.2.sem = fun _ => 0)

def quiescent_KernelQkvBwd [hKernelQkvBwd : Cert.KernelQkvBwd.Facts] : Prop :=
  ∀ (m : (ℓ : Loc Cert.KernelQkvBwd.nD Cert.KernelQkvBwd.τ Cert.KernelQkvBwd.sig) → Buf (Elt Bits) ℓ) (g : Dev Cert.KernelQkvBwd.nD → PrngReg), Pre_KernelQkvBwd m →
    θ_run (Cert.KernelQkvBwd.defs (F := Bits)) (onTc (τ := Cert.KernelQkvBwd.τ) (Cert.KernelQkvBwd.main (F := Bits))) ⟨m, fun _ => 0, g⟩ (fun r => (∀ c : Dev Cert.KernelQkvBwd.nD,
      r.2.mem ((c.tc : Thread Cert.KernelQkvBwd.nD Cert.KernelQkvBwd.τ).loc Cert.KernelQkvBwd.main_arg0) = m ((c.tc : Thread Cert.KernelQkvBwd.nD Cert.KernelQkvBwd.τ).loc Cert.KernelQkvBwd.main_arg0)
      ∧ r.2.mem ((c.tc : Thread Cert.KernelQkvBwd.nD Cert.KernelQkvBwd.τ).loc Cert.KernelQkvBwd.main_arg1) = m ((c.tc : Thread Cert.KernelQkvBwd.nD Cert.KernelQkvBwd.τ).loc Cert.KernelQkvBwd.main_arg1)
      ∧ r.2.mem ((c.tc : Thread Cert.KernelQkvBwd.nD Cert.KernelQkvBwd.τ).loc Cert.KernelQkvBwd.main_arg2) = m ((c.tc : Thread Cert.KernelQkvBwd.nD Cert.KernelQkvBwd.τ).loc Cert.KernelQkvBwd.main_arg2)
      ∧ r.2.mem ((c.tc : Thread Cert.KernelQkvBwd.nD Cert.KernelQkvBwd.τ).loc Cert.KernelQkvBwd.main_arg3) = m ((c.tc : Thread Cert.KernelQkvBwd.nD Cert.KernelQkvBwd.τ).loc Cert.KernelQkvBwd.main_arg3)
      ∧ r.2.mem ((c.tc : Thread Cert.KernelQkvBwd.nD Cert.KernelQkvBwd.τ).loc Cert.KernelQkvBwd.main_arg4) = m ((c.tc : Thread Cert.KernelQkvBwd.nD Cert.KernelQkvBwd.τ).loc Cert.KernelQkvBwd.main_arg4)
      ∧ r.2.mem ((c.tc : Thread Cert.KernelQkvBwd.nD Cert.KernelQkvBwd.τ).loc Cert.KernelQkvBwd.main_arg5) = m ((c.tc : Thread Cert.KernelQkvBwd.nD Cert.KernelQkvBwd.τ).loc Cert.KernelQkvBwd.main_arg5)
      ∧ r.2.mem ((c.tc : Thread Cert.KernelQkvBwd.nD Cert.KernelQkvBwd.τ).loc Cert.KernelQkvBwd.main_arg6) = m ((c.tc : Thread Cert.KernelQkvBwd.nD Cert.KernelQkvBwd.τ).loc Cert.KernelQkvBwd.main_arg6))
      ∧ r.2.sem = fun _ => 0)

def quiescent_KernelQkvBwdIdeal [hKernelQkvBwdIdeal : Cert.KernelQkvBwdIdeal.Facts] : Prop :=
  ∀ (m : (ℓ : Loc Cert.KernelQkvBwdIdeal.nD Cert.KernelQkvBwdIdeal.τ Cert.KernelQkvBwdIdeal.sig) → Buf (Elt Ideal) ℓ) (g : Dev Cert.KernelQkvBwdIdeal.nD → PrngReg), Pre_KernelQkvBwdIdeal m →
    θ_run (Cert.KernelQkvBwdIdeal.defs (F := Ideal)) (onTc (τ := Cert.KernelQkvBwdIdeal.τ) (Cert.KernelQkvBwdIdeal.main (F := Ideal))) ⟨m, fun _ => 0, g⟩ (fun r => (∀ c : Dev Cert.KernelQkvBwdIdeal.nD,
      r.2.mem ((c.tc : Thread Cert.KernelQkvBwdIdeal.nD Cert.KernelQkvBwdIdeal.τ).loc Cert.KernelQkvBwdIdeal.main_arg0) = m ((c.tc : Thread Cert.KernelQkvBwdIdeal.nD Cert.KernelQkvBwdIdeal.τ).loc Cert.KernelQkvBwdIdeal.main_arg0)
      ∧ r.2.mem ((c.tc : Thread Cert.KernelQkvBwdIdeal.nD Cert.KernelQkvBwdIdeal.τ).loc Cert.KernelQkvBwdIdeal.main_arg1) = m ((c.tc : Thread Cert.KernelQkvBwdIdeal.nD Cert.KernelQkvBwdIdeal.τ).loc Cert.KernelQkvBwdIdeal.main_arg1)
      ∧ r.2.mem ((c.tc : Thread Cert.KernelQkvBwdIdeal.nD Cert.KernelQkvBwdIdeal.τ).loc Cert.KernelQkvBwdIdeal.main_arg2) = m ((c.tc : Thread Cert.KernelQkvBwdIdeal.nD Cert.KernelQkvBwdIdeal.τ).loc Cert.KernelQkvBwdIdeal.main_arg2)
      ∧ r.2.mem ((c.tc : Thread Cert.KernelQkvBwdIdeal.nD Cert.KernelQkvBwdIdeal.τ).loc Cert.KernelQkvBwdIdeal.main_arg3) = m ((c.tc : Thread Cert.KernelQkvBwdIdeal.nD Cert.KernelQkvBwdIdeal.τ).loc Cert.KernelQkvBwdIdeal.main_arg3)
      ∧ r.2.mem ((c.tc : Thread Cert.KernelQkvBwdIdeal.nD Cert.KernelQkvBwdIdeal.τ).loc Cert.KernelQkvBwdIdeal.main_arg4) = m ((c.tc : Thread Cert.KernelQkvBwdIdeal.nD Cert.KernelQkvBwdIdeal.τ).loc Cert.KernelQkvBwdIdeal.main_arg4)
      ∧ r.2.mem ((c.tc : Thread Cert.KernelQkvBwdIdeal.nD Cert.KernelQkvBwdIdeal.τ).loc Cert.KernelQkvBwdIdeal.main_arg5) = m ((c.tc : Thread Cert.KernelQkvBwdIdeal.nD Cert.KernelQkvBwdIdeal.τ).loc Cert.KernelQkvBwdIdeal.main_arg5)
      ∧ r.2.mem ((c.tc : Thread Cert.KernelQkvBwdIdeal.nD Cert.KernelQkvBwdIdeal.τ).loc Cert.KernelQkvBwdIdeal.main_arg6) = m ((c.tc : Thread Cert.KernelQkvBwdIdeal.nD Cert.KernelQkvBwdIdeal.τ).loc Cert.KernelQkvBwdIdeal.main_arg6))
      ∧ r.2.sem = fun _ => 0)

def quiescent_ReferenceQkvBwdIdeal [hReferenceQkvBwdIdeal : Cert.ReferenceQkvBwdIdeal.Facts] : Prop :=
  ∀ (m : (ℓ : Loc Cert.ReferenceQkvBwdIdeal.nD Cert.ReferenceQkvBwdIdeal.τ Cert.ReferenceQkvBwdIdeal.sig) → Buf (Elt Ideal) ℓ) (g : Dev Cert.ReferenceQkvBwdIdeal.nD → PrngReg), Pre_ReferenceQkvBwdIdeal m →
    θ_run (Cert.ReferenceQkvBwdIdeal.defs (F := Ideal)) (onTc (τ := Cert.ReferenceQkvBwdIdeal.τ) (Cert.ReferenceQkvBwdIdeal.main (F := Ideal))) ⟨m, fun _ => 0, g⟩ (fun r => (∀ c : Dev Cert.ReferenceQkvBwdIdeal.nD,
      r.2.mem ((c.tc : Thread Cert.ReferenceQkvBwdIdeal.nD Cert.ReferenceQkvBwdIdeal.τ).loc Cert.ReferenceQkvBwdIdeal.main_arg0) = m ((c.tc : Thread Cert.ReferenceQkvBwdIdeal.nD Cert.ReferenceQkvBwdIdeal.τ).loc Cert.ReferenceQkvBwdIdeal.main_arg0)
      ∧ r.2.mem ((c.tc : Thread Cert.ReferenceQkvBwdIdeal.nD Cert.ReferenceQkvBwdIdeal.τ).loc Cert.ReferenceQkvBwdIdeal.main_arg1) = m ((c.tc : Thread Cert.ReferenceQkvBwdIdeal.nD Cert.ReferenceQkvBwdIdeal.τ).loc Cert.ReferenceQkvBwdIdeal.main_arg1)
      ∧ r.2.mem ((c.tc : Thread Cert.ReferenceQkvBwdIdeal.nD Cert.ReferenceQkvBwdIdeal.τ).loc Cert.ReferenceQkvBwdIdeal.main_arg2) = m ((c.tc : Thread Cert.ReferenceQkvBwdIdeal.nD Cert.ReferenceQkvBwdIdeal.τ).loc Cert.ReferenceQkvBwdIdeal.main_arg2)
      ∧ r.2.mem ((c.tc : Thread Cert.ReferenceQkvBwdIdeal.nD Cert.ReferenceQkvBwdIdeal.τ).loc Cert.ReferenceQkvBwdIdeal.main_arg3) = m ((c.tc : Thread Cert.ReferenceQkvBwdIdeal.nD Cert.ReferenceQkvBwdIdeal.τ).loc Cert.ReferenceQkvBwdIdeal.main_arg3)
      ∧ r.2.mem ((c.tc : Thread Cert.ReferenceQkvBwdIdeal.nD Cert.ReferenceQkvBwdIdeal.τ).loc Cert.ReferenceQkvBwdIdeal.main_arg4) = m ((c.tc : Thread Cert.ReferenceQkvBwdIdeal.nD Cert.ReferenceQkvBwdIdeal.τ).loc Cert.ReferenceQkvBwdIdeal.main_arg4)
      ∧ r.2.mem ((c.tc : Thread Cert.ReferenceQkvBwdIdeal.nD Cert.ReferenceQkvBwdIdeal.τ).loc Cert.ReferenceQkvBwdIdeal.main_arg5) = m ((c.tc : Thread Cert.ReferenceQkvBwdIdeal.nD Cert.ReferenceQkvBwdIdeal.τ).loc Cert.ReferenceQkvBwdIdeal.main_arg5)
      ∧ r.2.mem ((c.tc : Thread Cert.ReferenceQkvBwdIdeal.nD Cert.ReferenceQkvBwdIdeal.τ).loc Cert.ReferenceQkvBwdIdeal.main_arg6) = m ((c.tc : Thread Cert.ReferenceQkvBwdIdeal.nD Cert.ReferenceQkvBwdIdeal.τ).loc Cert.ReferenceQkvBwdIdeal.main_arg6))
      ∧ r.2.sem = fun _ => 0)

def quiescent_KernelAbFwd [hKernelAbFwd : Cert.KernelAbFwd.Facts] : Prop :=
  ∀ (m : (ℓ : Loc Cert.KernelAbFwd.nD Cert.KernelAbFwd.τ Cert.KernelAbFwd.sig) → Buf (Elt Bits) ℓ) (g : Dev Cert.KernelAbFwd.nD → PrngReg), Pre_KernelAbFwd m →
    θ_run (Cert.KernelAbFwd.defs (F := Bits)) (onTc (τ := Cert.KernelAbFwd.τ) (Cert.KernelAbFwd.main (F := Bits))) ⟨m, fun _ => 0, g⟩ (fun r => (∀ c : Dev Cert.KernelAbFwd.nD,
      r.2.mem ((c.tc : Thread Cert.KernelAbFwd.nD Cert.KernelAbFwd.τ).loc Cert.KernelAbFwd.main_arg0) = m ((c.tc : Thread Cert.KernelAbFwd.nD Cert.KernelAbFwd.τ).loc Cert.KernelAbFwd.main_arg0)
      ∧ r.2.mem ((c.tc : Thread Cert.KernelAbFwd.nD Cert.KernelAbFwd.τ).loc Cert.KernelAbFwd.main_arg1) = m ((c.tc : Thread Cert.KernelAbFwd.nD Cert.KernelAbFwd.τ).loc Cert.KernelAbFwd.main_arg1)
      ∧ r.2.mem ((c.tc : Thread Cert.KernelAbFwd.nD Cert.KernelAbFwd.τ).loc Cert.KernelAbFwd.main_arg2) = m ((c.tc : Thread Cert.KernelAbFwd.nD Cert.KernelAbFwd.τ).loc Cert.KernelAbFwd.main_arg2))
      ∧ r.2.sem = fun _ => 0)

def quiescent_KernelAbFwdIdeal [hKernelAbFwdIdeal : Cert.KernelAbFwdIdeal.Facts] : Prop :=
  ∀ (m : (ℓ : Loc Cert.KernelAbFwdIdeal.nD Cert.KernelAbFwdIdeal.τ Cert.KernelAbFwdIdeal.sig) → Buf (Elt Ideal) ℓ) (g : Dev Cert.KernelAbFwdIdeal.nD → PrngReg), Pre_KernelAbFwdIdeal m →
    θ_run (Cert.KernelAbFwdIdeal.defs (F := Ideal)) (onTc (τ := Cert.KernelAbFwdIdeal.τ) (Cert.KernelAbFwdIdeal.main (F := Ideal))) ⟨m, fun _ => 0, g⟩ (fun r => (∀ c : Dev Cert.KernelAbFwdIdeal.nD,
      r.2.mem ((c.tc : Thread Cert.KernelAbFwdIdeal.nD Cert.KernelAbFwdIdeal.τ).loc Cert.KernelAbFwdIdeal.main_arg0) = m ((c.tc : Thread Cert.KernelAbFwdIdeal.nD Cert.KernelAbFwdIdeal.τ).loc Cert.KernelAbFwdIdeal.main_arg0)
      ∧ r.2.mem ((c.tc : Thread Cert.KernelAbFwdIdeal.nD Cert.KernelAbFwdIdeal.τ).loc Cert.KernelAbFwdIdeal.main_arg1) = m ((c.tc : Thread Cert.KernelAbFwdIdeal.nD Cert.KernelAbFwdIdeal.τ).loc Cert.KernelAbFwdIdeal.main_arg1)
      ∧ r.2.mem ((c.tc : Thread Cert.KernelAbFwdIdeal.nD Cert.KernelAbFwdIdeal.τ).loc Cert.KernelAbFwdIdeal.main_arg2) = m ((c.tc : Thread Cert.KernelAbFwdIdeal.nD Cert.KernelAbFwdIdeal.τ).loc Cert.KernelAbFwdIdeal.main_arg2))
      ∧ r.2.sem = fun _ => 0)

def quiescent_ReferenceAbFwdIdeal [hReferenceAbFwdIdeal : Cert.ReferenceAbFwdIdeal.Facts] : Prop :=
  ∀ (m : (ℓ : Loc Cert.ReferenceAbFwdIdeal.nD Cert.ReferenceAbFwdIdeal.τ Cert.ReferenceAbFwdIdeal.sig) → Buf (Elt Ideal) ℓ) (g : Dev Cert.ReferenceAbFwdIdeal.nD → PrngReg), Pre_ReferenceAbFwdIdeal m →
    θ_run (Cert.ReferenceAbFwdIdeal.defs (F := Ideal)) (onTc (τ := Cert.ReferenceAbFwdIdeal.τ) (Cert.ReferenceAbFwdIdeal.main (F := Ideal))) ⟨m, fun _ => 0, g⟩ (fun r => (∀ c : Dev Cert.ReferenceAbFwdIdeal.nD,
      r.2.mem ((c.tc : Thread Cert.ReferenceAbFwdIdeal.nD Cert.ReferenceAbFwdIdeal.τ).loc Cert.ReferenceAbFwdIdeal.main_arg0) = m ((c.tc : Thread Cert.ReferenceAbFwdIdeal.nD Cert.ReferenceAbFwdIdeal.τ).loc Cert.ReferenceAbFwdIdeal.main_arg0)
      ∧ r.2.mem ((c.tc : Thread Cert.ReferenceAbFwdIdeal.nD Cert.ReferenceAbFwdIdeal.τ).loc Cert.ReferenceAbFwdIdeal.main_arg1) = m ((c.tc : Thread Cert.ReferenceAbFwdIdeal.nD Cert.ReferenceAbFwdIdeal.τ).loc Cert.ReferenceAbFwdIdeal.main_arg1)
      ∧ r.2.mem ((c.tc : Thread Cert.ReferenceAbFwdIdeal.nD Cert.ReferenceAbFwdIdeal.τ).loc Cert.ReferenceAbFwdIdeal.main_arg2) = m ((c.tc : Thread Cert.ReferenceAbFwdIdeal.nD Cert.ReferenceAbFwdIdeal.τ).loc Cert.ReferenceAbFwdIdeal.main_arg2))
      ∧ r.2.sem = fun _ => 0)

def quiescent_KernelQkvFwd [hKernelQkvFwd : Cert.KernelQkvFwd.Facts] : Prop :=
  ∀ (m : (ℓ : Loc Cert.KernelQkvFwd.nD Cert.KernelQkvFwd.τ Cert.KernelQkvFwd.sig) → Buf (Elt Bits) ℓ) (g : Dev Cert.KernelQkvFwd.nD → PrngReg), Pre_KernelQkvFwd m →
    θ_run (Cert.KernelQkvFwd.defs (F := Bits)) (onTc (τ := Cert.KernelQkvFwd.τ) (Cert.KernelQkvFwd.main (F := Bits))) ⟨m, fun _ => 0, g⟩ (fun r => (∀ c : Dev Cert.KernelQkvFwd.nD,
      r.2.mem ((c.tc : Thread Cert.KernelQkvFwd.nD Cert.KernelQkvFwd.τ).loc Cert.KernelQkvFwd.main_arg0) = m ((c.tc : Thread Cert.KernelQkvFwd.nD Cert.KernelQkvFwd.τ).loc Cert.KernelQkvFwd.main_arg0)
      ∧ r.2.mem ((c.tc : Thread Cert.KernelQkvFwd.nD Cert.KernelQkvFwd.τ).loc Cert.KernelQkvFwd.main_arg1) = m ((c.tc : Thread Cert.KernelQkvFwd.nD Cert.KernelQkvFwd.τ).loc Cert.KernelQkvFwd.main_arg1)
      ∧ r.2.mem ((c.tc : Thread Cert.KernelQkvFwd.nD Cert.KernelQkvFwd.τ).loc Cert.KernelQkvFwd.main_arg2) = m ((c.tc : Thread Cert.KernelQkvFwd.nD Cert.KernelQkvFwd.τ).loc Cert.KernelQkvFwd.main_arg2))
      ∧ r.2.sem = fun _ => 0)

def quiescent_KernelQkvFwdIdeal [hKernelQkvFwdIdeal : Cert.KernelQkvFwdIdeal.Facts] : Prop :=
  ∀ (m : (ℓ : Loc Cert.KernelQkvFwdIdeal.nD Cert.KernelQkvFwdIdeal.τ Cert.KernelQkvFwdIdeal.sig) → Buf (Elt Ideal) ℓ) (g : Dev Cert.KernelQkvFwdIdeal.nD → PrngReg), Pre_KernelQkvFwdIdeal m →
    θ_run (Cert.KernelQkvFwdIdeal.defs (F := Ideal)) (onTc (τ := Cert.KernelQkvFwdIdeal.τ) (Cert.KernelQkvFwdIdeal.main (F := Ideal))) ⟨m, fun _ => 0, g⟩ (fun r => (∀ c : Dev Cert.KernelQkvFwdIdeal.nD,
      r.2.mem ((c.tc : Thread Cert.KernelQkvFwdIdeal.nD Cert.KernelQkvFwdIdeal.τ).loc Cert.KernelQkvFwdIdeal.main_arg0) = m ((c.tc : Thread Cert.KernelQkvFwdIdeal.nD Cert.KernelQkvFwdIdeal.τ).loc Cert.KernelQkvFwdIdeal.main_arg0)
      ∧ r.2.mem ((c.tc : Thread Cert.KernelQkvFwdIdeal.nD Cert.KernelQkvFwdIdeal.τ).loc Cert.KernelQkvFwdIdeal.main_arg1) = m ((c.tc : Thread Cert.KernelQkvFwdIdeal.nD Cert.KernelQkvFwdIdeal.τ).loc Cert.KernelQkvFwdIdeal.main_arg1)
      ∧ r.2.mem ((c.tc : Thread Cert.KernelQkvFwdIdeal.nD Cert.KernelQkvFwdIdeal.τ).loc Cert.KernelQkvFwdIdeal.main_arg2) = m ((c.tc : Thread Cert.KernelQkvFwdIdeal.nD Cert.KernelQkvFwdIdeal.τ).loc Cert.KernelQkvFwdIdeal.main_arg2))
      ∧ r.2.sem = fun _ => 0)

def quiescent_ReferenceQkvFwdIdeal [hReferenceQkvFwdIdeal : Cert.ReferenceQkvFwdIdeal.Facts] : Prop :=
  ∀ (m : (ℓ : Loc Cert.ReferenceQkvFwdIdeal.nD Cert.ReferenceQkvFwdIdeal.τ Cert.ReferenceQkvFwdIdeal.sig) → Buf (Elt Ideal) ℓ) (g : Dev Cert.ReferenceQkvFwdIdeal.nD → PrngReg), Pre_ReferenceQkvFwdIdeal m →
    θ_run (Cert.ReferenceQkvFwdIdeal.defs (F := Ideal)) (onTc (τ := Cert.ReferenceQkvFwdIdeal.τ) (Cert.ReferenceQkvFwdIdeal.main (F := Ideal))) ⟨m, fun _ => 0, g⟩ (fun r => (∀ c : Dev Cert.ReferenceQkvFwdIdeal.nD,
      r.2.mem ((c.tc : Thread Cert.ReferenceQkvFwdIdeal.nD Cert.ReferenceQkvFwdIdeal.τ).loc Cert.ReferenceQkvFwdIdeal.main_arg0) = m ((c.tc : Thread Cert.ReferenceQkvFwdIdeal.nD Cert.ReferenceQkvFwdIdeal.τ).loc Cert.ReferenceQkvFwdIdeal.main_arg0)
      ∧ r.2.mem ((c.tc : Thread Cert.ReferenceQkvFwdIdeal.nD Cert.ReferenceQkvFwdIdeal.τ).loc Cert.ReferenceQkvFwdIdeal.main_arg1) = m ((c.tc : Thread Cert.ReferenceQkvFwdIdeal.nD Cert.ReferenceQkvFwdIdeal.τ).loc Cert.ReferenceQkvFwdIdeal.main_arg1)
      ∧ r.2.mem ((c.tc : Thread Cert.ReferenceQkvFwdIdeal.nD Cert.ReferenceQkvFwdIdeal.τ).loc Cert.ReferenceQkvFwdIdeal.main_arg2) = m ((c.tc : Thread Cert.ReferenceQkvFwdIdeal.nD Cert.ReferenceQkvFwdIdeal.τ).loc Cert.ReferenceQkvFwdIdeal.main_arg2))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4)
      ∧ r.2.mem ((c.tc : Thread Cert.KernelAdamIn.nD Cert.KernelAdamIn.τ).loc Cert.KernelAdamIn.main_arg5) = m ((c.tc : Thread Cert.KernelAdamIn.nD Cert.KernelAdamIn.τ).loc Cert.KernelAdamIn.main_arg5)
      ∧ r.2.mem ((c.tc : Thread Cert.KernelAdamIn.nD Cert.KernelAdamIn.τ).loc Cert.KernelAdamIn.main_arg6) = m ((c.tc : Thread Cert.KernelAdamIn.nD Cert.KernelAdamIn.τ).loc Cert.KernelAdamIn.main_arg6))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
      ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5)
      ∧ r.2.mem ((c.tc : Thread Cert.KernelAdamInIdeal.nD Cert.KernelAdamInIdeal.τ).loc Cert.KernelAdamInIdeal.main_arg6) = m ((c.tc : Thread Cert.KernelAdamInIdeal.nD Cert.KernelAdamInIdeal.τ).loc Cert.KernelAdamInIdeal.main_arg6))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4)
      ∧ r.2.mem ((c.tc : Thread Cert.ReferenceAdamInIdeal.nD Cert.ReferenceAdamInIdeal.τ).loc Cert.ReferenceAdamInIdeal.main_arg5) = m ((c.tc : Thread Cert.ReferenceAdamInIdeal.nD Cert.ReferenceAdamInIdeal.τ).loc Cert.ReferenceAdamInIdeal.main_arg5)
      ∧ r.2.mem ((c.tc : Thread Cert.ReferenceAdamInIdeal.nD Cert.ReferenceAdamInIdeal.τ).loc Cert.ReferenceAdamInIdeal.main_arg6) = m ((c.tc : Thread Cert.ReferenceAdamInIdeal.nD Cert.ReferenceAdamInIdeal.τ).loc Cert.ReferenceAdamInIdeal.main_arg6))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4)
      ∧ r.2.mem ((c.tc : Thread Cert.KernelAdamOut.nD Cert.KernelAdamOut.τ).loc Cert.KernelAdamOut.main_arg5) = m ((c.tc : Thread Cert.KernelAdamOut.nD Cert.KernelAdamOut.τ).loc Cert.KernelAdamOut.main_arg5)
      ∧ r.2.mem ((c.tc : Thread Cert.KernelAdamOut.nD Cert.KernelAdamOut.τ).loc Cert.KernelAdamOut.main_arg6) = m ((c.tc : Thread Cert.KernelAdamOut.nD Cert.KernelAdamOut.τ).loc Cert.KernelAdamOut.main_arg6))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
      ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5)
      ∧ r.2.mem ((c.tc : Thread Cert.KernelAdamOutIdeal.nD Cert.KernelAdamOutIdeal.τ).loc Cert.KernelAdamOutIdeal.main_arg6) = m ((c.tc : Thread Cert.KernelAdamOutIdeal.nD Cert.KernelAdamOutIdeal.τ).loc Cert.KernelAdamOutIdeal.main_arg6))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4)
      ∧ r.2.mem ((c.tc : Thread Cert.ReferenceAdamOutIdeal.nD Cert.ReferenceAdamOutIdeal.τ).loc Cert.ReferenceAdamOutIdeal.main_arg5) = m ((c.tc : Thread Cert.ReferenceAdamOutIdeal.nD Cert.ReferenceAdamOutIdeal.τ).loc Cert.ReferenceAdamOutIdeal.main_arg5)
      ∧ r.2.mem ((c.tc : Thread Cert.ReferenceAdamOutIdeal.nD Cert.ReferenceAdamOutIdeal.τ).loc Cert.ReferenceAdamOutIdeal.main_arg6) = m ((c.tc : Thread Cert.ReferenceAdamOutIdeal.nD Cert.ReferenceAdamOutIdeal.τ).loc Cert.ReferenceAdamOutIdeal.main_arg6))
      ∧ r.2.sem = fun _ => 0)

def quiescent_KernelAdamMix [hKernelAdamMix : Cert.KernelAdamMix.Facts] : Prop :=
  ∀ (m : (ℓ : Loc Cert.KernelAdamMix.nD Cert.KernelAdamMix.τ Cert.KernelAdamMix.sig) → Buf (Elt Bits) ℓ) (g : Dev Cert.KernelAdamMix.nD → PrngReg), Pre_KernelAdamMix m →
    θ_run (Cert.KernelAdamMix.defs (F := Bits)) (onTc (τ := Cert.KernelAdamMix.τ) (Cert.KernelAdamMix.main (F := Bits))) ⟨m, fun _ => 0, g⟩ (fun r => (∀ c : Dev Cert.KernelAdamMix.nD,
      r.2.mem ((c.tc : Thread Cert.KernelAdamMix.nD Cert.KernelAdamMix.τ).loc Cert.KernelAdamMix.main_arg0) = m ((c.tc : Thread Cert.KernelAdamMix.nD Cert.KernelAdamMix.τ).loc Cert.KernelAdamMix.main_arg0)
      ∧ r.2.mem ((c.tc : Thread Cert.KernelAdamMix.nD Cert.KernelAdamMix.τ).loc Cert.KernelAdamMix.main_arg1) = m ((c.tc : Thread Cert.KernelAdamMix.nD Cert.KernelAdamMix.τ).loc Cert.KernelAdamMix.main_arg1)
      ∧ r.2.mem ((c.tc : Thread Cert.KernelAdamMix.nD Cert.KernelAdamMix.τ).loc Cert.KernelAdamMix.main_arg2) = m ((c.tc : Thread Cert.KernelAdamMix.nD Cert.KernelAdamMix.τ).loc Cert.KernelAdamMix.main_arg2)
      ∧ r.2.mem ((c.tc : Thread Cert.KernelAdamMix.nD Cert.KernelAdamMix.τ).loc Cert.KernelAdamMix.main_arg3) = m ((c.tc : Thread Cert.KernelAdamMix.nD Cert.KernelAdamMix.τ).loc Cert.KernelAdamMix.main_arg3)
      ∧ r.2.mem ((c.tc : Thread Cert.KernelAdamMix.nD Cert.KernelAdamMix.τ).loc Cert.KernelAdamMix.main_arg4) = m ((c.tc : Thread Cert.KernelAdamMix.nD Cert.KernelAdamMix.τ).loc Cert.KernelAdamMix.main_arg4))
      ∧ r.2.sem = fun _ => 0)

def quiescent_KernelAdamMixIdeal [hKernelAdamMixIdeal : Cert.KernelAdamMixIdeal.Facts] : Prop :=
  ∀ (m : (ℓ : Loc Cert.KernelAdamMixIdeal.nD Cert.KernelAdamMixIdeal.τ Cert.KernelAdamMixIdeal.sig) → Buf (Elt Ideal) ℓ) (g : Dev Cert.KernelAdamMixIdeal.nD → PrngReg), Pre_KernelAdamMixIdeal m →
    θ_run (Cert.KernelAdamMixIdeal.defs (F := Ideal)) (onTc (τ := Cert.KernelAdamMixIdeal.τ) (Cert.KernelAdamMixIdeal.main (F := Ideal))) ⟨m, fun _ => 0, g⟩ (fun r => (∀ c : Dev Cert.KernelAdamMixIdeal.nD,
      r.2.mem ((c.tc : Thread Cert.KernelAdamMixIdeal.nD Cert.KernelAdamMixIdeal.τ).loc Cert.KernelAdamMixIdeal.main_arg0) = m ((c.tc : Thread Cert.KernelAdamMixIdeal.nD Cert.KernelAdamMixIdeal.τ).loc Cert.KernelAdamMixIdeal.main_arg0)
      ∧ r.2.mem ((c.tc : Thread Cert.KernelAdamMixIdeal.nD Cert.KernelAdamMixIdeal.τ).loc Cert.KernelAdamMixIdeal.main_arg1) = m ((c.tc : Thread Cert.KernelAdamMixIdeal.nD Cert.KernelAdamMixIdeal.τ).loc Cert.KernelAdamMixIdeal.main_arg1)
      ∧ r.2.mem ((c.tc : Thread Cert.KernelAdamMixIdeal.nD Cert.KernelAdamMixIdeal.τ).loc Cert.KernelAdamMixIdeal.main_arg2) = m ((c.tc : Thread Cert.KernelAdamMixIdeal.nD Cert.KernelAdamMixIdeal.τ).loc Cert.KernelAdamMixIdeal.main_arg2)
      ∧ r.2.mem ((c.tc : Thread Cert.KernelAdamMixIdeal.nD Cert.KernelAdamMixIdeal.τ).loc Cert.KernelAdamMixIdeal.main_arg3) = m ((c.tc : Thread Cert.KernelAdamMixIdeal.nD Cert.KernelAdamMixIdeal.τ).loc Cert.KernelAdamMixIdeal.main_arg3)
      ∧ r.2.mem ((c.tc : Thread Cert.KernelAdamMixIdeal.nD Cert.KernelAdamMixIdeal.τ).loc Cert.KernelAdamMixIdeal.main_arg4) = m ((c.tc : Thread Cert.KernelAdamMixIdeal.nD Cert.KernelAdamMixIdeal.τ).loc Cert.KernelAdamMixIdeal.main_arg4))
      ∧ r.2.sem = fun _ => 0)

def quiescent_ReferenceAdamMixIdeal [hReferenceAdamMixIdeal : Cert.ReferenceAdamMixIdeal.Facts] : Prop :=
  ∀ (m : (ℓ : Loc Cert.ReferenceAdamMixIdeal.nD Cert.ReferenceAdamMixIdeal.τ Cert.ReferenceAdamMixIdeal.sig) → Buf (Elt Ideal) ℓ) (g : Dev Cert.ReferenceAdamMixIdeal.nD → PrngReg), Pre_ReferenceAdamMixIdeal m →
    θ_run (Cert.ReferenceAdamMixIdeal.defs (F := Ideal)) (onTc (τ := Cert.ReferenceAdamMixIdeal.τ) (Cert.ReferenceAdamMixIdeal.main (F := Ideal))) ⟨m, fun _ => 0, g⟩ (fun r => (∀ c : Dev Cert.ReferenceAdamMixIdeal.nD,
      r.2.mem ((c.tc : Thread Cert.ReferenceAdamMixIdeal.nD Cert.ReferenceAdamMixIdeal.τ).loc Cert.ReferenceAdamMixIdeal.main_arg0) = m ((c.tc : Thread Cert.ReferenceAdamMixIdeal.nD Cert.ReferenceAdamMixIdeal.τ).loc Cert.ReferenceAdamMixIdeal.main_arg0)
      ∧ r.2.mem ((c.tc : Thread Cert.ReferenceAdamMixIdeal.nD Cert.ReferenceAdamMixIdeal.τ).loc Cert.ReferenceAdamMixIdeal.main_arg1) = m ((c.tc : Thread Cert.ReferenceAdamMixIdeal.nD Cert.ReferenceAdamMixIdeal.τ).loc Cert.ReferenceAdamMixIdeal.main_arg1)
      ∧ r.2.mem ((c.tc : Thread Cert.ReferenceAdamMixIdeal.nD Cert.ReferenceAdamMixIdeal.τ).loc Cert.ReferenceAdamMixIdeal.main_arg2) = m ((c.tc : Thread Cert.ReferenceAdamMixIdeal.nD Cert.ReferenceAdamMixIdeal.τ).loc Cert.ReferenceAdamMixIdeal.main_arg2)
      ∧ r.2.mem ((c.tc : Thread Cert.ReferenceAdamMixIdeal.nD Cert.ReferenceAdamMixIdeal.τ).loc Cert.ReferenceAdamMixIdeal.main_arg3) = m ((c.tc : Thread Cert.ReferenceAdamMixIdeal.nD Cert.ReferenceAdamMixIdeal.τ).loc Cert.ReferenceAdamMixIdeal.main_arg3)
      ∧ r.2.mem ((c.tc : Thread Cert.ReferenceAdamMixIdeal.nD Cert.ReferenceAdamMixIdeal.τ).loc Cert.ReferenceAdamMixIdeal.main_arg4) = m ((c.tc : Thread Cert.ReferenceAdamMixIdeal.nD Cert.ReferenceAdamMixIdeal.τ).loc Cert.ReferenceAdamMixIdeal.main_arg4))
      ∧ r.2.sem = fun _ => 0)

def quiescent_KernelAdamAb [hKernelAdamAb : Cert.KernelAdamAb.Facts] : Prop :=
  ∀ (m : (ℓ : Loc Cert.KernelAdamAb.nD Cert.KernelAdamAb.τ Cert.KernelAdamAb.sig) → Buf (Elt Bits) ℓ) (g : Dev Cert.KernelAdamAb.nD → PrngReg), Pre_KernelAdamAb m →
    θ_run (Cert.KernelAdamAb.defs (F := Bits)) (onTc (τ := Cert.KernelAdamAb.τ) (Cert.KernelAdamAb.main (F := Bits))) ⟨m, fun _ => 0, g⟩ (fun r => (∀ c : Dev Cert.KernelAdamAb.nD,
      r.2.mem ((c.tc : Thread Cert.KernelAdamAb.nD Cert.KernelAdamAb.τ).loc Cert.KernelAdamAb.main_arg0) = m ((c.tc : Thread Cert.KernelAdamAb.nD Cert.KernelAdamAb.τ).loc Cert.KernelAdamAb.main_arg0)
      ∧ r.2.mem ((c.tc : Thread Cert.KernelAdamAb.nD Cert.KernelAdamAb.τ).loc Cert.KernelAdamAb.main_arg1) = m ((c.tc : Thread Cert.KernelAdamAb.nD Cert.KernelAdamAb.τ).loc Cert.KernelAdamAb.main_arg1)
      ∧ r.2.mem ((c.tc : Thread Cert.KernelAdamAb.nD Cert.KernelAdamAb.τ).loc Cert.KernelAdamAb.main_arg2) = m ((c.tc : Thread Cert.KernelAdamAb.nD Cert.KernelAdamAb.τ).loc Cert.KernelAdamAb.main_arg2)
      ∧ r.2.mem ((c.tc : Thread Cert.KernelAdamAb.nD Cert.KernelAdamAb.τ).loc Cert.KernelAdamAb.main_arg3) = m ((c.tc : Thread Cert.KernelAdamAb.nD Cert.KernelAdamAb.τ).loc Cert.KernelAdamAb.main_arg3)
      ∧ r.2.mem ((c.tc : Thread Cert.KernelAdamAb.nD Cert.KernelAdamAb.τ).loc Cert.KernelAdamAb.main_arg4) = m ((c.tc : Thread Cert.KernelAdamAb.nD Cert.KernelAdamAb.τ).loc Cert.KernelAdamAb.main_arg4))
      ∧ r.2.sem = fun _ => 0)

def quiescent_KernelAdamAbIdeal [hKernelAdamAbIdeal : Cert.KernelAdamAbIdeal.Facts] : Prop :=
  ∀ (m : (ℓ : Loc Cert.KernelAdamAbIdeal.nD Cert.KernelAdamAbIdeal.τ Cert.KernelAdamAbIdeal.sig) → Buf (Elt Ideal) ℓ) (g : Dev Cert.KernelAdamAbIdeal.nD → PrngReg), Pre_KernelAdamAbIdeal m →
    θ_run (Cert.KernelAdamAbIdeal.defs (F := Ideal)) (onTc (τ := Cert.KernelAdamAbIdeal.τ) (Cert.KernelAdamAbIdeal.main (F := Ideal))) ⟨m, fun _ => 0, g⟩ (fun r => (∀ c : Dev Cert.KernelAdamAbIdeal.nD,
      r.2.mem ((c.tc : Thread Cert.KernelAdamAbIdeal.nD Cert.KernelAdamAbIdeal.τ).loc Cert.KernelAdamAbIdeal.main_arg0) = m ((c.tc : Thread Cert.KernelAdamAbIdeal.nD Cert.KernelAdamAbIdeal.τ).loc Cert.KernelAdamAbIdeal.main_arg0)
      ∧ r.2.mem ((c.tc : Thread Cert.KernelAdamAbIdeal.nD Cert.KernelAdamAbIdeal.τ).loc Cert.KernelAdamAbIdeal.main_arg1) = m ((c.tc : Thread Cert.KernelAdamAbIdeal.nD Cert.KernelAdamAbIdeal.τ).loc Cert.KernelAdamAbIdeal.main_arg1)
      ∧ r.2.mem ((c.tc : Thread Cert.KernelAdamAbIdeal.nD Cert.KernelAdamAbIdeal.τ).loc Cert.KernelAdamAbIdeal.main_arg2) = m ((c.tc : Thread Cert.KernelAdamAbIdeal.nD Cert.KernelAdamAbIdeal.τ).loc Cert.KernelAdamAbIdeal.main_arg2)
      ∧ r.2.mem ((c.tc : Thread Cert.KernelAdamAbIdeal.nD Cert.KernelAdamAbIdeal.τ).loc Cert.KernelAdamAbIdeal.main_arg3) = m ((c.tc : Thread Cert.KernelAdamAbIdeal.nD Cert.KernelAdamAbIdeal.τ).loc Cert.KernelAdamAbIdeal.main_arg3)
      ∧ r.2.mem ((c.tc : Thread Cert.KernelAdamAbIdeal.nD Cert.KernelAdamAbIdeal.τ).loc Cert.KernelAdamAbIdeal.main_arg4) = m ((c.tc : Thread Cert.KernelAdamAbIdeal.nD Cert.KernelAdamAbIdeal.τ).loc Cert.KernelAdamAbIdeal.main_arg4))
      ∧ r.2.sem = fun _ => 0)

def quiescent_ReferenceAdamAbIdeal [hReferenceAdamAbIdeal : Cert.ReferenceAdamAbIdeal.Facts] : Prop :=
  ∀ (m : (ℓ : Loc Cert.ReferenceAdamAbIdeal.nD Cert.ReferenceAdamAbIdeal.τ Cert.ReferenceAdamAbIdeal.sig) → Buf (Elt Ideal) ℓ) (g : Dev Cert.ReferenceAdamAbIdeal.nD → PrngReg), Pre_ReferenceAdamAbIdeal m →
    θ_run (Cert.ReferenceAdamAbIdeal.defs (F := Ideal)) (onTc (τ := Cert.ReferenceAdamAbIdeal.τ) (Cert.ReferenceAdamAbIdeal.main (F := Ideal))) ⟨m, fun _ => 0, g⟩ (fun r => (∀ c : Dev Cert.ReferenceAdamAbIdeal.nD,
      r.2.mem ((c.tc : Thread Cert.ReferenceAdamAbIdeal.nD Cert.ReferenceAdamAbIdeal.τ).loc Cert.ReferenceAdamAbIdeal.main_arg0) = m ((c.tc : Thread Cert.ReferenceAdamAbIdeal.nD Cert.ReferenceAdamAbIdeal.τ).loc Cert.ReferenceAdamAbIdeal.main_arg0)
      ∧ r.2.mem ((c.tc : Thread Cert.ReferenceAdamAbIdeal.nD Cert.ReferenceAdamAbIdeal.τ).loc Cert.ReferenceAdamAbIdeal.main_arg1) = m ((c.tc : Thread Cert.ReferenceAdamAbIdeal.nD Cert.ReferenceAdamAbIdeal.τ).loc Cert.ReferenceAdamAbIdeal.main_arg1)
      ∧ r.2.mem ((c.tc : Thread Cert.ReferenceAdamAbIdeal.nD Cert.ReferenceAdamAbIdeal.τ).loc Cert.ReferenceAdamAbIdeal.main_arg2) = m ((c.tc : Thread Cert.ReferenceAdamAbIdeal.nD Cert.ReferenceAdamAbIdeal.τ).loc Cert.ReferenceAdamAbIdeal.main_arg2)
      ∧ r.2.mem ((c.tc : Thread Cert.ReferenceAdamAbIdeal.nD Cert.ReferenceAdamAbIdeal.τ).loc Cert.ReferenceAdamAbIdeal.main_arg3) = m ((c.tc : Thread Cert.ReferenceAdamAbIdeal.nD Cert.ReferenceAdamAbIdeal.τ).loc Cert.ReferenceAdamAbIdeal.main_arg3)
      ∧ r.2.mem ((c.tc : Thread Cert.ReferenceAdamAbIdeal.nD Cert.ReferenceAdamAbIdeal.τ).loc Cert.ReferenceAdamAbIdeal.main_arg4) = m ((c.tc : Thread Cert.ReferenceAdamAbIdeal.nD Cert.ReferenceAdamAbIdeal.τ).loc Cert.ReferenceAdamAbIdeal.main_arg4))
      ∧ r.2.sem = fun _ => 0)

def quiescent_KernelAdamQkv [hKernelAdamQkv : Cert.KernelAdamQkv.Facts] : Prop :=
  ∀ (m : (ℓ : Loc Cert.KernelAdamQkv.nD Cert.KernelAdamQkv.τ Cert.KernelAdamQkv.sig) → Buf (Elt Bits) ℓ) (g : Dev Cert.KernelAdamQkv.nD → PrngReg), Pre_KernelAdamQkv m →
    θ_run (Cert.KernelAdamQkv.defs (F := Bits)) (onTc (τ := Cert.KernelAdamQkv.τ) (Cert.KernelAdamQkv.main (F := Bits))) ⟨m, fun _ => 0, g⟩ (fun r => (∀ c : Dev Cert.KernelAdamQkv.nD,
      r.2.mem ((c.tc : Thread Cert.KernelAdamQkv.nD Cert.KernelAdamQkv.τ).loc Cert.KernelAdamQkv.main_arg0) = m ((c.tc : Thread Cert.KernelAdamQkv.nD Cert.KernelAdamQkv.τ).loc Cert.KernelAdamQkv.main_arg0)
      ∧ r.2.mem ((c.tc : Thread Cert.KernelAdamQkv.nD Cert.KernelAdamQkv.τ).loc Cert.KernelAdamQkv.main_arg1) = m ((c.tc : Thread Cert.KernelAdamQkv.nD Cert.KernelAdamQkv.τ).loc Cert.KernelAdamQkv.main_arg1)
      ∧ r.2.mem ((c.tc : Thread Cert.KernelAdamQkv.nD Cert.KernelAdamQkv.τ).loc Cert.KernelAdamQkv.main_arg2) = m ((c.tc : Thread Cert.KernelAdamQkv.nD Cert.KernelAdamQkv.τ).loc Cert.KernelAdamQkv.main_arg2)
      ∧ r.2.mem ((c.tc : Thread Cert.KernelAdamQkv.nD Cert.KernelAdamQkv.τ).loc Cert.KernelAdamQkv.main_arg3) = m ((c.tc : Thread Cert.KernelAdamQkv.nD Cert.KernelAdamQkv.τ).loc Cert.KernelAdamQkv.main_arg3)
      ∧ r.2.mem ((c.tc : Thread Cert.KernelAdamQkv.nD Cert.KernelAdamQkv.τ).loc Cert.KernelAdamQkv.main_arg4) = m ((c.tc : Thread Cert.KernelAdamQkv.nD Cert.KernelAdamQkv.τ).loc Cert.KernelAdamQkv.main_arg4))
      ∧ r.2.sem = fun _ => 0)

def quiescent_KernelAdamQkvIdeal [hKernelAdamQkvIdeal : Cert.KernelAdamQkvIdeal.Facts] : Prop :=
  ∀ (m : (ℓ : Loc Cert.KernelAdamQkvIdeal.nD Cert.KernelAdamQkvIdeal.τ Cert.KernelAdamQkvIdeal.sig) → Buf (Elt Ideal) ℓ) (g : Dev Cert.KernelAdamQkvIdeal.nD → PrngReg), Pre_KernelAdamQkvIdeal m →
    θ_run (Cert.KernelAdamQkvIdeal.defs (F := Ideal)) (onTc (τ := Cert.KernelAdamQkvIdeal.τ) (Cert.KernelAdamQkvIdeal.main (F := Ideal))) ⟨m, fun _ => 0, g⟩ (fun r => (∀ c : Dev Cert.KernelAdamQkvIdeal.nD,
      r.2.mem ((c.tc : Thread Cert.KernelAdamQkvIdeal.nD Cert.KernelAdamQkvIdeal.τ).loc Cert.KernelAdamQkvIdeal.main_arg0) = m ((c.tc : Thread Cert.KernelAdamQkvIdeal.nD Cert.KernelAdamQkvIdeal.τ).loc Cert.KernelAdamQkvIdeal.main_arg0)
      ∧ r.2.mem ((c.tc : Thread Cert.KernelAdamQkvIdeal.nD Cert.KernelAdamQkvIdeal.τ).loc Cert.KernelAdamQkvIdeal.main_arg1) = m ((c.tc : Thread Cert.KernelAdamQkvIdeal.nD Cert.KernelAdamQkvIdeal.τ).loc Cert.KernelAdamQkvIdeal.main_arg1)
      ∧ r.2.mem ((c.tc : Thread Cert.KernelAdamQkvIdeal.nD Cert.KernelAdamQkvIdeal.τ).loc Cert.KernelAdamQkvIdeal.main_arg2) = m ((c.tc : Thread Cert.KernelAdamQkvIdeal.nD Cert.KernelAdamQkvIdeal.τ).loc Cert.KernelAdamQkvIdeal.main_arg2)
      ∧ r.2.mem ((c.tc : Thread Cert.KernelAdamQkvIdeal.nD Cert.KernelAdamQkvIdeal.τ).loc Cert.KernelAdamQkvIdeal.main_arg3) = m ((c.tc : Thread Cert.KernelAdamQkvIdeal.nD Cert.KernelAdamQkvIdeal.τ).loc Cert.KernelAdamQkvIdeal.main_arg3)
      ∧ r.2.mem ((c.tc : Thread Cert.KernelAdamQkvIdeal.nD Cert.KernelAdamQkvIdeal.τ).loc Cert.KernelAdamQkvIdeal.main_arg4) = m ((c.tc : Thread Cert.KernelAdamQkvIdeal.nD Cert.KernelAdamQkvIdeal.τ).loc Cert.KernelAdamQkvIdeal.main_arg4))
      ∧ r.2.sem = fun _ => 0)

def quiescent_ReferenceAdamQkvIdeal [hReferenceAdamQkvIdeal : Cert.ReferenceAdamQkvIdeal.Facts] : Prop :=
  ∀ (m : (ℓ : Loc Cert.ReferenceAdamQkvIdeal.nD Cert.ReferenceAdamQkvIdeal.τ Cert.ReferenceAdamQkvIdeal.sig) → Buf (Elt Ideal) ℓ) (g : Dev Cert.ReferenceAdamQkvIdeal.nD → PrngReg), Pre_ReferenceAdamQkvIdeal m →
    θ_run (Cert.ReferenceAdamQkvIdeal.defs (F := Ideal)) (onTc (τ := Cert.ReferenceAdamQkvIdeal.τ) (Cert.ReferenceAdamQkvIdeal.main (F := Ideal))) ⟨m, fun _ => 0, g⟩ (fun r => (∀ c : Dev Cert.ReferenceAdamQkvIdeal.nD,
      r.2.mem ((c.tc : Thread Cert.ReferenceAdamQkvIdeal.nD Cert.ReferenceAdamQkvIdeal.τ).loc Cert.ReferenceAdamQkvIdeal.main_arg0) = m ((c.tc : Thread Cert.ReferenceAdamQkvIdeal.nD Cert.ReferenceAdamQkvIdeal.τ).loc Cert.ReferenceAdamQkvIdeal.main_arg0)
      ∧ r.2.mem ((c.tc : Thread Cert.ReferenceAdamQkvIdeal.nD Cert.ReferenceAdamQkvIdeal.τ).loc Cert.ReferenceAdamQkvIdeal.main_arg1) = m ((c.tc : Thread Cert.ReferenceAdamQkvIdeal.nD Cert.ReferenceAdamQkvIdeal.τ).loc Cert.ReferenceAdamQkvIdeal.main_arg1)
      ∧ r.2.mem ((c.tc : Thread Cert.ReferenceAdamQkvIdeal.nD Cert.ReferenceAdamQkvIdeal.τ).loc Cert.ReferenceAdamQkvIdeal.main_arg2) = m ((c.tc : Thread Cert.ReferenceAdamQkvIdeal.nD Cert.ReferenceAdamQkvIdeal.τ).loc Cert.ReferenceAdamQkvIdeal.main_arg2)
      ∧ r.2.mem ((c.tc : Thread Cert.ReferenceAdamQkvIdeal.nD Cert.ReferenceAdamQkvIdeal.τ).loc Cert.ReferenceAdamQkvIdeal.main_arg3) = m ((c.tc : Thread Cert.ReferenceAdamQkvIdeal.nD Cert.ReferenceAdamQkvIdeal.τ).loc Cert.ReferenceAdamQkvIdeal.main_arg3)
      ∧ r.2.mem ((c.tc : Thread Cert.ReferenceAdamQkvIdeal.nD Cert.ReferenceAdamQkvIdeal.τ).loc Cert.ReferenceAdamQkvIdeal.main_arg4) = m ((c.tc : Thread Cert.ReferenceAdamQkvIdeal.nD Cert.ReferenceAdamQkvIdeal.τ).loc Cert.ReferenceAdamQkvIdeal.main_arg4))
      ∧ r.2.sem = fun _ => 0)

def quiescent_KernelAttnFwd [hKernelAttnFwd : Cert.KernelAttnFwd.Facts] : Prop :=
  ∀ (m : (ℓ : Loc Cert.KernelAttnFwd.nD Cert.KernelAttnFwd.τ Cert.KernelAttnFwd.sig) → Buf (Elt Bits) ℓ) (g : Dev Cert.KernelAttnFwd.nD → PrngReg), Pre_KernelAttnFwd m →
    θ_run (Cert.KernelAttnFwd.defs (F := Bits)) (onTc (τ := Cert.KernelAttnFwd.τ) (Cert.KernelAttnFwd.main (F := Bits))) ⟨m, fun _ => 0, g⟩ (fun r => (∀ c : Dev Cert.KernelAttnFwd.nD,
      r.2.mem ((c.tc : Thread Cert.KernelAttnFwd.nD Cert.KernelAttnFwd.τ).loc Cert.KernelAttnFwd.main_arg0) = m ((c.tc : Thread Cert.KernelAttnFwd.nD Cert.KernelAttnFwd.τ).loc Cert.KernelAttnFwd.main_arg0)
      ∧ r.2.mem ((c.tc : Thread Cert.KernelAttnFwd.nD Cert.KernelAttnFwd.τ).loc Cert.KernelAttnFwd.main_arg1) = m ((c.tc : Thread Cert.KernelAttnFwd.nD Cert.KernelAttnFwd.τ).loc Cert.KernelAttnFwd.main_arg1))
      ∧ r.2.sem = fun _ => 0)

def quiescent_KernelAttnFwdIdeal [hKernelAttnFwdIdeal : Cert.KernelAttnFwdIdeal.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1))
      ∧ r.2.sem = fun _ => 0)

def quiescent_KernelAttnFwdIdeal_pre_finite_attn [hKernelAttnFwdIdeal : Cert.KernelAttnFwdIdeal.Facts] [hPre_finite_attn : Cert.Pre_finite_attn.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal_finite_attn m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1))
      ∧ r.2.sem = fun _ => 0)

def quiescent_ReferenceAttnFwdIdeal [hReferenceAttnFwdIdeal : Cert.ReferenceAttnFwdIdeal.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1))
      ∧ r.2.sem = fun _ => 0)

def quiescent_ReferenceAttnFwdIdeal_pre_finite_attn [hReferenceAttnFwdIdeal : Cert.ReferenceAttnFwdIdeal.Facts] [hPre_finite_attn : Cert.Pre_finite_attn.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal_finite_attn m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3)
      ∧ r.2.mem ((c.tc : Thread Cert.KernelAdamSmall.nD Cert.KernelAdamSmall.τ).loc Cert.KernelAdamSmall.main_arg4) = m ((c.tc : Thread Cert.KernelAdamSmall.nD Cert.KernelAdamSmall.τ).loc Cert.KernelAdamSmall.main_arg4)
      ∧ r.2.mem ((c.tc : Thread Cert.KernelAdamSmall.nD Cert.KernelAdamSmall.τ).loc Cert.KernelAdamSmall.main_arg5) = m ((c.tc : Thread Cert.KernelAdamSmall.nD Cert.KernelAdamSmall.τ).loc Cert.KernelAdamSmall.main_arg5)
      ∧ r.2.mem ((c.tc : Thread Cert.KernelAdamSmall.nD Cert.KernelAdamSmall.τ).loc Cert.KernelAdamSmall.main_arg6) = m ((c.tc : Thread Cert.KernelAdamSmall.nD Cert.KernelAdamSmall.τ).loc Cert.KernelAdamSmall.main_arg6)
      ∧ r.2.mem ((c.tc : Thread Cert.KernelAdamSmall.nD Cert.KernelAdamSmall.τ).loc Cert.KernelAdamSmall.main_arg7) = m ((c.tc : Thread Cert.KernelAdamSmall.nD Cert.KernelAdamSmall.τ).loc Cert.KernelAdamSmall.main_arg7)
      ∧ r.2.mem ((c.tc : Thread Cert.KernelAdamSmall.nD Cert.KernelAdamSmall.τ).loc Cert.KernelAdamSmall.main_arg8) = m ((c.tc : Thread Cert.KernelAdamSmall.nD Cert.KernelAdamSmall.τ).loc Cert.KernelAdamSmall.main_arg8)
      ∧ r.2.mem ((c.tc : Thread Cert.KernelAdamSmall.nD Cert.KernelAdamSmall.τ).loc Cert.KernelAdamSmall.main_arg9) = m ((c.tc : Thread Cert.KernelAdamSmall.nD Cert.KernelAdamSmall.τ).loc Cert.KernelAdamSmall.main_arg9)
      ∧ r.2.mem ((c.tc : Thread Cert.KernelAdamSmall.nD Cert.KernelAdamSmall.τ).loc Cert.KernelAdamSmall.main_arg10) = m ((c.tc : Thread Cert.KernelAdamSmall.nD Cert.KernelAdamSmall.τ).loc Cert.KernelAdamSmall.main_arg10)
      ∧ r.2.mem ((c.tc : Thread Cert.KernelAdamSmall.nD Cert.KernelAdamSmall.τ).loc Cert.KernelAdamSmall.main_arg11) = m ((c.tc : Thread Cert.KernelAdamSmall.nD Cert.KernelAdamSmall.τ).loc Cert.KernelAdamSmall.main_arg11)
      ∧ r.2.mem ((c.tc : Thread Cert.KernelAdamSmall.nD Cert.KernelAdamSmall.τ).loc Cert.KernelAdamSmall.main_arg12) = m ((c.tc : Thread Cert.KernelAdamSmall.nD Cert.KernelAdamSmall.τ).loc Cert.KernelAdamSmall.main_arg12)
      ∧ r.2.mem ((c.tc : Thread Cert.KernelAdamSmall.nD Cert.KernelAdamSmall.τ).loc Cert.KernelAdamSmall.main_arg13) = m ((c.tc : Thread Cert.KernelAdamSmall.nD Cert.KernelAdamSmall.τ).loc Cert.KernelAdamSmall.main_arg13)
      ∧ r.2.mem ((c.tc : Thread Cert.KernelAdamSmall.nD Cert.KernelAdamSmall.τ).loc Cert.KernelAdamSmall.main_arg14) = m ((c.tc : Thread Cert.KernelAdamSmall.nD Cert.KernelAdamSmall.τ).loc Cert.KernelAdamSmall.main_arg14)
      ∧ r.2.mem ((c.tc : Thread Cert.KernelAdamSmall.nD Cert.KernelAdamSmall.τ).loc Cert.KernelAdamSmall.main_arg15) = m ((c.tc : Thread Cert.KernelAdamSmall.nD Cert.KernelAdamSmall.τ).loc Cert.KernelAdamSmall.main_arg15)
      ∧ r.2.mem ((c.tc : Thread Cert.KernelAdamSmall.nD Cert.KernelAdamSmall.τ).loc Cert.KernelAdamSmall.main_arg16) = m ((c.tc : Thread Cert.KernelAdamSmall.nD Cert.KernelAdamSmall.τ).loc Cert.KernelAdamSmall.main_arg16)
      ∧ r.2.mem ((c.tc : Thread Cert.KernelAdamSmall.nD Cert.KernelAdamSmall.τ).loc Cert.KernelAdamSmall.main_arg17) = m ((c.tc : Thread Cert.KernelAdamSmall.nD Cert.KernelAdamSmall.τ).loc Cert.KernelAdamSmall.main_arg17)
      ∧ r.2.mem ((c.tc : Thread Cert.KernelAdamSmall.nD Cert.KernelAdamSmall.τ).loc Cert.KernelAdamSmall.main_arg18) = m ((c.tc : Thread Cert.KernelAdamSmall.nD Cert.KernelAdamSmall.τ).loc Cert.KernelAdamSmall.main_arg18)
      ∧ r.2.mem ((c.tc : Thread Cert.KernelAdamSmall.nD Cert.KernelAdamSmall.τ).loc Cert.KernelAdamSmall.main_arg19) = m ((c.tc : Thread Cert.KernelAdamSmall.nD Cert.KernelAdamSmall.τ).loc Cert.KernelAdamSmall.main_arg19)
      ∧ r.2.mem ((c.tc : Thread Cert.KernelAdamSmall.nD Cert.KernelAdamSmall.τ).loc Cert.KernelAdamSmall.main_arg20) = m ((c.tc : Thread Cert.KernelAdamSmall.nD Cert.KernelAdamSmall.τ).loc Cert.KernelAdamSmall.main_arg20)
      ∧ r.2.mem ((c.tc : Thread Cert.KernelAdamSmall.nD Cert.KernelAdamSmall.τ).loc Cert.KernelAdamSmall.main_arg21) = m ((c.tc : Thread Cert.KernelAdamSmall.nD Cert.KernelAdamSmall.τ).loc Cert.KernelAdamSmall.main_arg21)
      ∧ r.2.mem ((c.tc : Thread Cert.KernelAdamSmall.nD Cert.KernelAdamSmall.τ).loc Cert.KernelAdamSmall.main_arg22) = m ((c.tc : Thread Cert.KernelAdamSmall.nD Cert.KernelAdamSmall.τ).loc Cert.KernelAdamSmall.main_arg22)
      ∧ r.2.mem ((c.tc : Thread Cert.KernelAdamSmall.nD Cert.KernelAdamSmall.τ).loc Cert.KernelAdamSmall.main_arg23) = m ((c.tc : Thread Cert.KernelAdamSmall.nD Cert.KernelAdamSmall.τ).loc Cert.KernelAdamSmall.main_arg23)
      ∧ r.2.mem ((c.tc : Thread Cert.KernelAdamSmall.nD Cert.KernelAdamSmall.τ).loc Cert.KernelAdamSmall.main_arg24) = m ((c.tc : Thread Cert.KernelAdamSmall.nD Cert.KernelAdamSmall.τ).loc Cert.KernelAdamSmall.main_arg24)
      ∧ r.2.mem ((c.tc : Thread Cert.KernelAdamSmall.nD Cert.KernelAdamSmall.τ).loc Cert.KernelAdamSmall.main_arg25) = m ((c.tc : Thread Cert.KernelAdamSmall.nD Cert.KernelAdamSmall.τ).loc Cert.KernelAdamSmall.main_arg25)
      ∧ r.2.mem ((c.tc : Thread Cert.KernelAdamSmall.nD Cert.KernelAdamSmall.τ).loc Cert.KernelAdamSmall.main_arg26) = m ((c.tc : Thread Cert.KernelAdamSmall.nD Cert.KernelAdamSmall.τ).loc Cert.KernelAdamSmall.main_arg26)
      ∧ r.2.mem ((c.tc : Thread Cert.KernelAdamSmall.nD Cert.KernelAdamSmall.τ).loc Cert.KernelAdamSmall.main_arg27) = m ((c.tc : Thread Cert.KernelAdamSmall.nD Cert.KernelAdamSmall.τ).loc Cert.KernelAdamSmall.main_arg27)
      ∧ r.2.mem ((c.tc : Thread Cert.KernelAdamSmall.nD Cert.KernelAdamSmall.τ).loc Cert.KernelAdamSmall.main_arg28) = m ((c.tc : Thread Cert.KernelAdamSmall.nD Cert.KernelAdamSmall.τ).loc Cert.KernelAdamSmall.main_arg28))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
      ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
      ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
      ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
      ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
      ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
      ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
      ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
      ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
      ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
      ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
      ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
      ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
      ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
      ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
      ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
      ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
      ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
      ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
      ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
      ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23)
      ∧ r.2.mem ((c.tc : Thread Cert.KernelAdamSmallIdeal.nD Cert.KernelAdamSmallIdeal.τ).loc Cert.KernelAdamSmallIdeal.main_arg24) = m ((c.tc : Thread Cert.KernelAdamSmallIdeal.nD Cert.KernelAdamSmallIdeal.τ).loc Cert.KernelAdamSmallIdeal.main_arg24)
      ∧ r.2.mem ((c.tc : Thread Cert.KernelAdamSmallIdeal.nD Cert.KernelAdamSmallIdeal.τ).loc Cert.KernelAdamSmallIdeal.main_arg25) = m ((c.tc : Thread Cert.KernelAdamSmallIdeal.nD Cert.KernelAdamSmallIdeal.τ).loc Cert.KernelAdamSmallIdeal.main_arg25)
      ∧ r.2.mem ((c.tc : Thread Cert.KernelAdamSmallIdeal.nD Cert.KernelAdamSmallIdeal.τ).loc Cert.KernelAdamSmallIdeal.main_arg26) = m ((c.tc : Thread Cert.KernelAdamSmallIdeal.nD Cert.KernelAdamSmallIdeal.τ).loc Cert.KernelAdamSmallIdeal.main_arg26)
      ∧ r.2.mem ((c.tc : Thread Cert.KernelAdamSmallIdeal.nD Cert.KernelAdamSmallIdeal.τ).loc Cert.KernelAdamSmallIdeal.main_arg27) = m ((c.tc : Thread Cert.KernelAdamSmallIdeal.nD Cert.KernelAdamSmallIdeal.τ).loc Cert.KernelAdamSmallIdeal.main_arg27)
      ∧ r.2.mem ((c.tc : Thread Cert.KernelAdamSmallIdeal.nD Cert.KernelAdamSmallIdeal.τ).loc Cert.KernelAdamSmallIdeal.main_arg28) = m ((c.tc : Thread Cert.KernelAdamSmallIdeal.nD Cert.KernelAdamSmallIdeal.τ).loc Cert.KernelAdamSmallIdeal.main_arg28))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3)
      ∧ r.2.mem ((c.tc : Thread Cert.ReferenceAdamSmallIdeal.nD Cert.ReferenceAdamSmallIdeal.τ).loc Cert.ReferenceAdamSmallIdeal.main_arg4) = m ((c.tc : Thread Cert.ReferenceAdamSmallIdeal.nD Cert.ReferenceAdamSmallIdeal.τ).loc Cert.ReferenceAdamSmallIdeal.main_arg4)
      ∧ r.2.mem ((c.tc : Thread Cert.ReferenceAdamSmallIdeal.nD Cert.ReferenceAdamSmallIdeal.τ).loc Cert.ReferenceAdamSmallIdeal.main_arg5) = m ((c.tc : Thread Cert.ReferenceAdamSmallIdeal.nD Cert.ReferenceAdamSmallIdeal.τ).loc Cert.ReferenceAdamSmallIdeal.main_arg5)
      ∧ r.2.mem ((c.tc : Thread Cert.ReferenceAdamSmallIdeal.nD Cert.ReferenceAdamSmallIdeal.τ).loc Cert.ReferenceAdamSmallIdeal.main_arg6) = m ((c.tc : Thread Cert.ReferenceAdamSmallIdeal.nD Cert.ReferenceAdamSmallIdeal.τ).loc Cert.ReferenceAdamSmallIdeal.main_arg6)
      ∧ r.2.mem ((c.tc : Thread Cert.ReferenceAdamSmallIdeal.nD Cert.ReferenceAdamSmallIdeal.τ).loc Cert.ReferenceAdamSmallIdeal.main_arg7) = m ((c.tc : Thread Cert.ReferenceAdamSmallIdeal.nD Cert.ReferenceAdamSmallIdeal.τ).loc Cert.ReferenceAdamSmallIdeal.main_arg7)
      ∧ r.2.mem ((c.tc : Thread Cert.ReferenceAdamSmallIdeal.nD Cert.ReferenceAdamSmallIdeal.τ).loc Cert.ReferenceAdamSmallIdeal.main_arg8) = m ((c.tc : Thread Cert.ReferenceAdamSmallIdeal.nD Cert.ReferenceAdamSmallIdeal.τ).loc Cert.ReferenceAdamSmallIdeal.main_arg8)
      ∧ r.2.mem ((c.tc : Thread Cert.ReferenceAdamSmallIdeal.nD Cert.ReferenceAdamSmallIdeal.τ).loc Cert.ReferenceAdamSmallIdeal.main_arg9) = m ((c.tc : Thread Cert.ReferenceAdamSmallIdeal.nD Cert.ReferenceAdamSmallIdeal.τ).loc Cert.ReferenceAdamSmallIdeal.main_arg9)
      ∧ r.2.mem ((c.tc : Thread Cert.ReferenceAdamSmallIdeal.nD Cert.ReferenceAdamSmallIdeal.τ).loc Cert.ReferenceAdamSmallIdeal.main_arg10) = m ((c.tc : Thread Cert.ReferenceAdamSmallIdeal.nD Cert.ReferenceAdamSmallIdeal.τ).loc Cert.ReferenceAdamSmallIdeal.main_arg10)
      ∧ r.2.mem ((c.tc : Thread Cert.ReferenceAdamSmallIdeal.nD Cert.ReferenceAdamSmallIdeal.τ).loc Cert.ReferenceAdamSmallIdeal.main_arg11) = m ((c.tc : Thread Cert.ReferenceAdamSmallIdeal.nD Cert.ReferenceAdamSmallIdeal.τ).loc Cert.ReferenceAdamSmallIdeal.main_arg11)
      ∧ r.2.mem ((c.tc : Thread Cert.ReferenceAdamSmallIdeal.nD Cert.ReferenceAdamSmallIdeal.τ).loc Cert.ReferenceAdamSmallIdeal.main_arg12) = m ((c.tc : Thread Cert.ReferenceAdamSmallIdeal.nD Cert.ReferenceAdamSmallIdeal.τ).loc Cert.ReferenceAdamSmallIdeal.main_arg12)
      ∧ r.2.mem ((c.tc : Thread Cert.ReferenceAdamSmallIdeal.nD Cert.ReferenceAdamSmallIdeal.τ).loc Cert.ReferenceAdamSmallIdeal.main_arg13) = m ((c.tc : Thread Cert.ReferenceAdamSmallIdeal.nD Cert.ReferenceAdamSmallIdeal.τ).loc Cert.ReferenceAdamSmallIdeal.main_arg13)
      ∧ r.2.mem ((c.tc : Thread Cert.ReferenceAdamSmallIdeal.nD Cert.ReferenceAdamSmallIdeal.τ).loc Cert.ReferenceAdamSmallIdeal.main_arg14) = m ((c.tc : Thread Cert.ReferenceAdamSmallIdeal.nD Cert.ReferenceAdamSmallIdeal.τ).loc Cert.ReferenceAdamSmallIdeal.main_arg14)
      ∧ r.2.mem ((c.tc : Thread Cert.ReferenceAdamSmallIdeal.nD Cert.ReferenceAdamSmallIdeal.τ).loc Cert.ReferenceAdamSmallIdeal.main_arg15) = m ((c.tc : Thread Cert.ReferenceAdamSmallIdeal.nD Cert.ReferenceAdamSmallIdeal.τ).loc Cert.ReferenceAdamSmallIdeal.main_arg15)
      ∧ r.2.mem ((c.tc : Thread Cert.ReferenceAdamSmallIdeal.nD Cert.ReferenceAdamSmallIdeal.τ).loc Cert.ReferenceAdamSmallIdeal.main_arg16) = m ((c.tc : Thread Cert.ReferenceAdamSmallIdeal.nD Cert.ReferenceAdamSmallIdeal.τ).loc Cert.ReferenceAdamSmallIdeal.main_arg16)
      ∧ r.2.mem ((c.tc : Thread Cert.ReferenceAdamSmallIdeal.nD Cert.ReferenceAdamSmallIdeal.τ).loc Cert.ReferenceAdamSmallIdeal.main_arg17) = m ((c.tc : Thread Cert.ReferenceAdamSmallIdeal.nD Cert.ReferenceAdamSmallIdeal.τ).loc Cert.ReferenceAdamSmallIdeal.main_arg17)
      ∧ r.2.mem ((c.tc : Thread Cert.ReferenceAdamSmallIdeal.nD Cert.ReferenceAdamSmallIdeal.τ).loc Cert.ReferenceAdamSmallIdeal.main_arg18) = m ((c.tc : Thread Cert.ReferenceAdamSmallIdeal.nD Cert.ReferenceAdamSmallIdeal.τ).loc Cert.ReferenceAdamSmallIdeal.main_arg18)
      ∧ r.2.mem ((c.tc : Thread Cert.ReferenceAdamSmallIdeal.nD Cert.ReferenceAdamSmallIdeal.τ).loc Cert.ReferenceAdamSmallIdeal.main_arg19) = m ((c.tc : Thread Cert.ReferenceAdamSmallIdeal.nD Cert.ReferenceAdamSmallIdeal.τ).loc Cert.ReferenceAdamSmallIdeal.main_arg19)
      ∧ r.2.mem ((c.tc : Thread Cert.ReferenceAdamSmallIdeal.nD Cert.ReferenceAdamSmallIdeal.τ).loc Cert.ReferenceAdamSmallIdeal.main_arg20) = m ((c.tc : Thread Cert.ReferenceAdamSmallIdeal.nD Cert.ReferenceAdamSmallIdeal.τ).loc Cert.ReferenceAdamSmallIdeal.main_arg20)
      ∧ r.2.mem ((c.tc : Thread Cert.ReferenceAdamSmallIdeal.nD Cert.ReferenceAdamSmallIdeal.τ).loc Cert.ReferenceAdamSmallIdeal.main_arg21) = m ((c.tc : Thread Cert.ReferenceAdamSmallIdeal.nD Cert.ReferenceAdamSmallIdeal.τ).loc Cert.ReferenceAdamSmallIdeal.main_arg21)
      ∧ r.2.mem ((c.tc : Thread Cert.ReferenceAdamSmallIdeal.nD Cert.ReferenceAdamSmallIdeal.τ).loc Cert.ReferenceAdamSmallIdeal.main_arg22) = m ((c.tc : Thread Cert.ReferenceAdamSmallIdeal.nD Cert.ReferenceAdamSmallIdeal.τ).loc Cert.ReferenceAdamSmallIdeal.main_arg22)
      ∧ r.2.mem ((c.tc : Thread Cert.ReferenceAdamSmallIdeal.nD Cert.ReferenceAdamSmallIdeal.τ).loc Cert.ReferenceAdamSmallIdeal.main_arg23) = m ((c.tc : Thread Cert.ReferenceAdamSmallIdeal.nD Cert.ReferenceAdamSmallIdeal.τ).loc Cert.ReferenceAdamSmallIdeal.main_arg23)
      ∧ r.2.mem ((c.tc : Thread Cert.ReferenceAdamSmallIdeal.nD Cert.ReferenceAdamSmallIdeal.τ).loc Cert.ReferenceAdamSmallIdeal.main_arg24) = m ((c.tc : Thread Cert.ReferenceAdamSmallIdeal.nD Cert.ReferenceAdamSmallIdeal.τ).loc Cert.ReferenceAdamSmallIdeal.main_arg24)
      ∧ r.2.mem ((c.tc : Thread Cert.ReferenceAdamSmallIdeal.nD Cert.ReferenceAdamSmallIdeal.τ).loc Cert.ReferenceAdamSmallIdeal.main_arg25) = m ((c.tc : Thread Cert.ReferenceAdamSmallIdeal.nD Cert.ReferenceAdamSmallIdeal.τ).loc Cert.ReferenceAdamSmallIdeal.main_arg25)
      ∧ r.2.mem ((c.tc : Thread Cert.ReferenceAdamSmallIdeal.nD Cert.ReferenceAdamSmallIdeal.τ).loc Cert.ReferenceAdamSmallIdeal.main_arg26) = m ((c.tc : Thread Cert.ReferenceAdamSmallIdeal.nD Cert.ReferenceAdamSmallIdeal.τ).loc Cert.ReferenceAdamSmallIdeal.main_arg26)
      ∧ r.2.mem ((c.tc : Thread Cert.ReferenceAdamSmallIdeal.nD Cert.ReferenceAdamSmallIdeal.τ).loc Cert.ReferenceAdamSmallIdeal.main_arg27) = m ((c.tc : Thread Cert.ReferenceAdamSmallIdeal.nD Cert.ReferenceAdamSmallIdeal.τ).loc Cert.ReferenceAdamSmallIdeal.main_arg27)
      ∧ r.2.mem ((c.tc : Thread Cert.ReferenceAdamSmallIdeal.nD Cert.ReferenceAdamSmallIdeal.τ).loc Cert.ReferenceAdamSmallIdeal.main_arg28) = m ((c.tc : Thread Cert.ReferenceAdamSmallIdeal.nD Cert.ReferenceAdamSmallIdeal.τ).loc Cert.ReferenceAdamSmallIdeal.main_arg28))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)
      ∧ m' ((c.tc : Thread Cert.ReferenceNIdeal.nD Cert.ReferenceNIdeal.τ).loc Cert.ReferenceNIdeal.main_arg3) = m ((c.tc : Thread Cert.KernelNIdeal.nD Cert.KernelNIdeal.τ).loc Cert.KernelNIdeal.main_arg3)
      ∧ m' ((c.tc : Thread Cert.ReferenceNIdeal.nD Cert.ReferenceNIdeal.τ).loc Cert.ReferenceNIdeal.main_arg4) = m ((c.tc : Thread Cert.KernelNIdeal.nD Cert.KernelNIdeal.τ).loc Cert.KernelNIdeal.main_arg4)
      ∧ m' ((c.tc : Thread Cert.ReferenceNIdeal.nD Cert.ReferenceNIdeal.τ).loc Cert.ReferenceNIdeal.main_arg5) = m ((c.tc : Thread Cert.KernelNIdeal.nD Cert.KernelNIdeal.τ).loc Cert.KernelNIdeal.main_arg5)) →
    ∃ (v0 : (c : Dev Cert.KernelNIdeal.nD) → Buf (Elt Ideal) ((c.tc : Thread Cert.KernelNIdeal.nD Cert.KernelNIdeal.τ).loc Cert.KernelNIdeal.main_v0_0)) (v1 : (c : Dev Cert.KernelNIdeal.nD) → Buf (Elt Ideal) ((c.tc : Thread Cert.KernelNIdeal.nD Cert.KernelNIdeal.τ).loc Cert.KernelNIdeal.main_v0_1)) (v2 : (c : Dev Cert.KernelNIdeal.nD) → Buf (Elt Ideal) ((c.tc : Thread Cert.KernelNIdeal.nD Cert.KernelNIdeal.τ).loc Cert.KernelNIdeal.main_v0_2)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v0_0) = v0 c
          ∧ r.2.mem ((c.tc : Thread Cert.KernelNIdeal.nD Cert.KernelNIdeal.τ).loc Cert.KernelNIdeal.main_v0_1) = v1 c
          ∧ r.2.mem ((c.tc : Thread Cert.KernelNIdeal.nD Cert.KernelNIdeal.τ).loc Cert.KernelNIdeal.main_v0_2) = v2 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
          ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3)
          ∧ r.2.mem ((c.tc : Thread Cert.KernelNIdeal.nD Cert.KernelNIdeal.τ).loc Cert.KernelNIdeal.main_arg4) = m ((c.tc : Thread Cert.KernelNIdeal.nD Cert.KernelNIdeal.τ).loc Cert.KernelNIdeal.main_arg4)
          ∧ r.2.mem ((c.tc : Thread Cert.KernelNIdeal.nD Cert.KernelNIdeal.τ).loc Cert.KernelNIdeal.main_arg5) = m ((c.tc : Thread Cert.KernelNIdeal.nD Cert.KernelNIdeal.τ).loc Cert.KernelNIdeal.main_arg5))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v43) = v0 c
          ∧ r.2.mem ((c.tc : Thread Cert.ReferenceNIdeal.nD Cert.ReferenceNIdeal.τ).loc Cert.ReferenceNIdeal.main_v48) = v1 c
          ∧ r.2.mem ((c.tc : Thread Cert.ReferenceNIdeal.nD Cert.ReferenceNIdeal.τ).loc Cert.ReferenceNIdeal.main_v49) = v2 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2)
          ∧ r.2.mem ((c.tc : Thread Cert.ReferenceNIdeal.nD Cert.ReferenceNIdeal.τ).loc Cert.ReferenceNIdeal.main_arg3) = m' ((c.tc : Thread Cert.ReferenceNIdeal.nD Cert.ReferenceNIdeal.τ).loc Cert.ReferenceNIdeal.main_arg3)
          ∧ r.2.mem ((c.tc : Thread Cert.ReferenceNIdeal.nD Cert.ReferenceNIdeal.τ).loc Cert.ReferenceNIdeal.main_arg4) = m' ((c.tc : Thread Cert.ReferenceNIdeal.nD Cert.ReferenceNIdeal.τ).loc Cert.ReferenceNIdeal.main_arg4)
          ∧ r.2.mem ((c.tc : Thread Cert.ReferenceNIdeal.nD Cert.ReferenceNIdeal.τ).loc Cert.ReferenceNIdeal.main_arg5) = m' ((c.tc : Thread Cert.ReferenceNIdeal.nD Cert.ReferenceNIdeal.τ).loc Cert.ReferenceNIdeal.main_arg5))

def preserves_KernelRows_KernelRowsIdeal : Prop :=
  True

def algebraic_KernelRowsIdeal_ReferenceRowsIdeal [hKernelRowsIdeal : Cert.KernelRowsIdeal.Facts] [hReferenceRowsIdeal : Cert.ReferenceRowsIdeal.Facts] : Prop :=
  ∀ (m : (ℓ : Loc Cert.KernelRowsIdeal.nD Cert.KernelRowsIdeal.τ Cert.KernelRowsIdeal.sig) → Buf (Elt Ideal) ℓ) (g : Dev Cert.KernelRowsIdeal.nD → PrngReg)
    (m' : (ℓ : Loc Cert.ReferenceRowsIdeal.nD Cert.ReferenceRowsIdeal.τ Cert.ReferenceRowsIdeal.sig) → Buf (Elt Ideal) ℓ) (g' : Dev Cert.ReferenceRowsIdeal.nD → PrngReg), Pre_KernelRowsIdeal m →
    (∀ c : Dev Cert.KernelRowsIdeal.nD,
      m' ((c.tc : Thread Cert.ReferenceRowsIdeal.nD Cert.ReferenceRowsIdeal.τ).loc Cert.ReferenceRowsIdeal.main_arg0) = m ((c.tc : Thread Cert.KernelRowsIdeal.nD Cert.KernelRowsIdeal.τ).loc Cert.KernelRowsIdeal.main_arg0)
      ∧ m' ((c.tc : Thread Cert.ReferenceRowsIdeal.nD Cert.ReferenceRowsIdeal.τ).loc Cert.ReferenceRowsIdeal.main_arg1) = m ((c.tc : Thread Cert.KernelRowsIdeal.nD Cert.KernelRowsIdeal.τ).loc Cert.KernelRowsIdeal.main_arg1)
      ∧ m' ((c.tc : Thread Cert.ReferenceRowsIdeal.nD Cert.ReferenceRowsIdeal.τ).loc Cert.ReferenceRowsIdeal.main_arg2) = m ((c.tc : Thread Cert.KernelRowsIdeal.nD Cert.KernelRowsIdeal.τ).loc Cert.KernelRowsIdeal.main_arg2)) →
    ∃ (v0 : (c : Dev Cert.KernelRowsIdeal.nD) → Buf (Elt Ideal) ((c.tc : Thread Cert.KernelRowsIdeal.nD Cert.KernelRowsIdeal.τ).loc Cert.KernelRowsIdeal.main_v0)),
      θ_run (Cert.KernelRowsIdeal.defs (F := Ideal)) (onTc (τ := Cert.KernelRowsIdeal.τ) (Cert.KernelRowsIdeal.main (F := Ideal))) ⟨m, fun _ => 0, g⟩ (fun r => ∀ c : Dev Cert.KernelRowsIdeal.nD,
          r.2.mem ((c.tc : Thread Cert.KernelRowsIdeal.nD Cert.KernelRowsIdeal.τ).loc Cert.KernelRowsIdeal.main_v0) = v0 c
          ∧ r.2.mem ((c.tc : Thread Cert.KernelRowsIdeal.nD Cert.KernelRowsIdeal.τ).loc Cert.KernelRowsIdeal.main_arg0) = m ((c.tc : Thread Cert.KernelRowsIdeal.nD Cert.KernelRowsIdeal.τ).loc Cert.KernelRowsIdeal.main_arg0)
          ∧ r.2.mem ((c.tc : Thread Cert.KernelRowsIdeal.nD Cert.KernelRowsIdeal.τ).loc Cert.KernelRowsIdeal.main_arg1) = m ((c.tc : Thread Cert.KernelRowsIdeal.nD Cert.KernelRowsIdeal.τ).loc Cert.KernelRowsIdeal.main_arg1)
          ∧ r.2.mem ((c.tc : Thread Cert.KernelRowsIdeal.nD Cert.KernelRowsIdeal.τ).loc Cert.KernelRowsIdeal.main_arg2) = m ((c.tc : Thread Cert.KernelRowsIdeal.nD Cert.KernelRowsIdeal.τ).loc Cert.KernelRowsIdeal.main_arg2))
      ∧ θ_run (Cert.ReferenceRowsIdeal.defs (F := Ideal)) (onTc (τ := Cert.ReferenceRowsIdeal.τ) (Cert.ReferenceRowsIdeal.main (F := Ideal))) ⟨m', fun _ => 0, g'⟩ (fun r => ∀ c : Dev Cert.ReferenceRowsIdeal.nD,
          r.2.mem ((c.tc : Thread Cert.ReferenceRowsIdeal.nD Cert.ReferenceRowsIdeal.τ).loc Cert.ReferenceRowsIdeal.main_v14) = v0 c
          ∧ r.2.mem ((c.tc : Thread Cert.ReferenceRowsIdeal.nD Cert.ReferenceRowsIdeal.τ).loc Cert.ReferenceRowsIdeal.main_arg0) = m' ((c.tc : Thread Cert.ReferenceRowsIdeal.nD Cert.ReferenceRowsIdeal.τ).loc Cert.ReferenceRowsIdeal.main_arg0)
          ∧ r.2.mem ((c.tc : Thread Cert.ReferenceRowsIdeal.nD Cert.ReferenceRowsIdeal.τ).loc Cert.ReferenceRowsIdeal.main_arg1) = m' ((c.tc : Thread Cert.ReferenceRowsIdeal.nD Cert.ReferenceRowsIdeal.τ).loc Cert.ReferenceRowsIdeal.main_arg1)
          ∧ r.2.mem ((c.tc : Thread Cert.ReferenceRowsIdeal.nD Cert.ReferenceRowsIdeal.τ).loc Cert.ReferenceRowsIdeal.main_arg2) = m' ((c.tc : Thread Cert.ReferenceRowsIdeal.nD Cert.ReferenceRowsIdeal.τ).loc Cert.ReferenceRowsIdeal.main_arg2))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v6) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v8) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelFfnFwd_KernelFfnFwdIdeal : Prop :=
  True

def algebraic_KernelFfnFwdIdeal_ReferenceFfnFwdIdeal [hKernelFfnFwdIdeal : Cert.KernelFfnFwdIdeal.Facts] [hReferenceFfnFwdIdeal : Cert.ReferenceFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg)
    (m' : (ℓ : Loc Cert.ReferenceFfnFwdIdeal.nD Cert.ReferenceFfnFwdIdeal.τ Cert.ReferenceFfnFwdIdeal.sig) → Buf (Elt Ideal) ℓ) (g' : Dev Cert.ReferenceFfnFwdIdeal.nD → PrngReg), Pre_KernelFfnFwdIdeal m →
    (∀ c : Dev Cert.KernelFfnFwdIdeal.nD,
      m' ((c.tc : Thread Cert.ReferenceFfnFwdIdeal.nD Cert.ReferenceFfnFwdIdeal.τ).loc Cert.ReferenceFfnFwdIdeal.main_arg0) = m ((c.tc : Thread Cert.KernelFfnFwdIdeal.nD Cert.KernelFfnFwdIdeal.τ).loc Cert.KernelFfnFwdIdeal.main_arg0)
      ∧ m' ((c.tc : Thread Cert.ReferenceFfnFwdIdeal.nD Cert.ReferenceFfnFwdIdeal.τ).loc Cert.ReferenceFfnFwdIdeal.main_arg1) = m ((c.tc : Thread Cert.KernelFfnFwdIdeal.nD Cert.KernelFfnFwdIdeal.τ).loc Cert.KernelFfnFwdIdeal.main_arg1)
      ∧ m' ((c.tc : Thread Cert.ReferenceFfnFwdIdeal.nD Cert.ReferenceFfnFwdIdeal.τ).loc Cert.ReferenceFfnFwdIdeal.main_arg2) = m ((c.tc : Thread Cert.KernelFfnFwdIdeal.nD Cert.KernelFfnFwdIdeal.τ).loc Cert.KernelFfnFwdIdeal.main_arg2)
      ∧ m' ((c.tc : Thread Cert.ReferenceFfnFwdIdeal.nD Cert.ReferenceFfnFwdIdeal.τ).loc Cert.ReferenceFfnFwdIdeal.main_arg3) = m ((c.tc : Thread Cert.KernelFfnFwdIdeal.nD Cert.KernelFfnFwdIdeal.τ).loc Cert.KernelFfnFwdIdeal.main_arg3)
      ∧ m' ((c.tc : Thread Cert.ReferenceFfnFwdIdeal.nD Cert.ReferenceFfnFwdIdeal.τ).loc Cert.ReferenceFfnFwdIdeal.main_arg4) = m ((c.tc : Thread Cert.KernelFfnFwdIdeal.nD Cert.KernelFfnFwdIdeal.τ).loc Cert.KernelFfnFwdIdeal.main_arg4)) →
    ∃ (v0 : (c : Dev Cert.KernelFfnFwdIdeal.nD) → Buf (Elt Ideal) ((c.tc : Thread Cert.KernelFfnFwdIdeal.nD Cert.KernelFfnFwdIdeal.τ).loc Cert.KernelFfnFwdIdeal.main_v0_0)) (v1 : (c : Dev Cert.KernelFfnFwdIdeal.nD) → Buf (Elt Ideal) ((c.tc : Thread Cert.KernelFfnFwdIdeal.nD Cert.KernelFfnFwdIdeal.τ).loc Cert.KernelFfnFwdIdeal.main_v0_1)) (v2 : (c : Dev Cert.KernelFfnFwdIdeal.nD) → Buf (Elt Ideal) ((c.tc : Thread Cert.KernelFfnFwdIdeal.nD Cert.KernelFfnFwdIdeal.τ).loc Cert.KernelFfnFwdIdeal.main_v0_2)) (v3 : (c : Dev Cert.KernelFfnFwdIdeal.nD) → Buf (Elt Ideal) ((c.tc : Thread Cert.KernelFfnFwdIdeal.nD Cert.KernelFfnFwdIdeal.τ).loc Cert.KernelFfnFwdIdeal.main_v0_3)),
      θ_run (Cert.KernelFfnFwdIdeal.defs (F := Ideal)) (onTc (τ := Cert.KernelFfnFwdIdeal.τ) (Cert.KernelFfnFwdIdeal.main (F := Ideal))) ⟨m, fun _ => 0, g⟩ (fun r => ∀ c : Dev Cert.KernelFfnFwdIdeal.nD,
          r.2.mem ((c.tc : Thread Cert.KernelFfnFwdIdeal.nD Cert.KernelFfnFwdIdeal.τ).loc Cert.KernelFfnFwdIdeal.main_v0_0) = v0 c
          ∧ r.2.mem ((c.tc : Thread Cert.KernelFfnFwdIdeal.nD Cert.KernelFfnFwdIdeal.τ).loc Cert.KernelFfnFwdIdeal.main_v0_1) = v1 c
          ∧ r.2.mem ((c.tc : Thread Cert.KernelFfnFwdIdeal.nD Cert.KernelFfnFwdIdeal.τ).loc Cert.KernelFfnFwdIdeal.main_v0_2) = v2 c
          ∧ r.2.mem ((c.tc : Thread Cert.KernelFfnFwdIdeal.nD Cert.KernelFfnFwdIdeal.τ).loc Cert.KernelFfnFwdIdeal.main_v0_3) = v3 c
          ∧ r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
          ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
          ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
          ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
          ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ θ_run (Cert.ReferenceFfnFwdIdeal.defs (F := Ideal)) (onTc (τ := Cert.ReferenceFfnFwdIdeal.τ) (Cert.ReferenceFfnFwdIdeal.main (F := Ideal))) ⟨m', fun _ => 0, g'⟩ (fun r => ∀ c : Dev Cert.ReferenceFfnFwdIdeal.nD,
          r.2.mem ((c.tc : Thread Cert.ReferenceFfnFwdIdeal.nD Cert.ReferenceFfnFwdIdeal.τ).loc Cert.ReferenceFfnFwdIdeal.main_v6) = v0 c
          ∧ r.2.mem ((c.tc : Thread Cert.ReferenceFfnFwdIdeal.nD Cert.ReferenceFfnFwdIdeal.τ).loc Cert.ReferenceFfnFwdIdeal.main_v24) = v1 c
          ∧ r.2.mem ((c.tc : Thread Cert.ReferenceFfnFwdIdeal.nD Cert.ReferenceFfnFwdIdeal.τ).loc Cert.ReferenceFfnFwdIdeal.main_v25) = v2 c
          ∧ r.2.mem ((c.tc : Thread Cert.ReferenceFfnFwdIdeal.nD Cert.ReferenceFfnFwdIdeal.τ).loc Cert.ReferenceFfnFwdIdeal.main_v26) = v3 c
          ∧ r.2.mem ((c.tc : Thread Cert.ReferenceFfnFwdIdeal.nD Cert.ReferenceFfnFwdIdeal.τ).loc Cert.ReferenceFfnFwdIdeal.main_arg0) = m' ((c.tc : Thread Cert.ReferenceFfnFwdIdeal.nD Cert.ReferenceFfnFwdIdeal.τ).loc Cert.ReferenceFfnFwdIdeal.main_arg0)
          ∧ r.2.mem ((c.tc : Thread Cert.ReferenceFfnFwdIdeal.nD Cert.ReferenceFfnFwdIdeal.τ).loc Cert.ReferenceFfnFwdIdeal.main_arg1) = m' ((c.tc : Thread Cert.ReferenceFfnFwdIdeal.nD Cert.ReferenceFfnFwdIdeal.τ).loc Cert.ReferenceFfnFwdIdeal.main_arg1)
          ∧ r.2.mem ((c.tc : Thread Cert.ReferenceFfnFwdIdeal.nD Cert.ReferenceFfnFwdIdeal.τ).loc Cert.ReferenceFfnFwdIdeal.main_arg2) = m' ((c.tc : Thread Cert.ReferenceFfnFwdIdeal.nD Cert.ReferenceFfnFwdIdeal.τ).loc Cert.ReferenceFfnFwdIdeal.main_arg2)
          ∧ r.2.mem ((c.tc : Thread Cert.ReferenceFfnFwdIdeal.nD Cert.ReferenceFfnFwdIdeal.τ).loc Cert.ReferenceFfnFwdIdeal.main_arg3) = m' ((c.tc : Thread Cert.ReferenceFfnFwdIdeal.nD Cert.ReferenceFfnFwdIdeal.τ).loc Cert.ReferenceFfnFwdIdeal.main_arg3)
          ∧ r.2.mem ((c.tc : Thread Cert.ReferenceFfnFwdIdeal.nD Cert.ReferenceFfnFwdIdeal.τ).loc Cert.ReferenceFfnFwdIdeal.main_arg4) = m' ((c.tc : Thread Cert.ReferenceFfnFwdIdeal.nD Cert.ReferenceFfnFwdIdeal.τ).loc Cert.ReferenceFfnFwdIdeal.main_arg4))

def preserves_KernelOutFwd_KernelOutFwdIdeal : Prop :=
  True

def algebraic_KernelOutFwdIdeal_ReferenceOutFwdIdeal [hKernelOutFwdIdeal : Cert.KernelOutFwdIdeal.Facts] [hReferenceOutFwdIdeal : Cert.ReferenceOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg)
    (m' : (ℓ : Loc Cert.ReferenceOutFwdIdeal.nD Cert.ReferenceOutFwdIdeal.τ Cert.ReferenceOutFwdIdeal.sig) → Buf (Elt Ideal) ℓ) (g' : Dev Cert.ReferenceOutFwdIdeal.nD → PrngReg), Pre_KernelOutFwdIdeal m →
    (∀ c : Dev Cert.KernelOutFwdIdeal.nD,
      m' ((c.tc : Thread Cert.ReferenceOutFwdIdeal.nD Cert.ReferenceOutFwdIdeal.τ).loc Cert.ReferenceOutFwdIdeal.main_arg0) = m ((c.tc : Thread Cert.KernelOutFwdIdeal.nD Cert.KernelOutFwdIdeal.τ).loc Cert.KernelOutFwdIdeal.main_arg0)
      ∧ m' ((c.tc : Thread Cert.ReferenceOutFwdIdeal.nD Cert.ReferenceOutFwdIdeal.τ).loc Cert.ReferenceOutFwdIdeal.main_arg1) = m ((c.tc : Thread Cert.KernelOutFwdIdeal.nD Cert.KernelOutFwdIdeal.τ).loc Cert.KernelOutFwdIdeal.main_arg1)
      ∧ m' ((c.tc : Thread Cert.ReferenceOutFwdIdeal.nD Cert.ReferenceOutFwdIdeal.τ).loc Cert.ReferenceOutFwdIdeal.main_arg2) = m ((c.tc : Thread Cert.KernelOutFwdIdeal.nD Cert.KernelOutFwdIdeal.τ).loc Cert.KernelOutFwdIdeal.main_arg2)) →
    ∃ (v0 : (c : Dev Cert.KernelOutFwdIdeal.nD) → Buf (Elt Ideal) ((c.tc : Thread Cert.KernelOutFwdIdeal.nD Cert.KernelOutFwdIdeal.τ).loc Cert.KernelOutFwdIdeal.main_v0)),
      θ_run (Cert.KernelOutFwdIdeal.defs (F := Ideal)) (onTc (τ := Cert.KernelOutFwdIdeal.τ) (Cert.KernelOutFwdIdeal.main (F := Ideal))) ⟨m, fun _ => 0, g⟩ (fun r => ∀ c : Dev Cert.KernelOutFwdIdeal.nD,
          r.2.mem ((c.tc : Thread Cert.KernelOutFwdIdeal.nD Cert.KernelOutFwdIdeal.τ).loc Cert.KernelOutFwdIdeal.main_v0) = v0 c
          ∧ r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
          ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
          ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2))
      ∧ θ_run (Cert.ReferenceOutFwdIdeal.defs (F := Ideal)) (onTc (τ := Cert.ReferenceOutFwdIdeal.τ) (Cert.ReferenceOutFwdIdeal.main (F := Ideal))) ⟨m', fun _ => 0, g'⟩ (fun r => ∀ c : Dev Cert.ReferenceOutFwdIdeal.nD,
          r.2.mem ((c.tc : Thread Cert.ReferenceOutFwdIdeal.nD Cert.ReferenceOutFwdIdeal.τ).loc Cert.ReferenceOutFwdIdeal.main_v3) = v0 c
          ∧ r.2.mem ((c.tc : Thread Cert.ReferenceOutFwdIdeal.nD Cert.ReferenceOutFwdIdeal.τ).loc Cert.ReferenceOutFwdIdeal.main_arg0) = m' ((c.tc : Thread Cert.ReferenceOutFwdIdeal.nD Cert.ReferenceOutFwdIdeal.τ).loc Cert.ReferenceOutFwdIdeal.main_arg0)
          ∧ r.2.mem ((c.tc : Thread Cert.ReferenceOutFwdIdeal.nD Cert.ReferenceOutFwdIdeal.τ).loc Cert.ReferenceOutFwdIdeal.main_arg1) = m' ((c.tc : Thread Cert.ReferenceOutFwdIdeal.nD Cert.ReferenceOutFwdIdeal.τ).loc Cert.ReferenceOutFwdIdeal.main_arg1)
          ∧ r.2.mem ((c.tc : Thread Cert.ReferenceOutFwdIdeal.nD Cert.ReferenceOutFwdIdeal.τ).loc Cert.ReferenceOutFwdIdeal.main_arg2) = m' ((c.tc : Thread Cert.ReferenceOutFwdIdeal.nD Cert.ReferenceOutFwdIdeal.τ).loc Cert.ReferenceOutFwdIdeal.main_arg2))

def preserves_KernelFfnFwd2_KernelFfnFwd2Ideal : Prop :=
  True

def algebraic_KernelFfnFwd2Ideal_ReferenceFfnFwd2Ideal [hKernelFfnFwd2Ideal : Cert.KernelFfnFwd2Ideal.Facts] [hReferenceFfnFwd2Ideal : Cert.ReferenceFfnFwd2Ideal.Facts] : Prop :=
  ∀ (m : (ℓ : Loc Cert.KernelFfnFwd2Ideal.nD Cert.KernelFfnFwd2Ideal.τ Cert.KernelFfnFwd2Ideal.sig) → Buf (Elt Ideal) ℓ) (g : Dev Cert.KernelFfnFwd2Ideal.nD → PrngReg)
    (m' : (ℓ : Loc Cert.ReferenceFfnFwd2Ideal.nD Cert.ReferenceFfnFwd2Ideal.τ Cert.ReferenceFfnFwd2Ideal.sig) → Buf (Elt Ideal) ℓ) (g' : Dev Cert.ReferenceFfnFwd2Ideal.nD → PrngReg), Pre_KernelFfnFwd2Ideal m →
    (∀ c : Dev Cert.KernelFfnFwd2Ideal.nD,
      m' ((c.tc : Thread Cert.ReferenceFfnFwd2Ideal.nD Cert.ReferenceFfnFwd2Ideal.τ).loc Cert.ReferenceFfnFwd2Ideal.main_arg0) = m ((c.tc : Thread Cert.KernelFfnFwd2Ideal.nD Cert.KernelFfnFwd2Ideal.τ).loc Cert.KernelFfnFwd2Ideal.main_arg0)
      ∧ m' ((c.tc : Thread Cert.ReferenceFfnFwd2Ideal.nD Cert.ReferenceFfnFwd2Ideal.τ).loc Cert.ReferenceFfnFwd2Ideal.main_arg1) = m ((c.tc : Thread Cert.KernelFfnFwd2Ideal.nD Cert.KernelFfnFwd2Ideal.τ).loc Cert.KernelFfnFwd2Ideal.main_arg1)
      ∧ m' ((c.tc : Thread Cert.ReferenceFfnFwd2Ideal.nD Cert.ReferenceFfnFwd2Ideal.τ).loc Cert.ReferenceFfnFwd2Ideal.main_arg2) = m ((c.tc : Thread Cert.KernelFfnFwd2Ideal.nD Cert.KernelFfnFwd2Ideal.τ).loc Cert.KernelFfnFwd2Ideal.main_arg2)
      ∧ m' ((c.tc : Thread Cert.ReferenceFfnFwd2Ideal.nD Cert.ReferenceFfnFwd2Ideal.τ).loc Cert.ReferenceFfnFwd2Ideal.main_arg3) = m ((c.tc : Thread Cert.KernelFfnFwd2Ideal.nD Cert.KernelFfnFwd2Ideal.τ).loc Cert.KernelFfnFwd2Ideal.main_arg3)
      ∧ m' ((c.tc : Thread Cert.ReferenceFfnFwd2Ideal.nD Cert.ReferenceFfnFwd2Ideal.τ).loc Cert.ReferenceFfnFwd2Ideal.main_arg4) = m ((c.tc : Thread Cert.KernelFfnFwd2Ideal.nD Cert.KernelFfnFwd2Ideal.τ).loc Cert.KernelFfnFwd2Ideal.main_arg4)
      ∧ m' ((c.tc : Thread Cert.ReferenceFfnFwd2Ideal.nD Cert.ReferenceFfnFwd2Ideal.τ).loc Cert.ReferenceFfnFwd2Ideal.main_arg5) = m ((c.tc : Thread Cert.KernelFfnFwd2Ideal.nD Cert.KernelFfnFwd2Ideal.τ).loc Cert.KernelFfnFwd2Ideal.main_arg5)) →
    ∃ (v0 : (c : Dev Cert.KernelFfnFwd2Ideal.nD) → Buf (Elt Ideal) ((c.tc : Thread Cert.KernelFfnFwd2Ideal.nD Cert.KernelFfnFwd2Ideal.τ).loc Cert.KernelFfnFwd2Ideal.main_v0_0)) (v1 : (c : Dev Cert.KernelFfnFwd2Ideal.nD) → Buf (Elt Ideal) ((c.tc : Thread Cert.KernelFfnFwd2Ideal.nD Cert.KernelFfnFwd2Ideal.τ).loc Cert.KernelFfnFwd2Ideal.main_v0_1)) (v2 : (c : Dev Cert.KernelFfnFwd2Ideal.nD) → Buf (Elt Ideal) ((c.tc : Thread Cert.KernelFfnFwd2Ideal.nD Cert.KernelFfnFwd2Ideal.τ).loc Cert.KernelFfnFwd2Ideal.main_v0_2)) (v3 : (c : Dev Cert.KernelFfnFwd2Ideal.nD) → Buf (Elt Ideal) ((c.tc : Thread Cert.KernelFfnFwd2Ideal.nD Cert.KernelFfnFwd2Ideal.τ).loc Cert.KernelFfnFwd2Ideal.main_v0_3)),
      θ_run (Cert.KernelFfnFwd2Ideal.defs (F := Ideal)) (onTc (τ := Cert.KernelFfnFwd2Ideal.τ) (Cert.KernelFfnFwd2Ideal.main (F := Ideal))) ⟨m, fun _ => 0, g⟩ (fun r => ∀ c : Dev Cert.KernelFfnFwd2Ideal.nD,
          r.2.mem ((c.tc : Thread Cert.KernelFfnFwd2Ideal.nD Cert.KernelFfnFwd2Ideal.τ).loc Cert.KernelFfnFwd2Ideal.main_v0_0) = v0 c
          ∧ r.2.mem ((c.tc : Thread Cert.KernelFfnFwd2Ideal.nD Cert.KernelFfnFwd2Ideal.τ).loc Cert.KernelFfnFwd2Ideal.main_v0_1) = v1 c
          ∧ r.2.mem ((c.tc : Thread Cert.KernelFfnFwd2Ideal.nD Cert.KernelFfnFwd2Ideal.τ).loc Cert.KernelFfnFwd2Ideal.main_v0_2) = v2 c
          ∧ r.2.mem ((c.tc : Thread Cert.KernelFfnFwd2Ideal.nD Cert.KernelFfnFwd2Ideal.τ).loc Cert.KernelFfnFwd2Ideal.main_v0_3) = v3 c
          ∧ r.2.mem ((c.tc : Thread Cert.KernelFfnFwd2Ideal.nD Cert.KernelFfnFwd2Ideal.τ).loc Cert.KernelFfnFwd2Ideal.main_arg0) = m ((c.tc : Thread Cert.KernelFfnFwd2Ideal.nD Cert.KernelFfnFwd2Ideal.τ).loc Cert.KernelFfnFwd2Ideal.main_arg0)
          ∧ r.2.mem ((c.tc : Thread Cert.KernelFfnFwd2Ideal.nD Cert.KernelFfnFwd2Ideal.τ).loc Cert.KernelFfnFwd2Ideal.main_arg1) = m ((c.tc : Thread Cert.KernelFfnFwd2Ideal.nD Cert.KernelFfnFwd2Ideal.τ).loc Cert.KernelFfnFwd2Ideal.main_arg1)
          ∧ r.2.mem ((c.tc : Thread Cert.KernelFfnFwd2Ideal.nD Cert.KernelFfnFwd2Ideal.τ).loc Cert.KernelFfnFwd2Ideal.main_arg2) = m ((c.tc : Thread Cert.KernelFfnFwd2Ideal.nD Cert.KernelFfnFwd2Ideal.τ).loc Cert.KernelFfnFwd2Ideal.main_arg2)
          ∧ r.2.mem ((c.tc : Thread Cert.KernelFfnFwd2Ideal.nD Cert.KernelFfnFwd2Ideal.τ).loc Cert.KernelFfnFwd2Ideal.main_arg3) = m ((c.tc : Thread Cert.KernelFfnFwd2Ideal.nD Cert.KernelFfnFwd2Ideal.τ).loc Cert.KernelFfnFwd2Ideal.main_arg3)
          ∧ r.2.mem ((c.tc : Thread Cert.KernelFfnFwd2Ideal.nD Cert.KernelFfnFwd2Ideal.τ).loc Cert.KernelFfnFwd2Ideal.main_arg4) = m ((c.tc : Thread Cert.KernelFfnFwd2Ideal.nD Cert.KernelFfnFwd2Ideal.τ).loc Cert.KernelFfnFwd2Ideal.main_arg4)
          ∧ r.2.mem ((c.tc : Thread Cert.KernelFfnFwd2Ideal.nD Cert.KernelFfnFwd2Ideal.τ).loc Cert.KernelFfnFwd2Ideal.main_arg5) = m ((c.tc : Thread Cert.KernelFfnFwd2Ideal.nD Cert.KernelFfnFwd2Ideal.τ).loc Cert.KernelFfnFwd2Ideal.main_arg5))
      ∧ θ_run (Cert.ReferenceFfnFwd2Ideal.defs (F := Ideal)) (onTc (τ := Cert.ReferenceFfnFwd2Ideal.τ) (Cert.ReferenceFfnFwd2Ideal.main (F := Ideal))) ⟨m', fun _ => 0, g'⟩ (fun r => ∀ c : Dev Cert.ReferenceFfnFwd2Ideal.nD,
          r.2.mem ((c.tc : Thread Cert.ReferenceFfnFwd2Ideal.nD Cert.ReferenceFfnFwd2Ideal.τ).loc Cert.ReferenceFfnFwd2Ideal.main_v7) = v0 c
          ∧ r.2.mem ((c.tc : Thread Cert.ReferenceFfnFwd2Ideal.nD Cert.ReferenceFfnFwd2Ideal.τ).loc Cert.ReferenceFfnFwd2Ideal.main_v25) = v1 c
          ∧ r.2.mem ((c.tc : Thread Cert.ReferenceFfnFwd2Ideal.nD Cert.ReferenceFfnFwd2Ideal.τ).loc Cert.ReferenceFfnFwd2Ideal.main_v26) = v2 c
          ∧ r.2.mem ((c.tc : Thread Cert.ReferenceFfnFwd2Ideal.nD Cert.ReferenceFfnFwd2Ideal.τ).loc Cert.ReferenceFfnFwd2Ideal.main_v27) = v3 c
          ∧ r.2.mem ((c.tc : Thread Cert.ReferenceFfnFwd2Ideal.nD Cert.ReferenceFfnFwd2Ideal.τ).loc Cert.ReferenceFfnFwd2Ideal.main_arg0) = m' ((c.tc : Thread Cert.ReferenceFfnFwd2Ideal.nD Cert.ReferenceFfnFwd2Ideal.τ).loc Cert.ReferenceFfnFwd2Ideal.main_arg0)
          ∧ r.2.mem ((c.tc : Thread Cert.ReferenceFfnFwd2Ideal.nD Cert.ReferenceFfnFwd2Ideal.τ).loc Cert.ReferenceFfnFwd2Ideal.main_arg1) = m' ((c.tc : Thread Cert.ReferenceFfnFwd2Ideal.nD Cert.ReferenceFfnFwd2Ideal.τ).loc Cert.ReferenceFfnFwd2Ideal.main_arg1)
          ∧ r.2.mem ((c.tc : Thread Cert.ReferenceFfnFwd2Ideal.nD Cert.ReferenceFfnFwd2Ideal.τ).loc Cert.ReferenceFfnFwd2Ideal.main_arg2) = m' ((c.tc : Thread Cert.ReferenceFfnFwd2Ideal.nD Cert.ReferenceFfnFwd2Ideal.τ).loc Cert.ReferenceFfnFwd2Ideal.main_arg2)
          ∧ r.2.mem ((c.tc : Thread Cert.ReferenceFfnFwd2Ideal.nD Cert.ReferenceFfnFwd2Ideal.τ).loc Cert.ReferenceFfnFwd2Ideal.main_arg3) = m' ((c.tc : Thread Cert.ReferenceFfnFwd2Ideal.nD Cert.ReferenceFfnFwd2Ideal.τ).loc Cert.ReferenceFfnFwd2Ideal.main_arg3)
          ∧ r.2.mem ((c.tc : Thread Cert.ReferenceFfnFwd2Ideal.nD Cert.ReferenceFfnFwd2Ideal.τ).loc Cert.ReferenceFfnFwd2Ideal.main_arg4) = m' ((c.tc : Thread Cert.ReferenceFfnFwd2Ideal.nD Cert.ReferenceFfnFwd2Ideal.τ).loc Cert.ReferenceFfnFwd2Ideal.main_arg4)
          ∧ r.2.mem ((c.tc : Thread Cert.ReferenceFfnFwd2Ideal.nD Cert.ReferenceFfnFwd2Ideal.τ).loc Cert.ReferenceFfnFwd2Ideal.main_arg5) = m' ((c.tc : Thread Cert.ReferenceFfnFwd2Ideal.nD Cert.ReferenceFfnFwd2Ideal.τ).loc Cert.ReferenceFfnFwd2Ideal.main_arg5))

def preserves_KernelMixDw_KernelMixDwIdeal : Prop :=
  True

def algebraic_KernelMixDwIdeal_ReferenceMixDwIdeal [hKernelMixDwIdeal : Cert.KernelMixDwIdeal.Facts] [hReferenceMixDwIdeal : Cert.ReferenceMixDwIdeal.Facts] : Prop :=
  ∀ (m : (ℓ : Loc Cert.KernelMixDwIdeal.nD Cert.KernelMixDwIdeal.τ Cert.KernelMixDwIdeal.sig) → Buf (Elt Ideal) ℓ) (g : Dev Cert.KernelMixDwIdeal.nD → PrngReg)
    (m' : (ℓ : Loc Cert.ReferenceMixDwIdeal.nD Cert.ReferenceMixDwIdeal.τ Cert.ReferenceMixDwIdeal.sig) → Buf (Elt Ideal) ℓ) (g' : Dev Cert.ReferenceMixDwIdeal.nD → PrngReg), Pre_KernelMixDwIdeal m →
    (∀ c : Dev Cert.KernelMixDwIdeal.nD,
      m' ((c.tc : Thread Cert.ReferenceMixDwIdeal.nD Cert.ReferenceMixDwIdeal.τ).loc Cert.ReferenceMixDwIdeal.main_arg0) = m ((c.tc : Thread Cert.KernelMixDwIdeal.nD Cert.KernelMixDwIdeal.τ).loc Cert.KernelMixDwIdeal.main_arg0)
      ∧ m' ((c.tc : Thread Cert.ReferenceMixDwIdeal.nD Cert.ReferenceMixDwIdeal.τ).loc Cert.ReferenceMixDwIdeal.main_arg1) = m ((c.tc : Thread Cert.KernelMixDwIdeal.nD Cert.KernelMixDwIdeal.τ).loc Cert.KernelMixDwIdeal.main_arg1)) →
    ∃ (v0 : (c : Dev Cert.KernelMixDwIdeal.nD) → Buf (Elt Ideal) ((c.tc : Thread Cert.KernelMixDwIdeal.nD Cert.KernelMixDwIdeal.τ).loc Cert.KernelMixDwIdeal.main_v0)),
      θ_run (Cert.KernelMixDwIdeal.defs (F := Ideal)) (onTc (τ := Cert.KernelMixDwIdeal.τ) (Cert.KernelMixDwIdeal.main (F := Ideal))) ⟨m, fun _ => 0, g⟩ (fun r => ∀ c : Dev Cert.KernelMixDwIdeal.nD,
          r.2.mem ((c.tc : Thread Cert.KernelMixDwIdeal.nD Cert.KernelMixDwIdeal.τ).loc Cert.KernelMixDwIdeal.main_v0) = v0 c
          ∧ r.2.mem ((c.tc : Thread Cert.KernelMixDwIdeal.nD Cert.KernelMixDwIdeal.τ).loc Cert.KernelMixDwIdeal.main_arg0) = m ((c.tc : Thread Cert.KernelMixDwIdeal.nD Cert.KernelMixDwIdeal.τ).loc Cert.KernelMixDwIdeal.main_arg0)
          ∧ r.2.mem ((c.tc : Thread Cert.KernelMixDwIdeal.nD Cert.KernelMixDwIdeal.τ).loc Cert.KernelMixDwIdeal.main_arg1) = m ((c.tc : Thread Cert.KernelMixDwIdeal.nD Cert.KernelMixDwIdeal.τ).loc Cert.KernelMixDwIdeal.main_arg1))
      ∧ θ_run (Cert.ReferenceMixDwIdeal.defs (F := Ideal)) (onTc (τ := Cert.ReferenceMixDwIdeal.τ) (Cert.ReferenceMixDwIdeal.main (F := Ideal))) ⟨m', fun _ => 0, g'⟩ (fun r => ∀ c : Dev Cert.ReferenceMixDwIdeal.nD,
          r.2.mem ((c.tc : Thread Cert.ReferenceMixDwIdeal.nD Cert.ReferenceMixDwIdeal.τ).loc Cert.ReferenceMixDwIdeal.main_v6) = v0 c
          ∧ r.2.mem ((c.tc : Thread Cert.ReferenceMixDwIdeal.nD Cert.ReferenceMixDwIdeal.τ).loc Cert.ReferenceMixDwIdeal.main_arg0) = m' ((c.tc : Thread Cert.ReferenceMixDwIdeal.nD Cert.ReferenceMixDwIdeal.τ).loc Cert.ReferenceMixDwIdeal.main_arg0)
          ∧ r.2.mem ((c.tc : Thread Cert.ReferenceMixDwIdeal.nD Cert.ReferenceMixDwIdeal.τ).loc Cert.ReferenceMixDwIdeal.main_arg1) = m' ((c.tc : Thread Cert.ReferenceMixDwIdeal.nD Cert.ReferenceMixDwIdeal.τ).loc Cert.ReferenceMixDwIdeal.main_arg1))

def preserves_KernelMixDw2_KernelMixDw2Ideal : Prop :=
  True

def algebraic_KernelMixDw2Ideal_ReferenceMixDw2Ideal [hKernelMixDw2Ideal : Cert.KernelMixDw2Ideal.Facts] [hReferenceMixDw2Ideal : Cert.ReferenceMixDw2Ideal.Facts] : Prop :=
  ∀ (m : (ℓ : Loc Cert.KernelMixDw2Ideal.nD Cert.KernelMixDw2Ideal.τ Cert.KernelMixDw2Ideal.sig) → Buf (Elt Ideal) ℓ) (g : Dev Cert.KernelMixDw2Ideal.nD → PrngReg)
    (m' : (ℓ : Loc Cert.ReferenceMixDw2Ideal.nD Cert.ReferenceMixDw2Ideal.τ Cert.ReferenceMixDw2Ideal.sig) → Buf (Elt Ideal) ℓ) (g' : Dev Cert.ReferenceMixDw2Ideal.nD → PrngReg), Pre_KernelMixDw2Ideal m →
    (∀ c : Dev Cert.KernelMixDw2Ideal.nD,
      m' ((c.tc : Thread Cert.ReferenceMixDw2Ideal.nD Cert.ReferenceMixDw2Ideal.τ).loc Cert.ReferenceMixDw2Ideal.main_arg0) = m ((c.tc : Thread Cert.KernelMixDw2Ideal.nD Cert.KernelMixDw2Ideal.τ).loc Cert.KernelMixDw2Ideal.main_arg0)
      ∧ m' ((c.tc : Thread Cert.ReferenceMixDw2Ideal.nD Cert.ReferenceMixDw2Ideal.τ).loc Cert.ReferenceMixDw2Ideal.main_arg1) = m ((c.tc : Thread Cert.KernelMixDw2Ideal.nD Cert.KernelMixDw2Ideal.τ).loc Cert.KernelMixDw2Ideal.main_arg1)
      ∧ m' ((c.tc : Thread Cert.ReferenceMixDw2Ideal.nD Cert.ReferenceMixDw2Ideal.τ).loc Cert.ReferenceMixDw2Ideal.main_arg2) = m ((c.tc : Thread Cert.KernelMixDw2Ideal.nD Cert.KernelMixDw2Ideal.τ).loc Cert.KernelMixDw2Ideal.main_arg2)) →
    ∃ (v0 : (c : Dev Cert.KernelMixDw2Ideal.nD) → Buf (Elt Ideal) ((c.tc : Thread Cert.KernelMixDw2Ideal.nD Cert.KernelMixDw2Ideal.τ).loc Cert.KernelMixDw2Ideal.main_v0)),
      θ_run (Cert.KernelMixDw2Ideal.defs (F := Ideal)) (onTc (τ := Cert.KernelMixDw2Ideal.τ) (Cert.KernelMixDw2Ideal.main (F := Ideal))) ⟨m, fun _ => 0, g⟩ (fun r => ∀ c : Dev Cert.KernelMixDw2Ideal.nD,
          r.2.mem ((c.tc : Thread Cert.KernelMixDw2Ideal.nD Cert.KernelMixDw2Ideal.τ).loc Cert.KernelMixDw2Ideal.main_v0) = v0 c
          ∧ r.2.mem ((c.tc : Thread Cert.KernelMixDw2Ideal.nD Cert.KernelMixDw2Ideal.τ).loc Cert.KernelMixDw2Ideal.main_arg0) = m ((c.tc : Thread Cert.KernelMixDw2Ideal.nD Cert.KernelMixDw2Ideal.τ).loc Cert.KernelMixDw2Ideal.main_arg0)
          ∧ r.2.mem ((c.tc : Thread Cert.KernelMixDw2Ideal.nD Cert.KernelMixDw2Ideal.τ).loc Cert.KernelMixDw2Ideal.main_arg1) = m ((c.tc : Thread Cert.KernelMixDw2Ideal.nD Cert.KernelMixDw2Ideal.τ).loc Cert.KernelMixDw2Ideal.main_arg1)
          ∧ r.2.mem ((c.tc : Thread Cert.KernelMixDw2Ideal.nD Cert.KernelMixDw2Ideal.τ).loc Cert.KernelMixDw2Ideal.main_arg2) = m ((c.tc : Thread Cert.KernelMixDw2Ideal.nD Cert.KernelMixDw2Ideal.τ).loc Cert.KernelMixDw2Ideal.main_arg2))
      ∧ θ_run (Cert.ReferenceMixDw2Ideal.defs (F := Ideal)) (onTc (τ := Cert.ReferenceMixDw2Ideal.τ) (Cert.ReferenceMixDw2Ideal.main (F := Ideal))) ⟨m', fun _ => 0, g'⟩ (fun r => ∀ c : Dev Cert.ReferenceMixDw2Ideal.nD,
          r.2.mem ((c.tc : Thread Cert.ReferenceMixDw2Ideal.nD Cert.ReferenceMixDw2Ideal.τ).loc Cert.ReferenceMixDw2Ideal.main_v7) = v0 c
          ∧ r.2.mem ((c.tc : Thread Cert.ReferenceMixDw2Ideal.nD Cert.ReferenceMixDw2Ideal.τ).loc Cert.ReferenceMixDw2Ideal.main_arg0) = m' ((c.tc : Thread Cert.ReferenceMixDw2Ideal.nD Cert.ReferenceMixDw2Ideal.τ).loc Cert.ReferenceMixDw2Ideal.main_arg0)
          ∧ r.2.mem ((c.tc : Thread Cert.ReferenceMixDw2Ideal.nD Cert.ReferenceMixDw2Ideal.τ).loc Cert.ReferenceMixDw2Ideal.main_arg1) = m' ((c.tc : Thread Cert.ReferenceMixDw2Ideal.nD Cert.ReferenceMixDw2Ideal.τ).loc Cert.ReferenceMixDw2Ideal.main_arg1)
          ∧ r.2.mem ((c.tc : Thread Cert.ReferenceMixDw2Ideal.nD Cert.ReferenceMixDw2Ideal.τ).loc Cert.ReferenceMixDw2Ideal.main_arg2) = m' ((c.tc : Thread Cert.ReferenceMixDw2Ideal.nD Cert.ReferenceMixDw2Ideal.τ).loc Cert.ReferenceMixDw2Ideal.main_arg2))

def preserves_KernelAbDw_KernelAbDwIdeal : Prop :=
  True

def algebraic_KernelAbDwIdeal_ReferenceAbDwIdeal [hKernelAbDwIdeal : Cert.KernelAbDwIdeal.Facts] [hReferenceAbDwIdeal : Cert.ReferenceAbDwIdeal.Facts] : Prop :=
  ∀ (m : (ℓ : Loc Cert.KernelAbDwIdeal.nD Cert.KernelAbDwIdeal.τ Cert.KernelAbDwIdeal.sig) → Buf (Elt Ideal) ℓ) (g : Dev Cert.KernelAbDwIdeal.nD → PrngReg)
    (m' : (ℓ : Loc Cert.ReferenceAbDwIdeal.nD Cert.ReferenceAbDwIdeal.τ Cert.ReferenceAbDwIdeal.sig) → Buf (Elt Ideal) ℓ) (g' : Dev Cert.ReferenceAbDwIdeal.nD → PrngReg), Pre_KernelAbDwIdeal m →
    (∀ c : Dev Cert.KernelAbDwIdeal.nD,
      m' ((c.tc : Thread Cert.ReferenceAbDwIdeal.nD Cert.ReferenceAbDwIdeal.τ).loc Cert.ReferenceAbDwIdeal.main_arg0) = m ((c.tc : Thread Cert.KernelAbDwIdeal.nD Cert.KernelAbDwIdeal.τ).loc Cert.KernelAbDwIdeal.main_arg0)
      ∧ m' ((c.tc : Thread Cert.ReferenceAbDwIdeal.nD Cert.ReferenceAbDwIdeal.τ).loc Cert.ReferenceAbDwIdeal.main_arg1) = m ((c.tc : Thread Cert.KernelAbDwIdeal.nD Cert.KernelAbDwIdeal.τ).loc Cert.KernelAbDwIdeal.main_arg1)) →
    ∃ (v0 : (c : Dev Cert.KernelAbDwIdeal.nD) → Buf (Elt Ideal) ((c.tc : Thread Cert.KernelAbDwIdeal.nD Cert.KernelAbDwIdeal.τ).loc Cert.KernelAbDwIdeal.main_v0)),
      θ_run (Cert.KernelAbDwIdeal.defs (F := Ideal)) (onTc (τ := Cert.KernelAbDwIdeal.τ) (Cert.KernelAbDwIdeal.main (F := Ideal))) ⟨m, fun _ => 0, g⟩ (fun r => ∀ c : Dev Cert.KernelAbDwIdeal.nD,
          r.2.mem ((c.tc : Thread Cert.KernelAbDwIdeal.nD Cert.KernelAbDwIdeal.τ).loc Cert.KernelAbDwIdeal.main_v0) = v0 c
          ∧ r.2.mem ((c.tc : Thread Cert.KernelAbDwIdeal.nD Cert.KernelAbDwIdeal.τ).loc Cert.KernelAbDwIdeal.main_arg0) = m ((c.tc : Thread Cert.KernelAbDwIdeal.nD Cert.KernelAbDwIdeal.τ).loc Cert.KernelAbDwIdeal.main_arg0)
          ∧ r.2.mem ((c.tc : Thread Cert.KernelAbDwIdeal.nD Cert.KernelAbDwIdeal.τ).loc Cert.KernelAbDwIdeal.main_arg1) = m ((c.tc : Thread Cert.KernelAbDwIdeal.nD Cert.KernelAbDwIdeal.τ).loc Cert.KernelAbDwIdeal.main_arg1))
      ∧ θ_run (Cert.ReferenceAbDwIdeal.defs (F := Ideal)) (onTc (τ := Cert.ReferenceAbDwIdeal.τ) (Cert.ReferenceAbDwIdeal.main (F := Ideal))) ⟨m', fun _ => 0, g'⟩ (fun r => ∀ c : Dev Cert.ReferenceAbDwIdeal.nD,
          r.2.mem ((c.tc : Thread Cert.ReferenceAbDwIdeal.nD Cert.ReferenceAbDwIdeal.τ).loc Cert.ReferenceAbDwIdeal.main_v8) = v0 c
          ∧ r.2.mem ((c.tc : Thread Cert.ReferenceAbDwIdeal.nD Cert.ReferenceAbDwIdeal.τ).loc Cert.ReferenceAbDwIdeal.main_arg0) = m' ((c.tc : Thread Cert.ReferenceAbDwIdeal.nD Cert.ReferenceAbDwIdeal.τ).loc Cert.ReferenceAbDwIdeal.main_arg0)
          ∧ r.2.mem ((c.tc : Thread Cert.ReferenceAbDwIdeal.nD Cert.ReferenceAbDwIdeal.τ).loc Cert.ReferenceAbDwIdeal.main_arg1) = m' ((c.tc : Thread Cert.ReferenceAbDwIdeal.nD Cert.ReferenceAbDwIdeal.τ).loc Cert.ReferenceAbDwIdeal.main_arg1))

def preserves_KernelQkvDw_KernelQkvDwIdeal : Prop :=
  True

def algebraic_KernelQkvDwIdeal_ReferenceQkvDwIdeal [hKernelQkvDwIdeal : Cert.KernelQkvDwIdeal.Facts] [hReferenceQkvDwIdeal : Cert.ReferenceQkvDwIdeal.Facts] : Prop :=
  ∀ (m : (ℓ : Loc Cert.KernelQkvDwIdeal.nD Cert.KernelQkvDwIdeal.τ Cert.KernelQkvDwIdeal.sig) → Buf (Elt Ideal) ℓ) (g : Dev Cert.KernelQkvDwIdeal.nD → PrngReg)
    (m' : (ℓ : Loc Cert.ReferenceQkvDwIdeal.nD Cert.ReferenceQkvDwIdeal.τ Cert.ReferenceQkvDwIdeal.sig) → Buf (Elt Ideal) ℓ) (g' : Dev Cert.ReferenceQkvDwIdeal.nD → PrngReg), Pre_KernelQkvDwIdeal m →
    (∀ c : Dev Cert.KernelQkvDwIdeal.nD,
      m' ((c.tc : Thread Cert.ReferenceQkvDwIdeal.nD Cert.ReferenceQkvDwIdeal.τ).loc Cert.ReferenceQkvDwIdeal.main_arg0) = m ((c.tc : Thread Cert.KernelQkvDwIdeal.nD Cert.KernelQkvDwIdeal.τ).loc Cert.KernelQkvDwIdeal.main_arg0)
      ∧ m' ((c.tc : Thread Cert.ReferenceQkvDwIdeal.nD Cert.ReferenceQkvDwIdeal.τ).loc Cert.ReferenceQkvDwIdeal.main_arg1) = m ((c.tc : Thread Cert.KernelQkvDwIdeal.nD Cert.KernelQkvDwIdeal.τ).loc Cert.KernelQkvDwIdeal.main_arg1)) →
    ∃ (v0 : (c : Dev Cert.KernelQkvDwIdeal.nD) → Buf (Elt Ideal) ((c.tc : Thread Cert.KernelQkvDwIdeal.nD Cert.KernelQkvDwIdeal.τ).loc Cert.KernelQkvDwIdeal.main_v0)),
      θ_run (Cert.KernelQkvDwIdeal.defs (F := Ideal)) (onTc (τ := Cert.KernelQkvDwIdeal.τ) (Cert.KernelQkvDwIdeal.main (F := Ideal))) ⟨m, fun _ => 0, g⟩ (fun r => ∀ c : Dev Cert.KernelQkvDwIdeal.nD,
          r.2.mem ((c.tc : Thread Cert.KernelQkvDwIdeal.nD Cert.KernelQkvDwIdeal.τ).loc Cert.KernelQkvDwIdeal.main_v0) = v0 c
          ∧ r.2.mem ((c.tc : Thread Cert.KernelQkvDwIdeal.nD Cert.KernelQkvDwIdeal.τ).loc Cert.KernelQkvDwIdeal.main_arg0) = m ((c.tc : Thread Cert.KernelQkvDwIdeal.nD Cert.KernelQkvDwIdeal.τ).loc Cert.KernelQkvDwIdeal.main_arg0)
          ∧ r.2.mem ((c.tc : Thread Cert.KernelQkvDwIdeal.nD Cert.KernelQkvDwIdeal.τ).loc Cert.KernelQkvDwIdeal.main_arg1) = m ((c.tc : Thread Cert.KernelQkvDwIdeal.nD Cert.KernelQkvDwIdeal.τ).loc Cert.KernelQkvDwIdeal.main_arg1))
      ∧ θ_run (Cert.ReferenceQkvDwIdeal.defs (F := Ideal)) (onTc (τ := Cert.ReferenceQkvDwIdeal.τ) (Cert.ReferenceQkvDwIdeal.main (F := Ideal))) ⟨m', fun _ => 0, g'⟩ (fun r => ∀ c : Dev Cert.ReferenceQkvDwIdeal.nD,
          r.2.mem ((c.tc : Thread Cert.ReferenceQkvDwIdeal.nD Cert.ReferenceQkvDwIdeal.τ).loc Cert.ReferenceQkvDwIdeal.main_v7) = v0 c
          ∧ r.2.mem ((c.tc : Thread Cert.ReferenceQkvDwIdeal.nD Cert.ReferenceQkvDwIdeal.τ).loc Cert.ReferenceQkvDwIdeal.main_arg0) = m' ((c.tc : Thread Cert.ReferenceQkvDwIdeal.nD Cert.ReferenceQkvDwIdeal.τ).loc Cert.ReferenceQkvDwIdeal.main_arg0)
          ∧ r.2.mem ((c.tc : Thread Cert.ReferenceQkvDwIdeal.nD Cert.ReferenceQkvDwIdeal.τ).loc Cert.ReferenceQkvDwIdeal.main_arg1) = m' ((c.tc : Thread Cert.ReferenceQkvDwIdeal.nD Cert.ReferenceQkvDwIdeal.τ).loc Cert.ReferenceQkvDwIdeal.main_arg1))

def preserves_KernelAbBwd_KernelAbBwdIdeal : Prop :=
  True

def algebraic_KernelAbBwdIdeal_ReferenceAbBwdIdeal [hKernelAbBwdIdeal : Cert.KernelAbBwdIdeal.Facts] [hReferenceAbBwdIdeal : Cert.ReferenceAbBwdIdeal.Facts] : Prop :=
  ∀ (m : (ℓ : Loc Cert.KernelAbBwdIdeal.nD Cert.KernelAbBwdIdeal.τ Cert.KernelAbBwdIdeal.sig) → Buf (Elt Ideal) ℓ) (g : Dev Cert.KernelAbBwdIdeal.nD → PrngReg)
    (m' : (ℓ : Loc Cert.ReferenceAbBwdIdeal.nD Cert.ReferenceAbBwdIdeal.τ Cert.ReferenceAbBwdIdeal.sig) → Buf (Elt Ideal) ℓ) (g' : Dev Cert.ReferenceAbBwdIdeal.nD → PrngReg), Pre_KernelAbBwdIdeal m →
    (∀ c : Dev Cert.KernelAbBwdIdeal.nD,
      m' ((c.tc : Thread Cert.ReferenceAbBwdIdeal.nD Cert.ReferenceAbBwdIdeal.τ).loc Cert.ReferenceAbBwdIdeal.main_arg0) = m ((c.tc : Thread Cert.KernelAbBwdIdeal.nD Cert.KernelAbBwdIdeal.τ).loc Cert.KernelAbBwdIdeal.main_arg0)
      ∧ m' ((c.tc : Thread Cert.ReferenceAbBwdIdeal.nD Cert.ReferenceAbBwdIdeal.τ).loc Cert.ReferenceAbBwdIdeal.main_arg1) = m ((c.tc : Thread Cert.KernelAbBwdIdeal.nD Cert.KernelAbBwdIdeal.τ).loc Cert.KernelAbBwdIdeal.main_arg1)
      ∧ m' ((c.tc : Thread Cert.ReferenceAbBwdIdeal.nD Cert.ReferenceAbBwdIdeal.τ).loc Cert.ReferenceAbBwdIdeal.main_arg2) = m ((c.tc : Thread Cert.KernelAbBwdIdeal.nD Cert.KernelAbBwdIdeal.τ).loc Cert.KernelAbBwdIdeal.main_arg2)
      ∧ m' ((c.tc : Thread Cert.ReferenceAbBwdIdeal.nD Cert.ReferenceAbBwdIdeal.τ).loc Cert.ReferenceAbBwdIdeal.main_arg3) = m ((c.tc : Thread Cert.KernelAbBwdIdeal.nD Cert.KernelAbBwdIdeal.τ).loc Cert.KernelAbBwdIdeal.main_arg3)
      ∧ m' ((c.tc : Thread Cert.ReferenceAbBwdIdeal.nD Cert.ReferenceAbBwdIdeal.τ).loc Cert.ReferenceAbBwdIdeal.main_arg4) = m ((c.tc : Thread Cert.KernelAbBwdIdeal.nD Cert.KernelAbBwdIdeal.τ).loc Cert.KernelAbBwdIdeal.main_arg4)) →
    ∃ (v0 : (c : Dev Cert.KernelAbBwdIdeal.nD) → Buf (Elt Ideal) ((c.tc : Thread Cert.KernelAbBwdIdeal.nD Cert.KernelAbBwdIdeal.τ).loc Cert.KernelAbBwdIdeal.main_v0_0)) (v1 : (c : Dev Cert.KernelAbBwdIdeal.nD) → Buf (Elt Ideal) ((c.tc : Thread Cert.KernelAbBwdIdeal.nD Cert.KernelAbBwdIdeal.τ).loc Cert.KernelAbBwdIdeal.main_v0_1)),
      θ_run (Cert.KernelAbBwdIdeal.defs (F := Ideal)) (onTc (τ := Cert.KernelAbBwdIdeal.τ) (Cert.KernelAbBwdIdeal.main (F := Ideal))) ⟨m, fun _ => 0, g⟩ (fun r => ∀ c : Dev Cert.KernelAbBwdIdeal.nD,
          r.2.mem ((c.tc : Thread Cert.KernelAbBwdIdeal.nD Cert.KernelAbBwdIdeal.τ).loc Cert.KernelAbBwdIdeal.main_v0_0) = v0 c
          ∧ r.2.mem ((c.tc : Thread Cert.KernelAbBwdIdeal.nD Cert.KernelAbBwdIdeal.τ).loc Cert.KernelAbBwdIdeal.main_v0_1) = v1 c
          ∧ r.2.mem ((c.tc : Thread Cert.KernelAbBwdIdeal.nD Cert.KernelAbBwdIdeal.τ).loc Cert.KernelAbBwdIdeal.main_arg0) = m ((c.tc : Thread Cert.KernelAbBwdIdeal.nD Cert.KernelAbBwdIdeal.τ).loc Cert.KernelAbBwdIdeal.main_arg0)
          ∧ r.2.mem ((c.tc : Thread Cert.KernelAbBwdIdeal.nD Cert.KernelAbBwdIdeal.τ).loc Cert.KernelAbBwdIdeal.main_arg1) = m ((c.tc : Thread Cert.KernelAbBwdIdeal.nD Cert.KernelAbBwdIdeal.τ).loc Cert.KernelAbBwdIdeal.main_arg1)
          ∧ r.2.mem ((c.tc : Thread Cert.KernelAbBwdIdeal.nD Cert.KernelAbBwdIdeal.τ).loc Cert.KernelAbBwdIdeal.main_arg2) = m ((c.tc : Thread Cert.KernelAbBwdIdeal.nD Cert.KernelAbBwdIdeal.τ).loc Cert.KernelAbBwdIdeal.main_arg2)
          ∧ r.2.mem ((c.tc : Thread Cert.KernelAbBwdIdeal.nD Cert.KernelAbBwdIdeal.τ).loc Cert.KernelAbBwdIdeal.main_arg3) = m ((c.tc : Thread Cert.KernelAbBwdIdeal.nD Cert.KernelAbBwdIdeal.τ).loc Cert.KernelAbBwdIdeal.main_arg3)
          ∧ r.2.mem ((c.tc : Thread Cert.KernelAbBwdIdeal.nD Cert.KernelAbBwdIdeal.τ).loc Cert.KernelAbBwdIdeal.main_arg4) = m ((c.tc : Thread Cert.KernelAbBwdIdeal.nD Cert.KernelAbBwdIdeal.τ).loc Cert.KernelAbBwdIdeal.main_arg4))
      ∧ θ_run (Cert.ReferenceAbBwdIdeal.defs (F := Ideal)) (onTc (τ := Cert.ReferenceAbBwdIdeal.τ) (Cert.ReferenceAbBwdIdeal.main (F := Ideal))) ⟨m', fun _ => 0, g'⟩ (fun r => ∀ c : Dev Cert.ReferenceAbBwdIdeal.nD,
          r.2.mem ((c.tc : Thread Cert.ReferenceAbBwdIdeal.nD Cert.ReferenceAbBwdIdeal.τ).loc Cert.ReferenceAbBwdIdeal.main_v42) = v0 c
          ∧ r.2.mem ((c.tc : Thread Cert.ReferenceAbBwdIdeal.nD Cert.ReferenceAbBwdIdeal.τ).loc Cert.ReferenceAbBwdIdeal.main_v43) = v1 c
          ∧ r.2.mem ((c.tc : Thread Cert.ReferenceAbBwdIdeal.nD Cert.ReferenceAbBwdIdeal.τ).loc Cert.ReferenceAbBwdIdeal.main_arg0) = m' ((c.tc : Thread Cert.ReferenceAbBwdIdeal.nD Cert.ReferenceAbBwdIdeal.τ).loc Cert.ReferenceAbBwdIdeal.main_arg0)
          ∧ r.2.mem ((c.tc : Thread Cert.ReferenceAbBwdIdeal.nD Cert.ReferenceAbBwdIdeal.τ).loc Cert.ReferenceAbBwdIdeal.main_arg1) = m' ((c.tc : Thread Cert.ReferenceAbBwdIdeal.nD Cert.ReferenceAbBwdIdeal.τ).loc Cert.ReferenceAbBwdIdeal.main_arg1)
          ∧ r.2.mem ((c.tc : Thread Cert.ReferenceAbBwdIdeal.nD Cert.ReferenceAbBwdIdeal.τ).loc Cert.ReferenceAbBwdIdeal.main_arg2) = m' ((c.tc : Thread Cert.ReferenceAbBwdIdeal.nD Cert.ReferenceAbBwdIdeal.τ).loc Cert.ReferenceAbBwdIdeal.main_arg2)
          ∧ r.2.mem ((c.tc : Thread Cert.ReferenceAbBwdIdeal.nD Cert.ReferenceAbBwdIdeal.τ).loc Cert.ReferenceAbBwdIdeal.main_arg3) = m' ((c.tc : Thread Cert.ReferenceAbBwdIdeal.nD Cert.ReferenceAbBwdIdeal.τ).loc Cert.ReferenceAbBwdIdeal.main_arg3)
          ∧ r.2.mem ((c.tc : Thread Cert.ReferenceAbBwdIdeal.nD Cert.ReferenceAbBwdIdeal.τ).loc Cert.ReferenceAbBwdIdeal.main_arg4) = m' ((c.tc : Thread Cert.ReferenceAbBwdIdeal.nD Cert.ReferenceAbBwdIdeal.τ).loc Cert.ReferenceAbBwdIdeal.main_arg4))

def preserves_KernelQkvBwd_KernelQkvBwdIdeal : Prop :=
  True

def algebraic_KernelQkvBwdIdeal_ReferenceQkvBwdIdeal [hKernelQkvBwdIdeal : Cert.KernelQkvBwdIdeal.Facts] [hReferenceQkvBwdIdeal : Cert.ReferenceQkvBwdIdeal.Facts] : Prop :=
  ∀ (m : (ℓ : Loc Cert.KernelQkvBwdIdeal.nD Cert.KernelQkvBwdIdeal.τ Cert.KernelQkvBwdIdeal.sig) → Buf (Elt Ideal) ℓ) (g : Dev Cert.KernelQkvBwdIdeal.nD → PrngReg)
    (m' : (ℓ : Loc Cert.ReferenceQkvBwdIdeal.nD Cert.ReferenceQkvBwdIdeal.τ Cert.ReferenceQkvBwdIdeal.sig) → Buf (Elt Ideal) ℓ) (g' : Dev Cert.ReferenceQkvBwdIdeal.nD → PrngReg), Pre_KernelQkvBwdIdeal m →
    (∀ c : Dev Cert.KernelQkvBwdIdeal.nD,
      m' ((c.tc : Thread Cert.ReferenceQkvBwdIdeal.nD Cert.ReferenceQkvBwdIdeal.τ).loc Cert.ReferenceQkvBwdIdeal.main_arg0) = m ((c.tc : Thread Cert.KernelQkvBwdIdeal.nD Cert.KernelQkvBwdIdeal.τ).loc Cert.KernelQkvBwdIdeal.main_arg0)
      ∧ m' ((c.tc : Thread Cert.ReferenceQkvBwdIdeal.nD Cert.ReferenceQkvBwdIdeal.τ).loc Cert.ReferenceQkvBwdIdeal.main_arg1) = m ((c.tc : Thread Cert.KernelQkvBwdIdeal.nD Cert.KernelQkvBwdIdeal.τ).loc Cert.KernelQkvBwdIdeal.main_arg1)
      ∧ m' ((c.tc : Thread Cert.ReferenceQkvBwdIdeal.nD Cert.ReferenceQkvBwdIdeal.τ).loc Cert.ReferenceQkvBwdIdeal.main_arg2) = m ((c.tc : Thread Cert.KernelQkvBwdIdeal.nD Cert.KernelQkvBwdIdeal.τ).loc Cert.KernelQkvBwdIdeal.main_arg2)
      ∧ m' ((c.tc : Thread Cert.ReferenceQkvBwdIdeal.nD Cert.ReferenceQkvBwdIdeal.τ).loc Cert.ReferenceQkvBwdIdeal.main_arg3) = m ((c.tc : Thread Cert.KernelQkvBwdIdeal.nD Cert.KernelQkvBwdIdeal.τ).loc Cert.KernelQkvBwdIdeal.main_arg3)
      ∧ m' ((c.tc : Thread Cert.ReferenceQkvBwdIdeal.nD Cert.ReferenceQkvBwdIdeal.τ).loc Cert.ReferenceQkvBwdIdeal.main_arg4) = m ((c.tc : Thread Cert.KernelQkvBwdIdeal.nD Cert.KernelQkvBwdIdeal.τ).loc Cert.KernelQkvBwdIdeal.main_arg4)
      ∧ m' ((c.tc : Thread Cert.ReferenceQkvBwdIdeal.nD Cert.ReferenceQkvBwdIdeal.τ).loc Cert.ReferenceQkvBwdIdeal.main_arg5) = m ((c.tc : Thread Cert.KernelQkvBwdIdeal.nD Cert.KernelQkvBwdIdeal.τ).loc Cert.KernelQkvBwdIdeal.main_arg5)
      ∧ m' ((c.tc : Thread Cert.ReferenceQkvBwdIdeal.nD Cert.ReferenceQkvBwdIdeal.τ).loc Cert.ReferenceQkvBwdIdeal.main_arg6) = m ((c.tc : Thread Cert.KernelQkvBwdIdeal.nD Cert.KernelQkvBwdIdeal.τ).loc Cert.KernelQkvBwdIdeal.main_arg6)) →
    ∃ (v0 : (c : Dev Cert.KernelQkvBwdIdeal.nD) → Buf (Elt Ideal) ((c.tc : Thread Cert.KernelQkvBwdIdeal.nD Cert.KernelQkvBwdIdeal.τ).loc Cert.KernelQkvBwdIdeal.main_v0_0)) (v1 : (c : Dev Cert.KernelQkvBwdIdeal.nD) → Buf (Elt Ideal) ((c.tc : Thread Cert.KernelQkvBwdIdeal.nD Cert.KernelQkvBwdIdeal.τ).loc Cert.KernelQkvBwdIdeal.main_v0_1)),
      θ_run (Cert.KernelQkvBwdIdeal.defs (F := Ideal)) (onTc (τ := Cert.KernelQkvBwdIdeal.τ) (Cert.KernelQkvBwdIdeal.main (F := Ideal))) ⟨m, fun _ => 0, g⟩ (fun r => ∀ c : Dev Cert.KernelQkvBwdIdeal.nD,
          r.2.mem ((c.tc : Thread Cert.KernelQkvBwdIdeal.nD Cert.KernelQkvBwdIdeal.τ).loc Cert.KernelQkvBwdIdeal.main_v0_0) = v0 c
          ∧ r.2.mem ((c.tc : Thread Cert.KernelQkvBwdIdeal.nD Cert.KernelQkvBwdIdeal.τ).loc Cert.KernelQkvBwdIdeal.main_v0_1) = v1 c
          ∧ r.2.mem ((c.tc : Thread Cert.KernelQkvBwdIdeal.nD Cert.KernelQkvBwdIdeal.τ).loc Cert.KernelQkvBwdIdeal.main_arg0) = m ((c.tc : Thread Cert.KernelQkvBwdIdeal.nD Cert.KernelQkvBwdIdeal.τ).loc Cert.KernelQkvBwdIdeal.main_arg0)
          ∧ r.2.mem ((c.tc : Thread Cert.KernelQkvBwdIdeal.nD Cert.KernelQkvBwdIdeal.τ).loc Cert.KernelQkvBwdIdeal.main_arg1) = m ((c.tc : Thread Cert.KernelQkvBwdIdeal.nD Cert.KernelQkvBwdIdeal.τ).loc Cert.KernelQkvBwdIdeal.main_arg1)
          ∧ r.2.mem ((c.tc : Thread Cert.KernelQkvBwdIdeal.nD Cert.KernelQkvBwdIdeal.τ).loc Cert.KernelQkvBwdIdeal.main_arg2) = m ((c.tc : Thread Cert.KernelQkvBwdIdeal.nD Cert.KernelQkvBwdIdeal.τ).loc Cert.KernelQkvBwdIdeal.main_arg2)
          ∧ r.2.mem ((c.tc : Thread Cert.KernelQkvBwdIdeal.nD Cert.KernelQkvBwdIdeal.τ).loc Cert.KernelQkvBwdIdeal.main_arg3) = m ((c.tc : Thread Cert.KernelQkvBwdIdeal.nD Cert.KernelQkvBwdIdeal.τ).loc Cert.KernelQkvBwdIdeal.main_arg3)
          ∧ r.2.mem ((c.tc : Thread Cert.KernelQkvBwdIdeal.nD Cert.KernelQkvBwdIdeal.τ).loc Cert.KernelQkvBwdIdeal.main_arg4) = m ((c.tc : Thread Cert.KernelQkvBwdIdeal.nD Cert.KernelQkvBwdIdeal.τ).loc Cert.KernelQkvBwdIdeal.main_arg4)
          ∧ r.2.mem ((c.tc : Thread Cert.KernelQkvBwdIdeal.nD Cert.KernelQkvBwdIdeal.τ).loc Cert.KernelQkvBwdIdeal.main_arg5) = m ((c.tc : Thread Cert.KernelQkvBwdIdeal.nD Cert.KernelQkvBwdIdeal.τ).loc Cert.KernelQkvBwdIdeal.main_arg5)
          ∧ r.2.mem ((c.tc : Thread Cert.KernelQkvBwdIdeal.nD Cert.KernelQkvBwdIdeal.τ).loc Cert.KernelQkvBwdIdeal.main_arg6) = m ((c.tc : Thread Cert.KernelQkvBwdIdeal.nD Cert.KernelQkvBwdIdeal.τ).loc Cert.KernelQkvBwdIdeal.main_arg6))
      ∧ θ_run (Cert.ReferenceQkvBwdIdeal.defs (F := Ideal)) (onTc (τ := Cert.ReferenceQkvBwdIdeal.τ) (Cert.ReferenceQkvBwdIdeal.main (F := Ideal))) ⟨m', fun _ => 0, g'⟩ (fun r => ∀ c : Dev Cert.ReferenceQkvBwdIdeal.nD,
          r.2.mem ((c.tc : Thread Cert.ReferenceQkvBwdIdeal.nD Cert.ReferenceQkvBwdIdeal.τ).loc Cert.ReferenceQkvBwdIdeal.main_v44) = v0 c
          ∧ r.2.mem ((c.tc : Thread Cert.ReferenceQkvBwdIdeal.nD Cert.ReferenceQkvBwdIdeal.τ).loc Cert.ReferenceQkvBwdIdeal.main_v45) = v1 c
          ∧ r.2.mem ((c.tc : Thread Cert.ReferenceQkvBwdIdeal.nD Cert.ReferenceQkvBwdIdeal.τ).loc Cert.ReferenceQkvBwdIdeal.main_arg0) = m' ((c.tc : Thread Cert.ReferenceQkvBwdIdeal.nD Cert.ReferenceQkvBwdIdeal.τ).loc Cert.ReferenceQkvBwdIdeal.main_arg0)
          ∧ r.2.mem ((c.tc : Thread Cert.ReferenceQkvBwdIdeal.nD Cert.ReferenceQkvBwdIdeal.τ).loc Cert.ReferenceQkvBwdIdeal.main_arg1) = m' ((c.tc : Thread Cert.ReferenceQkvBwdIdeal.nD Cert.ReferenceQkvBwdIdeal.τ).loc Cert.ReferenceQkvBwdIdeal.main_arg1)
          ∧ r.2.mem ((c.tc : Thread Cert.ReferenceQkvBwdIdeal.nD Cert.ReferenceQkvBwdIdeal.τ).loc Cert.ReferenceQkvBwdIdeal.main_arg2) = m' ((c.tc : Thread Cert.ReferenceQkvBwdIdeal.nD Cert.ReferenceQkvBwdIdeal.τ).loc Cert.ReferenceQkvBwdIdeal.main_arg2)
          ∧ r.2.mem ((c.tc : Thread Cert.ReferenceQkvBwdIdeal.nD Cert.ReferenceQkvBwdIdeal.τ).loc Cert.ReferenceQkvBwdIdeal.main_arg3) = m' ((c.tc : Thread Cert.ReferenceQkvBwdIdeal.nD Cert.ReferenceQkvBwdIdeal.τ).loc Cert.ReferenceQkvBwdIdeal.main_arg3)
          ∧ r.2.mem ((c.tc : Thread Cert.ReferenceQkvBwdIdeal.nD Cert.ReferenceQkvBwdIdeal.τ).loc Cert.ReferenceQkvBwdIdeal.main_arg4) = m' ((c.tc : Thread Cert.ReferenceQkvBwdIdeal.nD Cert.ReferenceQkvBwdIdeal.τ).loc Cert.ReferenceQkvBwdIdeal.main_arg4)
          ∧ r.2.mem ((c.tc : Thread Cert.ReferenceQkvBwdIdeal.nD Cert.ReferenceQkvBwdIdeal.τ).loc Cert.ReferenceQkvBwdIdeal.main_arg5) = m' ((c.tc : Thread Cert.ReferenceQkvBwdIdeal.nD Cert.ReferenceQkvBwdIdeal.τ).loc Cert.ReferenceQkvBwdIdeal.main_arg5)
          ∧ r.2.mem ((c.tc : Thread Cert.ReferenceQkvBwdIdeal.nD Cert.ReferenceQkvBwdIdeal.τ).loc Cert.ReferenceQkvBwdIdeal.main_arg6) = m' ((c.tc : Thread Cert.ReferenceQkvBwdIdeal.nD Cert.ReferenceQkvBwdIdeal.τ).loc Cert.ReferenceQkvBwdIdeal.main_arg6))

def preserves_KernelAbFwd_KernelAbFwdIdeal : Prop :=
  True

def algebraic_KernelAbFwdIdeal_ReferenceAbFwdIdeal [hKernelAbFwdIdeal : Cert.KernelAbFwdIdeal.Facts] [hReferenceAbFwdIdeal : Cert.ReferenceAbFwdIdeal.Facts] : Prop :=
  ∀ (m : (ℓ : Loc Cert.KernelAbFwdIdeal.nD Cert.KernelAbFwdIdeal.τ Cert.KernelAbFwdIdeal.sig) → Buf (Elt Ideal) ℓ) (g : Dev Cert.KernelAbFwdIdeal.nD → PrngReg)
    (m' : (ℓ : Loc Cert.ReferenceAbFwdIdeal.nD Cert.ReferenceAbFwdIdeal.τ Cert.ReferenceAbFwdIdeal.sig) → Buf (Elt Ideal) ℓ) (g' : Dev Cert.ReferenceAbFwdIdeal.nD → PrngReg), Pre_KernelAbFwdIdeal m →
    (∀ c : Dev Cert.KernelAbFwdIdeal.nD,
      m' ((c.tc : Thread Cert.ReferenceAbFwdIdeal.nD Cert.ReferenceAbFwdIdeal.τ).loc Cert.ReferenceAbFwdIdeal.main_arg0) = m ((c.tc : Thread Cert.KernelAbFwdIdeal.nD Cert.KernelAbFwdIdeal.τ).loc Cert.KernelAbFwdIdeal.main_arg0)
      ∧ m' ((c.tc : Thread Cert.ReferenceAbFwdIdeal.nD Cert.ReferenceAbFwdIdeal.τ).loc Cert.ReferenceAbFwdIdeal.main_arg1) = m ((c.tc : Thread Cert.KernelAbFwdIdeal.nD Cert.KernelAbFwdIdeal.τ).loc Cert.KernelAbFwdIdeal.main_arg1)
      ∧ m' ((c.tc : Thread Cert.ReferenceAbFwdIdeal.nD Cert.ReferenceAbFwdIdeal.τ).loc Cert.ReferenceAbFwdIdeal.main_arg2) = m ((c.tc : Thread Cert.KernelAbFwdIdeal.nD Cert.KernelAbFwdIdeal.τ).loc Cert.KernelAbFwdIdeal.main_arg2)) →
    ∃ (v0 : (c : Dev Cert.KernelAbFwdIdeal.nD) → Buf (Elt Ideal) ((c.tc : Thread Cert.KernelAbFwdIdeal.nD Cert.KernelAbFwdIdeal.τ).loc Cert.KernelAbFwdIdeal.main_v0_0)) (v1 : (c : Dev Cert.KernelAbFwdIdeal.nD) → Buf (Elt Ideal) ((c.tc : Thread Cert.KernelAbFwdIdeal.nD Cert.KernelAbFwdIdeal.τ).loc Cert.KernelAbFwdIdeal.main_v0_1)),
      θ_run (Cert.KernelAbFwdIdeal.defs (F := Ideal)) (onTc (τ := Cert.KernelAbFwdIdeal.τ) (Cert.KernelAbFwdIdeal.main (F := Ideal))) ⟨m, fun _ => 0, g⟩ (fun r => ∀ c : Dev Cert.KernelAbFwdIdeal.nD,
          r.2.mem ((c.tc : Thread Cert.KernelAbFwdIdeal.nD Cert.KernelAbFwdIdeal.τ).loc Cert.KernelAbFwdIdeal.main_v0_0) = v0 c
          ∧ r.2.mem ((c.tc : Thread Cert.KernelAbFwdIdeal.nD Cert.KernelAbFwdIdeal.τ).loc Cert.KernelAbFwdIdeal.main_v0_1) = v1 c
          ∧ r.2.mem ((c.tc : Thread Cert.KernelAbFwdIdeal.nD Cert.KernelAbFwdIdeal.τ).loc Cert.KernelAbFwdIdeal.main_arg0) = m ((c.tc : Thread Cert.KernelAbFwdIdeal.nD Cert.KernelAbFwdIdeal.τ).loc Cert.KernelAbFwdIdeal.main_arg0)
          ∧ r.2.mem ((c.tc : Thread Cert.KernelAbFwdIdeal.nD Cert.KernelAbFwdIdeal.τ).loc Cert.KernelAbFwdIdeal.main_arg1) = m ((c.tc : Thread Cert.KernelAbFwdIdeal.nD Cert.KernelAbFwdIdeal.τ).loc Cert.KernelAbFwdIdeal.main_arg1)
          ∧ r.2.mem ((c.tc : Thread Cert.KernelAbFwdIdeal.nD Cert.KernelAbFwdIdeal.τ).loc Cert.KernelAbFwdIdeal.main_arg2) = m ((c.tc : Thread Cert.KernelAbFwdIdeal.nD Cert.KernelAbFwdIdeal.τ).loc Cert.KernelAbFwdIdeal.main_arg2))
      ∧ θ_run (Cert.ReferenceAbFwdIdeal.defs (F := Ideal)) (onTc (τ := Cert.ReferenceAbFwdIdeal.τ) (Cert.ReferenceAbFwdIdeal.main (F := Ideal))) ⟨m', fun _ => 0, g'⟩ (fun r => ∀ c : Dev Cert.ReferenceAbFwdIdeal.nD,
          r.2.mem ((c.tc : Thread Cert.ReferenceAbFwdIdeal.nD Cert.ReferenceAbFwdIdeal.τ).loc Cert.ReferenceAbFwdIdeal.main_v14) = v0 c
          ∧ r.2.mem ((c.tc : Thread Cert.ReferenceAbFwdIdeal.nD Cert.ReferenceAbFwdIdeal.τ).loc Cert.ReferenceAbFwdIdeal.main_v17) = v1 c
          ∧ r.2.mem ((c.tc : Thread Cert.ReferenceAbFwdIdeal.nD Cert.ReferenceAbFwdIdeal.τ).loc Cert.ReferenceAbFwdIdeal.main_arg0) = m' ((c.tc : Thread Cert.ReferenceAbFwdIdeal.nD Cert.ReferenceAbFwdIdeal.τ).loc Cert.ReferenceAbFwdIdeal.main_arg0)
          ∧ r.2.mem ((c.tc : Thread Cert.ReferenceAbFwdIdeal.nD Cert.ReferenceAbFwdIdeal.τ).loc Cert.ReferenceAbFwdIdeal.main_arg1) = m' ((c.tc : Thread Cert.ReferenceAbFwdIdeal.nD Cert.ReferenceAbFwdIdeal.τ).loc Cert.ReferenceAbFwdIdeal.main_arg1)
          ∧ r.2.mem ((c.tc : Thread Cert.ReferenceAbFwdIdeal.nD Cert.ReferenceAbFwdIdeal.τ).loc Cert.ReferenceAbFwdIdeal.main_arg2) = m' ((c.tc : Thread Cert.ReferenceAbFwdIdeal.nD Cert.ReferenceAbFwdIdeal.τ).loc Cert.ReferenceAbFwdIdeal.main_arg2))

def preserves_KernelQkvFwd_KernelQkvFwdIdeal : Prop :=
  True

def algebraic_KernelQkvFwdIdeal_ReferenceQkvFwdIdeal [hKernelQkvFwdIdeal : Cert.KernelQkvFwdIdeal.Facts] [hReferenceQkvFwdIdeal : Cert.ReferenceQkvFwdIdeal.Facts] : Prop :=
  ∀ (m : (ℓ : Loc Cert.KernelQkvFwdIdeal.nD Cert.KernelQkvFwdIdeal.τ Cert.KernelQkvFwdIdeal.sig) → Buf (Elt Ideal) ℓ) (g : Dev Cert.KernelQkvFwdIdeal.nD → PrngReg)
    (m' : (ℓ : Loc Cert.ReferenceQkvFwdIdeal.nD Cert.ReferenceQkvFwdIdeal.τ Cert.ReferenceQkvFwdIdeal.sig) → Buf (Elt Ideal) ℓ) (g' : Dev Cert.ReferenceQkvFwdIdeal.nD → PrngReg), Pre_KernelQkvFwdIdeal m →
    (∀ c : Dev Cert.KernelQkvFwdIdeal.nD,
      m' ((c.tc : Thread Cert.ReferenceQkvFwdIdeal.nD Cert.ReferenceQkvFwdIdeal.τ).loc Cert.ReferenceQkvFwdIdeal.main_arg0) = m ((c.tc : Thread Cert.KernelQkvFwdIdeal.nD Cert.KernelQkvFwdIdeal.τ).loc Cert.KernelQkvFwdIdeal.main_arg0)
      ∧ m' ((c.tc : Thread Cert.ReferenceQkvFwdIdeal.nD Cert.ReferenceQkvFwdIdeal.τ).loc Cert.ReferenceQkvFwdIdeal.main_arg1) = m ((c.tc : Thread Cert.KernelQkvFwdIdeal.nD Cert.KernelQkvFwdIdeal.τ).loc Cert.KernelQkvFwdIdeal.main_arg1)
      ∧ m' ((c.tc : Thread Cert.ReferenceQkvFwdIdeal.nD Cert.ReferenceQkvFwdIdeal.τ).loc Cert.ReferenceQkvFwdIdeal.main_arg2) = m ((c.tc : Thread Cert.KernelQkvFwdIdeal.nD Cert.KernelQkvFwdIdeal.τ).loc Cert.KernelQkvFwdIdeal.main_arg2)) →
    ∃ (v0 : (c : Dev Cert.KernelQkvFwdIdeal.nD) → Buf (Elt Ideal) ((c.tc : Thread Cert.KernelQkvFwdIdeal.nD Cert.KernelQkvFwdIdeal.τ).loc Cert.KernelQkvFwdIdeal.main_v0_0)) (v1 : (c : Dev Cert.KernelQkvFwdIdeal.nD) → Buf (Elt Ideal) ((c.tc : Thread Cert.KernelQkvFwdIdeal.nD Cert.KernelQkvFwdIdeal.τ).loc Cert.KernelQkvFwdIdeal.main_v0_1)),
      θ_run (Cert.KernelQkvFwdIdeal.defs (F := Ideal)) (onTc (τ := Cert.KernelQkvFwdIdeal.τ) (Cert.KernelQkvFwdIdeal.main (F := Ideal))) ⟨m, fun _ => 0, g⟩ (fun r => ∀ c : Dev Cert.KernelQkvFwdIdeal.nD,
          r.2.mem ((c.tc : Thread Cert.KernelQkvFwdIdeal.nD Cert.KernelQkvFwdIdeal.τ).loc Cert.KernelQkvFwdIdeal.main_v0_0) = v0 c
          ∧ r.2.mem ((c.tc : Thread Cert.KernelQkvFwdIdeal.nD Cert.KernelQkvFwdIdeal.τ).loc Cert.KernelQkvFwdIdeal.main_v0_1) = v1 c
          ∧ r.2.mem ((c.tc : Thread Cert.KernelQkvFwdIdeal.nD Cert.KernelQkvFwdIdeal.τ).loc Cert.KernelQkvFwdIdeal.main_arg0) = m ((c.tc : Thread Cert.KernelQkvFwdIdeal.nD Cert.KernelQkvFwdIdeal.τ).loc Cert.KernelQkvFwdIdeal.main_arg0)
          ∧ r.2.mem ((c.tc : Thread Cert.KernelQkvFwdIdeal.nD Cert.KernelQkvFwdIdeal.τ).loc Cert.KernelQkvFwdIdeal.main_arg1) = m ((c.tc : Thread Cert.KernelQkvFwdIdeal.nD Cert.KernelQkvFwdIdeal.τ).loc Cert.KernelQkvFwdIdeal.main_arg1)
          ∧ r.2.mem ((c.tc : Thread Cert.KernelQkvFwdIdeal.nD Cert.KernelQkvFwdIdeal.τ).loc Cert.KernelQkvFwdIdeal.main_arg2) = m ((c.tc : Thread Cert.KernelQkvFwdIdeal.nD Cert.KernelQkvFwdIdeal.τ).loc Cert.KernelQkvFwdIdeal.main_arg2))
      ∧ θ_run (Cert.ReferenceQkvFwdIdeal.defs (F := Ideal)) (onTc (τ := Cert.ReferenceQkvFwdIdeal.τ) (Cert.ReferenceQkvFwdIdeal.main (F := Ideal))) ⟨m', fun _ => 0, g'⟩ (fun r => ∀ c : Dev Cert.ReferenceQkvFwdIdeal.nD,
          r.2.mem ((c.tc : Thread Cert.ReferenceQkvFwdIdeal.nD Cert.ReferenceQkvFwdIdeal.τ).loc Cert.ReferenceQkvFwdIdeal.main_v17) = v0 c
          ∧ r.2.mem ((c.tc : Thread Cert.ReferenceQkvFwdIdeal.nD Cert.ReferenceQkvFwdIdeal.τ).loc Cert.ReferenceQkvFwdIdeal.main_v19) = v1 c
          ∧ r.2.mem ((c.tc : Thread Cert.ReferenceQkvFwdIdeal.nD Cert.ReferenceQkvFwdIdeal.τ).loc Cert.ReferenceQkvFwdIdeal.main_arg0) = m' ((c.tc : Thread Cert.ReferenceQkvFwdIdeal.nD Cert.ReferenceQkvFwdIdeal.τ).loc Cert.ReferenceQkvFwdIdeal.main_arg0)
          ∧ r.2.mem ((c.tc : Thread Cert.ReferenceQkvFwdIdeal.nD Cert.ReferenceQkvFwdIdeal.τ).loc Cert.ReferenceQkvFwdIdeal.main_arg1) = m' ((c.tc : Thread Cert.ReferenceQkvFwdIdeal.nD Cert.ReferenceQkvFwdIdeal.τ).loc Cert.ReferenceQkvFwdIdeal.main_arg1)
          ∧ r.2.mem ((c.tc : Thread Cert.ReferenceQkvFwdIdeal.nD Cert.ReferenceQkvFwdIdeal.τ).loc Cert.ReferenceQkvFwdIdeal.main_arg2) = m' ((c.tc : Thread Cert.ReferenceQkvFwdIdeal.nD Cert.ReferenceQkvFwdIdeal.τ).loc Cert.ReferenceQkvFwdIdeal.main_arg2))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)
      ∧ m' ((c.tc : Thread Cert.ReferenceAdamInIdeal.nD Cert.ReferenceAdamInIdeal.τ).loc Cert.ReferenceAdamInIdeal.main_arg5) = m ((c.tc : Thread Cert.KernelAdamInIdeal.nD Cert.KernelAdamInIdeal.τ).loc Cert.KernelAdamInIdeal.main_arg5)
      ∧ m' ((c.tc : Thread Cert.ReferenceAdamInIdeal.nD Cert.ReferenceAdamInIdeal.τ).loc Cert.ReferenceAdamInIdeal.main_arg6) = m ((c.tc : Thread Cert.KernelAdamInIdeal.nD Cert.KernelAdamInIdeal.τ).loc Cert.KernelAdamInIdeal.main_arg6)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
          ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5)
          ∧ r.2.mem ((c.tc : Thread Cert.KernelAdamInIdeal.nD Cert.KernelAdamInIdeal.τ).loc Cert.KernelAdamInIdeal.main_arg6) = m ((c.tc : Thread Cert.KernelAdamInIdeal.nD Cert.KernelAdamInIdeal.τ).loc Cert.KernelAdamInIdeal.main_arg6))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v6) = v0 c
          ∧ r.2.mem ((c.tc : Thread Cert.ReferenceAdamInIdeal.nD Cert.ReferenceAdamInIdeal.τ).loc Cert.ReferenceAdamInIdeal.main_v30) = v1 c
          ∧ r.2.mem ((c.tc : Thread Cert.ReferenceAdamInIdeal.nD Cert.ReferenceAdamInIdeal.τ).loc Cert.ReferenceAdamInIdeal.main_v11) = v2 c
          ∧ r.2.mem ((c.tc : Thread Cert.ReferenceAdamInIdeal.nD Cert.ReferenceAdamInIdeal.τ).loc Cert.ReferenceAdamInIdeal.main_v17) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4)
          ∧ r.2.mem ((c.tc : Thread Cert.ReferenceAdamInIdeal.nD Cert.ReferenceAdamInIdeal.τ).loc Cert.ReferenceAdamInIdeal.main_arg5) = m' ((c.tc : Thread Cert.ReferenceAdamInIdeal.nD Cert.ReferenceAdamInIdeal.τ).loc Cert.ReferenceAdamInIdeal.main_arg5)
          ∧ r.2.mem ((c.tc : Thread Cert.ReferenceAdamInIdeal.nD Cert.ReferenceAdamInIdeal.τ).loc Cert.ReferenceAdamInIdeal.main_arg6) = m' ((c.tc : Thread Cert.ReferenceAdamInIdeal.nD Cert.ReferenceAdamInIdeal.τ).loc Cert.ReferenceAdamInIdeal.main_arg6))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)
      ∧ m' ((c.tc : Thread Cert.ReferenceAdamOutIdeal.nD Cert.ReferenceAdamOutIdeal.τ).loc Cert.ReferenceAdamOutIdeal.main_arg5) = m ((c.tc : Thread Cert.KernelAdamOutIdeal.nD Cert.KernelAdamOutIdeal.τ).loc Cert.KernelAdamOutIdeal.main_arg5)
      ∧ m' ((c.tc : Thread Cert.ReferenceAdamOutIdeal.nD Cert.ReferenceAdamOutIdeal.τ).loc Cert.ReferenceAdamOutIdeal.main_arg6) = m ((c.tc : Thread Cert.KernelAdamOutIdeal.nD Cert.KernelAdamOutIdeal.τ).loc Cert.KernelAdamOutIdeal.main_arg6)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
          ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5)
          ∧ r.2.mem ((c.tc : Thread Cert.KernelAdamOutIdeal.nD Cert.KernelAdamOutIdeal.τ).loc Cert.KernelAdamOutIdeal.main_arg6) = m ((c.tc : Thread Cert.KernelAdamOutIdeal.nD Cert.KernelAdamOutIdeal.τ).loc Cert.KernelAdamOutIdeal.main_arg6))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v6) = v0 c
          ∧ r.2.mem ((c.tc : Thread Cert.ReferenceAdamOutIdeal.nD Cert.ReferenceAdamOutIdeal.τ).loc Cert.ReferenceAdamOutIdeal.main_v30) = v1 c
          ∧ r.2.mem ((c.tc : Thread Cert.ReferenceAdamOutIdeal.nD Cert.ReferenceAdamOutIdeal.τ).loc Cert.ReferenceAdamOutIdeal.main_v11) = v2 c
          ∧ r.2.mem ((c.tc : Thread Cert.ReferenceAdamOutIdeal.nD Cert.ReferenceAdamOutIdeal.τ).loc Cert.ReferenceAdamOutIdeal.main_v17) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4)
          ∧ r.2.mem ((c.tc : Thread Cert.ReferenceAdamOutIdeal.nD Cert.ReferenceAdamOutIdeal.τ).loc Cert.ReferenceAdamOutIdeal.main_arg5) = m' ((c.tc : Thread Cert.ReferenceAdamOutIdeal.nD Cert.ReferenceAdamOutIdeal.τ).loc Cert.ReferenceAdamOutIdeal.main_arg5)
          ∧ r.2.mem ((c.tc : Thread Cert.ReferenceAdamOutIdeal.nD Cert.ReferenceAdamOutIdeal.τ).loc Cert.ReferenceAdamOutIdeal.main_arg6) = m' ((c.tc : Thread Cert.ReferenceAdamOutIdeal.nD Cert.ReferenceAdamOutIdeal.τ).loc Cert.ReferenceAdamOutIdeal.main_arg6))

def preserves_KernelAdamMix_KernelAdamMixIdeal : Prop :=
  True

def algebraic_KernelAdamMixIdeal_ReferenceAdamMixIdeal [hKernelAdamMixIdeal : Cert.KernelAdamMixIdeal.Facts] [hReferenceAdamMixIdeal : Cert.ReferenceAdamMixIdeal.Facts] : Prop :=
  ∀ (m : (ℓ : Loc Cert.KernelAdamMixIdeal.nD Cert.KernelAdamMixIdeal.τ Cert.KernelAdamMixIdeal.sig) → Buf (Elt Ideal) ℓ) (g : Dev Cert.KernelAdamMixIdeal.nD → PrngReg)
    (m' : (ℓ : Loc Cert.ReferenceAdamMixIdeal.nD Cert.ReferenceAdamMixIdeal.τ Cert.ReferenceAdamMixIdeal.sig) → Buf (Elt Ideal) ℓ) (g' : Dev Cert.ReferenceAdamMixIdeal.nD → PrngReg), Pre_KernelAdamMixIdeal m →
    (∀ c : Dev Cert.KernelAdamMixIdeal.nD,
      m' ((c.tc : Thread Cert.ReferenceAdamMixIdeal.nD Cert.ReferenceAdamMixIdeal.τ).loc Cert.ReferenceAdamMixIdeal.main_arg0) = m ((c.tc : Thread Cert.KernelAdamMixIdeal.nD Cert.KernelAdamMixIdeal.τ).loc Cert.KernelAdamMixIdeal.main_arg0)
      ∧ m' ((c.tc : Thread Cert.ReferenceAdamMixIdeal.nD Cert.ReferenceAdamMixIdeal.τ).loc Cert.ReferenceAdamMixIdeal.main_arg1) = m ((c.tc : Thread Cert.KernelAdamMixIdeal.nD Cert.KernelAdamMixIdeal.τ).loc Cert.KernelAdamMixIdeal.main_arg1)
      ∧ m' ((c.tc : Thread Cert.ReferenceAdamMixIdeal.nD Cert.ReferenceAdamMixIdeal.τ).loc Cert.ReferenceAdamMixIdeal.main_arg2) = m ((c.tc : Thread Cert.KernelAdamMixIdeal.nD Cert.KernelAdamMixIdeal.τ).loc Cert.KernelAdamMixIdeal.main_arg2)
      ∧ m' ((c.tc : Thread Cert.ReferenceAdamMixIdeal.nD Cert.ReferenceAdamMixIdeal.τ).loc Cert.ReferenceAdamMixIdeal.main_arg3) = m ((c.tc : Thread Cert.KernelAdamMixIdeal.nD Cert.KernelAdamMixIdeal.τ).loc Cert.KernelAdamMixIdeal.main_arg3)
      ∧ m' ((c.tc : Thread Cert.ReferenceAdamMixIdeal.nD Cert.ReferenceAdamMixIdeal.τ).loc Cert.ReferenceAdamMixIdeal.main_arg4) = m ((c.tc : Thread Cert.KernelAdamMixIdeal.nD Cert.KernelAdamMixIdeal.τ).loc Cert.KernelAdamMixIdeal.main_arg4)) →
    ∃ (v0 : (c : Dev Cert.KernelAdamMixIdeal.nD) → Buf (Elt Ideal) ((c.tc : Thread Cert.KernelAdamMixIdeal.nD Cert.KernelAdamMixIdeal.τ).loc Cert.KernelAdamMixIdeal.main_v0_0)) (v1 : (c : Dev Cert.KernelAdamMixIdeal.nD) → Buf (Elt Ideal) ((c.tc : Thread Cert.KernelAdamMixIdeal.nD Cert.KernelAdamMixIdeal.τ).loc Cert.KernelAdamMixIdeal.main_v0_1)) (v2 : (c : Dev Cert.KernelAdamMixIdeal.nD) → Buf (Elt Ideal) ((c.tc : Thread Cert.KernelAdamMixIdeal.nD Cert.KernelAdamMixIdeal.τ).loc Cert.KernelAdamMixIdeal.main_v0_2)) (v3 : (c : Dev Cert.KernelAdamMixIdeal.nD) → Buf (Elt Ideal) ((c.tc : Thread Cert.KernelAdamMixIdeal.nD Cert.KernelAdamMixIdeal.τ).loc Cert.KernelAdamMixIdeal.main_v0_3)),
      θ_run (Cert.KernelAdamMixIdeal.defs (F := Ideal)) (onTc (τ := Cert.KernelAdamMixIdeal.τ) (Cert.KernelAdamMixIdeal.main (F := Ideal))) ⟨m, fun _ => 0, g⟩ (fun r => ∀ c : Dev Cert.KernelAdamMixIdeal.nD,
          r.2.mem ((c.tc : Thread Cert.KernelAdamMixIdeal.nD Cert.KernelAdamMixIdeal.τ).loc Cert.KernelAdamMixIdeal.main_v0_0) = v0 c
          ∧ r.2.mem ((c.tc : Thread Cert.KernelAdamMixIdeal.nD Cert.KernelAdamMixIdeal.τ).loc Cert.KernelAdamMixIdeal.main_v0_1) = v1 c
          ∧ r.2.mem ((c.tc : Thread Cert.KernelAdamMixIdeal.nD Cert.KernelAdamMixIdeal.τ).loc Cert.KernelAdamMixIdeal.main_v0_2) = v2 c
          ∧ r.2.mem ((c.tc : Thread Cert.KernelAdamMixIdeal.nD Cert.KernelAdamMixIdeal.τ).loc Cert.KernelAdamMixIdeal.main_v0_3) = v3 c
          ∧ r.2.mem ((c.tc : Thread Cert.KernelAdamMixIdeal.nD Cert.KernelAdamMixIdeal.τ).loc Cert.KernelAdamMixIdeal.main_arg0) = m ((c.tc : Thread Cert.KernelAdamMixIdeal.nD Cert.KernelAdamMixIdeal.τ).loc Cert.KernelAdamMixIdeal.main_arg0)
          ∧ r.2.mem ((c.tc : Thread Cert.KernelAdamMixIdeal.nD Cert.KernelAdamMixIdeal.τ).loc Cert.KernelAdamMixIdeal.main_arg1) = m ((c.tc : Thread Cert.KernelAdamMixIdeal.nD Cert.KernelAdamMixIdeal.τ).loc Cert.KernelAdamMixIdeal.main_arg1)
          ∧ r.2.mem ((c.tc : Thread Cert.KernelAdamMixIdeal.nD Cert.KernelAdamMixIdeal.τ).loc Cert.KernelAdamMixIdeal.main_arg2) = m ((c.tc : Thread Cert.KernelAdamMixIdeal.nD Cert.KernelAdamMixIdeal.τ).loc Cert.KernelAdamMixIdeal.main_arg2)
          ∧ r.2.mem ((c.tc : Thread Cert.KernelAdamMixIdeal.nD Cert.KernelAdamMixIdeal.τ).loc Cert.KernelAdamMixIdeal.main_arg3) = m ((c.tc : Thread Cert.KernelAdamMixIdeal.nD Cert.KernelAdamMixIdeal.τ).loc Cert.KernelAdamMixIdeal.main_arg3)
          ∧ r.2.mem ((c.tc : Thread Cert.KernelAdamMixIdeal.nD Cert.KernelAdamMixIdeal.τ).loc Cert.KernelAdamMixIdeal.main_arg4) = m ((c.tc : Thread Cert.KernelAdamMixIdeal.nD Cert.KernelAdamMixIdeal.τ).loc Cert.KernelAdamMixIdeal.main_arg4))
      ∧ θ_run (Cert.ReferenceAdamMixIdeal.defs (F := Ideal)) (onTc (τ := Cert.ReferenceAdamMixIdeal.τ) (Cert.ReferenceAdamMixIdeal.main (F := Ideal))) ⟨m', fun _ => 0, g'⟩ (fun r => ∀ c : Dev Cert.ReferenceAdamMixIdeal.nD,
          r.2.mem ((c.tc : Thread Cert.ReferenceAdamMixIdeal.nD Cert.ReferenceAdamMixIdeal.τ).loc Cert.ReferenceAdamMixIdeal.main_v4) = v0 c
          ∧ r.2.mem ((c.tc : Thread Cert.ReferenceAdamMixIdeal.nD Cert.ReferenceAdamMixIdeal.τ).loc Cert.ReferenceAdamMixIdeal.main_v28) = v1 c
          ∧ r.2.mem ((c.tc : Thread Cert.ReferenceAdamMixIdeal.nD Cert.ReferenceAdamMixIdeal.τ).loc Cert.ReferenceAdamMixIdeal.main_v9) = v2 c
          ∧ r.2.mem ((c.tc : Thread Cert.ReferenceAdamMixIdeal.nD Cert.ReferenceAdamMixIdeal.τ).loc Cert.ReferenceAdamMixIdeal.main_v15) = v3 c
          ∧ r.2.mem ((c.tc : Thread Cert.ReferenceAdamMixIdeal.nD Cert.ReferenceAdamMixIdeal.τ).loc Cert.ReferenceAdamMixIdeal.main_arg0) = m' ((c.tc : Thread Cert.ReferenceAdamMixIdeal.nD Cert.ReferenceAdamMixIdeal.τ).loc Cert.ReferenceAdamMixIdeal.main_arg0)
          ∧ r.2.mem ((c.tc : Thread Cert.ReferenceAdamMixIdeal.nD Cert.ReferenceAdamMixIdeal.τ).loc Cert.ReferenceAdamMixIdeal.main_arg1) = m' ((c.tc : Thread Cert.ReferenceAdamMixIdeal.nD Cert.ReferenceAdamMixIdeal.τ).loc Cert.ReferenceAdamMixIdeal.main_arg1)
          ∧ r.2.mem ((c.tc : Thread Cert.ReferenceAdamMixIdeal.nD Cert.ReferenceAdamMixIdeal.τ).loc Cert.ReferenceAdamMixIdeal.main_arg2) = m' ((c.tc : Thread Cert.ReferenceAdamMixIdeal.nD Cert.ReferenceAdamMixIdeal.τ).loc Cert.ReferenceAdamMixIdeal.main_arg2)
          ∧ r.2.mem ((c.tc : Thread Cert.ReferenceAdamMixIdeal.nD Cert.ReferenceAdamMixIdeal.τ).loc Cert.ReferenceAdamMixIdeal.main_arg3) = m' ((c.tc : Thread Cert.ReferenceAdamMixIdeal.nD Cert.ReferenceAdamMixIdeal.τ).loc Cert.ReferenceAdamMixIdeal.main_arg3)
          ∧ r.2.mem ((c.tc : Thread Cert.ReferenceAdamMixIdeal.nD Cert.ReferenceAdamMixIdeal.τ).loc Cert.ReferenceAdamMixIdeal.main_arg4) = m' ((c.tc : Thread Cert.ReferenceAdamMixIdeal.nD Cert.ReferenceAdamMixIdeal.τ).loc Cert.ReferenceAdamMixIdeal.main_arg4))

def preserves_KernelAdamAb_KernelAdamAbIdeal : Prop :=
  True

def algebraic_KernelAdamAbIdeal_ReferenceAdamAbIdeal [hKernelAdamAbIdeal : Cert.KernelAdamAbIdeal.Facts] [hReferenceAdamAbIdeal : Cert.ReferenceAdamAbIdeal.Facts] : Prop :=
  ∀ (m : (ℓ : Loc Cert.KernelAdamAbIdeal.nD Cert.KernelAdamAbIdeal.τ Cert.KernelAdamAbIdeal.sig) → Buf (Elt Ideal) ℓ) (g : Dev Cert.KernelAdamAbIdeal.nD → PrngReg)
    (m' : (ℓ : Loc Cert.ReferenceAdamAbIdeal.nD Cert.ReferenceAdamAbIdeal.τ Cert.ReferenceAdamAbIdeal.sig) → Buf (Elt Ideal) ℓ) (g' : Dev Cert.ReferenceAdamAbIdeal.nD → PrngReg), Pre_KernelAdamAbIdeal m →
    (∀ c : Dev Cert.KernelAdamAbIdeal.nD,
      m' ((c.tc : Thread Cert.ReferenceAdamAbIdeal.nD Cert.ReferenceAdamAbIdeal.τ).loc Cert.ReferenceAdamAbIdeal.main_arg0) = m ((c.tc : Thread Cert.KernelAdamAbIdeal.nD Cert.KernelAdamAbIdeal.τ).loc Cert.KernelAdamAbIdeal.main_arg0)
      ∧ m' ((c.tc : Thread Cert.ReferenceAdamAbIdeal.nD Cert.ReferenceAdamAbIdeal.τ).loc Cert.ReferenceAdamAbIdeal.main_arg1) = m ((c.tc : Thread Cert.KernelAdamAbIdeal.nD Cert.KernelAdamAbIdeal.τ).loc Cert.KernelAdamAbIdeal.main_arg1)
      ∧ m' ((c.tc : Thread Cert.ReferenceAdamAbIdeal.nD Cert.ReferenceAdamAbIdeal.τ).loc Cert.ReferenceAdamAbIdeal.main_arg2) = m ((c.tc : Thread Cert.KernelAdamAbIdeal.nD Cert.KernelAdamAbIdeal.τ).loc Cert.KernelAdamAbIdeal.main_arg2)
      ∧ m' ((c.tc : Thread Cert.ReferenceAdamAbIdeal.nD Cert.ReferenceAdamAbIdeal.τ).loc Cert.ReferenceAdamAbIdeal.main_arg3) = m ((c.tc : Thread Cert.KernelAdamAbIdeal.nD Cert.KernelAdamAbIdeal.τ).loc Cert.KernelAdamAbIdeal.main_arg3)
      ∧ m' ((c.tc : Thread Cert.ReferenceAdamAbIdeal.nD Cert.ReferenceAdamAbIdeal.τ).loc Cert.ReferenceAdamAbIdeal.main_arg4) = m ((c.tc : Thread Cert.KernelAdamAbIdeal.nD Cert.KernelAdamAbIdeal.τ).loc Cert.KernelAdamAbIdeal.main_arg4)) →
    ∃ (v0 : (c : Dev Cert.KernelAdamAbIdeal.nD) → Buf (Elt Ideal) ((c.tc : Thread Cert.KernelAdamAbIdeal.nD Cert.KernelAdamAbIdeal.τ).loc Cert.KernelAdamAbIdeal.main_v0_0)) (v1 : (c : Dev Cert.KernelAdamAbIdeal.nD) → Buf (Elt Ideal) ((c.tc : Thread Cert.KernelAdamAbIdeal.nD Cert.KernelAdamAbIdeal.τ).loc Cert.KernelAdamAbIdeal.main_v0_1)) (v2 : (c : Dev Cert.KernelAdamAbIdeal.nD) → Buf (Elt Ideal) ((c.tc : Thread Cert.KernelAdamAbIdeal.nD Cert.KernelAdamAbIdeal.τ).loc Cert.KernelAdamAbIdeal.main_v0_2)) (v3 : (c : Dev Cert.KernelAdamAbIdeal.nD) → Buf (Elt Ideal) ((c.tc : Thread Cert.KernelAdamAbIdeal.nD Cert.KernelAdamAbIdeal.τ).loc Cert.KernelAdamAbIdeal.main_v0_3)),
      θ_run (Cert.KernelAdamAbIdeal.defs (F := Ideal)) (onTc (τ := Cert.KernelAdamAbIdeal.τ) (Cert.KernelAdamAbIdeal.main (F := Ideal))) ⟨m, fun _ => 0, g⟩ (fun r => ∀ c : Dev Cert.KernelAdamAbIdeal.nD,
          r.2.mem ((c.tc : Thread Cert.KernelAdamAbIdeal.nD Cert.KernelAdamAbIdeal.τ).loc Cert.KernelAdamAbIdeal.main_v0_0) = v0 c
          ∧ r.2.mem ((c.tc : Thread Cert.KernelAdamAbIdeal.nD Cert.KernelAdamAbIdeal.τ).loc Cert.KernelAdamAbIdeal.main_v0_1) = v1 c
          ∧ r.2.mem ((c.tc : Thread Cert.KernelAdamAbIdeal.nD Cert.KernelAdamAbIdeal.τ).loc Cert.KernelAdamAbIdeal.main_v0_2) = v2 c
          ∧ r.2.mem ((c.tc : Thread Cert.KernelAdamAbIdeal.nD Cert.KernelAdamAbIdeal.τ).loc Cert.KernelAdamAbIdeal.main_v0_3) = v3 c
          ∧ r.2.mem ((c.tc : Thread Cert.KernelAdamAbIdeal.nD Cert.KernelAdamAbIdeal.τ).loc Cert.KernelAdamAbIdeal.main_arg0) = m ((c.tc : Thread Cert.KernelAdamAbIdeal.nD Cert.KernelAdamAbIdeal.τ).loc Cert.KernelAdamAbIdeal.main_arg0)
          ∧ r.2.mem ((c.tc : Thread Cert.KernelAdamAbIdeal.nD Cert.KernelAdamAbIdeal.τ).loc Cert.KernelAdamAbIdeal.main_arg1) = m ((c.tc : Thread Cert.KernelAdamAbIdeal.nD Cert.KernelAdamAbIdeal.τ).loc Cert.KernelAdamAbIdeal.main_arg1)
          ∧ r.2.mem ((c.tc : Thread Cert.KernelAdamAbIdeal.nD Cert.KernelAdamAbIdeal.τ).loc Cert.KernelAdamAbIdeal.main_arg2) = m ((c.tc : Thread Cert.KernelAdamAbIdeal.nD Cert.KernelAdamAbIdeal.τ).loc Cert.KernelAdamAbIdeal.main_arg2)
          ∧ r.2.mem ((c.tc : Thread Cert.KernelAdamAbIdeal.nD Cert.KernelAdamAbIdeal.τ).loc Cert.KernelAdamAbIdeal.main_arg3) = m ((c.tc : Thread Cert.KernelAdamAbIdeal.nD Cert.KernelAdamAbIdeal.τ).loc Cert.KernelAdamAbIdeal.main_arg3)
          ∧ r.2.mem ((c.tc : Thread Cert.KernelAdamAbIdeal.nD Cert.KernelAdamAbIdeal.τ).loc Cert.KernelAdamAbIdeal.main_arg4) = m ((c.tc : Thread Cert.KernelAdamAbIdeal.nD Cert.KernelAdamAbIdeal.τ).loc Cert.KernelAdamAbIdeal.main_arg4))
      ∧ θ_run (Cert.ReferenceAdamAbIdeal.defs (F := Ideal)) (onTc (τ := Cert.ReferenceAdamAbIdeal.τ) (Cert.ReferenceAdamAbIdeal.main (F := Ideal))) ⟨m', fun _ => 0, g'⟩ (fun r => ∀ c : Dev Cert.ReferenceAdamAbIdeal.nD,
          r.2.mem ((c.tc : Thread Cert.ReferenceAdamAbIdeal.nD Cert.ReferenceAdamAbIdeal.τ).loc Cert.ReferenceAdamAbIdeal.main_v4) = v0 c
          ∧ r.2.mem ((c.tc : Thread Cert.ReferenceAdamAbIdeal.nD Cert.ReferenceAdamAbIdeal.τ).loc Cert.ReferenceAdamAbIdeal.main_v28) = v1 c
          ∧ r.2.mem ((c.tc : Thread Cert.ReferenceAdamAbIdeal.nD Cert.ReferenceAdamAbIdeal.τ).loc Cert.ReferenceAdamAbIdeal.main_v9) = v2 c
          ∧ r.2.mem ((c.tc : Thread Cert.ReferenceAdamAbIdeal.nD Cert.ReferenceAdamAbIdeal.τ).loc Cert.ReferenceAdamAbIdeal.main_v15) = v3 c
          ∧ r.2.mem ((c.tc : Thread Cert.ReferenceAdamAbIdeal.nD Cert.ReferenceAdamAbIdeal.τ).loc Cert.ReferenceAdamAbIdeal.main_arg0) = m' ((c.tc : Thread Cert.ReferenceAdamAbIdeal.nD Cert.ReferenceAdamAbIdeal.τ).loc Cert.ReferenceAdamAbIdeal.main_arg0)
          ∧ r.2.mem ((c.tc : Thread Cert.ReferenceAdamAbIdeal.nD Cert.ReferenceAdamAbIdeal.τ).loc Cert.ReferenceAdamAbIdeal.main_arg1) = m' ((c.tc : Thread Cert.ReferenceAdamAbIdeal.nD Cert.ReferenceAdamAbIdeal.τ).loc Cert.ReferenceAdamAbIdeal.main_arg1)
          ∧ r.2.mem ((c.tc : Thread Cert.ReferenceAdamAbIdeal.nD Cert.ReferenceAdamAbIdeal.τ).loc Cert.ReferenceAdamAbIdeal.main_arg2) = m' ((c.tc : Thread Cert.ReferenceAdamAbIdeal.nD Cert.ReferenceAdamAbIdeal.τ).loc Cert.ReferenceAdamAbIdeal.main_arg2)
          ∧ r.2.mem ((c.tc : Thread Cert.ReferenceAdamAbIdeal.nD Cert.ReferenceAdamAbIdeal.τ).loc Cert.ReferenceAdamAbIdeal.main_arg3) = m' ((c.tc : Thread Cert.ReferenceAdamAbIdeal.nD Cert.ReferenceAdamAbIdeal.τ).loc Cert.ReferenceAdamAbIdeal.main_arg3)
          ∧ r.2.mem ((c.tc : Thread Cert.ReferenceAdamAbIdeal.nD Cert.ReferenceAdamAbIdeal.τ).loc Cert.ReferenceAdamAbIdeal.main_arg4) = m' ((c.tc : Thread Cert.ReferenceAdamAbIdeal.nD Cert.ReferenceAdamAbIdeal.τ).loc Cert.ReferenceAdamAbIdeal.main_arg4))

def preserves_KernelAdamQkv_KernelAdamQkvIdeal : Prop :=
  True

def algebraic_KernelAdamQkvIdeal_ReferenceAdamQkvIdeal [hKernelAdamQkvIdeal : Cert.KernelAdamQkvIdeal.Facts] [hReferenceAdamQkvIdeal : Cert.ReferenceAdamQkvIdeal.Facts] : Prop :=
  ∀ (m : (ℓ : Loc Cert.KernelAdamQkvIdeal.nD Cert.KernelAdamQkvIdeal.τ Cert.KernelAdamQkvIdeal.sig) → Buf (Elt Ideal) ℓ) (g : Dev Cert.KernelAdamQkvIdeal.nD → PrngReg)
    (m' : (ℓ : Loc Cert.ReferenceAdamQkvIdeal.nD Cert.ReferenceAdamQkvIdeal.τ Cert.ReferenceAdamQkvIdeal.sig) → Buf (Elt Ideal) ℓ) (g' : Dev Cert.ReferenceAdamQkvIdeal.nD → PrngReg), Pre_KernelAdamQkvIdeal m →
    (∀ c : Dev Cert.KernelAdamQkvIdeal.nD,
      m' ((c.tc : Thread Cert.ReferenceAdamQkvIdeal.nD Cert.ReferenceAdamQkvIdeal.τ).loc Cert.ReferenceAdamQkvIdeal.main_arg0) = m ((c.tc : Thread Cert.KernelAdamQkvIdeal.nD Cert.KernelAdamQkvIdeal.τ).loc Cert.KernelAdamQkvIdeal.main_arg0)
      ∧ m' ((c.tc : Thread Cert.ReferenceAdamQkvIdeal.nD Cert.ReferenceAdamQkvIdeal.τ).loc Cert.ReferenceAdamQkvIdeal.main_arg1) = m ((c.tc : Thread Cert.KernelAdamQkvIdeal.nD Cert.KernelAdamQkvIdeal.τ).loc Cert.KernelAdamQkvIdeal.main_arg1)
      ∧ m' ((c.tc : Thread Cert.ReferenceAdamQkvIdeal.nD Cert.ReferenceAdamQkvIdeal.τ).loc Cert.ReferenceAdamQkvIdeal.main_arg2) = m ((c.tc : Thread Cert.KernelAdamQkvIdeal.nD Cert.KernelAdamQkvIdeal.τ).loc Cert.KernelAdamQkvIdeal.main_arg2)
      ∧ m' ((c.tc : Thread Cert.ReferenceAdamQkvIdeal.nD Cert.ReferenceAdamQkvIdeal.τ).loc Cert.ReferenceAdamQkvIdeal.main_arg3) = m ((c.tc : Thread Cert.KernelAdamQkvIdeal.nD Cert.KernelAdamQkvIdeal.τ).loc Cert.KernelAdamQkvIdeal.main_arg3)
      ∧ m' ((c.tc : Thread Cert.ReferenceAdamQkvIdeal.nD Cert.ReferenceAdamQkvIdeal.τ).loc Cert.ReferenceAdamQkvIdeal.main_arg4) = m ((c.tc : Thread Cert.KernelAdamQkvIdeal.nD Cert.KernelAdamQkvIdeal.τ).loc Cert.KernelAdamQkvIdeal.main_arg4)) →
    ∃ (v0 : (c : Dev Cert.KernelAdamQkvIdeal.nD) → Buf (Elt Ideal) ((c.tc : Thread Cert.KernelAdamQkvIdeal.nD Cert.KernelAdamQkvIdeal.τ).loc Cert.KernelAdamQkvIdeal.main_v0_0)) (v1 : (c : Dev Cert.KernelAdamQkvIdeal.nD) → Buf (Elt Ideal) ((c.tc : Thread Cert.KernelAdamQkvIdeal.nD Cert.KernelAdamQkvIdeal.τ).loc Cert.KernelAdamQkvIdeal.main_v0_1)) (v2 : (c : Dev Cert.KernelAdamQkvIdeal.nD) → Buf (Elt Ideal) ((c.tc : Thread Cert.KernelAdamQkvIdeal.nD Cert.KernelAdamQkvIdeal.τ).loc Cert.KernelAdamQkvIdeal.main_v0_2)) (v3 : (c : Dev Cert.KernelAdamQkvIdeal.nD) → Buf (Elt Ideal) ((c.tc : Thread Cert.KernelAdamQkvIdeal.nD Cert.KernelAdamQkvIdeal.τ).loc Cert.KernelAdamQkvIdeal.main_v0_3)),
      θ_run (Cert.KernelAdamQkvIdeal.defs (F := Ideal)) (onTc (τ := Cert.KernelAdamQkvIdeal.τ) (Cert.KernelAdamQkvIdeal.main (F := Ideal))) ⟨m, fun _ => 0, g⟩ (fun r => ∀ c : Dev Cert.KernelAdamQkvIdeal.nD,
          r.2.mem ((c.tc : Thread Cert.KernelAdamQkvIdeal.nD Cert.KernelAdamQkvIdeal.τ).loc Cert.KernelAdamQkvIdeal.main_v0_0) = v0 c
          ∧ r.2.mem ((c.tc : Thread Cert.KernelAdamQkvIdeal.nD Cert.KernelAdamQkvIdeal.τ).loc Cert.KernelAdamQkvIdeal.main_v0_1) = v1 c
          ∧ r.2.mem ((c.tc : Thread Cert.KernelAdamQkvIdeal.nD Cert.KernelAdamQkvIdeal.τ).loc Cert.KernelAdamQkvIdeal.main_v0_2) = v2 c
          ∧ r.2.mem ((c.tc : Thread Cert.KernelAdamQkvIdeal.nD Cert.KernelAdamQkvIdeal.τ).loc Cert.KernelAdamQkvIdeal.main_v0_3) = v3 c
          ∧ r.2.mem ((c.tc : Thread Cert.KernelAdamQkvIdeal.nD Cert.KernelAdamQkvIdeal.τ).loc Cert.KernelAdamQkvIdeal.main_arg0) = m ((c.tc : Thread Cert.KernelAdamQkvIdeal.nD Cert.KernelAdamQkvIdeal.τ).loc Cert.KernelAdamQkvIdeal.main_arg0)
          ∧ r.2.mem ((c.tc : Thread Cert.KernelAdamQkvIdeal.nD Cert.KernelAdamQkvIdeal.τ).loc Cert.KernelAdamQkvIdeal.main_arg1) = m ((c.tc : Thread Cert.KernelAdamQkvIdeal.nD Cert.KernelAdamQkvIdeal.τ).loc Cert.KernelAdamQkvIdeal.main_arg1)
          ∧ r.2.mem ((c.tc : Thread Cert.KernelAdamQkvIdeal.nD Cert.KernelAdamQkvIdeal.τ).loc Cert.KernelAdamQkvIdeal.main_arg2) = m ((c.tc : Thread Cert.KernelAdamQkvIdeal.nD Cert.KernelAdamQkvIdeal.τ).loc Cert.KernelAdamQkvIdeal.main_arg2)
          ∧ r.2.mem ((c.tc : Thread Cert.KernelAdamQkvIdeal.nD Cert.KernelAdamQkvIdeal.τ).loc Cert.KernelAdamQkvIdeal.main_arg3) = m ((c.tc : Thread Cert.KernelAdamQkvIdeal.nD Cert.KernelAdamQkvIdeal.τ).loc Cert.KernelAdamQkvIdeal.main_arg3)
          ∧ r.2.mem ((c.tc : Thread Cert.KernelAdamQkvIdeal.nD Cert.KernelAdamQkvIdeal.τ).loc Cert.KernelAdamQkvIdeal.main_arg4) = m ((c.tc : Thread Cert.KernelAdamQkvIdeal.nD Cert.KernelAdamQkvIdeal.τ).loc Cert.KernelAdamQkvIdeal.main_arg4))
      ∧ θ_run (Cert.ReferenceAdamQkvIdeal.defs (F := Ideal)) (onTc (τ := Cert.ReferenceAdamQkvIdeal.τ) (Cert.ReferenceAdamQkvIdeal.main (F := Ideal))) ⟨m', fun _ => 0, g'⟩ (fun r => ∀ c : Dev Cert.ReferenceAdamQkvIdeal.nD,
          r.2.mem ((c.tc : Thread Cert.ReferenceAdamQkvIdeal.nD Cert.ReferenceAdamQkvIdeal.τ).loc Cert.ReferenceAdamQkvIdeal.main_v4) = v0 c
          ∧ r.2.mem ((c.tc : Thread Cert.ReferenceAdamQkvIdeal.nD Cert.ReferenceAdamQkvIdeal.τ).loc Cert.ReferenceAdamQkvIdeal.main_v28) = v1 c
          ∧ r.2.mem ((c.tc : Thread Cert.ReferenceAdamQkvIdeal.nD Cert.ReferenceAdamQkvIdeal.τ).loc Cert.ReferenceAdamQkvIdeal.main_v9) = v2 c
          ∧ r.2.mem ((c.tc : Thread Cert.ReferenceAdamQkvIdeal.nD Cert.ReferenceAdamQkvIdeal.τ).loc Cert.ReferenceAdamQkvIdeal.main_v15) = v3 c
          ∧ r.2.mem ((c.tc : Thread Cert.ReferenceAdamQkvIdeal.nD Cert.ReferenceAdamQkvIdeal.τ).loc Cert.ReferenceAdamQkvIdeal.main_arg0) = m' ((c.tc : Thread Cert.ReferenceAdamQkvIdeal.nD Cert.ReferenceAdamQkvIdeal.τ).loc Cert.ReferenceAdamQkvIdeal.main_arg0)
          ∧ r.2.mem ((c.tc : Thread Cert.ReferenceAdamQkvIdeal.nD Cert.ReferenceAdamQkvIdeal.τ).loc Cert.ReferenceAdamQkvIdeal.main_arg1) = m' ((c.tc : Thread Cert.ReferenceAdamQkvIdeal.nD Cert.ReferenceAdamQkvIdeal.τ).loc Cert.ReferenceAdamQkvIdeal.main_arg1)
          ∧ r.2.mem ((c.tc : Thread Cert.ReferenceAdamQkvIdeal.nD Cert.ReferenceAdamQkvIdeal.τ).loc Cert.ReferenceAdamQkvIdeal.main_arg2) = m' ((c.tc : Thread Cert.ReferenceAdamQkvIdeal.nD Cert.ReferenceAdamQkvIdeal.τ).loc Cert.ReferenceAdamQkvIdeal.main_arg2)
          ∧ r.2.mem ((c.tc : Thread Cert.ReferenceAdamQkvIdeal.nD Cert.ReferenceAdamQkvIdeal.τ).loc Cert.ReferenceAdamQkvIdeal.main_arg3) = m' ((c.tc : Thread Cert.ReferenceAdamQkvIdeal.nD Cert.ReferenceAdamQkvIdeal.τ).loc Cert.ReferenceAdamQkvIdeal.main_arg3)
          ∧ r.2.mem ((c.tc : Thread Cert.ReferenceAdamQkvIdeal.nD Cert.ReferenceAdamQkvIdeal.τ).loc Cert.ReferenceAdamQkvIdeal.main_arg4) = m' ((c.tc : Thread Cert.ReferenceAdamQkvIdeal.nD Cert.ReferenceAdamQkvIdeal.τ).loc Cert.ReferenceAdamQkvIdeal.main_arg4))

def preserves_KernelAttnFwd_KernelAttnFwdIdeal : Prop :=
  IdealRules.named_const.Statement Cert.KernelAttnFwdIdeal.κ "mask" .f32 0xF149F2CA#32 ⊥

def algebraic_KernelAttnFwdIdeal_ReferenceAttnFwdIdeal_pre_finite_attn [hKernelAttnFwdIdeal : Cert.KernelAttnFwdIdeal.Facts] [hReferenceAttnFwdIdeal : Cert.ReferenceAttnFwdIdeal.Facts] [hPre_finite_attn : Cert.Pre_finite_attn.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg)
    (m' : (ℓ : Loc Cert.ReferenceAttnFwdIdeal.nD Cert.ReferenceAttnFwdIdeal.τ Cert.ReferenceAttnFwdIdeal.sig) → Buf (Elt Ideal) ℓ) (g' : Dev Cert.ReferenceAttnFwdIdeal.nD → PrngReg), Pre_KernelAttnFwdIdeal_finite_attn m →
    (∀ c : Dev Cert.KernelAttnFwdIdeal.nD,
      m' ((c.tc : Thread Cert.ReferenceAttnFwdIdeal.nD Cert.ReferenceAttnFwdIdeal.τ).loc Cert.ReferenceAttnFwdIdeal.main_arg0) = m ((c.tc : Thread Cert.KernelAttnFwdIdeal.nD Cert.KernelAttnFwdIdeal.τ).loc Cert.KernelAttnFwdIdeal.main_arg0)
      ∧ m' ((c.tc : Thread Cert.ReferenceAttnFwdIdeal.nD Cert.ReferenceAttnFwdIdeal.τ).loc Cert.ReferenceAttnFwdIdeal.main_arg1) = m ((c.tc : Thread Cert.KernelAttnFwdIdeal.nD Cert.KernelAttnFwdIdeal.τ).loc Cert.KernelAttnFwdIdeal.main_arg1)) →
    ∃ (v0 : (c : Dev Cert.KernelAttnFwdIdeal.nD) → Buf (Elt Ideal) ((c.tc : Thread Cert.KernelAttnFwdIdeal.nD Cert.KernelAttnFwdIdeal.τ).loc Cert.KernelAttnFwdIdeal.main_v0)),
      θ_run (Cert.KernelAttnFwdIdeal.defs (F := Ideal)) (onTc (τ := Cert.KernelAttnFwdIdeal.τ) (Cert.KernelAttnFwdIdeal.main (F := Ideal))) ⟨m, fun _ => 0, g⟩ (fun r => ∀ c : Dev Cert.KernelAttnFwdIdeal.nD,
          r.2.mem ((c.tc : Thread Cert.KernelAttnFwdIdeal.nD Cert.KernelAttnFwdIdeal.τ).loc Cert.KernelAttnFwdIdeal.main_v0) = v0 c
          ∧ r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
          ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1))
      ∧ θ_run (Cert.ReferenceAttnFwdIdeal.defs (F := Ideal)) (onTc (τ := Cert.ReferenceAttnFwdIdeal.τ) (Cert.ReferenceAttnFwdIdeal.main (F := Ideal))) ⟨m', fun _ => 0, g'⟩ (fun r => ∀ c : Dev Cert.ReferenceAttnFwdIdeal.nD,
          r.2.mem ((c.tc : Thread Cert.ReferenceAttnFwdIdeal.nD Cert.ReferenceAttnFwdIdeal.τ).loc Cert.ReferenceAttnFwdIdeal.main_v50) = v0 c
          ∧ r.2.mem ((c.tc : Thread Cert.ReferenceAttnFwdIdeal.nD Cert.ReferenceAttnFwdIdeal.τ).loc Cert.ReferenceAttnFwdIdeal.main_arg0) = m' ((c.tc : Thread Cert.ReferenceAttnFwdIdeal.nD Cert.ReferenceAttnFwdIdeal.τ).loc Cert.ReferenceAttnFwdIdeal.main_arg0)
          ∧ r.2.mem ((c.tc : Thread Cert.ReferenceAttnFwdIdeal.nD Cert.ReferenceAttnFwdIdeal.τ).loc Cert.ReferenceAttnFwdIdeal.main_arg1) = m' ((c.tc : Thread Cert.ReferenceAttnFwdIdeal.nD Cert.ReferenceAttnFwdIdeal.τ).loc Cert.ReferenceAttnFwdIdeal.main_arg1))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)
      ∧ m' ((c.tc : Thread Cert.ReferenceAdamSmallIdeal.nD Cert.ReferenceAdamSmallIdeal.τ).loc Cert.ReferenceAdamSmallIdeal.main_arg4) = m ((c.tc : Thread Cert.KernelAdamSmallIdeal.nD Cert.KernelAdamSmallIdeal.τ).loc Cert.KernelAdamSmallIdeal.main_arg4)
      ∧ m' ((c.tc : Thread Cert.ReferenceAdamSmallIdeal.nD Cert.ReferenceAdamSmallIdeal.τ).loc Cert.ReferenceAdamSmallIdeal.main_arg5) = m ((c.tc : Thread Cert.KernelAdamSmallIdeal.nD Cert.KernelAdamSmallIdeal.τ).loc Cert.KernelAdamSmallIdeal.main_arg5)
      ∧ m' ((c.tc : Thread Cert.ReferenceAdamSmallIdeal.nD Cert.ReferenceAdamSmallIdeal.τ).loc Cert.ReferenceAdamSmallIdeal.main_arg6) = m ((c.tc : Thread Cert.KernelAdamSmallIdeal.nD Cert.KernelAdamSmallIdeal.τ).loc Cert.KernelAdamSmallIdeal.main_arg6)
      ∧ m' ((c.tc : Thread Cert.ReferenceAdamSmallIdeal.nD Cert.ReferenceAdamSmallIdeal.τ).loc Cert.ReferenceAdamSmallIdeal.main_arg7) = m ((c.tc : Thread Cert.KernelAdamSmallIdeal.nD Cert.KernelAdamSmallIdeal.τ).loc Cert.KernelAdamSmallIdeal.main_arg7)
      ∧ m' ((c.tc : Thread Cert.ReferenceAdamSmallIdeal.nD Cert.ReferenceAdamSmallIdeal.τ).loc Cert.ReferenceAdamSmallIdeal.main_arg8) = m ((c.tc : Thread Cert.KernelAdamSmallIdeal.nD Cert.KernelAdamSmallIdeal.τ).loc Cert.KernelAdamSmallIdeal.main_arg8)
      ∧ m' ((c.tc : Thread Cert.ReferenceAdamSmallIdeal.nD Cert.ReferenceAdamSmallIdeal.τ).loc Cert.ReferenceAdamSmallIdeal.main_arg9) = m ((c.tc : Thread Cert.KernelAdamSmallIdeal.nD Cert.KernelAdamSmallIdeal.τ).loc Cert.KernelAdamSmallIdeal.main_arg9)
      ∧ m' ((c.tc : Thread Cert.ReferenceAdamSmallIdeal.nD Cert.ReferenceAdamSmallIdeal.τ).loc Cert.ReferenceAdamSmallIdeal.main_arg10) = m ((c.tc : Thread Cert.KernelAdamSmallIdeal.nD Cert.KernelAdamSmallIdeal.τ).loc Cert.KernelAdamSmallIdeal.main_arg10)
      ∧ m' ((c.tc : Thread Cert.ReferenceAdamSmallIdeal.nD Cert.ReferenceAdamSmallIdeal.τ).loc Cert.ReferenceAdamSmallIdeal.main_arg11) = m ((c.tc : Thread Cert.KernelAdamSmallIdeal.nD Cert.KernelAdamSmallIdeal.τ).loc Cert.KernelAdamSmallIdeal.main_arg11)
      ∧ m' ((c.tc : Thread Cert.ReferenceAdamSmallIdeal.nD Cert.ReferenceAdamSmallIdeal.τ).loc Cert.ReferenceAdamSmallIdeal.main_arg12) = m ((c.tc : Thread Cert.KernelAdamSmallIdeal.nD Cert.KernelAdamSmallIdeal.τ).loc Cert.KernelAdamSmallIdeal.main_arg12)
      ∧ m' ((c.tc : Thread Cert.ReferenceAdamSmallIdeal.nD Cert.ReferenceAdamSmallIdeal.τ).loc Cert.ReferenceAdamSmallIdeal.main_arg13) = m ((c.tc : Thread Cert.KernelAdamSmallIdeal.nD Cert.KernelAdamSmallIdeal.τ).loc Cert.KernelAdamSmallIdeal.main_arg13)
      ∧ m' ((c.tc : Thread Cert.ReferenceAdamSmallIdeal.nD Cert.ReferenceAdamSmallIdeal.τ).loc Cert.ReferenceAdamSmallIdeal.main_arg14) = m ((c.tc : Thread Cert.KernelAdamSmallIdeal.nD Cert.KernelAdamSmallIdeal.τ).loc Cert.KernelAdamSmallIdeal.main_arg14)
      ∧ m' ((c.tc : Thread Cert.ReferenceAdamSmallIdeal.nD Cert.ReferenceAdamSmallIdeal.τ).loc Cert.ReferenceAdamSmallIdeal.main_arg15) = m ((c.tc : Thread Cert.KernelAdamSmallIdeal.nD Cert.KernelAdamSmallIdeal.τ).loc Cert.KernelAdamSmallIdeal.main_arg15)
      ∧ m' ((c.tc : Thread Cert.ReferenceAdamSmallIdeal.nD Cert.ReferenceAdamSmallIdeal.τ).loc Cert.ReferenceAdamSmallIdeal.main_arg16) = m ((c.tc : Thread Cert.KernelAdamSmallIdeal.nD Cert.KernelAdamSmallIdeal.τ).loc Cert.KernelAdamSmallIdeal.main_arg16)
      ∧ m' ((c.tc : Thread Cert.ReferenceAdamSmallIdeal.nD Cert.ReferenceAdamSmallIdeal.τ).loc Cert.ReferenceAdamSmallIdeal.main_arg17) = m ((c.tc : Thread Cert.KernelAdamSmallIdeal.nD Cert.KernelAdamSmallIdeal.τ).loc Cert.KernelAdamSmallIdeal.main_arg17)
      ∧ m' ((c.tc : Thread Cert.ReferenceAdamSmallIdeal.nD Cert.ReferenceAdamSmallIdeal.τ).loc Cert.ReferenceAdamSmallIdeal.main_arg18) = m ((c.tc : Thread Cert.KernelAdamSmallIdeal.nD Cert.KernelAdamSmallIdeal.τ).loc Cert.KernelAdamSmallIdeal.main_arg18)
      ∧ m' ((c.tc : Thread Cert.ReferenceAdamSmallIdeal.nD Cert.ReferenceAdamSmallIdeal.τ).loc Cert.ReferenceAdamSmallIdeal.main_arg19) = m ((c.tc : Thread Cert.KernelAdamSmallIdeal.nD Cert.KernelAdamSmallIdeal.τ).loc Cert.KernelAdamSmallIdeal.main_arg19)
      ∧ m' ((c.tc : Thread Cert.ReferenceAdamSmallIdeal.nD Cert.ReferenceAdamSmallIdeal.τ).loc Cert.ReferenceAdamSmallIdeal.main_arg20) = m ((c.tc : Thread Cert.KernelAdamSmallIdeal.nD Cert.KernelAdamSmallIdeal.τ).loc Cert.KernelAdamSmallIdeal.main_arg20)
      ∧ m' ((c.tc : Thread Cert.ReferenceAdamSmallIdeal.nD Cert.ReferenceAdamSmallIdeal.τ).loc Cert.ReferenceAdamSmallIdeal.main_arg21) = m ((c.tc : Thread Cert.KernelAdamSmallIdeal.nD Cert.KernelAdamSmallIdeal.τ).loc Cert.KernelAdamSmallIdeal.main_arg21)
      ∧ m' ((c.tc : Thread Cert.ReferenceAdamSmallIdeal.nD Cert.ReferenceAdamSmallIdeal.τ).loc Cert.ReferenceAdamSmallIdeal.main_arg22) = m ((c.tc : Thread Cert.KernelAdamSmallIdeal.nD Cert.KernelAdamSmallIdeal.τ).loc Cert.KernelAdamSmallIdeal.main_arg22)
      ∧ m' ((c.tc : Thread Cert.ReferenceAdamSmallIdeal.nD Cert.ReferenceAdamSmallIdeal.τ).loc Cert.ReferenceAdamSmallIdeal.main_arg23) = m ((c.tc : Thread Cert.KernelAdamSmallIdeal.nD Cert.KernelAdamSmallIdeal.τ).loc Cert.KernelAdamSmallIdeal.main_arg23)
      ∧ m' ((c.tc : Thread Cert.ReferenceAdamSmallIdeal.nD Cert.ReferenceAdamSmallIdeal.τ).loc Cert.ReferenceAdamSmallIdeal.main_arg24) = m ((c.tc : Thread Cert.KernelAdamSmallIdeal.nD Cert.KernelAdamSmallIdeal.τ).loc Cert.KernelAdamSmallIdeal.main_arg24)
      ∧ m' ((c.tc : Thread Cert.ReferenceAdamSmallIdeal.nD Cert.ReferenceAdamSmallIdeal.τ).loc Cert.ReferenceAdamSmallIdeal.main_arg25) = m ((c.tc : Thread Cert.KernelAdamSmallIdeal.nD Cert.KernelAdamSmallIdeal.τ).loc Cert.KernelAdamSmallIdeal.main_arg25)
      ∧ m' ((c.tc : Thread Cert.ReferenceAdamSmallIdeal.nD Cert.ReferenceAdamSmallIdeal.τ).loc Cert.ReferenceAdamSmallIdeal.main_arg26) = m ((c.tc : Thread Cert.KernelAdamSmallIdeal.nD Cert.KernelAdamSmallIdeal.τ).loc Cert.KernelAdamSmallIdeal.main_arg26)
      ∧ m' ((c.tc : Thread Cert.ReferenceAdamSmallIdeal.nD Cert.ReferenceAdamSmallIdeal.τ).loc Cert.ReferenceAdamSmallIdeal.main_arg27) = m ((c.tc : Thread Cert.KernelAdamSmallIdeal.nD Cert.KernelAdamSmallIdeal.τ).loc Cert.KernelAdamSmallIdeal.main_arg27)
      ∧ m' ((c.tc : Thread Cert.ReferenceAdamSmallIdeal.nD Cert.ReferenceAdamSmallIdeal.τ).loc Cert.ReferenceAdamSmallIdeal.main_arg28) = m ((c.tc : Thread Cert.KernelAdamSmallIdeal.nD Cert.KernelAdamSmallIdeal.τ).loc Cert.KernelAdamSmallIdeal.main_arg28)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)) (v4 : (c : Dev Cert.KernelAdamSmallIdeal.nD) → Buf (Elt Ideal) ((c.tc : Thread Cert.KernelAdamSmallIdeal.nD Cert.KernelAdamSmallIdeal.τ).loc Cert.KernelAdamSmallIdeal.main_v0_4)) (v5 : (c : Dev Cert.KernelAdamSmallIdeal.nD) → Buf (Elt Ideal) ((c.tc : Thread Cert.KernelAdamSmallIdeal.nD Cert.KernelAdamSmallIdeal.τ).loc Cert.KernelAdamSmallIdeal.main_v0_5)) (v6 : (c : Dev Cert.KernelAdamSmallIdeal.nD) → Buf (Elt Ideal) ((c.tc : Thread Cert.KernelAdamSmallIdeal.nD Cert.KernelAdamSmallIdeal.τ).loc Cert.KernelAdamSmallIdeal.main_v0_6)) (v7 : (c : Dev Cert.KernelAdamSmallIdeal.nD) → Buf (Elt Ideal) ((c.tc : Thread Cert.KernelAdamSmallIdeal.nD Cert.KernelAdamSmallIdeal.τ).loc Cert.KernelAdamSmallIdeal.main_v0_7)) (v8 : (c : Dev Cert.KernelAdamSmallIdeal.nD) → Buf (Elt Ideal) ((c.tc : Thread Cert.KernelAdamSmallIdeal.nD Cert.KernelAdamSmallIdeal.τ).loc Cert.KernelAdamSmallIdeal.main_v0_8)) (v9 : (c : Dev Cert.KernelAdamSmallIdeal.nD) → Buf (Elt Ideal) ((c.tc : Thread Cert.KernelAdamSmallIdeal.nD Cert.KernelAdamSmallIdeal.τ).loc Cert.KernelAdamSmallIdeal.main_v0_9)) (v10 : (c : Dev Cert.KernelAdamSmallIdeal.nD) → Buf (Elt Ideal) ((c.tc : Thread Cert.KernelAdamSmallIdeal.nD Cert.KernelAdamSmallIdeal.τ).loc Cert.KernelAdamSmallIdeal.main_v0_10)) (v11 : (c : Dev Cert.KernelAdamSmallIdeal.nD) → Buf (Elt Ideal) ((c.tc : Thread Cert.KernelAdamSmallIdeal.nD Cert.KernelAdamSmallIdeal.τ).loc Cert.KernelAdamSmallIdeal.main_v0_11)) (v12 : (c : Dev Cert.KernelAdamSmallIdeal.nD) → Buf (Elt Ideal) ((c.tc : Thread Cert.KernelAdamSmallIdeal.nD Cert.KernelAdamSmallIdeal.τ).loc Cert.KernelAdamSmallIdeal.main_v0_12)) (v13 : (c : Dev Cert.KernelAdamSmallIdeal.nD) → Buf (Elt Ideal) ((c.tc : Thread Cert.KernelAdamSmallIdeal.nD Cert.KernelAdamSmallIdeal.τ).loc Cert.KernelAdamSmallIdeal.main_v0_13)) (v14 : (c : Dev Cert.KernelAdamSmallIdeal.nD) → Buf (Elt Ideal) ((c.tc : Thread Cert.KernelAdamSmallIdeal.nD Cert.KernelAdamSmallIdeal.τ).loc Cert.KernelAdamSmallIdeal.main_v0_14)) (v15 : (c : Dev Cert.KernelAdamSmallIdeal.nD) → Buf (Elt Ideal) ((c.tc : Thread Cert.KernelAdamSmallIdeal.nD Cert.KernelAdamSmallIdeal.τ).loc Cert.KernelAdamSmallIdeal.main_v0_15)) (v16 : (c : Dev Cert.KernelAdamSmallIdeal.nD) → Buf (Elt Ideal) ((c.tc : Thread Cert.KernelAdamSmallIdeal.nD Cert.KernelAdamSmallIdeal.τ).loc Cert.KernelAdamSmallIdeal.main_v0_16)) (v17 : (c : Dev Cert.KernelAdamSmallIdeal.nD) → Buf (Elt Ideal) ((c.tc : Thread Cert.KernelAdamSmallIdeal.nD Cert.KernelAdamSmallIdeal.τ).loc Cert.KernelAdamSmallIdeal.main_v0_17)) (v18 : (c : Dev Cert.KernelAdamSmallIdeal.nD) → Buf (Elt Ideal) ((c.tc : Thread Cert.KernelAdamSmallIdeal.nD Cert.KernelAdamSmallIdeal.τ).loc Cert.KernelAdamSmallIdeal.main_v0_18)) (v19 : (c : Dev Cert.KernelAdamSmallIdeal.nD) → Buf (Elt Ideal) ((c.tc : Thread Cert.KernelAdamSmallIdeal.nD Cert.KernelAdamSmallIdeal.τ).loc Cert.KernelAdamSmallIdeal.main_v0_19)) (v20 : (c : Dev Cert.KernelAdamSmallIdeal.nD) → Buf (Elt Ideal) ((c.tc : Thread Cert.KernelAdamSmallIdeal.nD Cert.KernelAdamSmallIdeal.τ).loc Cert.KernelAdamSmallIdeal.main_v0_20)) (v21 : (c : Dev Cert.KernelAdamSmallIdeal.nD) → Buf (Elt Ideal) ((c.tc : Thread Cert.KernelAdamSmallIdeal.nD Cert.KernelAdamSmallIdeal.τ).loc Cert.KernelAdamSmallIdeal.main_v0_21)) (v22 : (c : Dev Cert.KernelAdamSmallIdeal.nD) → Buf (Elt Ideal) ((c.tc : Thread Cert.KernelAdamSmallIdeal.nD Cert.KernelAdamSmallIdeal.τ).loc Cert.KernelAdamSmallIdeal.main_v0_22)) (v23 : (c : Dev Cert.KernelAdamSmallIdeal.nD) → Buf (Elt Ideal) ((c.tc : Thread Cert.KernelAdamSmallIdeal.nD Cert.KernelAdamSmallIdeal.τ).loc Cert.KernelAdamSmallIdeal.main_v0_23)) (v24 : (c : Dev Cert.KernelAdamSmallIdeal.nD) → Buf (Elt Ideal) ((c.tc : Thread Cert.KernelAdamSmallIdeal.nD Cert.KernelAdamSmallIdeal.τ).loc Cert.KernelAdamSmallIdeal.main_v0_24)) (v25 : (c : Dev Cert.KernelAdamSmallIdeal.nD) → Buf (Elt Ideal) ((c.tc : Thread Cert.KernelAdamSmallIdeal.nD Cert.KernelAdamSmallIdeal.τ).loc Cert.KernelAdamSmallIdeal.main_v0_25)) (v26 : (c : Dev Cert.KernelAdamSmallIdeal.nD) → Buf (Elt Ideal) ((c.tc : Thread Cert.KernelAdamSmallIdeal.nD Cert.KernelAdamSmallIdeal.τ).loc Cert.KernelAdamSmallIdeal.main_v0_26)) (v27 : (c : Dev Cert.KernelAdamSmallIdeal.nD) → Buf (Elt Ideal) ((c.tc : Thread Cert.KernelAdamSmallIdeal.nD Cert.KernelAdamSmallIdeal.τ).loc Cert.KernelAdamSmallIdeal.main_v0_27)) (v28 : (c : Dev Cert.KernelAdamSmallIdeal.nD) → Buf (Elt Ideal) ((c.tc : Thread Cert.KernelAdamSmallIdeal.nD Cert.KernelAdamSmallIdeal.τ).loc Cert.KernelAdamSmallIdeal.main_v0_28)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_v0_4) = v4 c
          ∧ r.2.mem ((c.tc : Thread Cert.KernelAdamSmallIdeal.nD Cert.KernelAdamSmallIdeal.τ).loc Cert.KernelAdamSmallIdeal.main_v0_5) = v5 c
          ∧ r.2.mem ((c.tc : Thread Cert.KernelAdamSmallIdeal.nD Cert.KernelAdamSmallIdeal.τ).loc Cert.KernelAdamSmallIdeal.main_v0_6) = v6 c
          ∧ r.2.mem ((c.tc : Thread Cert.KernelAdamSmallIdeal.nD Cert.KernelAdamSmallIdeal.τ).loc Cert.KernelAdamSmallIdeal.main_v0_7) = v7 c
          ∧ r.2.mem ((c.tc : Thread Cert.KernelAdamSmallIdeal.nD Cert.KernelAdamSmallIdeal.τ).loc Cert.KernelAdamSmallIdeal.main_v0_8) = v8 c
          ∧ r.2.mem ((c.tc : Thread Cert.KernelAdamSmallIdeal.nD Cert.KernelAdamSmallIdeal.τ).loc Cert.KernelAdamSmallIdeal.main_v0_9) = v9 c
          ∧ r.2.mem ((c.tc : Thread Cert.KernelAdamSmallIdeal.nD Cert.KernelAdamSmallIdeal.τ).loc Cert.KernelAdamSmallIdeal.main_v0_10) = v10 c
          ∧ r.2.mem ((c.tc : Thread Cert.KernelAdamSmallIdeal.nD Cert.KernelAdamSmallIdeal.τ).loc Cert.KernelAdamSmallIdeal.main_v0_11) = v11 c
          ∧ r.2.mem ((c.tc : Thread Cert.KernelAdamSmallIdeal.nD Cert.KernelAdamSmallIdeal.τ).loc Cert.KernelAdamSmallIdeal.main_v0_12) = v12 c
          ∧ r.2.mem ((c.tc : Thread Cert.KernelAdamSmallIdeal.nD Cert.KernelAdamSmallIdeal.τ).loc Cert.KernelAdamSmallIdeal.main_v0_13) = v13 c
          ∧ r.2.mem ((c.tc : Thread Cert.KernelAdamSmallIdeal.nD Cert.KernelAdamSmallIdeal.τ).loc Cert.KernelAdamSmallIdeal.main_v0_14) = v14 c
          ∧ r.2.mem ((c.tc : Thread Cert.KernelAdamSmallIdeal.nD Cert.KernelAdamSmallIdeal.τ).loc Cert.KernelAdamSmallIdeal.main_v0_15) = v15 c
          ∧ r.2.mem ((c.tc : Thread Cert.KernelAdamSmallIdeal.nD Cert.KernelAdamSmallIdeal.τ).loc Cert.KernelAdamSmallIdeal.main_v0_16) = v16 c
          ∧ r.2.mem ((c.tc : Thread Cert.KernelAdamSmallIdeal.nD Cert.KernelAdamSmallIdeal.τ).loc Cert.KernelAdamSmallIdeal.main_v0_17) = v17 c
          ∧ r.2.mem ((c.tc : Thread Cert.KernelAdamSmallIdeal.nD Cert.KernelAdamSmallIdeal.τ).loc Cert.KernelAdamSmallIdeal.main_v0_18) = v18 c
          ∧ r.2.mem ((c.tc : Thread Cert.KernelAdamSmallIdeal.nD Cert.KernelAdamSmallIdeal.τ).loc Cert.KernelAdamSmallIdeal.main_v0_19) = v19 c
          ∧ r.2.mem ((c.tc : Thread Cert.KernelAdamSmallIdeal.nD Cert.KernelAdamSmallIdeal.τ).loc Cert.KernelAdamSmallIdeal.main_v0_20) = v20 c
          ∧ r.2.mem ((c.tc : Thread Cert.KernelAdamSmallIdeal.nD Cert.KernelAdamSmallIdeal.τ).loc Cert.KernelAdamSmallIdeal.main_v0_21) = v21 c
          ∧ r.2.mem ((c.tc : Thread Cert.KernelAdamSmallIdeal.nD Cert.KernelAdamSmallIdeal.τ).loc Cert.KernelAdamSmallIdeal.main_v0_22) = v22 c
          ∧ r.2.mem ((c.tc : Thread Cert.KernelAdamSmallIdeal.nD Cert.KernelAdamSmallIdeal.τ).loc Cert.KernelAdamSmallIdeal.main_v0_23) = v23 c
          ∧ r.2.mem ((c.tc : Thread Cert.KernelAdamSmallIdeal.nD Cert.KernelAdamSmallIdeal.τ).loc Cert.KernelAdamSmallIdeal.main_v0_24) = v24 c
          ∧ r.2.mem ((c.tc : Thread Cert.KernelAdamSmallIdeal.nD Cert.KernelAdamSmallIdeal.τ).loc Cert.KernelAdamSmallIdeal.main_v0_25) = v25 c
          ∧ r.2.mem ((c.tc : Thread Cert.KernelAdamSmallIdeal.nD Cert.KernelAdamSmallIdeal.τ).loc Cert.KernelAdamSmallIdeal.main_v0_26) = v26 c
          ∧ r.2.mem ((c.tc : Thread Cert.KernelAdamSmallIdeal.nD Cert.KernelAdamSmallIdeal.τ).loc Cert.KernelAdamSmallIdeal.main_v0_27) = v27 c
          ∧ r.2.mem ((c.tc : Thread Cert.KernelAdamSmallIdeal.nD Cert.KernelAdamSmallIdeal.τ).loc Cert.KernelAdamSmallIdeal.main_v0_28) = v28 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3)
          ∧ r.2.mem ((c.tc : Thread Cert.KernelAdamSmallIdeal.nD Cert.KernelAdamSmallIdeal.τ).loc Cert.KernelAdamSmallIdeal.main_arg4) = m ((c.tc : Thread Cert.KernelAdamSmallIdeal.nD Cert.KernelAdamSmallIdeal.τ).loc Cert.KernelAdamSmallIdeal.main_arg4)
          ∧ r.2.mem ((c.tc : Thread Cert.KernelAdamSmallIdeal.nD Cert.KernelAdamSmallIdeal.τ).loc Cert.KernelAdamSmallIdeal.main_arg5) = m ((c.tc : Thread Cert.KernelAdamSmallIdeal.nD Cert.KernelAdamSmallIdeal.τ).loc Cert.KernelAdamSmallIdeal.main_arg5)
          ∧ r.2.mem ((c.tc : Thread Cert.KernelAdamSmallIdeal.nD Cert.KernelAdamSmallIdeal.τ).loc Cert.KernelAdamSmallIdeal.main_arg6) = m ((c.tc : Thread Cert.KernelAdamSmallIdeal.nD Cert.KernelAdamSmallIdeal.τ).loc Cert.KernelAdamSmallIdeal.main_arg6)
          ∧ r.2.mem ((c.tc : Thread Cert.KernelAdamSmallIdeal.nD Cert.KernelAdamSmallIdeal.τ).loc Cert.KernelAdamSmallIdeal.main_arg7) = m ((c.tc : Thread Cert.KernelAdamSmallIdeal.nD Cert.KernelAdamSmallIdeal.τ).loc Cert.KernelAdamSmallIdeal.main_arg7)
          ∧ r.2.mem ((c.tc : Thread Cert.KernelAdamSmallIdeal.nD Cert.KernelAdamSmallIdeal.τ).loc Cert.KernelAdamSmallIdeal.main_arg8) = m ((c.tc : Thread Cert.KernelAdamSmallIdeal.nD Cert.KernelAdamSmallIdeal.τ).loc Cert.KernelAdamSmallIdeal.main_arg8)
          ∧ r.2.mem ((c.tc : Thread Cert.KernelAdamSmallIdeal.nD Cert.KernelAdamSmallIdeal.τ).loc Cert.KernelAdamSmallIdeal.main_arg9) = m ((c.tc : Thread Cert.KernelAdamSmallIdeal.nD Cert.KernelAdamSmallIdeal.τ).loc Cert.KernelAdamSmallIdeal.main_arg9)
          ∧ r.2.mem ((c.tc : Thread Cert.KernelAdamSmallIdeal.nD Cert.KernelAdamSmallIdeal.τ).loc Cert.KernelAdamSmallIdeal.main_arg10) = m ((c.tc : Thread Cert.KernelAdamSmallIdeal.nD Cert.KernelAdamSmallIdeal.τ).loc Cert.KernelAdamSmallIdeal.main_arg10)
          ∧ r.2.mem ((c.tc : Thread Cert.KernelAdamSmallIdeal.nD Cert.KernelAdamSmallIdeal.τ).loc Cert.KernelAdamSmallIdeal.main_arg11) = m ((c.tc : Thread Cert.KernelAdamSmallIdeal.nD Cert.KernelAdamSmallIdeal.τ).loc Cert.KernelAdamSmallIdeal.main_arg11)
          ∧ r.2.mem ((c.tc : Thread Cert.KernelAdamSmallIdeal.nD Cert.KernelAdamSmallIdeal.τ).loc Cert.KernelAdamSmallIdeal.main_arg12) = m ((c.tc : Thread Cert.KernelAdamSmallIdeal.nD Cert.KernelAdamSmallIdeal.τ).loc Cert.KernelAdamSmallIdeal.main_arg12)
          ∧ r.2.mem ((c.tc : Thread Cert.KernelAdamSmallIdeal.nD Cert.KernelAdamSmallIdeal.τ).loc Cert.KernelAdamSmallIdeal.main_arg13) = m ((c.tc : Thread Cert.KernelAdamSmallIdeal.nD Cert.KernelAdamSmallIdeal.τ).loc Cert.KernelAdamSmallIdeal.main_arg13)
          ∧ r.2.mem ((c.tc : Thread Cert.KernelAdamSmallIdeal.nD Cert.KernelAdamSmallIdeal.τ).loc Cert.KernelAdamSmallIdeal.main_arg14) = m ((c.tc : Thread Cert.KernelAdamSmallIdeal.nD Cert.KernelAdamSmallIdeal.τ).loc Cert.KernelAdamSmallIdeal.main_arg14)
          ∧ r.2.mem ((c.tc : Thread Cert.KernelAdamSmallIdeal.nD Cert.KernelAdamSmallIdeal.τ).loc Cert.KernelAdamSmallIdeal.main_arg15) = m ((c.tc : Thread Cert.KernelAdamSmallIdeal.nD Cert.KernelAdamSmallIdeal.τ).loc Cert.KernelAdamSmallIdeal.main_arg15)
          ∧ r.2.mem ((c.tc : Thread Cert.KernelAdamSmallIdeal.nD Cert.KernelAdamSmallIdeal.τ).loc Cert.KernelAdamSmallIdeal.main_arg16) = m ((c.tc : Thread Cert.KernelAdamSmallIdeal.nD Cert.KernelAdamSmallIdeal.τ).loc Cert.KernelAdamSmallIdeal.main_arg16)
          ∧ r.2.mem ((c.tc : Thread Cert.KernelAdamSmallIdeal.nD Cert.KernelAdamSmallIdeal.τ).loc Cert.KernelAdamSmallIdeal.main_arg17) = m ((c.tc : Thread Cert.KernelAdamSmallIdeal.nD Cert.KernelAdamSmallIdeal.τ).loc Cert.KernelAdamSmallIdeal.main_arg17)
          ∧ r.2.mem ((c.tc : Thread Cert.KernelAdamSmallIdeal.nD Cert.KernelAdamSmallIdeal.τ).loc Cert.KernelAdamSmallIdeal.main_arg18) = m ((c.tc : Thread Cert.KernelAdamSmallIdeal.nD Cert.KernelAdamSmallIdeal.τ).loc Cert.KernelAdamSmallIdeal.main_arg18)
          ∧ r.2.mem ((c.tc : Thread Cert.KernelAdamSmallIdeal.nD Cert.KernelAdamSmallIdeal.τ).loc Cert.KernelAdamSmallIdeal.main_arg19) = m ((c.tc : Thread Cert.KernelAdamSmallIdeal.nD Cert.KernelAdamSmallIdeal.τ).loc Cert.KernelAdamSmallIdeal.main_arg19)
          ∧ r.2.mem ((c.tc : Thread Cert.KernelAdamSmallIdeal.nD Cert.KernelAdamSmallIdeal.τ).loc Cert.KernelAdamSmallIdeal.main_arg20) = m ((c.tc : Thread Cert.KernelAdamSmallIdeal.nD Cert.KernelAdamSmallIdeal.τ).loc Cert.KernelAdamSmallIdeal.main_arg20)
          ∧ r.2.mem ((c.tc : Thread Cert.KernelAdamSmallIdeal.nD Cert.KernelAdamSmallIdeal.τ).loc Cert.KernelAdamSmallIdeal.main_arg21) = m ((c.tc : Thread Cert.KernelAdamSmallIdeal.nD Cert.KernelAdamSmallIdeal.τ).loc Cert.KernelAdamSmallIdeal.main_arg21)
          ∧ r.2.mem ((c.tc : Thread Cert.KernelAdamSmallIdeal.nD Cert.KernelAdamSmallIdeal.τ).loc Cert.KernelAdamSmallIdeal.main_arg22) = m ((c.tc : Thread Cert.KernelAdamSmallIdeal.nD Cert.KernelAdamSmallIdeal.τ).loc Cert.KernelAdamSmallIdeal.main_arg22)
          ∧ r.2.mem ((c.tc : Thread Cert.KernelAdamSmallIdeal.nD Cert.KernelAdamSmallIdeal.τ).loc Cert.KernelAdamSmallIdeal.main_arg23) = m ((c.tc : Thread Cert.KernelAdamSmallIdeal.nD Cert.KernelAdamSmallIdeal.τ).loc Cert.KernelAdamSmallIdeal.main_arg23)
          ∧ r.2.mem ((c.tc : Thread Cert.KernelAdamSmallIdeal.nD Cert.KernelAdamSmallIdeal.τ).loc Cert.KernelAdamSmallIdeal.main_arg24) = m ((c.tc : Thread Cert.KernelAdamSmallIdeal.nD Cert.KernelAdamSmallIdeal.τ).loc Cert.KernelAdamSmallIdeal.main_arg24)
          ∧ r.2.mem ((c.tc : Thread Cert.KernelAdamSmallIdeal.nD Cert.KernelAdamSmallIdeal.τ).loc Cert.KernelAdamSmallIdeal.main_arg25) = m ((c.tc : Thread Cert.KernelAdamSmallIdeal.nD Cert.KernelAdamSmallIdeal.τ).loc Cert.KernelAdamSmallIdeal.main_arg25)
          ∧ r.2.mem ((c.tc : Thread Cert.KernelAdamSmallIdeal.nD Cert.KernelAdamSmallIdeal.τ).loc Cert.KernelAdamSmallIdeal.main_arg26) = m ((c.tc : Thread Cert.KernelAdamSmallIdeal.nD Cert.KernelAdamSmallIdeal.τ).loc Cert.KernelAdamSmallIdeal.main_arg26)
          ∧ r.2.mem ((c.tc : Thread Cert.KernelAdamSmallIdeal.nD Cert.KernelAdamSmallIdeal.τ).loc Cert.KernelAdamSmallIdeal.main_arg27) = m ((c.tc : Thread Cert.KernelAdamSmallIdeal.nD Cert.KernelAdamSmallIdeal.τ).loc Cert.KernelAdamSmallIdeal.main_arg27)
          ∧ r.2.mem ((c.tc : Thread Cert.KernelAdamSmallIdeal.nD Cert.KernelAdamSmallIdeal.τ).loc Cert.KernelAdamSmallIdeal.main_arg28) = m ((c.tc : Thread Cert.KernelAdamSmallIdeal.nD Cert.KernelAdamSmallIdeal.τ).loc Cert.KernelAdamSmallIdeal.main_arg28))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v0) = v0 c
          ∧ r.2.mem ((c.tc : Thread Cert.ReferenceAdamSmallIdeal.nD Cert.ReferenceAdamSmallIdeal.τ).loc Cert.ReferenceAdamSmallIdeal.main_v31) = v1 c
          ∧ r.2.mem ((c.tc : Thread Cert.ReferenceAdamSmallIdeal.nD Cert.ReferenceAdamSmallIdeal.τ).loc Cert.ReferenceAdamSmallIdeal.main_v12) = v2 c
          ∧ r.2.mem ((c.tc : Thread Cert.ReferenceAdamSmallIdeal.nD Cert.ReferenceAdamSmallIdeal.τ).loc Cert.ReferenceAdamSmallIdeal.main_v18) = v3 c
          ∧ r.2.mem ((c.tc : Thread Cert.ReferenceAdamSmallIdeal.nD Cert.ReferenceAdamSmallIdeal.τ).loc Cert.ReferenceAdamSmallIdeal.main_v1) = v4 c
          ∧ r.2.mem ((c.tc : Thread Cert.ReferenceAdamSmallIdeal.nD Cert.ReferenceAdamSmallIdeal.τ).loc Cert.ReferenceAdamSmallIdeal.main_v55) = v5 c
          ∧ r.2.mem ((c.tc : Thread Cert.ReferenceAdamSmallIdeal.nD Cert.ReferenceAdamSmallIdeal.τ).loc Cert.ReferenceAdamSmallIdeal.main_v36) = v6 c
          ∧ r.2.mem ((c.tc : Thread Cert.ReferenceAdamSmallIdeal.nD Cert.ReferenceAdamSmallIdeal.τ).loc Cert.ReferenceAdamSmallIdeal.main_v42) = v7 c
          ∧ r.2.mem ((c.tc : Thread Cert.ReferenceAdamSmallIdeal.nD Cert.ReferenceAdamSmallIdeal.τ).loc Cert.ReferenceAdamSmallIdeal.main_v2) = v8 c
          ∧ r.2.mem ((c.tc : Thread Cert.ReferenceAdamSmallIdeal.nD Cert.ReferenceAdamSmallIdeal.τ).loc Cert.ReferenceAdamSmallIdeal.main_v79) = v9 c
          ∧ r.2.mem ((c.tc : Thread Cert.ReferenceAdamSmallIdeal.nD Cert.ReferenceAdamSmallIdeal.τ).loc Cert.ReferenceAdamSmallIdeal.main_v60) = v10 c
          ∧ r.2.mem ((c.tc : Thread Cert.ReferenceAdamSmallIdeal.nD Cert.ReferenceAdamSmallIdeal.τ).loc Cert.ReferenceAdamSmallIdeal.main_v66) = v11 c
          ∧ r.2.mem ((c.tc : Thread Cert.ReferenceAdamSmallIdeal.nD Cert.ReferenceAdamSmallIdeal.τ).loc Cert.ReferenceAdamSmallIdeal.main_v4) = v12 c
          ∧ r.2.mem ((c.tc : Thread Cert.ReferenceAdamSmallIdeal.nD Cert.ReferenceAdamSmallIdeal.τ).loc Cert.ReferenceAdamSmallIdeal.main_v103) = v13 c
          ∧ r.2.mem ((c.tc : Thread Cert.ReferenceAdamSmallIdeal.nD Cert.ReferenceAdamSmallIdeal.τ).loc Cert.ReferenceAdamSmallIdeal.main_v84) = v14 c
          ∧ r.2.mem ((c.tc : Thread Cert.ReferenceAdamSmallIdeal.nD Cert.ReferenceAdamSmallIdeal.τ).loc Cert.ReferenceAdamSmallIdeal.main_v90) = v15 c
          ∧ r.2.mem ((c.tc : Thread Cert.ReferenceAdamSmallIdeal.nD Cert.ReferenceAdamSmallIdeal.τ).loc Cert.ReferenceAdamSmallIdeal.main_v5) = v16 c
          ∧ r.2.mem ((c.tc : Thread Cert.ReferenceAdamSmallIdeal.nD Cert.ReferenceAdamSmallIdeal.τ).loc Cert.ReferenceAdamSmallIdeal.main_v127) = v17 c
          ∧ r.2.mem ((c.tc : Thread Cert.ReferenceAdamSmallIdeal.nD Cert.ReferenceAdamSmallIdeal.τ).loc Cert.ReferenceAdamSmallIdeal.main_v108) = v18 c
          ∧ r.2.mem ((c.tc : Thread Cert.ReferenceAdamSmallIdeal.nD Cert.ReferenceAdamSmallIdeal.τ).loc Cert.ReferenceAdamSmallIdeal.main_v114) = v19 c
          ∧ r.2.mem ((c.tc : Thread Cert.ReferenceAdamSmallIdeal.nD Cert.ReferenceAdamSmallIdeal.τ).loc Cert.ReferenceAdamSmallIdeal.main_v6) = v20 c
          ∧ r.2.mem ((c.tc : Thread Cert.ReferenceAdamSmallIdeal.nD Cert.ReferenceAdamSmallIdeal.τ).loc Cert.ReferenceAdamSmallIdeal.main_v151) = v21 c
          ∧ r.2.mem ((c.tc : Thread Cert.ReferenceAdamSmallIdeal.nD Cert.ReferenceAdamSmallIdeal.τ).loc Cert.ReferenceAdamSmallIdeal.main_v132) = v22 c
          ∧ r.2.mem ((c.tc : Thread Cert.ReferenceAdamSmallIdeal.nD Cert.ReferenceAdamSmallIdeal.τ).loc Cert.ReferenceAdamSmallIdeal.main_v138) = v23 c
          ∧ r.2.mem ((c.tc : Thread Cert.ReferenceAdamSmallIdeal.nD Cert.ReferenceAdamSmallIdeal.τ).loc Cert.ReferenceAdamSmallIdeal.main_v7) = v24 c
          ∧ r.2.mem ((c.tc : Thread Cert.ReferenceAdamSmallIdeal.nD Cert.ReferenceAdamSmallIdeal.τ).loc Cert.ReferenceAdamSmallIdeal.main_v175) = v25 c
          ∧ r.2.mem ((c.tc : Thread Cert.ReferenceAdamSmallIdeal.nD Cert.ReferenceAdamSmallIdeal.τ).loc Cert.ReferenceAdamSmallIdeal.main_v156) = v26 c
          ∧ r.2.mem ((c.tc : Thread Cert.ReferenceAdamSmallIdeal.nD Cert.ReferenceAdamSmallIdeal.τ).loc Cert.ReferenceAdamSmallIdeal.main_v162) = v27 c
          ∧ r.2.mem ((c.tc : Thread Cert.ReferenceAdamSmallIdeal.nD Cert.ReferenceAdamSmallIdeal.τ).loc Cert.ReferenceAdamSmallIdeal.main_v176) = v28 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3)
          ∧ r.2.mem ((c.tc : Thread Cert.ReferenceAdamSmallIdeal.nD Cert.ReferenceAdamSmallIdeal.τ).loc Cert.ReferenceAdamSmallIdeal.main_arg4) = m' ((c.tc : Thread Cert.ReferenceAdamSmallIdeal.nD Cert.ReferenceAdamSmallIdeal.τ).loc Cert.ReferenceAdamSmallIdeal.main_arg4)
          ∧ r.2.mem ((c.tc : Thread Cert.ReferenceAdamSmallIdeal.nD Cert.ReferenceAdamSmallIdeal.τ).loc Cert.ReferenceAdamSmallIdeal.main_arg5) = m' ((c.tc : Thread Cert.ReferenceAdamSmallIdeal.nD Cert.ReferenceAdamSmallIdeal.τ).loc Cert.ReferenceAdamSmallIdeal.main_arg5)
          ∧ r.2.mem ((c.tc : Thread Cert.ReferenceAdamSmallIdeal.nD Cert.ReferenceAdamSmallIdeal.τ).loc Cert.ReferenceAdamSmallIdeal.main_arg6) = m' ((c.tc : Thread Cert.ReferenceAdamSmallIdeal.nD Cert.ReferenceAdamSmallIdeal.τ).loc Cert.ReferenceAdamSmallIdeal.main_arg6)
          ∧ r.2.mem ((c.tc : Thread Cert.ReferenceAdamSmallIdeal.nD Cert.ReferenceAdamSmallIdeal.τ).loc Cert.ReferenceAdamSmallIdeal.main_arg7) = m' ((c.tc : Thread Cert.ReferenceAdamSmallIdeal.nD Cert.ReferenceAdamSmallIdeal.τ).loc Cert.ReferenceAdamSmallIdeal.main_arg7)
          ∧ r.2.mem ((c.tc : Thread Cert.ReferenceAdamSmallIdeal.nD Cert.ReferenceAdamSmallIdeal.τ).loc Cert.ReferenceAdamSmallIdeal.main_arg8) = m' ((c.tc : Thread Cert.ReferenceAdamSmallIdeal.nD Cert.ReferenceAdamSmallIdeal.τ).loc Cert.ReferenceAdamSmallIdeal.main_arg8)
          ∧ r.2.mem ((c.tc : Thread Cert.ReferenceAdamSmallIdeal.nD Cert.ReferenceAdamSmallIdeal.τ).loc Cert.ReferenceAdamSmallIdeal.main_arg9) = m' ((c.tc : Thread Cert.ReferenceAdamSmallIdeal.nD Cert.ReferenceAdamSmallIdeal.τ).loc Cert.ReferenceAdamSmallIdeal.main_arg9)
          ∧ r.2.mem ((c.tc : Thread Cert.ReferenceAdamSmallIdeal.nD Cert.ReferenceAdamSmallIdeal.τ).loc Cert.ReferenceAdamSmallIdeal.main_arg10) = m' ((c.tc : Thread Cert.ReferenceAdamSmallIdeal.nD Cert.ReferenceAdamSmallIdeal.τ).loc Cert.ReferenceAdamSmallIdeal.main_arg10)
          ∧ r.2.mem ((c.tc : Thread Cert.ReferenceAdamSmallIdeal.nD Cert.ReferenceAdamSmallIdeal.τ).loc Cert.ReferenceAdamSmallIdeal.main_arg11) = m' ((c.tc : Thread Cert.ReferenceAdamSmallIdeal.nD Cert.ReferenceAdamSmallIdeal.τ).loc Cert.ReferenceAdamSmallIdeal.main_arg11)
          ∧ r.2.mem ((c.tc : Thread Cert.ReferenceAdamSmallIdeal.nD Cert.ReferenceAdamSmallIdeal.τ).loc Cert.ReferenceAdamSmallIdeal.main_arg12) = m' ((c.tc : Thread Cert.ReferenceAdamSmallIdeal.nD Cert.ReferenceAdamSmallIdeal.τ).loc Cert.ReferenceAdamSmallIdeal.main_arg12)
          ∧ r.2.mem ((c.tc : Thread Cert.ReferenceAdamSmallIdeal.nD Cert.ReferenceAdamSmallIdeal.τ).loc Cert.ReferenceAdamSmallIdeal.main_arg13) = m' ((c.tc : Thread Cert.ReferenceAdamSmallIdeal.nD Cert.ReferenceAdamSmallIdeal.τ).loc Cert.ReferenceAdamSmallIdeal.main_arg13)
          ∧ r.2.mem ((c.tc : Thread Cert.ReferenceAdamSmallIdeal.nD Cert.ReferenceAdamSmallIdeal.τ).loc Cert.ReferenceAdamSmallIdeal.main_arg14) = m' ((c.tc : Thread Cert.ReferenceAdamSmallIdeal.nD Cert.ReferenceAdamSmallIdeal.τ).loc Cert.ReferenceAdamSmallIdeal.main_arg14)
          ∧ r.2.mem ((c.tc : Thread Cert.ReferenceAdamSmallIdeal.nD Cert.ReferenceAdamSmallIdeal.τ).loc Cert.ReferenceAdamSmallIdeal.main_arg15) = m' ((c.tc : Thread Cert.ReferenceAdamSmallIdeal.nD Cert.ReferenceAdamSmallIdeal.τ).loc Cert.ReferenceAdamSmallIdeal.main_arg15)
          ∧ r.2.mem ((c.tc : Thread Cert.ReferenceAdamSmallIdeal.nD Cert.ReferenceAdamSmallIdeal.τ).loc Cert.ReferenceAdamSmallIdeal.main_arg16) = m' ((c.tc : Thread Cert.ReferenceAdamSmallIdeal.nD Cert.ReferenceAdamSmallIdeal.τ).loc Cert.ReferenceAdamSmallIdeal.main_arg16)
          ∧ r.2.mem ((c.tc : Thread Cert.ReferenceAdamSmallIdeal.nD Cert.ReferenceAdamSmallIdeal.τ).loc Cert.ReferenceAdamSmallIdeal.main_arg17) = m' ((c.tc : Thread Cert.ReferenceAdamSmallIdeal.nD Cert.ReferenceAdamSmallIdeal.τ).loc Cert.ReferenceAdamSmallIdeal.main_arg17)
          ∧ r.2.mem ((c.tc : Thread Cert.ReferenceAdamSmallIdeal.nD Cert.ReferenceAdamSmallIdeal.τ).loc Cert.ReferenceAdamSmallIdeal.main_arg18) = m' ((c.tc : Thread Cert.ReferenceAdamSmallIdeal.nD Cert.ReferenceAdamSmallIdeal.τ).loc Cert.ReferenceAdamSmallIdeal.main_arg18)
          ∧ r.2.mem ((c.tc : Thread Cert.ReferenceAdamSmallIdeal.nD Cert.ReferenceAdamSmallIdeal.τ).loc Cert.ReferenceAdamSmallIdeal.main_arg19) = m' ((c.tc : Thread Cert.ReferenceAdamSmallIdeal.nD Cert.ReferenceAdamSmallIdeal.τ).loc Cert.ReferenceAdamSmallIdeal.main_arg19)
          ∧ r.2.mem ((c.tc : Thread Cert.ReferenceAdamSmallIdeal.nD Cert.ReferenceAdamSmallIdeal.τ).loc Cert.ReferenceAdamSmallIdeal.main_arg20) = m' ((c.tc : Thread Cert.ReferenceAdamSmallIdeal.nD Cert.ReferenceAdamSmallIdeal.τ).loc Cert.ReferenceAdamSmallIdeal.main_arg20)
          ∧ r.2.mem ((c.tc : Thread Cert.ReferenceAdamSmallIdeal.nD Cert.ReferenceAdamSmallIdeal.τ).loc Cert.ReferenceAdamSmallIdeal.main_arg21) = m' ((c.tc : Thread Cert.ReferenceAdamSmallIdeal.nD Cert.ReferenceAdamSmallIdeal.τ).loc Cert.ReferenceAdamSmallIdeal.main_arg21)
          ∧ r.2.mem ((c.tc : Thread Cert.ReferenceAdamSmallIdeal.nD Cert.ReferenceAdamSmallIdeal.τ).loc Cert.ReferenceAdamSmallIdeal.main_arg22) = m' ((c.tc : Thread Cert.ReferenceAdamSmallIdeal.nD Cert.ReferenceAdamSmallIdeal.τ).loc Cert.ReferenceAdamSmallIdeal.main_arg22)
          ∧ r.2.mem ((c.tc : Thread Cert.ReferenceAdamSmallIdeal.nD Cert.ReferenceAdamSmallIdeal.τ).loc Cert.ReferenceAdamSmallIdeal.main_arg23) = m' ((c.tc : Thread Cert.ReferenceAdamSmallIdeal.nD Cert.ReferenceAdamSmallIdeal.τ).loc Cert.ReferenceAdamSmallIdeal.main_arg23)
          ∧ r.2.mem ((c.tc : Thread Cert.ReferenceAdamSmallIdeal.nD Cert.ReferenceAdamSmallIdeal.τ).loc Cert.ReferenceAdamSmallIdeal.main_arg24) = m' ((c.tc : Thread Cert.ReferenceAdamSmallIdeal.nD Cert.ReferenceAdamSmallIdeal.τ).loc Cert.ReferenceAdamSmallIdeal.main_arg24)
          ∧ r.2.mem ((c.tc : Thread Cert.ReferenceAdamSmallIdeal.nD Cert.ReferenceAdamSmallIdeal.τ).loc Cert.ReferenceAdamSmallIdeal.main_arg25) = m' ((c.tc : Thread Cert.ReferenceAdamSmallIdeal.nD Cert.ReferenceAdamSmallIdeal.τ).loc Cert.ReferenceAdamSmallIdeal.main_arg25)
          ∧ r.2.mem ((c.tc : Thread Cert.ReferenceAdamSmallIdeal.nD Cert.ReferenceAdamSmallIdeal.τ).loc Cert.ReferenceAdamSmallIdeal.main_arg26) = m' ((c.tc : Thread Cert.ReferenceAdamSmallIdeal.nD Cert.ReferenceAdamSmallIdeal.τ).loc Cert.ReferenceAdamSmallIdeal.main_arg26)
          ∧ r.2.mem ((c.tc : Thread Cert.ReferenceAdamSmallIdeal.nD Cert.ReferenceAdamSmallIdeal.τ).loc Cert.ReferenceAdamSmallIdeal.main_arg27) = m' ((c.tc : Thread Cert.ReferenceAdamSmallIdeal.nD Cert.ReferenceAdamSmallIdeal.τ).loc Cert.ReferenceAdamSmallIdeal.main_arg27)
          ∧ r.2.mem ((c.tc : Thread Cert.ReferenceAdamSmallIdeal.nD Cert.ReferenceAdamSmallIdeal.τ).loc Cert.ReferenceAdamSmallIdeal.main_arg28) = m' ((c.tc : Thread Cert.ReferenceAdamSmallIdeal.nD Cert.ReferenceAdamSmallIdeal.τ).loc Cert.ReferenceAdamSmallIdeal.main_arg28))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v52) = v0 c
          ∧ r.2.mem ((c.tc : Thread Cert.ReferenceLossIdeal.nD Cert.ReferenceLossIdeal.τ).loc Cert.ReferenceLossIdeal.main_v51) = v1 c
          ∧ r.2.mem ((c.tc : Thread Cert.ReferenceLossIdeal.nD Cert.ReferenceLossIdeal.τ).loc Cert.ReferenceLossIdeal.main_v53) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def Claim : Prop :=
  ∃ (hKernelN : Cert.KernelN.Facts) (hKernelNIdeal : Cert.KernelNIdeal.Facts) (hReferenceNIdeal : Cert.ReferenceNIdeal.Facts) (hKernelRows : Cert.KernelRows.Facts) (hKernelRowsIdeal : Cert.KernelRowsIdeal.Facts) (hReferenceRowsIdeal : Cert.ReferenceRowsIdeal.Facts) (hKernelOutDw : Cert.KernelOutDw.Facts) (hKernelOutDwIdeal : Cert.KernelOutDwIdeal.Facts) (hReferenceOutDwIdeal : Cert.ReferenceOutDwIdeal.Facts) (hKernelInDw : Cert.KernelInDw.Facts) (hKernelInDwIdeal : Cert.KernelInDwIdeal.Facts) (hReferenceInDwIdeal : Cert.ReferenceInDwIdeal.Facts) (hKernelFfnFwd : Cert.KernelFfnFwd.Facts) (hKernelFfnFwdIdeal : Cert.KernelFfnFwdIdeal.Facts) (hReferenceFfnFwdIdeal : Cert.ReferenceFfnFwdIdeal.Facts) (hKernelOutFwd : Cert.KernelOutFwd.Facts) (hKernelOutFwdIdeal : Cert.KernelOutFwdIdeal.Facts) (hReferenceOutFwdIdeal : Cert.ReferenceOutFwdIdeal.Facts) (hKernelFfnFwd2 : Cert.KernelFfnFwd2.Facts) (hKernelFfnFwd2Ideal : Cert.KernelFfnFwd2Ideal.Facts) (hReferenceFfnFwd2Ideal : Cert.ReferenceFfnFwd2Ideal.Facts) (hKernelMixDw : Cert.KernelMixDw.Facts) (hKernelMixDwIdeal : Cert.KernelMixDwIdeal.Facts) (hReferenceMixDwIdeal : Cert.ReferenceMixDwIdeal.Facts) (hKernelMixDw2 : Cert.KernelMixDw2.Facts) (hKernelMixDw2Ideal : Cert.KernelMixDw2Ideal.Facts) (hReferenceMixDw2Ideal : Cert.ReferenceMixDw2Ideal.Facts) (hKernelAbDw : Cert.KernelAbDw.Facts) (hKernelAbDwIdeal : Cert.KernelAbDwIdeal.Facts) (hReferenceAbDwIdeal : Cert.ReferenceAbDwIdeal.Facts) (hKernelQkvDw : Cert.KernelQkvDw.Facts) (hKernelQkvDwIdeal : Cert.KernelQkvDwIdeal.Facts) (hReferenceQkvDwIdeal : Cert.ReferenceQkvDwIdeal.Facts) (hKernelAbBwd : Cert.KernelAbBwd.Facts) (hKernelAbBwdIdeal : Cert.KernelAbBwdIdeal.Facts) (hReferenceAbBwdIdeal : Cert.ReferenceAbBwdIdeal.Facts) (hKernelQkvBwd : Cert.KernelQkvBwd.Facts) (hKernelQkvBwdIdeal : Cert.KernelQkvBwdIdeal.Facts) (hReferenceQkvBwdIdeal : Cert.ReferenceQkvBwdIdeal.Facts) (hKernelAbFwd : Cert.KernelAbFwd.Facts) (hKernelAbFwdIdeal : Cert.KernelAbFwdIdeal.Facts) (hReferenceAbFwdIdeal : Cert.ReferenceAbFwdIdeal.Facts) (hKernelQkvFwd : Cert.KernelQkvFwd.Facts) (hKernelQkvFwdIdeal : Cert.KernelQkvFwdIdeal.Facts) (hReferenceQkvFwdIdeal : Cert.ReferenceQkvFwdIdeal.Facts) (hKernelAdamIn : Cert.KernelAdamIn.Facts) (hKernelAdamInIdeal : Cert.KernelAdamInIdeal.Facts) (hReferenceAdamInIdeal : Cert.ReferenceAdamInIdeal.Facts) (hKernelAdamOut : Cert.KernelAdamOut.Facts) (hKernelAdamOutIdeal : Cert.KernelAdamOutIdeal.Facts) (hReferenceAdamOutIdeal : Cert.ReferenceAdamOutIdeal.Facts) (hKernelAdamMix : Cert.KernelAdamMix.Facts) (hKernelAdamMixIdeal : Cert.KernelAdamMixIdeal.Facts) (hReferenceAdamMixIdeal : Cert.ReferenceAdamMixIdeal.Facts) (hKernelAdamAb : Cert.KernelAdamAb.Facts) (hKernelAdamAbIdeal : Cert.KernelAdamAbIdeal.Facts) (hReferenceAdamAbIdeal : Cert.ReferenceAdamAbIdeal.Facts) (hKernelAdamQkv : Cert.KernelAdamQkv.Facts) (hKernelAdamQkvIdeal : Cert.KernelAdamQkvIdeal.Facts) (hReferenceAdamQkvIdeal : Cert.ReferenceAdamQkvIdeal.Facts) (hKernelAttnFwd : Cert.KernelAttnFwd.Facts) (hKernelAttnFwdIdeal : Cert.KernelAttnFwdIdeal.Facts) (hReferenceAttnFwdIdeal : Cert.ReferenceAttnFwdIdeal.Facts) (hKernelAdamSmall : Cert.KernelAdamSmall.Facts) (hKernelAdamSmallIdeal : Cert.KernelAdamSmallIdeal.Facts) (hReferenceAdamSmallIdeal : Cert.ReferenceAdamSmallIdeal.Facts) (hKernelLoss : Cert.KernelLoss.Facts) (hKernelLossIdeal : Cert.KernelLossIdeal.Facts) (hReferenceLossIdeal : Cert.ReferenceLossIdeal.Facts) (hPre_finite_attn : Cert.Pre_finite_attn.Facts),
    quiescent_KernelN (hKernelN := hKernelN)
    ∧ quiescent_KernelNIdeal (hKernelNIdeal := hKernelNIdeal)
    ∧ quiescent_ReferenceNIdeal (hReferenceNIdeal := hReferenceNIdeal)
    ∧ quiescent_KernelRows (hKernelRows := hKernelRows)
    ∧ quiescent_KernelRowsIdeal (hKernelRowsIdeal := hKernelRowsIdeal)
    ∧ quiescent_ReferenceRowsIdeal (hReferenceRowsIdeal := hReferenceRowsIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelFfnFwd (hKernelFfnFwd := hKernelFfnFwd)
    ∧ quiescent_KernelFfnFwdIdeal (hKernelFfnFwdIdeal := hKernelFfnFwdIdeal)
    ∧ quiescent_ReferenceFfnFwdIdeal (hReferenceFfnFwdIdeal := hReferenceFfnFwdIdeal)
    ∧ quiescent_KernelOutFwd (hKernelOutFwd := hKernelOutFwd)
    ∧ quiescent_KernelOutFwdIdeal (hKernelOutFwdIdeal := hKernelOutFwdIdeal)
    ∧ quiescent_ReferenceOutFwdIdeal (hReferenceOutFwdIdeal := hReferenceOutFwdIdeal)
    ∧ quiescent_KernelFfnFwd2 (hKernelFfnFwd2 := hKernelFfnFwd2)
    ∧ quiescent_KernelFfnFwd2Ideal (hKernelFfnFwd2Ideal := hKernelFfnFwd2Ideal)
    ∧ quiescent_ReferenceFfnFwd2Ideal (hReferenceFfnFwd2Ideal := hReferenceFfnFwd2Ideal)
    ∧ quiescent_KernelMixDw (hKernelMixDw := hKernelMixDw)
    ∧ quiescent_KernelMixDwIdeal (hKernelMixDwIdeal := hKernelMixDwIdeal)
    ∧ quiescent_ReferenceMixDwIdeal (hReferenceMixDwIdeal := hReferenceMixDwIdeal)
    ∧ quiescent_KernelMixDw2 (hKernelMixDw2 := hKernelMixDw2)
    ∧ quiescent_KernelMixDw2Ideal (hKernelMixDw2Ideal := hKernelMixDw2Ideal)
    ∧ quiescent_ReferenceMixDw2Ideal (hReferenceMixDw2Ideal := hReferenceMixDw2Ideal)
    ∧ quiescent_KernelAbDw (hKernelAbDw := hKernelAbDw)
    ∧ quiescent_KernelAbDwIdeal (hKernelAbDwIdeal := hKernelAbDwIdeal)
    ∧ quiescent_ReferenceAbDwIdeal (hReferenceAbDwIdeal := hReferenceAbDwIdeal)
    ∧ quiescent_KernelQkvDw (hKernelQkvDw := hKernelQkvDw)
    ∧ quiescent_KernelQkvDwIdeal (hKernelQkvDwIdeal := hKernelQkvDwIdeal)
    ∧ quiescent_ReferenceQkvDwIdeal (hReferenceQkvDwIdeal := hReferenceQkvDwIdeal)
    ∧ quiescent_KernelAbBwd (hKernelAbBwd := hKernelAbBwd)
    ∧ quiescent_KernelAbBwdIdeal (hKernelAbBwdIdeal := hKernelAbBwdIdeal)
    ∧ quiescent_ReferenceAbBwdIdeal (hReferenceAbBwdIdeal := hReferenceAbBwdIdeal)
    ∧ quiescent_KernelQkvBwd (hKernelQkvBwd := hKernelQkvBwd)
    ∧ quiescent_KernelQkvBwdIdeal (hKernelQkvBwdIdeal := hKernelQkvBwdIdeal)
    ∧ quiescent_ReferenceQkvBwdIdeal (hReferenceQkvBwdIdeal := hReferenceQkvBwdIdeal)
    ∧ quiescent_KernelAbFwd (hKernelAbFwd := hKernelAbFwd)
    ∧ quiescent_KernelAbFwdIdeal (hKernelAbFwdIdeal := hKernelAbFwdIdeal)
    ∧ quiescent_ReferenceAbFwdIdeal (hReferenceAbFwdIdeal := hReferenceAbFwdIdeal)
    ∧ quiescent_KernelQkvFwd (hKernelQkvFwd := hKernelQkvFwd)
    ∧ quiescent_KernelQkvFwdIdeal (hKernelQkvFwdIdeal := hKernelQkvFwdIdeal)
    ∧ quiescent_ReferenceQkvFwdIdeal (hReferenceQkvFwdIdeal := hReferenceQkvFwdIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamMix (hKernelAdamMix := hKernelAdamMix)
    ∧ quiescent_KernelAdamMixIdeal (hKernelAdamMixIdeal := hKernelAdamMixIdeal)
    ∧ quiescent_ReferenceAdamMixIdeal (hReferenceAdamMixIdeal := hReferenceAdamMixIdeal)
    ∧ quiescent_KernelAdamAb (hKernelAdamAb := hKernelAdamAb)
    ∧ quiescent_KernelAdamAbIdeal (hKernelAdamAbIdeal := hKernelAdamAbIdeal)
    ∧ quiescent_ReferenceAdamAbIdeal (hReferenceAdamAbIdeal := hReferenceAdamAbIdeal)
    ∧ quiescent_KernelAdamQkv (hKernelAdamQkv := hKernelAdamQkv)
    ∧ quiescent_KernelAdamQkvIdeal (hKernelAdamQkvIdeal := hKernelAdamQkvIdeal)
    ∧ quiescent_ReferenceAdamQkvIdeal (hReferenceAdamQkvIdeal := hReferenceAdamQkvIdeal)
    ∧ quiescent_KernelAttnFwd (hKernelAttnFwd := hKernelAttnFwd)
    ∧ quiescent_KernelAttnFwdIdeal (hKernelAttnFwdIdeal := hKernelAttnFwdIdeal)
    ∧ quiescent_KernelAttnFwdIdeal_pre_finite_attn (hKernelAttnFwdIdeal := hKernelAttnFwdIdeal) (hPre_finite_attn := hPre_finite_attn)
    ∧ quiescent_ReferenceAttnFwdIdeal (hReferenceAttnFwdIdeal := hReferenceAttnFwdIdeal)
    ∧ quiescent_ReferenceAttnFwdIdeal_pre_finite_attn (hReferenceAttnFwdIdeal := hReferenceAttnFwdIdeal) (hPre_finite_attn := hPre_finite_attn)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ preserves_KernelN_KernelNIdeal
    ∧ algebraic_KernelNIdeal_ReferenceNIdeal (hKernelNIdeal := hKernelNIdeal) (hReferenceNIdeal := hReferenceNIdeal)
    ∧ preserves_KernelRows_KernelRowsIdeal
    ∧ algebraic_KernelRowsIdeal_ReferenceRowsIdeal (hKernelRowsIdeal := hKernelRowsIdeal) (hReferenceRowsIdeal := hReferenceRowsIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelFfnFwd_KernelFfnFwdIdeal
    ∧ algebraic_KernelFfnFwdIdeal_ReferenceFfnFwdIdeal (hKernelFfnFwdIdeal := hKernelFfnFwdIdeal) (hReferenceFfnFwdIdeal := hReferenceFfnFwdIdeal)
    ∧ preserves_KernelOutFwd_KernelOutFwdIdeal
    ∧ algebraic_KernelOutFwdIdeal_ReferenceOutFwdIdeal (hKernelOutFwdIdeal := hKernelOutFwdIdeal) (hReferenceOutFwdIdeal := hReferenceOutFwdIdeal)
    ∧ preserves_KernelFfnFwd2_KernelFfnFwd2Ideal
    ∧ algebraic_KernelFfnFwd2Ideal_ReferenceFfnFwd2Ideal (hKernelFfnFwd2Ideal := hKernelFfnFwd2Ideal) (hReferenceFfnFwd2Ideal := hReferenceFfnFwd2Ideal)
    ∧ preserves_KernelMixDw_KernelMixDwIdeal
    ∧ algebraic_KernelMixDwIdeal_ReferenceMixDwIdeal (hKernelMixDwIdeal := hKernelMixDwIdeal) (hReferenceMixDwIdeal := hReferenceMixDwIdeal)
    ∧ preserves_KernelMixDw2_KernelMixDw2Ideal
    ∧ algebraic_KernelMixDw2Ideal_ReferenceMixDw2Ideal (hKernelMixDw2Ideal := hKernelMixDw2Ideal) (hReferenceMixDw2Ideal := hReferenceMixDw2Ideal)
    ∧ preserves_KernelAbDw_KernelAbDwIdeal
    ∧ algebraic_KernelAbDwIdeal_ReferenceAbDwIdeal (hKernelAbDwIdeal := hKernelAbDwIdeal) (hReferenceAbDwIdeal := hReferenceAbDwIdeal)
    ∧ preserves_KernelQkvDw_KernelQkvDwIdeal
    ∧ algebraic_KernelQkvDwIdeal_ReferenceQkvDwIdeal (hKernelQkvDwIdeal := hKernelQkvDwIdeal) (hReferenceQkvDwIdeal := hReferenceQkvDwIdeal)
    ∧ preserves_KernelAbBwd_KernelAbBwdIdeal
    ∧ algebraic_KernelAbBwdIdeal_ReferenceAbBwdIdeal (hKernelAbBwdIdeal := hKernelAbBwdIdeal) (hReferenceAbBwdIdeal := hReferenceAbBwdIdeal)
    ∧ preserves_KernelQkvBwd_KernelQkvBwdIdeal
    ∧ algebraic_KernelQkvBwdIdeal_ReferenceQkvBwdIdeal (hKernelQkvBwdIdeal := hKernelQkvBwdIdeal) (hReferenceQkvBwdIdeal := hReferenceQkvBwdIdeal)
    ∧ preserves_KernelAbFwd_KernelAbFwdIdeal
    ∧ algebraic_KernelAbFwdIdeal_ReferenceAbFwdIdeal (hKernelAbFwdIdeal := hKernelAbFwdIdeal) (hReferenceAbFwdIdeal := hReferenceAbFwdIdeal)
    ∧ preserves_KernelQkvFwd_KernelQkvFwdIdeal
    ∧ algebraic_KernelQkvFwdIdeal_ReferenceQkvFwdIdeal (hKernelQkvFwdIdeal := hKernelQkvFwdIdeal) (hReferenceQkvFwdIdeal := hReferenceQkvFwdIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamMix_KernelAdamMixIdeal
    ∧ algebraic_KernelAdamMixIdeal_ReferenceAdamMixIdeal (hKernelAdamMixIdeal := hKernelAdamMixIdeal) (hReferenceAdamMixIdeal := hReferenceAdamMixIdeal)
    ∧ preserves_KernelAdamAb_KernelAdamAbIdeal
    ∧ algebraic_KernelAdamAbIdeal_ReferenceAdamAbIdeal (hKernelAdamAbIdeal := hKernelAdamAbIdeal) (hReferenceAdamAbIdeal := hReferenceAdamAbIdeal)
    ∧ preserves_KernelAdamQkv_KernelAdamQkvIdeal
    ∧ algebraic_KernelAdamQkvIdeal_ReferenceAdamQkvIdeal (hKernelAdamQkvIdeal := hKernelAdamQkvIdeal) (hReferenceAdamQkvIdeal := hReferenceAdamQkvIdeal)
    ∧ preserves_KernelAttnFwd_KernelAttnFwdIdeal
    ∧ algebraic_KernelAttnFwdIdeal_ReferenceAttnFwdIdeal_pre_finite_attn (hKernelAttnFwdIdeal := hKernelAttnFwdIdeal) (hReferenceAttnFwdIdeal := hReferenceAttnFwdIdeal) (hPre_finite_attn := hPre_finite_attn)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelLoss_KernelLossIdeal
    ∧ algebraic_KernelLossIdeal_ReferenceLossIdeal (hKernelLossIdeal := hKernelLossIdeal) (hReferenceLossIdeal := hReferenceLossIdeal)
-- ==== Pre_finite_attn.lean ====
abbrev S8192x3072 : Shape := ⟨2, ![8192, 3072]⟩
abbrev S16x256x768 : Shape := ⟨3, ![16, 256, 768]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S16x256x768 : S_.BroadcastsInDim S16x256x768 (![] : Fin 0 → Fin S16x256x768.rank)
  reducesTo_S16x256x768_S_d0_1_2 : S16x256x768.ReducesTo [0, 1, 2] S_

variable [Facts]

def fn {F : FTy → Type} [FloatOps F] (main_arg0 : FVec F S8192x3072 .bf16) (main_arg1 : FVec F S16x256x768 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S16x256x768 .f32 := Host.absf main_arg1
  let main_cst_0 : FVec F S_ .f32 := constant S_ .f32 0x7F800000#32
  let main_v6 : FVec F S16x256x768 .f32 := broadcastInDim S16x256x768 ![] bcast_S_S16x256x768 main_cst_0
  let main_v7 : IVec S16x256x768 1 := cmpf .olt main_v5 main_v6
  let main_c_1 : IVec S_ 1 := constantI S_ 1 1#1
  let main_v8 : IVec S_ 1 := (fun x v => Host.reduce IntOp.andi x v reducesTo_S16x256x768_S_d0_1_2 h_S_) main_v7 main_c_1
  let main_v9 : IVec S_ 1 := andi main_v4 main_v8
  main_v9
-- ==== KernelN.lean ====
abbrev S8192x4096 : Shape := ⟨2, ![8192, 4096]⟩
abbrev S8x1024x512 : Shape := ⟨3, ![8, 1024, 512]⟩
abbrev S8192x1024 : Shape := ⟨2, ![8192, 1024]⟩
abbrev S1x1024 : Shape := ⟨2, ![1, 1024]⟩
abbrev S1024x1024 : Shape := ⟨2, ![1024, 1024]⟩
abbrev S512x4096 : Shape := ⟨2, ![512, 4096]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceNIdeal.lean ====
abbrev S8192x4096 : Shape := ⟨2, ![8192, 4096]⟩
abbrev S8x1024x512 : Shape := ⟨3, ![8, 1024, 512]⟩
abbrev S8192x1024 : Shape := ⟨2, ![8192, 1024]⟩
abbrev S1x1024 : Shape := ⟨2, ![1, 1024]⟩
abbrev S1024x1024 : Shape := ⟨2, ![1024, 1024]⟩
abbrev S1024x8x512 : Shape := ⟨3, ![1024, 8, 512]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .bf16⟩
  | .hbm, ⟨6, _⟩ => ⟨S1024x8x512, .bf16⟩
  | .hbm, ⟨7, _⟩ => ⟨S1024x4096, .bf16⟩
  | .hbm, ⟨8, _⟩ => ⟨S1024x4096, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S1024x1024, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== KernelRows.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceRowsIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelOutDw.lean ====
abbrev S8192x4096 : Shape := ⟨2, ![8192, 4096]⟩
abbrev S8192x1024 : Shape := ⟨2, ![8192, 1024]⟩
abbrev S8x512x1024 : Shape := ⟨3, ![8, 512, 1024]⟩
abbrev S2048x1024 : Shape := ⟨2, ![2048, 1024]⟩
abbrev S2x512x1024 : Shape := ⟨3, ![2, 512, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S2x512x1024, .bf16⟩
  | .local _ .vmem, ⟨5, _⟩ => ⟨S2x512x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceOutDwIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S8x512x1024, .f32⟩
  | .hbm, ⟨9, _⟩ => ⟨S8x512x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelInDw.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInDwIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelFfnFwd.lean ====
abbrev S8192x1024 : Shape := ⟨2, ![8192, 1024]⟩
abbrev S1024x1024 : Shape := ⟨2, ![1024, 1024]⟩
abbrev S1x1024 : Shape := ⟨2, ![1, 1024]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8x1024x512, .bf16⟩
  | .hbm, ⟨5, _⟩ => ⟨S8192x1024, .f32⟩
  | .hbm, ⟨6, _⟩ => ⟨S8192x1024, .bf16⟩
  | .hbm, ⟨7, _⟩ => ⟨S8192x4096, .bf16⟩
  | .hbm, ⟨8, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S8x1024x512, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceFfnFwdIdeal.lean ====
abbrev S8192x1024 : Shape := ⟨2, ![8192, 1024]⟩
abbrev S1024x1024 : Shape := ⟨2, ![1024, 1024]⟩
abbrev S1x1024 : Shape := ⟨2, ![1, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8x1024x512, .bf16⟩
  | .hbm, ⟨5, _⟩ => ⟨S1024x8x512, .bf16⟩
  | .hbm, ⟨6, _⟩ => ⟨S1024x4096, .bf16⟩
  | .hbm, ⟨7, _⟩ => ⟨S1024x4096, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x1024, .bf16⟩
  | .hbm, ⟨35, _⟩ => ⟨S8192x4096, .bf16⟩
  | .hbm, ⟨36, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelOutFwd.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOutFwdIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S4096x1024, .f32⟩
  | .hbm, ⟨5, _⟩ => ⟨S8192x1024, .f32⟩
  | .hbm, ⟨6, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFfnFwd2.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S8x1024x512 : Shape := ⟨3, ![8, 1024, 512]⟩
abbrev S8192x4096 : Shape := ⟨2, ![8192, 4096]⟩
abbrev S512x512 : Shape := ⟨2, ![512, 512]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S8x1024x512, .bf16⟩
  | .hbm, ⟨6, _⟩ => ⟨S8192x1024, .f32⟩
  | .hbm, ⟨7, _⟩ => ⟨S8192x1024, .bf16⟩
  | .hbm, ⟨8, _⟩ => ⟨S8192x4096, .bf16⟩
  | .hbm, ⟨9, _⟩ => ⟨S8192x4096, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x1024x512, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x4096, .bf16⟩
  | .local _ .vmem, ⟨14, _⟩ => ⟨S512x4096, .bf16⟩
  | .local _ .vmem, ⟨15, _⟩ => ⟨S512x4096, .bf16⟩
  | .local _ .vmem, ⟨16, _⟩ => ⟨S512x4096, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFfnFwd2Ideal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S8x1024x512, .bf16⟩
  | .hbm, ⟨6, _⟩ => ⟨S8192x1024, .bf16⟩
  | .hbm, ⟨7, _⟩ => ⟨S1024x8x512, .bf16⟩
  | .hbm, ⟨8, _⟩ => ⟨S1024x4096, .bf16⟩
  | .hbm, ⟨9, _⟩ => ⟨S1024x4096, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x1024, .bf16⟩
  | .hbm, ⟨37, _⟩ => ⟨S8192x4096, .bf16⟩
  | .hbm, ⟨38, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== KernelMixDw.lean ====
abbrev S8192x1024 : Shape := ⟨2, ![8192, 1024]⟩
abbrev S8x128x1024 : Shape := ⟨3, ![8, 128, 1024]⟩
abbrev S2048x1024 : Shape := ⟨2, ![2048, 1024]⟩
abbrev S1024x1024 : Shape := ⟨2, ![1024, 1024]⟩
abbrev S128x1024 : Shape := ⟨2, ![128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x128x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceMixDwIdeal.lean ====
abbrev S8192x1024 : Shape := ⟨2, ![8192, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8x128x1024, .f32⟩
  | .hbm, ⟨9, _⟩ => ⟨S8x128x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelMixDw2.lean ====
abbrev S8192x512 : Shape := ⟨2, ![8192, 512]⟩
abbrev S8192x1024 : Shape := ⟨2, ![8192, 1024]⟩
abbrev S8x128x1024 : Shape := ⟨3, ![8, 128, 1024]⟩
abbrev S2048x512 : Shape := ⟨2, ![2048, 512]⟩
abbrev S2048x1024 : Shape := ⟨2, ![2048, 1024]⟩
abbrev S1024x1024 : Shape := ⟨2, ![1024, 1024]⟩
abbrev S128x1024 : Shape := ⟨2, ![128, 1024]⟩
abbrev S1x128x1024 : Shape := ⟨3, ![1, 128, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S8x128x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .f32⟩
  | .local _ .vmem, ⟨5, _⟩ => ⟨S2048x1024, .f32⟩
  | .local _ .vmem, ⟨6, _⟩ => ⟨S8x128x1024, .bf16⟩
  | .local _ .vmem, ⟨7, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== ReferenceMixDw2Ideal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .f32⟩
  | .hbm, ⟨3, _⟩ => ⟨S8192x1024, .bf16⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8x128x1024, .f32⟩
  | .hbm, ⟨11, _⟩ => ⟨S8x128x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelAbDw.lean ====
abbrev S8192x1024 : Shape := ⟨2, ![8192, 1024]⟩
abbrev S8192x2560 : Shape := ⟨2, ![8192, 2560]⟩
abbrev S2x1024x1280 : Shape := ⟨3, ![2, 1024, 1280]⟩
abbrev S2048x1024 : Shape := ⟨2, ![2048, 1024]⟩
abbrev S2048x1280 : Shape := ⟨2, ![2048, 1280]⟩
abbrev S1x1024x1280 : Shape := ⟨3, ![1, 1024, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S2x1024x1280, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1x1024x1280, .bf16⟩
  | .local _ .vmem, ⟨5, _⟩ => ⟨S1x1024x1280, .bf16⟩
  | .local _ .vmem, ⟨6, _⟩ => ⟨S1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceAbDwIdeal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩
abbrev S1024x2x1280 : Shape := ⟨3, ![1024, 2, 1280]⟩
abbrev S2x1024x1280 : Shape := ⟨3, ![2, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x2x1280, .f32⟩
  | .hbm, ⟨10, _⟩ => ⟨S2x1024x1280, .f32⟩
  | .hbm, ⟨11, _⟩ => ⟨S2x1024x1280, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelQkvDw.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceQkvDwIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelAbBwd.lean ====
abbrev S8192x2560 : Shape := ⟨2, ![8192, 2560]⟩
abbrev S1x1024x2560 : Shape := ⟨3, ![1, 1024, 2560]⟩
abbrev S8192x1024 : Shape := ⟨2, ![8192, 1024]⟩
abbrev S1x1024 : Shape := ⟨2, ![1, 1024]⟩
abbrev S512x2560 : Shape := ⟨2, ![512, 2560]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S1x1024x2560, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S1x1024x2560, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceAbBwdIdeal.lean ====
abbrev S8192x2560 : Shape := ⟨2, ![8192, 2560]⟩
abbrev S1x1024x2560 : Shape := ⟨3, ![1, 1024, 2560]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩

abbrev nBuf : Space → Nat
  | .hbm => 58
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1x1024x2560, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x2560, .bf16⟩
  | .hbm, ⟨27, _⟩ => ⟨S1024x2560, .f32⟩
  | .hbm, ⟨28, _⟩ => ⟨S8192x2560, .f32⟩
  | .hbm, ⟨29, _⟩ => ⟨S8192x2560, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelQkvBwd.lean ====
abbrev S8192x1024 : Shape := ⟨2, ![8192, 1024]⟩
abbrev S8x1024x384 : Shape := ⟨3, ![8, 1024, 384]⟩
abbrev S1x1024 : Shape := ⟨2, ![1, 1024]⟩
abbrev S512x1024 : Shape := ⟨2, ![512, 1024]⟩
abbrev S256x512 : Shape := ⟨2, ![256, 512]⟩
abbrev S1x1024x384 : Shape := ⟨3, ![1, 1024, 384]⟩
abbrev S1024x384 : Shape := ⟨2, ![1024, 384]⟩
abbrev S1x1024x128 : Shape := ⟨3, ![1, 1024, 128]⟩
abbrev S1024x128 : Shape := ⟨2, ![1024, 128]⟩
abbrev S1024x512 : Shape := ⟨2, ![1024, 512]⟩
abbrev S256x1024 : Shape := ⟨2, ![256, 1024]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8x1024x384, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8x1024x384, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceQkvBwdIdeal.lean ====
abbrev S8192x1024 : Shape := ⟨2, ![8192, 1024]⟩
abbrev S8x1024x384 : Shape := ⟨3, ![8, 1024, 384]⟩
abbrev S1x1024 : Shape := ⟨2, ![1, 1024]⟩
abbrev S1024x8x384 : Shape := ⟨3, ![1024, 8, 384]⟩
abbrev S1024x3072 : Shape := ⟨2, ![1024, 3072]⟩
abbrev S8192x3072 : Shape := ⟨2, ![8192, 3072]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8x1024x384, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024x8x384, .bf16⟩
  | .hbm, ⟨8, _⟩ => ⟨S1024x3072, .bf16⟩
  | .hbm, ⟨9, _⟩ => ⟨S1024x3072, .f32⟩
  | .hbm, ⟨10, _⟩ => ⟨S8192x3072, .bf16⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x3072, .f32⟩
  | .hbm, ⟨33, _⟩ => ⟨S8192x3072, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== KernelAbFwd.lean ====
abbrev S8192x1024 : Shape := ⟨2, ![8192, 1024]⟩
abbrev S1x1024 : Shape := ⟨2, ![1, 1024]⟩
abbrev S1x1024x2560 : Shape := ⟨3, ![1, 1024, 2560]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2560, .bf16⟩
  | .hbm, ⟨3, _⟩ => ⟨S8192x1024, .bf16⟩
  | .hbm, ⟨4, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2560, .bf16⟩
  | .local _ .vmem, ⟨4, _⟩ => ⟨S512x1024, .bf16⟩
  | .local _ .vmem, ⟨5, _⟩ => ⟨S512x1024, .bf16⟩
  | .local _ .vmem, ⟨6, _⟩ => ⟨S512x2560, .f32⟩
  | .local _ .vmem, ⟨7, _⟩ => ⟨S512x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceAbFwdIdeal.lean ====
abbrev S8192x1024 : Shape := ⟨2, ![8192, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2560, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x2560, .bf16⟩
  | .hbm, ⟨22, _⟩ => ⟨S1024x2560, .f32⟩
  | .hbm, ⟨23, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelQkvFwd.lean ====
abbrev S8192x1024 : Shape := ⟨2, ![8192, 1024]⟩
abbrev S1x1024 : Shape := ⟨2, ![1, 1024]⟩
abbrev S8x1024x384 : Shape := ⟨3, ![8, 1024, 384]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x384 : Shape := ⟨3, ![1, 1024, 384]⟩
abbrev S1024x384 : Shape := ⟨2, ![1024, 384]⟩
abbrev S1024x768 : Shape := ⟨2, ![1024, 768]⟩
abbrev S512x768 : Shape := ⟨2, ![512, 768]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x384, .bf16⟩
  | .hbm, ⟨3, _⟩ => ⟨S8192x1024, .bf16⟩
  | .hbm, ⟨4, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x384, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceQkvFwdIdeal.lean ====
abbrev S8192x1024 : Shape := ⟨2, ![8192, 1024]⟩
abbrev S1x1024 : Shape := ⟨2, ![1, 1024]⟩
abbrev S8x1024x384 : Shape := ⟨3, ![8, 1024, 384]⟩
abbrev S1024x8x384 : Shape := ⟨3, ![1024, 8, 384]⟩
abbrev S1024x3072 : Shape := ⟨2, ![1024, 3072]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x384, .bf16⟩
  | .hbm, ⟨3, _⟩ => ⟨S1024x8x384, .bf16⟩
  | .hbm, ⟨4, _⟩ => ⟨S1024x3072, .bf16⟩
  | .hbm, ⟨5, _⟩ => ⟨S1024x3072, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x3072, .f32⟩
  | .hbm, ⟨25, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== KernelAdamIn.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceAdamInIdeal.lean ====
abbrev S8x1024x512 : Shape := ⟨3, ![8, 1024, 512]⟩
abbrev S4x1024x512 : Shape := ⟨3, ![4, 1024, 512]⟩
abbrev S1x8x1024x512 : Shape := ⟨4, ![1, 8, 1024, 512]⟩
abbrev S4x8x1024x512 : Shape := ⟨4, ![4, 8, 1024, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S1x8x1024x512, .bf16⟩
  | .hbm, ⟨8, _⟩ => ⟨S1x8x1024x512, .bf16⟩
  | .hbm, ⟨9, _⟩ => ⟨S1x8x1024x512, .bf16⟩
  | .hbm, ⟨10, _⟩ => ⟨S1x8x1024x512, .bf16⟩
  | .hbm, ⟨11, _⟩ => ⟨S4x8x1024x512, .bf16⟩
  | .hbm, ⟨12, _⟩ => ⟨S4x8x1024x512, .f32⟩
  | .hbm, ⟨13, _⟩ => ⟨S_, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S_, .f32⟩
  | .hbm, ⟨19, _⟩ => ⟨S4x1024x512, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S_, .f32⟩
  | .hbm, ⟨34, _⟩ => ⟨S4x1024x512, .f32⟩
  | .hbm, ⟨35, _⟩ => ⟨S4x1024x512, .f32⟩
  | .hbm, ⟨36, _⟩ => ⟨S4x1024x512, .f32⟩
  | .hbm, ⟨37, _⟩ => ⟨S_, .f32⟩
  | .hbm, ⟨38, _⟩ => ⟨S4x1024x512, .f32⟩
  | .hbm, ⟨39, _⟩ => ⟨S4x1024x512, .f32⟩
  | .hbm, ⟨40, _⟩ => ⟨S4x1024x512, .f32⟩
  | .hbm, ⟨41, _⟩ => ⟨S_, .f32⟩
  | .hbm, ⟨42, _⟩ => ⟨S4x1024x512, .f32⟩
  | .hbm, ⟨43, _⟩ => ⟨S4x1024x512, .f32⟩
  | .hbm, ⟨44, _⟩ => ⟨S4x1024x512, .f32⟩
  | .hbm, ⟨45, _⟩ => ⟨S_, .f32⟩
  | .hbm, ⟨46, _⟩ => ⟨S4x1024x512, .f32⟩
  | .hbm, ⟨47, _⟩ => ⟨S4x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdamOut.lean ====
abbrev S8x512x1024 : Shape := ⟨3, ![8, 512, 1024]⟩
abbrev S4x512x1024 : Shape := ⟨3, ![4, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S8x256x1024, .bf16⟩
  | .local _ .vmem, ⟨7, _⟩ => ⟨S8x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceAdamOutIdeal.lean ====
abbrev S8x512x1024 : Shape := ⟨3, ![8, 512, 1024]⟩
abbrev S4x512x1024 : Shape := ⟨3, ![4, 512, 1024]⟩
abbrev S1x8x512x1024 : Shape := ⟨4, ![1, 8, 512, 1024]⟩
abbrev S4x8x512x1024 : Shape := ⟨4, ![4, 8, 512, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S1x8x512x1024, .bf16⟩
  | .hbm, ⟨8, _⟩ => ⟨S1x8x512x1024, .bf16⟩
  | .hbm, ⟨9, _⟩ => ⟨S1x8x512x1024, .bf16⟩
  | .hbm, ⟨10, _⟩ => ⟨S1x8x512x1024, .bf16⟩
  | .hbm, ⟨11, _⟩ => ⟨S4x8x512x1024, .bf16⟩
  | .hbm, ⟨12, _⟩ => ⟨S4x8x512x1024, .f32⟩
  | .hbm, ⟨13, _⟩ => ⟨S_, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S_, .f32⟩
  | .hbm, ⟨19, _⟩ => ⟨S4x512x1024, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S_, .f32⟩
  | .hbm, ⟨34, _⟩ => ⟨S4x512x1024, .f32⟩
  | .hbm, ⟨35, _⟩ => ⟨S4x512x1024, .f32⟩
  | .hbm, ⟨36, _⟩ => ⟨S4x512x1024, .f32⟩
  | .hbm, ⟨37, _⟩ => ⟨S_, .f32⟩
  | .hbm, ⟨38, _⟩ => ⟨S4x512x1024, .f32⟩
  | .hbm, ⟨39, _⟩ => ⟨S4x512x1024, .f32⟩
  | .hbm, ⟨40, _⟩ => ⟨S4x512x1024, .f32⟩
  | .hbm, ⟨41, _⟩ => ⟨S_, .f32⟩
  | .hbm, ⟨42, _⟩ => ⟨S4x512x1024, .f32⟩
  | .hbm, ⟨43, _⟩ => ⟨S4x512x1024, .f32⟩
  | .hbm, ⟨44, _⟩ => ⟨S4x512x1024, .f32⟩
  | .hbm, ⟨45, _⟩ => ⟨S_, .f32⟩
  | .hbm, ⟨46, _⟩ => ⟨S4x512x1024, .f32⟩
  | .hbm, ⟨47, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdamMix.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamMixIdeal.lean ====
abbrev S8x128x1024 : Shape := ⟨3, ![8, 128, 1024]⟩
abbrev S2x128x1024 : Shape := ⟨3, ![2, 128, 1024]⟩
abbrev S1x8x128x1024 : Shape := ⟨4, ![1, 8, 128, 1024]⟩
abbrev S2x8x128x1024 : Shape := ⟨4, ![2, 8, 128, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S1x8x128x1024, .bf16⟩
  | .hbm, ⟨6, _⟩ => ⟨S1x8x128x1024, .bf16⟩
  | .hbm, ⟨7, _⟩ => ⟨S2x8x128x1024, .bf16⟩
  | .hbm, ⟨8, _⟩ => ⟨S2x8x128x1024, .f32⟩
  | .hbm, ⟨9, _⟩ => ⟨S_, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S2x128x1024, .f32⟩
  | .hbm, ⟨18, _⟩ => ⟨S_, .f32⟩
  | .hbm, ⟨19, _⟩ => ⟨S2x128x1024, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S2x128x1024, .f32⟩
  | .hbm, ⟨37, _⟩ => ⟨S_, .f32⟩
  | .hbm, ⟨38, _⟩ => ⟨S2x128x1024, .f32⟩
  | .hbm, ⟨39, _⟩ => ⟨S2x128x1024, .f32⟩
  | .hbm, ⟨40, _⟩ => ⟨S2x128x1024, .f32⟩
  | .hbm, ⟨41, _⟩ => ⟨S_, .f32⟩
  | .hbm, ⟨42, _⟩ => ⟨S2x128x1024, .f32⟩
  | .hbm, ⟨43, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KernelAdamAb.lean ====
abbrev S8x1024x320 : Shape := ⟨3, ![8, 1024, 320]⟩
abbrev S2x1024x320 : Shape := ⟨3, ![2, 1024, 320]⟩
abbrev S8x256x320 : Shape := ⟨3, ![8, 256, 320]⟩
abbrev S1x256x320 : Shape := ⟨3, ![1, 256, 320]⟩
abbrev S256x320 : Shape := ⟨2, ![256, 320]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x320, .bf16⟩
  | .hbm, ⟨1, _⟩ => ⟨S8x1024x320, .bf16⟩
  | .hbm, ⟨2, _⟩ => ⟨S2x1024x320, .f32⟩
  | .hbm, ⟨3, _⟩ => ⟨S2x1024x320, .f32⟩
  | .hbm, ⟨4, _⟩ => ⟨S2x1024x320, .f32⟩
  | .hbm, ⟨5, _⟩ => ⟨S2x1024x320, .f32⟩
  | .hbm, ⟨6, _⟩ => ⟨S2x1024x320, .f32⟩
  | .hbm, ⟨7, _⟩ => ⟨S2x1024x320, .f32⟩
  | .hbm, ⟨8, _⟩ => ⟨S2x1024x320, .f32⟩
  | .local _ .vmem, ⟨0, _⟩ => ⟨S8x256x320, .bf16⟩
  | .local _ .vmem, ⟨1, _⟩ => ⟨S8x256x320, .bf16⟩
  | .local _ .vmem, ⟨2, _⟩ => ⟨S8x256x320, .bf16⟩
  | .local _ .vmem, ⟨3, _⟩ => ⟨S8x256x320, .bf16⟩
  | .local _ .vmem, ⟨4, _⟩ => ⟨S1x256x320, .f32⟩
  | .local _ .vmem, ⟨5, _⟩ => ⟨S1x256x320, .f32⟩
  | .local _ .vmem, ⟨6, _⟩ => ⟨S1x256x320, .f32⟩
  | .local _ .vmem, ⟨7, _⟩ => ⟨S1x256x320, .f32⟩
  | .local _ .vmem, ⟨8, _⟩ => ⟨S1x256x320, .f32⟩
  | .local _ .vmem, ⟨9, _⟩ => ⟨S1x256x320, .f32⟩
  | .local _ .vmem, ⟨10, _⟩ => ⟨S1x256x320, .f32⟩
  | .local _ .vmem, ⟨11, _⟩ => ⟨S1x256x320, .f32⟩
  | .local _ .vmem, ⟨12, _⟩ => ⟨S1x256x320, .f32⟩
  | .local _ .vmem, ⟨13, _⟩ => ⟨S1x256x320, .f32⟩
  | .local _ .vmem, ⟨14, _⟩ => ⟨S1x256x320, .f32⟩
  | .local _ .vmem, ⟨15, _⟩ => ⟨S1x256x320, .f32⟩
  | .local _ .vmem, ⟨16, _⟩ => ⟨S1x256x320, .f32⟩
  | .local _ .vmem, ⟨17, _⟩ => ⟨S1x256x320, .f32⟩
  | _, _ => ⟨S8x1024x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x320 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamAbIdeal.lean ====
abbrev S8x1024x320 : Shape := ⟨3, ![8, 1024, 320]⟩
abbrev S2x1024x320 : Shape := ⟨3, ![2, 1024, 320]⟩
abbrev S1x8x1024x320 : Shape := ⟨4, ![1, 8, 1024, 320]⟩
abbrev S2x8x1024x320 : Shape := ⟨4, ![2, 8, 1024, 320]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x320, .bf16⟩
  | .hbm, ⟨1, _⟩ => ⟨S8x1024x320, .bf16⟩
  | .hbm, ⟨2, _⟩ => ⟨S2x1024x320, .f32⟩
  | .hbm, ⟨3, _⟩ => ⟨S2x1024x320, .f32⟩
  | .hbm, ⟨4, _⟩ => ⟨S2x1024x320, .f32⟩
  | .hbm, ⟨5, _⟩ => ⟨S1x8x1024x320, .bf16⟩
  | .hbm, ⟨6, _⟩ => ⟨S1x8x1024x320, .bf16⟩
  | .hbm, ⟨7, _⟩ => ⟨S2x8x1024x320, .bf16⟩
  | .hbm, ⟨8, _⟩ => ⟨S2x8x1024x320, .f32⟩
  | .hbm, ⟨9, _⟩ => ⟨S_, .f32⟩
  | .hbm, ⟨10, _⟩ => ⟨S2x1024x320, .f32⟩
  | .hbm, ⟨11, _⟩ => ⟨S_, .f32⟩
  | .hbm, ⟨12, _⟩ => ⟨S2x1024x320, .f32⟩
  | .hbm, ⟨13, _⟩ => ⟨S2x1024x320, .f32⟩
  | .hbm, ⟨14, _⟩ => ⟨S_, .f32⟩
  | .hbm, ⟨15, _⟩ => ⟨S2x1024x320, .f32⟩
  | .hbm, ⟨16, _⟩ => ⟨S2x1024x320, .f32⟩
  | .hbm, ⟨17, _⟩ => ⟨S2x1024x320, .f32⟩
  | .hbm, ⟨18, _⟩ => ⟨S_, .f32⟩
  | .hbm, ⟨19, _⟩ => ⟨S2x1024x320, .f32⟩
  | .hbm, ⟨20, _⟩ => ⟨S2x1024x320, .f32⟩
  | .hbm, ⟨21, _⟩ => ⟨S2x1024x320, .f32⟩
  | .hbm, ⟨22, _⟩ => ⟨S_, .f32⟩
  | .hbm, ⟨23, _⟩ => ⟨S2x1024x320, .f32⟩
  | .hbm, ⟨24, _⟩ => ⟨S2x1024x320, .f32⟩
  | .hbm, ⟨25, _⟩ => ⟨S2x1024x320, .f32⟩
  | .hbm, ⟨26, _⟩ => ⟨S_, .f32⟩
  | .hbm, ⟨27, _⟩ => ⟨S2x1024x320, .f32⟩
  | .hbm, ⟨28, _⟩ => ⟨S2x1024x320, .f32⟩
  | .hbm, ⟨29, _⟩ => ⟨S_, .f32⟩
  | .hbm, ⟨30, _⟩ => ⟨S2x1024x320, .f32⟩
  | .hbm, ⟨31, _⟩ => ⟨S2x1024x320, .f32⟩
  | .hbm, ⟨32, _⟩ => ⟨S2x1024x320, .f32⟩
  | .hbm, ⟨33, _⟩ => ⟨S_, .f32⟩
  | .hbm, ⟨34, _⟩ => ⟨S2x1024x320, .f32⟩
  | .hbm, ⟨35, _⟩ => ⟨S2x1024x320, .f32⟩
  | .hbm, ⟨36, _⟩ => ⟨S2x1024x320, .f32⟩
  | .hbm, ⟨37, _⟩ => ⟨S_, .f32⟩
  | .hbm, ⟨38, _⟩ => ⟨S2x1024x320, .f32⟩
  | .hbm, ⟨39, _⟩ => ⟨S2x1024x320, .f32⟩
  | .hbm, ⟨40, _⟩ => ⟨S2x1024x320, .f32⟩
  | .hbm, ⟨41, _⟩ => ⟨S_, .f32⟩
  | .hbm, ⟨42, _⟩ => ⟨S2x1024x320, .f32⟩
  | .hbm, ⟨43, _⟩ => ⟨S2x1024x320, .f32⟩
  | _, _ => ⟨S8x1024x320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KernelAdamQkv.lean ====
abbrev S8x1024x384 : Shape := ⟨3, ![8, 1024, 384]⟩
abbrev S2x1024x384 : Shape := ⟨3, ![2, 1024, 384]⟩
abbrev S8x256x384 : Shape := ⟨3, ![8, 256, 384]⟩
abbrev S1x256x384 : Shape := ⟨3, ![1, 256, 384]⟩
abbrev S256x384 : Shape := ⟨2, ![256, 384]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .local _ .vmem, ⟨0, _⟩ => ⟨S8x256x384, .bf16⟩
  | .local _ .vmem, ⟨1, _⟩ => ⟨S8x256x384, .bf16⟩
  | .local _ .vmem, ⟨2, _⟩ => ⟨S8x256x384, .bf16⟩
  | .local _ .vmem, ⟨3, _⟩ => ⟨S8x256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamQkvIdeal.lean ====
abbrev S8x1024x384 : Shape := ⟨3, ![8, 1024, 384]⟩
abbrev S2x1024x384 : Shape := ⟨3, ![2, 1024, 384]⟩
abbrev S1x8x1024x384 : Shape := ⟨4, ![1, 8, 1024, 384]⟩
abbrev S2x8x1024x384 : Shape := ⟨4, ![2, 8, 1024, 384]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S1x8x1024x384, .bf16⟩
  | .hbm, ⟨6, _⟩ => ⟨S1x8x1024x384, .bf16⟩
  | .hbm, ⟨7, _⟩ => ⟨S2x8x1024x384, .bf16⟩
  | .hbm, ⟨8, _⟩ => ⟨S2x8x1024x384, .f32⟩
  | .hbm, ⟨9, _⟩ => ⟨S_, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S_, .f32⟩
  | .hbm, ⟨15, _⟩ => ⟨S2x1024x384, .f32⟩
  | .hbm, ⟨16, _⟩ => ⟨S2x1024x384, .f32⟩
  | .hbm, ⟨17, _⟩ => ⟨S2x1024x384, .f32⟩
  | .hbm, ⟨18, _⟩ => ⟨S_, .f32⟩
  | .hbm, ⟨19, _⟩ => ⟨S2x1024x384, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S2x1024x384, .f32⟩
  | .hbm, ⟨33, _⟩ => ⟨S_, .f32⟩
  | .hbm, ⟨34, _⟩ => ⟨S2x1024x384, .f32⟩
  | .hbm, ⟨35, _⟩ => ⟨S2x1024x384, .f32⟩
  | .hbm, ⟨36, _⟩ => ⟨S2x1024x384, .f32⟩
  | .hbm, ⟨37, _⟩ => ⟨S_, .f32⟩
  | .hbm, ⟨38, _⟩ => ⟨S2x1024x384, .f32⟩
  | .hbm, ⟨39, _⟩ => ⟨S2x1024x384, .f32⟩
  | .hbm, ⟨40, _⟩ => ⟨S2x1024x384, .f32⟩
  | .hbm, ⟨41, _⟩ => ⟨S_, .f32⟩
  | .hbm, ⟨42, _⟩ => ⟨S2x1024x384, .f32⟩
  | .hbm, ⟨43, _⟩ => ⟨S2x1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== KernelAttnFwd.lean ====
abbrev S8192x3072 : Shape := ⟨2, ![8192, 3072]⟩
abbrev S16x256x768 : Shape := ⟨3, ![16, 256, 768]⟩
abbrev S8192x1024 : Shape := ⟨2, ![8192, 1024]⟩
abbrev S256x512 : Shape := ⟨2, ![256, 512]⟩
abbrev S8x256x768 : Shape := ⟨3, ![8, 256, 768]⟩
abbrev S256x128 : Shape := ⟨2, ![256, 128]⟩
abbrev S768x128 : Shape := ⟨2, ![768, 128]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩

abbrev nBuf : Space → Nat
  | .hbm => 3
  | .vmem => 18
  | .smem => 0
  | _ => 0

abbrev bufTy : (tb : Table) → Fin (tcTables nBuf tb) → BufTy
  | .hbm, ⟨0, _⟩ => ⟨S8192x3072, .bf16⟩
  | .hbm, ⟨1, _⟩ => ⟨S16x256x768, .f32⟩
  | .hbm, ⟨2, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x256x768, .f32⟩
  | .local _ .vmem, ⟨15, _⟩ => ⟨S8x256x768, .f32⟩
  | .local _ .vmem, ⟨16, _⟩ => ⟨S256x512, .bf16⟩
  | .local _ .vmem, ⟨17, _⟩ => ⟨S256x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c2_i32_0 : BitVec 32 := 2#32
  let v6 : BitVec 1 := Scalar.cmpi .sge arg1 c2_i32_0
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c0_i32_1 : BitVec 32 := 0#32
  let v3 : BitVec 32 := Scalar.addi c0_i32_1 arg0
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c2_i32 : BitVec 32 := 2#32
  let v1 : BitVec 32 := Scalar.subi v0 c2_i32
  let c0_i32 : BitVec 32 := 0#32
  let v2 : BitVec 32 := Scalar.maxsi v1 c0_i32
  let c2_i32_0 : BitVec 32 := 2#32
  let v3 : BitVec 32 := Scalar.addi c2_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c2_i32 : BitVec 32 := 2#32
  let v3 : BitVec 32 := Scalar.addi c2_i32 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c2_i32 : BitVec 32 := 2#32
  let v1 : BitVec 32 := Scalar.subi v0 c2_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c4_i32 : BitVec 32 := 4#32
  let v3 : BitVec 32 := Scalar.addi c4_i32 arg0
  let c0_i32_1 : BitVec 32 := 0#32
  ![v2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAttnFwdIdeal.lean ====
variable {F : FTy → Type} [FloatOps F] [Named F]
def κ : String → Option EReal := fun
  | "mask" => some ⊥
  | _ => none
-- ==== ReferenceAttnFwdIdeal.lean ====
abbrev S8192x3072 : Shape := ⟨2, ![8192, 3072]⟩
abbrev S16x256x768 : Shape := ⟨3, ![16, 256, 768]⟩
abbrev S8192x1024 : Shape := ⟨2, ![8192, 1024]⟩
abbrev S32x256x16x64 : Shape := ⟨4, ![32, 256, 16, 64]⟩
abbrev S_ : Shape := ⟨0, ![]⟩
abbrev S34x256x16x64 : Shape := ⟨4, ![34, 256, 16, 64]⟩
abbrev S32x768x16x64 : Shape := ⟨4, ![32, 768, 16, 64]⟩
abbrev S32x16x256x768 : Shape := ⟨4, ![32, 16, 256, 768]⟩
abbrev S1x16x256x768 : Shape := ⟨4, ![1, 16, 256, 768]⟩
abbrev S768 : Shape := ⟨1, ![768]⟩
abbrev S1x768 : Shape := ⟨2, ![1, 768]⟩
abbrev S32 : Shape := ⟨1, ![32]⟩
abbrev S32x1 : Shape := ⟨2, ![32, 1]⟩
abbrev S32x768 : Shape := ⟨2, ![32, 768]⟩
abbrev S32x1x1x768 : Shape := ⟨4, ![32, 1, 1, 768]⟩
abbrev S32x16x256 : Shape := ⟨3, ![32, 16, 256]⟩
abbrev S32x16x256x1 : Shape := ⟨4, ![32, 16, 256, 1]⟩
abbrev S32x16x64x256 : Shape := ⟨4, ![32, 16, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S16x256x768, .f32⟩
  | .hbm, ⟨2, _⟩ => ⟨S8192x3072, .f32⟩
  | .hbm, ⟨3, _⟩ => ⟨S8192x1024, .f32⟩
  | .hbm, ⟨4, _⟩ => ⟨S32x256x16x64, .f32⟩
  | .hbm, ⟨5, _⟩ => ⟨S8192x1024, .f32⟩
  | .hbm, ⟨6, _⟩ => ⟨S32x256x16x64, .f32⟩
  | .hbm, ⟨7, _⟩ => ⟨S8192x1024, .f32⟩
  | .hbm, ⟨8, _⟩ => ⟨S32x256x16x64, .f32⟩
  | .hbm, ⟨9, _⟩ => ⟨S_, .f32⟩
  | .hbm, ⟨10, _⟩ => ⟨S32x256x16x64, .f32⟩
  | .hbm, ⟨11, _⟩ => ⟨S32x256x16x64, .f32⟩
  | .hbm, ⟨12, _⟩ => ⟨S_, .i32⟩
  | .hbm, ⟨13, _⟩ => ⟨S_, .f32⟩
  | .hbm, ⟨14, _⟩ => ⟨S34x256x16x64, .f32⟩
  | .hbm, ⟨15, _⟩ => ⟨S32x256x16x64, .f32⟩
  | .hbm, ⟨16, _⟩ => ⟨S32x256x16x64, .f32⟩
  | .hbm, ⟨17, _⟩ => ⟨S32x256x16x64, .f32⟩
  | .hbm, ⟨18, _⟩ => ⟨S32x768x16x64, .f32⟩
  | .hbm, ⟨19, _⟩ => ⟨S32x16x256x768, .f32⟩
  | .hbm, ⟨20, _⟩ => ⟨S1x16x256x768, .f32⟩
  | .hbm, ⟨21, _⟩ => ⟨S32x16x256x768, .f32⟩
  | .hbm, ⟨22, _⟩ => ⟨S32x16x256x768, .f32⟩
  | .hbm, ⟨23, _⟩ => ⟨S768, .i32⟩
  | .hbm, ⟨24, _⟩ => ⟨S1x768, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32x1, .i32⟩
  | .hbm, ⟨30, _⟩ => ⟨S_, .i32⟩
  | .hbm, ⟨31, _⟩ => ⟨S32x1, .i32⟩
  | .hbm, ⟨32, _⟩ => ⟨S32x1, .i32⟩
  | .hbm, ⟨33, _⟩ => ⟨S32x768, .i32⟩
  | .hbm, ⟨34, _⟩ => ⟨S32x768, .i32⟩
  | .hbm, ⟨35, _⟩ => ⟨S32x768, .i1⟩
  | .hbm, ⟨36, _⟩ => ⟨S32x1x1x768, .i1⟩
  | .hbm, ⟨37, _⟩ => ⟨S_, .f32⟩
  | .hbm, ⟨38, _⟩ => ⟨S_, .f32⟩
  | .hbm, ⟨39, _⟩ => ⟨S32x16x256x768, .i1⟩
  | .hbm, ⟨40, _⟩ => ⟨S32x16x256x768, .f32⟩
  | .hbm, ⟨41, _⟩ => ⟨S32x16x256x768, .f32⟩
  | .hbm, ⟨42, _⟩ => ⟨S_, .f32⟩
  | .hbm, ⟨43, _⟩ => ⟨S32x16x256, .f32⟩
  | .hbm, ⟨44, _⟩ => ⟨S_, .f32⟩
  | .hbm, ⟨45, _⟩ => ⟨S32x16x256, .f32⟩
  | .hbm, ⟨46, _⟩ => ⟨S32x16x256, .f32⟩
  | .hbm, ⟨47, _⟩ => ⟨S32x16x256x1, .f32⟩
  | .hbm, ⟨48, _⟩ => ⟨S32x16x256x768, .f32⟩
  | .hbm, ⟨49, _⟩ => ⟨S32x16x256x768, .f32⟩
  | .hbm, ⟨50, _⟩ => ⟨S32x16x256x768, .f32⟩
  | .hbm, ⟨51, _⟩ => ⟨S_, .f32⟩
  | .hbm, ⟨52, _⟩ => ⟨S32x16x256, .f32⟩
  | .hbm, ⟨53, _⟩ => ⟨S32x16x256x1, .f32⟩
  | .hbm, ⟨54, _⟩ => ⟨S32x16x256x768, .f32⟩
  | .hbm, ⟨55, _⟩ => ⟨S32x16x256x768, .f32⟩
  | .hbm, ⟨56, _⟩ => ⟨S_, .i32⟩
  | .hbm, ⟨57, _⟩ => ⟨S_, .f32⟩
  | .hbm, ⟨58, _⟩ => ⟨S34x256x16x64, .f32⟩
  | .hbm, ⟨59, _⟩ => ⟨S32x256x16x64, .f32⟩
  | .hbm, ⟨60, _⟩ => ⟨S32x256x16x64, .f32⟩
  | .hbm, ⟨61, _⟩ => ⟨S32x256x16x64, .f32⟩
  | .hbm, ⟨62, _⟩ => ⟨S32x768x16x64, .f32⟩
  | .hbm, ⟨63, _⟩ => ⟨S32x16x64x256, .f32⟩
  | .hbm, ⟨64, _⟩ => ⟨S32x256x16x64, .f32⟩
  | .hbm, ⟨65, _⟩ => ⟨S8192x1024, .f32⟩
  | .hbm, ⟨66, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_6 : Ref sig .tc := ⟨.hbm, 56, rfl⟩
abbrev main_call2_v0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== KernelAdamSmall.lean ====
abbrev S8x4x1024 : Shape := ⟨3, ![8, 4, 1024]⟩
abbrev S8x2x512 : Shape := ⟨3, ![8, 2, 512]⟩
abbrev S8x2x4x128x128 : Shape := ⟨5, ![8, 2, 4, 128, 128]⟩
abbrev S8x2x16x257 : Shape := ⟨4, ![8, 2, 16, 257]⟩
abbrev S8x1x1024 : Shape := ⟨3, ![8, 1, 1024]⟩
abbrev S8x8x128 : Shape := ⟨3, ![8, 8, 128]⟩
abbrev S4x1024 : Shape := ⟨2, ![4, 1024]⟩
abbrev S2x512 : Shape := ⟨2, ![2, 512]⟩
abbrev S2x4x128x128 : Shape := ⟨4, ![2, 4, 128, 128]⟩
abbrev S2x16x257 : Shape := ⟨3, ![2, 16, 257]⟩
abbrev S1x1024 : Shape := ⟨2, ![1, 1024]⟩
abbrev S8x128 : Shape := ⟨2, ![8, 128]⟩
abbrev S1x4x1024 : Shape := ⟨3, ![1, 4, 1024]⟩
abbrev S1x2x512 : Shape := ⟨3, ![1, 2, 512]⟩
abbrev S1x2x4x128x128 : Shape := ⟨5, ![1, 2, 4, 128, 128]⟩
abbrev S1x2x16x257 : Shape := ⟨4, ![1, 2, 16, 257]⟩
abbrev S1x1x1024 : Shape := ⟨3, ![1, 1, 1024]⟩
abbrev S1x8x128 : Shape := ⟨3, ![1, 8, 128]⟩

abbrev nBuf : Space → Nat
  | .hbm => 58
  | .vmem => 58
  | .smem => 0
  | _ => 0

abbrev bufTy : (tb : Table) → Fin (tcTables nBuf tb) → BufTy
  | .hbm, ⟨0, _⟩ => ⟨S8x4x1024, .f32⟩
  | .hbm, ⟨1, _⟩ => ⟨S8x4x1024, .f32⟩
  | .hbm, ⟨2, _⟩ => ⟨S8x2x512, .f32⟩
  | .hbm, ⟨3, _⟩ => ⟨S8x2x4x128x128, .bf16⟩
  | .hbm, ⟨4, _⟩ => ⟨S8x2x512, .f32⟩
  | .hbm, ⟨5, _⟩ => ⟨S8x2x16x257, .f32⟩
  | .hbm, ⟨6, _⟩ => ⟨S8x1x1024, .f32⟩
  | .hbm, ⟨7, _⟩ => ⟨S8x8x128, .f32⟩
  | .hbm, ⟨8, _⟩ => ⟨S4x1024, .f32⟩
  | .hbm, ⟨9, _⟩ => ⟨S4x1024, .f32⟩
  | .hbm, ⟨10, _⟩ => ⟨S2x512, .f32⟩
  | .hbm, ⟨11, _⟩ => ⟨S2x4x128x128, .f32⟩
  | .hbm, ⟨12, _⟩ => ⟨S2x512, .f32⟩
  | .hbm, ⟨13, _⟩ => ⟨S2x16x257, .f32⟩
  | .hbm, ⟨14, _⟩ => ⟨S1x1024, .f32⟩
  | .hbm, ⟨15, _⟩ => ⟨S4x1024, .f32⟩
  | .hbm, ⟨16, _⟩ => ⟨S4x1024, .f32⟩
  | .hbm, ⟨17, _⟩ => ⟨S2x512, .f32⟩
  | .hbm, ⟨18, _⟩ => ⟨S2x4x128x128, .f32⟩
  | .hbm, ⟨19, _⟩ => ⟨S2x512, .f32⟩
  | .hbm, ⟨20, _⟩ => ⟨S2x16x257, .f32⟩
  | .hbm, ⟨21, _⟩ => ⟨S1x1024, .f32⟩
  | .hbm, ⟨22, _⟩ => ⟨S4x1024, .f32⟩
  | .hbm, ⟨23, _⟩ => ⟨S4x1024, .f32⟩
  | .hbm, ⟨24, _⟩ => ⟨S2x512, .f32⟩
  | .hbm, ⟨25, _⟩ => ⟨S2x4x128x128, .f32⟩
  | .hbm, ⟨26, _⟩ => ⟨S2x512, .f32⟩
  | .hbm, ⟨27, _⟩ => ⟨S2x16x257, .f32⟩
  | .hbm, ⟨28, _⟩ => ⟨S1x1024, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S4x1024, .f32⟩
  | .hbm, ⟨35, _⟩ => ⟨S4x1024, .f32⟩
  | .hbm, ⟨36, _⟩ => ⟨S4x1024, .f32⟩
  | .hbm, ⟨37, _⟩ => ⟨S2x512, .f32⟩
  | .hbm, ⟨38, _⟩ => ⟨S2x512, .f32⟩
  | .hbm, ⟨39, _⟩ => ⟨S2x512, .f32⟩
  | .hbm, ⟨40, _⟩ => ⟨S2x512, .f32⟩
  | .hbm, ⟨41, _⟩ => ⟨S2x4x128x128, .f32⟩
  | .hbm, ⟨42, _⟩ => ⟨S2x4x128x128, .f32⟩
  | .hbm, ⟨43, _⟩ => ⟨S2x4x128x128, .f32⟩
  | .hbm, ⟨44, _⟩ => ⟨S2x4x128x128, .f32⟩
  | .hbm, ⟨45, _⟩ => ⟨S2x512, .f32⟩
  | .hbm, ⟨46, _⟩ => ⟨S2x512, .f32⟩
  | .hbm, ⟨47, _⟩ => ⟨S2x512, .f32⟩
  | .hbm, ⟨48, _⟩ => ⟨S2x512, .f32⟩
  | .hbm, ⟨49, _⟩ => ⟨S2x16x257, .f32⟩
  | .hbm, ⟨50, _⟩ => ⟨S2x16x257, .f32⟩
  | .hbm, ⟨51, _⟩ => ⟨S2x16x257, .f32⟩
  | .hbm, ⟨52, _⟩ => ⟨S2x16x257, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S8x128, .f32⟩
  | .local _ .vmem, ⟨0, _⟩ => ⟨S8x4x1024, .f32⟩
  | .local _ .vmem, ⟨1, _⟩ => ⟨S8x4x1024, .f32⟩
  | .local _ .vmem, ⟨2, _⟩ => ⟨S8x2x512, .f32⟩
  | .local _ .vmem, ⟨3, _⟩ => ⟨S8x2x4x128x128, .bf16⟩
  | .local _ .vmem, ⟨4, _⟩ => ⟨S8x2x512, .f32⟩
  | .local _ .vmem, ⟨5, _⟩ => ⟨S8x2x16x257, .f32⟩
  | .local _ .vmem, ⟨6, _⟩ => ⟨S8x1x1024, .f32⟩
  | .local _ .vmem, ⟨7, _⟩ => ⟨S8x8x128, .f32⟩
  | .local _ .vmem, ⟨8, _⟩ => ⟨S4x1024, .f32⟩
  | .local _ .vmem, ⟨9, _⟩ => ⟨S4x1024, .f32⟩
  | .local _ .vmem, ⟨10, _⟩ => ⟨S2x512, .f32⟩
  | .local _ .vmem, ⟨11, _⟩ => ⟨S2x4x128x128, .f32⟩
  | .local _ .vmem, ⟨12, _⟩ => ⟨S2x512, .f32⟩
  | .local _ .vmem, ⟨13, _⟩ => ⟨S2x16x257, .f32⟩
  | .local _ .vmem, ⟨14, _⟩ => ⟨S1x1024, .f32⟩
  | .local _ .vmem, ⟨15, _⟩ => ⟨S4x1024, .f32⟩
  | .local _ .vmem, ⟨16, _⟩ => ⟨S4x1024, .f32⟩
  | .local _ .vmem, ⟨17, _⟩ => ⟨S2x512, .f32⟩
  | .local _ .vmem, ⟨18, _⟩ => ⟨S2x4x128x128, .f32⟩
  | .local _ .vmem, ⟨19, _⟩ => ⟨S2x512, .f32⟩
  | .local _ .vmem, ⟨20, _⟩ => ⟨S2x16x257, .f32⟩
  | .local _ .vmem, ⟨21, _⟩ => ⟨S1x1024, .f32⟩
  | .local _ .vmem, ⟨22, _⟩ => ⟨S4x1024, .f32⟩
  | .local _ .vmem, ⟨23, _⟩ => ⟨S4x1024, .f32⟩
  | .local _ .vmem, ⟨24, _⟩ => ⟨S2x512, .f32⟩
  | .local _ .vmem, ⟨25, _⟩ => ⟨S2x4x128x128, .f32⟩
  | .local _ .vmem, ⟨26, _⟩ => ⟨S2x512, .f32⟩
  | .local _ .vmem, ⟨27, _⟩ => ⟨S2x16x257, .f32⟩
  | .local _ .vmem, ⟨28, _⟩ => ⟨S1x1024, .f32⟩
  | .local _ .vmem, ⟨29, _⟩ => ⟨S4x1024, .f32⟩
  | .local _ .vmem, ⟨30, _⟩ => ⟨S4x1024, .f32⟩
  | .local _ .vmem, ⟨31, _⟩ => ⟨S4x1024, .f32⟩
  | .local _ .vmem, ⟨32, _⟩ => ⟨S4x1024, .f32⟩
  | .local _ .vmem, ⟨33, _⟩ => ⟨S4x1024, .f32⟩
  | .local _ .vmem, ⟨34, _⟩ => ⟨S4x1024, .f32⟩
  | .local _ .vmem, ⟨35, _⟩ => ⟨S4x1024, .f32⟩
  | .local _ .vmem, ⟨36, _⟩ => ⟨S4x1024, .f32⟩
  | .local _ .vmem, ⟨37, _⟩ => ⟨S2x512, .f32⟩
  | .local _ .vmem, ⟨38, _⟩ => ⟨S2x512, .f32⟩
  | .local _ .vmem, ⟨39, _⟩ => ⟨S2x512, .f32⟩
  | .local _ .vmem, ⟨40, _⟩ => ⟨S2x512, .f32⟩
  | .local _ .vmem, ⟨41, _⟩ => ⟨S2x4x128x128, .f32⟩
  | .local _ .vmem, ⟨42, _⟩ => ⟨S2x4x128x128, .f32⟩
  | .local _ .vmem, ⟨43, _⟩ => ⟨S2x4x128x128, .f32⟩
  | .local _ .vmem, ⟨44, _⟩ => ⟨S2x4x128x128, .f32⟩
  | .local _ .vmem, ⟨45, _⟩ => ⟨S2x512, .f32⟩
  | .local _ .vmem, ⟨46, _⟩ => ⟨S2x512, .f32⟩
  | .local _ .vmem, ⟨47, _⟩ => ⟨S2x512, .f32⟩
  | .local _ .vmem, ⟨48, _⟩ => ⟨S2x512, .f32⟩
  | .local _ .vmem, ⟨49, _⟩ => ⟨S2x16x257, .f32⟩
  | .local _ .vmem, ⟨50, _⟩ => ⟨S2x16x257, .f32⟩
  | .local _ .vmem, ⟨51, _⟩ => ⟨S2x16x257, .f32⟩
  | .local _ .vmem, ⟨52, _⟩ => ⟨S2x16x257, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S8x128, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0_0 : Ref sig .tc := ⟨.hbm, 29, rfl⟩
abbrev main_v0_1 : Ref sig .tc := ⟨.hbm, 30, rfl⟩
abbrev main_v0_2 : Ref sig .tc := ⟨.hbm, 31, rfl⟩
abbrev main_v0_3 : Ref sig .tc := ⟨.hbm, 32, rfl⟩
abbrev main_v0_4 : Ref sig .tc := ⟨.hbm, 33, rfl⟩
abbrev main_v0_5 : Ref sig .tc := ⟨.hbm, 34, rfl⟩
abbrev main_v0_6 : Ref sig .tc := ⟨.hbm, 35, rfl⟩
abbrev main_v0_7 : Ref sig .tc := ⟨.hbm, 36, rfl⟩
abbrev main_v0_8 : Ref sig .tc := ⟨.hbm, 37, rfl⟩
abbrev main_v0_9 : Ref sig .tc := ⟨.hbm, 38, rfl⟩
abbrev main_v0_10 : Ref sig .tc := ⟨.hbm, 39, rfl⟩
abbrev main_v0_11 : Ref sig .tc := ⟨.hbm, 40, rfl⟩
abbrev main_v0_12 : Ref sig .tc := ⟨.hbm, 41, rfl⟩
abbrev main_v0_13 : Ref sig .tc := ⟨.hbm, 42, rfl⟩
abbrev main_v0_14 : Ref sig .tc := ⟨.hbm, 43, rfl⟩
abbrev main_v0_15 : Ref sig .tc := ⟨.hbm, 44, rfl⟩
abbrev main_v0_16 : Ref sig .tc := ⟨.hbm, 45, rfl⟩
abbrev main_v0_17 : Ref sig .tc := ⟨.hbm, 46, rfl⟩
abbrev main_v0_18 : Ref sig .tc := ⟨.hbm, 47, rfl⟩
abbrev main_v0_19 : Ref sig .tc := ⟨.hbm, 48, rfl⟩
abbrev main_v0_20 : Ref sig .tc := ⟨.hbm, 49, rfl⟩
abbrev main_v0_21 : Ref sig .tc := ⟨.hbm, 50, rfl⟩
abbrev main_v0_22 : Ref sig .tc := ⟨.hbm, 51, rfl⟩
abbrev main_v0_23 : Ref sig .tc := ⟨.hbm, 52, rfl⟩
abbrev main_v0_24 : Ref sig .tc := ⟨.hbm, 53, rfl⟩
abbrev main_v0_25 : Ref sig .tc := ⟨.hbm, 54, rfl⟩
abbrev main_v0_26 : Ref sig .tc := ⟨.hbm, 55, rfl⟩
abbrev main_v0_27 : Ref sig .tc := ⟨.hbm, 56, rfl⟩
abbrev main_v0_28 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S8x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x16x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x16x257 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x16x257 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x4x128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x16x257 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S4x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S4x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S4x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S4x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S4x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S4x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x512 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x512 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x4x128x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S2x4x128x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x4x128x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S2x4x128x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S2x512 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S2x16x257 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S2x16x257 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S2x16x257 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S2x16x257 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S8x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== ReferenceAdamSmallIdeal.lean ====
abbrev S8x4x1024 : Shape := ⟨3, ![8, 4, 1024]⟩
abbrev S8x2x512 : Shape := ⟨3, ![8, 2, 512]⟩
abbrev S8x2x4x128x128 : Shape := ⟨5, ![8, 2, 4, 128, 128]⟩
abbrev S8x2x16x257 : Shape := ⟨4, ![8, 2, 16, 257]⟩
abbrev S8x1x1024 : Shape := ⟨3, ![8, 1, 1024]⟩
abbrev S8x8x128 : Shape := ⟨3, ![8, 8, 128]⟩
abbrev S4x1024 : Shape := ⟨2, ![4, 1024]⟩
abbrev S2x512 : Shape := ⟨2, ![2, 512]⟩
abbrev S2x4x128x128 : Shape := ⟨4, ![2, 4, 128, 128]⟩
abbrev S2x16x257 : Shape := ⟨3, ![2, 16, 257]⟩
abbrev S1x1024 : Shape := ⟨2, ![1, 1024]⟩
abbrev S_ : Shape := ⟨0, ![]⟩
abbrev S8x128 : Shape := ⟨2, ![8, 128]⟩

abbrev nBuf : Space → Nat
  | .hbm => 277
  | .vmem => 0
  | .smem => 0
  | _ => 0

abbrev hbmTy0_0 (i : Nat) : BufTy := match i % 128 with
  | 0 => ⟨S8x4x1024, .f32⟩
  | 1 => ⟨S8x4x1024, .f32⟩
  | 2 => ⟨S8x2x512, .f32⟩
  | 3 => ⟨S8x2x4x128x128, .bf16⟩
  | 4 => ⟨S8x2x512, .f32⟩
  | 5 => ⟨S8x2x16x257, .f32⟩
  | 6 => ⟨S8x1x1024, .f32⟩
  | 7 => ⟨S8x8x128, .f32⟩
  | 8 => ⟨S4x1024, .f32⟩
  | 9 => ⟨S4x1024, .f32⟩
  | 10 => ⟨S2x512, .f32⟩
  | 11 => ⟨S2x4x128x128, .f32⟩
  | 12 => ⟨S2x512, .f32⟩
  | 13 => ⟨S2x16x257, .f32⟩
  | 14 => ⟨S1x1024, .f32⟩
  | 15 => ⟨S4x1024, .f32⟩
  | 16 => ⟨S4x1024, .f32⟩
  | 17 => ⟨S2x512, .f32⟩
  | 18 => ⟨S2x4x128x128, .f32⟩
  | 19 => ⟨S2x512, .f32⟩
  | 20 => ⟨S2x16x257, .f32⟩
  | 21 => ⟨S1x1024, .f32⟩
  | 22 => ⟨S4x1024, .f32⟩
  | 23 => ⟨S4x1024, .f32⟩
  | 24 => ⟨S2x512, .f32⟩
  | 25 => ⟨S2x4x128x128, .f32⟩
  | 26 => ⟨S2x512, .f32⟩
  | 27 => ⟨S2x16x257, .f32⟩
  | 28 => ⟨S1x1024, .f32⟩
  | 29 => ⟨S_, .f32⟩
  | 30 => ⟨S4x1024, .f32⟩
  | 31 => ⟨S_, .f32⟩
  | 32 => ⟨S4x1024, .f32⟩
  | 33 => ⟨S_, .f32⟩
  | 34 => ⟨S2x512, .f32⟩
  | 35 => ⟨S8x2x4x128x128, .f32⟩
  | 36 => ⟨S_, .f32⟩
  | 37 => ⟨S2x4x128x128, .f32⟩
  | 38 => ⟨S_, .f32⟩
  | 39 => ⟨S2x512, .f32⟩
  | 40 => ⟨S_, .f32⟩
  | 41 => ⟨S2x16x257, .f32⟩
  | 42 => ⟨S_, .f32⟩
  | 43 => ⟨S1x1024, .f32⟩
  | 44 => ⟨S_, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S_, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S4x1024, .f32⟩
  | 84 => ⟨S_, .f32⟩
  | 85 => ⟨S4x1024, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S4x1024, .f32⟩
  | 92 => ⟨S_, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S4x1024, .f32⟩
  | 107 => ⟨S_, .f32⟩
  | 108 => ⟨S4x1024, .f32⟩
  | 109 => ⟨S4x1024, .f32⟩
  | 110 => ⟨S_, .f32⟩
  | 111 => ⟨S2x512, .f32⟩
  | 112 => ⟨S2x512, .f32⟩
  | 113 => ⟨S_, .f32⟩
  | 114 => ⟨S2x512, .f32⟩
  | 115 => ⟨S2x512, .f32⟩
  | 116 => ⟨S2x512, .f32⟩
  | 117 => ⟨S_, .f32⟩
  | 118 => ⟨S2x512, .f32⟩
  | 119 => ⟨S2x512, .f32⟩
  | 120 => ⟨S2x512, .f32⟩
  | 121 => ⟨S_, .f32⟩
  | 122 => ⟨S2x512, .f32⟩
  | 123 => ⟨S2x512, .f32⟩
  | 124 => ⟨S2x512, .f32⟩
  | 125 => ⟨S_, .f32⟩
  | 126 => ⟨S2x512, .f32⟩
  | 127 => ⟨S2x512, .f32⟩
  | _ => ⟨S8x4x1024, .f32⟩

abbrev hbmTy0_1 (i : Nat) : BufTy := match i % 128 with
  | 0 => ⟨S_, .f32⟩
  | 1 => ⟨S2x512, .f32⟩
  | 2 => ⟨S2x512, .f32⟩
  | 3 => ⟨S2x512, .f32⟩
  | 4 => ⟨S_, .f32⟩
  | 5 => ⟨S2x512, .f32⟩
  | 6 => ⟨S2x512, .f32⟩
  | 7 => ⟨S2x512, .f32⟩
  | 8 => ⟨S_, .f32⟩
  | 9 => ⟨S2x512, .f32⟩
  | 10 => ⟨S2x512, .f32⟩
  | 11 => ⟨S2x512, .f32⟩
  | 12 => ⟨S_, .f32⟩
  | 13 => ⟨S2x512, .f32⟩
  | 14 => ⟨S2x512, .f32⟩
  | 15 => ⟨S_, .f32⟩
  | 16 => ⟨S2x4x128x128, .f32⟩
  | 17 => ⟨S2x4x128x128, .f32⟩
  | 18 => ⟨S_, .f32⟩
  | 19 => ⟨S2x4x128x128, .f32⟩
  | 20 => ⟨S2x4x128x128, .f32⟩
  | 21 => ⟨S2x4x128x128, .f32⟩
  | 22 => ⟨S_, .f32⟩
  | 23 => ⟨S2x4x128x128, .f32⟩
  | 24 => ⟨S2x4x128x128, .f32⟩
  | 25 => ⟨S2x4x128x128, .f32⟩
  | 26 => ⟨S_, .f32⟩
  | 27 => ⟨S2x4x128x128, .f32⟩
  | 28 => ⟨S2x4x128x128, .f32⟩
  | 29 => ⟨S2x4x128x128, .f32⟩
  | 30 => ⟨S_, .f32⟩
  | 31 => ⟨S2x4x128x128, .f32⟩
  | 32 => ⟨S2x4x128x128, .f32⟩
  | 33 => ⟨S_, .f32⟩
  | 34 => ⟨S2x4x128x128, .f32⟩
  | 35 => ⟨S2x4x128x128, .f32⟩
  | 36 => ⟨S2x4x128x128, .f32⟩
  | 37 => ⟨S_, .f32⟩
  | 38 => ⟨S2x4x128x128, .f32⟩
  | 39 => ⟨S2x4x128x128, .f32⟩
  | 40 => ⟨S2x4x128x128, .f32⟩
  | 41 => ⟨S_, .f32⟩
  | 42 => ⟨S2x4x128x128, .f32⟩
  | 43 => ⟨S2x4x128x128, .f32⟩
  | 44 => ⟨S2x4x128x128, .f32⟩
  | 45 => ⟨S_, .f32⟩
  | 46 => ⟨S2x4x128x128, .f32⟩
  | 47 => ⟨S2x4x128x128, .f32⟩
  | 48 => ⟨S_, .f32⟩
  | 49 => ⟨S2x512, .f32⟩
  | 50 => ⟨S2x512, .f32⟩
  | 51 => ⟨S_, .f32⟩
  | 52 => ⟨S2x512, .f32⟩
  | 53 => ⟨S2x512, .f32⟩
  | 54 => ⟨S2x512, .f32⟩
  | 55 => ⟨S_, .f32⟩
  | 56 => ⟨S2x512, .f32⟩
  | 57 => ⟨S2x512, .f32⟩
  | 58 => ⟨S2x512, .f32⟩
  | 59 => ⟨S_, .f32⟩
  | 60 => ⟨S2x512, .f32⟩
  | 61 => ⟨S2x512, .f32⟩
  | 62 => ⟨S2x512, .f32⟩
  | 63 => ⟨S_, .f32⟩
  | 64 => ⟨S2x512, .f32⟩
  | 65 => ⟨S2x512, .f32⟩
  | 66 => ⟨S_, .f32⟩
  | 67 => ⟨S2x512, .f32⟩
  | 68 => ⟨S2x512, .f32⟩
  | 69 => ⟨S2x512, .f32⟩
  | 70 => ⟨S_, .f32⟩
  | 71 => ⟨S2x512, .f32⟩
  | 72 => ⟨S2x512, .f32⟩
  | 73 => ⟨S2x512, .f32⟩
  | 74 => ⟨S_, .f32⟩
  | 75 => ⟨S2x512, .f32⟩
  | 76 => ⟨S2x512, .f32⟩
  | 77 => ⟨S2x512, .f32⟩
  | 78 => ⟨S_, .f32⟩
  | 79 => ⟨S2x512, .f32⟩
  | 80 => ⟨S2x512, .f32⟩
  | 81 => ⟨S_, .f32⟩
  | 82 => ⟨S2x16x257, .f32⟩
  | 83 => ⟨S2x16x257, .f32⟩
  | 84 => ⟨S_, .f32⟩
  | 85 => ⟨S2x16x257, .f32⟩
  | 86 => ⟨S2x16x257, .f32⟩
  | 87 => ⟨S2x16x257, .f32⟩
  | 88 => ⟨S_, .f32⟩
  | 89 => ⟨S2x16x257, .f32⟩
  | 90 => ⟨S2x16x257, .f32⟩
  | 91 => ⟨S2x16x257, .f32⟩
  | 92 => ⟨S_, .f32⟩
  | 93 => ⟨S2x16x257, .f32⟩
  | 94 => ⟨S2x16x257, .f32⟩
  | 95 => ⟨S2x16x257, .f32⟩
  | 96 => ⟨S_, .f32⟩
  | 97 => ⟨S2x16x257, .f32⟩
  | 98 => ⟨S2x16x257, .f32⟩
  | 99 => ⟨S_, .f32⟩
  | 100 => ⟨S2x16x257, .f32⟩
  | 101 => ⟨S2x16x257, .f32⟩
  | 102 => ⟨S2x16x257, .f32⟩
  | 103 => ⟨S_, .f32⟩
  | 104 => ⟨S2x16x257, .f32⟩
  | 105 => ⟨S2x16x257, .f32⟩
  | 106 => ⟨S2x16x257, .f32⟩
  | 107 => ⟨S_, .f32⟩
  | 108 => ⟨S2x16x257, .f32⟩
  | 109 => ⟨S2x16x257, .f32⟩
  | 110 => ⟨S2x16x257, .f32⟩
  | 111 => ⟨S_, .f32⟩
  | 112 => ⟨S2x16x257, .f32⟩
  | 113 => ⟨S2x16x257, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S8x4x1024, .f32⟩

abbrev hbmTy0_2 (i : Nat) : BufTy := match i % 128 with
  | 0 => ⟨S1x1024, .f32⟩
  | 1 => ⟨S_, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S8x128, .f32⟩
  | _ => ⟨S8x4x1024, .f32⟩

abbrev hbmTy (i : Nat) : BufTy := match i / 128 with
  | 0 => hbmTy0_0 i
  | 1 => hbmTy0_1 i
  | 2 => hbmTy0_2 i
  | _ => ⟨S8x4x1024, .f32⟩

abbrev bufTy : (tb : Table) → Fin (tcTables nBuf tb) → BufTy
  | .hbm, ⟨i, _⟩ => hbmTy i
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_cst_0 : Ref sig .tc := ⟨.hbm, 31, rfl⟩
abbrev main_v1 : Ref sig .tc := ⟨.hbm, 32, rfl⟩
abbrev main_cst_1 : Ref sig .tc := ⟨.hbm, 33, rfl⟩
abbrev main_v2 : Ref sig .tc := ⟨.hbm, 34, rfl⟩
abbrev main_v3 : Ref sig .tc := ⟨.hbm, 35, rfl⟩
abbrev main_cst_2 : Ref sig .tc := ⟨.hbm, 36, rfl⟩
abbrev main_v4 : Ref sig .tc := ⟨.hbm, 37, rfl⟩
abbrev main_cst_3 : Ref sig .tc := ⟨.hbm, 38, rfl⟩
abbrev main_v5 : Ref sig .tc := ⟨.hbm, 39, rfl⟩
abbrev main_cst_4 : Ref sig .tc := ⟨.hbm, 40, rfl⟩
abbrev main_v6 : Ref sig .tc := ⟨.hbm, 41, rfl⟩
abbrev main_cst_5 : Ref sig .tc := ⟨.hbm, 42, rfl⟩
abbrev main_v7 : Ref sig .tc := ⟨.hbm, 43, rfl⟩
abbrev main_cst_6 : Ref sig .tc := ⟨.hbm, 44, rfl⟩
abbrev main_v8 : Ref sig .tc := ⟨.hbm, 45, rfl⟩
abbrev main_v9 : Ref sig .tc := ⟨.hbm, 46, rfl⟩
abbrev main_cst_7 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_8 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_9 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_10 : Ref sig .tc := ⟨.hbm, 59, rfl⟩
abbrev main_v19 : Ref sig .tc := ⟨.hbm, 60, rfl⟩
abbrev main_v20 : Ref sig .tc := ⟨.hbm, 61, rfl⟩
abbrev main_cst_11 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_12 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_13 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_14 : Ref sig .tc := ⟨.hbm, 74, rfl⟩
abbrev main_v30 : Ref sig .tc := ⟨.hbm, 75, rfl⟩
abbrev main_v31 : Ref sig .tc := ⟨.hbm, 76, rfl⟩
abbrev main_cst_15 : Ref sig .tc := ⟨.hbm, 77, rfl⟩
abbrev main_v32 : Ref sig .tc := ⟨.hbm, 78, rfl⟩
abbrev main_v33 : Ref sig .tc := ⟨.hbm, 79, rfl⟩
abbrev main_cst_16 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_17 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_18 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_19 : Ref sig .tc := ⟨.hbm, 92, rfl⟩
abbrev main_v43 : Ref sig .tc := ⟨.hbm, 93, rfl⟩
abbrev main_v44 : Ref sig .tc := ⟨.hbm, 94, rfl⟩
abbrev main_cst_20 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_21 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_22 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_cst_23 : Ref sig .tc := ⟨.hbm, 107, rfl⟩
abbrev main_v54 : Ref sig .tc := ⟨.hbm, 108, rfl⟩
abbrev main_v55 : Ref sig .tc := ⟨.hbm, 109, rfl⟩
abbrev main_cst_24 : Ref sig .tc := ⟨.hbm, 110, rfl⟩
abbrev main_v56 : Ref sig .tc := ⟨.hbm, 111, rfl⟩
abbrev main_v57 : Ref sig .tc := ⟨.hbm, 112, rfl⟩
abbrev main_cst_25 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_cst_26 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_27 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_28 : Ref sig .tc := ⟨.hbm, 125, rfl⟩
abbrev main_v67 : Ref sig .tc := ⟨.hbm, 126, rfl⟩
abbrev main_v68 : Ref sig .tc := ⟨.hbm, 127, rfl⟩
abbrev main_cst_29 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_cst_30 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_31 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_32 : Ref sig .tc := ⟨.hbm, 140, rfl⟩
abbrev main_v78 : Ref sig .tc := ⟨.hbm, 141, rfl⟩
abbrev main_v79 : Ref sig .tc := ⟨.hbm, 142, rfl⟩
abbrev main_cst_33 : Ref sig .tc := ⟨.hbm, 143, rfl⟩
abbrev main_v80 : Ref sig .tc := ⟨.hbm, 144, rfl⟩
abbrev main_v81 : Ref sig .tc := ⟨.hbm, 145, rfl⟩
abbrev main_cst_34 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_cst_35 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst_36 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_cst_37 : Ref sig .tc := ⟨.hbm, 158, rfl⟩
abbrev main_v91 : Ref sig .tc := ⟨.hbm, 159, rfl⟩
abbrev main_v92 : Ref sig .tc := ⟨.hbm, 160, rfl⟩
abbrev main_cst_38 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_cst_39 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_cst_40 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_cst_41 : Ref sig .tc := ⟨.hbm, 173, rfl⟩
abbrev main_v102 : Ref sig .tc := ⟨.hbm, 174, rfl⟩
abbrev main_v103 : Ref sig .tc := ⟨.hbm, 175, rfl⟩
abbrev main_cst_42 : Ref sig .tc := ⟨.hbm, 176, rfl⟩
abbrev main_v104 : Ref sig .tc := ⟨.hbm, 177, rfl⟩
abbrev main_v105 : Ref sig .tc := ⟨.hbm, 178, rfl⟩
abbrev main_cst_43 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_cst_44 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_cst_45 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_cst_46 : Ref sig .tc := ⟨.hbm, 191, rfl⟩
abbrev main_v115 : Ref sig .tc := ⟨.hbm, 192, rfl⟩
abbrev main_v116 : Ref sig .tc := ⟨.hbm, 193, rfl⟩
abbrev main_cst_47 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_cst_48 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_cst_49 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_cst_50 : Ref sig .tc := ⟨.hbm, 206, rfl⟩
abbrev main_v126 : Ref sig .tc := ⟨.hbm, 207, rfl⟩
abbrev main_v127 : Ref sig .tc := ⟨.hbm, 208, rfl⟩
abbrev main_cst_51 : Ref sig .tc := ⟨.hbm, 209, rfl⟩
abbrev main_v128 : Ref sig .tc := ⟨.hbm, 210, rfl⟩
abbrev main_v129 : Ref sig .tc := ⟨.hbm, 211, rfl⟩
abbrev main_cst_52 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_cst_53 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_cst_54 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_cst_55 : Ref sig .tc := ⟨.hbm, 224, rfl⟩
abbrev main_v139 : Ref sig .tc := ⟨.hbm, 225, rfl⟩
abbrev main_v140 : Ref sig .tc := ⟨.hbm, 226, rfl⟩
abbrev main_cst_56 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_cst_57 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_cst_58 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_cst_59 : Ref sig .tc := ⟨.hbm, 239, rfl⟩
abbrev main_v150 : Ref sig .tc := ⟨.hbm, 240, rfl⟩
abbrev main_v151 : Ref sig .tc := ⟨.hbm, 241, rfl⟩
abbrev main_cst_60 : Ref sig .tc := ⟨.hbm, 242, rfl⟩
abbrev main_v152 : Ref sig .tc := ⟨.hbm, 243, rfl⟩
abbrev main_v153 : Ref sig .tc := ⟨.hbm, 244, rfl⟩
abbrev main_cst_61 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_cst_62 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_cst_63 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_cst_64 : Ref sig .tc := ⟨.hbm, 257, rfl⟩
abbrev main_v163 : Ref sig .tc := ⟨.hbm, 258, rfl⟩
abbrev main_v164 : Ref sig .tc := ⟨.hbm, 259, rfl⟩
abbrev main_cst_65 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_cst_66 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_cst_67 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_cst_68 : Ref sig .tc := ⟨.hbm, 272, rfl⟩
abbrev main_v174 : Ref sig .tc := ⟨.hbm, 273, rfl⟩
abbrev main_v175 : Ref sig .tc := ⟨.hbm, 274, rfl⟩
abbrev main_cst_69 : Ref sig .tc := ⟨.hbm, 275, rfl⟩
abbrev main_v176 : Ref sig .tc := ⟨.hbm, 276, rfl⟩

abbrev nD : Nat := 1
abbrev τ : Topo := Topo.v7x

variable {F : FTy → Type} [FloatOps F]
-- ==== KernelLoss.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8x128, .f32⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Norm.Algebra.lean ====
module

public import Idealize.ShloMosaic.Lib.IdealHost
public import Idealize.ShloMosaic.Lib.Pipeline.ValueKit

@[expose] public section

/-! The mathematics of the RMS norm's gradient over extended reals, on one row of 1024 numbers: the inverse
    root mean square, the two ways of writing the row's gradient, and their equality without any finiteness. -/

noncomputable section

namespace Cert.Norm

open Idealize.ShloMosaic

/-- The number of lanes of a row, as the programs write it. -/
abbrev lanes : EReal := Ideal.ofBits .f32 0x44800000#32
/-- The small number under the root, as the programs write it. -/
abbrev eps : EReal := Ideal.ofBits .f32 0x358637BD#32
/-- The exponent of the derivative of the inverse root, as the reference writes it. -/
abbrev minusHalf : EReal := Ideal.ofBits .f32 0xBF000000#32

theorem lanes_eq : lanes = ((1024 : ℝ) : EReal) := by
  simp [lanes, Ideal.ofBits, Ideal.ieee, -EReal.coe_mul]; norm_num

theorem minusHalf_eq : minusHalf = ((-(1 / 2) : ℝ) : EReal) := by
  simp [minusHalf, Ideal.ofBits, Ideal.ieee, -EReal.coe_mul, -EReal.coe_neg]; norm_num

theorem eps_pos : ∃ e : ℝ, 0 < e ∧ eps = (e : EReal) := by
  refine ⟨8796093 * 2 ^ (-43 : ℤ), by positivity, ?_⟩
  simp [eps, Ideal.ofBits, Ideal.ieee, -EReal.coe_mul]

/-- The mean square of a row plus the small number. -/
def meanSq (x : Fin 1024 → EReal) : EReal := Ideal.div (∑ k, x k * x k) lanes + eps

/-- The inverse root mean square of a row. -/
def rinv (x : Fin 1024 → EReal) : EReal := Ideal.rsqrt (meanSq x)

/-- A quotient by the number of lanes is a product with its reciprocal. -/
theorem div_lanes (z : EReal) : Ideal.div z lanes = z * ((1024⁻¹ : ℝ) : EReal) := by
  rw [lanes_eq, Ideal.div, if_neg (by norm_cast), ← EReal.coe_inv]

theorem mul_self_nonneg' (z : EReal) : 0 ≤ z * z := by
  induction z with
  | bot => simp
  | top => simp
  | coe r => rw [← EReal.coe_mul]; exact_mod_cast mul_self_nonneg r

theorem meanSq_pos (x : Fin 1024 → EReal) : 0 < meanSq x := by
  obtain ⟨e, he, hee⟩ := eps_pos
  rw [meanSq, div_lanes, hee]
  refine lt_of_lt_of_le (b := (e : EReal)) (by exact_mod_cast he) ?_
  refine le_add_of_nonneg_left (mul_nonneg (Finset.sum_nonneg fun k _ => mul_self_nonneg' _) ?_)
  exact_mod_cast (by norm_num : (0 : ℝ) ≤ 1024⁻¹)

/-- A nonnegative real factor goes into a sum of two. -/
theorem coe_mul_add (c : ℝ) (hc : 0 ≤ c) (y z : EReal) : (c : EReal) * (y + z) = c * y + c * z :=
  EReal.left_distrib_of_nonneg_of_ne_top (by exact_mod_cast hc) (EReal.coe_ne_top c) y z

/-- A nonnegative real factor goes into a finite sum. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, coe_mul_add c hc, ih]

/-- Two equal halves of a product with a nonnegative real. -/
theorem half_add_half (z : EReal) (c : ℝ) (hc : 0 ≤ c) :
    z * ((c / 2 : ℝ) : EReal) + z * ((c / 2 : ℝ) : EReal) = z * (c : EReal) := by
  have h : (0 : EReal) ≤ ((c / 2 : ℝ) : EReal) := by exact_mod_cast (by positivity : (0 : ℝ) ≤ c / 2)
  rw [mul_comm z, ← EReal.right_distrib_of_nonneg h h, ← EReal.coe_add, add_halves, mul_comm]

/-- The kernel's gradient of a row: incoming `d`, cotangent of the normed row `a`, row `x`. -/
def rowKernel (d a x : Fin 1024 → EReal) (j : Fin 1024) : EReal :=
  d j + rinv x * (a j - x j * rinv x * Ideal.div (∑ k, a k * (x k * rinv x)) lanes)

/-- The reference's cotangent of the mean square of a row, divided by the number of lanes. -/
def rowTerm (a x : Fin 1024 → EReal) : EReal :=
  Ideal.div ((∑ k, x k * a k) * (minusHalf * Ideal.div (rinv x) (meanSq x))) lanes

/-- The reference's gradient of a row. -/
def rowReference (d a x : Fin 1024 → EReal) (j : Fin 1024) : EReal :=
  d j + a j * rinv x + x j * rowTerm a x + rowTerm a x * x j

/-- With a real inverse root `ρ` and a real mean square `σ` such that `ρ / σ = ρ³`, both gradients agree. -/
theorem row_real (d a x : EReal) (A : EReal) (ρ σ : ℝ) (hρ : 0 ≤ ρ) (hσ : ρ * σ⁻¹ = ρ * ρ * ρ) :
    d + ρ * (a - x * ρ * (A * ρ * ((1024⁻¹ : ℝ) : EReal)))
      = d + a * ρ + x * (A * (((-(1 / 2) : ℝ) : EReal) * ((ρ * σ⁻¹ : ℝ) : EReal)) * ((1024⁻¹ : ℝ) : EReal))
        + A * (((-(1 / 2) : ℝ) : EReal) * ((ρ * σ⁻¹ : ℝ) : EReal)) * ((1024⁻¹ : ℝ) : EReal) * x := by
  have hκ : 0 ≤ ρ * ρ * ρ * 1024⁻¹ := by positivity
  have e1 : x * ρ * (A * ρ * ((1024⁻¹ : ℝ) : EReal)) = (x * A) * ((ρ * ρ * 1024⁻¹ : ℝ) : EReal) := by
    push_cast; ac_rfl
  have e2 : x * (A * (((-(1 / 2) : ℝ) : EReal) * ((ρ * σ⁻¹ : ℝ) : EReal)) * ((1024⁻¹ : ℝ) : EReal))
      = -(x * A) * ((ρ * ρ * ρ * 1024⁻¹ / 2 : ℝ) : EReal) := by
    rw [hσ]
    have : (((-(1 / 2) : ℝ) : EReal) * ((ρ * ρ * ρ : ℝ) : EReal)) * ((1024⁻¹ : ℝ) : EReal)
        = -((ρ * ρ * ρ * 1024⁻¹ / 2 : ℝ) : EReal) := by
      rw [← EReal.coe_mul, ← EReal.coe_mul, ← EReal.coe_neg]; congr 1; ring
    rw [mul_assoc A, this, ← mul_assoc, mul_neg, neg_mul]
  rw [e1, mul_comm _ x, e2, sub_eq_add_neg, coe_mul_add ρ hρ, add_assoc (d + a * ρ),
    half_add_half _ _ hκ, add_assoc d, mul_comm a, mul_neg, neg_mul]
  congr 3
  rw [mul_left_comm, ← EReal.coe_mul]; congr 2; ring

/-- The two gradients of a row are equal, whatever the numbers are. -/
theorem row_eq (d a x : Fin 1024 → EReal) (j : Fin 1024) : rowKernel d a x j = rowReference d a x j := by
  have hp := meanSq_pos x
  rw [rowKernel, rowReference, rowTerm, div_lanes, div_lanes, minusHalf_eq]
  by_cases ht : meanSq x = ⊤
  · have hr : rinv x = 0 := by rw [rinv, ht]; rfl
    rw [hr, ht, Ideal.div, if_neg (by simp)]; simp
  · lift meanSq x to ℝ using ⟨ht, ne_bot_of_gt hp⟩ with σ hs
    have hσ : 0 < σ := by exact_mod_cast hp
    have hr : rinv x = (((Real.sqrt σ)⁻¹ : ℝ) : EReal) := by
      rw [rinv, ← hs, Ideal.rsqrt_coe, if_neg (not_lt.2 hσ.le), if_neg hσ.ne']
    have hA : ∑ k, a k * (x k * rinv x) = (∑ k, x k * a k) * rinv x := by
      rw [hr, mul_comm (∑ k, x k * a k), coe_mul_sum _ _ (by positivity)]
      exact Finset.sum_congr rfl fun k _ => by ac_rfl
    rw [hA, hr, Ideal.div, if_neg (by exact_mod_cast hσ.ne'), ← EReal.coe_inv, ← EReal.coe_mul]
    refine row_real _ _ _ _ _ _ (by positivity) ?_
    have : Real.sqrt σ * Real.sqrt σ = σ := Real.mul_self_sqrt hσ.le
    have h0 : Real.sqrt σ ≠ 0 := (Real.sqrt_pos.2 hσ).ne'
    rw [mul_assoc, ← mul_inv (Real.sqrt σ) (Real.sqrt σ), this]

end Cert.Norm

end
-- ==== Proof.Norm.Block.lean ====
module

public import proofs.«01_k».proof.Proof.Gen.KernelNIdeal.Frame
public import proofs.«01_k».proof.Proof.Norm.Algebra
public import Idealize.ShloMosaic.Lib.Pipeline.ValueKit
public import Idealize.ShloMosaic.Lib.Pipeline.ReadBack
public import Idealize.ShloMosaic.Lib.Pointwise

@[expose] public section

set_option maxRecDepth 16384

/-! What one grid point computes: a point's block of 512 rows is done as two halves of 256 rows; the product with the
    weights is a sum of eight products over 512 columns each. -/

noncomputable section

namespace Cert.Norm

open Idealize.ShloMosaic Idealize.ShloMosaic.TcCoe Idealize.SL.Sem
open Cert.KernelNIdeal Cert.KernelNIdeal.Gen

/-- The cotangent of the normed row: the row `z` of 4096 numbers against the eight panels of the weights. -/
def dhat (z : Fin 4096 → EReal) (w : Fin 8 → Fin 1024 → Fin 512 → EReal) (j : Fin 1024) : EReal :=
  ∑ q : Fin 8, ∑ l : Fin 512, z ⟨q.val * 512 + l.val, by omega⟩ * w q j l

section
variable (x0 : FVec Ideal S512x4096 .bf16) (x1 : FVec Ideal S8x1024x512 .bf16)

/-- The cotangent of the normed rows in a point's first half. -/
abbrev dhFirst : FVec Ideal S256x1024 .f32 :=
  k0_pay5 (k0_pay3
      (View.ld (Val := Elt Ideal) (e' := .bf16) x0 (Rect.unit ![0, 0] ![256, 512] inb_S512x4096_S256x512_0_0)) (View.ld (Val := Elt Ideal) (e' := .bf16) x1 (Rect.unit ![0, 0, 0] ![1, 1024, 512] inb_S8x1024x512_S1x1024x512_0_0_0))
      (View.ld (Val := Elt Ideal) (e' := .bf16) x0 (Rect.unit ![0, 512] ![256, 512] inb_S512x4096_S256x512_0_512)) (View.ld (Val := Elt Ideal) (e' := .bf16) x1 (Rect.unit ![1, 0, 0] ![1, 1024, 512] inb_S8x1024x512_S1x1024x512_1_0_0))
      (View.ld (Val := Elt Ideal) (e' := .bf16) x0 (Rect.unit ![0, 1024] ![256, 512] inb_S512x4096_S256x512_0_1024)) (View.ld (Val := Elt Ideal) (e' := .bf16) x1 (Rect.unit ![2, 0, 0] ![1, 1024, 512] inb_S8x1024x512_S1x1024x512_2_0_0))
      (View.ld (Val := Elt Ideal) (e' := .bf16) x0 (Rect.unit ![0, 1536] ![256, 512] inb_S512x4096_S256x512_0_1536)) (View.ld (Val := Elt Ideal) (e' := .bf16) x1 (Rect.unit ![3, 0, 0] ![1, 1024, 512] inb_S8x1024x512_S1x1024x512_3_0_0)))
    (k0_pay4 (View.ld (Val := Elt Ideal) (e' := .bf16) x0 (Rect.unit ![0, 2048] ![256, 512] inb_S512x4096_S256x512_0_2048)) (View.ld (Val := Elt Ideal) (e' := .bf16) x1 (Rect.unit ![4, 0, 0] ![1, 1024, 512] inb_S8x1024x512_S1x1024x512_4_0_0)))
      (View.ld (Val := Elt Ideal) (e' := .bf16) x0 (Rect.unit ![0, 2560] ![256, 512] inb_S512x4096_S256x512_0_2560)) (View.ld (Val := Elt Ideal) (e' := .bf16) x1 (Rect.unit ![5, 0, 0] ![1, 1024, 512] inb_S8x1024x512_S1x1024x512_5_0_0))
      (View.ld (Val := Elt Ideal) (e' := .bf16) x0 (Rect.unit ![0, 3072] ![256, 512] inb_S512x4096_S256x512_0_3072)) (View.ld (Val := Elt Ideal) (e' := .bf16) x1 (Rect.unit ![6, 0, 0] ![1, 1024, 512] inb_S8x1024x512_S1x1024x512_6_0_0))
      (View.ld (Val := Elt Ideal) (e' := .bf16) x0 (Rect.unit ![0, 3584] ![256, 512] inb_S512x4096_S256x512_0_3584)) (View.ld (Val := Elt Ideal) (e' := .bf16) x1 (Rect.unit ![7, 0, 0] ![1, 1024, 512] inb_S8x1024x512_S1x1024x512_7_0_0))

/-- The first seven products of a point's second half. -/
abbrev dhSeven : FVec Ideal S256x1024 .f32 :=
  k0_pay12 (k0_pay11
      (View.ld (Val := Elt Ideal) (e' := .bf16) x0 (Rect.unit ![256, 0] ![256, 512] inb_S512x4096_S256x512_256_0)) (View.ld (Val := Elt Ideal) (e' := .bf16) x1 (Rect.unit ![0, 0, 0] ![1, 1024, 512] inb_S8x1024x512_S1x1024x512_0_0_0))
      (View.ld (Val := Elt Ideal) (e' := .bf16) x0 (Rect.unit ![256, 512] ![256, 512] inb_S512x4096_S256x512_256_512)) (View.ld (Val := Elt Ideal) (e' := .bf16) x1 (Rect.unit ![1, 0, 0] ![1, 1024, 512] inb_S8x1024x512_S1x1024x512_1_0_0)))
      (View.ld (Val := Elt Ideal) (e' := .bf16) x0 (Rect.unit ![256, 1024] ![256, 512] inb_S512x4096_S256x512_256_1024)) (View.ld (Val := Elt Ideal) (e' := .bf16) x1 (Rect.unit ![2, 0, 0] ![1, 1024, 512] inb_S8x1024x512_S1x1024x512_2_0_0))
      (View.ld (Val := Elt Ideal) (e' := .bf16) x0 (Rect.unit ![256, 1536] ![256, 512] inb_S512x4096_S256x512_256_1536)) (View.ld (Val := Elt Ideal) (e' := .bf16) x1 (Rect.unit ![3, 0, 0] ![1, 1024, 512] inb_S8x1024x512_S1x1024x512_3_0_0))
      (View.ld (Val := Elt Ideal) (e' := .bf16) x0 (Rect.unit ![256, 2048] ![256, 512] inb_S512x4096_S256x512_256_2048)) (View.ld (Val := Elt Ideal) (e' := .bf16) x1 (Rect.unit ![4, 0, 0] ![1, 1024, 512] inb_S8x1024x512_S1x1024x512_4_0_0))
      (View.ld (Val := Elt Ideal) (e' := .bf16) x0 (Rect.unit ![256, 2560] ![256, 512] inb_S512x4096_S256x512_256_2560)) (View.ld (Val := Elt Ideal) (e' := .bf16) x1 (Rect.unit ![5, 0, 0] ![1, 1024, 512] inb_S8x1024x512_S1x1024x512_5_0_0))
      (View.ld (Val := Elt Ideal) (e' := .bf16) x0 (Rect.unit ![256, 3072] ![256, 512] inb_S512x4096_S256x512_256_3072)) (View.ld (Val := Elt Ideal) (e' := .bf16) x1 (Rect.unit ![6, 0, 0] ![1, 1024, 512] inb_S8x1024x512_S1x1024x512_6_0_0))

/-- The cotangent of the normed rows in a point's second half. -/
abbrev dhSecond : FVec Ideal S256x1024 .f32 :=
  k0_pay13 (dhSeven x0 x1) (View.ld (Val := Elt Ideal) (e' := .bf16) x0 (Rect.unit ![256, 3584] ![256, 512] inb_S512x4096_S256x512_256_3584)) (View.ld (Val := Elt Ideal) (e' := .bf16) x1 (Rect.unit ![7, 0, 0] ![1, 1024, 512] inb_S8x1024x512_S1x1024x512_7_0_0))

theorem dhFirst_apply (i : Fin 256) (j : Fin 1024) :
    dhFirst x0 x1 (ix2 i j) = dhat (fun k => x0 (ix2 ⟨i.val, by omega⟩ k)) (fun q j l => x1 (ix3 q j l)) j := by
  pointwise [dhFirst, k0_pay3, k0_pay4, k0_pay5, dhat, Fin.sum_univ_eight]

theorem dhSecond_apply (i : Fin 256) (j : Fin 1024) :
    dhSecond x0 x1 (ix2 i j) = dhat (fun k => x0 (ix2 ⟨256 + i.val, by omega⟩ k)) (fun q j l => x1 (ix3 q j l)) j := by
  pointwise [dhSecond, dhSeven, k0_pay11, k0_pay12, k0_pay13, dhat, Fin.sum_univ_eight]

end

section
variable (x d : FVec Ideal S256x1024 .f32) (g : FVec Ideal S1x1024 .f32) (i : Fin 256) (j : Fin 1024)

theorem pay6_apply : k0_pay6 (F := Ideal) x (ix2 i 0) = rinv fun k => x (ix2 i k) := by
  pointwise [k0_pay6, rinv, meanSq]

theorem pay7_apply : k0_pay7 x (ix2 i j) = x (ix2 i j) * rinv fun k => x (ix2 i k) := by
  pointwise [k0_pay7, pay6_apply]

theorem pay14_apply : k0_pay14 (F := Ideal) x (ix2 i 0) = rinv fun k => x (ix2 i k) := by
  pointwise [k0_pay14, rinv, meanSq]

theorem pay15_apply : k0_pay15 x (ix2 i j) = x (ix2 i j) * rinv fun k => x (ix2 i k) := by
  pointwise [k0_pay15, pay14_apply]

theorem pay9_apply (dh : FVec Ideal S256x1024 .f32) :
    k0_pay9 dh (k0_pay6 x) (k0_pay7 x) g d (ix2 i j)
      = rowKernel (fun k => d (ix2 i k)) (fun k => dh (ix2 i k) * g (ix2 0 k)) (fun k => x (ix2 i k)) j := by
  pointwise [k0_pay9, rowKernel, pay6_apply, pay7_apply]

theorem pay17_apply (s : FVec Ideal S256x1024 .f32) (a : FVec Ideal S256x512 .bf16) (b : FVec Ideal S1x1024x512 .bf16) :
    k0_pay17 s a b x g d (ix2 i j)
      = rowKernel (fun k => d (ix2 i k)) (fun k => k0_pay13 s a b (ix2 i k) * g (ix2 0 k)) (fun k => x (ix2 i k)) j := by
  pointwise [k0_pay17, rowKernel, pay14_apply, pay15_apply]

theorem pay10_apply (dh : FVec Ideal S256x1024 .f32) (r : FVec Ideal S256x1 .f32) (xn : FVec Ideal S256x1024 .f32)
    (w : FVec Ideal S1024x1024 .bf16) :
    k0_pay10 dh r xn g d w (ix2 i j) = ∑ k, k0_pay9 dh r xn g d (ix2 i k) * w (ix2 j k) := by
  pointwise [k0_pay10]

theorem pay1_apply (v : FVec Ideal S256x1024 .f32) (w : FVec Ideal S1024x1024 .bf16) :
    k0_pay1 v w (ix2 i j) = ∑ k, v (ix2 i k) * w (ix2 j k) := by
  pointwise [k0_pay1]

theorem pay16_apply (s : FVec Ideal S256x1024 .f32) (a : FVec Ideal S256x512 .bf16) (b : FVec Ideal S1x1024x512 .bf16)
    (acc : FVec Ideal S1x1024 .f32) :
    k0_pay16 s a b x acc (ix2 0 j) = acc (ix2 0 j)
      + ∑ i, k0_pay13 s a b (ix2 i j) * (x (ix2 i j) * rinv fun k => x (ix2 i k)) := by
  pointwise [k0_pay16, pay15_apply]

theorem pay8_apply (s s' : FVec Ideal S256x1024 .f32) (a1 a2 a3 : FVec Ideal S256x512 .bf16)
    (b1 b2 b3 : FVec Ideal S1x1024x512 .bf16) (acc : FVec Ideal S1x1024 .f32) :
    k0_pay8 s s' a1 b1 a2 b2 a3 b3 x acc (ix2 0 j) = acc (ix2 0 j)
      + ∑ i, k0_pay5 s s' a1 b1 a2 b2 a3 b3 (ix2 i j) * k0_pay7 x (ix2 i j) := by
  pointwise [k0_pay8]

theorem pay2_apply : k0_pay2 (F := Ideal) (ix2 0 j) = 0 := by
  pointwise [k0_pay2]

end

/-- What a row contributes to the gradient of the gain at lane `j`. -/
def gainTerm (h x : Fin 1024 → EReal) (j : Fin 1024) : EReal := h j * (x j * rinv x)

section
variable (x0 : FVec Ideal S512x4096 .bf16) (x1 : FVec Ideal S8x1024x512 .bf16) (x2 : FVec Ideal S512x1024 .f32)
  (x3 : FVec Ideal S1x1024 .f32) (x4 : FVec Ideal S512x1024 .f32) (x5 : FVec Ideal S1024x1024 .bf16)

/-- Row `i` of a point's gradient: the kernel's row gradient at the blocks' rows. -/
def blockRow (i : Fin 512) : Fin 1024 → EReal :=
  rowKernel (fun k => x4 (ix2 i k))
    (fun k => dhat (fun l => x0 (ix2 i l)) (fun q j l => x1 (ix3 q j l)) k * x3 (ix2 0 k)) (fun k => x2 (ix2 i k))

/-- Row `i`'s contribution to the gradient of the gain. -/
def blockGain (i : Fin 512) : Fin 1024 → EReal :=
  gainTerm (dhat (fun l => x0 (ix2 i l)) (fun q j l => x1 (ix3 q j l))) (fun k => x2 (ix2 i k))

theorem first6 (i : Fin 256) (j : Fin 1024) :
    k0_pay9 (dhFirst x0 x1) (k0_pay6 (View.ld (Val := Elt Ideal) (e' := .f32) x2 (Rect.unit ![0, 0] ![256, 1024] inb_S512x1024_S256x1024_0_0))) (k0_pay7 (View.ld (Val := Elt Ideal) (e' := .f32) x2 (Rect.unit ![0, 0] ![256, 1024] inb_S512x1024_S256x1024_0_0))) x3 (View.ld (Val := Elt Ideal) (e' := .f32) x4 (Rect.unit ![0, 0] ![256, 1024] inb_S512x1024_S256x1024_0_0)) (ix2 i j)
      = blockRow x0 x1 x2 x3 x4 ⟨i.val, by omega⟩ j := by
  rw [pay9_apply]; simp only [dhFirst_apply]; pointwise [blockRow]

theorem second6 (i : Fin 256) (j : Fin 1024) :
    k0_pay17 (dhSeven x0 x1) (View.ld (Val := Elt Ideal) (e' := .bf16) x0 (Rect.unit ![256, 3584] ![256, 512] inb_S512x4096_S256x512_256_3584)) (View.ld (Val := Elt Ideal) (e' := .bf16) x1 (Rect.unit ![7, 0, 0] ![1, 1024, 512] inb_S8x1024x512_S1x1024x512_7_0_0)) (View.ld (Val := Elt Ideal) (e' := .f32) x2 (Rect.unit ![256, 0] ![256, 1024] inb_S512x1024_S256x1024_256_0)) x3 (View.ld (Val := Elt Ideal) (e' := .f32) x4 (Rect.unit ![256, 0] ![256, 1024] inb_S512x1024_S256x1024_256_0)) (ix2 i j)
      = blockRow x0 x1 x2 x3 x4 ⟨256 + i.val, by omega⟩ j := by
  rw [pay17_apply]
  simp only [show ∀ k, k0_pay13 (dhSeven x0 x1) (View.ld (Val := Elt Ideal) (e' := .bf16) x0 (Rect.unit ![256, 3584] ![256, 512] inb_S512x4096_S256x512_256_3584)) (View.ld (Val := Elt Ideal) (e' := .bf16) x1 (Rect.unit ![7, 0, 0] ![1, 1024, 512] inb_S8x1024x512_S1x1024x512_7_0_0)) (ix2 i k) = _ from dhSecond_apply x0 x1 i]
  pointwise [blockRow]

/-- Row `i` of a point's gradient against row `j` of the second weights. -/
def blockPost (i : Fin 512) (j : Fin 1024) : EReal := ∑ k, blockRow x0 x1 x2 x3 x4 i k * x5 (ix2 j k)

theorem first8 (i : Fin 256) (j : Fin 1024) :
    k0_pay10 (dhFirst x0 x1) (k0_pay6 (View.ld (Val := Elt Ideal) (e' := .f32) x2 (Rect.unit ![0, 0] ![256, 1024] inb_S512x1024_S256x1024_0_0))) (k0_pay7 (View.ld (Val := Elt Ideal) (e' := .f32) x2 (Rect.unit ![0, 0] ![256, 1024] inb_S512x1024_S256x1024_0_0))) x3 (View.ld (Val := Elt Ideal) (e' := .f32) x4 (Rect.unit ![0, 0] ![256, 1024] inb_S512x1024_S256x1024_0_0)) x5 (ix2 i j)
      = blockPost x0 x1 x2 x3 x4 x5 ⟨i.val, by omega⟩ j := by
  rw [pay10_apply]
  exact Finset.sum_congr rfl fun k _ => congrArg (· * _) (first6 x0 x1 x2 x3 x4 i k)

theorem second8 (i : Fin 256) (j : Fin 1024) :
    k0_pay1 (k0_pay17 (dhSeven x0 x1) (View.ld (Val := Elt Ideal) (e' := .bf16) x0 (Rect.unit ![256, 3584] ![256, 512] inb_S512x4096_S256x512_256_3584)) (View.ld (Val := Elt Ideal) (e' := .bf16) x1 (Rect.unit ![7, 0, 0] ![1, 1024, 512] inb_S8x1024x512_S1x1024x512_7_0_0)) (View.ld (Val := Elt Ideal) (e' := .f32) x2 (Rect.unit ![256, 0] ![256, 1024] inb_S512x1024_S256x1024_256_0)) x3 (View.ld (Val := Elt Ideal) (e' := .f32) x4 (Rect.unit ![256, 0] ![256, 1024] inb_S512x1024_S256x1024_256_0))) x5 (ix2 i j)
      = blockPost x0 x1 x2 x3 x4 x5 ⟨256 + i.val, by omega⟩ j := by
  rw [pay1_apply]
  exact Finset.sum_congr rfl fun k _ => congrArg (· * _) (second6 x0 x1 x2 x3 x4 i k)

theorem first7 (i : Fin 256) (j : Fin 1024) :
    dhFirst x0 x1 (ix2 i j) * k0_pay7 (View.ld (Val := Elt Ideal) (e' := .f32) x2 (Rect.unit ![0, 0] ![256, 1024] inb_S512x1024_S256x1024_0_0)) (ix2 i j) = blockGain x0 x1 x2 ⟨i.val, by omega⟩ j := by
  rw [pay7_apply, dhFirst_apply]; pointwise [blockGain, gainTerm]

theorem second7 (i : Fin 256) (j : Fin 1024) :
    dhSecond x0 x1 (ix2 i j) * ((View.ld (Val := Elt Ideal) (e' := .f32) x2 (Rect.unit ![256, 0] ![256, 1024] inb_S512x1024_S256x1024_256_0)) (ix2 i j) * rinv fun k => (View.ld (Val := Elt Ideal) (e' := .f32) x2 (Rect.unit ![256, 0] ![256, 1024] inb_S512x1024_S256x1024_256_0)) (ix2 i k))
      = blockGain x0 x1 x2 ⟨256 + i.val, by omega⟩ j := by
  rw [dhSecond_apply]; pointwise [blockGain, gainTerm]

theorem both7 (acc : FVec Ideal S1x1024 .f32) (j : Fin 1024) :
    k0_pay16 (dhSeven x0 x1) (View.ld (Val := Elt Ideal) (e' := .bf16) x0 (Rect.unit ![256, 3584] ![256, 512] inb_S512x4096_S256x512_256_3584)) (View.ld (Val := Elt Ideal) (e' := .bf16) x1 (Rect.unit ![7, 0, 0] ![1, 1024, 512] inb_S8x1024x512_S1x1024x512_7_0_0)) (View.ld (Val := Elt Ideal) (e' := .f32) x2 (Rect.unit ![256, 0] ![256, 1024] inb_S512x1024_S256x1024_256_0))
        (k0_pay8 (k0_pay3
      (View.ld (Val := Elt Ideal) (e' := .bf16) x0 (Rect.unit ![0, 0] ![256, 512] inb_S512x4096_S256x512_0_0)) (View.ld (Val := Elt Ideal) (e' := .bf16) x1 (Rect.unit ![0, 0, 0] ![1, 1024, 512] inb_S8x1024x512_S1x1024x512_0_0_0))
      (View.ld (Val := Elt Ideal) (e' := .bf16) x0 (Rect.unit ![0, 512] ![256, 512] inb_S512x4096_S256x512_0_512)) (View.ld (Val := Elt Ideal) (e' := .bf16) x1 (Rect.unit ![1, 0, 0] ![1, 1024, 512] inb_S8x1024x512_S1x1024x512_1_0_0))
      (View.ld (Val := Elt Ideal) (e' := .bf16) x0 (Rect.unit ![0, 1024] ![256, 512] inb_S512x4096_S256x512_0_1024)) (View.ld (Val := Elt Ideal) (e' := .bf16) x1 (Rect.unit ![2, 0, 0] ![1, 1024, 512] inb_S8x1024x512_S1x1024x512_2_0_0))
      (View.ld (Val := Elt Ideal) (e' := .bf16) x0 (Rect.unit ![0, 1536] ![256, 512] inb_S512x4096_S256x512_0_1536)) (View.ld (Val := Elt Ideal) (e' := .bf16) x1 (Rect.unit ![3, 0, 0] ![1, 1024, 512] inb_S8x1024x512_S1x1024x512_3_0_0)))
    (k0_pay4 (View.ld (Val := Elt Ideal) (e' := .bf16) x0 (Rect.unit ![0, 2048] ![256, 512] inb_S512x4096_S256x512_0_2048)) (View.ld (Val := Elt Ideal) (e' := .bf16) x1 (Rect.unit ![4, 0, 0] ![1, 1024, 512] inb_S8x1024x512_S1x1024x512_4_0_0)))
      (View.ld (Val := Elt Ideal) (e' := .bf16) x0 (Rect.unit ![0, 2560] ![256, 512] inb_S512x4096_S256x512_0_2560)) (View.ld (Val := Elt Ideal) (e' := .bf16) x1 (Rect.unit ![5, 0, 0] ![1, 1024, 512] inb_S8x1024x512_S1x1024x512_5_0_0))
      (View.ld (Val := Elt Ideal) (e' := .bf16) x0 (Rect.unit ![0, 3072] ![256, 512] inb_S512x4096_S256x512_0_3072)) (View.ld (Val := Elt Ideal) (e' := .bf16) x1 (Rect.unit ![6, 0, 0] ![1, 1024, 512] inb_S8x1024x512_S1x1024x512_6_0_0))
      (View.ld (Val := Elt Ideal) (e' := .bf16) x0 (Rect.unit ![0, 3584] ![256, 512] inb_S512x4096_S256x512_0_3584)) (View.ld (Val := Elt Ideal) (e' := .bf16) x1 (Rect.unit ![7, 0, 0] ![1, 1024, 512] inb_S8x1024x512_S1x1024x512_7_0_0)) (View.ld (Val := Elt Ideal) (e' := .f32) x2 (Rect.unit ![0, 0] ![256, 1024] inb_S512x1024_S256x1024_0_0)) acc) (ix2 0 j)
      = acc (ix2 0 j) + ∑ i : Fin 512, blockGain x0 x1 x2 i j := by
  rw [pay16_apply, pay8_apply, add_assoc]
  refine congrArg (acc (ix2 0 j) + ·) ?_
  refine Eq.trans ?_ (Fin.sum_univ_add (a := 256) (b := 256) fun i => blockGain x0 x1 x2 i j).symm
  exact congrArg₂ (· + ·) (Finset.sum_congr rfl fun i _ => first7 x0 x1 x2 i j)
    (Finset.sum_congr rfl fun i _ => second7 x0 x1 x2 i j)
end

variable (m : (ℓ : Loc nD τ sig) → Buf (Elt Ideal) ℓ)

theorem point6 (c : Dev nD) (t : Fin cfg0.N) (i : Fin 512) (j : Fin 1024) :
    (outsAt0 m c t.val t.isLt).1 (ix2 i j)
      = blockRow (iblk m c 0 t) (iblk m c 1 t) (iblk m c 2 t) (iblk m c 3 t) (iblk m c 4 t) i j := by
  by_cases h0 : t.val % 16 = 0
  · rw [outsAt0_A m c t h0]
    frame_out
    canon_tiles x h
    · idx_vars x
      exact (second6 _ _ _ _ _ _ _).trans (by congr 1 <;> exact Fin.ext (by simp_all))
    · idx_vars x
      exact (first6 _ _ _ _ _ _ _).trans (by congr 1 <;> exact Fin.ext (by simp_all))
  · rw [outsAt0_B m c t h0]
    frame_out
    canon_tiles x h
    · idx_vars x
      exact (second6 _ _ _ _ _ _ _).trans (by congr 1 <;> exact Fin.ext (by simp_all))
    · idx_vars x
      exact (first6 _ _ _ _ _ _ _).trans (by congr 1 <;> exact Fin.ext (by simp_all))

theorem point7 (c : Dev nD) (t : Fin cfg0.N) (j : Fin 1024) (h0 : t.val % 16 = 0) :
    (outsAt0 m c t.val t.isLt).2.1 (ix2 0 j)
      = ∑ i, blockGain (iblk m c 0 t) (iblk m c 1 t) (iblk m c 2 t) i j := by
  rw [outsAt0_A m c t h0]
  frame_out
  exact (both7 _ _ _ _ _).trans ((congrArg (· + _) (pay2_apply j)).trans (zero_add _))

theorem step7 (c : Dev nD) (t : Fin cfg0.N) (j : Fin 1024) (h0 : ¬ t.val % 16 = 0) :
    (outsAt0 m c t.val t.isLt).2.1 (ix2 0 j)
      = (outsAt0 m c (t.val - 1) (Nat.lt_of_le_of_lt (Nat.sub_le _ _) t.isLt)).2.1 (ix2 0 j)
        + ∑ i, blockGain (iblk m c 0 t) (iblk m c 1 t) (iblk m c 2 t) i j := by
  rw [outsAt0_B m c t h0]
  frame_out
  exact both7 _ _ _ _ _

/-- A point's block of the gradient is multiplied with the second weights, transposed. -/
theorem point8 (c : Dev nD) (t : Fin cfg0.N) (i : Fin 512) (j : Fin 1024) :
    (outsAt0 m c t.val t.isLt).2.2 (ix2 i j)
      = blockPost (iblk m c 0 t) (iblk m c 1 t) (iblk m c 2 t) (iblk m c 3 t) (iblk m c 4 t) (iblk m c 5 t) i j := by
  by_cases h0 : t.val % 16 = 0
  · rw [outsAt0_A m c t h0]
    frame_out
    canon_tiles x h
    · idx_vars x
      exact (second8 _ _ _ _ _ _ _ _).trans (by congr 1 <;> exact Fin.ext (by simp_all))
    · idx_vars x
      exact (first8 _ _ _ _ _ _ _ _).trans (by congr 1 <;> exact Fin.ext (by simp_all))
  · rw [outsAt0_B m c t h0]
    frame_out
    canon_tiles x h
    · idx_vars x
      exact (second8 _ _ _ _ _ _ _ _).trans (by congr 1 <;> exact Fin.ext (by simp_all))
    · idx_vars x
      exact (first8 _ _ _ _ _ _ _ _).trans (by congr 1 <;> exact Fin.ext (by simp_all))

end Cert.Norm
-- ==== Proof.Norm.Arrays.lean ====
module

public import proofs.«01_k».proof.Proof.Gen.KernelNIdeal.Value
public import proofs.«01_k».proof.Proof.Norm.Block

@[expose] public section

set_option maxRecDepth 16384

/-! What the kernel's three result arrays hold after the run, as functions of the argument arrays. -/

noncomputable section

namespace Cert.Norm

open Idealize.ShloMosaic Idealize.ShloMosaic.TcCoe Idealize.SL.Sem
open Idealize.ShloMosaic.Pipeline (Dat)
open Cert.KernelNIdeal Cert.KernelNIdeal.Gen

section
variable (Z : Fin 8192 → Fin 4096 → EReal) (W : Fin 8 → Fin 1024 → Fin 512 → EReal) (X : Fin 8192 → Fin 1024 → EReal)
  (G : Fin 1024 → EReal) (D : Fin 8192 → Fin 1024 → EReal) (P : Fin 1024 → Fin 1024 → EReal)

/-- Row `n` of the gradient of the normed layer's input. -/
def gradRow (n : Fin 8192) : Fin 1024 → EReal := rowKernel (D n) (fun k => dhat (Z n) W k * G k) (X n)

/-- Lane `j` of the gradient of the gain. -/
def gradGain (j : Fin 1024) : EReal := ∑ n : Fin 8192, gainTerm (dhat (Z n) W) (X n) j

/-- Entry `n`, `j` of the gradient against the second weights. -/
def gradPost (n : Fin 8192) (j : Fin 1024) : EReal := ∑ k, gradRow Z W X G D n k * P j k
end

variable (m : (ℓ : Loc nD τ sig) → Buf (Elt Ideal) ℓ) (c : Dev nD)

/-- The argument arrays of the kernel by coordinates. -/
def zK (n : Fin 8192) (k : Fin 4096) : EReal := m ((c : Thread nD τ).loc main_arg0) (ix2 n k)
def wK (q : Fin 8) (j : Fin 1024) (l : Fin 512) : EReal := m ((c : Thread nD τ).loc main_arg1) (ix3 q j l)
def xK (n : Fin 8192) (k : Fin 1024) : EReal := m ((c : Thread nD τ).loc main_arg2) (ix2 n k)
def gK (k : Fin 1024) : EReal := m ((c : Thread nD τ).loc main_arg3) (ix2 0 k)
def dK (n : Fin 8192) (k : Fin 1024) : EReal := m ((c : Thread nD τ).loc main_arg4) (ix2 n k)
def pK (j : Fin 1024) (k : Fin 1024) : EReal := m ((c : Thread nD τ).loc main_arg5) (ix2 j k)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ win0_8.index t = ![t.val, 0] :=
  (by decide +kernel : ∀ t : Fin grid0.N, _)

theorem points : cfg0.N = 16 := N_0

theorem rowAt_lt (t : Fin cfg0.N) (i : Fin 512) : t.val * 512 + i.val < 8192 := by
  have h : t.val < 16 := lt_of_lt_of_eq t.isLt points
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 4096) : iblk m c 0 t (ix2 i k) = zK m c (rowAt t i) k := by
  show _ = m ((c : Thread nD τ).loc main_arg0) (ix2 ⟨t.val * 512 + i.val, rowAt_lt t i⟩ k)
  blk_point [iblk, V, idx t]
theorem read1 (t : Fin cfg0.N) (q : Fin 8) (j : Fin 1024) (l : Fin 512) : iblk m c 1 t (ix3 q j l) = wK m c q j l := by
  blk_point [iblk, V, idx t, wK]
theorem read2 (t : Fin cfg0.N) (i : Fin 512) (k : Fin 1024) : iblk m c 2 t (ix2 i k) = xK m c (rowAt t i) k := by
  show _ = m ((c : Thread nD τ).loc main_arg2) (ix2 ⟨t.val * 512 + i.val, rowAt_lt t i⟩ k)
  blk_point [iblk, V, idx t]
theorem read3 (t : Fin cfg0.N) (k : Fin 1024) : iblk m c 3 t (ix2 0 k) = gK m c k := by
  blk_point [iblk, V, idx t, gK]
theorem read4 (t : Fin cfg0.N) (i : Fin 512) (k : Fin 1024) : iblk m c 4 t (ix2 i k) = dK m c (rowAt t i) k := by
  show _ = m ((c : Thread nD τ).loc main_arg4) (ix2 ⟨t.val * 512 + i.val, rowAt_lt t i⟩ k)
  blk_point [iblk, V, idx t]
theorem read5 (t : Fin cfg0.N) (j : Fin 1024) (k : Fin 1024) : iblk m c 5 t (ix2 j k) = pK m c j k := by
  blk_point [iblk, V, idx t, pK]

theorem blockRow_eq (t : Fin cfg0.N) (i : Fin 512) :
    blockRow (iblk m c 0 t) (iblk m c 1 t) (iblk m c 2 t) (iblk m c 3 t) (iblk m c 4 t) i
      = gradRow (zK m c) (wK m c) (xK m c) (gK m c) (dK m c) (rowAt t i) := by
  simp only [blockRow, gradRow, read0, read1, read2, read3, read4]

theorem blockGain_eq (t : Fin cfg0.N) (i : Fin 512) :
    blockGain (iblk m c 0 t) (iblk m c 1 t) (iblk m c 2 t) i
      = gainTerm (dhat (zK m c (rowAt t i)) (wK m c)) (xK m c (rowAt t i)) := by
  simp only [blockGain, read0, read1, read2]

theorem blockPost_eq (t : Fin cfg0.N) (i : Fin 512) (j : Fin 1024) :
    blockPost (iblk m c 0 t) (iblk m c 1 t) (iblk m c 2 t) (iblk m c 3 t) (iblk m c 4 t) (iblk m c 5 t) i j
      = gradPost (zK m c) (wK m c) (xK m c) (gK m c) (dK m c) (pK m c) (rowAt t i) j := by
  simp only [blockPost, gradPost, blockRow_eq, read5]

theorem array6 : (dats m 0 c).arrAt 6 cfg0.N
    = fun y : S8192x1024.Idx => gradRow (zK m c) (wK m c) (xK m c) (gK m c) (dK m c) (y 0) (y 1) := by
  refine (dats m 0 c).arrAt_eq_of_covers 6 _ (by decide +kernel) fun t hf y => ?_
  blk_simp
  rw [after0_6]
  idx_vars y
  rw [point6, blockRow_eq]
  refine congrArg₂ (gradRow (zK m c) (wK m c) (xK m c) (gK m c) (dK m c)) (Fin.ext ?_) (Fin.ext ?_)
  · show t.val * 512 + y0.val = _
    blk_simp [idx t]
  · blk_simp [idx t]

theorem array8 : (dats m 0 c).arrAt 8 cfg0.N
    = fun y : S8192x1024.Idx => gradPost (zK m c) (wK m c) (xK m c) (gK m c) (dK m c) (pK m c) (y 0) (y 1) := by
  refine (dats m 0 c).arrAt_eq_of_covers 8 _ (by decide +kernel) fun t hf y => ?_
  blk_simp
  rw [after0_8]
  idx_vars y
  rw [point8, blockPost_eq]
  refine congrArg₂ (gradPost (zK m c) (wK m c) (xK m c) (gK m c) (dK m c) (pK m c)) (Fin.ext ?_) (Fin.ext ?_)
  · show t.val * 512 + y0.val = _
    blk_simp [idx t]
  · blk_simp [idx t]

theorem array7 : (dats m 0 c).arrAt 7 cfg0.N
    = fun y : S1x1024.Idx => gradGain (zK m c) (wK m c) (xK m c) (y 1) := by
  refine (dats m 0 c).arrAt_eq_of_after_last 7 t0_15 (by decide +kernel) _ fun y => ?_
  blk_simp
  idx_vars y
  obtain rfl : y0 = 0 := Subsingleton.elim _ _
  rw [after0_7]
  refine (Pipeline.eq_sum_fin_of_reset_step_apply_last (fun n h => (outsAt0 m c n h).2.1) 16 (fun _ => (0 : EReal))
    (fun t y => ∑ i, blockGain (iblk m c 0 t) (iblk m c 1 t) (iblk m c 2 t) i (y 1))
    (fun t h y => ?_) (fun t h y => ?_) (le_of_eq points) t0_15 rfl (ix2 0 y1)).trans ?_
  · idx_vars y
    obtain rfl : y0 = 0 := Subsingleton.elim _ _
    exact (point7 m c t y1 h).trans (zero_add _).symm
  · idx_vars y
    obtain rfl : y0 = 0 := Subsingleton.elim _ _
    exact step7 m c t y1 h
  · rw [zero_add]
    simp only [blockGain_eq]
    exact Fin.sum_mul_add_congr (L := 8192) (S := 16) (n := 512) (f := fun n => gainTerm (dhat (zK m c n) (wK m c)) (xK m c n) y1) fun t i h => rfl

end Cert.Norm

end
-- ==== Proof.Norm.Reference.lean ====
module

public import proofs.«01_k».proof.Proof.Gen.ReferenceNIdeal.Run
public import proofs.«01_k».proof.Proof.Norm.Algebra
public import Idealize.ShloMosaic.Lib.Pipeline.ValueKit
public import Idealize.ShloMosaic.Lib.Pointwise

@[expose] public section

set_option maxRecDepth 16384

/-! What the reference computes, entry by entry, as functions of its argument arrays. -/

noncomputable section

namespace Cert.Norm

open Idealize.ShloMosaic Idealize.ShloMosaic.TcCoe Idealize.SL.Sem
open Cert.ReferenceNIdeal Cert.ReferenceNIdeal.Gen Cert.ReferenceNIdeal.Value

/-- The cotangent of the normed row, as one product over all 4096 columns. -/
def dline (z : Fin 4096 → EReal) (w : Fin 8 → Fin 1024 → Fin 512 → EReal) (j : Fin 1024) : EReal :=
  ∑ k : Fin 4096, z k * w ⟨k.val / 512, by omega⟩ j ⟨k.val % 512, by omega⟩

variable (m : (ℓ : Loc nD τ sig) → Buf (Elt Ideal) ℓ) (c : Dev nD)

/-- The argument arrays of the reference by coordinates. -/
def zR (n : Fin 8192) (k : Fin 4096) : EReal := m ((c : Thread nD τ).loc main_arg0) (ix2 n k)
def wR (q : Fin 8) (j : Fin 1024) (l : Fin 512) : EReal := m ((c : Thread nD τ).loc main_arg1) (ix3 q j l)
def xR (n : Fin 8192) (k : Fin 1024) : EReal := m ((c : Thread nD τ).loc main_arg2) (ix2 n k)
def gR (k : Fin 1024) : EReal := m ((c : Thread nD τ).loc main_arg3) (ix2 0 k)
def dR (n : Fin 8192) (k : Fin 1024) : EReal := m ((c : Thread nD τ).loc main_arg4) (ix2 n k)
def pR (j : Fin 1024) (k : Fin 1024) : EReal := m ((c : Thread nD τ).loc main_arg5) (ix2 j k)

/-- The reference's first result. -/
def out43 : FVec Ideal S8192x1024 .f32 := res_main_v43 m c

/-- The reference's second result, the gradient of the gain, as its run states it. -/
def out48 : FVec Ideal S1x1024 .f32 :=
  broadcastInDim S1x1024 ![1] bcast_S1024_S1x1024_1 (Host.reduceAdd (shapeCast _ (Host.reduceAdd (mulf (mulf (m ((c : Thread nD τ).loc main_arg2)) (broadcastInDim S8192x1024 ![0, 1] bcast_S8192x1_S8192x1024_0_1 (Host.rsqrt (addf (Host.divf (broadcastInDim S8192x1 ![0] bcast_S8192_S8192x1_0 (Host.reduceAdd (mulf (m ((c : Thread nD τ).loc main_arg2)) (m ((c : Thread nD τ).loc main_arg2))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x4096_S1024x4096_S8192x1024_1_1_0_0_n_n none (extf .f32 (m ((c : Thread nD τ).loc main_arg0)) bitsLt_bf16_f32) (extf .f32 (shapeCast _ (transpose S1024x8x512 [1, 0, 2] (m ((c : Thread nD τ).loc main_arg1)) transposes_S8x1024x512_S1024x8x512_1_0_2) shapeCasts_S1024x8x512_S1024x4096) bitsLt_bf16_f32))) (constant S_ .f32 0x00000000#32) reducesTo_S8192x1024_S1024_d0 h_S_) shapeCasts_S1024_S1x1024) (constant S_ .f32 0x00000000#32) reducesTo_S1x1024_S1024_d0 h_S_)

/-- The reference's third result. -/
def out49 : FVec Ideal S8192x1024 .bf16 := res_main_v49 m c

theorem ref43 (n : Fin 8192) (j : Fin 1024) : out43 m c (ix2 n j)
    = rowReference (dR m c n) (fun k => dline (zR m c n) (wR m c) k * gR m c k) (xR m c n) j := by
  pointwise [out43, res_main_v43]
  simp only [Finset.univ_unique, Finset.sum_singleton]
  rfl

theorem ref48 (j : Fin 1024) : out48 m c (ix2 0 j)
    = ∑ n, xR m c n j * rinv (xR m c n) * dline (zR m c n) (wR m c) j := by
  pointwise [out48]
  simp only [Finset.univ_unique, Finset.sum_singleton]
  rfl

theorem out49_eq : out49 m c = truncf .bf16 (Host.dotGeneral dot_S8192x1024_S1024x1024_S8192x1024_1_1_0_0_n_n none
    (out43 m c) (extf .f32 (m ((c : Thread nD τ).loc main_arg5) : FVec Ideal S1024x1024 .bf16) bitsLt_bf16_f32) : FVec Ideal S8192x1024 .f32)
    bitsLt_bf16_f32 := rfl

theorem ref49 (n : Fin 8192) (j : Fin 1024) : out49 m c (ix2 n j) = ∑ k, out43 m c (ix2 n k) * pR m c j k := by
  rw [out49_eq]
  pointwise
  rfl

end Cert.Norm

end
-- ==== Proof.Norm.Equation.lean ====
module

public import proofs.«01_k».proof.Proof.Norm.Arrays
public import proofs.«01_k».proof.Proof.Norm.Reference

@[expose] public section

set_option maxRecDepth 16384

/-! The kernel's three result arrays are the reference's three results, of the same arguments. -/

noncomputable section

namespace Cert.Norm

open Idealize.ShloMosaic Idealize.ShloMosaic.TcCoe Idealize.SL.Sem

/-- The product in eight chunks of columns is the product over all columns. -/
theorem dhat_eq (z : Fin 4096 → EReal) (w : Fin 8 → Fin 1024 → Fin 512 → EReal) : dhat z w = dline z w := by
  funext j
  refine Fin.sum_mul_add_congr (L := 4096) (S := 8) (n := 512) fun q l hl => ?_
  have hq : (⟨(q.val * 512 + l.val) / 512, by omega⟩ : Fin 8) = q := Fin.ext (by show (q.val * 512 + l.val) / 512 = q.val; omega)
  have hl' : (⟨(q.val * 512 + l.val) % 512, by omega⟩ : Fin 512) = l := Fin.ext (by show (q.val * 512 + l.val) % 512 = l.val; omega)
  show _ = z ⟨q.val * 512 + l.val, hl⟩ * w ⟨(q.val * 512 + l.val) / 512, _⟩ j ⟨(q.val * 512 + l.val) % 512, _⟩
  rw [hq, hl']

variable (m : (ℓ : Loc Cert.KernelNIdeal.nD Cert.KernelNIdeal.τ Cert.KernelNIdeal.sig) → Buf (Elt Ideal) ℓ)
  (m' : (ℓ : Loc Cert.ReferenceNIdeal.nD Cert.ReferenceNIdeal.τ Cert.ReferenceNIdeal.sig) → Buf (Elt Ideal) ℓ)
  (c : Dev Cert.KernelNIdeal.nD)

/-- The two programs' argument arrays hold the same. -/
structure Same : Prop where
  z : zR m' c = zK m c
  w : wR m' c = wK m c
  x : xR m' c = xK m c
  g : gR m' c = gK m c
  d : dR m' c = dK m c
  p : pR m' c = pK m c

variable {m m' c}

theorem rows_eq (h : Same m m' c) (n : Fin 8192) (j : Fin 1024) :
    gradRow (zK m c) (wK m c) (xK m c) (gK m c) (dK m c) n j = out43 m' c (ix2 n j) := by
  rw [ref43, h.z, h.w, h.x, h.g, h.d]
  unfold gradRow
  rw [row_eq, dhat_eq]

theorem result0 (h : Same m m' c) :
    (Cert.KernelNIdeal.Gen.dats m 0 c).arrAt 6 Cert.KernelNIdeal.cfg0.N = out43 m' c := by
  rw [array6]
  funext y
  idx_vars y
  exact rows_eq h _ _

theorem gain_eq (h : Same m m' c) (j : Fin 1024) :
    gradGain (zK m c) (wK m c) (xK m c) j = out48 m' c (ix2 0 j) := by
  rw [ref48, h.z, h.w, h.x]
  simp only [← dhat_eq]
  exact Finset.sum_congr rfl fun n _ => mul_comm _ _

theorem result1 (h : Same m m' c) :
    (Cert.KernelNIdeal.Gen.dats m 0 c).arrAt 7 Cert.KernelNIdeal.cfg0.N = out48 m' c := by
  rw [array7]
  generalize hR : out48 m' c = R
  funext y
  have hy : y = ix2 0 (y 1) := by
    funext a
    match a with
    | 0 => exact Subsingleton.elim (α := Fin 1) _ _
    | 1 => rfl
  rw [hy, ← hR]
  exact gain_eq h _

theorem result2 (h : Same m m' c) :
    (Cert.KernelNIdeal.Gen.dats m 0 c).arrAt 8 Cert.KernelNIdeal.cfg0.N = out49 m' c := by
  rw [array8]
  funext y
  idx_vars y
  refine Eq.trans ?_ (ref49 m' c _ _).symm
  rw [h.p]
  exact Finset.sum_congr rfl fun n _ => by rw [← rows_eq h]

end Cert.Norm

end
-- ==== Proof.Norm.Claims.lean ====
module

public import proofs.«01_k».proof.Defs
public import proofs.«01_k».proof.Proof.Gen.KernelN.Frame
public import proofs.«01_k».proof.Proof.Gen.KernelNIdeal.Frame
public import proofs.«01_k».proof.Proof.Norm.Equation

@[expose] public section

set_option maxRecDepth 16384

/-! The claims about the backward of the normed products: the frames and the equation of the results. -/

noncomputable section

namespace Cert.Norm

open Idealize.ShloMosaic Idealize.ShloMosaic.TcCoe Idealize.SL.Sem

theorem frameK : Cert.quiescent_KernelN := fun m ρ _ => Cert.KernelN.Gen.frame m ρ

theorem frameKI : Cert.quiescent_KernelNIdeal := fun m ρ _ => Cert.KernelNIdeal.Gen.frame m ρ

theorem frameRI : Cert.quiescent_ReferenceNIdeal := fun m ρ _ =>
  (θ_run _ _ _).mono
    (fun r h => ⟨fun c => (h c).2.2.2, sem_eq_zero_of_no_sems (by decide) r.2⟩) (Cert.ReferenceNIdeal.Value.run m ρ)

theorem preserves : Cert.preserves_KernelN_KernelNIdeal := trivial

theorem algebraic : Cert.algebraic_KernelNIdeal_ReferenceNIdeal := by
  intro m g m' g' _ hagree
  have h : ∀ c, Same m m' c := fun c => by
    obtain ⟨h0, h1, h2, h3, h4, h5⟩ := hagree c
    exact ⟨congrArg (fun (a : FVec Ideal Cert.KernelNIdeal.S8192x4096 .bf16) n k => a (ix2 n k)) h0,
      congrArg (fun (a : FVec Ideal Cert.KernelNIdeal.S8x1024x512 .bf16) q j l => a (ix3 q j l)) h1,
      congrArg (fun (a : FVec Ideal Cert.KernelNIdeal.S8192x1024 .f32) n k => a (ix2 n k)) h2,
      congrArg (fun (a : FVec Ideal Cert.KernelNIdeal.S1x1024 .f32) k => a (ix2 0 k)) h3,
      congrArg (fun (a : FVec Ideal Cert.KernelNIdeal.S8192x1024 .f32) n k => a (ix2 n k)) h4,
      congrArg (fun (a : FVec Ideal Cert.KernelNIdeal.S1024x1024 .bf16) j k => a (ix2 j k)) h5⟩
  refine ⟨fun c => out43 m' c, fun c => out48 m' c, fun c => out49 m' c,
    (θ_run _ _ _).mono (fun r k c => ?_) (Cert.KernelNIdeal.Value.run_blocks m g),
    Cert.ReferenceNIdeal.Value.run m' g'⟩
  obtain ⟨k0, k1, k2, ka⟩ := k c
  exact ⟨k0.trans (result0 (h c)), k1.trans (result1 (h c)), k2.trans (result2 (h c)), ka⟩

end Cert.Norm

end
-- ==== Proof.Rows.Equation.lean ====
module

public import proofs.«01_k».proof.Defs
public import proofs.«01_k».proof.Proof.Gen.KernelRows.Frame
public import proofs.«01_k».proof.Proof.Gen.KernelRowsIdeal.Value
public import proofs.«01_k».proof.Proof.Gen.ReferenceRowsIdeal.Run
public import Idealize.ShloMosaic.Lib.Pipeline.ValueKit
public import Idealize.ShloMosaic.Lib.Pointwise

@[expose] public section

set_option maxRecDepth 16384

/-! The backward of the second product of the squared-ReLU layer and of the squared ReLU. -/

noncomputable section

namespace Cert.Rows

open Idealize.ShloMosaic Idealize.ShloMosaic.TcCoe Idealize.SL.Sem
open Idealize.ShloMosaic.Pipeline (Dat)

/-- The programs' constant two. -/
def two : EReal := Scalar.ofBits (F := Ideal) .f32 0x40000000#32

/-- A row of the cotangent against a row of the weights, times the slope of the squared ReLU at the saved value. -/
def entry (d : Fin 1024 → EReal) (w : Fin 4096 → Fin 1024 → EReal) (z : Fin 4096 → EReal) (j : Fin 4096) : EReal :=
  (∑ k, d k * w j k) * (two * max (z j) 0)

section Kernel
open Cert.KernelRowsIdeal Cert.KernelRowsIdeal.Gen

theorem block (x0 : FVec Ideal S512x1024 .f32) (x1 : FVec Ideal S4096x1024 .bf16) (x2 : FVec Ideal S512x4096 .bf16)
    (i : Fin 512) (j : Fin 4096) : out0_3 (F := Ideal) x0 x1 x2 (ix2 i j)
      = entry (fun k => x0 (ix2 i k)) (fun j k => x1 (ix2 j k)) (fun k => x2 (ix2 i k)) j := by
  frame_out
  canon_tiles x h
  all_goals idx_vars x
  all_goals pointwise [k0_pay1, k0_pay2, k0_pay3, k0_pay4, k0_pay5, k0_pay6, k0_pay7, entry, two]
  all_goals
    rw [show i = _ from Fin.ext h0, show j = ⟨_, lt_of_eq_of_lt h1.symm j.isLt⟩ from Fin.ext h1]

variable (m : (ℓ : Loc nD τ sig) → Buf (Elt Ideal) ℓ) (c : Dev nD)

/-- The kernel's argument arrays by coordinates. -/
def dK (n : Fin 8192) (k : Fin 1024) : EReal := m ((c : Thread nD τ).loc main_arg0) (ix2 n k)
def wK (j : Fin 4096) (k : Fin 1024) : EReal := m ((c : Thread nD τ).loc main_arg1) (ix2 j k)
def zK (n : Fin 8192) (j : Fin 4096) : EReal := m ((c : Thread nD τ).loc main_arg2) (ix2 n j)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem rowAt_lt (t : Fin cfg0.N) (i : Fin 512) : t.val * 512 + i.val < 8192 := by
  have h : t.val < 16 := lt_of_lt_of_eq t.isLt N_0
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 1024) : iblk m c 0 t (ix2 i k) = dK m c (rowAt t i) k := by
  show _ = m ((c : Thread nD τ).loc main_arg0) (ix2 ⟨t.val * 512 + i.val, rowAt_lt t i⟩ k)
  blk_point [iblk, V, idx t]
theorem read1 (t : Fin cfg0.N) (j : Fin 4096) (k : Fin 1024) : iblk m c 1 t (ix2 j k) = wK m c j k := by
  blk_point [iblk, V, idx t, wK]
theorem read2 (t : Fin cfg0.N) (i : Fin 512) (k : Fin 4096) : iblk m c 2 t (ix2 i k) = zK m c (rowAt t i) k := by
  show _ = m ((c : Thread nD τ).loc main_arg2) (ix2 ⟨t.val * 512 + i.val, rowAt_lt t i⟩ k)
  blk_point [iblk, V, idx t]

theorem array3 : (dats m 0 c).arrAt 3 cfg0.N
    = fun y : S8192x4096.Idx => entry (dK m c (y 0)) (wK m c) (zK m c (y 0)) (y 1) := by
  refine (dats m 0 c).arrAt_eq_of_covers 3 _ (by decide +kernel) fun t hf y => ?_
  blk_simp
  rw [after0_3]
  idx_vars y
  rw [block]
  simp only [read0, read1, read2]
  refine congrArg₂ (fun n j => entry (dK m c n) (wK m c) (zK m c n) j) (Fin.ext ?_) (Fin.ext ?_)
  · show t.val * 512 + y0.val = _
    blk_simp [idx t]
  · blk_simp [idx t]
end Kernel

section Reference
open Cert.ReferenceRowsIdeal Cert.ReferenceRowsIdeal.Gen Cert.ReferenceRowsIdeal.Value
variable (d : FVec Ideal S8192x1024 .f32) (w : FVec Ideal S4096x1024 .bf16) (z : FVec Ideal S8192x4096 .bf16)

/-- The reference's result of given argument arrays. -/
def result : FVec Ideal S8192x4096 .bf16 :=
  truncf .bf16 (select (cmpf .ogt (extf .f32 z bitsLt_bf16_f32) (broadcastInDim S8192x4096 ![] bcast_S_S8192x4096 (constant S_ .f32 0x00000000#32))) (mulf (Host.dotGeneral dot_S8192x1024_S4096x1024_S8192x4096_1_1_0_0_n_n none d (extf .f32 w bitsLt_bf16_f32)) (mulf (broadcastInDim S8192x4096 ![] bcast_S_S8192x4096 (constant S_ .f32 0x40000000#32)) (maximumf (extf .f32 z bitsLt_bf16_f32) (broadcastInDim S8192x4096 ![] bcast_S_S8192x4096 (constant S_ .f32 0x00000000#32))))) (broadcastInDim S8192x4096 ![] bcast_S_S8192x4096 (constant S_ .f32 0x00000000#32))) bitsLt_bf16_f32

theorem result_apply (n : Fin 8192) (j : Fin 4096) : result d w z (ix2 n j)
    = entry (fun k => d (ix2 n k)) (fun j k => w (ix2 j k)) (fun j => z (ix2 n j)) j := by
  pointwise [result, entry]
  split
  · rfl
  · rename_i hz
    rw [max_eq_right (not_lt.1 hz), mul_zero, mul_zero]
end Reference

theorem frameK : Cert.quiescent_KernelRows := fun m ρ _ => Cert.KernelRows.Gen.frame m ρ

theorem frameKI : Cert.quiescent_KernelRowsIdeal := fun m ρ _ => Cert.KernelRowsIdeal.Gen.frame m ρ

theorem frameRI : Cert.quiescent_ReferenceRowsIdeal := fun m ρ _ =>
  (θ_run _ _ _).mono
    (fun r h => ⟨fun c => (h c).2, sem_eq_zero_of_no_sems (by decide) r.2⟩) (Cert.ReferenceRowsIdeal.Value.run m ρ)

theorem preserves : Cert.preserves_KernelRows_KernelRowsIdeal := trivial

theorem algebraic : Cert.algebraic_KernelRowsIdeal_ReferenceRowsIdeal := by
  intro m g m' g' _ hagree
  refine ⟨_, (θ_run _ _ _).mono (fun r k c => ?_) (Cert.KernelRowsIdeal.Value.run_blocks m g),
    Cert.ReferenceRowsIdeal.Value.run m' g'⟩
  refine ⟨(k c).1.trans ?_, (k c).2⟩
  obtain ⟨h0, h1, h2⟩ := hagree c
  rw [h0, h1, h2, array3]
  funext y
  idx_vars y
  exact (result_apply _ _ _ _ _).symm

end Cert.Rows

end
-- ==== Proof.Products.lean ====
module

public import Idealize.ShloMosaic.Lib.Pipeline.ValueKit
public import Idealize.ShloMosaic.Lib.Pointwise

@[expose] public section

/-! The entry of a product of two matrices that several calls share. -/

noncomputable section

namespace Cert.Products

/-- One product of columns, over the rows `Fin n`. -/
def cross {n : ℕ} (a b : Fin n → EReal) : EReal := ∑ r, a r * b r

/-- Two halves of a row put side by side. -/
def sides (a b : Fin 512 → EReal) (i : Fin 1024) : EReal :=
  if h : i.val < 512 then a ⟨i.val, h⟩ else b ⟨i.val - 512, by omega⟩

/-- A product over all rows is the sum of the products over four tiles of rows. -/
theorem cross_tiles (a b : Fin 8192 → EReal) (r : Fin 4 → Fin 2048 → Fin 8192)
    (hr : ∀ s l, (r s l).val = s.val * 2048 + l.val) :
    ∑ s, cross (fun n => a (r s n)) (fun n => b (r s n)) = cross a b :=
  Fin.sum_mul_add_congr (L := 8192) (S := 4) (n := 2048) (f := fun n => a n * b n) fun s l hl =>
    congrArg (fun n => a n * b n) (Fin.ext (hr s l))

end Cert.Products

end
-- ==== Proof.OutDw.Equation.lean ====
module

public import proofs.«01_k».proof.Defs
public import proofs.«01_k».proof.Proof.Gen.KernelOutDw.Frame
public import proofs.«01_k».proof.Proof.Gen.KernelOutDwIdeal.Value
public import proofs.«01_k».proof.Proof.Gen.ReferenceOutDwIdeal.Run
public import proofs.«01_k».proof.Proof.Products
public import Idealize.ShloMosaic.Lib.Pipeline.ValueKit
public import Idealize.ShloMosaic.Lib.Pointwise
public import Idealize.ShloMosaic.Lib.Pipeline.ReadBack

@[expose] public section

set_option maxRecDepth 16384

/-! The weight gradient of the second product of the squared-ReLU layer, summed over the row tiles. -/

noncomputable section

namespace Cert.OutDw

open Idealize.ShloMosaic Idealize.ShloMosaic.TcCoe Idealize.SL.Sem
open Idealize.ShloMosaic.Pipeline (Dat)
open Cert.Products

section Kernel
open Cert.KernelOutDwIdeal Cert.KernelOutDwIdeal.Gen

theorem pay1 (i j : Fin 1024) : k0_pay1 (F := Ideal) (ix2 i j) = (0 : EReal) := by
  pointwise [k0_pay1]

theorem pay2 (a : FVec Ideal S2048x1024 .bf16) (acc : FVec Ideal S1024x1024 .f32) (b : FVec Ideal S2048x1024 .f32) (i j : Fin 1024) :
    k0_pay2 (F := Ideal) a acc b (ix2 i j) = acc (ix2 i j) + cross (fun n => a (ix2 n i)) (fun n => b (ix2 n j)) := by
  pointwise [k0_pay2, cross]

theorem pay3 (v : FVec Ideal S512x1024 .f32) (q : Fin 1) (i : Fin 512) (j : Fin 1024) :
    k0_pay3 (F := Ideal) v (ix3 q i j) = v (ix2 i j) := by
  obtain rfl : q = 0 := Subsingleton.elim _ _
  pointwise [k0_pay3]

theorem pay4 (v : FVec Ideal S512x1024 .f32) (q : Fin 1) (i : Fin 512) (j : Fin 1024) :
    k0_pay4 (F := Ideal) v (ix3 q i j) = v (ix2 i j) := by
  obtain rfl : q = 0 := Subsingleton.elim _ _
  pointwise [k0_pay4]

variable (m : (ℓ : Loc nD τ sig) → Buf (Elt Ideal) ℓ) (c : Dev nD)

/-- The product of a point's two row tiles. -/
def part (t : Fin cfg0.N) (i j : Fin 1024) : EReal :=
  cross (fun n : Fin 2048 => (iblk m c 0 t : FVec Ideal S2048x1024 .bf16) (ix2 n i)) (fun n => (iblk m c 1 t : FVec Ideal S2048x1024 .f32) (ix2 n j))

theorem reset (t : Fin cfg0.N) (h : t.val % 4 = 0) (i j : Fin 1024) :
    (outsAt0 m c t.val t.isLt).2 (ix2 i j) = (0 : EReal) + part m c t i j := by
  rw [outsAt0_A m c t h (by omega)]
  frame_out
  rw [pay2, pay1]
  rfl

theorem step (t : Fin cfg0.N) (h : ¬t.val % 4 = 0) (i j : Fin 1024) :
    (outsAt0 m c t.val t.isLt).2 (ix2 i j)
      = ((outsAt0 m c (t.val - 1) (Nat.lt_of_le_of_lt (Nat.sub_le _ _) t.isLt)).2 (ix2 i j) : EReal) + part m c t i j := by
  by_cases h1 : t.val % 4 = 3
  · rw [outsAt0_C m c t h h1]
    frame_out
    rw [pay2, read_unread_whole]
    rfl
  · rw [outsAt0_B m c t h h1]
    frame_out
    rw [pay2, read_unread_whole]
    rfl

/-- At the last row tile the two halves of the accumulator are stored. -/
theorem halves (t : Fin cfg0.N) (h : t.val % 4 = 3) (q : Fin 2) (i : Fin 512) (j : Fin 1024) (i' : Fin 1024)
    (hi : i'.val = q.val * 512 + i.val) :
    (outsAt0 m c t.val t.isLt).1 (ix3 q i j) = (outsAt0 m c t.val t.isLt).2 (ix2 i' j) := by
  rw [outsAt0_C m c t (by omega) h]
  frame_out
  generalize k0_pay2 (F := Ideal) _ _ _ = v
  generalize hy : (ix3 q i j : S2x512x1024.Idx) = y
  have q0 : y 0 = q := by subst hy; rfl
  have q1 : y 1 = i := by subst hy; rfl
  have q2 : y 2 = j := by subst hy; rfl
  canon_tiles y h
  · idx_vars y
    rw [pay4, View.readCov_fill _ _ _ _ _ (by decide)]
    rw [q0] at h0
    rw [q1] at h1
    rw [q2] at h2
    refine congrArg v (funext fun a => Fin.ext ?_)
    fin_cases a
    · show 512 + 1 * y1.val = i'.val
      omega
    · show 0 + 1 * y2.val = j.val
      omega
  · idx_vars y
    rw [pay3, View.readCov_fill _ _ _ _ _ (by decide)]
    rw [q0] at h0
    rw [q1] at h1
    rw [q2] at h2
    refine congrArg v (funext fun a => Fin.ext ?_)
    fin_cases a
    · show 0 + 1 * y1.val = i'.val
      omega
    · show 0 + 1 * y2.val = j.val
      omega

/-- The kernel's argument arrays by coordinates. -/
def aK (n : Fin 8192) (k : Fin 4096) : EReal := m ((c : Thread nD τ).loc main_arg0) (ix2 n k)
def bK (n : Fin 8192) (k : Fin 1024) : EReal := m ((c : Thread nD τ).loc main_arg1) (ix2 n k)

theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

theorem points : cfg0.N = 16 := N_0

theorem rowAt_lt (t : Fin cfg0.N) (i : Fin 2048) : t.val % 4 * 2048 + i.val < 8192 := by
  omega

theorem colAt_lt (t : Fin cfg0.N) (i : Fin 1024) : t.val / 4 * 1024 + i.val < 4096 := by
  have h : t.val < 16 := lt_of_lt_of_eq t.isLt N_0
  omega

theorem read0 (t : Fin cfg0.N) (i : Fin 2048) (k : Fin 1024) :
    iblk m c 0 t (ix2 i k) = aK m c ⟨t.val % 4 * 2048 + i.val, rowAt_lt t i⟩ ⟨t.val / 4 * 1024 + k.val, colAt_lt t k⟩ := by
  show _ = m ((c : Thread nD τ).loc main_arg0) (ix2 ⟨t.val % 4 * 2048 + i.val, rowAt_lt t i⟩ ⟨t.val / 4 * 1024 + k.val, colAt_lt t k⟩)
  blk_point [iblk, V, idx t]

theorem read1 (t : Fin cfg0.N) (i : Fin 2048) (k : Fin 1024) :
    iblk m c 1 t (ix2 i k) = bK m c ⟨t.val % 4 * 2048 + i.val, rowAt_lt t i⟩ k := by
  show _ = m ((c : Thread nD τ).loc main_arg1) (ix2 ⟨t.val % 4 * 2048 + i.val, rowAt_lt t i⟩ k)
  blk_point [iblk, V, idx t]

theorem part_eq (t : Fin cfg0.N) (i j : Fin 1024) : part m c t i j
    = cross (fun n : Fin 2048 => aK m c ⟨t.val % 4 * 2048 + n.val, rowAt_lt t n⟩ ⟨t.val / 4 * 1024 + i.val, colAt_lt t i⟩)
      (fun n => bK m c ⟨t.val % 4 * 2048 + n.val, rowAt_lt t n⟩ j) := by
  simp only [part, read0, read1]

/-- The accumulator at the last row tile of a column tile is the whole product. -/
theorem total (t : Fin cfg0.N) (h : t.val % 4 = 3) (i j : Fin 1024) :
    (outsAt0 m c t.val t.isLt).2 (ix2 i j)
      = cross (fun n => aK m c n ⟨t.val / 4 * 1024 + i.val, colAt_lt t i⟩) (fun n => bK m c n j) := by
  refine (Pipeline.eq_sum_fin_of_reset_step_apply_of_flush (fun n h => (outsAt0 m c n h).2) 4 (fun _ => (0 : EReal))
    (fun t y => part m c t (y 0) (y 1))
    (fun t h y => ?_) (fun t h y => ?_) t h (ix2 i j)).trans ?_
  · idx_vars y
    exact reset m c t h y0 y1
  · idx_vars y
    exact step m c t h y0 y1
  · rw [zero_add]
    show ∑ s : Fin 4, part m c _ i j = _
    simp only [part_eq]
    refine Fin.sum_mul_add_congr (L := 8192) (S := 4) (n := 2048)
      (f := fun n => aK m c n ⟨t.val / 4 * 1024 + i.val, colAt_lt t i⟩ * bK m c n j) fun s l hl => ?_
    have h4 : (4 * (t.val / 4) + s.val) % 4 = s.val := by omega
    have h5 : (4 * (t.val / 4) + s.val) / 4 = t.val / 4 := by omega
    refine congrArg₂ (· * ·) (congrArg₂ (aK m c) (Fin.ext ?_) (Fin.ext ?_)) (congrArg₂ (bK m c) (Fin.ext ?_) rfl)
    · show (4 * (t.val / 4) + s.val) % 4 * 2048 + l.val = _
      rw [h4]
    · show (4 * (t.val / 4) + s.val) / 4 * 1024 + i.val = _
      rw [h5]
    · show (4 * (t.val / 4) + s.val) % 4 * 2048 + l.val = _
      rw [h4]

theorem unit_lt (q : Fin 8) (i : Fin 512) : q.val * 512 + i.val < 4096 := by omega

theorem array2 : (dats m 0 c).arrAt 2 cfg0.N
    = fun y : S8x512x1024.Idx => cross (fun n => aK m c n ⟨(y 0).val * 512 + (y 1).val, unit_lt (y 0) (y 1)⟩) (fun n => bK m c n (y 2)) := by
  refine (dats m 0 c).arrAt_eq_of_covers 2 _ (by decide +kernel) fun t hf y => ?_
  blk_simp
  rw [after0_2]
  have h3 := (flush0_2 t).mp hf
  idx_vars y
  rw [halves m c t h3 y0 y1 y2 ⟨y0.val * 512 + y1.val, by omega⟩ rfl, total m c t h3]
  refine congrArg₂ cross (funext fun n => congrArg (aK m c n) (Fin.ext ?_)) (funext fun n => congrArg (bK m c n) (Fin.ext ?_))
  · blk_simp [idx t]
    show t.val / 4 * 1024 + (y0.val * 512 + y1.val) = (t.val / 4 * 2 + y0.val) * 512 + y1.val
    omega
  · blk_simp [idx t]
end Kernel

section Reference
open Cert.ReferenceOutDwIdeal Cert.ReferenceOutDwIdeal.Gen Cert.ReferenceOutDwIdeal.Value

/-- The reference's result of given argument arrays. -/
def result (a : FVec Ideal S8192x4096 .bf16) (b : FVec Ideal S8192x1024 .f32) : FVec Ideal S8x512x1024 .bf16 :=
  truncf .bf16 (shapeCast S8x512x1024 (transpose S4096x1024 [1, 0] (Host.dotGeneral dot_S8192x1024_S8192x4096_S1024x4096_0_0_1_1_n_n none b (extf .f32 a bitsLt_bf16_f32)) transposes_S1024x4096_S4096x1024_1_0) shapeCasts_S4096x1024_S8x512x1024) bitsLt_bf16_f32

theorem result_apply (a : FVec Ideal S8192x4096 .bf16) (b : FVec Ideal S8192x1024 .f32) (q : Fin 8) (i : Fin 512) (j : Fin 1024) :
    result a b (ix3 q i j) = cross (fun n => a (ix2 n ⟨q.val * 512 + i.val, unit_lt q i⟩)) (fun n => b (ix2 n j)) := by
  pointwise [result, cross]
  exact Finset.sum_congr rfl fun n _ => mul_comm _ _
end Reference

theorem frameK : Cert.quiescent_KernelOutDw := fun m ρ _ => Cert.KernelOutDw.Gen.frame m ρ

theorem frameKI : Cert.quiescent_KernelOutDwIdeal := fun m ρ _ => Cert.KernelOutDwIdeal.Gen.frame m ρ

theorem frameRI : Cert.quiescent_ReferenceOutDwIdeal := fun m ρ _ =>
  (θ_run _ _ _).mono
    (fun r h => ⟨fun c => (h c).2, sem_eq_zero_of_no_sems (by decide) r.2⟩) (Cert.ReferenceOutDwIdeal.Value.run m ρ)

theorem preserves : Cert.preserves_KernelOutDw_KernelOutDwIdeal := trivial

theorem algebraic : Cert.algebraic_KernelOutDwIdeal_ReferenceOutDwIdeal := by
  intro m g m' g' _ hagree
  refine ⟨_, (θ_run _ _ _).mono (fun r k c => ?_) (Cert.KernelOutDwIdeal.Value.run_blocks m g),
    Cert.ReferenceOutDwIdeal.Value.run m' g'⟩
  refine ⟨(k c).1.trans ?_, (k c).2⟩
  obtain ⟨h0, h1⟩ := hagree c
  rw [h0, h1, array2]
  funext y
  idx_vars y
  exact (result_apply _ _ _ _ _).symm

end Cert.OutDw

end
-- ==== Proof.InDw.Equation.lean ====
module

public import proofs.«01_k».proof.Defs
public import proofs.«01_k».proof.Proof.Gen.KernelInDw.Frame
public import proofs.«01_k».proof.Proof.Gen.KernelInDwIdeal.Value
public import proofs.«01_k».proof.Proof.Gen.ReferenceInDwIdeal.Run
public import proofs.«01_k».proof.Proof.Products
public import Idealize.ShloMosaic.Lib.Pipeline.ValueKit
public import Idealize.ShloMosaic.Lib.Pointwise
public import Idealize.ShloMosaic.Lib.Pipeline.ReadBack

@[expose] public section

set_option maxRecDepth 16384

/-! The weight gradient of the first product of the squared-ReLU layer, summed over the row tiles. -/

noncomputable section

namespace Cert.InDw

open Idealize.ShloMosaic Idealize.ShloMosaic.TcCoe Idealize.SL.Sem
open Idealize.ShloMosaic.Pipeline (Dat)
open Cert.Products

section Kernel
open Cert.KernelInDwIdeal Cert.KernelInDwIdeal.Gen

theorem pay1 (i j : Fin 1024) : k0_pay1 (F := Ideal) (ix2 i j) = (0 : EReal) := by
  pointwise [k0_pay1]

theorem pay2 (a : FVec Ideal S2048x1024 .bf16) (acc : FVec Ideal S1024x1024 .f32) (b : FVec Ideal S2048x1024 .bf16) (i j : Fin 1024) :
    k0_pay2 (F := Ideal) a acc b (ix2 i j) = acc (ix2 i j) + cross (fun n => a (ix2 n i)) (fun n => b (ix2 n j)) := by
  pointwise [k0_pay2, cross]

theorem pay3 (v : FVec Ideal S1024x512 .f32) (q : Fin 1) (i : Fin 1024) (j : Fin 512) :
    k0_pay3 (F := Ideal) v (ix3 q i j) = v (ix2 i j) := by
  obtain rfl : q = 0 := Subsingleton.elim _ _
  pointwise [k0_pay3]

theorem pay4 (v : FVec Ideal S1024x512 .f32) (q : Fin 1) (i : Fin 1024) (j : Fin 512) :
    k0_pay4 (F := Ideal) v (ix3 q i j) = v (ix2 i j) := by
  obtain rfl : q = 0 := Subsingleton.elim _ _
  pointwise [k0_pay4]

variable (m : (ℓ : Loc nD τ sig) → Buf (Elt Ideal) ℓ) (c : Dev nD)

/-- The product of a point's two row tiles. -/
def part (t : Fin cfg0.N) (i j : Fin 1024) : EReal :=
  cross (fun n : Fin 2048 => (iblk m c 0 t : FVec Ideal S2048x1024 .bf16) (ix2 n i)) (fun n => (iblk m c 1 t : FVec Ideal S2048x1024 .bf16) (ix2 n j))

theorem reset (t : Fin cfg0.N) (h : t.val % 4 = 0) (i j : Fin 1024) :
    (outsAt0 m c t.val t.isLt).2 (ix2 i j) = (0 : EReal) + part m c t i j := by
  rw [outsAt0_A m c t h (by omega)]
  frame_out
  rw [pay2, pay1]
  rfl

theorem step (t : Fin cfg0.N) (h : ¬t.val % 4 = 0) (i j : Fin 1024) :
    (outsAt0 m c t.val t.isLt).2 (ix2 i j)
      = ((outsAt0 m c (t.val - 1) (Nat.lt_of_le_of_lt (Nat.sub_le _ _) t.isLt)).2 (ix2 i j) : EReal) + part m c t i j := by
  by_cases h1 : t.val % 4 = 3
  · rw [outsAt0_C m c t h h1]
    frame_out
    rw [pay2, read_unread_whole]
    rfl
  · rw [outsAt0_B m c t h h1]
    frame_out
    rw [pay2, read_unread_whole]
    rfl

/-- At the last row tile the two halves of the accumulator are stored. -/
theorem halves (t : Fin cfg0.N) (h : t.val % 4 = 3) (q : Fin 2) (i : Fin 1024) (j : Fin 512) (j' : Fin 1024)
    (hj : j'.val = q.val * 512 + j.val) :
    (outsAt0 m c t.val t.isLt).1 (ix3 q i j) = (outsAt0 m c t.val t.isLt).2 (ix2 i j') := by
  rw [outsAt0_C m c t (by omega) h]
  frame_out
  generalize k0_pay2 (F := Ideal) _ _ _ = v
  generalize hy : (ix3 q i j : S2x1024x512.Idx) = y
  have q0 : y 0 = q := by subst hy; rfl
  have q1 : y 1 = i := by subst hy; rfl
  have q2 : y 2 = j := by subst hy; rfl
  canon_tiles y h
  · idx_vars y
    rw [pay4, View.readCov_fill _ _ _ _ _ (by decide)]
    rw [q0] at h0
    rw [q1] at h1
    rw [q2] at h2
    refine congrArg v (funext fun a => Fin.ext ?_)
    fin_cases a
    · show 0 + 1 * y1.val = i.val
      omega
    · show 512 + 1 * y2.val = j'.val
      omega
  · idx_vars y
    rw [pay3, View.readCov_fill _ _ _ _ _ (by decide)]
    rw [q0] at h0
    rw [q1] at h1
    rw [q2] at h2
    refine congrArg v (funext fun a => Fin.ext ?_)
    fin_cases a
    · show 0 + 1 * y1.val = i.val
      omega
    · show 0 + 1 * y2.val = j'.val
      omega

/-- The kernel's argument arrays by coordinates. -/
def aK (n : Fin 8192) (k : Fin 1024) : EReal := m ((c : Thread nD τ).loc main_arg0) (ix2 n k)
def bK (n : Fin 8192) (k : Fin 4096) : EReal := m ((c : Thread nD τ).loc main_arg1) (ix2 n k)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem points : cfg0.N = 16 := N_0

theorem rowAt_lt (t : Fin cfg0.N) (i : Fin 2048) : t.val % 4 * 2048 + i.val < 8192 := by
  omega

theorem colAt_lt (t : Fin cfg0.N) (i : Fin 1024) : t.val / 4 * 1024 + i.val < 4096 := by
  have h : t.val < 16 := lt_of_lt_of_eq t.isLt N_0
  omega

theorem read0 (t : Fin cfg0.N) (i : Fin 2048) (k : Fin 1024) :
    iblk m c 0 t (ix2 i k) = aK m c ⟨t.val % 4 * 2048 + i.val, rowAt_lt t i⟩ k := by
  show _ = m ((c : Thread nD τ).loc main_arg0) (ix2 ⟨t.val % 4 * 2048 + i.val, rowAt_lt t i⟩ k)
  blk_point [iblk, V, idx t]

theorem read1 (t : Fin cfg0.N) (i : Fin 2048) (k : Fin 1024) :
    iblk m c 1 t (ix2 i k) = bK m c ⟨t.val % 4 * 2048 + i.val, rowAt_lt t i⟩ ⟨t.val / 4 * 1024 + k.val, colAt_lt t k⟩ := by
  show _ = m ((c : Thread nD τ).loc main_arg1) (ix2 ⟨t.val % 4 * 2048 + i.val, rowAt_lt t i⟩ ⟨t.val / 4 * 1024 + k.val, colAt_lt t k⟩)
  blk_point [iblk, V, idx t]

theorem part_eq (t : Fin cfg0.N) (i j : Fin 1024) : part m c t i j
    = cross (fun n : Fin 2048 => aK m c ⟨t.val % 4 * 2048 + n.val, rowAt_lt t n⟩ i)
      (fun n => bK m c ⟨t.val % 4 * 2048 + n.val, rowAt_lt t n⟩ ⟨t.val / 4 * 1024 + j.val, colAt_lt t j⟩) := by
  simp only [part, read0, read1]

/-- The accumulator at the last row tile of a column tile is the whole product. -/
theorem total (t : Fin cfg0.N) (h : t.val % 4 = 3) (i j : Fin 1024) :
    (outsAt0 m c t.val t.isLt).2 (ix2 i j)
      = cross (fun n => aK m c n i) (fun n => bK m c n ⟨t.val / 4 * 1024 + j.val, colAt_lt t j⟩) := by
  refine (Pipeline.eq_sum_fin_of_reset_step_apply_of_flush (fun n h => (outsAt0 m c n h).2) 4 (fun _ => (0 : EReal))
    (fun t y => part m c t (y 0) (y 1))
    (fun t h y => ?_) (fun t h y => ?_) t h (ix2 i j)).trans ?_
  · idx_vars y
    exact reset m c t h y0 y1
  · idx_vars y
    exact step m c t h y0 y1
  · rw [zero_add]
    show ∑ s : Fin 4, part m c _ i j = _
    simp only [part_eq]
    refine Fin.sum_mul_add_congr (L := 8192) (S := 4) (n := 2048)
      (f := fun n => aK m c n i * bK m c n ⟨t.val / 4 * 1024 + j.val, colAt_lt t j⟩) fun s l hl => ?_
    have h4 : (4 * (t.val / 4) + s.val) % 4 = s.val := by omega
    have h5 : (4 * (t.val / 4) + s.val) / 4 = t.val / 4 := by omega
    refine congrArg₂ (· * ·) (congrArg₂ (aK m c) (Fin.ext ?_) rfl) (congrArg₂ (bK m c) (Fin.ext ?_) (Fin.ext ?_))
    · show (4 * (t.val / 4) + s.val) % 4 * 2048 + l.val = _
      rw [h4]
    · show (4 * (t.val / 4) + s.val) % 4 * 2048 + l.val = _
      rw [h4]
    · show (4 * (t.val / 4) + s.val) / 4 * 1024 + j.val = _
      rw [h5]

theorem unit_lt (q : Fin 8) (i : Fin 512) : q.val * 512 + i.val < 4096 := by omega

theorem array2 : (dats m 0 c).arrAt 2 cfg0.N
    = fun y : S8x1024x512.Idx => cross (fun n => aK m c n (y 1)) (fun n => bK m c n ⟨(y 0).val * 512 + (y 2).val, unit_lt (y 0) (y 2)⟩) := by
  refine (dats m 0 c).arrAt_eq_of_covers 2 _ (by decide +kernel) fun t hf y => ?_
  blk_simp
  rw [after0_2]
  have h3 := (flush0_2 t).mp hf
  idx_vars y
  rw [halves m c t h3 y0 y1 y2 ⟨y0.val * 512 + y2.val, by omega⟩ rfl, total m c t h3]
  refine congrArg₂ cross (funext fun n => congrArg (aK m c n) (Fin.ext ?_)) (funext fun n => congrArg (bK m c n) (Fin.ext ?_))
  · blk_simp [idx t]
  · blk_simp [idx t]
    show t.val / 4 * 1024 + (y0.val * 512 + y2.val) = (t.val / 4 * 2 + y0.val) * 512 + y2.val
    omega
end Kernel

section Reference
open Cert.ReferenceInDwIdeal Cert.ReferenceInDwIdeal.Gen Cert.ReferenceInDwIdeal.Value

/-- The reference's result of given argument arrays. -/
def result (a : FVec Ideal S8192x1024 .bf16) (b : FVec Ideal S8192x4096 .bf16) : FVec Ideal S8x1024x512 .bf16 :=
  truncf .bf16 (transpose S8x1024x512 [1, 0, 2] (shapeCast S1024x8x512 (transpose S1024x4096 [1, 0] (Host.dotGeneral dot_S8192x4096_S8192x1024_S4096x1024_0_0_1_1_n_n none (extf .f32 b bitsLt_bf16_f32) (extf .f32 a bitsLt_bf16_f32)) transposes_S4096x1024_S1024x4096_1_0) shapeCasts_S1024x4096_S1024x8x512) transposes_S1024x8x512_S8x1024x512_1_0_2) bitsLt_bf16_f32

theorem result_apply (a : FVec Ideal S8192x1024 .bf16) (b : FVec Ideal S8192x4096 .bf16) (q : Fin 8) (i : Fin 1024) (j : Fin 512) :
    result a b (ix3 q i j) = cross (fun n => a (ix2 n i)) (fun n => b (ix2 n ⟨q.val * 512 + j.val, unit_lt q j⟩)) := by
  pointwise [result, cross]
  exact Finset.sum_congr rfl fun n _ => mul_comm _ _
end Reference

theorem frameK : Cert.quiescent_KernelInDw := fun m ρ _ => Cert.KernelInDw.Gen.frame m ρ

theorem frameKI : Cert.quiescent_KernelInDwIdeal := fun m ρ _ => Cert.KernelInDwIdeal.Gen.frame m ρ

theorem frameRI : Cert.quiescent_ReferenceInDwIdeal := fun m ρ _ =>
  (θ_run _ _ _).mono
    (fun r h => ⟨fun c => (h c).2, sem_eq_zero_of_no_sems (by decide) r.2⟩) (Cert.ReferenceInDwIdeal.Value.run m ρ)

theorem preserves : Cert.preserves_KernelInDw_KernelInDwIdeal := trivial

theorem algebraic : Cert.algebraic_KernelInDwIdeal_ReferenceInDwIdeal := by
  intro m g m' g' _ hagree
  refine ⟨_, (θ_run _ _ _).mono (fun r k c => ?_) (Cert.KernelInDwIdeal.Value.run_blocks m g),
    Cert.ReferenceInDwIdeal.Value.run m' g'⟩
  refine ⟨(k c).1.trans ?_, (k c).2⟩
  obtain ⟨h0, h1⟩ := hagree c
  rw [h0, h1, array2]
  funext y
  idx_vars y
  exact (result_apply _ _ _ _ _).symm

end Cert.InDw

end
-- ==== Proof.FfnFwd.Equation.lean ====
module

public import proofs.«01_k».proof.Defs
public import proofs.«01_k».proof.Proof.Gen.KernelFfnFwd.Frame
public import proofs.«01_k».proof.Proof.Gen.KernelFfnFwdIdeal.Value
public import proofs.«01_k».proof.Proof.Gen.ReferenceFfnFwdIdeal.Run
public import proofs.«01_k».proof.Proof.Norm.Algebra
public import Idealize.ShloMosaic.Lib.Pipeline.ValueKit
public import Idealize.ShloMosaic.Lib.Pointwise

@[expose] public section

set_option maxRecDepth 16384

/-! The forward into the squared-ReLU layer: the mixer's product added to the residual, the norm, the first product
    and the squared ReLU. -/

noncomputable section

namespace Cert.FfnFwd

open Idealize.ShloMosaic Idealize.ShloMosaic.TcCoe Idealize.SL.Sem
open Idealize.ShloMosaic.Pipeline (Dat)

/-- The residual row with the mixer's product added. -/
def stream (o : Fin 1024 → EReal) (w : Fin 1024 → Fin 1024 → EReal) (x : Fin 1024 → EReal) (j : Fin 1024) : EReal :=
  x j + ∑ k, o k * w k j

/-- A row scaled by its reciprocal root mean square and by the gain. -/
def normed (x g : Fin 1024 → EReal) (j : Fin 1024) : EReal := x j * Cert.Norm.rinv x * g j

/-- A normed row against the eight panels of the weights. -/
def line (h : Fin 1024 → EReal) (w : Fin 8 → Fin 1024 → Fin 512 → EReal) (j : Fin 4096) : EReal :=
  ∑ k, h k * w ⟨j.val / 512, by omega⟩ k ⟨j.val % 512, by omega⟩

/-- The squared ReLU. -/
def act (z : EReal) : EReal := max z 0 * max z 0

theorem line_at (h : Fin 1024 → EReal) (w : Fin 8 → Fin 1024 → Fin 512 → EReal) (j : Fin 4096) (q : Fin 8) (l : Fin 512)
    (hj : j.val = q.val * 512 + l.val) : line h w j = ∑ k, h k * w q k l := by
  have hq : (⟨j.val / 512, by omega⟩ : Fin 8) = q := Fin.ext (by show j.val / 512 = q.val; omega)
  have hl : (⟨j.val % 512, by omega⟩ : Fin 512) = l := Fin.ext (by show j.val % 512 = l.val; omega)
  unfold line
  rw [hq, hl]

section Kernel
open Cert.KernelFfnFwdIdeal Cert.KernelFfnFwdIdeal.Gen

section Block
variable (x0 : FVec Ideal S512x1024 .bf16) (x1 : FVec Ideal S1024x1024 .bf16) (x2 : FVec Ideal S512x1024 .f32)
  (x3 : FVec Ideal S1x1024 .f32) (x4 : FVec Ideal S8x1024x512 .bf16)

/-- A block's residual row and its normed row. -/
def blockStream (i : Fin 512) : Fin 1024 → EReal := stream (fun k => x0 (ix2 i k)) (fun k j => x1 (ix2 k j)) (fun k => x2 (ix2 i k))
def blockNormed (i : Fin 512) : Fin 1024 → EReal := normed (blockStream x0 x1 x2 i) (fun k => x3 (ix2 0 k))

theorem pay6 (i : Fin 512) (j : Fin 1024) : k0_pay6 (F := Ideal) x2 x0 x1 x3 (ix2 i j) = blockNormed x0 x1 x2 x3 i j := by
  pointwise [k0_pay6, k0_pay5, blockNormed, blockStream, stream, normed, Cert.Norm.rinv, Cert.Norm.meanSq]

theorem block5 (i : Fin 512) (j : Fin 1024) : out0_5 (F := Ideal) x0 x1 x2 x3 x4 (ix2 i j) = blockStream x0 x1 x2 i j := by
  frame_out
  pointwise [k0_pay5, blockStream, stream]

theorem block6 (i : Fin 512) (j : Fin 1024) : out0_6 (F := Ideal) x0 x1 x2 x3 x4 (ix2 i j) = blockNormed x0 x1 x2 x3 i j := by
  frame_out
  exact pay6 x0 x1 x2 x3 i j

theorem pay28 (i : Fin 512) (j : Fin 1024) : k0_pay28 (F := Ideal) x0 x1 x2 x3 x4 (ix2 i j) = blockNormed x0 x1 x2 x3 i j := by
  rw [← pay6]
  unfold k0_pay28
  rw [View.ld_unit_lit _ _ (by decide), View.ld_unit_lit _ _ (by decide), View.ld_unit_lit _ _ (by decide), View.ld_unit_lit _ _ (by decide)]

/-- One panel of columns of the product. -/
theorem panel (H : FVec Ideal S512x1024 .bf16) (f : Fin 512 → Fin 1024 → EReal) (hH : ∀ i k, H (ix2 i k) = f i k) (q : Fin 8)
    (i : Fin 512) (j : Fin 4096) (y0 y1 : Fin 512) (h0 : i.val = y0.val) (h1 : j.val = q.val * 512 + y1.val) :
    ∑ k, H (ix2 y0 k) * x4 (ix3 q k y1) = line (f i) (fun q k l => x4 (ix3 q k l)) j := by
  obtain rfl : i = y0 := Fin.ext h0
  rw [line_at _ _ _ _ _ h1]
  simp only [hH]

theorem block7 (i : Fin 512) (j : Fin 4096) : out0_7 (F := Ideal) x0 x1 x2 x3 x4 (ix2 i j)
    = line (blockNormed x0 x1 x2 x3 i) (fun q k l => x4 (ix3 q k l)) j := by
  have p28 := panel x4 _ _ (pay28 x0 x1 x2 x3 x4)
  have p6 := panel x4 _ _ (pay6 x0 x1 x2 x3)
  frame_out
  canon_tiles y h
  all_goals idx_vars y
  all_goals pointwise [k0_pay2, k0_pay3, k0_pay26, k0_pay25, k0_pay23, k0_pay22, k0_pay20, k0_pay19, k0_pay17, k0_pay16, k0_pay14, k0_pay13, k0_pay11, k0_pay10, k0_pay8, k0_pay7]
  case piece7 => exact p6 0 _ _ _ _ h0 (h1.trans (Nat.zero_add _).symm)
  all_goals exact p28 _ _ _ _ _ h0 h1

theorem block8 (i : Fin 512) (j : Fin 4096) : out0_8 (F := Ideal) x0 x1 x2 x3 x4 (ix2 i j)
    = act (line (blockNormed x0 x1 x2 x3 i) (fun q k l => x4 (ix3 q k l)) j) := by
  have p28 := panel x4 _ _ (pay28 x0 x1 x2 x3 x4)
  have p6 := panel x4 _ _ (pay6 x0 x1 x2 x3)
  frame_out
  canon_tiles y h
  all_goals idx_vars y
  all_goals pointwise [k0_pay1, k0_pay2, k0_pay4, k0_pay27, k0_pay25, k0_pay24, k0_pay22, k0_pay21, k0_pay19, k0_pay18, k0_pay16, k0_pay15, k0_pay13, k0_pay12, k0_pay10, k0_pay9, k0_pay7]
  case piece7 => exact congrArg act (p6 0 _ _ _ _ h0 (h1.trans (Nat.zero_add _).symm))
  all_goals exact congrArg act (p28 _ _ _ _ _ h0 h1)
end Block

variable (m : (ℓ : Loc nD τ sig) → Buf (Elt Ideal) ℓ) (c : Dev nD)

/-- The kernel's argument arrays by coordinates. -/
def oK (n : Fin 8192) (k : Fin 1024) : EReal := m ((c : Thread nD τ).loc main_arg0) (ix2 n k)
def mK (k : Fin 1024) (j : Fin 1024) : EReal := m ((c : Thread nD τ).loc main_arg1) (ix2 k j)
def xK (n : Fin 8192) (k : Fin 1024) : EReal := m ((c : Thread nD τ).loc main_arg2) (ix2 n k)
def gK (k : Fin 1024) : EReal := m ((c : Thread nD τ).loc main_arg3) (ix2 0 k)
def wK (q : Fin 8) (k : Fin 1024) (l : Fin 512) : EReal := m ((c : Thread nD τ).loc main_arg4) (ix3 q k l)

theorem idx : ∀ t : Fin cfg0.N, win0_0.index t = ![t.val, 0] ∧ win0_1.index t = ![0, 0] ∧ win0_2.index t = ![t.val, 0]
    ∧ win0_3.index t = ![0, 0] ∧ win0_4.index t = ![0, 0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem rowAt_lt (t : Fin cfg0.N) (i : Fin 512) : t.val * 512 + i.val < 8192 := by
  have h : t.val < 16 := lt_of_lt_of_eq t.isLt N_0
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 1024) : iblk m c 0 t (ix2 i k) = oK m c (rowAt t i) k := by
  show _ = m ((c : Thread nD τ).loc main_arg0) (ix2 ⟨t.val * 512 + i.val, rowAt_lt t i⟩ k)
  blk_point [iblk, V, idx t]
theorem read1 (t : Fin cfg0.N) (k j : Fin 1024) : iblk m c 1 t (ix2 k j) = mK m c k j := by
  blk_point [iblk, V, idx t, mK]
theorem read2 (t : Fin cfg0.N) (i : Fin 512) (k : Fin 1024) : iblk m c 2 t (ix2 i k) = xK m c (rowAt t i) k := by
  show _ = m ((c : Thread nD τ).loc main_arg2) (ix2 ⟨t.val * 512 + i.val, rowAt_lt t i⟩ k)
  blk_point [iblk, V, idx t]
theorem read3 (t : Fin cfg0.N) (k : Fin 1024) : iblk m c 3 t (ix2 0 k) = gK m c k := by
  blk_point [iblk, V, idx t, gK]
theorem read4 (t : Fin cfg0.N) (q : Fin 8) (k : Fin 1024) (l : Fin 512) : iblk m c 4 t (ix3 q k l) = wK m c q k l := by
  blk_point [iblk, V, idx t, wK]

/-- The residual and the normed rows of the argument arrays. -/
def streamRow (n : Fin 8192) : Fin 1024 → EReal := stream (oK m c n) (mK m c) (xK m c n)
def normedRow (n : Fin 8192) : Fin 1024 → EReal := normed (streamRow m c n) (gK m c)

theorem blockStream_eq (t : Fin cfg0.N) (i : Fin 512) :
    blockStream (iblk m c 0 t) (iblk m c 1 t) (iblk m c 2 t) i = streamRow m c (rowAt t i) := by
  simp only [blockStream, streamRow, read0, read1, read2]

theorem blockNormed_eq (t : Fin cfg0.N) (i : Fin 512) :
    blockNormed (iblk m c 0 t) (iblk m c 1 t) (iblk m c 2 t) (iblk m c 3 t) i = normedRow m c (rowAt t i) := by
  simp only [blockNormed, normedRow, blockStream_eq, read3]

theorem array5 : (dats m 0 c).arrAt 5 cfg0.N = fun y : S8192x1024.Idx => streamRow m c (y 0) (y 1) := by
  refine (dats m 0 c).arrAt_eq_of_covers 5 _ (by decide +kernel) fun t hf y => ?_
  blk_simp
  rw [after0_5]
  idx_vars y
  rw [block5, blockStream_eq]
  refine congrArg₂ (streamRow m c) (Fin.ext ?_) (Fin.ext ?_)
  · show t.val * 512 + y0.val = _
    blk_simp [idx t]
  · blk_simp [idx t]

theorem array6 : (dats m 0 c).arrAt 6 cfg0.N = fun y : S8192x1024.Idx => normedRow m c (y 0) (y 1) := by
  refine (dats m 0 c).arrAt_eq_of_covers 6 _ (by decide +kernel) fun t hf y => ?_
  blk_simp
  rw [after0_6]
  idx_vars y
  rw [block6, blockNormed_eq]
  refine congrArg₂ (normedRow m c) (Fin.ext ?_) (Fin.ext ?_)
  · show t.val * 512 + y0.val = _
    blk_simp [idx t]
  · blk_simp [idx t]

theorem array7 : (dats m 0 c).arrAt 7 cfg0.N = fun y : S8192x4096.Idx => line (normedRow m c (y 0)) (wK m c) (y 1) := by
  refine (dats m 0 c).arrAt_eq_of_covers 7 _ (by decide +kernel) fun t hf y => ?_
  blk_simp
  rw [after0_7]
  idx_vars y
  rw [block7, blockNormed_eq]
  simp only [read4]
  refine congrArg₂ (fun n j => line (normedRow m c n) (wK m c) j) (Fin.ext ?_) (Fin.ext ?_)
  · show t.val * 512 + y0.val = _
    blk_simp [idx t]
  · blk_simp [idx t]

theorem array8 : (dats m 0 c).arrAt 8 cfg0.N = fun y : S8192x4096.Idx => act (line (normedRow m c (y 0)) (wK m c) (y 1)) := by
  refine (dats m 0 c).arrAt_eq_of_covers 8 _ (by decide +kernel) fun t hf y => ?_
  blk_simp
  rw [after0_8]
  idx_vars y
  rw [block8, blockNormed_eq]
  simp only [read4]
  refine congrArg₂ (fun n j => act (line (normedRow m c n) (wK m c) j)) (Fin.ext ?_) (Fin.ext ?_)
  · show t.val * 512 + y0.val = _
    blk_simp [idx t]
  · blk_simp [idx t]
end Kernel

section Reference
open Cert.ReferenceFfnFwdIdeal Cert.ReferenceFfnFwdIdeal.Gen Cert.ReferenceFfnFwdIdeal.Value
variable (o : FVec Ideal S8192x1024 .bf16) (p : FVec Ideal S1024x1024 .bf16) (x : FVec Ideal S8192x1024 .f32)
  (g : FVec Ideal S1x1024 .f32) (w : FVec Ideal S8x1024x512 .bf16)

/-- The reference's residual, its normed rows and its first product, before the casts. -/
def rStream : FVec Ideal S8192x1024 .f32 :=
  addf x (Host.dotGeneral dot_S8192x1024_S1024x1024_S8192x1024_1_0_0_1_n_n none (extf .f32 o bitsLt_bf16_f32) (extf .f32 p bitsLt_bf16_f32))
def rNormed : FVec Ideal S8192x1024 .f32 :=
  mulf (mulf (rStream o p x) (broadcastInDim S8192x1024 ![0, 1] bcast_S8192x1_S8192x1024_0_1 (Host.rsqrt (addf (Host.divf (broadcastInDim S8192x1 ![0] bcast_S8192_S8192x1_0 (Host.reduceAdd (mulf (rStream o p x) (rStream o p x)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast S1024 g shapeCasts_S1x1024_S1024)))
def rLine : FVec Ideal S8192x4096 .f32 :=
  Host.dotGeneral dot_S8192x1024_S1024x4096_S8192x4096_1_0_0_1_n_n none (rNormed o p x g) (extf .f32 (shapeCast S1024x4096 (transpose S1024x8x512 [1, 0, 2] w transposes_S8x1024x512_S1024x8x512_1_0_2) shapeCasts_S1024x8x512_S1024x4096) bitsLt_bf16_f32)

/-- The reference's results of given argument arrays. -/
def result1 : FVec Ideal S8192x1024 .bf16 := truncf .bf16 (rNormed o p x g) bitsLt_bf16_f32
def result2 : FVec Ideal S8192x4096 .bf16 := truncf .bf16 (rLine o p x g w) bitsLt_bf16_f32
def result3 : FVec Ideal S8192x4096 .bf16 :=
  truncf .bf16 (mulf (maximumf (rLine o p x g w) (broadcastInDim S8192x4096 ![] bcast_S_S8192x4096 (constant S_ .f32 0x00000000#32))) (maximumf (rLine o p x g w) (broadcastInDim S8192x4096 ![] bcast_S_S8192x4096 (constant S_ .f32 0x00000000#32)))) bitsLt_bf16_f32

theorem rStream_apply (n : Fin 8192) (j : Fin 1024) : rStream o p x (ix2 n j)
    = stream (fun k => o (ix2 n k)) (fun k j => p (ix2 k j)) (fun k => x (ix2 n k)) j := by
  pointwise [rStream, stream]

theorem rNormed_apply (n : Fin 8192) (j : Fin 1024) : rNormed o p x g (ix2 n j)
    = normed (fun k => rStream o p x (ix2 n k)) (fun k => g (ix2 0 k)) j := by
  pointwise [rNormed, normed, Cert.Norm.rinv, Cert.Norm.meanSq]

theorem rLine_apply (n : Fin 8192) (j : Fin 4096) : rLine o p x g w (ix2 n j)
    = line (fun k => rNormed o p x g (ix2 n k)) (fun q k l => w (ix3 q k l)) j := by
  pointwise [rLine, line]

theorem result1_apply (n : Fin 8192) (j : Fin 1024) : result1 o p x g (ix2 n j) = rNormed o p x g (ix2 n j) := by
  pointwise [result1]
theorem result2_apply (n : Fin 8192) (j : Fin 4096) : result2 o p x g w (ix2 n j) = rLine o p x g w (ix2 n j) := by
  pointwise [result2]
theorem result3_apply (n : Fin 8192) (j : Fin 4096) : result3 o p x g w (ix2 n j) = act (rLine o p x g w (ix2 n j)) := by
  pointwise [result3, act]
end Reference

theorem frameK : Cert.quiescent_KernelFfnFwd := fun m ρ _ => Cert.KernelFfnFwd.Gen.frame m ρ

theorem frameKI : Cert.quiescent_KernelFfnFwdIdeal := fun m ρ _ => Cert.KernelFfnFwdIdeal.Gen.frame m ρ

theorem frameRI : Cert.quiescent_ReferenceFfnFwdIdeal := fun m ρ _ =>
  (θ_run _ _ _).mono
    (fun r h => ⟨fun c => (h c).2.2.2.2, sem_eq_zero_of_no_sems (by decide) r.2⟩) (Cert.ReferenceFfnFwdIdeal.Value.run m ρ)

theorem preserves : Cert.preserves_KernelFfnFwd_KernelFfnFwdIdeal := trivial

section Equation
variable (m : (ℓ : Loc Cert.KernelFfnFwdIdeal.nD Cert.KernelFfnFwdIdeal.τ Cert.KernelFfnFwdIdeal.sig) → Buf (Elt Ideal) ℓ)
  (c : Dev Cert.KernelFfnFwdIdeal.nD)

/-- The kernel's argument arrays. -/
abbrev argO : FVec Ideal ⟨2, ![8192, 1024]⟩ .bf16 := m ((c : Thread Cert.KernelFfnFwdIdeal.nD Cert.KernelFfnFwdIdeal.τ).loc Cert.KernelFfnFwdIdeal.main_arg0)
abbrev argM : FVec Ideal ⟨2, ![1024, 1024]⟩ .bf16 := m ((c : Thread Cert.KernelFfnFwdIdeal.nD Cert.KernelFfnFwdIdeal.τ).loc Cert.KernelFfnFwdIdeal.main_arg1)
abbrev argX : FVec Ideal ⟨2, ![8192, 1024]⟩ .f32 := m ((c : Thread Cert.KernelFfnFwdIdeal.nD Cert.KernelFfnFwdIdeal.τ).loc Cert.KernelFfnFwdIdeal.main_arg2)
abbrev argG : FVec Ideal ⟨2, ![1, 1024]⟩ .f32 := m ((c : Thread Cert.KernelFfnFwdIdeal.nD Cert.KernelFfnFwdIdeal.τ).loc Cert.KernelFfnFwdIdeal.main_arg3)
abbrev argW : FVec Ideal ⟨3, ![8, 1024, 512]⟩ .bf16 := m ((c : Thread Cert.KernelFfnFwdIdeal.nD Cert.KernelFfnFwdIdeal.τ).loc Cert.KernelFfnFwdIdeal.main_arg4)

theorem stream_ref (n : Fin 8192) (k : Fin 1024) : streamRow m c n k = rStream (argO m c) (argM m c) (argX m c) (ix2 n k) :=
  (rStream_apply _ _ _ n k).symm

theorem normed_ref (n : Fin 8192) (k : Fin 1024) :
    normedRow m c n k = rNormed (argO m c) (argM m c) (argX m c) (argG m c) (ix2 n k) := by
  rw [rNormed_apply]
  simp only [← stream_ref]
  rfl

theorem line_ref (n : Fin 8192) (j : Fin 4096) :
    line (normedRow m c n) (wK m c) j = rLine (argO m c) (argM m c) (argX m c) (argG m c) (argW m c) (ix2 n j) := by
  rw [rLine_apply]
  simp only [← normed_ref]
  rfl

theorem eq5 : (Cert.KernelFfnFwdIdeal.Gen.dats m 0 c).arrAt 5 Cert.KernelFfnFwdIdeal.cfg0.N
    = rStream (argO m c) (argM m c) (argX m c) := by
  rw [array5]
  funext y
  idx_vars y
  exact stream_ref m c _ _

theorem eq6 : (Cert.KernelFfnFwdIdeal.Gen.dats m 0 c).arrAt 6 Cert.KernelFfnFwdIdeal.cfg0.N
    = result1 (argO m c) (argM m c) (argX m c) (argG m c) := by
  rw [array6]
  funext y
  idx_vars y
  exact (normed_ref m c _ _).trans (result1_apply _ _ _ _ _ _).symm

theorem eq7 : (Cert.KernelFfnFwdIdeal.Gen.dats m 0 c).arrAt 7 Cert.KernelFfnFwdIdeal.cfg0.N
    = result2 (argO m c) (argM m c) (argX m c) (argG m c) (argW m c) := by
  rw [array7]
  funext y
  idx_vars y
  exact (line_ref m c _ _).trans (result2_apply _ _ _ _ _ _ _).symm

theorem eq8 : (Cert.KernelFfnFwdIdeal.Gen.dats m 0 c).arrAt 8 Cert.KernelFfnFwdIdeal.cfg0.N
    = result3 (argO m c) (argM m c) (argX m c) (argG m c) (argW m c) := by
  rw [array8]
  funext y
  idx_vars y
  exact (congrArg act (line_ref m c _ _)).trans (result3_apply _ _ _ _ _ _ _).symm
end Equation

theorem algebraic : Cert.algebraic_KernelFfnFwdIdeal_ReferenceFfnFwdIdeal := by
  intro m g m' g' _ hagree
  refine ⟨_, _, _, _, (θ_run _ _ _).mono (fun r k c => ?_) (Cert.KernelFfnFwdIdeal.Value.run_blocks m g),
    Cert.ReferenceFfnFwdIdeal.Value.run m' g'⟩
  refine ⟨(k c).1.trans ?_, (k c).2.1.trans ?_, (k c).2.2.1.trans ?_, (k c).2.2.2.1.trans ?_, (k c).2.2.2.2⟩
  all_goals obtain ⟨h0, h1, h2, h3, h4⟩ := hagree c
  · rw [h0, h1, h2]
    exact eq5 m c
  · rw [h0, h1, h2, h3]
    exact eq6 m c
  · rw [h0, h1, h2, h3, h4]
    exact eq7 m c
  · rw [h0, h1, h2, h3, h4]
    exact eq8 m c

end Cert.FfnFwd

end
-- ==== Proof.OutFwd.Equation.lean ====
module

public import proofs.«01_k».proof.Defs
public import proofs.«01_k».proof.Proof.Gen.KernelOutFwd.Frame
public import proofs.«01_k».proof.Proof.Gen.KernelOutFwdIdeal.Value
public import proofs.«01_k».proof.Proof.Gen.ReferenceOutFwdIdeal.Run
public import Idealize.ShloMosaic.Lib.Pipeline.ValueKit
public import Idealize.ShloMosaic.Lib.Pointwise

@[expose] public section

set_option maxRecDepth 16384

/-! The forward of the second product of the squared-ReLU layer: the residual plus the product. -/

noncomputable section

namespace Cert.OutFwd

open Idealize.ShloMosaic Idealize.ShloMosaic.TcCoe Idealize.SL.Sem
open Idealize.ShloMosaic.Pipeline (Dat)

/-- A row of activations against the columns of the weights, added to the residual. -/
def entry (a : Fin 4096 → EReal) (w : Fin 4096 → Fin 1024 → EReal) (x : Fin 1024 → EReal) (j : Fin 1024) : EReal :=
  x j + ∑ k, a k * w k j

section Kernel
open Cert.KernelOutFwdIdeal Cert.KernelOutFwdIdeal.Gen

theorem block (x0 : FVec Ideal S512x4096 .bf16) (x1 : FVec Ideal S4096x1024 .bf16) (x2 : FVec Ideal S512x1024 .f32)
    (i : Fin 512) (j : Fin 1024) : out0_3 (F := Ideal) x0 x1 x2 (ix2 i j)
      = entry (fun k => x0 (ix2 i k)) (fun k j => x1 (ix2 k j)) (fun k => x2 (ix2 i k)) j := by
  frame_out
  pointwise [k0_pay1, entry]

variable (m : (ℓ : Loc nD τ sig) → Buf (Elt Ideal) ℓ) (c : Dev nD)

/-- The kernel's argument arrays by coordinates. -/
def aK (n : Fin 8192) (k : Fin 4096) : EReal := m ((c : Thread nD τ).loc main_arg0) (ix2 n k)
def wK (k : Fin 4096) (j : Fin 1024) : EReal := m ((c : Thread nD τ).loc main_arg1) (ix2 k j)
def xK (n : Fin 8192) (j : Fin 1024) : EReal := m ((c : Thread nD τ).loc main_arg2) (ix2 n j)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem rowAt_lt (t : Fin cfg0.N) (i : Fin 512) : t.val * 512 + i.val < 8192 := by
  have h : t.val < 16 := lt_of_lt_of_eq t.isLt N_0
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 4096) : iblk m c 0 t (ix2 i k) = aK m c (rowAt t i) k := by
  show _ = m ((c : Thread nD τ).loc main_arg0) (ix2 ⟨t.val * 512 + i.val, rowAt_lt t i⟩ k)
  blk_point [iblk, V, idx t]
theorem read1 (t : Fin cfg0.N) (k : Fin 4096) (j : Fin 1024) : iblk m c 1 t (ix2 k j) = wK m c k j := by
  blk_point [iblk, V, idx t, wK]
theorem read2 (t : Fin cfg0.N) (i : Fin 512) (k : Fin 1024) : iblk m c 2 t (ix2 i k) = xK m c (rowAt t i) k := by
  show _ = m ((c : Thread nD τ).loc main_arg2) (ix2 ⟨t.val * 512 + i.val, rowAt_lt t i⟩ k)
  blk_point [iblk, V, idx t]

theorem array3 : (dats m 0 c).arrAt 3 cfg0.N
    = fun y : S8192x1024.Idx => entry (aK m c (y 0)) (wK m c) (xK m c (y 0)) (y 1) := by
  refine (dats m 0 c).arrAt_eq_of_covers 3 _ (by decide +kernel) fun t hf y => ?_
  blk_simp
  rw [after0_3]
  idx_vars y
  rw [block]
  simp only [read0, read1, read2]
  refine congrArg₂ (fun n j => entry (aK m c n) (wK m c) (xK m c n) j) (Fin.ext ?_) (Fin.ext ?_)
  · show t.val * 512 + y0.val = _
    blk_simp [idx t]
  · blk_simp [idx t]
end Kernel

section Reference
open Cert.ReferenceOutFwdIdeal Cert.ReferenceOutFwdIdeal.Gen Cert.ReferenceOutFwdIdeal.Value
variable (a : FVec Ideal S8192x4096 .bf16) (w : FVec Ideal S4096x1024 .bf16) (x : FVec Ideal S8192x1024 .f32)

/-- The reference's result of given argument arrays. -/
def result : FVec Ideal S8192x1024 .f32 :=
  addf x (Host.dotGeneral dot_S8192x4096_S4096x1024_S8192x1024_1_0_0_1_n_n none (extf .f32 a bitsLt_bf16_f32) (extf .f32 w bitsLt_bf16_f32))

theorem result_apply (n : Fin 8192) (j : Fin 1024) : result a w x (ix2 n j)
    = entry (fun k => a (ix2 n k)) (fun k j => w (ix2 k j)) (fun j => x (ix2 n j)) j := by
  pointwise [result, entry]
end Reference

theorem frameK : Cert.quiescent_KernelOutFwd := fun m ρ _ => Cert.KernelOutFwd.Gen.frame m ρ

theorem frameKI : Cert.quiescent_KernelOutFwdIdeal := fun m ρ _ => Cert.KernelOutFwdIdeal.Gen.frame m ρ

theorem frameRI : Cert.quiescent_ReferenceOutFwdIdeal := fun m ρ _ =>
  (θ_run _ _ _).mono
    (fun r h => ⟨fun c => (h c).2, sem_eq_zero_of_no_sems (by decide) r.2⟩) (Cert.ReferenceOutFwdIdeal.Value.run m ρ)

theorem preserves : Cert.preserves_KernelOutFwd_KernelOutFwdIdeal := trivial

theorem algebraic : Cert.algebraic_KernelOutFwdIdeal_ReferenceOutFwdIdeal := by
  intro m g m' g' _ hagree
  refine ⟨_, (θ_run _ _ _).mono (fun r k c => ?_) (Cert.KernelOutFwdIdeal.Value.run_blocks m g),
    Cert.ReferenceOutFwdIdeal.Value.run m' g'⟩
  refine ⟨(k c).1.trans ?_, (k c).2⟩
  obtain ⟨h0, h1, h2⟩ := hagree c
  rw [h0, h1, h2, array3]
  funext y
  idx_vars y
  exact (result_apply _ _ _ _ _).symm

end Cert.OutFwd

end
-- ==== Proof.FfnFwd2.Equation.lean ====
module

public import proofs.«01_k».proof.Defs
public import proofs.«01_k».proof.Proof.Gen.KernelFfnFwd2.Frame
public import proofs.«01_k».proof.Proof.Gen.KernelFfnFwd2Ideal.Value
public import proofs.«01_k».proof.Proof.Gen.ReferenceFfnFwd2Ideal.Run
public import proofs.«01_k».proof.Proof.Norm.Algebra
public import proofs.«01_k».proof.Proof.FfnFwd.Equation
public import proofs.«01_k».proof.Proof.Products
public import Idealize.ShloMosaic.Lib.Pipeline.ValueKit
public import Idealize.ShloMosaic.Lib.Pointwise

@[expose] public section

set_option maxRecDepth 16384

/-! The forward into the squared-ReLU layer, of a mixer whose output is two arrays side by side: its product added to the residual, the norm, the first product
    and the squared ReLU. -/

noncomputable section

namespace Cert.FfnFwd2

open Idealize.ShloMosaic Idealize.ShloMosaic.TcCoe Idealize.SL.Sem
open Idealize.ShloMosaic.Pipeline (Dat)

open Cert.FfnFwd (stream normed line act line_at)
open Cert.Products (sides)

/-- The products of the two halves, added one after the other, are the product of the row. -/
theorem stream_sides (a b : Fin 512 → EReal) (w : Fin 1024 → Fin 1024 → EReal) (x : Fin 1024 → EReal) (j : Fin 1024)
    (lo hi : Fin 512 → Fin 1024) (hlo : ∀ k, (lo k).val = k.val) (hhi : ∀ k, (hi k).val = 512 + k.val) :
    x j + ∑ k, a k * w (lo k) j + ∑ k, b k * w (hi k) j = stream (sides a b) w x j := by
  unfold stream
  rw [add_assoc]
  refine congrArg (x j + ·) ?_
  rw [show (∑ k, sides a b k * w k j) = _ from Fin.sum_univ_add (a := 512) (b := 512) _]
  refine congrArg₂ (· + ·) (Finset.sum_congr rfl fun k _ => congrArg₂ (· * ·) ?_ ?_) (Finset.sum_congr rfl fun k _ => congrArg₂ (· * ·) ?_ ?_)
  · refine Eq.symm ((dif_pos (c := ((Fin.castAdd 512 k : Fin 1024)).val < 512) k.isLt).trans (congrArg a (Fin.ext ?_)))
    rfl
  · exact congrArg (w · j) (Fin.ext (hlo k))
  · refine Eq.symm ((dif_neg (c := ((Fin.natAdd 512 k : Fin 1024)).val < 512) (by simp)).trans (congrArg b (Fin.ext ?_)))
    show 512 + k.val - 512 = k.val
    omega
  · exact congrArg (w · j) (Fin.ext (hhi k))

section Kernel
open Cert.KernelFfnFwd2Ideal Cert.KernelFfnFwd2Ideal.Gen

section Block
variable (x0 x1 : FVec Ideal S512x512 .bf16) (x2 : FVec Ideal S1024x1024 .bf16) (x3 : FVec Ideal S512x1024 .f32)
  (x4 : FVec Ideal S1x1024 .f32) (x5 : FVec Ideal S8x1024x512 .bf16)

/-- A block's residual row and its normed row. -/
def blockStream (i : Fin 512) : Fin 1024 → EReal :=
  stream (sides (fun k => x0 (ix2 i k)) (fun k => x1 (ix2 i k))) (fun k j => x2 (ix2 k j)) (fun k => x3 (ix2 i k))
def blockNormed (i : Fin 512) : Fin 1024 → EReal := normed (blockStream x0 x1 x2 x3 i) (fun k => x4 (ix2 0 k))

theorem pay7 (i : Fin 512) (j : Fin 1024) :
    k0_pay7 (F := Ideal) x3 x0 (View.ld (Val := Elt Ideal) (e' := .bf16) x2 r0_2) x1 (View.ld (Val := Elt Ideal) (e' := .bf16) x2 r0_3) (ix2 i j) = blockStream x0 x1 x2 x3 i j := by
  pointwise [k0_pay7]
  exact stream_sides _ _ (fun k j => x2 (ix2 k j)) (fun k => x3 (ix2 i k)) j _ _ (fun k => rfl) (fun k => rfl)

theorem pay8 (i : Fin 512) (j : Fin 1024) :
    k0_pay8 (F := Ideal) x3 x0 (View.ld (Val := Elt Ideal) (e' := .bf16) x2 r0_2) x1 (View.ld (Val := Elt Ideal) (e' := .bf16) x2 r0_3) x4 (ix2 i j) = blockNormed x0 x1 x2 x3 x4 i j := by
  pointwise [k0_pay8, blockNormed, normed, Cert.Norm.rinv, Cert.Norm.meanSq]
  simp only [pay7]

theorem block6 (i : Fin 512) (j : Fin 1024) : out0_6 (F := Ideal) x0 x1 x2 x3 x4 x5 (ix2 i j) = blockStream x0 x1 x2 x3 i j := by
  frame_out
  exact pay7 x0 x1 x2 x3 i j

theorem block7 (i : Fin 512) (j : Fin 1024) : out0_7 (F := Ideal) x0 x1 x2 x3 x4 x5 (ix2 i j) = blockNormed x0 x1 x2 x3 x4 i j := by
  frame_out
  exact pay8 x0 x1 x2 x3 x4 i j

theorem pay28 (i : Fin 512) (j : Fin 1024) : k0_pay28 (F := Ideal) x0 x1 x2 x3 x4 x5 (ix2 i j) = blockNormed x0 x1 x2 x3 x4 i j := by
  rw [← pay8]
  unfold k0_pay28
  rw [show View.ld (Val := Elt Ideal) (e' := .f32) x3 r0_0 = x3 from View.ld_unit_lit _ _ (by decide), show View.ld (Val := Elt Ideal) (e' := .bf16) x0 r0_1 = x0 from View.ld_unit_lit _ _ (by decide),
    show View.ld (Val := Elt Ideal) (e' := .bf16) x1 r0_1 = x1 from View.ld_unit_lit _ _ (by decide), show View.ld (Val := Elt Ideal) (e' := .f32) x4 r0_4 = x4 from View.ld_unit_lit _ _ (by decide)]

/-- The eight panels of columns of the product. -/
theorem panel (H : FVec Ideal S512x1024 .bf16) (f : Fin 512 → Fin 1024 → EReal) (hH : ∀ i k, H (ix2 i k) = f i k) (q : Fin 8)
    (i : Fin 512) (j : Fin 4096) (y0 y1 : Fin 512) (h0 : i.val = y0.val) (h1 : j.val = q.val * 512 + y1.val) :
    ∑ k, H (ix2 y0 k) * x5 (ix3 q k y1) = line (f i) (fun q k l => x5 (ix3 q k l)) j := by
  obtain rfl : i = y0 := Fin.ext h0
  rw [line_at _ _ _ _ _ h1]
  simp only [hH]

theorem block8 (i : Fin 512) (j : Fin 4096) : out0_8 (F := Ideal) x0 x1 x2 x3 x4 x5 (ix2 i j)
    = line (blockNormed x0 x1 x2 x3 x4 i) (fun q k l => x5 (ix3 q k l)) j := by
  have p28 := panel x5 _ _ (pay28 x0 x1 x2 x3 x4 x5)
  have p8 := panel x5 _ _ (pay8 x0 x1 x2 x3 x4)
  frame_out
  unfold k0_pay29
  canon_tiles y h
  all_goals idx_vars y
  all_goals pointwise [k0_pay1, k0_pay2, k0_pay4, k0_pay5, k0_pay9, k0_pay10, k0_pay12, k0_pay13, k0_pay15, k0_pay16, k0_pay18, k0_pay19, k0_pay21, k0_pay22, k0_pay24, k0_pay25, k0_pay27]
  case piece7 => exact p8 0 _ _ _ _ h0 (h1.trans (Nat.zero_add _).symm)
  all_goals exact p28 _ _ _ _ _ h0 h1

theorem block9 (i : Fin 512) (j : Fin 4096) : out0_9 (F := Ideal) x0 x1 x2 x3 x4 x5 (ix2 i j)
    = act (line (blockNormed x0 x1 x2 x3 x4 i) (fun q k l => x5 (ix3 q k l)) j) := by
  have p28 := panel x5 _ _ (pay28 x0 x1 x2 x3 x4 x5)
  have p8 := panel x5 _ _ (pay8 x0 x1 x2 x3 x4)
  frame_out
  unfold k0_pay29
  canon_tiles y h
  all_goals idx_vars y
  all_goals pointwise [k0_pay1, k0_pay3, k0_pay4, k0_pay6, k0_pay9, k0_pay11, k0_pay12, k0_pay14, k0_pay15, k0_pay17, k0_pay18, k0_pay20, k0_pay21, k0_pay23, k0_pay24, k0_pay26, k0_pay27]
  case piece7 => exact congrArg act (p8 0 _ _ _ _ h0 (h1.trans (Nat.zero_add _).symm))
  all_goals exact congrArg act (p28 _ _ _ _ _ h0 h1)
end Block

variable (m : (ℓ : Loc nD τ sig) → Buf (Elt Ideal) ℓ) (c : Dev nD)

/-- The kernel's argument arrays by coordinates. -/
def rK (n : Fin 8192) (k : Fin 512) : EReal := m ((c : Thread nD τ).loc main_arg0) (ix2 n k)
def pK (n : Fin 8192) (k : Fin 512) : EReal := m ((c : Thread nD τ).loc main_arg1) (ix2 n k)
def mK (k : Fin 1024) (j : Fin 1024) : EReal := m ((c : Thread nD τ).loc main_arg2) (ix2 k j)
def xK (n : Fin 8192) (k : Fin 1024) : EReal := m ((c : Thread nD τ).loc main_arg3) (ix2 n k)
def gK (k : Fin 1024) : EReal := m ((c : Thread nD τ).loc main_arg4) (ix2 0 k)
def wK (q : Fin 8) (k : Fin 1024) (l : Fin 512) : EReal := m ((c : Thread nD τ).loc main_arg5) (ix3 q k l)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0, 0] ∧ win0_6.index t = ![t.val, 0]
    ∧ win0_7.index t = ![t.val, 0] ∧ win0_8.index t = ![t.val, 0] ∧ win0_9.index t = ![t.val, 0] :=
  (by decide +kernel : ∀ t : Fin grid0.N, _)

theorem rowAt_lt (t : Fin cfg0.N) (i : Fin 512) : t.val * 512 + i.val < 8192 := by
  have h : t.val < 16 := lt_of_lt_of_eq t.isLt N_0
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 512) : iblk m c 0 t (ix2 i k) = rK m c (rowAt t i) k := by
  show _ = m ((c : Thread nD τ).loc main_arg0) (ix2 ⟨t.val * 512 + i.val, rowAt_lt t i⟩ k)
  blk_point [iblk, V, idx t]
theorem read1 (t : Fin cfg0.N) (i : Fin 512) (k : Fin 512) : iblk m c 1 t (ix2 i k) = pK m c (rowAt t i) k := by
  show _ = m ((c : Thread nD τ).loc main_arg1) (ix2 ⟨t.val * 512 + i.val, rowAt_lt t i⟩ k)
  blk_point [iblk, V, idx t]
theorem read2 (t : Fin cfg0.N) (k j : Fin 1024) : iblk m c 2 t (ix2 k j) = mK m c k j := by
  blk_point [iblk, V, idx t, mK]
theorem read3 (t : Fin cfg0.N) (i : Fin 512) (k : Fin 1024) : iblk m c 3 t (ix2 i k) = xK m c (rowAt t i) k := by
  show _ = m ((c : Thread nD τ).loc main_arg3) (ix2 ⟨t.val * 512 + i.val, rowAt_lt t i⟩ k)
  blk_point [iblk, V, idx t]
theorem read4 (t : Fin cfg0.N) (k : Fin 1024) : iblk m c 4 t (ix2 0 k) = gK m c k := by
  blk_point [iblk, V, idx t, gK]
theorem read5 (t : Fin cfg0.N) (q : Fin 8) (k : Fin 1024) (l : Fin 512) : iblk m c 5 t (ix3 q k l) = wK m c q k l := by
  blk_point [iblk, V, idx t, wK]

/-- The residual and the normed rows of the argument arrays. -/
def streamRow (n : Fin 8192) : Fin 1024 → EReal := stream (sides (rK m c n) (pK m c n)) (mK m c) (xK m c n)
def normedRow (n : Fin 8192) : Fin 1024 → EReal := normed (streamRow m c n) (gK m c)

theorem blockStream_eq (t : Fin cfg0.N) (i : Fin 512) :
    blockStream (iblk m c 0 t) (iblk m c 1 t) (iblk m c 2 t) (iblk m c 3 t) i = streamRow m c (rowAt t i) := by
  simp only [blockStream, streamRow, read0, read1, read2, read3]

theorem blockNormed_eq (t : Fin cfg0.N) (i : Fin 512) :
    blockNormed (iblk m c 0 t) (iblk m c 1 t) (iblk m c 2 t) (iblk m c 3 t) (iblk m c 4 t) i = normedRow m c (rowAt t i) := by
  simp only [blockNormed, normedRow, blockStream_eq, read4]

theorem array6 : (dats m 0 c).arrAt 6 cfg0.N = fun y : S8192x1024.Idx => streamRow m c (y 0) (y 1) := by
  refine (dats m 0 c).arrAt_eq_of_covers 6 _ (by decide +kernel) fun t hf y => ?_
  blk_simp
  rw [after0_6]
  idx_vars y
  rw [block6, blockStream_eq]
  refine congrArg₂ (streamRow m c) (Fin.ext ?_) (Fin.ext ?_)
  · show t.val * 512 + y0.val = _
    blk_simp [idx t]
  · blk_simp [idx t]

theorem array7 : (dats m 0 c).arrAt 7 cfg0.N = fun y : S8192x1024.Idx => normedRow m c (y 0) (y 1) := by
  refine (dats m 0 c).arrAt_eq_of_covers 7 _ (by decide +kernel) fun t hf y => ?_
  blk_simp
  rw [after0_7]
  idx_vars y
  rw [block7, blockNormed_eq]
  refine congrArg₂ (normedRow m c) (Fin.ext ?_) (Fin.ext ?_)
  · show t.val * 512 + y0.val = _
    blk_simp [idx t]
  · blk_simp [idx t]

theorem array8 : (dats m 0 c).arrAt 8 cfg0.N = fun y : S8192x4096.Idx => line (normedRow m c (y 0)) (wK m c) (y 1) := by
  refine (dats m 0 c).arrAt_eq_of_covers 8 _ (by decide +kernel) fun t hf y => ?_
  blk_simp
  rw [after0_8]
  idx_vars y
  rw [block8, blockNormed_eq]
  simp only [read5]
  refine congrArg₂ (fun n j => line (normedRow m c n) (wK m c) j) (Fin.ext ?_) (Fin.ext ?_)
  · show t.val * 512 + y0.val = _
    blk_simp [idx t]
  · blk_simp [idx t]

theorem array9 : (dats m 0 c).arrAt 9 cfg0.N = fun y : S8192x4096.Idx => act (line (normedRow m c (y 0)) (wK m c) (y 1)) := by
  refine (dats m 0 c).arrAt_eq_of_covers 9 _ (by decide +kernel) fun t hf y => ?_
  blk_simp
  rw [after0_9]
  idx_vars y
  rw [block9, blockNormed_eq]
  simp only [read5]
  refine congrArg₂ (fun n j => act (line (normedRow m c n) (wK m c) j)) (Fin.ext ?_) (Fin.ext ?_)
  · show t.val * 512 + y0.val = _
    blk_simp [idx t]
  · blk_simp [idx t]
end Kernel

section Reference
open Cert.FfnFwd (rStream rNormed rLine result1 result2 result3 rStream_apply rNormed_apply rLine_apply result1_apply result2_apply result3_apply)
open Cert.ReferenceFfnFwd2Ideal

/-- The mixer's output: the two arrays side by side. -/
def both (a b : FVec Ideal S8192x512 .bf16) : FVec Ideal S8192x1024 .bf16 :=
  concatenate S8192x1024 1 [⟨S8192x512, a⟩, ⟨S8192x512, b⟩] Gen.concatenates_S8192x512_S8192x512_S8192x1024_d1

theorem both_apply (a b : FVec Ideal S8192x512 .bf16) (n : Fin 8192) (j : Fin 1024) :
    both a b (ix2 n j) = sides (fun k => a (ix2 n k)) (fun k => b (ix2 n k)) j := by
  pointwise [both]
  rfl
end Reference

theorem frameK : Cert.quiescent_KernelFfnFwd2 := fun m ρ _ => Cert.KernelFfnFwd2.Gen.frame m ρ

theorem frameKI : Cert.quiescent_KernelFfnFwd2Ideal := fun m ρ _ => Cert.KernelFfnFwd2Ideal.Gen.frame m ρ

theorem frameRI : Cert.quiescent_ReferenceFfnFwd2Ideal := fun m ρ _ =>
  (θ_run _ _ _).mono
    (fun r h => ⟨fun c => (h c).2.2.2.2, sem_eq_zero_of_no_sems (by decide) r.2⟩) (Cert.ReferenceFfnFwd2Ideal.Value.run m ρ)

theorem preserves : Cert.preserves_KernelFfnFwd2_KernelFfnFwd2Ideal := trivial

section Equation
open Cert.FfnFwd (rStream rNormed rLine result1 result2 result3 rStream_apply rNormed_apply rLine_apply result1_apply result2_apply result3_apply)
variable (m : (ℓ : Loc Cert.KernelFfnFwd2Ideal.nD Cert.KernelFfnFwd2Ideal.τ Cert.KernelFfnFwd2Ideal.sig) → Buf (Elt Ideal) ℓ)
  (c : Dev Cert.KernelFfnFwd2Ideal.nD)

/-- The kernel's argument arrays. -/
abbrev argO : FVec Ideal ⟨2, ![8192, 1024]⟩ .bf16 :=
  both (m ((c : Thread Cert.KernelFfnFwd2Ideal.nD Cert.KernelFfnFwd2Ideal.τ).loc Cert.KernelFfnFwd2Ideal.main_arg0))
    (m ((c : Thread Cert.KernelFfnFwd2Ideal.nD Cert.KernelFfnFwd2Ideal.τ).loc Cert.KernelFfnFwd2Ideal.main_arg1))
abbrev argM : FVec Ideal ⟨2, ![1024, 1024]⟩ .bf16 := m ((c : Thread Cert.KernelFfnFwd2Ideal.nD Cert.KernelFfnFwd2Ideal.τ).loc Cert.KernelFfnFwd2Ideal.main_arg2)
abbrev argX : FVec Ideal ⟨2, ![8192, 1024]⟩ .f32 := m ((c : Thread Cert.KernelFfnFwd2Ideal.nD Cert.KernelFfnFwd2Ideal.τ).loc Cert.KernelFfnFwd2Ideal.main_arg3)
abbrev argG : FVec Ideal ⟨2, ![1, 1024]⟩ .f32 := m ((c : Thread Cert.KernelFfnFwd2Ideal.nD Cert.KernelFfnFwd2Ideal.τ).loc Cert.KernelFfnFwd2Ideal.main_arg4)
abbrev argW : FVec Ideal ⟨3, ![8, 1024, 512]⟩ .bf16 := m ((c : Thread Cert.KernelFfnFwd2Ideal.nD Cert.KernelFfnFwd2Ideal.τ).loc Cert.KernelFfnFwd2Ideal.main_arg5)

theorem stream_ref (n : Fin 8192) (k : Fin 1024) : streamRow m c n k = rStream (argO m c) (argM m c) (argX m c) (ix2 n k) := by
  rw [rStream_apply]
  simp only [both_apply]
  rfl

theorem normed_ref (n : Fin 8192) (k : Fin 1024) :
    normedRow m c n k = rNormed (argO m c) (argM m c) (argX m c) (argG m c) (ix2 n k) := by
  rw [rNormed_apply]
  simp only [← stream_ref]
  rfl

theorem line_ref (n : Fin 8192) (j : Fin 4096) :
    line (normedRow m c n) (wK m c) j = rLine (argO m c) (argM m c) (argX m c) (argG m c) (argW m c) (ix2 n j) := by
  rw [rLine_apply]
  simp only [← normed_ref]
  rfl

theorem eq6 : (Cert.KernelFfnFwd2Ideal.Gen.dats m 0 c).arrAt 6 Cert.KernelFfnFwd2Ideal.cfg0.N
    = rStream (argO m c) (argM m c) (argX m c) := by
  rw [array6]
  funext y
  idx_vars y
  exact stream_ref m c _ _

theorem eq7 : (Cert.KernelFfnFwd2Ideal.Gen.dats m 0 c).arrAt 7 Cert.KernelFfnFwd2Ideal.cfg0.N
    = result1 (argO m c) (argM m c) (argX m c) (argG m c) := by
  rw [array7]
  funext y
  idx_vars y
  exact (normed_ref m c _ _).trans (result1_apply _ _ _ _ _ _).symm

theorem eq8 : (Cert.KernelFfnFwd2Ideal.Gen.dats m 0 c).arrAt 8 Cert.KernelFfnFwd2Ideal.cfg0.N
    = result2 (argO m c) (argM m c) (argX m c) (argG m c) (argW m c) := by
  rw [array8]
  funext y
  idx_vars y
  exact (line_ref m c _ _).trans (result2_apply _ _ _ _ _ _ _).symm

theorem eq9 : (Cert.KernelFfnFwd2Ideal.Gen.dats m 0 c).arrAt 9 Cert.KernelFfnFwd2Ideal.cfg0.N
    = result3 (argO m c) (argM m c) (argX m c) (argG m c) (argW m c) := by
  rw [array9]
  funext y
  idx_vars y
  exact (congrArg act (line_ref m c _ _)).trans (result3_apply _ _ _ _ _ _ _).symm
end Equation

theorem algebraic : Cert.algebraic_KernelFfnFwd2Ideal_ReferenceFfnFwd2Ideal := by
  intro m g m' g' _ hagree
  refine ⟨_, _, _, _, (θ_run _ _ _).mono (fun r k c => ?_) (Cert.KernelFfnFwd2Ideal.Value.run_blocks m g),
    Cert.ReferenceFfnFwd2Ideal.Value.run m' g'⟩
  refine ⟨(k c).1.trans ?_, (k c).2.1.trans ?_, (k c).2.2.1.trans ?_, (k c).2.2.2.1.trans ?_, (k c).2.2.2.2⟩
  all_goals obtain ⟨h0, h1, h2, h3, h4, h5⟩ := hagree c
  · rw [h0, h1, h2, h3]
    exact eq6 m c
  · rw [h0, h1, h2, h3, h4]
    exact eq7 m c
  · rw [h0, h1, h2, h3, h4, h5]
    exact eq8 m c
  · unfold Cert.ReferenceFfnFwd2Ideal.Value.res_main_v27
    rw [h0, h1, h2, h3, h4, h5]
    exact eq9 m c

end Cert.FfnFwd2

end
-- ==== Proof.MixDw.Equation.lean ====
module

public import proofs.«01_k».proof.Defs
public import proofs.«01_k».proof.Proof.Gen.KernelMixDw.Frame
public import proofs.«01_k».proof.Proof.Gen.KernelMixDwIdeal.Value
public import proofs.«01_k».proof.Proof.Gen.ReferenceMixDwIdeal.Run
public import proofs.«01_k».proof.Proof.Products
public import Idealize.ShloMosaic.Lib.Pipeline.ValueKit
public import Idealize.ShloMosaic.Lib.Pointwise
public import Idealize.ShloMosaic.Lib.Pipeline.ReadBack

@[expose] public section

set_option maxRecDepth 16384

/-! The weight gradient of the attention mixer's output product, summed over the row tiles. -/

noncomputable section

namespace Cert.MixDw

open Idealize.ShloMosaic Idealize.ShloMosaic.TcCoe Idealize.SL.Sem
open Idealize.ShloMosaic.Pipeline (Dat)
open Cert.Products

section Kernel
open Cert.KernelMixDwIdeal Cert.KernelMixDwIdeal.Gen

theorem pay1 (i j : Fin 1024) : k0_pay1 (F := Ideal) (ix2 i j) = (0 : EReal) := by
  pointwise [k0_pay1]

theorem pay2 (a : FVec Ideal S2048x1024 .bf16) (acc : FVec Ideal S1024x1024 .f32) (b : FVec Ideal S2048x1024 .f32) (i j : Fin 1024) :
    k0_pay2 (F := Ideal) a acc b (ix2 i j) = acc (ix2 i j) + cross (fun n => a (ix2 n i)) (fun n => b (ix2 n j)) := by
  pointwise [k0_pay2, cross]

theorem pay4 (v : FVec Ideal S128x1024 .f32) (q : Fin 1) (i : Fin 128) (j : Fin 1024) :
    k0_pay4 (F := Ideal) v (ix3 q i j) = v (ix2 i j) := by
  obtain rfl : q = 0 := Subsingleton.elim _ _
  pointwise [k0_pay4]

/-- The stores of the pieces all cast the piece and add an axis. -/
theorem pays : k0_pay5 (F := Ideal) = k0_pay4 ∧ k0_pay6 (F := Ideal) = k0_pay4 ∧ k0_pay7 (F := Ideal) = k0_pay4
    ∧ k0_pay8 (F := Ideal) = k0_pay4 ∧ k0_pay9 (F := Ideal) = k0_pay4 ∧ k0_pay10 (F := Ideal) = k0_pay4
    ∧ ∀ v, k0_pay3 (F := Ideal) (k0_pay11 v) = k0_pay4 v :=
  ⟨rfl, rfl, rfl, rfl, rfl, rfl, fun _ => rfl⟩

variable (m : (ℓ : Loc nD τ sig) → Buf (Elt Ideal) ℓ) (c : Dev nD)

/-- The product of a point's two row tiles. -/
def part (t : Fin cfg0.N) (i j : Fin 1024) : EReal :=
  cross (fun n : Fin 2048 => (iblk m c 0 t : FVec Ideal S2048x1024 .bf16) (ix2 n i)) (fun n => (iblk m c 1 t : FVec Ideal S2048x1024 .f32) (ix2 n j))

theorem reset (t : Fin cfg0.N) (h : t.val % 4 = 0) (i j : Fin 1024) :
    (outsAt0 m c t.val t.isLt).2 (ix2 i j) = (0 : EReal) + part m c t i j := by
  rw [outsAt0_A m c t h (by omega)]
  frame_out
  rw [pay2, pay1]
  rfl

theorem step (t : Fin cfg0.N) (h : ¬t.val % 4 = 0) (i j : Fin 1024) :
    (outsAt0 m c t.val t.isLt).2 (ix2 i j)
      = ((outsAt0 m c (t.val - 1) (Nat.lt_of_le_of_lt (Nat.sub_le _ _) t.isLt)).2 (ix2 i j) : EReal) + part m c t i j := by
  by_cases h1 : t.val % 4 = 3
  · rw [outsAt0_C m c t h h1]
    frame_out
    rw [pay2, read_unread_whole]
    rfl
  · rw [outsAt0_B m c t h h1]
    frame_out
    rw [pay2, read_unread_whole]
    rfl

/-- At the last row tile the eight pieces of the accumulator are stored. -/
theorem pieces (t : Fin cfg0.N) (h : t.val % 4 = 3) (q : Fin 8) (i : Fin 128) (j : Fin 1024) (i' : Fin 1024)
    (hi : i'.val = q.val * 128 + i.val) :
    (outsAt0 m c t.val t.isLt).1 (ix3 q i j) = (outsAt0 m c t.val t.isLt).2 (ix2 i' j) := by
  rw [outsAt0_C m c t (by omega) h]
  frame_out
  generalize k0_pay2 (F := Ideal) _ _ _ = v
  obtain ⟨p5, p6, p7, p8, p9, p10, p3⟩ := pays
  rw [p5, p6, p7, p8, p9, p10, p3]
  generalize hy : (ix3 q i j : S8x128x1024.Idx) = y
  have q0 : y 0 = q := by subst hy; rfl
  have q1 : y 1 = i := by subst hy; rfl
  have q2 : y 2 = j := by subst hy; rfl
  canon_tiles y h
  all_goals
    idx_vars y
    rw [pay4, View.readCov_fill _ _ _ _ _ (by decide)]
    rw [q0] at h0
    rw [q1] at h1
    rw [q2] at h2
    refine congrArg v (funext fun a => Fin.ext ?_)
    fin_cases a
    · simp [Rect.unit]
      omega
    · show 0 + 1 * y2.val = j.val
      omega

/-- The kernel's argument arrays by coordinates. -/
def aK (n : Fin 8192) (k : Fin 1024) : EReal := m ((c : Thread nD τ).loc main_arg0) (ix2 n k)
def bK (n : Fin 8192) (k : Fin 1024) : EReal := m ((c : Thread nD τ).loc main_arg1) (ix2 n k)

theorem idx : ∀ t : Fin cfg0.N, win0_0.index t = ![t.val % 4, 0] ∧ win0_1.index t = ![t.val % 4, 0]
    ∧ win0_2.index t = ![0, 0, 0] :=
  (by decide +kernel : ∀ t : Fin grid0.N, _)

theorem rowAt_lt (t : Fin cfg0.N) (i : Fin 2048) : t.val % 4 * 2048 + i.val < 8192 := by
  omega

theorem read0 (t : Fin cfg0.N) (i : Fin 2048) (k : Fin 1024) :
    iblk m c 0 t (ix2 i k) = aK m c ⟨t.val % 4 * 2048 + i.val, rowAt_lt t i⟩ k := by
  show _ = m ((c : Thread nD τ).loc main_arg0) (ix2 ⟨t.val % 4 * 2048 + i.val, rowAt_lt t i⟩ k)
  blk_point [iblk, V, idx t]

theorem read1 (t : Fin cfg0.N) (i : Fin 2048) (k : Fin 1024) :
    iblk m c 1 t (ix2 i k) = bK m c ⟨t.val % 4 * 2048 + i.val, rowAt_lt t i⟩ k := by
  show _ = m ((c : Thread nD τ).loc main_arg1) (ix2 ⟨t.val % 4 * 2048 + i.val, rowAt_lt t i⟩ k)
  blk_point [iblk, V, idx t]

theorem part_eq (t : Fin cfg0.N) (i j : Fin 1024) : part m c t i j
    = cross (fun n : Fin 2048 => aK m c ⟨t.val % 4 * 2048 + n.val, rowAt_lt t n⟩ i)
      (fun n => bK m c ⟨t.val % 4 * 2048 + n.val, rowAt_lt t n⟩ j) := by
  simp only [part, read0, read1]

/-- The accumulator at the last row tile of a column tile is the whole product. -/
theorem total (t : Fin cfg0.N) (h : t.val % 4 = 3) (i j : Fin 1024) :
    (outsAt0 m c t.val t.isLt).2 (ix2 i j)
      = cross (fun n => aK m c n i) (fun n => bK m c n j) := by
  refine (Pipeline.eq_sum_fin_of_reset_step_apply_of_flush (fun n h => (outsAt0 m c n h).2) 4 (fun _ => (0 : EReal))
    (fun t y => part m c t (y 0) (y 1))
    (fun t h y => ?_) (fun t h y => ?_) t h (ix2 i j)).trans ?_
  · idx_vars y
    exact reset m c t h y0 y1
  · idx_vars y
    exact step m c t h y0 y1
  · rw [zero_add]
    show ∑ s : Fin 4, part m c _ i j = _
    simp only [part_eq]
    refine cross_tiles (fun n => aK m c n i) (fun n => bK m c n j) (fun s n => ⟨(4 * (t.val / 4) + s.val) % 4 * 2048 + n.val, by omega⟩) fun s l => ?_
    show (4 * (t.val / 4) + s.val) % 4 * 2048 + l.val = _
    omega

theorem unit_lt (q : Fin 8) (i : Fin 128) : q.val * 128 + i.val < 1024 := by omega

theorem array2 : (dats m 0 c).arrAt 2 cfg0.N
    = fun y : S8x128x1024.Idx => cross (fun n => aK m c n ⟨(y 0).val * 128 + (y 1).val, unit_lt (y 0) (y 1)⟩) (fun n => bK m c n (y 2)) := by
  refine (dats m 0 c).arrAt_eq_of_covers 2 _ (by decide +kernel) fun t hf y => ?_
  blk_simp
  rw [after0_2]
  have h3 := (flush0_2 t).mp hf
  idx_vars y
  rw [pieces m c t h3 y0 y1 y2 ⟨y0.val * 128 + y1.val, by omega⟩ rfl, total m c t h3]
  refine congrArg₂ cross (funext fun n => congrArg (aK m c n) (Fin.ext ?_)) (funext fun n => congrArg (bK m c n) (Fin.ext ?_))
  · blk_simp [idx t]
  · blk_simp [idx t]
end Kernel

section Reference
open Cert.ReferenceMixDwIdeal Cert.ReferenceMixDwIdeal.Gen Cert.ReferenceMixDwIdeal.Value

/-- The reference's result of given argument arrays. -/
def result (a : FVec Ideal S8192x1024 .bf16) (b : FVec Ideal S8192x1024 .f32) : FVec Ideal S8x128x1024 .bf16 :=
  truncf .bf16 (shapeCast S8x128x1024 (transpose S1024x1024 [1, 0] (Host.dotGeneral dot_S8192x1024_S8192x1024_S1024x1024_0_0_1_1_n_n none b (extf .f32 a bitsLt_bf16_f32)) transposes_S1024x1024_S1024x1024_1_0) shapeCasts_S1024x1024_S8x128x1024) bitsLt_bf16_f32

theorem result_apply (a : FVec Ideal S8192x1024 .bf16) (b : FVec Ideal S8192x1024 .f32) (q : Fin 8) (i : Fin 128) (j : Fin 1024) :
    result a b (ix3 q i j) = cross (fun n => a (ix2 n ⟨q.val * 128 + i.val, unit_lt q i⟩)) (fun n => b (ix2 n j)) := by
  pointwise [result, cross]
  exact Finset.sum_congr rfl fun n _ => mul_comm _ _
end Reference

theorem frameK : Cert.quiescent_KernelMixDw := fun m ρ _ => Cert.KernelMixDw.Gen.frame m ρ

theorem frameKI : Cert.quiescent_KernelMixDwIdeal := fun m ρ _ => Cert.KernelMixDwIdeal.Gen.frame m ρ

theorem frameRI : Cert.quiescent_ReferenceMixDwIdeal := fun m ρ _ =>
  (θ_run _ _ _).mono
    (fun r h => ⟨fun c => (h c).2, sem_eq_zero_of_no_sems (by decide) r.2⟩) (Cert.ReferenceMixDwIdeal.Value.run m ρ)

theorem preserves : Cert.preserves_KernelMixDw_KernelMixDwIdeal := trivial

theorem algebraic : Cert.algebraic_KernelMixDwIdeal_ReferenceMixDwIdeal := by
  intro m g m' g' _ hagree
  refine ⟨_, (θ_run _ _ _).mono (fun r k c => ?_) (Cert.KernelMixDwIdeal.Value.run_blocks m g),
    Cert.ReferenceMixDwIdeal.Value.run m' g'⟩
  refine ⟨(k c).1.trans ?_, (k c).2⟩
  obtain ⟨h0, h1⟩ := hagree c
  rw [h0, h1, array2]
  funext y
  idx_vars y
  exact (result_apply _ _ _ _ _).symm

end Cert.MixDw

end
-- ==== Proof.MixDw2.Equation.lean ====
module

public import proofs.«01_k».proof.Defs
public import proofs.«01_k».proof.Proof.Gen.KernelMixDw2.Frame
public import proofs.«01_k».proof.Proof.Gen.KernelMixDw2Ideal.Value
public import proofs.«01_k».proof.Proof.Gen.ReferenceMixDw2Ideal.Run
public import proofs.«01_k».proof.Proof.Products
public import Idealize.ShloMosaic.Lib.Pipeline.ValueKit
public import Idealize.ShloMosaic.Lib.Pointwise
public import Idealize.ShloMosaic.Lib.Pipeline.ReadBack

@[expose] public section

set_option maxRecDepth 16384

/-! The weight gradient of the retention mixer's output product, whose left factor is two arrays side by side, summed over the row tiles. -/

noncomputable section

namespace Cert.MixDw2

open Idealize.ShloMosaic Idealize.ShloMosaic.TcCoe Idealize.SL.Sem
open Idealize.ShloMosaic.Pipeline (Dat)
open Cert.Products

section Kernel
open Cert.KernelMixDw2Ideal Cert.KernelMixDw2Ideal.Gen

theorem pay1 (i j : Fin 1024) : k0_pay1 (F := Ideal) (ix2 i j) = (0 : EReal) := by
  pointwise [k0_pay1]

theorem pay2 (a b : FVec Ideal S2048x512 .bf16) (acc : FVec Ideal S1024x1024 .f32) (d : FVec Ideal S2048x1024 .f32) (i j : Fin 1024) :
    k0_pay2 (F := Ideal) a b acc d (ix2 i j)
      = acc (ix2 i j) + cross (fun n => sides (fun k => a (ix2 n k)) (fun k => b (ix2 n k)) i) (fun n => d (ix2 n j)) := by
  pointwise [k0_pay2, cross]
  rfl

theorem pay4 (v : FVec Ideal S128x1024 .f32) (q : Fin 1) (i : Fin 128) (j : Fin 1024) :
    k0_pay4 (F := Ideal) v (ix3 q i j) = v (ix2 i j) := by
  obtain rfl : q = 0 := Subsingleton.elim _ _
  pointwise [k0_pay4]

/-- The stores of the pieces all cast the piece and add an axis. -/
theorem pays : k0_pay5 (F := Ideal) = k0_pay4 ∧ k0_pay6 (F := Ideal) = k0_pay4 ∧ k0_pay7 (F := Ideal) = k0_pay4
    ∧ k0_pay8 (F := Ideal) = k0_pay4 ∧ k0_pay9 (F := Ideal) = k0_pay4 ∧ k0_pay10 (F := Ideal) = k0_pay4
    ∧ ∀ v, k0_pay3 (F := Ideal) (k0_pay11 v) = k0_pay4 v :=
  ⟨rfl, rfl, rfl, rfl, rfl, rfl, fun _ => rfl⟩

variable (m : (ℓ : Loc nD τ sig) → Buf (Elt Ideal) ℓ) (c : Dev nD)

/-- The product of a point's two row tiles. -/
def part (t : Fin cfg0.N) (i j : Fin 1024) : EReal :=
  cross (fun n : Fin 2048 => sides (fun k => (iblk m c 0 t : FVec Ideal S2048x512 .bf16) (ix2 n k))
      (fun k => (iblk m c 1 t : FVec Ideal S2048x512 .bf16) (ix2 n k)) i)
    (fun n => (iblk m c 2 t : FVec Ideal S2048x1024 .f32) (ix2 n j))

theorem reset (t : Fin cfg0.N) (h : t.val % 4 = 0) (i j : Fin 1024) :
    (outsAt0 m c t.val t.isLt).2 (ix2 i j) = (0 : EReal) + part m c t i j := by
  rw [outsAt0_A m c t h (by omega)]
  frame_out
  rw [pay2, pay1]
  rfl

theorem step (t : Fin cfg0.N) (h : ¬t.val % 4 = 0) (i j : Fin 1024) :
    (outsAt0 m c t.val t.isLt).2 (ix2 i j)
      = ((outsAt0 m c (t.val - 1) (Nat.lt_of_le_of_lt (Nat.sub_le _ _) t.isLt)).2 (ix2 i j) : EReal) + part m c t i j := by
  by_cases h1 : t.val % 4 = 3
  · rw [outsAt0_C m c t h h1]
    frame_out
    rw [pay2, read_unread_whole]
    rfl
  · rw [outsAt0_B m c t h h1]
    frame_out
    rw [pay2, read_unread_whole]
    rfl

/-- At the last row tile the eight pieces of the accumulator are stored. -/
theorem pieces (t : Fin cfg0.N) (h : t.val % 4 = 3) (q : Fin 8) (i : Fin 128) (j : Fin 1024) (i' : Fin 1024)
    (hi : i'.val = q.val * 128 + i.val) :
    (outsAt0 m c t.val t.isLt).1 (ix3 q i j) = (outsAt0 m c t.val t.isLt).2 (ix2 i' j) := by
  rw [outsAt0_C m c t (by omega) h]
  frame_out
  generalize k0_pay2 (F := Ideal) _ _ _ _ = v
  obtain ⟨p5, p6, p7, p8, p9, p10, p3⟩ := pays
  rw [p5, p6, p7, p8, p9, p10, p3]
  generalize hy : (ix3 q i j : S8x128x1024.Idx) = y
  have q0 : y 0 = q := by subst hy; rfl
  have q1 : y 1 = i := by subst hy; rfl
  have q2 : y 2 = j := by subst hy; rfl
  canon_tiles y h
  all_goals
    idx_vars y
    rw [pay4, View.readCov_fill _ _ _ _ _ (by decide)]
    rw [q0] at h0
    rw [q1] at h1
    rw [q2] at h2
    refine congrArg v (funext fun a => Fin.ext ?_)
    fin_cases a
    · simp [Rect.unit]
      omega
    · show 0 + 1 * y2.val = j.val
      omega

/-- The kernel's argument arrays by coordinates. -/
def aK (n : Fin 8192) (k : Fin 512) : EReal := m ((c : Thread nD τ).loc main_arg0) (ix2 n k)
def bK (n : Fin 8192) (k : Fin 512) : EReal := m ((c : Thread nD τ).loc main_arg1) (ix2 n k)
def dK (n : Fin 8192) (k : Fin 1024) : EReal := m ((c : Thread nD τ).loc main_arg2) (ix2 n k)

theorem idx : ∀ t : Fin cfg0.N, win0_0.index t = ![t.val % 4, 0] ∧ win0_1.index t = ![t.val % 4, 0]
    ∧ win0_2.index t = ![t.val % 4, 0]
    ∧ win0_3.index t = ![0, 0, 0] :=
  (by decide +kernel : ∀ t : Fin grid0.N, _)

theorem rowAt_lt (t : Fin cfg0.N) (i : Fin 2048) : t.val % 4 * 2048 + i.val < 8192 := by
  omega

theorem read0 (t : Fin cfg0.N) (i : Fin 2048) (k : Fin 512) :
    iblk m c 0 t (ix2 i k) = aK m c ⟨t.val % 4 * 2048 + i.val, rowAt_lt t i⟩ k := by
  show _ = m ((c : Thread nD τ).loc main_arg0) (ix2 ⟨t.val % 4 * 2048 + i.val, rowAt_lt t i⟩ k)
  blk_point [iblk, V, idx t]

theorem read1 (t : Fin cfg0.N) (i : Fin 2048) (k : Fin 512) :
    iblk m c 1 t (ix2 i k) = bK m c ⟨t.val % 4 * 2048 + i.val, rowAt_lt t i⟩ k := by
  show _ = m ((c : Thread nD τ).loc main_arg1) (ix2 ⟨t.val % 4 * 2048 + i.val, rowAt_lt t i⟩ k)
  blk_point [iblk, V, idx t]

theorem read2 (t : Fin cfg0.N) (i : Fin 2048) (k : Fin 1024) :
    iblk m c 2 t (ix2 i k) = dK m c ⟨t.val % 4 * 2048 + i.val, rowAt_lt t i⟩ k := by
  show _ = m ((c : Thread nD τ).loc main_arg2) (ix2 ⟨t.val % 4 * 2048 + i.val, rowAt_lt t i⟩ k)
  blk_point [iblk, V, idx t]

theorem part_eq (t : Fin cfg0.N) (i j : Fin 1024) : part m c t i j
    = cross (fun n : Fin 2048 => sides (aK m c ⟨t.val % 4 * 2048 + n.val, rowAt_lt t n⟩) (bK m c ⟨t.val % 4 * 2048 + n.val, rowAt_lt t n⟩) i)
      (fun n => dK m c ⟨t.val % 4 * 2048 + n.val, rowAt_lt t n⟩ j) := by
  simp only [part, read0, read1, read2]

/-- The accumulator at the last row tile of a column tile is the whole product. -/
theorem total (t : Fin cfg0.N) (h : t.val % 4 = 3) (i j : Fin 1024) :
    (outsAt0 m c t.val t.isLt).2 (ix2 i j)
      = cross (fun n => sides (aK m c n) (bK m c n) i) (fun n => dK m c n j) := by
  refine (Pipeline.eq_sum_fin_of_reset_step_apply_of_flush (fun n h => (outsAt0 m c n h).2) 4 (fun _ => (0 : EReal))
    (fun t y => part m c t (y 0) (y 1))
    (fun t h y => ?_) (fun t h y => ?_) t h (ix2 i j)).trans ?_
  · idx_vars y
    exact reset m c t h y0 y1
  · idx_vars y
    exact step m c t h y0 y1
  · rw [zero_add]
    show ∑ s : Fin 4, part m c _ i j = _
    simp only [part_eq]
    refine cross_tiles (fun n => sides (aK m c n) (bK m c n) i) (fun n => dK m c n j) (fun s n => ⟨(4 * (t.val / 4) + s.val) % 4 * 2048 + n.val, by omega⟩) fun s l => ?_
    show (4 * (t.val / 4) + s.val) % 4 * 2048 + l.val = _
    omega

theorem unit_lt (q : Fin 8) (i : Fin 128) : q.val * 128 + i.val < 1024 := by omega

theorem array3 : (dats m 0 c).arrAt 3 cfg0.N
    = fun y : S8x128x1024.Idx => cross (fun n => sides (aK m c n) (bK m c n) ⟨(y 0).val * 128 + (y 1).val, unit_lt (y 0) (y 1)⟩) (fun n => dK m c n (y 2)) := by
  refine (dats m 0 c).arrAt_eq_of_covers 3 _ (by decide +kernel) fun t hf y => ?_
  blk_simp
  rw [after0_3]
  have h3 := (flush0_3 t).mp hf
  idx_vars y
  rw [pieces m c t h3 y0 y1 y2 ⟨y0.val * 128 + y1.val, by omega⟩ rfl, total m c t h3]
  refine congrArg₂ cross (funext fun n => congrArg (sides (aK m c n) (bK m c n)) (Fin.ext ?_)) (funext fun n => congrArg (dK m c n) (Fin.ext ?_))
  · blk_simp [idx t]
  · blk_simp [idx t]
end Kernel

section Reference
open Cert.ReferenceMixDw2Ideal Cert.ReferenceMixDw2Ideal.Gen Cert.ReferenceMixDw2Ideal.Value

/-- The reference's result of given argument arrays. -/
def result (a b : FVec Ideal S8192x512 .bf16) (d : FVec Ideal S8192x1024 .f32) : FVec Ideal S8x128x1024 .bf16 :=
  truncf .bf16 (shapeCast S8x128x1024 (transpose S1024x1024 [1, 0] (Host.dotGeneral dot_S8192x1024_S8192x1024_S1024x1024_0_0_1_1_n_n none d (extf .f32 (concatenate S8192x1024 1 [⟨S8192x512, a⟩, ⟨S8192x512, b⟩] concatenates_S8192x512_S8192x512_S8192x1024_d1) bitsLt_bf16_f32)) transposes_S1024x1024_S1024x1024_1_0) shapeCasts_S1024x1024_S8x128x1024) bitsLt_bf16_f32

theorem result_apply (a b : FVec Ideal S8192x512 .bf16) (d : FVec Ideal S8192x1024 .f32) (q : Fin 8) (i : Fin 128) (j : Fin 1024) :
    result a b d (ix3 q i j) = cross (fun n => sides (fun k => a (ix2 n k)) (fun k => b (ix2 n k)) ⟨q.val * 128 + i.val, unit_lt q i⟩) (fun n => d (ix2 n j)) := by
  pointwise [result, cross]
  exact Finset.sum_congr rfl fun n _ => mul_comm _ _
end Reference

theorem frameK : Cert.quiescent_KernelMixDw2 := fun m ρ _ => Cert.KernelMixDw2.Gen.frame m ρ

theorem frameKI : Cert.quiescent_KernelMixDw2Ideal := fun m ρ _ => Cert.KernelMixDw2Ideal.Gen.frame m ρ

theorem frameRI : Cert.quiescent_ReferenceMixDw2Ideal := fun m ρ _ =>
  (θ_run _ _ _).mono
    (fun r h => ⟨fun c => (h c).2, sem_eq_zero_of_no_sems (by decide) r.2⟩) (Cert.ReferenceMixDw2Ideal.Value.run m ρ)

theorem preserves : Cert.preserves_KernelMixDw2_KernelMixDw2Ideal := trivial

theorem algebraic : Cert.algebraic_KernelMixDw2Ideal_ReferenceMixDw2Ideal := by
  intro m g m' g' _ hagree
  refine ⟨_, (θ_run _ _ _).mono (fun r k c => ?_) (Cert.KernelMixDw2Ideal.Value.run_blocks m g),
    Cert.ReferenceMixDw2Ideal.Value.run m' g'⟩
  refine ⟨(k c).1.trans ?_, (k c).2⟩
  obtain ⟨h0, h1, h2⟩ := hagree c
  rw [h0, h1, h2, array3]
  funext y
  idx_vars y
  exact (result_apply _ _ _ _ _ _).symm

end Cert.MixDw2

end
-- ==== Proof.AbDw.Equation.lean ====
module

public import proofs.«01_k».proof.Defs
public import proofs.«01_k».proof.Proof.Gen.KernelAbDw.Frame
public import proofs.«01_k».proof.Proof.Gen.KernelAbDwIdeal.Value
public import proofs.«01_k».proof.Proof.Gen.ReferenceAbDwIdeal.Run
public import proofs.«01_k».proof.Proof.Products
public import Idealize.ShloMosaic.Lib.Pipeline.ValueKit
public import Idealize.ShloMosaic.Lib.Pointwise
public import Idealize.ShloMosaic.Lib.Pipeline.ReadBack

@[expose] public section

set_option maxRecDepth 16384

/-! The weight gradient of the retention mixer's input product, summed over the row tiles. -/

noncomputable section

namespace Cert.AbDw

open Idealize.ShloMosaic Idealize.ShloMosaic.TcCoe Idealize.SL.Sem
open Idealize.ShloMosaic.Pipeline (Dat)
open Cert.Products

section Kernel
open Cert.KernelAbDwIdeal Cert.KernelAbDwIdeal.Gen

theorem pay1 (i : Fin 1024) (j : Fin 1280) : k0_pay1 (F := Ideal) (ix2 i j) = (0 : EReal) := by
  pointwise [k0_pay1]

theorem pay2 (a : FVec Ideal S2048x1024 .bf16) (acc : FVec Ideal S1024x1280 .f32) (b : FVec Ideal S2048x1280 .bf16) (i : Fin 1024) (j : Fin 1280) :
    k0_pay2 (F := Ideal) a acc b (ix2 i j) = acc (ix2 i j) + cross (fun n => a (ix2 n i)) (fun n => b (ix2 n j)) := by
  pointwise [k0_pay2, cross]

theorem pay3 (v : FVec Ideal S1024x1280 .f32) (q : Fin 1) (i : Fin 1024) (j : Fin 1280) :
    k0_pay3 (F := Ideal) v (ix3 q i j) = v (ix2 i j) := by
  obtain rfl : q = 0 := Subsingleton.elim _ _
  pointwise [k0_pay3]

variable (m : (ℓ : Loc nD τ sig) → Buf (Elt Ideal) ℓ) (c : Dev nD)

/-- The product of a point's two row tiles. -/
def part (t : Fin cfg0.N) (i : Fin 1024) (j : Fin 1280) : EReal :=
  cross (fun n : Fin 2048 => (iblk m c 0 t : FVec Ideal S2048x1024 .bf16) (ix2 n i)) (fun n => (iblk m c 1 t : FVec Ideal S2048x1280 .bf16) (ix2 n j))

theorem reset (t : Fin cfg0.N) (h : t.val % 4 = 0) (i : Fin 1024) (j : Fin 1280) :
    (outsAt0 m c t.val t.isLt).2 (ix2 i j) = (0 : EReal) + part m c t i j := by
  rw [outsAt0_A m c t h (by omega)]
  frame_out
  rw [pay2, pay1]
  rfl

theorem step (t : Fin cfg0.N) (h : ¬t.val % 4 = 0) (i : Fin 1024) (j : Fin 1280) :
    (outsAt0 m c t.val t.isLt).2 (ix2 i j)
      = ((outsAt0 m c (t.val - 1) (Nat.lt_of_le_of_lt (Nat.sub_le _ _) t.isLt)).2 (ix2 i j) : EReal) + part m c t i j := by
  by_cases h1 : t.val % 4 = 3
  · rw [outsAt0_C m c t h h1]
    frame_out
    rw [pay2, read_unread_whole]
    rfl
  · rw [outsAt0_B m c t h h1]
    frame_out
    rw [pay2, read_unread_whole]
    rfl

/-- At the last row tile the accumulator is stored. -/
theorem stored (t : Fin cfg0.N) (h : t.val % 4 = 3) (q : Fin 1) (i : Fin 1024) (j : Fin 1280) :
    (outsAt0 m c t.val t.isLt).1 (ix3 q i j) = (outsAt0 m c t.val t.isLt).2 (ix2 i j) := by
  rw [outsAt0_C m c t (by omega) h]
  frame_out
  rw [pay3]

/-- The kernel's argument arrays by coordinates. -/
def aK (n : Fin 8192) (k : Fin 1024) : EReal := m ((c : Thread nD τ).loc main_arg0) (ix2 n k)
def bK (n : Fin 8192) (k : Fin 2560) : EReal := m ((c : Thread nD τ).loc main_arg1) (ix2 n k)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem points : cfg0.N = 8 := N_0

theorem rowAt_lt (t : Fin cfg0.N) (i : Fin 2048) : t.val % 4 * 2048 + i.val < 8192 := by
  omega

theorem colAt_lt (t : Fin cfg0.N) (i : Fin 1280) : t.val / 4 * 1280 + i.val < 2560 := by
  have h : t.val < 8 := lt_of_lt_of_eq t.isLt N_0
  omega

theorem read0 (t : Fin cfg0.N) (i : Fin 2048) (k : Fin 1024) :
    iblk m c 0 t (ix2 i k) = aK m c ⟨t.val % 4 * 2048 + i.val, rowAt_lt t i⟩ k := by
  show _ = m ((c : Thread nD τ).loc main_arg0) (ix2 ⟨t.val % 4 * 2048 + i.val, rowAt_lt t i⟩ k)
  blk_point [iblk, V, idx t]

theorem read1 (t : Fin cfg0.N) (i : Fin 2048) (k : Fin 1280) :
    iblk m c 1 t (ix2 i k) = bK m c ⟨t.val % 4 * 2048 + i.val, rowAt_lt t i⟩ ⟨t.val / 4 * 1280 + k.val, colAt_lt t k⟩ := by
  show _ = m ((c : Thread nD τ).loc main_arg1) (ix2 ⟨t.val % 4 * 2048 + i.val, rowAt_lt t i⟩ ⟨t.val / 4 * 1280 + k.val, colAt_lt t k⟩)
  blk_point [iblk, V, idx t]

theorem part_eq (t : Fin cfg0.N) (i : Fin 1024) (j : Fin 1280) : part m c t i j
    = cross (fun n : Fin 2048 => aK m c ⟨t.val % 4 * 2048 + n.val, rowAt_lt t n⟩ i)
      (fun n => bK m c ⟨t.val % 4 * 2048 + n.val, rowAt_lt t n⟩ ⟨t.val / 4 * 1280 + j.val, colAt_lt t j⟩) := by
  simp only [part, read0, read1]

/-- The accumulator at the last row tile of a column tile is the whole product. -/
theorem total (t : Fin cfg0.N) (h : t.val % 4 = 3) (i : Fin 1024) (j : Fin 1280) :
    (outsAt0 m c t.val t.isLt).2 (ix2 i j)
      = cross (fun n => aK m c n i) (fun n => bK m c n ⟨t.val / 4 * 1280 + j.val, colAt_lt t j⟩) := by
  refine (Pipeline.eq_sum_fin_of_reset_step_apply_of_flush (fun n h => (outsAt0 m c n h).2) 4 (fun _ => (0 : EReal))
    (fun t y => part m c t (y 0) (y 1))
    (fun t h y => ?_) (fun t h y => ?_) t h (ix2 i j)).trans ?_
  · idx_vars y
    exact reset m c t h y0 y1
  · idx_vars y
    exact step m c t h y0 y1
  · rw [zero_add]
    show ∑ s : Fin 4, part m c _ i j = _
    simp only [part_eq]
    refine Fin.sum_mul_add_congr (L := 8192) (S := 4) (n := 2048)
      (f := fun n => aK m c n i * bK m c n ⟨t.val / 4 * 1280 + j.val, colAt_lt t j⟩) fun s l hl => ?_
    have h4 : (4 * (t.val / 4) + s.val) % 4 = s.val := by omega
    have h5 : (4 * (t.val / 4) + s.val) / 4 = t.val / 4 := by omega
    refine congrArg₂ (· * ·) (congrArg₂ (aK m c) (Fin.ext ?_) rfl) (congrArg₂ (bK m c) (Fin.ext ?_) (Fin.ext ?_))
    · show (4 * (t.val / 4) + s.val) % 4 * 2048 + l.val = _
      rw [h4]
    · show (4 * (t.val / 4) + s.val) % 4 * 2048 + l.val = _
      rw [h4]
    · show (4 * (t.val / 4) + s.val) / 4 * 1280 + j.val = _
      rw [h5]

theorem unit_lt (q : Fin 2) (i : Fin 1280) : q.val * 1280 + i.val < 2560 := by omega

theorem array2 : (dats m 0 c).arrAt 2 cfg0.N
    = fun y : S2x1024x1280.Idx => cross (fun n => aK m c n (y 1)) (fun n => bK m c n ⟨(y 0).val * 1280 + (y 2).val, unit_lt (y 0) (y 2)⟩) := by
  refine (dats m 0 c).arrAt_eq_of_covers 2 _ (by decide +kernel) fun t hf y => ?_
  blk_simp
  rw [after0_2]
  have h3 := (flush0_2 t).mp hf
  idx_vars y
  obtain rfl : y0 = 0 := Subsingleton.elim _ _
  rw [stored m c t h3, total m c t h3]
  refine congrArg₂ cross (funext fun n => congrArg (aK m c n) (Fin.ext ?_)) (funext fun n => congrArg (bK m c n) (Fin.ext ?_))
  · blk_simp [idx t]
  · blk_simp [idx t]
end Kernel

section Reference
open Cert.ReferenceAbDwIdeal Cert.ReferenceAbDwIdeal.Gen Cert.ReferenceAbDwIdeal.Value

/-- The reference's result of given argument arrays. -/
def result (a : FVec Ideal S8192x1024 .bf16) (b : FVec Ideal S8192x2560 .bf16) : FVec Ideal S2x1024x1280 .bf16 :=
  truncf .bf16 (transpose S2x1024x1280 [1, 0, 2] (shapeCast S1024x2x1280 (transpose S1024x2560 [1, 0] (Host.dotGeneral dot_S8192x2560_S8192x1024_S2560x1024_0_0_1_1_n_n none (extf .f32 b bitsLt_bf16_f32) (extf .f32 a bitsLt_bf16_f32)) transposes_S2560x1024_S1024x2560_1_0) shapeCasts_S1024x2560_S1024x2x1280) transposes_S1024x2x1280_S2x1024x1280_1_0_2) bitsLt_bf16_f32

theorem result_apply (a : FVec Ideal S8192x1024 .bf16) (b : FVec Ideal S8192x2560 .bf16) (q : Fin 2) (i : Fin 1024) (j : Fin 1280) :
    result a b (ix3 q i j) = cross (fun n => a (ix2 n i)) (fun n => b (ix2 n ⟨q.val * 1280 + j.val, unit_lt q j⟩)) := by
  pointwise [result, cross]
  exact Finset.sum_congr rfl fun n _ => mul_comm _ _
end Reference

theorem frameK : Cert.quiescent_KernelAbDw := fun m ρ _ => Cert.KernelAbDw.Gen.frame m ρ

theorem frameKI : Cert.quiescent_KernelAbDwIdeal := fun m ρ _ => Cert.KernelAbDwIdeal.Gen.frame m ρ

theorem frameRI : Cert.quiescent_ReferenceAbDwIdeal := fun m ρ _ =>
  (θ_run _ _ _).mono
    (fun r h => ⟨fun c => (h c).2, sem_eq_zero_of_no_sems (by decide) r.2⟩) (Cert.ReferenceAbDwIdeal.Value.run m ρ)

theorem preserves : Cert.preserves_KernelAbDw_KernelAbDwIdeal := trivial

theorem algebraic : Cert.algebraic_KernelAbDwIdeal_ReferenceAbDwIdeal := by
  intro m g m' g' _ hagree
  refine ⟨_, (θ_run _ _ _).mono (fun r k c => ?_) (Cert.KernelAbDwIdeal.Value.run_blocks m g),
    Cert.ReferenceAbDwIdeal.Value.run m' g'⟩
  refine ⟨(k c).1.trans ?_, (k c).2⟩
  obtain ⟨h0, h1⟩ := hagree c
  rw [h0, h1, array2]
  funext y
  idx_vars y
  exact (result_apply _ _ _ _ _).symm

end Cert.AbDw

end
-- ==== Proof.QkvDw.Equation.lean ====
module

public import proofs.«01_k».proof.Defs
public import proofs.«01_k».proof.Proof.Gen.KernelQkvDw.Frame
public import proofs.«01_k».proof.Proof.Gen.KernelQkvDwIdeal.Value
public import proofs.«01_k».proof.Proof.Gen.ReferenceQkvDwIdeal.Run
public import proofs.«01_k».proof.Proof.Products
public import Idealize.ShloMosaic.Lib.Pipeline.ValueKit
public import Idealize.ShloMosaic.Lib.Pointwise
public import Idealize.ShloMosaic.Lib.Pipeline.ReadBack

@[expose] public section

set_option maxRecDepth 16384

/-! The weight gradient of one third of the attention mixer's input product, summed over the row tiles. -/

noncomputable section

namespace Cert.QkvDw

open Idealize.ShloMosaic Idealize.ShloMosaic.TcCoe Idealize.SL.Sem
open Idealize.ShloMosaic.Pipeline (Dat)
open Cert.Products

section Kernel
open Cert.KernelQkvDwIdeal Cert.KernelQkvDwIdeal.Gen

theorem pay1 (i : Fin 1024) (j : Fin 1024) : k0_pay1 (F := Ideal) (ix2 i j) = (0 : EReal) := by
  pointwise [k0_pay1]

theorem pay2 (a : FVec Ideal S2048x1024 .bf16) (acc : FVec Ideal S1024x1024 .f32) (b : FVec Ideal S2048x1024 .bf16) (i : Fin 1024) (j : Fin 1024) :
    k0_pay2 (F := Ideal) a acc b (ix2 i j) = acc (ix2 i j) + cross (fun n => a (ix2 n i)) (fun n => b (ix2 n j)) := by
  pointwise [k0_pay2, cross]

theorem pay3 (v : FVec Ideal S1024x1024 .f32) (q : Fin 1) (i : Fin 1024) (j : Fin 1024) :
    k0_pay3 (F := Ideal) v (ix3 q i j) = v (ix2 i j) := by
  obtain rfl : q = 0 := Subsingleton.elim _ _
  pointwise [k0_pay3]

variable (m : (ℓ : Loc nD τ sig) → Buf (Elt Ideal) ℓ) (c : Dev nD)

/-- The product of a point's two row tiles. -/
def part (t : Fin cfg0.N) (i : Fin 1024) (j : Fin 1024) : EReal :=
  cross (fun n : Fin 2048 => (iblk m c 0 t : FVec Ideal S2048x1024 .bf16) (ix2 n i)) (fun n => (iblk m c 1 t : FVec Ideal S2048x1024 .bf16) (ix2 n j))

theorem reset (t : Fin cfg0.N) (h : t.val % 4 = 0) (i : Fin 1024) (j : Fin 1024) :
    (outsAt0 m c t.val t.isLt).2 (ix2 i j) = (0 : EReal) + part m c t i j := by
  rw [outsAt0_A m c t h (by omega)]
  frame_out
  rw [pay2, pay1]
  rfl

theorem step (t : Fin cfg0.N) (h : ¬t.val % 4 = 0) (i : Fin 1024) (j : Fin 1024) :
    (outsAt0 m c t.val t.isLt).2 (ix2 i j)
      = ((outsAt0 m c (t.val - 1) (Nat.lt_of_le_of_lt (Nat.sub_le _ _) t.isLt)).2 (ix2 i j) : EReal) + part m c t i j := by
  by_cases h1 : t.val % 4 = 3
  · rw [outsAt0_C m c t h h1]
    frame_out
    rw [pay2, read_unread_whole]
    rfl
  · rw [outsAt0_B m c t h h1]
    frame_out
    rw [pay2, read_unread_whole]
    rfl

/-- At the last row tile the accumulator is stored. -/
theorem stored (t : Fin cfg0.N) (h : t.val % 4 = 3) (q : Fin 1) (i : Fin 1024) (j : Fin 1024) :
    (outsAt0 m c t.val t.isLt).1 (ix3 q i j) = (outsAt0 m c t.val t.isLt).2 (ix2 i j) := by
  rw [outsAt0_C m c t (by omega) h]
  frame_out
  rw [pay3]

/-- The kernel's argument arrays by coordinates. -/
def aK (n : Fin 8192) (k : Fin 1024) : EReal := m ((c : Thread nD τ).loc main_arg0) (ix2 n k)
def bK (n : Fin 8192) (k : Fin 1024) : EReal := m ((c : Thread nD τ).loc main_arg1) (ix2 n k)

theorem idx : ∀ t : Fin cfg0.N, win0_0.index t = ![t.val % 4, 0] ∧ win0_1.index t = ![t.val % 4, 0]
    ∧ win0_2.index t = ![0, 0, 0] :=
  (by decide +kernel : ∀ t : Fin grid0.N, _)

theorem rowAt_lt (t : Fin cfg0.N) (i : Fin 2048) : t.val % 4 * 2048 + i.val < 8192 := by
  omega

theorem read0 (t : Fin cfg0.N) (i : Fin 2048) (k : Fin 1024) :
    iblk m c 0 t (ix2 i k) = aK m c ⟨t.val % 4 * 2048 + i.val, rowAt_lt t i⟩ k := by
  show _ = m ((c : Thread nD τ).loc main_arg0) (ix2 ⟨t.val % 4 * 2048 + i.val, rowAt_lt t i⟩ k)
  blk_point [iblk, V, idx t]

theorem read1 (t : Fin cfg0.N) (i : Fin 2048) (k : Fin 1024) :
    iblk m c 1 t (ix2 i k) = bK m c ⟨t.val % 4 * 2048 + i.val, rowAt_lt t i⟩ k := by
  show _ = m ((c : Thread nD τ).loc main_arg1) (ix2 ⟨t.val % 4 * 2048 + i.val, rowAt_lt t i⟩ k)
  blk_point [iblk, V, idx t]

theorem part_eq (t : Fin cfg0.N) (i : Fin 1024) (j : Fin 1024) : part m c t i j
    = cross (fun n : Fin 2048 => aK m c ⟨t.val % 4 * 2048 + n.val, rowAt_lt t n⟩ i)
      (fun n => bK m c ⟨t.val % 4 * 2048 + n.val, rowAt_lt t n⟩ j) := by
  simp only [part, read0, read1]

/-- The accumulator at the last row tile of a column tile is the whole product. -/
theorem total (t : Fin cfg0.N) (h : t.val % 4 = 3) (i : Fin 1024) (j : Fin 1024) :
    (outsAt0 m c t.val t.isLt).2 (ix2 i j)
      = cross (fun n => aK m c n i) (fun n => bK m c n j) := by
  refine (Pipeline.eq_sum_fin_of_reset_step_apply_of_flush (fun n h => (outsAt0 m c n h).2) 4 (fun _ => (0 : EReal))
    (fun t y => part m c t (y 0) (y 1))
    (fun t h y => ?_) (fun t h y => ?_) t h (ix2 i j)).trans ?_
  · idx_vars y
    exact reset m c t h y0 y1
  · idx_vars y
    exact step m c t h y0 y1
  · rw [zero_add]
    show ∑ s : Fin 4, part m c _ i j = _
    simp only [part_eq]
    refine cross_tiles (fun n => aK m c n i) (fun n => bK m c n j) (fun s n => ⟨(4 * (t.val / 4) + s.val) % 4 * 2048 + n.val, by omega⟩) fun s l => ?_
    show (4 * (t.val / 4) + s.val) % 4 * 2048 + l.val = _
    omega

theorem array2 : (dats m 0 c).arrAt 2 cfg0.N
    = fun y : S1x1024x1024.Idx => cross (fun n => aK m c n (y 1)) (fun n => bK m c n (y 2)) := by
  refine (dats m 0 c).arrAt_eq_of_covers 2 _ (by decide +kernel) fun t hf y => ?_
  blk_simp
  rw [after0_2]
  have h3 := (flush0_2 t).mp hf
  idx_vars y
  obtain rfl : y0 = 0 := Subsingleton.elim _ _
  rw [stored m c t h3, total m c t h3]
  refine congrArg₂ cross (funext fun n => congrArg (aK m c n) (Fin.ext ?_)) (funext fun n => congrArg (bK m c n) (Fin.ext ?_))
  · blk_simp [idx t]
  · blk_simp [idx t]
end Kernel

section Reference
open Cert.ReferenceQkvDwIdeal Cert.ReferenceQkvDwIdeal.Gen Cert.ReferenceQkvDwIdeal.Value

/-- The reference's result of given argument arrays. -/
def result (a : FVec Ideal S8192x1024 .bf16) (b : FVec Ideal S8192x1024 .bf16) : FVec Ideal S1x1024x1024 .bf16 :=
  truncf .bf16 (broadcastInDim S1x1024x1024 ![1, 2] bcast_S1024x1024_S1x1024x1024_1_2 (transpose S1024x1024 [1, 0] (Host.dotGeneral dot_S8192x1024_S8192x1024_S1024x1024_0_0_1_1_n_n none (extf .f32 b bitsLt_bf16_f32) (extf .f32 a bitsLt_bf16_f32)) transposes_S1024x1024_S1024x1024_1_0)) bitsLt_bf16_f32

theorem result_apply (a : FVec Ideal S8192x1024 .bf16) (b : FVec Ideal S8192x1024 .bf16) (q : Fin 1) (i : Fin 1024) (j : Fin 1024) :
    result a b (ix3 q i j) = cross (fun n => a (ix2 n i)) (fun n => b (ix2 n j)) := by
  obtain rfl : q = 0 := Subsingleton.elim _ _
  pointwise [result, cross]
  exact Finset.sum_congr rfl fun n _ => mul_comm _ _
end Reference

theorem frameK : Cert.quiescent_KernelQkvDw := fun m ρ _ => Cert.KernelQkvDw.Gen.frame m ρ

theorem frameKI : Cert.quiescent_KernelQkvDwIdeal := fun m ρ _ => Cert.KernelQkvDwIdeal.Gen.frame m ρ

theorem frameRI : Cert.quiescent_ReferenceQkvDwIdeal := fun m ρ _ =>
  (θ_run _ _ _).mono
    (fun r h => ⟨fun c => (h c).2, sem_eq_zero_of_no_sems (by decide) r.2⟩) (Cert.ReferenceQkvDwIdeal.Value.run m ρ)

theorem preserves : Cert.preserves_KernelQkvDw_KernelQkvDwIdeal := trivial

theorem algebraic : Cert.algebraic_KernelQkvDwIdeal_ReferenceQkvDwIdeal := by
  intro m g m' g' _ hagree
  refine ⟨_, (θ_run _ _ _).mono (fun r k c => ?_) (Cert.KernelQkvDwIdeal.Value.run_blocks m g),
    Cert.ReferenceQkvDwIdeal.Value.run m' g'⟩
  refine ⟨(k c).1.trans ?_, (k c).2⟩
  obtain ⟨h0, h1⟩ := hagree c
  rw [h0, h1, array2]
  funext y
  idx_vars y
  exact (result_apply _ _ _ _ _).symm

end Cert.QkvDw

end
-- ==== Proof.Norm.Forms.lean ====
module

public import proofs.«01_k».proof.Proof.Gen.ReferenceAbBwdIdeal.Run
public import proofs.«01_k».proof.Proof.Norm.Algebra
public import Idealize.ShloMosaic.Lib.Pipeline.ValueKit
public import Idealize.ShloMosaic.Lib.Pointwise

@[expose] public section

set_option maxRecDepth 16384

/-! The two results of the references of the mixers' backwards, of whatever cotangent `h` of the normed rows. -/

noncomputable section

namespace Cert.Norm

open Idealize.ShloMosaic Idealize.ShloMosaic.TcCoe Idealize.SL.Sem
open Cert.ReferenceAbBwdIdeal Cert.ReferenceAbBwdIdeal.Gen

variable (h x d : FVec Ideal S8192x1024 .f32) (g : FVec Ideal S1x1024 .f32)

/-- The gradient of the rows, as the references' runs state it. -/
def rowsForm : FVec Ideal S8192x1024 .f32 :=
  addf (addf (addf d (mulf (mulf h (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x (broadcastInDim S8192x1024 ![0] bcast_S8192_S8192x1024_0 (Host.reduceAdd (Host.divf (mulf (shapeCast _ (Host.reduceAdd (mulf x (mulf h (broadcastInDim S8192x1024 ![0, 1] bcast_S1x1024_S8192x1024_0_1 (broadcastInDim S1x1024 ![1] bcast_S1024_S1x1024_1 (shapeCast _ g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf h (broadcastInDim S8192x1024 ![0, 1] bcast_S1x1024_S8192x1024_0_1 (broadcastInDim S1x1024 ![1] bcast_S1024_S1x1024_1 (shapeCast _ g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)

/-- The gradient of the gain, as the references' runs state it. -/
def gainForm : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) h) (constant S_ .f32 0x00000000#32) reducesTo_S8192x1024_S1024_d0 h_S_) shapeCasts_S1024_S1x1024) (constant S_ .f32 0x00000000#32) reducesTo_S1x1024_S1024_d0 h_S_)

theorem rowsForm_apply (n : Fin 8192) (j : Fin 1024) : rowsForm h x d g (ix2 n j)
    = rowReference (fun k => d (ix2 n k)) (fun k => h (ix2 n k) * g (ix2 0 k)) (fun k => x (ix2 n k)) j := by
  pointwise [rowsForm]
  simp only [Finset.univ_unique, Finset.sum_singleton]
  rfl

theorem gainForm_apply (j : Fin 1024) : gainForm h x (ix2 0 j)
    = ∑ n, x (ix2 n j) * rinv (fun k => x (ix2 n k)) * h (ix2 n j) := by
  pointwise [gainForm]
  simp only [Finset.univ_unique, Finset.sum_singleton]
  rfl

end Cert.Norm

end
-- ==== Proof.AbBwd.Block.lean ====
module

public import proofs.«01_k».proof.Proof.Gen.KernelAbBwdIdeal.Frame
public import proofs.«01_k».proof.Proof.Norm.Algebra
public import proofs.«01_k».proof.Proof.Products
public import Idealize.ShloMosaic.Lib.Pipeline.ValueKit
public import Idealize.ShloMosaic.Lib.Pipeline.ReadBack
public import Idealize.ShloMosaic.Lib.Pointwise

@[expose] public section

set_option maxRecDepth 16384

/-! What one grid point of the backward into the even layers' mixers computes: the point's 512 rows in two halves of 256,
    and in each half the product with the weights as five products over 512 columns each. -/

noncomputable section

namespace Cert.AbBwd

open Idealize.ShloMosaic Idealize.ShloMosaic.TcCoe Idealize.SL.Sem
open Cert.Norm (rinv meanSq rowKernel)
open Cert.KernelAbBwdIdeal Cert.KernelAbBwdIdeal.Gen

/-- A row of numbers against the rows of the weights. -/
def against (z : Fin 2560 → EReal) (w : Fin 1024 → Fin 2560 → EReal) (j : Fin 1024) : EReal := ∑ k, z k * w j k

/-- The blocks `a` and `b` are the columns from `512 q` on of the rows `z` and of the weights `w`. -/
def Chunk (z : Fin 256 → Fin 2560 → EReal) (w : Fin 1024 → Fin 2560 → EReal) (q : Fin 5)
    (a : FVec Ideal S256x512 .bf16) (b : FVec Ideal S1x1024x512 .bf16) : Prop :=
  (∀ i (l : Fin 512), a (ix2 i l) = z i ⟨q.val * 512 + l.val, by omega⟩)
    ∧ ∀ j (l : Fin 512), b (ix3 0 j l) = w j ⟨q.val * 512 + l.val, by omega⟩

section Half
variable {z : Fin 256 → Fin 2560 → EReal} {w : Fin 1024 → Fin 2560 → EReal}
  {a0 a1 a2 a3 a4 : FVec Ideal S256x512 .bf16} {b0 b1 b2 b3 b4 : FVec Ideal S1x1024x512 .bf16}

theorem five (z : Fin 2560 → EReal) (w : Fin 1024 → Fin 2560 → EReal) (j : Fin 1024) : against z w j
    = ∑ q : Fin 5, ∑ l : Fin 512, z ⟨q.val * 512 + l.val, by omega⟩ * w j ⟨q.val * 512 + l.val, by omega⟩ :=
  (Fin.sum_mul_add_congr (L := 2560) (S := 5) (n := 512) fun q l hl => rfl).symm

theorem dhFirst (h0 : Chunk z w 0 a0 b0) (h1 : Chunk z w 1 a1 b1) (h2 : Chunk z w 2 a2 b2) (h3 : Chunk z w 3 a3 b3) (h4 : Chunk z w 4 a4 b4)
    (i : Fin 256) (j : Fin 1024) :
    k0_pay8 (F := Ideal) (k0_pay6 a0 b0 a1 b1 a2 b2 a3 b3) (k0_pay7 a4 b4) (ix2 i j) = against (z i) w j := by
  rw [five]
  pointwise [k0_pay6, k0_pay7, k0_pay8, Fin.sum_univ_five]
  simp only [h0.1, h0.2, h1.1, h1.2, h2.1, h2.2, h3.1, h3.2, h4.1, h4.2]
  rfl

theorem dhSecond (h0 : Chunk z w 0 a0 b0) (h1 : Chunk z w 1 a1 b1) (h2 : Chunk z w 2 a2 b2) (h3 : Chunk z w 3 a3 b3) (h4 : Chunk z w 4 a4 b4)
    (i : Fin 256) (j : Fin 1024) :
    k0_pay13 (F := Ideal) a0 b0 a1 b1 a2 b2 a3 b3 a4 b4 (ix2 i j) = against (z i) w j := by
  rw [five]
  pointwise [k0_pay13, Fin.sum_univ_five]
  simp only [h0.1, h0.2, h1.1, h1.2, h2.1, h2.2, h3.1, h3.2, h4.1, h4.2]
  rfl

variable (x d s p h : FVec Ideal S256x1024 .f32) (g acc : FVec Ideal S1x1024 .f32) (i : Fin 256) (j : Fin 1024)

theorem pay9 : k0_pay9 (F := Ideal) x (ix2 i 0) = rinv fun k => x (ix2 i k) := by
  pointwise [k0_pay9, rinv, meanSq]

theorem pay10 : k0_pay10 (F := Ideal) x (ix2 i j) = x (ix2 i j) * rinv fun k => x (ix2 i k) := by
  pointwise [k0_pay10, pay9]

theorem pay12 : k0_pay12 (F := Ideal) s p x g d (ix2 i j)
    = rowKernel (fun k => d (ix2 i k)) (fun k => k0_pay8 (F := Ideal) s p (ix2 i k) * g (ix2 0 k)) (fun k => x (ix2 i k)) j := by
  pointwise [k0_pay12, rowKernel, pay9, pay10]

theorem pay11 : k0_pay11 (F := Ideal) s p x acc (ix2 0 j) = acc (ix2 0 j)
    + ∑ i, k0_pay8 (F := Ideal) s p (ix2 i j) * (x (ix2 i j) * rinv fun k => x (ix2 i k)) := by
  pointwise [k0_pay11, pay10]

/-- The small number under the root, as the kernel writes it. -/
abbrev small : Ideal .f32 := Ideal.ofBits .f32 0x358637BD#32

theorem pay1 : k0_pay1 (F := Ideal) (k0_pay14 x) small (ix2 i 0) = rinv fun k => x (ix2 i k) := by
  pointwise [k0_pay1, k0_pay14, rinv, meanSq]

theorem pay2 : k0_pay2 (F := Ideal) x (k0_pay14 x) small (ix2 i j) = x (ix2 i j) * rinv fun k => x (ix2 i k) := by
  pointwise [k0_pay2, pay1]

theorem pay4 : k0_pay4 (F := Ideal) h x (k0_pay14 x) small g d (ix2 i j)
    = rowKernel (fun k => d (ix2 i k)) (fun k => h (ix2 i k) * g (ix2 0 k)) (fun k => x (ix2 i k)) j := by
  pointwise [k0_pay4, rowKernel, pay1, pay2]

theorem pay3 : k0_pay3 (F := Ideal) h x (k0_pay14 x) small acc (ix2 0 j) = acc (ix2 0 j)
    + ∑ i, h (ix2 i j) * (x (ix2 i j) * rinv fun k => x (ix2 i k)) := by
  pointwise [k0_pay3, pay2]

theorem pay5 : k0_pay5 (F := Ideal) (ix2 0 j) = 0 := by
  pointwise [k0_pay5]
end Half

/-- What a row contributes to the gradient of the gain at lane `j`. -/
def gainTerm (h x : Fin 1024 → EReal) (j : Fin 1024) : EReal := h j * (x j * rinv x)

section Block
variable (x0 : FVec Ideal S512x2560 .bf16) (x1 : FVec Ideal S1x1024x2560 .bf16) (x2 : FVec Ideal S512x1024 .f32)
  (x3 : FVec Ideal S1x1024 .f32) (x4 : FVec Ideal S512x1024 .f32)

/-- The cotangent of the normed row `i` of a block. -/
def blockDh (i : Fin 512) : Fin 1024 → EReal := against (fun k => x0 (ix2 i k)) (fun j k => x1 (ix3 0 j k))

/-- Row `i` of a point's gradient, and its contribution to the gradient of the gain. -/
def blockRow (i : Fin 512) : Fin 1024 → EReal :=
  rowKernel (fun k => x4 (ix2 i k)) (fun k => blockDh x0 x1 i k * x3 (ix2 0 k)) (fun k => x2 (ix2 i k))
def blockGain (i : Fin 512) : Fin 1024 → EReal := gainTerm (blockDh x0 x1 i) (fun k => x2 (ix2 i k))

/-- Row `i` of the half that starts at row `r`. -/
def rowOf (r : ℕ) (hr : r + 256 ≤ 512) (i : Fin 256) : Fin 512 := ⟨r + i.val, by omega⟩

/-- The block's part of the rows from `r` and the columns from `512 q` on, with the same columns of the weights. -/
theorem chunk (r : ℕ) (hr : r + 256 ≤ 512) (q : Fin 5) (s : ℕ) (hs : s = q.val * 512)
    (ha : ∀ a, ![r, s] a + ![256, 512] a ≤ S512x2560.size a) (hb : ∀ a, ![0, 0, s] a + ![1, 1024, 512] a ≤ S1x1024x2560.size a) :
    Chunk (fun i k => x0 (ix2 (rowOf r hr i) k)) (fun j k => x1 (ix3 0 j k)) q
      (View.ld (Val := Elt Ideal) (e' := .bf16) x0 (Rect.unit ![r, s] ![256, 512] ha)) (View.ld (Val := Elt Ideal) (e' := .bf16) x1 (Rect.unit ![0, 0, s] ![1, 1024, 512] hb)) := by
  subst hs
  refine ⟨fun i l => congrArg x0 (funext fun a => Fin.ext ?_), fun j l => congrArg x1 (funext fun a => Fin.ext ?_)⟩
  · match a with
    | 0 => simp [Rect.unit, rowOf]
    | 1 => simp [Rect.unit]
  · match a with
    | 0 => simp [Rect.unit]
    | 1 => simp [Rect.unit]
    | 2 => simp [Rect.unit]

theorem rows (x : FVec Ideal S512x1024 .f32) (r : ℕ) (hr : r + 256 ≤ 512) (ha : ∀ a, ![r, 0] a + ![256, 1024] a ≤ S512x1024.size a)
    (i : Fin 256) (k : Fin 1024) :
    View.ld (Val := Elt Ideal) (e' := .f32) x (Rect.unit ![r, 0] ![256, 1024] ha) (ix2 i k) = x (ix2 (rowOf r hr i) k) := by
  refine congrArg x (funext fun a => Fin.ext ?_)
  match a with
  | 0 => simp [Rect.unit, rowOf]
  | 1 => simp [Rect.unit]

section
variable {x0 x1 x2 x3 x4} {a0 a1 a2 a3 a4 a0' a1' a2' a3' a4' : FVec Ideal S256x512 .bf16} {b0 b1 b2 b3 b4 b0' b1' b2' b3' b4' : FVec Ideal S1x1024x512 .bf16}
  {x d x' : FVec Ideal S256x1024 .f32} {r : Fin 256 → Fin 512}

theorem rowFirst (h0 : Chunk (fun i k => x0 (ix2 (r i) k)) (fun j k => x1 (ix3 0 j k)) 0 a0 b0)
    (h1 : Chunk (fun i k => x0 (ix2 (r i) k)) (fun j k => x1 (ix3 0 j k)) 1 a1 b1)
    (h2 : Chunk (fun i k => x0 (ix2 (r i) k)) (fun j k => x1 (ix3 0 j k)) 2 a2 b2)
    (h3 : Chunk (fun i k => x0 (ix2 (r i) k)) (fun j k => x1 (ix3 0 j k)) 3 a3 b3)
    (h4 : Chunk (fun i k => x0 (ix2 (r i) k)) (fun j k => x1 (ix3 0 j k)) 4 a4 b4)
    (hx : ∀ i k, x (ix2 i k) = x2 (ix2 (r i) k)) (hd : ∀ i k, d (ix2 i k) = x4 (ix2 (r i) k)) (i : Fin 256) (j : Fin 1024) :
    k0_pay12 (F := Ideal) (k0_pay6 a0 b0 a1 b1 a2 b2 a3 b3) (k0_pay7 a4 b4) x x3 d (ix2 i j) = blockRow x0 x1 x2 x3 x4 (r i) j := by
  rw [pay12]
  simp only [dhFirst h0 h1 h2 h3 h4, hx, hd]
  rfl

theorem rowSecond (h0 : Chunk (fun i k => x0 (ix2 (r i) k)) (fun j k => x1 (ix3 0 j k)) 0 a0 b0)
    (h1 : Chunk (fun i k => x0 (ix2 (r i) k)) (fun j k => x1 (ix3 0 j k)) 1 a1 b1)
    (h2 : Chunk (fun i k => x0 (ix2 (r i) k)) (fun j k => x1 (ix3 0 j k)) 2 a2 b2)
    (h3 : Chunk (fun i k => x0 (ix2 (r i) k)) (fun j k => x1 (ix3 0 j k)) 3 a3 b3)
    (h4 : Chunk (fun i k => x0 (ix2 (r i) k)) (fun j k => x1 (ix3 0 j k)) 4 a4 b4)
    (hx : ∀ i k, x (ix2 i k) = x2 (ix2 (r i) k)) (hd : ∀ i k, d (ix2 i k) = x4 (ix2 (r i) k)) (i : Fin 256) (j : Fin 1024) :
    k0_pay4 (F := Ideal) (k0_pay13 a0 b0 a1 b1 a2 b2 a3 b3 a4 b4) x (k0_pay14 x) small x3 d (ix2 i j) = blockRow x0 x1 x2 x3 x4 (r i) j := by
  rw [pay4]
  simp only [dhSecond h0 h1 h2 h3 h4, hx, hd]
  rfl

theorem gainFirst (h0 : Chunk (fun i k => x0 (ix2 (r i) k)) (fun j k => x1 (ix3 0 j k)) 0 a0 b0)
    (h1 : Chunk (fun i k => x0 (ix2 (r i) k)) (fun j k => x1 (ix3 0 j k)) 1 a1 b1)
    (h2 : Chunk (fun i k => x0 (ix2 (r i) k)) (fun j k => x1 (ix3 0 j k)) 2 a2 b2)
    (h3 : Chunk (fun i k => x0 (ix2 (r i) k)) (fun j k => x1 (ix3 0 j k)) 3 a3 b3)
    (h4 : Chunk (fun i k => x0 (ix2 (r i) k)) (fun j k => x1 (ix3 0 j k)) 4 a4 b4)
    (hx : ∀ i k, x (ix2 i k) = x2 (ix2 (r i) k)) (acc : FVec Ideal S1x1024 .f32) (j : Fin 1024) :
    k0_pay11 (F := Ideal) (k0_pay6 a0 b0 a1 b1 a2 b2 a3 b3) (k0_pay7 a4 b4) x acc (ix2 0 j) = acc (ix2 0 j) + ∑ i, blockGain x0 x1 x2 (r i) j := by
  rw [pay11]
  simp only [dhFirst h0 h1 h2 h3 h4, hx]
  rfl

theorem gainSecond (h0 : Chunk (fun i k => x0 (ix2 (r i) k)) (fun j k => x1 (ix3 0 j k)) 0 a0 b0)
    (h1 : Chunk (fun i k => x0 (ix2 (r i) k)) (fun j k => x1 (ix3 0 j k)) 1 a1 b1)
    (h2 : Chunk (fun i k => x0 (ix2 (r i) k)) (fun j k => x1 (ix3 0 j k)) 2 a2 b2)
    (h3 : Chunk (fun i k => x0 (ix2 (r i) k)) (fun j k => x1 (ix3 0 j k)) 3 a3 b3)
    (h4 : Chunk (fun i k => x0 (ix2 (r i) k)) (fun j k => x1 (ix3 0 j k)) 4 a4 b4)
    (hx : ∀ i k, x (ix2 i k) = x2 (ix2 (r i) k)) (acc : FVec Ideal S1x1024 .f32) (j : Fin 1024) :
    k0_pay3 (F := Ideal) (k0_pay13 a0 b0 a1 b1 a2 b2 a3 b3 a4 b4) x (k0_pay14 x) small acc (ix2 0 j) = acc (ix2 0 j) + ∑ i, blockGain x0 x1 x2 (r i) j := by
  rw [pay3]
  simp only [dhSecond h0 h1 h2 h3 h4, hx]
  rfl
end

/-- The two halves' sums are the block's sum. -/
theorem halves (f : Fin 512 → EReal) (z : EReal) :
    z + ∑ i, f (rowOf 0 (by decide) i) + ∑ i, f (rowOf 256 (by decide) i) = z + ∑ i, f i := by
  rw [add_assoc, show (∑ i, f i) = _ from Fin.sum_univ_add (a := 256) (b := 256) f]
  refine congrArg (z + ·) (congrArg (· + _) (Finset.sum_congr rfl fun i _ => congrArg f (Fin.ext ?_)))
  exact Nat.zero_add _
end Block

variable (m : (ℓ : Loc nD τ sig) → Buf (Elt Ideal) ℓ)

theorem point5 (c : Dev nD) (t : Fin cfg0.N) (i : Fin 512) (j : Fin 1024) :
    (outsAt0 m c t.val t.isLt).1 (ix2 i j)
      = blockRow (iblk m c 0 t) (iblk m c 1 t) (iblk m c 2 t) (iblk m c 3 t) (iblk m c 4 t) i j := by
  by_cases h0 : t.val % 16 = 0
  · rw [outsAt0_A m c t h0]
    frame_out
    canon_tiles x h
    · idx_vars x
      refine (rowSecond (chunk _ _ 256 (by decide) 0 _ rfl _ _) (chunk _ _ 256 (by decide) 1 _ rfl _ _) (chunk _ _ 256 (by decide) 2 _ rfl _ _)
        (chunk _ _ 256 (by decide) 3 _ rfl _ _) (chunk _ _ 256 (by decide) 4 _ rfl _ _) (rows _ 256 (by decide) _) (rows _ 256 (by decide) _) _ _).trans ?_
      congr 1 <;> exact Fin.ext (by simp_all [rowOf])
    · idx_vars x
      refine (rowFirst (chunk _ _ 0 (by decide) 0 _ rfl _ _) (chunk _ _ 0 (by decide) 1 _ rfl _ _) (chunk _ _ 0 (by decide) 2 _ rfl _ _)
        (chunk _ _ 0 (by decide) 3 _ rfl _ _) (chunk _ _ 0 (by decide) 4 _ rfl _ _) (rows _ 0 (by decide) _) (rows _ 0 (by decide) _) _ _).trans ?_
      congr 1 <;> exact Fin.ext (by simp_all [rowOf])
  · rw [outsAt0_B m c t h0]
    frame_out
    canon_tiles x h
    · idx_vars x
      refine (rowSecond (chunk _ _ 256 (by decide) 0 _ rfl _ _) (chunk _ _ 256 (by decide) 1 _ rfl _ _) (chunk _ _ 256 (by decide) 2 _ rfl _ _)
        (chunk _ _ 256 (by decide) 3 _ rfl _ _) (chunk _ _ 256 (by decide) 4 _ rfl _ _) (rows _ 256 (by decide) _) (rows _ 256 (by decide) _) _ _).trans ?_
      congr 1 <;> exact Fin.ext (by simp_all [rowOf])
    · idx_vars x
      refine (rowFirst (chunk _ _ 0 (by decide) 0 _ rfl _ _) (chunk _ _ 0 (by decide) 1 _ rfl _ _) (chunk _ _ 0 (by decide) 2 _ rfl _ _)
        (chunk _ _ 0 (by decide) 3 _ rfl _ _) (chunk _ _ 0 (by decide) 4 _ rfl _ _) (rows _ 0 (by decide) _) (rows _ 0 (by decide) _) _ _).trans ?_
      congr 1 <;> exact Fin.ext (by simp_all [rowOf])

theorem point6 (c : Dev nD) (t : Fin cfg0.N) (j : Fin 1024) (h0 : t.val % 16 = 0) :
    (outsAt0 m c t.val t.isLt).2 (ix2 0 j)
      = ∑ i, blockGain (iblk m c 0 t) (iblk m c 1 t) (iblk m c 2 t) i j := by
  rw [outsAt0_A m c t h0]
  frame_out
  refine (gainSecond (chunk _ _ 256 (by decide) 0 _ rfl _ _) (chunk _ _ 256 (by decide) 1 _ rfl _ _) (chunk _ _ 256 (by decide) 2 _ rfl _ _)
    (chunk _ _ 256 (by decide) 3 _ rfl _ _) (chunk _ _ 256 (by decide) 4 _ rfl _ _) (rows _ 256 (by decide) _) _ _).trans ?_
  refine (congrArg (· + _) (gainFirst (chunk _ _ 0 (by decide) 0 _ rfl _ _) (chunk _ _ 0 (by decide) 1 _ rfl _ _) (chunk _ _ 0 (by decide) 2 _ rfl _ _)
    (chunk _ _ 0 (by decide) 3 _ rfl _ _) (chunk _ _ 0 (by decide) 4 _ rfl _ _) (rows _ 0 (by decide) _) _ _)).trans ?_
  rw [halves (fun i => blockGain (iblk m c 0 t) (iblk m c 1 t) (iblk m c 2 t) i j), pay5, zero_add]

theorem step6 (c : Dev nD) (t : Fin cfg0.N) (j : Fin 1024) (h0 : ¬ t.val % 16 = 0) :
    (outsAt0 m c t.val t.isLt).2 (ix2 0 j)
      = (outsAt0 m c (t.val - 1) (Nat.lt_of_le_of_lt (Nat.sub_le _ _) t.isLt)).2 (ix2 0 j)
        + ∑ i, blockGain (iblk m c 0 t) (iblk m c 1 t) (iblk m c 2 t) i j := by
  rw [outsAt0_B m c t h0]
  frame_out
  refine (gainSecond (chunk _ _ 256 (by decide) 0 _ rfl _ _) (chunk _ _ 256 (by decide) 1 _ rfl _ _) (chunk _ _ 256 (by decide) 2 _ rfl _ _)
    (chunk _ _ 256 (by decide) 3 _ rfl _ _) (chunk _ _ 256 (by decide) 4 _ rfl _ _) (rows _ 256 (by decide) _) _ _).trans ?_
  refine (congrArg (· + _) (gainFirst (chunk _ _ 0 (by decide) 0 _ rfl _ _) (chunk _ _ 0 (by decide) 1 _ rfl _ _) (chunk _ _ 0 (by decide) 2 _ rfl _ _)
    (chunk _ _ 0 (by decide) 3 _ rfl _ _) (chunk _ _ 0 (by decide) 4 _ rfl _ _) (rows _ 0 (by decide) _) _ _)).trans ?_
  rw [halves (fun i => blockGain (iblk m c 0 t) (iblk m c 1 t) (iblk m c 2 t) i j)]

end Cert.AbBwd

end
-- ==== Proof.AbBwd.Equation.lean ====
module

public import proofs.«01_k».proof.Defs
public import proofs.«01_k».proof.Proof.Gen.KernelAbBwd.Frame
public import proofs.«01_k».proof.Proof.Gen.KernelAbBwdIdeal.Value
public import proofs.«01_k».proof.Proof.Gen.ReferenceAbBwdIdeal.Run
public import proofs.«01_k».proof.Proof.Norm.Forms
public import proofs.«01_k».proof.Proof.AbBwd.Block

@[expose] public section

set_option maxRecDepth 16384

/-! The backward into the even layers' mixers: the two result arrays, and that the reference has the same. -/

noncomputable section

namespace Cert.AbBwd

open Idealize.ShloMosaic Idealize.ShloMosaic.TcCoe Idealize.SL.Sem
open Idealize.ShloMosaic.Pipeline (Dat)
open Cert.Norm (rinv meanSq rowKernel rowReference row_eq)

section Result
variable (Z : Fin 8192 → Fin 2560 → EReal) (W : Fin 1024 → Fin 2560 → EReal) (X : Fin 8192 → Fin 1024 → EReal)
  (G : Fin 1024 → EReal) (D : Fin 8192 → Fin 1024 → EReal)

/-- Row `n` of the gradient of the layer's input. -/
def gradRow (n : Fin 8192) : Fin 1024 → EReal := rowKernel (D n) (fun k => against (Z n) W k * G k) (X n)

/-- Lane `j` of the gradient of the gain. -/
def gradGain (j : Fin 1024) : EReal := ∑ n : Fin 8192, gainTerm (against (Z n) W) (X n) j
end Result

section Kernel
open Cert.KernelAbBwdIdeal Cert.KernelAbBwdIdeal.Gen
variable (m : (ℓ : Loc nD τ sig) → Buf (Elt Ideal) ℓ) (c : Dev nD)

/-- The argument arrays of the kernel by coordinates. -/
def zK (n : Fin 8192) (k : Fin 2560) : EReal := m ((c : Thread nD τ).loc main_arg0) (ix2 n k)
def wK (j : Fin 1024) (k : Fin 2560) : EReal := m ((c : Thread nD τ).loc main_arg1) (ix3 0 j k)
def xK (n : Fin 8192) (k : Fin 1024) : EReal := m ((c : Thread nD τ).loc main_arg2) (ix2 n k)
def gK (k : Fin 1024) : EReal := m ((c : Thread nD τ).loc main_arg3) (ix2 0 k)
def dK (n : Fin 8192) (k : Fin 1024) : EReal := m ((c : Thread nD τ).loc main_arg4) (ix2 n k)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem points : cfg0.N = 16 := N_0

theorem rowAt_lt (t : Fin cfg0.N) (i : Fin 512) : t.val * 512 + i.val < 8192 := by
  have h : t.val < 16 := lt_of_lt_of_eq t.isLt points
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 2560) : iblk m c 0 t (ix2 i k) = zK m c (rowAt t i) k := by
  show _ = m ((c : Thread nD τ).loc main_arg0) (ix2 ⟨t.val * 512 + i.val, rowAt_lt t i⟩ k)
  blk_point [iblk, V, idx t]
theorem read1 (t : Fin cfg0.N) (j : Fin 1024) (k : Fin 2560) : iblk m c 1 t (ix3 0 j k) = wK m c j k := by
  blk_point [iblk, V, idx t, wK]
theorem read2 (t : Fin cfg0.N) (i : Fin 512) (k : Fin 1024) : iblk m c 2 t (ix2 i k) = xK m c (rowAt t i) k := by
  show _ = m ((c : Thread nD τ).loc main_arg2) (ix2 ⟨t.val * 512 + i.val, rowAt_lt t i⟩ k)
  blk_point [iblk, V, idx t]
theorem read3 (t : Fin cfg0.N) (k : Fin 1024) : iblk m c 3 t (ix2 0 k) = gK m c k := by
  blk_point [iblk, V, idx t, gK]
theorem read4 (t : Fin cfg0.N) (i : Fin 512) (k : Fin 1024) : iblk m c 4 t (ix2 i k) = dK m c (rowAt t i) k := by
  show _ = m ((c : Thread nD τ).loc main_arg4) (ix2 ⟨t.val * 512 + i.val, rowAt_lt t i⟩ k)
  blk_point [iblk, V, idx t]

theorem blockDh_eq (t : Fin cfg0.N) (i : Fin 512) :
    blockDh (iblk m c 0 t) (iblk m c 1 t) i = against (zK m c (rowAt t i)) (wK m c) := by
  simp only [blockDh, read0, read1]

theorem blockRow_eq (t : Fin cfg0.N) (i : Fin 512) :
    blockRow (iblk m c 0 t) (iblk m c 1 t) (iblk m c 2 t) (iblk m c 3 t) (iblk m c 4 t) i
      = gradRow (zK m c) (wK m c) (xK m c) (gK m c) (dK m c) (rowAt t i) := by
  simp only [blockRow, gradRow, blockDh_eq, read2, read3, read4]

theorem blockGain_eq (t : Fin cfg0.N) (i : Fin 512) :
    blockGain (iblk m c 0 t) (iblk m c 1 t) (iblk m c 2 t) i
      = gainTerm (against (zK m c (rowAt t i)) (wK m c)) (xK m c (rowAt t i)) := by
  simp only [blockGain, blockDh_eq, read2]

theorem array5 : (dats m 0 c).arrAt 5 cfg0.N
    = fun y : S8192x1024.Idx => gradRow (zK m c) (wK m c) (xK m c) (gK m c) (dK m c) (y 0) (y 1) := by
  refine (dats m 0 c).arrAt_eq_of_covers 5 _ (by decide +kernel) fun t hf y => ?_
  blk_simp
  rw [after0_5]
  idx_vars y
  rw [point5, blockRow_eq]
  refine congrArg₂ (gradRow (zK m c) (wK m c) (xK m c) (gK m c) (dK m c)) (Fin.ext ?_) (Fin.ext ?_)
  · show t.val * 512 + y0.val = _
    blk_simp [idx t]
  · blk_simp [idx t]

theorem array6 : (dats m 0 c).arrAt 6 cfg0.N
    = fun y : S1x1024.Idx => gradGain (zK m c) (wK m c) (xK m c) (y 1) := by
  refine (dats m 0 c).arrAt_eq_of_after_last 6 t0_15 (by decide +kernel) _ fun y => ?_
  blk_simp
  idx_vars y
  obtain rfl : y0 = 0 := Subsingleton.elim _ _
  rw [after0_6]
  refine (Pipeline.eq_sum_fin_of_reset_step_apply_last (fun n h => (outsAt0 m c n h).2) 16 (fun _ => (0 : EReal))
    (fun t y => ∑ i, blockGain (iblk m c 0 t) (iblk m c 1 t) (iblk m c 2 t) i (y 1))
    (fun t h y => ?_) (fun t h y => ?_) (le_of_eq points) t0_15 rfl (ix2 0 y1)).trans ?_
  · idx_vars y
    obtain rfl : y0 = 0 := Subsingleton.elim _ _
    exact (point6 m c t y1 h).trans (zero_add _).symm
  · idx_vars y
    obtain rfl : y0 = 0 := Subsingleton.elim _ _
    exact step6 m c t y1 h
  · rw [zero_add]
    simp only [blockGain_eq]
    exact Fin.sum_mul_add_congr (L := 8192) (S := 16) (n := 512) (f := fun n => gainTerm (against (zK m c n) (wK m c)) (xK m c n) y1) fun t i h => rfl
end Kernel

section Reference
open Cert.ReferenceAbBwdIdeal Cert.ReferenceAbBwdIdeal.Gen Cert.ReferenceAbBwdIdeal.Value
variable (m : (ℓ : Loc nD τ sig) → Buf (Elt Ideal) ℓ) (c : Dev nD)

/-- The argument arrays of the reference by coordinates. -/
def zR (n : Fin 8192) (k : Fin 2560) : EReal := m ((c : Thread nD τ).loc main_arg0) (ix2 n k)
def wR (j : Fin 1024) (k : Fin 2560) : EReal := m ((c : Thread nD τ).loc main_arg1) (ix3 0 j k)
def xR (n : Fin 8192) (k : Fin 1024) : EReal := m ((c : Thread nD τ).loc main_arg2) (ix2 n k)
def gR (k : Fin 1024) : EReal := m ((c : Thread nD τ).loc main_arg3) (ix2 0 k)
def dR (n : Fin 8192) (k : Fin 1024) : EReal := m ((c : Thread nD τ).loc main_arg4) (ix2 n k)

/-- The reference's cotangent of the normed rows, of given arrays. -/
def product (z : FVec Ideal S8192x2560 .bf16) (w : FVec Ideal S1x1024x2560 .bf16) : FVec Ideal S8192x1024 .f32 :=
  Host.dotGeneral dot_S8192x2560_S1024x2560_S8192x1024_1_1_0_0_n_n none (extf .f32 z bitsLt_bf16_f32)
    (extf .f32 (shapeCast S1024x2560 w shapeCasts_S1x1024x2560_S1024x2560) bitsLt_bf16_f32)

theorem product_apply (z : FVec Ideal S8192x2560 .bf16) (w : FVec Ideal S1x1024x2560 .bf16) (n : Fin 8192) (j : Fin 1024) :
    product z w (ix2 n j) = against (fun k => z (ix2 n k)) (fun j k => w (ix3 0 j k)) j := by
  pointwise [product, against]

def dhR : FVec Ideal S8192x1024 .f32 := product (m ((c : Thread nD τ).loc main_arg0)) (m ((c : Thread nD τ).loc main_arg1))

theorem dhR_apply (n : Fin 8192) (j : Fin 1024) : dhR m c (ix2 n j) = against (zR m c n) (wR m c) j := product_apply _ _ n j

/-- The reference's two results. -/
def rowsR : FVec Ideal S8192x1024 .f32 := Cert.Norm.rowsForm (dhR m c) (m ((c : Thread nD τ).loc main_arg2)) (m ((c : Thread nD τ).loc main_arg4)) (m ((c : Thread nD τ).loc main_arg3))
def gainR : FVec Ideal S1x1024 .f32 := Cert.Norm.gainForm (dhR m c) (m ((c : Thread nD τ).loc main_arg2))

theorem rowsR_apply (n : Fin 8192) (j : Fin 1024) : rowsR m c (ix2 n j)
    = rowReference (dR m c n) (fun k => against (zR m c n) (wR m c) k * gR m c k) (xR m c n) j := by
  refine (Cert.Norm.rowsForm_apply _ _ _ _ n j).trans ?_
  simp only [dhR_apply]
  rfl

theorem gainR_apply (j : Fin 1024) : gainR m c (ix2 0 j)
    = ∑ n, xR m c n j * rinv (xR m c n) * against (zR m c n) (wR m c) j := by
  refine (Cert.Norm.gainForm_apply _ _ j).trans ?_
  simp only [dhR_apply]
  rfl
end Reference

section Equation
variable (m : (ℓ : Loc Cert.KernelAbBwdIdeal.nD Cert.KernelAbBwdIdeal.τ Cert.KernelAbBwdIdeal.sig) → Buf (Elt Ideal) ℓ)
  (m' : (ℓ : Loc Cert.ReferenceAbBwdIdeal.nD Cert.ReferenceAbBwdIdeal.τ Cert.ReferenceAbBwdIdeal.sig) → Buf (Elt Ideal) ℓ)
  (c : Dev Cert.KernelAbBwdIdeal.nD)

/-- The two programs' argument arrays hold the same. -/
structure Same : Prop where
  z : zR m' c = zK m c
  w : wR m' c = wK m c
  x : xR m' c = xK m c
  g : gR m' c = gK m c
  d : dR m' c = dK m c

variable {m m' c}

theorem result0 (h : Same m m' c) :
    (Cert.KernelAbBwdIdeal.Gen.dats m 0 c).arrAt 5 Cert.KernelAbBwdIdeal.cfg0.N = rowsR m' c := by
  rw [array5]
  funext y
  idx_vars y
  refine Eq.trans ?_ (rowsR_apply m' c _ _).symm
  rw [h.z, h.w, h.x, h.g, h.d]
  exact row_eq _ _ _ _

theorem gain_eq (h : Same m m' c) (j : Fin 1024) :
    gradGain (zK m c) (wK m c) (xK m c) j = gainR m' c (ix2 0 j) := by
  rw [gainR_apply, h.z, h.w, h.x]
  exact Finset.sum_congr rfl fun n _ => mul_comm _ _

theorem result1 (h : Same m m' c) :
    (Cert.KernelAbBwdIdeal.Gen.dats m 0 c).arrAt 6 Cert.KernelAbBwdIdeal.cfg0.N = gainR m' c := by
  rw [array6]
  generalize hR : gainR m' c = R
  funext y
  have hy : y = ix2 0 (y 1) := by
    funext a
    match a with
    | 0 => exact Subsingleton.elim (α := Fin 1) _ _
    | 1 => rfl
  rw [hy, ← hR]
  exact gain_eq h _
end Equation

theorem frameK : Cert.quiescent_KernelAbBwd := fun m ρ _ => Cert.KernelAbBwd.Gen.frame m ρ

theorem frameKI : Cert.quiescent_KernelAbBwdIdeal := fun m ρ _ => Cert.KernelAbBwdIdeal.Gen.frame m ρ

theorem frameRI : Cert.quiescent_ReferenceAbBwdIdeal := fun m ρ _ =>
  (θ_run _ _ _).mono
    (fun r h => ⟨fun c => (h c).2.2, sem_eq_zero_of_no_sems (by decide) r.2⟩) (Cert.ReferenceAbBwdIdeal.Value.run m ρ)

theorem preserves : Cert.preserves_KernelAbBwd_KernelAbBwdIdeal := trivial

theorem algebraic : Cert.algebraic_KernelAbBwdIdeal_ReferenceAbBwdIdeal := by
  intro m g m' g' _ hagree
  have h : ∀ c, Same m m' c := fun c => by
    obtain ⟨h0, h1, h2, h3, h4⟩ := hagree c
    exact ⟨congrArg (fun (a : FVec Ideal Cert.KernelAbBwdIdeal.S8192x2560 .bf16) n k => a (ix2 n k)) h0,
      congrArg (fun (a : FVec Ideal Cert.KernelAbBwdIdeal.S1x1024x2560 .bf16) j k => a (ix3 0 j k)) h1,
      congrArg (fun (a : FVec Ideal Cert.KernelAbBwdIdeal.S8192x1024 .f32) n k => a (ix2 n k)) h2,
      congrArg (fun (a : FVec Ideal Cert.KernelAbBwdIdeal.S1x1024 .f32) k => a (ix2 0 k)) h3,
      congrArg (fun (a : FVec Ideal Cert.KernelAbBwdIdeal.S8192x1024 .f32) n k => a (ix2 n k)) h4⟩
  refine ⟨fun c => rowsR m' c, fun c => gainR m' c,
    (θ_run _ _ _).mono (fun r k c => ?_) (Cert.KernelAbBwdIdeal.Value.run_blocks m g),
    Cert.ReferenceAbBwdIdeal.Value.run m' g'⟩
  obtain ⟨k0, k1, ka⟩ := k c
  exact ⟨k0.trans (result0 (h c)), k1.trans (result1 (h c)), ka⟩

end Cert.AbBwd

end
-- ==== Proof.QkvBwd.Block.lean ====
module

public import proofs.«01_k».proof.Proof.Gen.KernelQkvBwdIdeal.Frame
public import proofs.«01_k».proof.Proof.AbBwd.Block

@[expose] public section

set_option maxRecDepth 16384

/-! What one grid point of the backward into the attention's projections computes: the point's 512 rows in two halves of
    256, and in each half the product with the weights as six products over 512 columns each. Six times 512 columns are
    eight shards of 384, so each of the six takes its columns from two shards. -/

noncomputable section

namespace Cert.QkvBwd

open Idealize.ShloMosaic Idealize.ShloMosaic.TcCoe Idealize.SL.Sem
open Cert.Norm (rinv meanSq rowKernel)
open Cert.AbBwd (gainTerm rowOf)
open Cert.KernelQkvBwdIdeal Cert.KernelQkvBwdIdeal.Gen

/-- A row of numbers against the rows of the weights. -/
def against (z : Fin 3072 → EReal) (w : Fin 1024 → Fin 3072 → EReal) (j : Fin 1024) : EReal := ∑ k, z k * w j k

theorem six (z : Fin 3072 → EReal) (w : Fin 1024 → Fin 3072 → EReal) (j : Fin 1024) : against z w j
    = ∑ q : Fin 6, ∑ l : Fin 512, z ⟨q.val * 512 + l.val, by omega⟩ * w j ⟨q.val * 512 + l.val, by omega⟩ :=
  (Fin.sum_mul_add_congr (L := 3072) (S := 6) (n := 512) fun q l hl => rfl).symm

/-- The block `a` is the columns from `512 q` on of the rows `z`; `b` and `b'` side by side are those columns of the
    weights `w`. -/
structure Chunk (z : Fin 256 → Fin 3072 → EReal) (w : Fin 1024 → Fin 3072 → EReal) (q : Fin 6) {n n' : ℕ} (hn : n + n' = 512)
    (a : FVec Ideal S256x512 .bf16) (b : FVec Ideal ⟨3, ![1, 1024, n]⟩ .bf16) (b' : FVec Ideal ⟨3, ![1, 1024, n']⟩ .bf16) : Prop where
  rows : ∀ i (l : Fin 512), a (ix2 i l) = z i ⟨q.val * 512 + l.val, by omega⟩
  left : ∀ j (l : Fin n), b (ix3 0 j l) = w j ⟨q.val * 512 + l.val, by omega⟩
  right : ∀ j (l : Fin n'), b' (ix3 0 j l) = w j ⟨q.val * 512 + n + l.val, by omega⟩

section Half
variable {z : Fin 256 → Fin 3072 → EReal} {w : Fin 1024 → Fin 3072 → EReal}

theorem Chunk.sum {q : Fin 6} {n n' : ℕ} {hn : n + n' = 512} {a : FVec Ideal S256x512 .bf16} {b : FVec Ideal ⟨3, ![1, 1024, n]⟩ .bf16}
    {b' : FVec Ideal ⟨3, ![1, 1024, n']⟩ .bf16} (h : Chunk z w q hn a b b') (i : Fin 256) (j : Fin 1024) :
    ∑ l : Fin n, a (ix2 i ⟨l.val, by omega⟩) * b (ix3 0 j l) + ∑ l : Fin n', a (ix2 i ⟨n + l.val, by omega⟩) * b' (ix3 0 j l)
      = ∑ l : Fin 512, z i ⟨q.val * 512 + l.val, by omega⟩ * w j ⟨q.val * 512 + l.val, by omega⟩ := by
  rw [← Fin.sum_congr' _ hn, Fin.sum_univ_add]
  refine congrArg₂ (· + ·) (Finset.sum_congr rfl fun l _ => congrArg₂ (· * ·) (h.rows i _) (h.left j l))
    (Finset.sum_congr rfl fun l _ => congrArg₂ (· * ·) (h.rows i _) ((h.right j l).trans (congrArg (w j) (Fin.ext ?_))))
  show q.val * 512 + n + l.val = q.val * 512 + (n + l.val)
  omega
end Half

/-- Six chunks, for all 3072 columns. -/
structure Chunks (z : Fin 256 → Fin 3072 → EReal) (w : Fin 1024 → Fin 3072 → EReal)
    (a0 : FVec Ideal S256x512 .bf16) (b0 : FVec Ideal S1x1024x384 .bf16) (b0' : FVec Ideal S1x1024x128 .bf16)
    (a1 : FVec Ideal S256x512 .bf16) (b1 b1' : FVec Ideal S1x1024x256 .bf16)
    (a2 : FVec Ideal S256x512 .bf16) (b2 : FVec Ideal S1x1024x128 .bf16) (b2' : FVec Ideal S1x1024x384 .bf16)
    (a3 : FVec Ideal S256x512 .bf16) (b3 : FVec Ideal S1x1024x384 .bf16) (b3' : FVec Ideal S1x1024x128 .bf16)
    (a4 : FVec Ideal S256x512 .bf16) (b4 b4' : FVec Ideal S1x1024x256 .bf16)
    (a5 : FVec Ideal S256x512 .bf16) (b5 : FVec Ideal S1x1024x128 .bf16) (b5' : FVec Ideal S1x1024x384 .bf16) : Prop where
  c0 : Chunk z w 0 (n := 384) (n' := 128) rfl a0 b0 b0'
  c1 : Chunk z w 1 (n := 256) (n' := 256) rfl a1 b1 b1'
  c2 : Chunk z w 2 (n := 128) (n' := 384) rfl a2 b2 b2'
  c3 : Chunk z w 3 (n := 384) (n' := 128) rfl a3 b3 b3'
  c4 : Chunk z w 4 (n := 256) (n' := 256) rfl a4 b4 b4'
  c5 : Chunk z w 5 (n := 128) (n' := 384) rfl a5 b5 b5'

section Half
variable {z : Fin 256 → Fin 3072 → EReal} {w : Fin 1024 → Fin 3072 → EReal}
  {a0 a1 a2 a3 a4 a5 : FVec Ideal S256x512 .bf16} {b0 b2' b3 b5' : FVec Ideal S1x1024x384 .bf16}
  {b0' b2 b3' b5 : FVec Ideal S1x1024x128 .bf16} {b1 b1' b4 b4' : FVec Ideal S1x1024x256 .bf16}

theorem Chunks.sum (h : Chunks z w a0 b0 b0' a1 b1 b1' a2 b2 b2' a3 b3 b3' a4 b4 b4' a5 b5 b5') (i : Fin 256) (j : Fin 1024) :
    (∑ l : Fin 384, a0 (ix2 i ⟨l.val, by omega⟩) * b0 (ix3 0 j l) + ∑ l : Fin 128, a0 (ix2 i ⟨384 + l.val, by omega⟩) * b0' (ix3 0 j l))
      + (∑ l : Fin 256, a1 (ix2 i ⟨l.val, by omega⟩) * b1 (ix3 0 j l) + ∑ l : Fin 256, a1 (ix2 i ⟨256 + l.val, by omega⟩) * b1' (ix3 0 j l))
      + (∑ l : Fin 128, a2 (ix2 i ⟨l.val, by omega⟩) * b2 (ix3 0 j l) + ∑ l : Fin 384, a2 (ix2 i ⟨128 + l.val, by omega⟩) * b2' (ix3 0 j l))
      + (∑ l : Fin 384, a3 (ix2 i ⟨l.val, by omega⟩) * b3 (ix3 0 j l) + ∑ l : Fin 128, a3 (ix2 i ⟨384 + l.val, by omega⟩) * b3' (ix3 0 j l))
      + (∑ l : Fin 256, a4 (ix2 i ⟨l.val, by omega⟩) * b4 (ix3 0 j l) + ∑ l : Fin 256, a4 (ix2 i ⟨256 + l.val, by omega⟩) * b4' (ix3 0 j l))
      + (∑ l : Fin 128, a5 (ix2 i ⟨l.val, by omega⟩) * b5 (ix3 0 j l) + ∑ l : Fin 384, a5 (ix2 i ⟨128 + l.val, by omega⟩) * b5' (ix3 0 j l))
      = against (z i) w j := by
  rw [six, Fin.sum_univ_six]
  exact congrArg₂ (· + ·) (congrArg₂ (· + ·) (congrArg₂ (· + ·) (congrArg₂ (· + ·) (congrArg₂ (· + ·) (h.c0.sum i j) (h.c1.sum i j))
    (h.c2.sum i j)) (h.c3.sum i j)) (h.c4.sum i j)) (h.c5.sum i j)

theorem dhFirst (h : Chunks z w a0 b0 b0' a1 b1 b1' a2 b2 b2' a3 b3 b3' a4 b4 b4' a5 b5 b5')
    (i : Fin 256) (j : Fin 1024) :
    k0_pay4 (F := Ideal) (k0_pay3 a0 b0 b0' a1 b1 b1' a2 b2 b2') a3 b3 b3' a4 b4 b4' a5 b5 b5' (ix2 i j) = against (z i) w j := by
  pointwise [k0_pay3, k0_pay4]
  exact h.sum i j

theorem dhSecond (h : Chunks z w a0 b0 b0' a1 b1 b1' a2 b2 b2' a3 b3 b3' a4 b4 b4' a5 b5 b5')
    (i : Fin 256) (j : Fin 1024) :
    k0_pay14 (F := Ideal) (k0_pay12 (k0_pay11 a0 b0 b0') a1 b1 b1' a2 b2 b2' a3 b3 b3') a4 (k0_pay13 b4) b4' a5 b5 b5' (ix2 i j) = against (z i) w j := by
  pointwise [k0_pay11, k0_pay12, k0_pay13, k0_pay14]
  exact h.sum i j

variable (x d s p h : FVec Ideal S256x1024 .f32) (g acc : FVec Ideal S1x1024 .f32) (i : Fin 256) (j : Fin 1024)

theorem pay7 : k0_pay7 (F := Ideal) (k0_pay5 x) (k0_pay6 (F := Ideal)) (ix2 i 0) = rinv fun k => x (ix2 i k) := by
  pointwise [k0_pay5, k0_pay6, k0_pay7, rinv, meanSq]

theorem pay8 : k0_pay8 (F := Ideal) x (k0_pay5 x) (k0_pay6 (F := Ideal)) (ix2 i j) = x (ix2 i j) * rinv fun k => x (ix2 i k) := by
  pointwise [k0_pay8, pay7]

theorem pay10 : k0_pay10 (F := Ideal) h x (k0_pay5 x) (k0_pay6 (F := Ideal)) g d (ix2 i j)
    = rowKernel (fun k => d (ix2 i k)) (fun k => h (ix2 i k) * g (ix2 0 k)) (fun k => x (ix2 i k)) j := by
  pointwise [k0_pay10, rowKernel, pay7, pay8]

theorem pay9 : k0_pay9 (F := Ideal) h x (k0_pay5 x) (k0_pay6 (F := Ideal)) acc (ix2 0 j) = acc (ix2 0 j)
    + ∑ i, h (ix2 i j) * (x (ix2 i j) * rinv fun k => x (ix2 i k)) := by
  pointwise [k0_pay9, pay8]

theorem pay15 : k0_pay15 (F := Ideal) x (ix2 i 0) = rinv fun k => x (ix2 i k) := by
  pointwise [k0_pay15, rinv, meanSq]

theorem pay16 : k0_pay16 (F := Ideal) x (ix2 i j) = x (ix2 i j) * rinv fun k => x (ix2 i k) := by
  pointwise [k0_pay16, pay15]

theorem pay2 : k0_pay2 (F := Ideal) (ix2 0 j) = 0 := by
  pointwise [k0_pay2]

variable (u : FVec Ideal S256x1024 .f32) (a a' : FVec Ideal S256x512 .bf16) (b : FVec Ideal S1024x256 .bf16) (b' : FVec Ideal S1x1024x256 .bf16)
  (e : FVec Ideal S1x1024x128 .bf16) (e' : FVec Ideal S1x1024x384 .bf16)

theorem pay1 : k0_pay1 (F := Ideal) (k0_pay15 x) (k0_pay16 x) (k0_pay18 u a b b' a' e e' g) d (ix2 i j)
    = rowKernel (fun k => d (ix2 i k)) (fun k => k0_pay14 (F := Ideal) u a b b' a' e e' (ix2 i k) * g (ix2 0 k)) (fun k => x (ix2 i k)) j := by
  pointwise [k0_pay1, k0_pay18, rowKernel, pay15, pay16]

theorem pay17 : k0_pay17 (F := Ideal) u a b b' a' e e' x acc (ix2 0 j) = acc (ix2 0 j)
    + ∑ i, k0_pay14 (F := Ideal) u a b b' a' e e' (ix2 i j) * (x (ix2 i j) * rinv fun k => x (ix2 i k)) := by
  pointwise [k0_pay17, pay16]
end Half

section Block
variable (x0 x1 x2 : FVec Ideal S512x1024 .bf16) (x3 : FVec Ideal S8x1024x384 .bf16) (x4 : FVec Ideal S512x1024 .f32)
  (x5 : FVec Ideal S1x1024 .f32) (x6 : FVec Ideal S512x1024 .f32)

/-- Three rows of 1024 numbers one after the other. -/
def joined (a b c : Fin 1024 → EReal) (k : Fin 3072) : EReal :=
  if h : k.val < 1024 then a ⟨k.val, h⟩ else if h' : k.val < 2048 then b ⟨k.val - 1024, by omega⟩ else c ⟨k.val - 2048, by omega⟩

/-- The columns of eight shards one after the other. -/
def shards (w : Fin 8 → Fin 1024 → Fin 384 → EReal) (j : Fin 1024) (k : Fin 3072) : EReal :=
  w ⟨k.val / 384, by omega⟩ j ⟨k.val % 384, by omega⟩

theorem joined_0 (a b c : Fin 1024 → EReal) (k : Fin 3072) (l : Fin 1024) (h : k.val = l.val) : joined a b c k = a l := by
  rw [joined, dif_pos (by omega)]
  exact congrArg a (Fin.ext h)
theorem joined_1 (a b c : Fin 1024 → EReal) (k : Fin 3072) (l : Fin 1024) (h : k.val = 1024 + l.val) : joined a b c k = b l := by
  rw [joined, dif_neg (by omega), dif_pos (by omega)]
  exact congrArg b (Fin.ext (by show k.val - 1024 = l.val; omega))
theorem joined_2 (a b c : Fin 1024 → EReal) (k : Fin 3072) (l : Fin 1024) (h : k.val = 2048 + l.val) : joined a b c k = c l := by
  rw [joined, dif_neg (by omega), dif_neg (by omega)]
  exact congrArg c (Fin.ext (by show k.val - 2048 = l.val; omega))

theorem shards_at (w : Fin 8 → Fin 1024 → Fin 384 → EReal) (j : Fin 1024) (k : Fin 3072) (s : Fin 8) (l : Fin 384)
    (h : k.val = s.val * 384 + l.val) : shards w j k = w s j l :=
  congrArg₂ (fun s l => w s j l) (Fin.ext (by show k.val / 384 = s.val; omega)) (Fin.ext (by show k.val % 384 = l.val; omega))

/-- The cotangents' row `i` of a block, and the block's weights. -/
def zRow (i : Fin 512) : Fin 3072 → EReal := joined (fun k => x0 (ix2 i k)) (fun k => x1 (ix2 i k)) (fun k => x2 (ix2 i k))
def wRow : Fin 1024 → Fin 3072 → EReal := shards fun s j l => x3 (ix3 s j l)

/-- The cotangent of the normed row `i` of a block. -/
def blockDh (i : Fin 512) : Fin 1024 → EReal := against (zRow x0 x1 x2 i) (wRow x3)

/-- Row `i` of a point's gradient, and its contribution to the gradient of the gain. -/
def blockRow (i : Fin 512) : Fin 1024 → EReal :=
  rowKernel (fun k => x6 (ix2 i k)) (fun k => blockDh x0 x1 x2 x3 i k * x5 (ix2 0 k)) (fun k => x4 (ix2 i k))
def blockGain (i : Fin 512) : Fin 1024 → EReal := gainTerm (blockDh x0 x1 x2 x3 i) (fun k => x4 (ix2 i k))

/-- A part of the rows from `r` and of the columns from `s` on. -/
abbrev part (x : FVec Ideal S512x1024 .bf16) (r s : ℕ) (h : ∀ a, ![r, s] a + ![256, 512] a ≤ S512x1024.size a) : FVec Ideal S256x512 .bf16 :=
  View.ld (Val := Elt Ideal) (e' := .bf16) x (Rect.unit ![r, s] ![256, 512] h)

/-- The `n` lanes from `o` on of a shard of the weights. -/
abbrev lanesOf (s o n : ℕ) (h : ∀ a, ![s, 0, o] a + ![1, 1024, n] a ≤ S8x1024x384.size a) : FVec Ideal ⟨3, ![1, 1024, n]⟩ .bf16 :=
  View.ld (Val := Elt Ideal) (e' := .bf16) x3 (Rect.unit ![s, 0, o] ![1, 1024, n] h)

theorem part_apply (x : FVec Ideal S512x1024 .bf16) (r s : ℕ) (hr : r + 256 ≤ 512) (hs : s + 512 ≤ 1024) (h) (i : Fin 256) (l : Fin 512) :
    part x r s h (ix2 i l) = x (ix2 (rowOf r hr i) ⟨s + l.val, by omega⟩) := by
  refine congrArg x (funext fun a => Fin.ext ?_)
  match a with
  | 0 => simp [Rect.unit, rowOf]
  | 1 => simp [Rect.unit]

theorem part_0 (r s : ℕ) (hr : r + 256 ≤ 512) (hs : s + 512 ≤ 1024) (h) (i : Fin 256) (l : Fin 512) (k : Fin 3072) (hk : k.val = (s + l.val)) :
    part x0 r s h (ix2 i l) = zRow x0 x1 x2 (rowOf r hr i) k :=
  (part_apply x0 r s hr hs h i l).trans (joined_0 (fun k => x0 (ix2 (rowOf r hr i) k)) (fun k => x1 (ix2 (rowOf r hr i) k)) (fun k => x2 (ix2 (rowOf r hr i) k)) k ⟨s + l.val, by omega⟩ hk).symm

theorem part_1 (r s : ℕ) (hr : r + 256 ≤ 512) (hs : s + 512 ≤ 1024) (h) (i : Fin 256) (l : Fin 512) (k : Fin 3072) (hk : k.val = 1024 + (s + l.val)) :
    part x1 r s h (ix2 i l) = zRow x0 x1 x2 (rowOf r hr i) k :=
  (part_apply x1 r s hr hs h i l).trans (joined_1 (fun k => x0 (ix2 (rowOf r hr i) k)) (fun k => x1 (ix2 (rowOf r hr i) k)) (fun k => x2 (ix2 (rowOf r hr i) k)) k ⟨s + l.val, by omega⟩ hk).symm

theorem part_2 (r s : ℕ) (hr : r + 256 ≤ 512) (hs : s + 512 ≤ 1024) (h) (i : Fin 256) (l : Fin 512) (k : Fin 3072) (hk : k.val = 2048 + (s + l.val)) :
    part x2 r s h (ix2 i l) = zRow x0 x1 x2 (rowOf r hr i) k :=
  (part_apply x2 r s hr hs h i l).trans (joined_2 (fun k => x0 (ix2 (rowOf r hr i) k)) (fun k => x1 (ix2 (rowOf r hr i) k)) (fun k => x2 (ix2 (rowOf r hr i) k)) k ⟨s + l.val, by omega⟩ hk).symm

theorem lanesOf_apply (s : Fin 8) (o n : ℕ) (ho : o + n ≤ 384) (h) (j : Fin 1024) (l : Fin n) :
    lanesOf x3 s.val o n h (ix3 0 j l) = x3 (ix3 s j ⟨o + l.val, by omega⟩) := by
  refine congrArg x3 (funext fun a => Fin.ext ?_)
  match a with
  | 0 => simp [Rect.unit]
  | 1 => simp [Rect.unit]
  | 2 => simp [Rect.unit]

theorem lanesOf_shards (s : Fin 8) (o n : ℕ) (ho : o + n ≤ 384) (h) (j : Fin 1024) (l : Fin n) (k : Fin 3072)
    (hk : k.val = s.val * 384 + (o + l.val)) : lanesOf x3 s.val o n h (ix3 0 j l) = wRow x3 j k :=
  (lanesOf_apply x3 s o n ho h j l).trans (shards_at (fun s j l => x3 (ix3 s j l)) j k s ⟨o + l.val, by omega⟩ hk).symm

theorem chunks (r : ℕ) (hr : r + 256 ≤ 512) (h0) (h1) (g0) (g1) (g2) (g3) (g4) (g5) (g6) (g7) (g8) (g9) (g10) (g11) :
    Chunks (fun i => zRow x0 x1 x2 (rowOf r hr i)) (wRow x3)
      (part x0 r 0 h0) (lanesOf x3 0 0 384 g0) (lanesOf x3 1 0 128 g1) (part x0 r 512 h1) (lanesOf x3 1 128 256 g2) (lanesOf x3 2 0 256 g3)
      (part x1 r 0 h0) (lanesOf x3 2 256 128 g4) (lanesOf x3 3 0 384 g5) (part x1 r 512 h1) (lanesOf x3 4 0 384 g6) (lanesOf x3 5 0 128 g7)
      (part x2 r 0 h0) (lanesOf x3 5 128 256 g8) (lanesOf x3 6 0 256 g9) (part x2 r 512 h1) (lanesOf x3 6 256 128 g10) (lanesOf x3 7 0 384 g11) where
  c0 := ⟨fun i l => part_0 x0 x1 x2 r 0 hr (by decide) h0 i l _ (by simp),
    fun j l => lanesOf_shards x3 0 0 384 (by decide) g0 j l _ (by simp), fun j l => lanesOf_shards x3 1 0 128 (by decide) g1 j l _ (by simp)⟩
  c1 := ⟨fun i l => part_0 x0 x1 x2 r 512 hr (by decide) h1 i l _ (by simp),
    fun j l => lanesOf_shards x3 1 128 256 (by decide) g2 j l _ (by simp <;> omega), fun j l => lanesOf_shards x3 2 0 256 (by decide) g3 j l _ (by simp)⟩
  c2 := ⟨fun i l => part_1 x0 x1 x2 r 0 hr (by decide) h0 i l _ (by simp),
    fun j l => lanesOf_shards x3 2 256 128 (by decide) g4 j l _ (by simp <;> omega), fun j l => lanesOf_shards x3 3 0 384 (by decide) g5 j l _ (by simp)⟩
  c3 := ⟨fun i l => part_1 x0 x1 x2 r 512 hr (by decide) h1 i l _ (by simp <;> omega),
    fun j l => lanesOf_shards x3 4 0 384 (by decide) g6 j l _ (by simp), fun j l => lanesOf_shards x3 5 0 128 (by decide) g7 j l _ (by simp)⟩
  c4 := ⟨fun i l => part_2 x0 x1 x2 r 0 hr (by decide) h0 i l _ (by simp),
    fun j l => lanesOf_shards x3 5 128 256 (by decide) g8 j l _ (by simp <;> omega), fun j l => lanesOf_shards x3 6 0 256 (by decide) g9 j l _ (by simp)⟩
  c5 := ⟨fun i l => part_2 x0 x1 x2 r 512 hr (by decide) h1 i l _ (by simp <;> omega),
    fun j l => lanesOf_shards x3 6 256 128 (by decide) g10 j l _ (by simp <;> omega), fun j l => lanesOf_shards x3 7 0 384 (by decide) g11 j l _ (by simp)⟩

theorem rows (x : FVec Ideal S512x1024 .f32) (r : ℕ) (hr : r + 256 ≤ 512) (ha : ∀ a, ![r, 0] a + ![256, 1024] a ≤ S512x1024.size a)
    (i : Fin 256) (k : Fin 1024) :
    View.ld (Val := Elt Ideal) (e' := .f32) x (Rect.unit ![r, 0] ![256, 1024] ha) (ix2 i k) = x (ix2 (rowOf r hr i) k) :=
  Cert.AbBwd.rows x r hr ha i k

section
variable {x0 x1 x2 x3 x4 x5 x6} {a0 a1 a2 a3 a4 a5 : FVec Ideal S256x512 .bf16} {b0 b2' b3 b5' : FVec Ideal S1x1024x384 .bf16}
  {b0' b2 b3' b5 : FVec Ideal S1x1024x128 .bf16} {b1 b1' b4 b4' : FVec Ideal S1x1024x256 .bf16}
  {x d : FVec Ideal S256x1024 .f32} {r : Fin 256 → Fin 512}
  (h : Chunks (fun i => zRow x0 x1 x2 (r i)) (wRow x3) a0 b0 b0' a1 b1 b1' a2 b2 b2' a3 b3 b3' a4 b4 b4' a5 b5 b5')
  (hx : ∀ i k, x (ix2 i k) = x4 (ix2 (r i) k)) (hd : ∀ i k, d (ix2 i k) = x6 (ix2 (r i) k))
include h hx

theorem gainFirst (acc : FVec Ideal S1x1024 .f32) (j : Fin 1024) :
    k0_pay9 (F := Ideal) (k0_pay4 (k0_pay3 a0 b0 b0' a1 b1 b1' a2 b2 b2') a3 b3 b3' a4 b4 b4' a5 b5 b5') x (k0_pay5 x) (k0_pay6 (F := Ideal)) acc (ix2 0 j)
      = acc (ix2 0 j) + ∑ i, blockGain x0 x1 x2 x3 x4 (r i) j := by
  rw [pay9]
  simp only [dhFirst h, hx]
  rfl

theorem gainSecond (acc : FVec Ideal S1x1024 .f32) (j : Fin 1024) :
    k0_pay17 (F := Ideal) (k0_pay12 (k0_pay11 a0 b0 b0') a1 b1 b1' a2 b2 b2' a3 b3 b3') a4 (k0_pay13 b4) b4' a5 b5 b5' x acc (ix2 0 j)
      = acc (ix2 0 j) + ∑ i, blockGain x0 x1 x2 x3 x4 (r i) j := by
  rw [pay17]
  simp only [dhSecond h, hx]
  rfl

include hd

theorem rowFirst (i : Fin 256) (j : Fin 1024) :
    k0_pay10 (F := Ideal) (k0_pay4 (k0_pay3 a0 b0 b0' a1 b1 b1' a2 b2 b2') a3 b3 b3' a4 b4 b4' a5 b5 b5') x (k0_pay5 x) (k0_pay6 (F := Ideal)) x5 d (ix2 i j)
      = blockRow x0 x1 x2 x3 x4 x5 x6 (r i) j := by
  rw [pay10]
  simp only [dhFirst h, hx, hd]
  rfl

theorem rowSecond (i : Fin 256) (j : Fin 1024) :
    k0_pay1 (F := Ideal) (k0_pay15 x) (k0_pay16 x) (k0_pay18 (k0_pay12 (k0_pay11 a0 b0 b0') a1 b1 b1' a2 b2 b2' a3 b3 b3') a4 (k0_pay13 b4) b4' a5 b5 b5' x5) d (ix2 i j)
      = blockRow x0 x1 x2 x3 x4 x5 x6 (r i) j := by
  rw [pay1]
  simp only [dhSecond h, hx, hd]
  rfl
end
end Block

variable (m : (ℓ : Loc nD τ sig) → Buf (Elt Ideal) ℓ)

theorem point7 (c : Dev nD) (t : Fin cfg0.N) (i : Fin 512) (j : Fin 1024) :
    (outsAt0 m c t.val t.isLt).1 (ix2 i j)
      = blockRow (iblk m c 0 t) (iblk m c 1 t) (iblk m c 2 t) (iblk m c 3 t) (iblk m c 4 t) (iblk m c 5 t) (iblk m c 6 t) i j := by
  by_cases h0 : t.val % 16 = 0
  · rw [outsAt0_A m c t h0]
    frame_out
    canon_tiles x h
    · idx_vars x
      refine (rowSecond (chunks _ _ _ _ 256 (by decide) _ _ _ _ _ _ _ _ _ _ _ _ _ _) (rows _ 256 (by decide) _) (rows _ 256 (by decide) _) _ _).trans ?_
      congr 1 <;> exact Fin.ext (by simp_all [rowOf])
    · idx_vars x
      refine (rowFirst (chunks _ _ _ _ 0 (by decide) _ _ _ _ _ _ _ _ _ _ _ _ _ _) (rows _ 0 (by decide) _) (rows _ 0 (by decide) _) _ _).trans ?_
      congr 1 <;> exact Fin.ext (by simp_all [rowOf])
  · rw [outsAt0_B m c t h0]
    frame_out
    canon_tiles x h
    · idx_vars x
      refine (rowSecond (chunks _ _ _ _ 256 (by decide) _ _ _ _ _ _ _ _ _ _ _ _ _ _) (rows _ 256 (by decide) _) (rows _ 256 (by decide) _) _ _).trans ?_
      congr 1 <;> exact Fin.ext (by simp_all [rowOf])
    · idx_vars x
      refine (rowFirst (chunks _ _ _ _ 0 (by decide) _ _ _ _ _ _ _ _ _ _ _ _ _ _) (rows _ 0 (by decide) _) (rows _ 0 (by decide) _) _ _).trans ?_
      congr 1 <;> exact Fin.ext (by simp_all [rowOf])

theorem point8 (c : Dev nD) (t : Fin cfg0.N) (j : Fin 1024) (h0 : t.val % 16 = 0) :
    (outsAt0 m c t.val t.isLt).2 (ix2 0 j)
      = ∑ i, blockGain (iblk m c 0 t) (iblk m c 1 t) (iblk m c 2 t) (iblk m c 3 t) (iblk m c 4 t) i j := by
  rw [outsAt0_A m c t h0]
  frame_out
  refine (gainSecond (chunks _ _ _ _ 256 (by decide) _ _ _ _ _ _ _ _ _ _ _ _ _ _) (rows _ 256 (by decide) _) _ _).trans ?_
  refine (congrArg (· + _) (gainFirst (chunks _ _ _ _ 0 (by decide) _ _ _ _ _ _ _ _ _ _ _ _ _ _) (rows _ 0 (by decide) _) _ _)).trans ?_
  rw [Cert.AbBwd.halves (fun i => blockGain (iblk m c 0 t) (iblk m c 1 t) (iblk m c 2 t) (iblk m c 3 t) (iblk m c 4 t) i j), pay2, zero_add]

theorem step8 (c : Dev nD) (t : Fin cfg0.N) (j : Fin 1024) (h0 : ¬ t.val % 16 = 0) :
    (outsAt0 m c t.val t.isLt).2 (ix2 0 j)
      = (outsAt0 m c (t.val - 1) (Nat.lt_of_le_of_lt (Nat.sub_le _ _) t.isLt)).2 (ix2 0 j)
        + ∑ i, blockGain (iblk m c 0 t) (iblk m c 1 t) (iblk m c 2 t) (iblk m c 3 t) (iblk m c 4 t) i j := by
  rw [outsAt0_B m c t h0]
  frame_out
  refine (gainSecond (chunks _ _ _ _ 256 (by decide) _ _ _ _ _ _ _ _ _ _ _ _ _ _) (rows _ 256 (by decide) _) _ _).trans ?_
  refine (congrArg (· + _) (gainFirst (chunks _ _ _ _ 0 (by decide) _ _ _ _ _ _ _ _ _ _ _ _ _ _) (rows _ 0 (by decide) _) _ _)).trans ?_
  rw [Cert.AbBwd.halves (fun i => blockGain (iblk m c 0 t) (iblk m c 1 t) (iblk m c 2 t) (iblk m c 3 t) (iblk m c 4 t) i j)]

end Cert.QkvBwd

end
-- ==== Proof.QkvBwd.Equation.lean ====
module

public import proofs.«01_k».proof.Defs
public import proofs.«01_k».proof.Proof.Gen.KernelQkvBwd.Frame
public import proofs.«01_k».proof.Proof.Gen.KernelQkvBwdIdeal.Value
public import proofs.«01_k».proof.Proof.Gen.ReferenceQkvBwdIdeal.Run
public import proofs.«01_k».proof.Proof.Norm.Forms
public import proofs.«01_k».proof.Proof.QkvBwd.Block

@[expose] public section

set_option maxRecDepth 16384

/-! The backward into the attention's projections: the two result arrays, and that the reference has the same. -/

noncomputable section

namespace Cert.QkvBwd

open Idealize.ShloMosaic Idealize.ShloMosaic.TcCoe Idealize.SL.Sem
open Idealize.ShloMosaic.Pipeline (Dat)
open Cert.Norm (rinv meanSq rowKernel rowReference row_eq)
open Cert.AbBwd (gainTerm)

section Result
variable (Z : Fin 8192 → Fin 3072 → EReal) (W : Fin 1024 → Fin 3072 → EReal) (X : Fin 8192 → Fin 1024 → EReal)
  (G : Fin 1024 → EReal) (D : Fin 8192 → Fin 1024 → EReal)

/-- Row `n` of the gradient of the layer's input. -/
def gradRow (n : Fin 8192) : Fin 1024 → EReal := rowKernel (D n) (fun k => against (Z n) W k * G k) (X n)

/-- Lane `j` of the gradient of the gain. -/
def gradGain (j : Fin 1024) : EReal := ∑ n : Fin 8192, gainTerm (against (Z n) W) (X n) j
end Result

section Kernel
open Cert.KernelQkvBwdIdeal Cert.KernelQkvBwdIdeal.Gen
variable (m : (ℓ : Loc nD τ sig) → Buf (Elt Ideal) ℓ) (c : Dev nD)

/-- The argument arrays of the kernel by coordinates: the three cotangents side by side, the shards of the weights. -/
def zK (n : Fin 8192) : Fin 3072 → EReal := joined (fun k => m ((c : Thread nD τ).loc main_arg0) (ix2 n k))
  (fun k => m ((c : Thread nD τ).loc main_arg1) (ix2 n k)) (fun k => m ((c : Thread nD τ).loc main_arg2) (ix2 n k))
def wK : Fin 1024 → Fin 3072 → EReal := shards fun s j l => m ((c : Thread nD τ).loc main_arg3) (ix3 s j l)
def xK (n : Fin 8192) (k : Fin 1024) : EReal := m ((c : Thread nD τ).loc main_arg4) (ix2 n k)
def gK (k : Fin 1024) : EReal := m ((c : Thread nD τ).loc main_arg5) (ix2 0 k)
def dK (n : Fin 8192) (k : Fin 1024) : EReal := m ((c : Thread nD τ).loc main_arg6) (ix2 n k)

theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

theorem points : cfg0.N = 16 := N_0

theorem rowAt_lt (t : Fin cfg0.N) (i : Fin 512) : t.val * 512 + i.val < 8192 := by
  have h : t.val < 16 := lt_of_lt_of_eq t.isLt points
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 1024) : iblk m c 0 t (ix2 i k) = m ((c : Thread nD τ).loc main_arg0) (ix2 (rowAt t i) k) := by
  show _ = m ((c : Thread nD τ).loc main_arg0) (ix2 ⟨t.val * 512 + i.val, rowAt_lt t i⟩ k)
  blk_point [iblk, V, idx t]
theorem read1 (t : Fin cfg0.N) (i : Fin 512) (k : Fin 1024) : iblk m c 1 t (ix2 i k) = m ((c : Thread nD τ).loc main_arg1) (ix2 (rowAt t i) k) := by
  show _ = m ((c : Thread nD τ).loc main_arg1) (ix2 ⟨t.val * 512 + i.val, rowAt_lt t i⟩ k)
  blk_point [iblk, V, idx t]
theorem read2 (t : Fin cfg0.N) (i : Fin 512) (k : Fin 1024) : iblk m c 2 t (ix2 i k) = m ((c : Thread nD τ).loc main_arg2) (ix2 (rowAt t i) k) := by
  show _ = m ((c : Thread nD τ).loc main_arg2) (ix2 ⟨t.val * 512 + i.val, rowAt_lt t i⟩ k)
  blk_point [iblk, V, idx t]
theorem read3 (t : Fin cfg0.N) (s : Fin 8) (j : Fin 1024) (l : Fin 384) : iblk m c 3 t (ix3 s j l) = m ((c : Thread nD τ).loc main_arg3) (ix3 s j l) := by
  blk_point [iblk, V, idx t]
theorem read4 (t : Fin cfg0.N) (i : Fin 512) (k : Fin 1024) : iblk m c 4 t (ix2 i k) = m ((c : Thread nD τ).loc main_arg4) (ix2 (rowAt t i) k) := by
  show _ = m ((c : Thread nD τ).loc main_arg4) (ix2 ⟨t.val * 512 + i.val, rowAt_lt t i⟩ k)
  blk_point [iblk, V, idx t]
theorem read5 (t : Fin cfg0.N) (k : Fin 1024) : iblk m c 5 t (ix2 0 k) = m ((c : Thread nD τ).loc main_arg5) (ix2 0 k) := by
  blk_point [iblk, V, idx t]
theorem read6 (t : Fin cfg0.N) (i : Fin 512) (k : Fin 1024) : iblk m c 6 t (ix2 i k) = m ((c : Thread nD τ).loc main_arg6) (ix2 (rowAt t i) k) := by
  show _ = m ((c : Thread nD τ).loc main_arg6) (ix2 ⟨t.val * 512 + i.val, rowAt_lt t i⟩ k)
  blk_point [iblk, V, idx t]

theorem blockDh_eq (t : Fin cfg0.N) (i : Fin 512) :
    blockDh (iblk m c 0 t) (iblk m c 1 t) (iblk m c 2 t) (iblk m c 3 t) i = against (zK m c (rowAt t i)) (wK m c) := by
  simp only [blockDh, zRow, wRow, zK, wK, read0, read1, read2, read3]

theorem blockRow_eq (t : Fin cfg0.N) (i : Fin 512) :
    blockRow (iblk m c 0 t) (iblk m c 1 t) (iblk m c 2 t) (iblk m c 3 t) (iblk m c 4 t) (iblk m c 5 t) (iblk m c 6 t) i
      = gradRow (zK m c) (wK m c) (xK m c) (gK m c) (dK m c) (rowAt t i) := by
  simp only [blockRow, gradRow, blockDh_eq, read4, read5, read6]
  rfl

theorem blockGain_eq (t : Fin cfg0.N) (i : Fin 512) :
    blockGain (iblk m c 0 t) (iblk m c 1 t) (iblk m c 2 t) (iblk m c 3 t) (iblk m c 4 t) i
      = gainTerm (against (zK m c (rowAt t i)) (wK m c)) (xK m c (rowAt t i)) := by
  simp only [blockGain, blockDh_eq, read4]
  rfl

theorem array7 : (dats m 0 c).arrAt 7 cfg0.N
    = fun y : S8192x1024.Idx => gradRow (zK m c) (wK m c) (xK m c) (gK m c) (dK m c) (y 0) (y 1) := by
  refine (dats m 0 c).arrAt_eq_of_covers 7 _ (by decide +kernel) fun t hf y => ?_
  blk_simp
  rw [after0_7]
  idx_vars y
  rw [point7, blockRow_eq]
  refine congrArg₂ (gradRow (zK m c) (wK m c) (xK m c) (gK m c) (dK m c)) (Fin.ext ?_) (Fin.ext ?_)
  · show t.val * 512 + y0.val = _
    blk_simp [idx t]
  · blk_simp [idx t]

theorem array8 : (dats m 0 c).arrAt 8 cfg0.N
    = fun y : S1x1024.Idx => gradGain (zK m c) (wK m c) (xK m c) (y 1) := by
  refine (dats m 0 c).arrAt_eq_of_after_last 8 t0_15 (by decide +kernel) _ fun y => ?_
  blk_simp
  idx_vars y
  obtain rfl : y0 = 0 := Subsingleton.elim _ _
  rw [after0_8]
  refine (Pipeline.eq_sum_fin_of_reset_step_apply_last (fun n h => (outsAt0 m c n h).2) 16 (fun _ => (0 : EReal))
    (fun t y => ∑ i, blockGain (iblk m c 0 t) (iblk m c 1 t) (iblk m c 2 t) (iblk m c 3 t) (iblk m c 4 t) i (y 1))
    (fun t h y => ?_) (fun t h y => ?_) (le_of_eq points) t0_15 rfl (ix2 0 y1)).trans ?_
  · idx_vars y
    obtain rfl : y0 = 0 := Subsingleton.elim _ _
    exact (point8 m c t y1 h).trans (zero_add _).symm
  · idx_vars y
    obtain rfl : y0 = 0 := Subsingleton.elim _ _
    exact step8 m c t y1 h
  · rw [zero_add]
    simp only [blockGain_eq]
    exact Fin.sum_mul_add_congr (L := 8192) (S := 16) (n := 512) (f := fun n => gainTerm (against (zK m c n) (wK m c)) (xK m c n) y1) fun t i h => rfl
end Kernel

section Reference
open Cert.ReferenceQkvBwdIdeal Cert.ReferenceQkvBwdIdeal.Gen Cert.ReferenceQkvBwdIdeal.Value
variable (m : (ℓ : Loc nD τ sig) → Buf (Elt Ideal) ℓ) (c : Dev nD)

/-- The argument arrays of the reference by coordinates. -/
def zR (n : Fin 8192) : Fin 3072 → EReal := joined (fun k => m ((c : Thread nD τ).loc main_arg0) (ix2 n k))
  (fun k => m ((c : Thread nD τ).loc main_arg1) (ix2 n k)) (fun k => m ((c : Thread nD τ).loc main_arg2) (ix2 n k))
def wR : Fin 1024 → Fin 3072 → EReal := shards fun s j l => m ((c : Thread nD τ).loc main_arg3) (ix3 s j l)
def xR (n : Fin 8192) (k : Fin 1024) : EReal := m ((c : Thread nD τ).loc main_arg4) (ix2 n k)
def gR (k : Fin 1024) : EReal := m ((c : Thread nD τ).loc main_arg5) (ix2 0 k)
def dR (n : Fin 8192) (k : Fin 1024) : EReal := m ((c : Thread nD τ).loc main_arg6) (ix2 n k)

/-- The three cotangents side by side. -/
def side (a b d : FVec Ideal S8192x1024 .bf16) : FVec Ideal S8192x3072 .bf16 :=
  concatenate S8192x3072 1 [⟨S8192x1024, a⟩, ⟨S8192x1024, b⟩, ⟨S8192x1024, d⟩] concatenates_S8192x1024_S8192x1024_S8192x1024_S8192x3072_d1

theorem side_apply (a b d : FVec Ideal S8192x1024 .bf16) (n : Fin 8192) (k : Fin 3072) :
    side a b d (ix2 n k) = joined (fun k => a (ix2 n k)) (fun k => b (ix2 n k)) (fun k => d (ix2 n k)) k := by
  pointwise [side, joined]
  by_cases h : k.val < 1024
  · rw [dif_pos h, dif_pos h]
  · rw [dif_neg h, dif_neg h]
    by_cases h' : k.val < 2048
    · rw [dif_pos h', dif_pos (by omega)]
    · rw [dif_neg h', dif_neg (by omega)]
      rfl

/-- The reference's cotangent of the normed rows, of given arrays. -/
def product (z : FVec Ideal S8192x3072 .bf16) (w : FVec Ideal S8x1024x384 .bf16) : FVec Ideal S8192x1024 .f32 :=
  Host.dotGeneral dot_S8192x3072_S1024x3072_S8192x1024_1_1_0_0_n_n none (extf .f32 z bitsLt_bf16_f32)
    (extf .f32 (shapeCast S1024x3072 (transpose S1024x8x384 [1, 0, 2] w transposes_S8x1024x384_S1024x8x384_1_0_2) shapeCasts_S1024x8x384_S1024x3072) bitsLt_bf16_f32)

theorem product_apply (z : FVec Ideal S8192x3072 .bf16) (w : FVec Ideal S8x1024x384 .bf16) (n : Fin 8192) (j : Fin 1024) :
    product z w (ix2 n j) = against (fun k => z (ix2 n k)) (shards fun s j l => w (ix3 s j l)) j := by
  pointwise [product, against, shards]

def dhR : FVec Ideal S8192x1024 .f32 := product (side (m ((c : Thread nD τ).loc main_arg0)) (m ((c : Thread nD τ).loc main_arg1)) (m ((c : Thread nD τ).loc main_arg2)))
  (m ((c : Thread nD τ).loc main_arg3))

theorem dhR_apply (n : Fin 8192) (j : Fin 1024) : dhR m c (ix2 n j) = against (zR m c n) (wR m c) j :=
  (product_apply _ _ n j).trans (congrArg (fun z => against z (wR m c) j) (funext fun k => side_apply _ _ _ n k))
/-- The reference's two results. -/
def rowsR : FVec Ideal S8192x1024 .f32 := Cert.Norm.rowsForm (dhR m c) (m ((c : Thread nD τ).loc main_arg4)) (m ((c : Thread nD τ).loc main_arg6)) (m ((c : Thread nD τ).loc main_arg5))
def gainR : FVec Ideal S1x1024 .f32 := Cert.Norm.gainForm (dhR m c) (m ((c : Thread nD τ).loc main_arg4))

theorem rowsR_apply (n : Fin 8192) (j : Fin 1024) : rowsR m c (ix2 n j)
    = rowReference (dR m c n) (fun k => against (zR m c n) (wR m c) k * gR m c k) (xR m c n) j := by
  refine (Cert.Norm.rowsForm_apply _ _ _ _ n j).trans ?_
  simp only [dhR_apply]
  rfl

theorem gainR_apply (j : Fin 1024) : gainR m c (ix2 0 j)
    = ∑ n, xR m c n j * rinv (xR m c n) * against (zR m c n) (wR m c) j := by
  refine (Cert.Norm.gainForm_apply _ _ j).trans ?_
  simp only [dhR_apply]
  rfl
end Reference

section Equation
variable (m : (ℓ : Loc Cert.KernelQkvBwdIdeal.nD Cert.KernelQkvBwdIdeal.τ Cert.KernelQkvBwdIdeal.sig) → Buf (Elt Ideal) ℓ)
  (m' : (ℓ : Loc Cert.ReferenceQkvBwdIdeal.nD Cert.ReferenceQkvBwdIdeal.τ Cert.ReferenceQkvBwdIdeal.sig) → Buf (Elt Ideal) ℓ)
  (c : Dev Cert.KernelQkvBwdIdeal.nD)

/-- The two programs' argument arrays hold the same. -/
structure Same : Prop where
  z : zR m' c = zK m c
  w : wR m' c = wK m c
  x : xR m' c = xK m c
  g : gR m' c = gK m c
  d : dR m' c = dK m c

variable {m m' c}

theorem result0 (h : Same m m' c) :
    (Cert.KernelQkvBwdIdeal.Gen.dats m 0 c).arrAt 7 Cert.KernelQkvBwdIdeal.cfg0.N = rowsR m' c := by
  rw [array7]
  funext y
  idx_vars y
  refine Eq.trans ?_ (rowsR_apply m' c _ _).symm
  rw [h.z, h.w, h.x, h.g, h.d]
  exact row_eq _ _ _ _

theorem gain_eq (h : Same m m' c) (j : Fin 1024) :
    gradGain (zK m c) (wK m c) (xK m c) j = gainR m' c (ix2 0 j) := by
  rw [gainR_apply, h.z, h.w, h.x]
  exact Finset.sum_congr rfl fun n _ => mul_comm _ _

theorem result1 (h : Same m m' c) :
    (Cert.KernelQkvBwdIdeal.Gen.dats m 0 c).arrAt 8 Cert.KernelQkvBwdIdeal.cfg0.N = gainR m' c := by
  rw [array8]
  generalize hR : gainR m' c = R
  funext y
  have hy : y = ix2 0 (y 1) := by
    funext a
    match a with
    | 0 => exact Subsingleton.elim (α := Fin 1) _ _
    | 1 => rfl
  rw [hy, ← hR]
  exact gain_eq h _
end Equation

theorem frameK : Cert.quiescent_KernelQkvBwd := fun m ρ _ => Cert.KernelQkvBwd.Gen.frame m ρ

theorem frameKI : Cert.quiescent_KernelQkvBwdIdeal := fun m ρ _ => Cert.KernelQkvBwdIdeal.Gen.frame m ρ

theorem frameRI : Cert.quiescent_ReferenceQkvBwdIdeal := fun m ρ _ =>
  (θ_run _ _ _).mono
    (fun r h => ⟨fun c => (h c).2.2, sem_eq_zero_of_no_sems (by decide) r.2⟩) (Cert.ReferenceQkvBwdIdeal.Value.run m ρ)

theorem preserves : Cert.preserves_KernelQkvBwd_KernelQkvBwdIdeal := trivial

theorem algebraic : Cert.algebraic_KernelQkvBwdIdeal_ReferenceQkvBwdIdeal := by
  intro m g m' g' _ hagree
  have h : ∀ c, Same m m' c := fun c => by
    obtain ⟨h0, h1, h2, h3, h4, h5, h6⟩ := hagree c
    refine ⟨?_, ?_, congrArg (fun (a : FVec Ideal Cert.KernelQkvBwdIdeal.S8192x1024 .f32) n k => a (ix2 n k)) h4,
      congrArg (fun (a : FVec Ideal Cert.KernelQkvBwdIdeal.S1x1024 .f32) k => a (ix2 0 k)) h5,
      congrArg (fun (a : FVec Ideal Cert.KernelQkvBwdIdeal.S8192x1024 .f32) n k => a (ix2 n k)) h6⟩
    · unfold zR zK
      rw [h0, h1, h2]
    · unfold wR wK
      rw [h3]
  refine ⟨fun c => rowsR m' c, fun c => gainR m' c,
    (θ_run _ _ _).mono (fun r k c => ?_) (Cert.KernelQkvBwdIdeal.Value.run_blocks m g),
    Cert.ReferenceQkvBwdIdeal.Value.run m' g'⟩
  obtain ⟨k0, k1, ka⟩ := k c
  exact ⟨k0.trans (result0 (h c)), k1.trans (result1 (h c)), ka⟩

end Cert.QkvBwd

end
-- ==== Proof.AbFwd.Equation.lean ====
module

public import proofs.«01_k».proof.Defs
public import proofs.«01_k».proof.Proof.Gen.KernelAbFwd.Frame
public import proofs.«01_k».proof.Proof.Gen.KernelAbFwdIdeal.Value
public import proofs.«01_k».proof.Proof.Gen.ReferenceAbFwdIdeal.Run
public import proofs.«01_k».proof.Proof.FfnFwd.Equation
public import Idealize.ShloMosaic.Lib.Pipeline.ValueKit
public import Idealize.ShloMosaic.Lib.Pointwise
public import Idealize.ShloMosaic.Lib.Pipeline.ReadBack

@[expose] public section

set_option maxRecDepth 16384

/-! The forward into the retention mixer: the norm and the mixer's input product. -/

noncomputable section

namespace Cert.AbFwd

open Idealize.ShloMosaic Idealize.ShloMosaic.TcCoe Idealize.SL.Sem
open Idealize.ShloMosaic.Pipeline (Dat)
open Cert.FfnFwd (normed)

/-- A normed row against the weights. -/
def line (h : Fin 1024 → EReal) (w : Fin 1024 → Fin 2560 → EReal) (j : Fin 2560) : EReal := ∑ k, h k * w k j

section Kernel
open Cert.KernelAbFwdIdeal Cert.KernelAbFwdIdeal.Gen

section Block
variable (x0 : FVec Ideal S512x1024 .f32) (x1 : FVec Ideal S1x1024 .f32) (x2 : FVec Ideal S1x1024x2560 .bf16)

/-- A block's normed row. -/
def blockNormed (i : Fin 512) : Fin 1024 → EReal := normed (fun k => x0 (ix2 i k)) (fun k => x1 (ix2 0 k))

theorem pay3 (i : Fin 512) (j : Fin 1024) : k0_pay3 (F := Ideal) x0 x1 (ix2 i j) = blockNormed x0 x1 i j := by
  pointwise [k0_pay3, blockNormed, normed, Cert.Norm.rinv, Cert.Norm.meanSq]

theorem block3 (i : Fin 512) (j : Fin 1024) : out0_3 (F := Ideal) x0 x1 x2 (ix2 i j) = blockNormed x0 x1 i j := by
  frame_out
  exact pay3 x0 x1 i j

theorem carried (i : Fin 512) (j : Fin 1024) : k0_pay7 (F := Ideal) x0 x1 x2 (ix2 i j) = blockNormed x0 x1 i j := by
  rw [← pay3]
  unfold k0_pay7
  rw [View.ld_unit_lit _ _ (by decide), View.ld_unit_lit _ _ (by decide)]

/-- One panel of columns of the product. -/
theorem panel (H : FVec Ideal S512x1024 .bf16) (f : Fin 512 → Fin 1024 → EReal) (hH : ∀ i k, H (ix2 i k) = f i k)
    (i : Fin 512) (j j' : Fin 2560) (y0 : Fin 512) (h0 : i.val = y0.val) (h1 : j.val = j'.val) :
    ∑ k, H (ix2 y0 k) * x2 (ix3 0 k j') = line (f i) (fun k l => x2 (ix3 0 k l)) j := by
  obtain rfl : i = y0 := Fin.ext h0
  obtain rfl : j = j' := Fin.ext h1
  simp only [hH, line]

theorem block4 (i : Fin 512) (j : Fin 2560) : out0_4 (F := Ideal) x0 x1 x2 (ix2 i j)
    = line (blockNormed x0 x1 i) (fun k l => x2 (ix3 0 k l)) j := by
  have p7 := panel x2 _ _ (carried x0 x1 x2)
  have p3 := panel x2 _ _ (pay3 x0 x1)
  frame_out
  canon_tiles y h
  all_goals idx_vars y
  all_goals pointwise [k0_pay1, k0_pay2, k0_pay4, k0_pay5, k0_pay6]
  case piece0 => exact p7 _ _ _ _ h0 h1
  case piece1 => exact p7 _ _ _ _ h0 h1
  all_goals exact p3 _ _ _ _ h0 h1
end Block

variable (m : (ℓ : Loc nD τ sig) → Buf (Elt Ideal) ℓ) (c : Dev nD)

/-- The kernel's argument arrays by coordinates. -/
def xK (n : Fin 8192) (k : Fin 1024) : EReal := m ((c : Thread nD τ).loc main_arg0) (ix2 n k)
def gK (k : Fin 1024) : EReal := m ((c : Thread nD τ).loc main_arg1) (ix2 0 k)
def wK (k : Fin 1024) (l : Fin 2560) : EReal := m ((c : Thread nD τ).loc main_arg2) (ix3 0 k l)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem rowAt_lt (t : Fin cfg0.N) (i : Fin 512) : t.val * 512 + i.val < 8192 := by
  have h : t.val < 16 := lt_of_lt_of_eq t.isLt N_0
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 1024) : iblk m c 0 t (ix2 i k) = xK m c (rowAt t i) k := by
  show _ = m ((c : Thread nD τ).loc main_arg0) (ix2 ⟨t.val * 512 + i.val, rowAt_lt t i⟩ k)
  blk_point [iblk, V, idx t]
theorem read1 (t : Fin cfg0.N) (k : Fin 1024) : iblk m c 1 t (ix2 0 k) = gK m c k := by
  blk_point [iblk, V, idx t, gK]
theorem read2 (t : Fin cfg0.N) (k : Fin 1024) (l : Fin 2560) : iblk m c 2 t (ix3 0 k l) = wK m c k l := by
  blk_point [iblk, V, idx t, wK]

/-- The normed rows of the argument arrays. -/
def normedRow (n : Fin 8192) : Fin 1024 → EReal := normed (xK m c n) (gK m c)

theorem blockNormed_eq (t : Fin cfg0.N) (i : Fin 512) :
    blockNormed (iblk m c 0 t) (iblk m c 1 t) i = normedRow m c (rowAt t i) := by
  simp only [blockNormed, normedRow, read0, read1]

theorem array3 : (dats m 0 c).arrAt 3 cfg0.N = fun y : S8192x1024.Idx => normedRow m c (y 0) (y 1) := by
  refine (dats m 0 c).arrAt_eq_of_covers 3 _ (by decide +kernel) fun t hf y => ?_
  blk_simp
  rw [after0_3]
  idx_vars y
  rw [block3, blockNormed_eq]
  refine congrArg₂ (normedRow m c) (Fin.ext ?_) (Fin.ext ?_)
  · show t.val * 512 + y0.val = _
    blk_simp [idx t]
  · blk_simp [idx t]

theorem array4 : (dats m 0 c).arrAt 4 cfg0.N = fun y : S8192x2560.Idx => line (normedRow m c (y 0)) (wK m c) (y 1) := by
  refine (dats m 0 c).arrAt_eq_of_covers 4 _ (by decide +kernel) fun t hf y => ?_
  blk_simp
  rw [after0_4]
  idx_vars y
  rw [block4, blockNormed_eq]
  simp only [read2]
  refine congrArg₂ (fun n j => line (normedRow m c n) (wK m c) j) (Fin.ext ?_) (Fin.ext ?_)
  · show t.val * 512 + y0.val = _
    blk_simp [idx t]
  · blk_simp [idx t]
end Kernel

section Reference
open Cert.ReferenceAbFwdIdeal Cert.ReferenceAbFwdIdeal.Gen Cert.ReferenceAbFwdIdeal.Value
variable (x : FVec Ideal S8192x1024 .f32) (g : FVec Ideal S1x1024 .f32) (w : FVec Ideal S1x1024x2560 .bf16)

/-- The reference's normed rows before the cast. -/
def rNormed : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast S1024 g shapeCasts_S1x1024_S1024)))

/-- The reference's results of given argument arrays. -/
def result0 : FVec Ideal S8192x1024 .bf16 := truncf .bf16 (rNormed x g) bitsLt_bf16_f32
def result1 : FVec Ideal S8192x2560 .f32 :=
  Host.dotGeneral dot_S8192x1024_S1024x2560_S8192x2560_1_0_0_1_n_n none (rNormed x g) (extf .f32 (shapeCast S1024x2560 w shapeCasts_S1x1024x2560_S1024x2560) bitsLt_bf16_f32)

theorem rNormed_apply (n : Fin 8192) (j : Fin 1024) : rNormed x g (ix2 n j)
    = normed (fun k => x (ix2 n k)) (fun k => g (ix2 0 k)) j := by
  pointwise [rNormed, normed, Cert.Norm.rinv, Cert.Norm.meanSq]
theorem result0_apply (n : Fin 8192) (j : Fin 1024) : result0 x g (ix2 n j) = rNormed x g (ix2 n j) := by
  pointwise [result0]
theorem result1_apply (n : Fin 8192) (j : Fin 2560) : result1 x g w (ix2 n j)
    = line (fun k => rNormed x g (ix2 n k)) (fun k l => w (ix3 0 k l)) j := by
  pointwise [result1, line]
end Reference

theorem frameK : Cert.quiescent_KernelAbFwd := fun m ρ _ => Cert.KernelAbFwd.Gen.frame m ρ

theorem frameKI : Cert.quiescent_KernelAbFwdIdeal := fun m ρ _ => Cert.KernelAbFwdIdeal.Gen.frame m ρ

theorem frameRI : Cert.quiescent_ReferenceAbFwdIdeal := fun m ρ _ =>
  (θ_run _ _ _).mono
    (fun r h => ⟨fun c => (h c).2.2, sem_eq_zero_of_no_sems (by decide) r.2⟩) (Cert.ReferenceAbFwdIdeal.Value.run m ρ)

theorem preserves : Cert.preserves_KernelAbFwd_KernelAbFwdIdeal := trivial

section Equation
variable (m : (ℓ : Loc Cert.KernelAbFwdIdeal.nD Cert.KernelAbFwdIdeal.τ Cert.KernelAbFwdIdeal.sig) → Buf (Elt Ideal) ℓ)
  (c : Dev Cert.KernelAbFwdIdeal.nD)

/-- The kernel's argument arrays. -/
abbrev argX : FVec Ideal ⟨2, ![8192, 1024]⟩ .f32 := m ((c : Thread Cert.KernelAbFwdIdeal.nD Cert.KernelAbFwdIdeal.τ).loc Cert.KernelAbFwdIdeal.main_arg0)
abbrev argG : FVec Ideal ⟨2, ![1, 1024]⟩ .f32 := m ((c : Thread Cert.KernelAbFwdIdeal.nD Cert.KernelAbFwdIdeal.τ).loc Cert.KernelAbFwdIdeal.main_arg1)
abbrev argW : FVec Ideal ⟨3, ![1, 1024, 2560]⟩ .bf16 := m ((c : Thread Cert.KernelAbFwdIdeal.nD Cert.KernelAbFwdIdeal.τ).loc Cert.KernelAbFwdIdeal.main_arg2)

theorem normed_ref (n : Fin 8192) (k : Fin 1024) : normedRow m c n k = rNormed (argX m c) (argG m c) (ix2 n k) :=
  (rNormed_apply _ _ n k).symm

theorem eq3 : (Cert.KernelAbFwdIdeal.Gen.dats m 0 c).arrAt 3 Cert.KernelAbFwdIdeal.cfg0.N = result0 (argX m c) (argG m c) := by
  rw [array3]
  funext y
  idx_vars y
  exact (normed_ref m c _ _).trans (result0_apply _ _ _ _).symm

theorem eq4 : (Cert.KernelAbFwdIdeal.Gen.dats m 0 c).arrAt 4 Cert.KernelAbFwdIdeal.cfg0.N = result1 (argX m c) (argG m c) (argW m c) := by
  rw [array4]
  funext y
  idx_vars y
  rw [result1_apply]
  simp only [← normed_ref]
  rfl
end Equation

theorem algebraic : Cert.algebraic_KernelAbFwdIdeal_ReferenceAbFwdIdeal := by
  intro m g m' g' _ hagree
  refine ⟨_, _, (θ_run _ _ _).mono (fun r k c => ?_) (Cert.KernelAbFwdIdeal.Value.run_blocks m g),
    Cert.ReferenceAbFwdIdeal.Value.run m' g'⟩
  refine ⟨(k c).1.trans ?_, (k c).2.1.trans ?_, (k c).2.2⟩
  all_goals obtain ⟨h0, h1, h2⟩ := hagree c
  · rw [h0, h1]
    exact eq3 m c
  · rw [h0, h1, h2]
    exact eq4 m c

end Cert.AbFwd

end
-- ==== Proof.QkvFwd.Equation.lean ====
module

public import proofs.«01_k».proof.Defs
public import proofs.«01_k».proof.Proof.Gen.KernelQkvFwd.Frame
public import proofs.«01_k».proof.Proof.Gen.KernelQkvFwdIdeal.Value
public import proofs.«01_k».proof.Proof.Gen.ReferenceQkvFwdIdeal.Run
public import proofs.«01_k».proof.Proof.FfnFwd.Equation
public import Idealize.ShloMosaic.Lib.Pipeline.ValueKit
public import Idealize.ShloMosaic.Lib.Pointwise
public import Idealize.ShloMosaic.Lib.Pipeline.ReadBack

@[expose] public section

set_option maxRecDepth 16384

/-! The forward into the attention mixer: the norm and the product for queries, keys and values. -/

noncomputable section

namespace Cert.QkvFwd

open Idealize.ShloMosaic Idealize.ShloMosaic.TcCoe Idealize.SL.Sem
open Idealize.ShloMosaic.Pipeline (Dat)
open Cert.FfnFwd (normed)

/-- A normed row against the eight panels of the weights. -/
def line (h : Fin 1024 → EReal) (w : Fin 8 → Fin 1024 → Fin 384 → EReal) (j : Fin 3072) : EReal :=
  ∑ k, h k * w ⟨j.val / 384, by omega⟩ k ⟨j.val % 384, by omega⟩

section Kernel
open Cert.KernelQkvFwdIdeal Cert.KernelQkvFwdIdeal.Gen

section Block
variable (x0 : FVec Ideal S512x1024 .f32) (x1 : FVec Ideal S1x1024 .f32) (x2 : FVec Ideal S8x1024x384 .bf16)

/-- A block's normed row. -/
def blockNormed (i : Fin 512) : Fin 1024 → EReal := normed (fun k => x0 (ix2 i k)) (fun k => x1 (ix2 0 k))

theorem pay3 (i : Fin 512) (j : Fin 1024) : k0_pay3 (F := Ideal) x0 x1 (ix2 i j) = blockNormed x0 x1 i j := by
  pointwise [k0_pay3, blockNormed, normed, Cert.Norm.rinv, Cert.Norm.meanSq]

theorem block3 (i : Fin 512) (j : Fin 1024) : out0_3 (F := Ideal) x0 x1 x2 (ix2 i j) = blockNormed x0 x1 i j := by
  frame_out
  exact pay3 x0 x1 i j

theorem carried (i : Fin 512) (j : Fin 1024) : k0_pay6 (F := Ideal) x0 x1 x2 (ix2 i j) = blockNormed x0 x1 i j := by
  rw [← pay3]
  unfold k0_pay6
  rw [View.ld_unit_lit _ _ (by decide), View.ld_unit_lit _ _ (by decide)]

/-- One pair of panels of columns of the product. -/
theorem panel (H : FVec Ideal S512x1024 .bf16) (f : Fin 512 → Fin 1024 → EReal) (hH : ∀ i k, H (ix2 i k) = f i k) (q r : Fin 8)
    (i : Fin 512) (j : Fin 3072) (y0 : Fin 512) (y1 : Fin 768) (hr : r.val = q.val + 1) (h0 : i.val = y0.val) (h1 : j.val = q.val * 384 + y1.val) :
    (∑ k, H (ix2 y0 k) * if h : y1.val < 384 then x2 (ix3 q k ⟨y1.val, h⟩) else x2 (ix3 r k ⟨y1.val - 384, by omega⟩))
      = line (f i) (fun q k l => x2 (ix3 q k l)) j := by
  obtain rfl : i = y0 := Fin.ext h0
  refine Finset.sum_congr rfl fun k _ => ?_
  rw [hH]
  refine congrArg (f i k * ·) ?_
  split
  · refine congrArg₂ (fun a b => x2 (ix3 a k b)) (Fin.ext ?_) (Fin.ext ?_)
    · show q.val = j.val / 384
      omega
    · show y1.val = j.val % 384
      omega
  · refine congrArg₂ (fun a b => x2 (ix3 a k b)) (Fin.ext ?_) (Fin.ext ?_)
    · show r.val = j.val / 384
      omega
    · show y1.val - 384 = j.val % 384
      omega

theorem block4 (i : Fin 512) (j : Fin 3072) : out0_4 (F := Ideal) x0 x1 x2 (ix2 i j)
    = line (blockNormed x0 x1 i) (fun q k l => x2 (ix3 q k l)) j := by
  have p6 := panel x2 _ _ (carried x0 x1 x2)
  have p3 := panel x2 _ _ (pay3 x0 x1)
  frame_out
  canon_tiles y h
  all_goals idx_vars y
  all_goals pointwise [k0_pay1, k0_pay2, k0_pay4, k0_pay5]
  case piece3 => exact p3 0 1 _ _ _ _ rfl h0 (h1.trans (Nat.zero_add _).symm)
  case piece2 => exact p3 2 3 _ _ _ _ rfl h0 h1
  all_goals exact p6 _ _ _ _ _ _ rfl h0 h1
end Block

variable (m : (ℓ : Loc nD τ sig) → Buf (Elt Ideal) ℓ) (c : Dev nD)

/-- The kernel's argument arrays by coordinates. -/
def xK (n : Fin 8192) (k : Fin 1024) : EReal := m ((c : Thread nD τ).loc main_arg0) (ix2 n k)
def gK (k : Fin 1024) : EReal := m ((c : Thread nD τ).loc main_arg1) (ix2 0 k)
def wK (q : Fin 8) (k : Fin 1024) (l : Fin 384) : EReal := m ((c : Thread nD τ).loc main_arg2) (ix3 q k l)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem rowAt_lt (t : Fin cfg0.N) (i : Fin 512) : t.val * 512 + i.val < 8192 := by
  have h : t.val < 16 := lt_of_lt_of_eq t.isLt N_0
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 1024) : iblk m c 0 t (ix2 i k) = xK m c (rowAt t i) k := by
  show _ = m ((c : Thread nD τ).loc main_arg0) (ix2 ⟨t.val * 512 + i.val, rowAt_lt t i⟩ k)
  blk_point [iblk, V, idx t]
theorem read1 (t : Fin cfg0.N) (k : Fin 1024) : iblk m c 1 t (ix2 0 k) = gK m c k := by
  blk_point [iblk, V, idx t, gK]
theorem read2 (t : Fin cfg0.N) (q : Fin 8) (k : Fin 1024) (l : Fin 384) : iblk m c 2 t (ix3 q k l) = wK m c q k l := by
  blk_point [iblk, V, idx t, wK]

/-- The normed rows of the argument arrays. -/
def normedRow (n : Fin 8192) : Fin 1024 → EReal := normed (xK m c n) (gK m c)

theorem blockNormed_eq (t : Fin cfg0.N) (i : Fin 512) :
    blockNormed (iblk m c 0 t) (iblk m c 1 t) i = normedRow m c (rowAt t i) := by
  simp only [blockNormed, normedRow, read0, read1]

theorem array3 : (dats m 0 c).arrAt 3 cfg0.N = fun y : S8192x1024.Idx => normedRow m c (y 0) (y 1) := by
  refine (dats m 0 c).arrAt_eq_of_covers 3 _ (by decide +kernel) fun t hf y => ?_
  blk_simp
  rw [after0_3]
  idx_vars y
  rw [block3, blockNormed_eq]
  refine congrArg₂ (normedRow m c) (Fin.ext ?_) (Fin.ext ?_)
  · show t.val * 512 + y0.val = _
    blk_simp [idx t]
  · blk_simp [idx t]

theorem array4 : (dats m 0 c).arrAt 4 cfg0.N = fun y : S8192x3072.Idx => line (normedRow m c (y 0)) (wK m c) (y 1) := by
  refine (dats m 0 c).arrAt_eq_of_covers 4 _ (by decide +kernel) fun t hf y => ?_
  blk_simp
  rw [after0_4]
  idx_vars y
  rw [block4, blockNormed_eq]
  simp only [read2]
  refine congrArg₂ (fun n j => line (normedRow m c n) (wK m c) j) (Fin.ext ?_) (Fin.ext ?_)
  · show t.val * 512 + y0.val = _
    blk_simp [idx t]
  · blk_simp [idx t]
end Kernel

section Reference
open Cert.ReferenceQkvFwdIdeal Cert.ReferenceQkvFwdIdeal.Gen Cert.ReferenceQkvFwdIdeal.Value
variable (x : FVec Ideal S8192x1024 .f32) (g : FVec Ideal S1x1024 .f32) (w : FVec Ideal S8x1024x384 .bf16)

/-- The reference's normed rows before the cast. -/
def rNormed : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast S1024 g shapeCasts_S1x1024_S1024)))

/-- The reference's results of given argument arrays. -/
def result0 : FVec Ideal S8192x1024 .bf16 := truncf .bf16 (rNormed x g) bitsLt_bf16_f32
def result1 : FVec Ideal S8192x3072 .bf16 :=
  truncf .bf16 (Host.dotGeneral dot_S8192x1024_S1024x3072_S8192x3072_1_0_0_1_n_n none (rNormed x g) (extf .f32 (shapeCast S1024x3072 (transpose S1024x8x384 [1, 0, 2] w transposes_S8x1024x384_S1024x8x384_1_0_2) shapeCasts_S1024x8x384_S1024x3072) bitsLt_bf16_f32)) bitsLt_bf16_f32

theorem rNormed_apply (n : Fin 8192) (j : Fin 1024) : rNormed x g (ix2 n j)
    = normed (fun k => x (ix2 n k)) (fun k => g (ix2 0 k)) j := by
  pointwise [rNormed, normed, Cert.Norm.rinv, Cert.Norm.meanSq]
theorem result0_apply (n : Fin 8192) (j : Fin 1024) : result0 x g (ix2 n j) = rNormed x g (ix2 n j) := by
  pointwise [result0]
theorem result1_apply (n : Fin 8192) (j : Fin 3072) : result1 x g w (ix2 n j)
    = line (fun k => rNormed x g (ix2 n k)) (fun q k l => w (ix3 q k l)) j := by
  pointwise [result1, line]
end Reference

theorem frameK : Cert.quiescent_KernelQkvFwd := fun m ρ _ => Cert.KernelQkvFwd.Gen.frame m ρ

theorem frameKI : Cert.quiescent_KernelQkvFwdIdeal := fun m ρ _ => Cert.KernelQkvFwdIdeal.Gen.frame m ρ

theorem frameRI : Cert.quiescent_ReferenceQkvFwdIdeal := fun m ρ _ =>
  (θ_run _ _ _).mono
    (fun r h => ⟨fun c => (h c).2.2, sem_eq_zero_of_no_sems (by decide) r.2⟩) (Cert.ReferenceQkvFwdIdeal.Value.run m ρ)

theorem preserves : Cert.preserves_KernelQkvFwd_KernelQkvFwdIdeal := trivial

section Equation
variable (m : (ℓ : Loc Cert.KernelQkvFwdIdeal.nD Cert.KernelQkvFwdIdeal.τ Cert.KernelQkvFwdIdeal.sig) → Buf (Elt Ideal) ℓ)
  (c : Dev Cert.KernelQkvFwdIdeal.nD)

/-- The kernel's argument arrays. -/
abbrev argX : FVec Ideal ⟨2, ![8192, 1024]⟩ .f32 := m ((c : Thread Cert.KernelQkvFwdIdeal.nD Cert.KernelQkvFwdIdeal.τ).loc Cert.KernelQkvFwdIdeal.main_arg0)
abbrev argG : FVec Ideal ⟨2, ![1, 1024]⟩ .f32 := m ((c : Thread Cert.KernelQkvFwdIdeal.nD Cert.KernelQkvFwdIdeal.τ).loc Cert.KernelQkvFwdIdeal.main_arg1)
abbrev argW : FVec Ideal ⟨3, ![8, 1024, 384]⟩ .bf16 := m ((c : Thread Cert.KernelQkvFwdIdeal.nD Cert.KernelQkvFwdIdeal.τ).loc Cert.KernelQkvFwdIdeal.main_arg2)

theorem normed_ref (n : Fin 8192) (k : Fin 1024) : normedRow m c n k = rNormed (argX m c) (argG m c) (ix2 n k) :=
  (rNormed_apply _ _ n k).symm

theorem eq3 : (Cert.KernelQkvFwdIdeal.Gen.dats m 0 c).arrAt 3 Cert.KernelQkvFwdIdeal.cfg0.N = result0 (argX m c) (argG m c) := by
  rw [array3]
  funext y
  idx_vars y
  exact (normed_ref m c _ _).trans (result0_apply _ _ _ _).symm

theorem eq4 : (Cert.KernelQkvFwdIdeal.Gen.dats m 0 c).arrAt 4 Cert.KernelQkvFwdIdeal.cfg0.N = result1 (argX m c) (argG m c) (argW m c) := by
  rw [array4]
  funext y
  idx_vars y
  rw [result1_apply]
  simp only [← normed_ref]
  rfl
end Equation

theorem algebraic : Cert.algebraic_KernelQkvFwdIdeal_ReferenceQkvFwdIdeal := by
  intro m g m' g' _ hagree
  refine ⟨_, _, (θ_run _ _ _).mono (fun r k c => ?_) (Cert.KernelQkvFwdIdeal.Value.run_blocks m g),
    Cert.ReferenceQkvFwdIdeal.Value.run m' g'⟩
  refine ⟨(k c).1.trans ?_, (k c).2.1.trans ?_, (k c).2.2⟩
  all_goals obtain ⟨h0, h1, h2⟩ := hagree c
  · rw [h0, h1]
    exact eq3 m c
  · rw [h0, h1, h2]
    exact eq4 m c

end Cert.QkvFwd

end
-- ==== Proof.Adam.Update.lean ====
module

public import Idealize.ShloMosaic.Lib.IdealHost
public import Idealize.ShloMosaic.Lib.Pipeline.ValueKit

@[expose] public section

/-! The step of the optimiser on one number: the gradient `g`, the weight `w`, the two moments `m` and `v`. -/

noncomputable section

namespace Cert.Adam

open Idealize.ShloMosaic

/-- The eight devices' gradients, added one after the other. -/
def sumDevices (r : Fin 8 → EReal) : EReal := r 0 + r 1 + r 2 + r 3 + r 4 + r 5 + r 6 + r 7

open scoped BigOperators in
theorem sumDevices_eq (r : Fin 8 → EReal) : ∑ p, r p = sumDevices r := Fin.sum_univ_eight r

/-- The first moment after the step. -/
def newM (g m : Ideal .f32) : Ideal .f32 := Ideal.ofBits .f32 0x3F666666#32 * m + Ideal.ofBits .f32 0x3DCCCCCD#32 * g

/-- The second moment after the step. -/
def newV (g v : Ideal .f32) : Ideal .f32 := Ideal.ofBits .f32 0x3F7FBE77#32 * v + Ideal.ofBits .f32 0x3A83126F#32 * (g * g)

/-- The change of the weight. -/
def delta (g w m v : Ideal .f32) : Ideal .f32 :=
  Ideal.ofBits .f32 0xBA83126F#32
    * (Ideal.div (Ideal.div (newM g m) (Ideal.ofBits .f32 0x3F26BD02#32)) (Ideal.sqrt (Ideal.div (newV g v) (Ideal.ofBits .f32 0x3C231ACC#32)) + Ideal.ofBits .f32 0x322BCC77#32)
      + Ideal.ofBits .f32 0x3C23D70A#32 * w)
end Cert.Adam

end
end
-- ==== Proof.AdamIn.Equation.lean ====
module

public import proofs.«01_k».proof.Defs
public import proofs.«01_k».proof.Proof.Gen.KernelAdamIn.Frame
public import proofs.«01_k».proof.Proof.Gen.KernelAdamInIdeal.Value
public import proofs.«01_k».proof.Proof.Gen.ReferenceAdamInIdeal.Run
public import proofs.«01_k».proof.Proof.Adam.Update

@[expose] public section

set_option maxRecDepth 16384

/-! The optimiser on a stack of 4 matrices of 1024 × 512: a grid point updates 256 rows of one layer, from that layer's
    eight gradients. -/

noncomputable section

namespace Cert.AdamIn

open Idealize.ShloMosaic Idealize.ShloMosaic.TcCoe Idealize.SL.Sem
open Idealize.ShloMosaic.Pipeline (Dat)
open Cert.Adam

section Reference
open Cert.ReferenceAdamInIdeal Cert.ReferenceAdamInIdeal.Gen
variable (r0 r1 r2 r3 : FVec Ideal S8x1024x512 .bf16)

/-- The reference's gradient of given arrays of the layers. -/
def rGrad : FVec Ideal S4x1024x512 .f32 :=
  Host.reduceAdd (extf .f32 (concatenate S4x8x1024x512 0 [⟨S1x8x1024x512, (broadcastInDim S1x8x1024x512 ![1, 2, 3] bcast_S8x1024x512_S1x8x1024x512_1_2_3 r0)⟩, ⟨S1x8x1024x512, (broadcastInDim S1x8x1024x512 ![1, 2, 3] bcast_S8x1024x512_S1x8x1024x512_1_2_3 r1)⟩, ⟨S1x8x1024x512, (broadcastInDim S1x8x1024x512 ![1, 2, 3] bcast_S8x1024x512_S1x8x1024x512_1_2_3 r2)⟩, ⟨S1x8x1024x512, (broadcastInDim S1x8x1024x512 ![1, 2, 3] bcast_S8x1024x512_S1x8x1024x512_1_2_3 r3)⟩] concatenates_S1x8x1024x512_S1x8x1024x512_S1x8x1024x512_S1x8x1024x512_S4x8x1024x512_d0) bitsLt_bf16_f32) (constant S_ .f32 0x00000000#32) reducesTo_S4x8x1024x512_S4x1024x512_d1 h_S_

theorem rGrad_apply (l : Fin 4) (i : Fin 1024) (j : Fin 512) :
    rGrad r0 r1 r2 r3 (ix3 l i j) = sumDevices fun p => (![r0, r1, r2, r3] l) (ix3 p i j) := by
  rw [← sumDevices_eq]
  pointwise [rGrad]
  fin_cases l <;> rfl
end Reference

section Kernel
open Cert.KernelAdamInIdeal Cert.KernelAdamInIdeal.Gen
variable (m : (ℓ : Loc nD τ sig) → Buf (Elt Ideal) ℓ) (c : Dev nD)

/-- The block's gradient: the eight devices' added up. -/
def total (x : FVec Ideal S8x256x512 .bf16) : FVec Ideal S256x512 .f32 := k0_pay9 (F := Ideal)
    (View.ld (Val := Elt Ideal) (e' := .bf16) x (Rect.unit ![0, 0, 0] ![1, 256, 512] Gen.inb_S8x256x512_S1x256x512_0_0_0))
    (View.ld (Val := Elt Ideal) (e' := .bf16) x (Rect.unit ![1, 0, 0] ![1, 256, 512] Gen.inb_S8x256x512_S1x256x512_1_0_0))
    (View.ld (Val := Elt Ideal) (e' := .bf16) x (Rect.unit ![2, 0, 0] ![1, 256, 512] Gen.inb_S8x256x512_S1x256x512_2_0_0))
    (View.ld (Val := Elt Ideal) (e' := .bf16) x (Rect.unit ![3, 0, 0] ![1, 256, 512] Gen.inb_S8x256x512_S1x256x512_3_0_0))
    (View.ld (Val := Elt Ideal) (e' := .bf16) x (Rect.unit ![4, 0, 0] ![1, 256, 512] Gen.inb_S8x256x512_S1x256x512_4_0_0))
    (View.ld (Val := Elt Ideal) (e' := .bf16) x (Rect.unit ![5, 0, 0] ![1, 256, 512] Gen.inb_S8x256x512_S1x256x512_5_0_0))
    (View.ld (Val := Elt Ideal) (e' := .bf16) x (Rect.unit ![6, 0, 0] ![1, 256, 512] Gen.inb_S8x256x512_S1x256x512_6_0_0))
    (View.ld (Val := Elt Ideal) (e' := .bf16) x (Rect.unit ![7, 0, 0] ![1, 256, 512] Gen.inb_S8x256x512_S1x256x512_7_0_0))

theorem total_apply (x : FVec Ideal S8x256x512 .bf16) (i : Fin 256) (j : Fin 512) :
    total x (ix2 i j) = sumDevices fun p => x (ix3 p i j) := by
  pointwise [total, k0_pay9, sumDevices]

/-- The four blocks a point leaves. -/
def outs (x : FVec Ideal S8x256x512 .bf16) (w m v : FVec Ideal S1x256x512 .f32) :
    FVec Ideal S1x256x512 .f32 × FVec Ideal S1x256x512 .f32 × FVec Ideal S1x256x512 .f32 × FVec Ideal S1x256x512 .f32 :=
  (k0_pay10 (F := Ideal) (total x), k0_pay13 (F := Ideal) (total x) w m v, k0_pay1 (F := Ideal) (k0_pay11 (F := Ideal) (total x) m), k0_pay2 (F := Ideal) (k0_pay12 (F := Ideal) (total x) v))

theorem outs_0 (x : FVec Ideal S8x256x512 .bf16) (w m v : FVec Ideal S1x256x512 .f32) (i : Fin 256) (j : Fin 512) :
    (outs x w m v).1 (ix3 0 i j) = total x (ix2 i j) := by
  pointwise [outs, k0_pay10]
theorem outs_1 (x : FVec Ideal S8x256x512 .bf16) (w m v : FVec Ideal S1x256x512 .f32) (i : Fin 256) (j : Fin 512) :
    (outs x w m v).2.1 (ix3 0 i j) = delta (total x (ix2 i j)) (w (ix3 0 i j)) (m (ix3 0 i j)) (v (ix3 0 i j)) := by
  pointwise [outs, k0_pay13, k0_pay11, k0_pay12, delta, newM, newV]
theorem outs_2 (x : FVec Ideal S8x256x512 .bf16) (w m v : FVec Ideal S1x256x512 .f32) (i : Fin 256) (j : Fin 512) :
    (outs x w m v).2.2.1 (ix3 0 i j) = newM (total x (ix2 i j)) (m (ix3 0 i j)) := by
  pointwise [outs, k0_pay1, k0_pay11, newM]
theorem outs_3 (x : FVec Ideal S8x256x512 .bf16) (w m v : FVec Ideal S1x256x512 .f32) (i : Fin 256) (j : Fin 512) :
    (outs x w m v).2.2.2 (ix3 0 i j) = newV (total x (ix2 i j)) (v (ix3 0 i j)) := by
  pointwise [outs, k0_pay2, k0_pay12, newV]

theorem idx : ∀ t : Fin cfg0.N, win0_0.index t = ![0, if t.val / 4 = 0 then t.val % 4 else 0, 0] ∧ win0_1.index t = ![0, if t.val / 4 = 1 then t.val % 4 else 0, 0] ∧ win0_2.index t = ![0, if t.val / 4 = 2 then t.val % 4 else 0, 0] ∧ win0_3.index t = ![0, if t.val / 4 = 3 then t.val % 4 else 0, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0] :=
  (by decide +kernel : ∀ t : Fin grid0.N, _)

theorem points (t : Fin cfg0.N) : t.val < 16 := lt_of_lt_of_eq t.isLt N_0

/-- The layer of a point, and the array row that is row `i` of its block. -/
def layerAt (t : Fin cfg0.N) : Fin 4 := ⟨t.val / 4, by have := points t; omega⟩
def rowAt (t : Fin cfg0.N) (i : Fin 256) : Fin 1024 := ⟨t.val % 4 * 256 + i.val, by omega⟩

/-- The gradient of the argument arrays. -/
def grad : FVec Ideal S4x1024x512 .f32 := rGrad (m ((c : Thread nD τ).loc main_arg0)) (m ((c : Thread nD τ).loc main_arg1)) (m ((c : Thread nD τ).loc main_arg2)) (m ((c : Thread nD τ).loc main_arg3))

theorem outs_at_0 (t : Fin cfg0.N) (h : t.val / 4 = 0) :
    outsAt0 m c t.val t.isLt = outs (iblk m c 0 t) (iblk m c 4 t) (iblk m c 5 t) (iblk m c 6 t) := by
  have := points t
  rw [outsAt0_A m c t (by omega) (by omega) (by omega) (by omega)]
  refine Prod.ext ?_ (Prod.ext ?_ (Prod.ext ?_ ?_)) <;>
  · funext y
    idx_vars y
    frame_out
    rfl
theorem total_at_0 (t : Fin cfg0.N) (h : t.val / 4 = 0) (i : Fin 256) (j : Fin 512) :
    total (iblk m c 0 t) (ix2 i j) = grad m c (ix3 (layerAt t) (rowAt t i) j) := by
  rw [total_apply, grad, rGrad_apply]
  refine congrArg sumDevices (funext fun p => ?_)
  rw [show layerAt t = 0 from Fin.ext h]
  show _ = m ((c : Thread nD τ).loc main_arg0) (ix3 p ⟨t.val % 4 * 256 + i.val, by omega⟩ j)
  blk_point [iblk, V, idx t, h]
  rw [if_pos trivial]
theorem outs_at_1 (t : Fin cfg0.N) (h : t.val / 4 = 1) :
    outsAt0 m c t.val t.isLt = outs (iblk m c 1 t) (iblk m c 4 t) (iblk m c 5 t) (iblk m c 6 t) := by
  have := points t
  rw [outsAt0_B m c t (by omega) (by omega) (by omega) (by omega)]
  refine Prod.ext ?_ (Prod.ext ?_ (Prod.ext ?_ ?_)) <;>
  · funext y
    idx_vars y
    frame_out
    rfl
theorem total_at_1 (t : Fin cfg0.N) (h : t.val / 4 = 1) (i : Fin 256) (j : Fin 512) :
    total (iblk m c 1 t) (ix2 i j) = grad m c (ix3 (layerAt t) (rowAt t i) j) := by
  rw [total_apply, grad, rGrad_apply]
  refine congrArg sumDevices (funext fun p => ?_)
  rw [show layerAt t = 1 from Fin.ext h]
  show _ = m ((c : Thread nD τ).loc main_arg1) (ix3 p ⟨t.val % 4 * 256 + i.val, by omega⟩ j)
  blk_point [iblk, V, idx t, h]
  rw [if_pos trivial]
theorem outs_at_2 (t : Fin cfg0.N) (h : t.val / 4 = 2) :
    outsAt0 m c t.val t.isLt = outs (iblk m c 2 t) (iblk m c 4 t) (iblk m c 5 t) (iblk m c 6 t) := by
  have := points t
  rw [outsAt0_C m c t (by omega) (by omega) (by omega) (by omega)]
  refine Prod.ext ?_ (Prod.ext ?_ (Prod.ext ?_ ?_)) <;>
  · funext y
    idx_vars y
    frame_out
    rfl
theorem total_at_2 (t : Fin cfg0.N) (h : t.val / 4 = 2) (i : Fin 256) (j : Fin 512) :
    total (iblk m c 2 t) (ix2 i j) = grad m c (ix3 (layerAt t) (rowAt t i) j) := by
  rw [total_apply, grad, rGrad_apply]
  refine congrArg sumDevices (funext fun p => ?_)
  rw [show layerAt t = 2 from Fin.ext h]
  show _ = m ((c : Thread nD τ).loc main_arg2) (ix3 p ⟨t.val % 4 * 256 + i.val, by omega⟩ j)
  blk_point [iblk, V, idx t, h]
  rw [if_pos trivial]
theorem outs_at_3 (t : Fin cfg0.N) (h : t.val / 4 = 3) :
    outsAt0 m c t.val t.isLt = outs (iblk m c 3 t) (iblk m c 4 t) (iblk m c 5 t) (iblk m c 6 t) := by
  have := points t
  rw [outsAt0_D m c t (by omega) (by omega) (by omega) (by omega)]
  refine Prod.ext ?_ (Prod.ext ?_ (Prod.ext ?_ ?_)) <;>
  · funext y
    idx_vars y
    frame_out
    rfl
theorem total_at_3 (t : Fin cfg0.N) (h : t.val / 4 = 3) (i : Fin 256) (j : Fin 512) :
    total (iblk m c 3 t) (ix2 i j) = grad m c (ix3 (layerAt t) (rowAt t i) j) := by
  rw [total_apply, grad, rGrad_apply]
  refine congrArg sumDevices (funext fun p => ?_)
  rw [show layerAt t = 3 from Fin.ext h]
  show _ = m ((c : Thread nD τ).loc main_arg3) (ix3 p ⟨t.val % 4 * 256 + i.val, by omega⟩ j)
  blk_point [iblk, V, idx t, h]
  rw [if_pos trivial]
theorem readW (t : Fin cfg0.N) (i : Fin 256) (j : Fin 512) :
    iblk m c 4 t (ix3 0 i j) = m ((c : Thread nD τ).loc main_arg4) (ix3 (layerAt t) (rowAt t i) j) := by
  show _ = m ((c : Thread nD τ).loc main_arg4) (ix3 ⟨t.val / 4, by have := points t; omega⟩ ⟨t.val % 4 * 256 + i.val, by omega⟩ j)
  blk_point [iblk, V, idx t]
theorem readM (t : Fin cfg0.N) (i : Fin 256) (j : Fin 512) :
    iblk m c 5 t (ix3 0 i j) = m ((c : Thread nD τ).loc main_arg5) (ix3 (layerAt t) (rowAt t i) j) := by
  show _ = m ((c : Thread nD τ).loc main_arg5) (ix3 ⟨t.val / 4, by have := points t; omega⟩ ⟨t.val % 4 * 256 + i.val, by omega⟩ j)
  blk_point [iblk, V, idx t]
theorem readV (t : Fin cfg0.N) (i : Fin 256) (j : Fin 512) :
    iblk m c 6 t (ix3 0 i j) = m ((c : Thread nD τ).loc main_arg6) (ix3 (layerAt t) (rowAt t i) j) := by
  show _ = m ((c : Thread nD τ).loc main_arg6) (ix3 ⟨t.val / 4, by have := points t; omega⟩ ⟨t.val % 4 * 256 + i.val, by omega⟩ j)
  blk_point [iblk, V, idx t]

theorem point (t : Fin cfg0.N) (i : Fin 256) (j : Fin 512) :
    (outsAt0 m c t.val t.isLt).1 (ix3 0 i j) = grad m c (ix3 (layerAt t) (rowAt t i) j)
    ∧ (outsAt0 m c t.val t.isLt).2.1 (ix3 0 i j) = delta (grad m c (ix3 (layerAt t) (rowAt t i) j)) (m ((c : Thread nD τ).loc main_arg4) (ix3 (layerAt t) (rowAt t i) j)) (m ((c : Thread nD τ).loc main_arg5) (ix3 (layerAt t) (rowAt t i) j)) (m ((c : Thread nD τ).loc main_arg6) (ix3 (layerAt t) (rowAt t i) j))
    ∧ (outsAt0 m c t.val t.isLt).2.2.1 (ix3 0 i j) = newM (grad m c (ix3 (layerAt t) (rowAt t i) j)) (m ((c : Thread nD τ).loc main_arg5) (ix3 (layerAt t) (rowAt t i) j))
    ∧ (outsAt0 m c t.val t.isLt).2.2.2 (ix3 0 i j) = newV (grad m c (ix3 (layerAt t) (rowAt t i) j)) (m ((c : Thread nD τ).loc main_arg6) (ix3 (layerAt t) (rowAt t i) j)) := by
  have := points t
  rcases (by omega : t.val / 4 = 0 ∨ t.val / 4 = 1 ∨ t.val / 4 = 2 ∨ t.val / 4 = 3) with h | h | h | h
  · rw [outs_at_0 m c t h, outs_0, outs_1, outs_2, outs_3, total_at_0 m c t h, readW, readM, readV]
    exact ⟨rfl, rfl, rfl, rfl⟩
  · rw [outs_at_1 m c t h, outs_0, outs_1, outs_2, outs_3, total_at_1 m c t h, readW, readM, readV]
    exact ⟨rfl, rfl, rfl, rfl⟩
  · rw [outs_at_2 m c t h, outs_0, outs_1, outs_2, outs_3, total_at_2 m c t h, readW, readM, readV]
    exact ⟨rfl, rfl, rfl, rfl⟩
  · rw [outs_at_3 m c t h, outs_0, outs_1, outs_2, outs_3, total_at_3 m c t h, readW, readM, readV]
    exact ⟨rfl, rfl, rfl, rfl⟩

theorem array7 : (dats m 0 c).arrAt 7 cfg0.N = fun y : S4x1024x512.Idx => grad m c y := by
  refine (dats m 0 c).arrAt_eq_of_covers 7 _ (by decide +kernel) fun t hf y => ?_
  blk_simp
  rw [after0_7]
  idx_vars y
  obtain rfl : y0 = 0 := Subsingleton.elim _ _
  refine ((point m c t _ _).1).trans (congrArg (fun y : S4x1024x512.Idx => grad m c y) ?_)
  refine funext fun a => Fin.ext ?_
  match a with
  | 0 => show t.val / 4 = _; blk_simp [idx t]; rfl
  | 1 => show t.val % 4 * 256 + y1.val = _; blk_simp [idx t]
  | 2 => blk_simp [idx t]
theorem array8 : (dats m 0 c).arrAt 8 cfg0.N = fun y : S4x1024x512.Idx => delta (grad m c y) (m ((c : Thread nD τ).loc main_arg4) y) (m ((c : Thread nD τ).loc main_arg5) y) (m ((c : Thread nD τ).loc main_arg6) y) := by
  refine (dats m 0 c).arrAt_eq_of_covers 8 _ (by decide +kernel) fun t hf y => ?_
  blk_simp
  rw [after0_8]
  idx_vars y
  obtain rfl : y0 = 0 := Subsingleton.elim _ _
  refine ((point m c t _ _).2.1).trans (congrArg (fun y : S4x1024x512.Idx => delta (grad m c y) (m ((c : Thread nD τ).loc main_arg4) y) (m ((c : Thread nD τ).loc main_arg5) y) (m ((c : Thread nD τ).loc main_arg6) y)) ?_)
  refine funext fun a => Fin.ext ?_
  match a with
  | 0 => show t.val / 4 = _; blk_simp [idx t]; rfl
  | 1 => show t.val % 4 * 256 + y1.val = _; blk_simp [idx t]
  | 2 => blk_simp [idx t]
theorem array9 : (dats m 0 c).arrAt 9 cfg0.N = fun y : S4x1024x512.Idx => newM (grad m c y) (m ((c : Thread nD τ).loc main_arg5) y) := by
  refine (dats m 0 c).arrAt_eq_of_covers 9 _ (by decide +kernel) fun t hf y => ?_
  blk_simp
  rw [after0_9]
  idx_vars y
  obtain rfl : y0 = 0 := Subsingleton.elim _ _
  refine ((point m c t _ _).2.2.1).trans (congrArg (fun y : S4x1024x512.Idx => newM (grad m c y) (m ((c : Thread nD τ).loc main_arg5) y)) ?_)
  refine funext fun a => Fin.ext ?_
  match a with
  | 0 => show t.val / 4 = _; blk_simp [idx t]; rfl
  | 1 => show t.val % 4 * 256 + y1.val = _; blk_simp [idx t]
  | 2 => blk_simp [idx t]
theorem array10 : (dats m 0 c).arrAt 10 cfg0.N = fun y : S4x1024x512.Idx => newV (grad m c y) (m ((c : Thread nD τ).loc main_arg6) y) := by
  refine (dats m 0 c).arrAt_eq_of_covers 10 _ (by decide +kernel) fun t hf y => ?_
  blk_simp
  rw [after0_10]
  idx_vars y
  obtain rfl : y0 = 0 := Subsingleton.elim _ _
  refine ((point m c t _ _).2.2.2).trans (congrArg (fun y : S4x1024x512.Idx => newV (grad m c y) (m ((c : Thread nD τ).loc main_arg6) y)) ?_)
  refine funext fun a => Fin.ext ?_
  match a with
  | 0 => show t.val / 4 = _; blk_simp [idx t]; rfl
  | 1 => show t.val % 4 * 256 + y1.val = _; blk_simp [idx t]
  | 2 => blk_simp [idx t]
end Kernel

theorem frameK : Cert.quiescent_KernelAdamIn := fun m ρ _ => Cert.KernelAdamIn.Gen.frame m ρ

theorem frameKI : Cert.quiescent_KernelAdamInIdeal := fun m ρ _ => Cert.KernelAdamInIdeal.Gen.frame m ρ

theorem frameRI : Cert.quiescent_ReferenceAdamInIdeal := fun m ρ _ =>
  (θ_run _ _ _).mono
    (fun r h => ⟨fun c => (h c).2.2.2.2, sem_eq_zero_of_no_sems (by decide) r.2⟩) (Cert.ReferenceAdamInIdeal.Value.run m ρ)

theorem preserves : Cert.preserves_KernelAdamIn_KernelAdamInIdeal := trivial

theorem algebraic : Cert.algebraic_KernelAdamInIdeal_ReferenceAdamInIdeal := by
  intro m g m' g' _ hagree
  refine ⟨_, _, _, _, (θ_run _ _ _).mono (fun r k c => ?_) (Cert.KernelAdamInIdeal.Value.run_blocks m g),
    Cert.ReferenceAdamInIdeal.Value.run m' g'⟩
  refine ⟨(k c).1.trans ?_, (k c).2.1.trans ?_, (k c).2.2.1.trans ?_, (k c).2.2.2.1.trans ?_, (k c).2.2.2.2⟩
  all_goals obtain ⟨h0, h1, h2, h3, h4, h5, h6⟩ := hagree c
  · rw [array7, h0, h1, h2, h3]
    exact rfl
  · unfold Cert.ReferenceAdamInIdeal.Value.res_main_v30
    rw [array8, h0, h1, h2, h3, h4, h5, h6]
    exact rfl
  · rw [array9, h0, h1, h2, h3, h5]
    exact rfl
  · rw [array10, h0, h1, h2, h3, h6]
    exact rfl

end Cert.AdamIn

end
end
-- ==== Proof.AdamOut.Equation.lean ====
module

public import proofs.«01_k».proof.Defs
public import proofs.«01_k».proof.Proof.Gen.KernelAdamOut.Frame
public import proofs.«01_k».proof.Proof.Gen.KernelAdamOutIdeal.Value
public import proofs.«01_k».proof.Proof.Gen.ReferenceAdamOutIdeal.Run
public import proofs.«01_k».proof.Proof.Adam.Update

@[expose] public section

set_option maxRecDepth 16384

/-! The optimiser on a stack of 4 matrices of 512 × 1024: a grid point updates 256 rows of one layer, from that layer's
    eight gradients. -/

noncomputable section

namespace Cert.AdamOut

open Idealize.ShloMosaic Idealize.ShloMosaic.TcCoe Idealize.SL.Sem
open Idealize.ShloMosaic.Pipeline (Dat)
open Cert.Adam

section Reference
open Cert.ReferenceAdamOutIdeal Cert.ReferenceAdamOutIdeal.Gen
variable (r0 r1 r2 r3 : FVec Ideal S8x512x1024 .bf16)

/-- The reference's gradient of given arrays of the layers. -/
def rGrad : FVec Ideal S4x512x1024 .f32 :=
  Host.reduceAdd (extf .f32 (concatenate S4x8x512x1024 0 [⟨S1x8x512x1024, (broadcastInDim S1x8x512x1024 ![1, 2, 3] bcast_S8x512x1024_S1x8x512x1024_1_2_3 r0)⟩, ⟨S1x8x512x1024, (broadcastInDim S1x8x512x1024 ![1, 2, 3] bcast_S8x512x1024_S1x8x512x1024_1_2_3 r1)⟩, ⟨S1x8x512x1024, (broadcastInDim S1x8x512x1024 ![1, 2, 3] bcast_S8x512x1024_S1x8x512x1024_1_2_3 r2)⟩, ⟨S1x8x512x1024, (broadcastInDim S1x8x512x1024 ![1, 2, 3] bcast_S8x512x1024_S1x8x512x1024_1_2_3 r3)⟩] concatenates_S1x8x512x1024_S1x8x512x1024_S1x8x512x1024_S1x8x512x1024_S4x8x512x1024_d0) bitsLt_bf16_f32) (constant S_ .f32 0x00000000#32) reducesTo_S4x8x512x1024_S4x512x1024_d1 h_S_

theorem rGrad_apply (l : Fin 4) (i : Fin 512) (j : Fin 1024) :
    rGrad r0 r1 r2 r3 (ix3 l i j) = sumDevices fun p => (![r0, r1, r2, r3] l) (ix3 p i j) := by
  rw [← sumDevices_eq]
  pointwise [rGrad]
  fin_cases l <;> rfl
end Reference

section Kernel
open Cert.KernelAdamOutIdeal Cert.KernelAdamOutIdeal.Gen
variable (m : (ℓ : Loc nD τ sig) → Buf (Elt Ideal) ℓ) (c : Dev nD)

/-- The block's gradient: the eight devices' added up. -/
def total (x : FVec Ideal S8x256x1024 .bf16) : FVec Ideal S256x1024 .f32 := k0_pay9 (F := Ideal)
    (View.ld (Val := Elt Ideal) (e' := .bf16) x (Rect.unit ![0, 0, 0] ![1, 256, 1024] Gen.inb_S8x256x1024_S1x256x1024_0_0_0))
    (View.ld (Val := Elt Ideal) (e' := .bf16) x (Rect.unit ![1, 0, 0] ![1, 256, 1024] Gen.inb_S8x256x1024_S1x256x1024_1_0_0))
    (View.ld (Val := Elt Ideal) (e' := .bf16) x (Rect.unit ![2, 0, 0] ![1, 256, 1024] Gen.inb_S8x256x1024_S1x256x1024_2_0_0))
    (View.ld (Val := Elt Ideal) (e' := .bf16) x (Rect.unit ![3, 0, 0] ![1, 256, 1024] Gen.inb_S8x256x1024_S1x256x1024_3_0_0))
    (View.ld (Val := Elt Ideal) (e' := .bf16) x (Rect.unit ![4, 0, 0] ![1, 256, 1024] Gen.inb_S8x256x1024_S1x256x1024_4_0_0))
    (View.ld (Val := Elt Ideal) (e' := .bf16) x (Rect.unit ![5, 0, 0] ![1, 256, 1024] Gen.inb_S8x256x1024_S1x256x1024_5_0_0))
    (View.ld (Val := Elt Ideal) (e' := .bf16) x (Rect.unit ![6, 0, 0] ![1, 256, 1024] Gen.inb_S8x256x1024_S1x256x1024_6_0_0))
    (View.ld (Val := Elt Ideal) (e' := .bf16) x (Rect.unit ![7, 0, 0] ![1, 256, 1024] Gen.inb_S8x256x1024_S1x256x1024_7_0_0))

theorem total_apply (x : FVec Ideal S8x256x1024 .bf16) (i : Fin 256) (j : Fin 1024) :
    total x (ix2 i j) = sumDevices fun p => x (ix3 p i j) := by
  pointwise [total, k0_pay9, sumDevices]

/-- The four blocks a point leaves. -/
def outs (x : FVec Ideal S8x256x1024 .bf16) (w m v : FVec Ideal S1x256x1024 .f32) :
    FVec Ideal S1x256x1024 .f32 × FVec Ideal S1x256x1024 .f32 × FVec Ideal S1x256x1024 .f32 × FVec Ideal S1x256x1024 .f32 :=
  (k0_pay10 (F := Ideal) (total x), k0_pay13 (F := Ideal) (total x) w m v, k0_pay1 (F := Ideal) (k0_pay11 (F := Ideal) (total x) m), k0_pay2 (F := Ideal) (k0_pay12 (F := Ideal) (total x) v))

theorem outs_0 (x : FVec Ideal S8x256x1024 .bf16) (w m v : FVec Ideal S1x256x1024 .f32) (i : Fin 256) (j : Fin 1024) :
    (outs x w m v).1 (ix3 0 i j) = total x (ix2 i j) := by
  pointwise [outs, k0_pay10]
theorem outs_1 (x : FVec Ideal S8x256x1024 .bf16) (w m v : FVec Ideal S1x256x1024 .f32) (i : Fin 256) (j : Fin 1024) :
    (outs x w m v).2.1 (ix3 0 i j) = delta (total x (ix2 i j)) (w (ix3 0 i j)) (m (ix3 0 i j)) (v (ix3 0 i j)) := by
  pointwise [outs, k0_pay13, k0_pay11, k0_pay12, delta, newM, newV]
theorem outs_2 (x : FVec Ideal S8x256x1024 .bf16) (w m v : FVec Ideal S1x256x1024 .f32) (i : Fin 256) (j : Fin 1024) :
    (outs x w m v).2.2.1 (ix3 0 i j) = newM (total x (ix2 i j)) (m (ix3 0 i j)) := by
  pointwise [outs, k0_pay1, k0_pay11, newM]
theorem outs_3 (x : FVec Ideal S8x256x1024 .bf16) (w m v : FVec Ideal S1x256x1024 .f32) (i : Fin 256) (j : Fin 1024) :
    (outs x w m v).2.2.2 (ix3 0 i j) = newV (total x (ix2 i j)) (v (ix3 0 i j)) := by
  pointwise [outs, k0_pay2, k0_pay12, newV]

theorem idx : ∀ t : Fin cfg0.N, win0_0.index t = ![0, if t.val / 2 = 0 then t.val % 2 else 0, 0] ∧ win0_1.index t = ![0, if t.val / 2 = 1 then t.val % 2 else 0, 0] ∧ win0_2.index t = ![0, if t.val / 2 = 2 then t.val % 2 else 0, 0] ∧ win0_3.index t = ![0, if t.val / 2 = 3 then t.val % 2 else 0, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] ∧ win0_9.index t = ![t.val / 2, t.val % 2, 0] ∧ win0_10.index t = ![t.val / 2, t.val % 2, 0] :=
  (by decide +kernel : ∀ t : Fin grid0.N, _)

theorem points (t : Fin cfg0.N) : t.val < 8 := lt_of_lt_of_eq t.isLt N_0

/-- The layer of a point, and the array row that is row `i` of its block. -/
def layerAt (t : Fin cfg0.N) : Fin 4 := ⟨t.val / 2, by have := points t; omega⟩
def rowAt (t : Fin cfg0.N) (i : Fin 256) : Fin 512 := ⟨t.val % 2 * 256 + i.val, by omega⟩

/-- The gradient of the argument arrays. -/
def grad : FVec Ideal S4x512x1024 .f32 := rGrad (m ((c : Thread nD τ).loc main_arg0)) (m ((c : Thread nD τ).loc main_arg1)) (m ((c : Thread nD τ).loc main_arg2)) (m ((c : Thread nD τ).loc main_arg3))

theorem outs_at_0 (t : Fin cfg0.N) (h : t.val / 2 = 0) :
    outsAt0 m c t.val t.isLt = outs (iblk m c 0 t) (iblk m c 4 t) (iblk m c 5 t) (iblk m c 6 t) := by
  have := points t
  rw [outsAt0_A m c t (by omega) (by omega) (by omega) (by omega)]
  refine Prod.ext ?_ (Prod.ext ?_ (Prod.ext ?_ ?_)) <;>
  · funext y
    idx_vars y
    frame_out
    rfl
theorem total_at_0 (t : Fin cfg0.N) (h : t.val / 2 = 0) (i : Fin 256) (j : Fin 1024) :
    total (iblk m c 0 t) (ix2 i j) = grad m c (ix3 (layerAt t) (rowAt t i) j) := by
  rw [total_apply, grad, rGrad_apply]
  refine congrArg sumDevices (funext fun p => ?_)
  rw [show layerAt t = 0 from Fin.ext h]
  show _ = m ((c : Thread nD τ).loc main_arg0) (ix3 p ⟨t.val % 2 * 256 + i.val, by omega⟩ j)
  blk_point [iblk, V, idx t, h]
  rw [if_pos trivial]
theorem outs_at_1 (t : Fin cfg0.N) (h : t.val / 2 = 1) :
    outsAt0 m c t.val t.isLt = outs (iblk m c 1 t) (iblk m c 4 t) (iblk m c 5 t) (iblk m c 6 t) := by
  have := points t
  rw [outsAt0_B m c t (by omega) (by omega) (by omega) (by omega)]
  refine Prod.ext ?_ (Prod.ext ?_ (Prod.ext ?_ ?_)) <;>
  · funext y
    idx_vars y
    frame_out
    rfl
theorem total_at_1 (t : Fin cfg0.N) (h : t.val / 2 = 1) (i : Fin 256) (j : Fin 1024) :
    total (iblk m c 1 t) (ix2 i j) = grad m c (ix3 (layerAt t) (rowAt t i) j) := by
  rw [total_apply, grad, rGrad_apply]
  refine congrArg sumDevices (funext fun p => ?_)
  rw [show layerAt t = 1 from Fin.ext h]
  show _ = m ((c : Thread nD τ).loc main_arg1) (ix3 p ⟨t.val % 2 * 256 + i.val, by omega⟩ j)
  blk_point [iblk, V, idx t, h]
  rw [if_pos trivial]
theorem outs_at_2 (t : Fin cfg0.N) (h : t.val / 2 = 2) :
    outsAt0 m c t.val t.isLt = outs (iblk m c 2 t) (iblk m c 4 t) (iblk m c 5 t) (iblk m c 6 t) := by
  have := points t
  rw [outsAt0_C m c t (by omega) (by omega) (by omega) (by omega)]
  refine Prod.ext ?_ (Prod.ext ?_ (Prod.ext ?_ ?_)) <;>
  · funext y
    idx_vars y
    frame_out
    rfl
theorem total_at_2 (t : Fin cfg0.N) (h : t.val / 2 = 2) (i : Fin 256) (j : Fin 1024) :
    total (iblk m c 2 t) (ix2 i j) = grad m c (ix3 (layerAt t) (rowAt t i) j) := by
  rw [total_apply, grad, rGrad_apply]
  refine congrArg sumDevices (funext fun p => ?_)
  rw [show layerAt t = 2 from Fin.ext h]
  show _ = m ((c : Thread nD τ).loc main_arg2) (ix3 p ⟨t.val % 2 * 256 + i.val, by omega⟩ j)
  blk_point [iblk, V, idx t, h]
  rw [if_pos trivial]
theorem outs_at_3 (t : Fin cfg0.N) (h : t.val / 2 = 3) :
    outsAt0 m c t.val t.isLt = outs (iblk m c 3 t) (iblk m c 4 t) (iblk m c 5 t) (iblk m c 6 t) := by
  have := points t
  rw [outsAt0_D m c t (by omega) (by omega) (by omega) (by omega)]
  refine Prod.ext ?_ (Prod.ext ?_ (Prod.ext ?_ ?_)) <;>
  · funext y
    idx_vars y
    frame_out
    rfl
theorem total_at_3 (t : Fin cfg0.N) (h : t.val / 2 = 3) (i : Fin 256) (j : Fin 1024) :
    total (iblk m c 3 t) (ix2 i j) = grad m c (ix3 (layerAt t) (rowAt t i) j) := by
  rw [total_apply, grad, rGrad_apply]
  refine congrArg sumDevices (funext fun p => ?_)
  rw [show layerAt t = 3 from Fin.ext h]
  show _ = m ((c : Thread nD τ).loc main_arg3) (ix3 p ⟨t.val % 2 * 256 + i.val, by omega⟩ j)
  blk_point [iblk, V, idx t, h]
  rw [if_pos trivial]
theorem readW (t : Fin cfg0.N) (i : Fin 256) (j : Fin 1024) :
    iblk m c 4 t (ix3 0 i j) = m ((c : Thread nD τ).loc main_arg4) (ix3 (layerAt t) (rowAt t i) j) := by
  show _ = m ((c : Thread nD τ).loc main_arg4) (ix3 ⟨t.val / 2, by have := points t; omega⟩ ⟨t.val % 2 * 256 + i.val, by omega⟩ j)
  blk_point [iblk, V, idx t]
theorem readM (t : Fin cfg0.N) (i : Fin 256) (j : Fin 1024) :
    iblk m c 5 t (ix3 0 i j) = m ((c : Thread nD τ).loc main_arg5) (ix3 (layerAt t) (rowAt t i) j) := by
  show _ = m ((c : Thread nD τ).loc main_arg5) (ix3 ⟨t.val / 2, by have := points t; omega⟩ ⟨t.val % 2 * 256 + i.val, by omega⟩ j)
  blk_point [iblk, V, idx t]
theorem readV (t : Fin cfg0.N) (i : Fin 256) (j : Fin 1024) :
    iblk m c 6 t (ix3 0 i j) = m ((c : Thread nD τ).loc main_arg6) (ix3 (layerAt t) (rowAt t i) j) := by
  show _ = m ((c : Thread nD τ).loc main_arg6) (ix3 ⟨t.val / 2, by have := points t; omega⟩ ⟨t.val % 2 * 256 + i.val, by omega⟩ j)
  blk_point [iblk, V, idx t]

theorem point (t : Fin cfg0.N) (i : Fin 256) (j : Fin 1024) :
    (outsAt0 m c t.val t.isLt).1 (ix3 0 i j) = grad m c (ix3 (layerAt t) (rowAt t i) j)
    ∧ (outsAt0 m c t.val t.isLt).2.1 (ix3 0 i j) = delta (grad m c (ix3 (layerAt t) (rowAt t i) j)) (m ((c : Thread nD τ).loc main_arg4) (ix3 (layerAt t) (rowAt t i) j)) (m ((c : Thread nD τ).loc main_arg5) (ix3 (layerAt t) (rowAt t i) j)) (m ((c : Thread nD τ).loc main_arg6) (ix3 (layerAt t) (rowAt t i) j))
    ∧ (outsAt0 m c t.val t.isLt).2.2.1 (ix3 0 i j) = newM (grad m c (ix3 (layerAt t) (rowAt t i) j)) (m ((c : Thread nD τ).loc main_arg5) (ix3 (layerAt t) (rowAt t i) j))
    ∧ (outsAt0 m c t.val t.isLt).2.2.2 (ix3 0 i j) = newV (grad m c (ix3 (layerAt t) (rowAt t i) j)) (m ((c : Thread nD τ).loc main_arg6) (ix3 (layerAt t) (rowAt t i) j)) := by
  have := points t
  rcases (by omega : t.val / 2 = 0 ∨ t.val / 2 = 1 ∨ t.val / 2 = 2 ∨ t.val / 2 = 3) with h | h | h | h
  · rw [outs_at_0 m c t h, outs_0, outs_1, outs_2, outs_3, total_at_0 m c t h, readW, readM, readV]
    exact ⟨rfl, rfl, rfl, rfl⟩
  · rw [outs_at_1 m c t h, outs_0, outs_1, outs_2, outs_3, total_at_1 m c t h, readW, readM, readV]
    exact ⟨rfl, rfl, rfl, rfl⟩
  · rw [outs_at_2 m c t h, outs_0, outs_1, outs_2, outs_3, total_at_2 m c t h, readW, readM, readV]
    exact ⟨rfl, rfl, rfl, rfl⟩
  · rw [outs_at_3 m c t h, outs_0, outs_1, outs_2, outs_3, total_at_3 m c t h, readW, readM, readV]
    exact ⟨rfl, rfl, rfl, rfl⟩

theorem array7 : (dats m 0 c).arrAt 7 cfg0.N = fun y : S4x512x1024.Idx => grad m c y := by
  refine (dats m 0 c).arrAt_eq_of_covers 7 _ (by decide +kernel) fun t hf y => ?_
  blk_simp
  rw [after0_7]
  idx_vars y
  obtain rfl : y0 = 0 := Subsingleton.elim _ _
  refine ((point m c t _ _).1).trans (congrArg (fun y : S4x512x1024.Idx => grad m c y) ?_)
  refine funext fun a => Fin.ext ?_
  match a with
  | 0 => show t.val / 2 = _; blk_simp [idx t]; rfl
  | 1 => show t.val % 2 * 256 + y1.val = _; blk_simp [idx t]
  | 2 => blk_simp [idx t]
theorem array8 : (dats m 0 c).arrAt 8 cfg0.N = fun y : S4x512x1024.Idx => delta (grad m c y) (m ((c : Thread nD τ).loc main_arg4) y) (m ((c : Thread nD τ).loc main_arg5) y) (m ((c : Thread nD τ).loc main_arg6) y) := by
  refine (dats m 0 c).arrAt_eq_of_covers 8 _ (by decide +kernel) fun t hf y => ?_
  blk_simp
  rw [after0_8]
  idx_vars y
  obtain rfl : y0 = 0 := Subsingleton.elim _ _
  refine ((point m c t _ _).2.1).trans (congrArg (fun y : S4x512x1024.Idx => delta (grad m c y) (m ((c : Thread nD τ).loc main_arg4) y) (m ((c : Thread nD τ).loc main_arg5) y) (m ((c : Thread nD τ).loc main_arg6) y)) ?_)
  refine funext fun a => Fin.ext ?_
  match a with
  | 0 => show t.val / 2 = _; blk_simp [idx t]; rfl
  | 1 => show t.val % 2 * 256 + y1.val = _; blk_simp [idx t]
  | 2 => blk_simp [idx t]
theorem array9 : (dats m 0 c).arrAt 9 cfg0.N = fun y : S4x512x1024.Idx => newM (grad m c y) (m ((c : Thread nD τ).loc main_arg5) y) := by
  refine (dats m 0 c).arrAt_eq_of_covers 9 _ (by decide +kernel) fun t hf y => ?_
  blk_simp
  rw [after0_9]
  idx_vars y
  obtain rfl : y0 = 0 := Subsingleton.elim _ _
  refine ((point m c t _ _).2.2.1).trans (congrArg (fun y : S4x512x1024.Idx => newM (grad m c y) (m ((c : Thread nD τ).loc main_arg5) y)) ?_)
  refine funext fun a => Fin.ext ?_
  match a with
  | 0 => show t.val / 2 = _; blk_simp [idx t]; rfl
  | 1 => show t.val % 2 * 256 + y1.val = _; blk_simp [idx t]
  | 2 => blk_simp [idx t]
theorem array10 : (dats m 0 c).arrAt 10 cfg0.N = fun y : S4x512x1024.Idx => newV (grad m c y) (m ((c : Thread nD τ).loc main_arg6) y) := by
  refine (dats m 0 c).arrAt_eq_of_covers 10 _ (by decide +kernel) fun t hf y => ?_
  blk_simp
  rw [after0_10]
  idx_vars y
  obtain rfl : y0 = 0 := Subsingleton.elim _ _
  refine ((point m c t _ _).2.2.2).trans (congrArg (fun y : S4x512x1024.Idx => newV (grad m c y) (m ((c : Thread nD τ).loc main_arg6) y)) ?_)
  refine funext fun a => Fin.ext ?_
  match a with
  | 0 => show t.val / 2 = _; blk_simp [idx t]; rfl
  | 1 => show t.val % 2 * 256 + y1.val = _; blk_simp [idx t]
  | 2 => blk_simp [idx t]
end Kernel

theorem frameK : Cert.quiescent_KernelAdamOut := fun m ρ _ => Cert.KernelAdamOut.Gen.frame m ρ

theorem frameKI : Cert.quiescent_KernelAdamOutIdeal := fun m ρ _ => Cert.KernelAdamOutIdeal.Gen.frame m ρ

theorem frameRI : Cert.quiescent_ReferenceAdamOutIdeal := fun m ρ _ =>
  (θ_run _ _ _).mono
    (fun r h => ⟨fun c => (h c).2.2.2.2, sem_eq_zero_of_no_sems (by decide) r.2⟩) (Cert.ReferenceAdamOutIdeal.Value.run m ρ)

theorem preserves : Cert.preserves_KernelAdamOut_KernelAdamOutIdeal := trivial

theorem algebraic : Cert.algebraic_KernelAdamOutIdeal_ReferenceAdamOutIdeal := by
  intro m g m' g' _ hagree
  refine ⟨_, _, _, _, (θ_run _ _ _).mono (fun r k c => ?_) (Cert.KernelAdamOutIdeal.Value.run_blocks m g),
    Cert.ReferenceAdamOutIdeal.Value.run m' g'⟩
  refine ⟨(k c).1.trans ?_, (k c).2.1.trans ?_, (k c).2.2.1.trans ?_, (k c).2.2.2.1.trans ?_, (k c).2.2.2.2⟩
  all_goals obtain ⟨h0, h1, h2, h3, h4, h5, h6⟩ := hagree c
  · rw [array7, h0, h1, h2, h3]
    exact rfl
  · unfold Cert.ReferenceAdamOutIdeal.Value.res_main_v30
    rw [array8, h0, h1, h2, h3, h4, h5, h6]
    exact rfl
  · rw [array9, h0, h1, h2, h3, h5]
    exact rfl
  · rw [array10, h0, h1, h2, h3, h6]
    exact rfl

end Cert.AdamOut

end
end
-- ==== Proof.AdamMix.Equation.lean ====
module

public import proofs.«01_k».proof.Defs
public import proofs.«01_k».proof.Proof.Gen.KernelAdamMix.Frame
public import proofs.«01_k».proof.Proof.Gen.KernelAdamMixIdeal.Value
public import proofs.«01_k».proof.Proof.Gen.ReferenceAdamMixIdeal.Run
public import proofs.«01_k».proof.Proof.Adam.Update

@[expose] public section

set_option maxRecDepth 16384

/-! The optimiser on a stack of 2 matrices of 128 × 1024: a grid point updates 128 rows of one layer, from that layer's
    eight gradients. -/

noncomputable section

namespace Cert.AdamMix

open Idealize.ShloMosaic Idealize.ShloMosaic.TcCoe Idealize.SL.Sem
open Idealize.ShloMosaic.Pipeline (Dat)
open Cert.Adam

section Reference
open Cert.ReferenceAdamMixIdeal Cert.ReferenceAdamMixIdeal.Gen
variable (r0 r1 : FVec Ideal S8x128x1024 .bf16)

/-- The reference's gradient of given arrays of the layers. -/
def rGrad : FVec Ideal S2x128x1024 .f32 :=
  Host.reduceAdd (extf .f32 (concatenate S2x8x128x1024 0 [⟨S1x8x128x1024, (broadcastInDim S1x8x128x1024 ![1, 2, 3] bcast_S8x128x1024_S1x8x128x1024_1_2_3 r0)⟩, ⟨S1x8x128x1024, (broadcastInDim S1x8x128x1024 ![1, 2, 3] bcast_S8x128x1024_S1x8x128x1024_1_2_3 r1)⟩] concatenates_S1x8x128x1024_S1x8x128x1024_S2x8x128x1024_d0) bitsLt_bf16_f32) (constant S_ .f32 0x00000000#32) reducesTo_S2x8x128x1024_S2x128x1024_d1 h_S_

theorem rGrad_apply (l : Fin 2) (i : Fin 128) (j : Fin 1024) :
    rGrad r0 r1 (ix3 l i j) = sumDevices fun p => (![r0, r1] l) (ix3 p i j) := by
  rw [← sumDevices_eq]
  pointwise [rGrad]
  fin_cases l <;> rfl
end Reference

section Kernel
open Cert.KernelAdamMixIdeal Cert.KernelAdamMixIdeal.Gen
variable (m : (ℓ : Loc nD τ sig) → Buf (Elt Ideal) ℓ) (c : Dev nD)

/-- The block's gradient: the eight devices' added up. -/
def total (x : FVec Ideal S8x128x1024 .bf16) : FVec Ideal S128x1024 .f32 := k0_pay5 (F := Ideal)
    (View.ld (Val := Elt Ideal) (e' := .bf16) x (Rect.unit ![0, 0, 0] ![1, 128, 1024] Gen.inb_S8x128x1024_S1x128x1024_0_0_0))
    (View.ld (Val := Elt Ideal) (e' := .bf16) x (Rect.unit ![1, 0, 0] ![1, 128, 1024] Gen.inb_S8x128x1024_S1x128x1024_1_0_0))
    (View.ld (Val := Elt Ideal) (e' := .bf16) x (Rect.unit ![2, 0, 0] ![1, 128, 1024] Gen.inb_S8x128x1024_S1x128x1024_2_0_0))
    (View.ld (Val := Elt Ideal) (e' := .bf16) x (Rect.unit ![3, 0, 0] ![1, 128, 1024] Gen.inb_S8x128x1024_S1x128x1024_3_0_0))
    (View.ld (Val := Elt Ideal) (e' := .bf16) x (Rect.unit ![4, 0, 0] ![1, 128, 1024] Gen.inb_S8x128x1024_S1x128x1024_4_0_0))
    (View.ld (Val := Elt Ideal) (e' := .bf16) x (Rect.unit ![5, 0, 0] ![1, 128, 1024] Gen.inb_S8x128x1024_S1x128x1024_5_0_0))
    (View.ld (Val := Elt Ideal) (e' := .bf16) x (Rect.unit ![6, 0, 0] ![1, 128, 1024] Gen.inb_S8x128x1024_S1x128x1024_6_0_0))
    (View.ld (Val := Elt Ideal) (e' := .bf16) x (Rect.unit ![7, 0, 0] ![1, 128, 1024] Gen.inb_S8x128x1024_S1x128x1024_7_0_0))

theorem total_apply (x : FVec Ideal S8x128x1024 .bf16) (i : Fin 128) (j : Fin 1024) :
    total x (ix2 i j) = sumDevices fun p => x (ix3 p i j) := by
  pointwise [total, k0_pay5, sumDevices]

/-- The four blocks a point leaves. -/
def outs (x : FVec Ideal S8x128x1024 .bf16) (w m v : FVec Ideal S1x128x1024 .f32) :
    FVec Ideal S1x128x1024 .f32 × FVec Ideal S1x128x1024 .f32 × FVec Ideal S1x128x1024 .f32 × FVec Ideal S1x128x1024 .f32 :=
  (k0_pay6 (F := Ideal) (total x), k0_pay9 (F := Ideal) (total x) w m v, k0_pay1 (F := Ideal) (k0_pay7 (F := Ideal) (total x) m), k0_pay2 (F := Ideal) (k0_pay8 (F := Ideal) (total x) v))

theorem outs_0 (x : FVec Ideal S8x128x1024 .bf16) (w m v : FVec Ideal S1x128x1024 .f32) (i : Fin 128) (j : Fin 1024) :
    (outs x w m v).1 (ix3 0 i j) = total x (ix2 i j) := by
  pointwise [outs, k0_pay6]
theorem outs_1 (x : FVec Ideal S8x128x1024 .bf16) (w m v : FVec Ideal S1x128x1024 .f32) (i : Fin 128) (j : Fin 1024) :
    (outs x w m v).2.1 (ix3 0 i j) = delta (total x (ix2 i j)) (w (ix3 0 i j)) (m (ix3 0 i j)) (v (ix3 0 i j)) := by
  pointwise [outs, k0_pay9, k0_pay7, k0_pay8, delta, newM, newV]
theorem outs_2 (x : FVec Ideal S8x128x1024 .bf16) (w m v : FVec Ideal S1x128x1024 .f32) (i : Fin 128) (j : Fin 1024) :
    (outs x w m v).2.2.1 (ix3 0 i j) = newM (total x (ix2 i j)) (m (ix3 0 i j)) := by
  pointwise [outs, k0_pay1, k0_pay7, newM]
theorem outs_3 (x : FVec Ideal S8x128x1024 .bf16) (w m v : FVec Ideal S1x128x1024 .f32) (i : Fin 128) (j : Fin 1024) :
    (outs x w m v).2.2.2 (ix3 0 i j) = newV (total x (ix2 i j)) (v (ix3 0 i j)) := by
  pointwise [outs, k0_pay2, k0_pay8, newV]

theorem idx : ∀ t : Fin cfg0.N, win0_0.index t = ![0, if t.val / 1 = 0 then t.val % 1 else 0, 0] ∧ win0_1.index t = ![0, if t.val / 1 = 1 then t.val % 1 else 0, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)

theorem points (t : Fin cfg0.N) : t.val < 2 := lt_of_lt_of_eq t.isLt N_0

/-- The layer of a point, and the array row that is row `i` of its block. -/
def layerAt (t : Fin cfg0.N) : Fin 2 := ⟨t.val / 1, by have := points t; omega⟩
def rowAt (t : Fin cfg0.N) (i : Fin 128) : Fin 128 := ⟨t.val % 1 * 128 + i.val, by omega⟩

/-- The gradient of the argument arrays. -/
def grad : FVec Ideal S2x128x1024 .f32 := rGrad (m ((c : Thread nD τ).loc main_arg0)) (m ((c : Thread nD τ).loc main_arg1))

theorem outs_at_0 (t : Fin cfg0.N) (h : t.val / 1 = 0) :
    outsAt0 m c t.val t.isLt = outs (iblk m c 0 t) (iblk m c 2 t) (iblk m c 3 t) (iblk m c 4 t) := by
  have := points t
  rw [outsAt0_A m c t (by omega) (by omega)]
  refine Prod.ext ?_ (Prod.ext ?_ (Prod.ext ?_ ?_)) <;>
  · funext y
    idx_vars y
    frame_out
    rfl
theorem total_at_0 (t : Fin cfg0.N) (h : t.val / 1 = 0) (i : Fin 128) (j : Fin 1024) :
    total (iblk m c 0 t) (ix2 i j) = grad m c (ix3 (layerAt t) (rowAt t i) j) := by
  rw [total_apply, grad, rGrad_apply]
  refine congrArg sumDevices (funext fun p => ?_)
  rw [show layerAt t = 0 from Fin.ext h]
  show _ = m ((c : Thread nD τ).loc main_arg0) (ix3 p ⟨t.val % 1 * 128 + i.val, by omega⟩ j)
  blk_point [iblk, V, idx t, h]
  rw [if_pos trivial]
theorem outs_at_1 (t : Fin cfg0.N) (h : t.val / 1 = 1) :
    outsAt0 m c t.val t.isLt = outs (iblk m c 1 t) (iblk m c 2 t) (iblk m c 3 t) (iblk m c 4 t) := by
  have := points t
  rw [outsAt0_B m c t (by omega) (by omega)]
  refine Prod.ext ?_ (Prod.ext ?_ (Prod.ext ?_ ?_)) <;>
  · funext y
    idx_vars y
    frame_out
    rfl
theorem total_at_1 (t : Fin cfg0.N) (h : t.val / 1 = 1) (i : Fin 128) (j : Fin 1024) :
    total (iblk m c 1 t) (ix2 i j) = grad m c (ix3 (layerAt t) (rowAt t i) j) := by
  rw [total_apply, grad, rGrad_apply]
  refine congrArg sumDevices (funext fun p => ?_)
  rw [show layerAt t = 1 from Fin.ext h]
  show _ = m ((c : Thread nD τ).loc main_arg1) (ix3 p ⟨t.val % 1 * 128 + i.val, by omega⟩ j)
  blk_point [iblk, V, idx t, h]
  rw [if_pos trivial]
theorem readW (t : Fin cfg0.N) (i : Fin 128) (j : Fin 1024) :
    iblk m c 2 t (ix3 0 i j) = m ((c : Thread nD τ).loc main_arg2) (ix3 (layerAt t) (rowAt t i) j) := by
  show _ = m ((c : Thread nD τ).loc main_arg2) (ix3 ⟨t.val / 1, by have := points t; omega⟩ ⟨t.val % 1 * 128 + i.val, by omega⟩ j)
  blk_point [iblk, V, idx t]
theorem readM (t : Fin cfg0.N) (i : Fin 128) (j : Fin 1024) :
    iblk m c 3 t (ix3 0 i j) = m ((c : Thread nD τ).loc main_arg3) (ix3 (layerAt t) (rowAt t i) j) := by
  show _ = m ((c : Thread nD τ).loc main_arg3) (ix3 ⟨t.val / 1, by have := points t; omega⟩ ⟨t.val % 1 * 128 + i.val, by omega⟩ j)
  blk_point [iblk, V, idx t]
theorem readV (t : Fin cfg0.N) (i : Fin 128) (j : Fin 1024) :
    iblk m c 4 t (ix3 0 i j) = m ((c : Thread nD τ).loc main_arg4) (ix3 (layerAt t) (rowAt t i) j) := by
  show _ = m ((c : Thread nD τ).loc main_arg4) (ix3 ⟨t.val / 1, by have := points t; omega⟩ ⟨t.val % 1 * 128 + i.val, by omega⟩ j)
  blk_point [iblk, V, idx t]

theorem point (t : Fin cfg0.N) (i : Fin 128) (j : Fin 1024) :
    (outsAt0 m c t.val t.isLt).1 (ix3 0 i j) = grad m c (ix3 (layerAt t) (rowAt t i) j)
    ∧ (outsAt0 m c t.val t.isLt).2.1 (ix3 0 i j) = delta (grad m c (ix3 (layerAt t) (rowAt t i) j)) (m ((c : Thread nD τ).loc main_arg2) (ix3 (layerAt t) (rowAt t i) j)) (m ((c : Thread nD τ).loc main_arg3) (ix3 (layerAt t) (rowAt t i) j)) (m ((c : Thread nD τ).loc main_arg4) (ix3 (layerAt t) (rowAt t i) j))
    ∧ (outsAt0 m c t.val t.isLt).2.2.1 (ix3 0 i j) = newM (grad m c (ix3 (layerAt t) (rowAt t i) j)) (m ((c : Thread nD τ).loc main_arg3) (ix3 (layerAt t) (rowAt t i) j))
    ∧ (outsAt0 m c t.val t.isLt).2.2.2 (ix3 0 i j) = newV (grad m c (ix3 (layerAt t) (rowAt t i) j)) (m ((c : Thread nD τ).loc main_arg4) (ix3 (layerAt t) (rowAt t i) j)) := by
  have := points t
  rcases (by omega : t.val / 1 = 0 ∨ t.val / 1 = 1) with h | h
  · rw [outs_at_0 m c t h, outs_0, outs_1, outs_2, outs_3, total_at_0 m c t h, readW, readM, readV]
    exact ⟨rfl, rfl, rfl, rfl⟩
  · rw [outs_at_1 m c t h, outs_0, outs_1, outs_2, outs_3, total_at_1 m c t h, readW, readM, readV]
    exact ⟨rfl, rfl, rfl, rfl⟩

theorem array5 : (dats m 0 c).arrAt 5 cfg0.N = fun y : S2x128x1024.Idx => grad m c y := by
  refine (dats m 0 c).arrAt_eq_of_covers 5 _ (by decide +kernel) fun t hf y => ?_
  blk_simp
  rw [after0_5]
  idx_vars y
  obtain rfl : y0 = 0 := Subsingleton.elim _ _
  refine ((point m c t _ _).1).trans (congrArg (fun y : S2x128x1024.Idx => grad m c y) ?_)
  refine funext fun a => Fin.ext ?_
  match a with
  | 0 => show t.val / 1 = _; blk_simp [idx t]; rfl
  | 1 => show t.val % 1 * 128 + y1.val = _; blk_simp [idx t]
  | 2 => blk_simp [idx t]
theorem array6 : (dats m 0 c).arrAt 6 cfg0.N = fun y : S2x128x1024.Idx => delta (grad m c y) (m ((c : Thread nD τ).loc main_arg2) y) (m ((c : Thread nD τ).loc main_arg3) y) (m ((c : Thread nD τ).loc main_arg4) y) := by
  refine (dats m 0 c).arrAt_eq_of_covers 6 _ (by decide +kernel) fun t hf y => ?_
  blk_simp
  rw [after0_6]
  idx_vars y
  obtain rfl : y0 = 0 := Subsingleton.elim _ _
  refine ((point m c t _ _).2.1).trans (congrArg (fun y : S2x128x1024.Idx => delta (grad m c y) (m ((c : Thread nD τ).loc main_arg2) y) (m ((c : Thread nD τ).loc main_arg3) y) (m ((c : Thread nD τ).loc main_arg4) y)) ?_)
  refine funext fun a => Fin.ext ?_
  match a with
  | 0 => show t.val / 1 = _; blk_simp [idx t]; rfl
  | 1 => show t.val % 1 * 128 + y1.val = _; blk_simp [idx t]
  | 2 => blk_simp [idx t]
theorem array7 : (dats m 0 c).arrAt 7 cfg0.N = fun y : S2x128x1024.Idx => newM (grad m c y) (m ((c : Thread nD τ).loc main_arg3) y) := by
  refine (dats m 0 c).arrAt_eq_of_covers 7 _ (by decide +kernel) fun t hf y => ?_
  blk_simp
  rw [after0_7]
  idx_vars y
  obtain rfl : y0 = 0 := Subsingleton.elim _ _
  refine ((point m c t _ _).2.2.1).trans (congrArg (fun y : S2x128x1024.Idx => newM (grad m c y) (m ((c : Thread nD τ).loc main_arg3) y)) ?_)
  refine funext fun a => Fin.ext ?_
  match a with
  | 0 => show t.val / 1 = _; blk_simp [idx t]; rfl
  | 1 => show t.val % 1 * 128 + y1.val = _; blk_simp [idx t]
  | 2 => blk_simp [idx t]
theorem array8 : (dats m 0 c).arrAt 8 cfg0.N = fun y : S2x128x1024.Idx => newV (grad m c y) (m ((c : Thread nD τ).loc main_arg4) y) := by
  refine (dats m 0 c).arrAt_eq_of_covers 8 _ (by decide +kernel) fun t hf y => ?_
  blk_simp
  rw [after0_8]
  idx_vars y
  obtain rfl : y0 = 0 := Subsingleton.elim _ _
  refine ((point m c t _ _).2.2.2).trans (congrArg (fun y : S2x128x1024.Idx => newV (grad m c y) (m ((c : Thread nD τ).loc main_arg4) y)) ?_)
  refine funext fun a => Fin.ext ?_
  match a with
  | 0 => show t.val / 1 = _; blk_simp [idx t]; rfl
  | 1 => show t.val % 1 * 128 + y1.val = _; blk_simp [idx t]
  | 2 => blk_simp [idx t]
end Kernel

theorem frameK : Cert.quiescent_KernelAdamMix := fun m ρ _ => Cert.KernelAdamMix.Gen.frame m ρ

theorem frameKI : Cert.quiescent_KernelAdamMixIdeal := fun m ρ _ => Cert.KernelAdamMixIdeal.Gen.frame m ρ

theorem frameRI : Cert.quiescent_ReferenceAdamMixIdeal := fun m ρ _ =>
  (θ_run _ _ _).mono
    (fun r h => ⟨fun c => (h c).2.2.2.2, sem_eq_zero_of_no_sems (by decide) r.2⟩) (Cert.ReferenceAdamMixIdeal.Value.run m ρ)

theorem preserves : Cert.preserves_KernelAdamMix_KernelAdamMixIdeal := trivial

theorem algebraic : Cert.algebraic_KernelAdamMixIdeal_ReferenceAdamMixIdeal := by
  intro m g m' g' _ hagree
  refine ⟨_, _, _, _, (θ_run _ _ _).mono (fun r k c => ?_) (Cert.KernelAdamMixIdeal.Value.run_blocks m g),
    Cert.ReferenceAdamMixIdeal.Value.run m' g'⟩
  refine ⟨(k c).1.trans ?_, (k c).2.1.trans ?_, (k c).2.2.1.trans ?_, (k c).2.2.2.1.trans ?_, (k c).2.2.2.2⟩
  all_goals obtain ⟨h0, h1, h2, h3, h4⟩ := hagree c
  · rw [array5, h0, h1]
    exact rfl
  · rw [array6, h0, h1, h2, h3, h4]
    exact rfl
  · rw [array7, h0, h1, h3]
    exact rfl
  · rw [array8, h0, h1, h4]
    exact rfl

end Cert.AdamMix

end
end
-- ==== Proof.AdamAb.Equation.lean ====
module

public import proofs.«01_k».proof.Defs
public import proofs.«01_k».proof.Proof.Gen.KernelAdamAb.Frame
public import proofs.«01_k».proof.Proof.Gen.KernelAdamAbIdeal.Value
public import proofs.«01_k».proof.Proof.Gen.ReferenceAdamAbIdeal.Run
public import proofs.«01_k».proof.Proof.Adam.Update

@[expose] public section

set_option maxRecDepth 16384

/-! The optimiser on a stack of 2 matrices of 1024 × 320: a grid point updates 256 rows of one layer, from that layer's
    eight gradients. -/

noncomputable section

namespace Cert.AdamAb

open Idealize.ShloMosaic Idealize.ShloMosaic.TcCoe Idealize.SL.Sem
open Idealize.ShloMosaic.Pipeline (Dat)
open Cert.Adam

section Reference
open Cert.ReferenceAdamAbIdeal Cert.ReferenceAdamAbIdeal.Gen
variable (r0 r1 : FVec Ideal S8x1024x320 .bf16)

/-- The reference's gradient of given arrays of the layers. -/
def rGrad : FVec Ideal S2x1024x320 .f32 :=
  Host.reduceAdd (extf .f32 (concatenate S2x8x1024x320 0 [⟨S1x8x1024x320, (broadcastInDim S1x8x1024x320 ![1, 2, 3] bcast_S8x1024x320_S1x8x1024x320_1_2_3 r0)⟩, ⟨S1x8x1024x320, (broadcastInDim S1x8x1024x320 ![1, 2, 3] bcast_S8x1024x320_S1x8x1024x320_1_2_3 r1)⟩] concatenates_S1x8x1024x320_S1x8x1024x320_S2x8x1024x320_d0) bitsLt_bf16_f32) (constant S_ .f32 0x00000000#32) reducesTo_S2x8x1024x320_S2x1024x320_d1 h_S_

theorem rGrad_apply (l : Fin 2) (i : Fin 1024) (j : Fin 320) :
    rGrad r0 r1 (ix3 l i j) = sumDevices fun p => (![r0, r1] l) (ix3 p i j) := by
  rw [← sumDevices_eq]
  pointwise [rGrad]
  fin_cases l <;> rfl
end Reference

section Kernel
open Cert.KernelAdamAbIdeal Cert.KernelAdamAbIdeal.Gen
variable (m : (ℓ : Loc nD τ sig) → Buf (Elt Ideal) ℓ) (c : Dev nD)

/-- The block's gradient: the eight devices' added up. -/
def total (x : FVec Ideal S8x256x320 .bf16) : FVec Ideal S256x320 .f32 := k0_pay5 (F := Ideal)
    (View.ld (Val := Elt Ideal) (e' := .bf16) x (Rect.unit ![0, 0, 0] ![1, 256, 320] Gen.inb_S8x256x320_S1x256x320_0_0_0))
    (View.ld (Val := Elt Ideal) (e' := .bf16) x (Rect.unit ![1, 0, 0] ![1, 256, 320] Gen.inb_S8x256x320_S1x256x320_1_0_0))
    (View.ld (Val := Elt Ideal) (e' := .bf16) x (Rect.unit ![2, 0, 0] ![1, 256, 320] Gen.inb_S8x256x320_S1x256x320_2_0_0))
    (View.ld (Val := Elt Ideal) (e' := .bf16) x (Rect.unit ![3, 0, 0] ![1, 256, 320] Gen.inb_S8x256x320_S1x256x320_3_0_0))
    (View.ld (Val := Elt Ideal) (e' := .bf16) x (Rect.unit ![4, 0, 0] ![1, 256, 320] Gen.inb_S8x256x320_S1x256x320_4_0_0))
    (View.ld (Val := Elt Ideal) (e' := .bf16) x (Rect.unit ![5, 0, 0] ![1, 256, 320] Gen.inb_S8x256x320_S1x256x320_5_0_0))
    (View.ld (Val := Elt Ideal) (e' := .bf16) x (Rect.unit ![6, 0, 0] ![1, 256, 320] Gen.inb_S8x256x320_S1x256x320_6_0_0))
    (View.ld (Val := Elt Ideal) (e' := .bf16) x (Rect.unit ![7, 0, 0] ![1, 256, 320] Gen.inb_S8x256x320_S1x256x320_7_0_0))

theorem total_apply (x : FVec Ideal S8x256x320 .bf16) (i : Fin 256) (j : Fin 320) :
    total x (ix2 i j) = sumDevices fun p => x (ix3 p i j) := by
  pointwise [total, k0_pay5, sumDevices]

/-- The four blocks a point leaves. -/
def outs (x : FVec Ideal S8x256x320 .bf16) (w m v : FVec Ideal S1x256x320 .f32) :
    FVec Ideal S1x256x320 .f32 × FVec Ideal S1x256x320 .f32 × FVec Ideal S1x256x320 .f32 × FVec Ideal S1x256x320 .f32 :=
  (k0_pay6 (F := Ideal) (total x), k0_pay9 (F := Ideal) (total x) w m v, k0_pay1 (F := Ideal) (k0_pay7 (F := Ideal) (total x) m), k0_pay2 (F := Ideal) (k0_pay8 (F := Ideal) (total x) v))

theorem outs_0 (x : FVec Ideal S8x256x320 .bf16) (w m v : FVec Ideal S1x256x320 .f32) (i : Fin 256) (j : Fin 320) :
    (outs x w m v).1 (ix3 0 i j) = total x (ix2 i j) := by
  pointwise [outs, k0_pay6]
theorem outs_1 (x : FVec Ideal S8x256x320 .bf16) (w m v : FVec Ideal S1x256x320 .f32) (i : Fin 256) (j : Fin 320) :
    (outs x w m v).2.1 (ix3 0 i j) = delta (total x (ix2 i j)) (w (ix3 0 i j)) (m (ix3 0 i j)) (v (ix3 0 i j)) := by
  pointwise [outs, k0_pay9, k0_pay7, k0_pay8, delta, newM, newV]
theorem outs_2 (x : FVec Ideal S8x256x320 .bf16) (w m v : FVec Ideal S1x256x320 .f32) (i : Fin 256) (j : Fin 320) :
    (outs x w m v).2.2.1 (ix3 0 i j) = newM (total x (ix2 i j)) (m (ix3 0 i j)) := by
  pointwise [outs, k0_pay1, k0_pay7, newM]
theorem outs_3 (x : FVec Ideal S8x256x320 .bf16) (w m v : FVec Ideal S1x256x320 .f32) (i : Fin 256) (j : Fin 320) :
    (outs x w m v).2.2.2 (ix3 0 i j) = newV (total x (ix2 i j)) (v (ix3 0 i j)) := by
  pointwise [outs, k0_pay2, k0_pay8, newV]

theorem idx : ∀ t : Fin cfg0.N, win0_0.index t = ![0, if t.val / 4 = 0 then t.val % 4 else 0, 0] ∧ win0_1.index t = ![0, if t.val / 4 = 1 then t.val % 4 else 0, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

theorem points (t : Fin cfg0.N) : t.val < 8 := lt_of_lt_of_eq t.isLt N_0

/-- The layer of a point, and the array row that is row `i` of its block. -/
def layerAt (t : Fin cfg0.N) : Fin 2 := ⟨t.val / 4, by have := points t; omega⟩
def rowAt (t : Fin cfg0.N) (i : Fin 256) : Fin 1024 := ⟨t.val % 4 * 256 + i.val, by omega⟩

/-- The gradient of the argument arrays. -/
def grad : FVec Ideal S2x1024x320 .f32 := rGrad (m ((c : Thread nD τ).loc main_arg0)) (m ((c : Thread nD τ).loc main_arg1))

theorem outs_at_0 (t : Fin cfg0.N) (h : t.val / 4 = 0) :
    outsAt0 m c t.val t.isLt = outs (iblk m c 0 t) (iblk m c 2 t) (iblk m c 3 t) (iblk m c 4 t) := by
  have := points t
  rw [outsAt0_A m c t (by omega) (by omega)]
  refine Prod.ext ?_ (Prod.ext ?_ (Prod.ext ?_ ?_)) <;>
  · funext y
    idx_vars y
    frame_out
    rfl
theorem total_at_0 (t : Fin cfg0.N) (h : t.val / 4 = 0) (i : Fin 256) (j : Fin 320) :
    total (iblk m c 0 t) (ix2 i j) = grad m c (ix3 (layerAt t) (rowAt t i) j) := by
  rw [total_apply, grad, rGrad_apply]
  refine congrArg sumDevices (funext fun p => ?_)
  rw [show layerAt t = 0 from Fin.ext h]
  show _ = m ((c : Thread nD τ).loc main_arg0) (ix3 p ⟨t.val % 4 * 256 + i.val, by omega⟩ j)
  blk_point [iblk, V, idx t, h]
  rw [if_pos trivial]
theorem outs_at_1 (t : Fin cfg0.N) (h : t.val / 4 = 1) :
    outsAt0 m c t.val t.isLt = outs (iblk m c 1 t) (iblk m c 2 t) (iblk m c 3 t) (iblk m c 4 t) := by
  have := points t
  rw [outsAt0_B m c t (by omega) (by omega)]
  refine Prod.ext ?_ (Prod.ext ?_ (Prod.ext ?_ ?_)) <;>
  · funext y
    idx_vars y
    frame_out
    rfl
theorem total_at_1 (t : Fin cfg0.N) (h : t.val / 4 = 1) (i : Fin 256) (j : Fin 320) :
    total (iblk m c 1 t) (ix2 i j) = grad m c (ix3 (layerAt t) (rowAt t i) j) := by
  rw [total_apply, grad, rGrad_apply]
  refine congrArg sumDevices (funext fun p => ?_)
  rw [show layerAt t = 1 from Fin.ext h]
  show _ = m ((c : Thread nD τ).loc main_arg1) (ix3 p ⟨t.val % 4 * 256 + i.val, by omega⟩ j)
  blk_point [iblk, V, idx t, h]
  rw [if_pos trivial]
theorem readW (t : Fin cfg0.N) (i : Fin 256) (j : Fin 320) :
    iblk m c 2 t (ix3 0 i j) = m ((c : Thread nD τ).loc main_arg2) (ix3 (layerAt t) (rowAt t i) j) := by
  show _ = m ((c : Thread nD τ).loc main_arg2) (ix3 ⟨t.val / 4, by have := points t; omega⟩ ⟨t.val % 4 * 256 + i.val, by omega⟩ j)
  blk_point [iblk, V, idx t]
theorem readM (t : Fin cfg0.N) (i : Fin 256) (j : Fin 320) :
    iblk m c 3 t (ix3 0 i j) = m ((c : Thread nD τ).loc main_arg3) (ix3 (layerAt t) (rowAt t i) j) := by
  show _ = m ((c : Thread nD τ).loc main_arg3) (ix3 ⟨t.val / 4, by have := points t; omega⟩ ⟨t.val % 4 * 256 + i.val, by omega⟩ j)
  blk_point [iblk, V, idx t]
theorem readV (t : Fin cfg0.N) (i : Fin 256) (j : Fin 320) :
    iblk m c 4 t (ix3 0 i j) = m ((c : Thread nD τ).loc main_arg4) (ix3 (layerAt t) (rowAt t i) j) := by
  show _ = m ((c : Thread nD τ).loc main_arg4) (ix3 ⟨t.val / 4, by have := points t; omega⟩ ⟨t.val % 4 * 256 + i.val, by omega⟩ j)
  blk_point [iblk, V, idx t]

theorem point (t : Fin cfg0.N) (i : Fin 256) (j : Fin 320) :
    (outsAt0 m c t.val t.isLt).1 (ix3 0 i j) = grad m c (ix3 (layerAt t) (rowAt t i) j)
    ∧ (outsAt0 m c t.val t.isLt).2.1 (ix3 0 i j) = delta (grad m c (ix3 (layerAt t) (rowAt t i) j)) (m ((c : Thread nD τ).loc main_arg2) (ix3 (layerAt t) (rowAt t i) j)) (m ((c : Thread nD τ).loc main_arg3) (ix3 (layerAt t) (rowAt t i) j)) (m ((c : Thread nD τ).loc main_arg4) (ix3 (layerAt t) (rowAt t i) j))
    ∧ (outsAt0 m c t.val t.isLt).2.2.1 (ix3 0 i j) = newM (grad m c (ix3 (layerAt t) (rowAt t i) j)) (m ((c : Thread nD τ).loc main_arg3) (ix3 (layerAt t) (rowAt t i) j))
    ∧ (outsAt0 m c t.val t.isLt).2.2.2 (ix3 0 i j) = newV (grad m c (ix3 (layerAt t) (rowAt t i) j)) (m ((c : Thread nD τ).loc main_arg4) (ix3 (layerAt t) (rowAt t i) j)) := by
  have := points t
  rcases (by omega : t.val / 4 = 0 ∨ t.val / 4 = 1) with h | h
  · rw [outs_at_0 m c t h, outs_0, outs_1, outs_2, outs_3, total_at_0 m c t h, readW, readM, readV]
    exact ⟨rfl, rfl, rfl, rfl⟩
  · rw [outs_at_1 m c t h, outs_0, outs_1, outs_2, outs_3, total_at_1 m c t h, readW, readM, readV]
    exact ⟨rfl, rfl, rfl, rfl⟩

theorem array5 : (dats m 0 c).arrAt 5 cfg0.N = fun y : S2x1024x320.Idx => grad m c y := by
  refine (dats m 0 c).arrAt_eq_of_covers 5 _ (by decide +kernel) fun t hf y => ?_
  blk_simp
  rw [after0_5]
  idx_vars y
  obtain rfl : y0 = 0 := Subsingleton.elim _ _
  refine ((point m c t _ _).1).trans (congrArg (fun y : S2x1024x320.Idx => grad m c y) ?_)
  refine funext fun a => Fin.ext ?_
  match a with
  | 0 => show t.val / 4 = _; blk_simp [idx t]; rfl
  | 1 => show t.val % 4 * 256 + y1.val = _; blk_simp [idx t]
  | 2 => blk_simp [idx t]
theorem array6 : (dats m 0 c).arrAt 6 cfg0.N = fun y : S2x1024x320.Idx => delta (grad m c y) (m ((c : Thread nD τ).loc main_arg2) y) (m ((c : Thread nD τ).loc main_arg3) y) (m ((c : Thread nD τ).loc main_arg4) y) := by
  refine (dats m 0 c).arrAt_eq_of_covers 6 _ (by decide +kernel) fun t hf y => ?_
  blk_simp
  rw [after0_6]
  idx_vars y
  obtain rfl : y0 = 0 := Subsingleton.elim _ _
  refine ((point m c t _ _).2.1).trans (congrArg (fun y : S2x1024x320.Idx => delta (grad m c y) (m ((c : Thread nD τ).loc main_arg2) y) (m ((c : Thread nD τ).loc main_arg3) y) (m ((c : Thread nD τ).loc main_arg4) y)) ?_)
  refine funext fun a => Fin.ext ?_
  match a with
  | 0 => show t.val / 4 = _; blk_simp [idx t]; rfl
  | 1 => show t.val % 4 * 256 + y1.val = _; blk_simp [idx t]
  | 2 => blk_simp [idx t]
theorem array7 : (dats m 0 c).arrAt 7 cfg0.N = fun y : S2x1024x320.Idx => newM (grad m c y) (m ((c : Thread nD τ).loc main_arg3) y) := by
  refine (dats m 0 c).arrAt_eq_of_covers 7 _ (by decide +kernel) fun t hf y => ?_
  blk_simp
  rw [after0_7]
  idx_vars y
  obtain rfl : y0 = 0 := Subsingleton.elim _ _
  refine ((point m c t _ _).2.2.1).trans (congrArg (fun y : S2x1024x320.Idx => newM (grad m c y) (m ((c : Thread nD τ).loc main_arg3) y)) ?_)
  refine funext fun a => Fin.ext ?_
  match a with
  | 0 => show t.val / 4 = _; blk_simp [idx t]; rfl
  | 1 => show t.val % 4 * 256 + y1.val = _; blk_simp [idx t]
  | 2 => blk_simp [idx t]
theorem array8 : (dats m 0 c).arrAt 8 cfg0.N = fun y : S2x1024x320.Idx => newV (grad m c y) (m ((c : Thread nD τ).loc main_arg4) y) := by
  refine (dats m 0 c).arrAt_eq_of_covers 8 _ (by decide +kernel) fun t hf y => ?_
  blk_simp
  rw [after0_8]
  idx_vars y
  obtain rfl : y0 = 0 := Subsingleton.elim _ _
  refine ((point m c t _ _).2.2.2).trans (congrArg (fun y : S2x1024x320.Idx => newV (grad m c y) (m ((c : Thread nD τ).loc main_arg4) y)) ?_)
  refine funext fun a => Fin.ext ?_
  match a with
  | 0 => show t.val / 4 = _; blk_simp [idx t]; rfl
  | 1 => show t.val % 4 * 256 + y1.val = _; blk_simp [idx t]
  | 2 => blk_simp [idx t]
end Kernel

theorem frameK : Cert.quiescent_KernelAdamAb := fun m ρ _ => Cert.KernelAdamAb.Gen.frame m ρ

theorem frameKI : Cert.quiescent_KernelAdamAbIdeal := fun m ρ _ => Cert.KernelAdamAbIdeal.Gen.frame m ρ

theorem frameRI : Cert.quiescent_ReferenceAdamAbIdeal := fun m ρ _ =>
  (θ_run _ _ _).mono
    (fun r h => ⟨fun c => (h c).2.2.2.2, sem_eq_zero_of_no_sems (by decide) r.2⟩) (Cert.ReferenceAdamAbIdeal.Value.run m ρ)

theorem preserves : Cert.preserves_KernelAdamAb_KernelAdamAbIdeal := trivial

theorem algebraic : Cert.algebraic_KernelAdamAbIdeal_ReferenceAdamAbIdeal := by
  intro m g m' g' _ hagree
  refine ⟨_, _, _, _, (θ_run _ _ _).mono (fun r k c => ?_) (Cert.KernelAdamAbIdeal.Value.run_blocks m g),
    Cert.ReferenceAdamAbIdeal.Value.run m' g'⟩
  refine ⟨(k c).1.trans ?_, (k c).2.1.trans ?_, (k c).2.2.1.trans ?_, (k c).2.2.2.1.trans ?_, (k c).2.2.2.2⟩
  all_goals obtain ⟨h0, h1, h2, h3, h4⟩ := hagree c
  · rw [array5, h0, h1]
    exact rfl
  · rw [array6, h0, h1, h2, h3, h4]
    exact rfl
  · rw [array7, h0, h1, h3]
    exact rfl
  · rw [array8, h0, h1, h4]
    exact rfl

end Cert.AdamAb

end
end
-- ==== Proof.AdamQkv.Equation.lean ====
module

public import proofs.«01_k».proof.Defs
public import proofs.«01_k».proof.Proof.Gen.KernelAdamQkv.Frame
public import proofs.«01_k».proof.Proof.Gen.KernelAdamQkvIdeal.Value
public import proofs.«01_k».proof.Proof.Gen.ReferenceAdamQkvIdeal.Run
public import proofs.«01_k».proof.Proof.Adam.Update

@[expose] public section

set_option maxRecDepth 16384

/-! The optimiser on a stack of 2 matrices of 1024 × 384: a grid point updates 256 rows of one layer, from that layer's
    eight gradients. -/

noncomputable section

namespace Cert.AdamQkv

open Idealize.ShloMosaic Idealize.ShloMosaic.TcCoe Idealize.SL.Sem
open Idealize.ShloMosaic.Pipeline (Dat)
open Cert.Adam

section Reference
open Cert.ReferenceAdamQkvIdeal Cert.ReferenceAdamQkvIdeal.Gen
variable (r0 r1 : FVec Ideal S8x1024x384 .bf16)

/-- The reference's gradient of given arrays of the layers. -/
def rGrad : FVec Ideal S2x1024x384 .f32 :=
  Host.reduceAdd (extf .f32 (concatenate S2x8x1024x384 0 [⟨S1x8x1024x384, (broadcastInDim S1x8x1024x384 ![1, 2, 3] bcast_S8x1024x384_S1x8x1024x384_1_2_3 r0)⟩, ⟨S1x8x1024x384, (broadcastInDim S1x8x1024x384 ![1, 2, 3] bcast_S8x1024x384_S1x8x1024x384_1_2_3 r1)⟩] concatenates_S1x8x1024x384_S1x8x1024x384_S2x8x1024x384_d0) bitsLt_bf16_f32) (constant S_ .f32 0x00000000#32) reducesTo_S2x8x1024x384_S2x1024x384_d1 h_S_

theorem rGrad_apply (l : Fin 2) (i : Fin 1024) (j : Fin 384) :
    rGrad r0 r1 (ix3 l i j) = sumDevices fun p => (![r0, r1] l) (ix3 p i j) := by
  rw [← sumDevices_eq]
  pointwise [rGrad]
  fin_cases l <;> rfl
end Reference

section Kernel
open Cert.KernelAdamQkvIdeal Cert.KernelAdamQkvIdeal.Gen
variable (m : (ℓ : Loc nD τ sig) → Buf (Elt Ideal) ℓ) (c : Dev nD)

/-- The block's gradient: the eight devices' added up. -/
def total (x : FVec Ideal S8x256x384 .bf16) : FVec Ideal S256x384 .f32 := k0_pay5 (F := Ideal)
    (View.ld (Val := Elt Ideal) (e' := .bf16) x (Rect.unit ![0, 0, 0] ![1, 256, 384] Gen.inb_S8x256x384_S1x256x384_0_0_0))
    (View.ld (Val := Elt Ideal) (e' := .bf16) x (Rect.unit ![1, 0, 0] ![1, 256, 384] Gen.inb_S8x256x384_S1x256x384_1_0_0))
    (View.ld (Val := Elt Ideal) (e' := .bf16) x (Rect.unit ![2, 0, 0] ![1, 256, 384] Gen.inb_S8x256x384_S1x256x384_2_0_0))
    (View.ld (Val := Elt Ideal) (e' := .bf16) x (Rect.unit ![3, 0, 0] ![1, 256, 384] Gen.inb_S8x256x384_S1x256x384_3_0_0))
    (View.ld (Val := Elt Ideal) (e' := .bf16) x (Rect.unit ![4, 0, 0] ![1, 256, 384] Gen.inb_S8x256x384_S1x256x384_4_0_0))
    (View.ld (Val := Elt Ideal) (e' := .bf16) x (Rect.unit ![5, 0, 0] ![1, 256, 384] Gen.inb_S8x256x384_S1x256x384_5_0_0))
    (View.ld (Val := Elt Ideal) (e' := .bf16) x (Rect.unit ![6, 0, 0] ![1, 256, 384] Gen.inb_S8x256x384_S1x256x384_6_0_0))
    (View.ld (Val := Elt Ideal) (e' := .bf16) x (Rect.unit ![7, 0, 0] ![1, 256, 384] Gen.inb_S8x256x384_S1x256x384_7_0_0))

theorem total_apply (x : FVec Ideal S8x256x384 .bf16) (i : Fin 256) (j : Fin 384) :
    total x (ix2 i j) = sumDevices fun p => x (ix3 p i j) := by
  pointwise [total, k0_pay5, sumDevices]

/-- The four blocks a point leaves. -/
def outs (x : FVec Ideal S8x256x384 .bf16) (w m v : FVec Ideal S1x256x384 .f32) :
    FVec Ideal S1x256x384 .f32 × FVec Ideal S1x256x384 .f32 × FVec Ideal S1x256x384 .f32 × FVec Ideal S1x256x384 .f32 :=
  (k0_pay6 (F := Ideal) (total x), k0_pay9 (F := Ideal) (total x) w m v, k0_pay1 (F := Ideal) (k0_pay7 (F := Ideal) (total x) m), k0_pay2 (F := Ideal) (k0_pay8 (F := Ideal) (total x) v))

theorem outs_0 (x : FVec Ideal S8x256x384 .bf16) (w m v : FVec Ideal S1x256x384 .f32) (i : Fin 256) (j : Fin 384) :
    (outs x w m v).1 (ix3 0 i j) = total x (ix2 i j) := by
  pointwise [outs, k0_pay6]
theorem outs_1 (x : FVec Ideal S8x256x384 .bf16) (w m v : FVec Ideal S1x256x384 .f32) (i : Fin 256) (j : Fin 384) :
    (outs x w m v).2.1 (ix3 0 i j) = delta (total x (ix2 i j)) (w (ix3 0 i j)) (m (ix3 0 i j)) (v (ix3 0 i j)) := by
  pointwise [outs, k0_pay9, k0_pay7, k0_pay8, delta, newM, newV]
theorem outs_2 (x : FVec Ideal S8x256x384 .bf16) (w m v : FVec Ideal S1x256x384 .f32) (i : Fin 256) (j : Fin 384) :
    (outs x w m v).2.2.1 (ix3 0 i j) = newM (total x (ix2 i j)) (m (ix3 0 i j)) := by
  pointwise [outs, k0_pay1, k0_pay7, newM]
theorem outs_3 (x : FVec Ideal S8x256x384 .bf16) (w m v : FVec Ideal S1x256x384 .f32) (i : Fin 256) (j : Fin 384) :
    (outs x w m v).2.2.2 (ix3 0 i j) = newV (total x (ix2 i j)) (v (ix3 0 i j)) := by
  pointwise [outs, k0_pay2, k0_pay8, newV]

theorem idx : ∀ t : Fin cfg0.N, win0_0.index t = ![0, if t.val / 4 = 0 then t.val % 4 else 0, 0] ∧ win0_1.index t = ![0, if t.val / 4 = 1 then t.val % 4 else 0, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

theorem points (t : Fin cfg0.N) : t.val < 8 := lt_of_lt_of_eq t.isLt N_0

/-- The layer of a point, and the array row that is row `i` of its block. -/
def layerAt (t : Fin cfg0.N) : Fin 2 := ⟨t.val / 4, by have := points t; omega⟩
def rowAt (t : Fin cfg0.N) (i : Fin 256) : Fin 1024 := ⟨t.val % 4 * 256 + i.val, by omega⟩

/-- The gradient of the argument arrays. -/
def grad : FVec Ideal S2x1024x384 .f32 := rGrad (m ((c : Thread nD τ).loc main_arg0)) (m ((c : Thread nD τ).loc main_arg1))

theorem outs_at_0 (t : Fin cfg0.N) (h : t.val / 4 = 0) :
    outsAt0 m c t.val t.isLt = outs (iblk m c 0 t) (iblk m c 2 t) (iblk m c 3 t) (iblk m c 4 t) := by
  have := points t
  rw [outsAt0_A m c t (by omega) (by omega)]
  refine Prod.ext ?_ (Prod.ext ?_ (Prod.ext ?_ ?_)) <;>
  · funext y
    idx_vars y
    frame_out
    rfl
theorem total_at_0 (t : Fin cfg0.N) (h : t.val / 4 = 0) (i : Fin 256) (j : Fin 384) :
    total (iblk m c 0 t) (ix2 i j) = grad m c (ix3 (layerAt t) (rowAt t i) j) := by
  rw [total_apply, grad, rGrad_apply]
  refine congrArg sumDevices (funext fun p => ?_)
  rw [show layerAt t = 0 from Fin.ext h]
  show _ = m ((c : Thread nD τ).loc main_arg0) (ix3 p ⟨t.val % 4 * 256 + i.val, by omega⟩ j)
  blk_point [iblk, V, idx t, h]
  rw [if_pos trivial]
theorem outs_at_1 (t : Fin cfg0.N) (h : t.val / 4 = 1) :
    outsAt0 m c t.val t.isLt = outs (iblk m c 1 t) (iblk m c 2 t) (iblk m c 3 t) (iblk m c 4 t) := by
  have := points t
  rw [outsAt0_B m c t (by omega) (by omega)]
  refine Prod.ext ?_ (Prod.ext ?_ (Prod.ext ?_ ?_)) <;>
  · funext y
    idx_vars y
    frame_out
    rfl
theorem total_at_1 (t : Fin cfg0.N) (h : t.val / 4 = 1) (i : Fin 256) (j : Fin 384) :
    total (iblk m c 1 t) (ix2 i j) = grad m c (ix3 (layerAt t) (rowAt t i) j) := by
  rw [total_apply, grad, rGrad_apply]
  refine congrArg sumDevices (funext fun p => ?_)
  rw [show layerAt t = 1 from Fin.ext h]
  show _ = m ((c : Thread nD τ).loc main_arg1) (ix3 p ⟨t.val % 4 * 256 + i.val, by omega⟩ j)
  blk_point [iblk, V, idx t, h]
  rw [if_pos trivial]
theorem readW (t : Fin cfg0.N) (i : Fin 256) (j : Fin 384) :
    iblk m c 2 t (ix3 0 i j) = m ((c : Thread nD τ).loc main_arg2) (ix3 (layerAt t) (rowAt t i) j) := by
  show _ = m ((c : Thread nD τ).loc main_arg2) (ix3 ⟨t.val / 4, by have := points t; omega⟩ ⟨t.val % 4 * 256 + i.val, by omega⟩ j)
  blk_point [iblk, V, idx t]
theorem readM (t : Fin cfg0.N) (i : Fin 256) (j : Fin 384) :
    iblk m c 3 t (ix3 0 i j) = m ((c : Thread nD τ).loc main_arg3) (ix3 (layerAt t) (rowAt t i) j) := by
  show _ = m ((c : Thread nD τ).loc main_arg3) (ix3 ⟨t.val / 4, by have := points t; omega⟩ ⟨t.val % 4 * 256 + i.val, by omega⟩ j)
  blk_point [iblk, V, idx t]
theorem readV (t : Fin cfg0.N) (i : Fin 256) (j : Fin 384) :
    iblk m c 4 t (ix3 0 i j) = m ((c : Thread nD τ).loc main_arg4) (ix3 (layerAt t) (rowAt t i) j) := by
  show _ = m ((c : Thread nD τ).loc main_arg4) (ix3 ⟨t.val / 4, by have := points t; omega⟩ ⟨t.val % 4 * 256 + i.val, by omega⟩ j)
  blk_point [iblk, V, idx t]

theorem point (t : Fin cfg0.N) (i : Fin 256) (j : Fin 384) :
    (outsAt0 m c t.val t.isLt).1 (ix3 0 i j) = grad m c (ix3 (layerAt t) (rowAt t i) j)
    ∧ (outsAt0 m c t.val t.isLt).2.1 (ix3 0 i j) = delta (grad m c (ix3 (layerAt t) (rowAt t i) j)) (m ((c : Thread nD τ).loc main_arg2) (ix3 (layerAt t) (rowAt t i) j)) (m ((c : Thread nD τ).loc main_arg3) (ix3 (layerAt t) (rowAt t i) j)) (m ((c : Thread nD τ).loc main_arg4) (ix3 (layerAt t) (rowAt t i) j))
    ∧ (outsAt0 m c t.val t.isLt).2.2.1 (ix3 0 i j) = newM (grad m c (ix3 (layerAt t) (rowAt t i) j)) (m ((c : Thread nD τ).loc main_arg3) (ix3 (layerAt t) (rowAt t i) j))
    ∧ (outsAt0 m c t.val t.isLt).2.2.2 (ix3 0 i j) = newV (grad m c (ix3 (layerAt t) (rowAt t i) j)) (m ((c : Thread nD τ).loc main_arg4) (ix3 (layerAt t) (rowAt t i) j)) := by
  have := points t
  rcases (by omega : t.val / 4 = 0 ∨ t.val / 4 = 1) with h | h
  · rw [outs_at_0 m c t h, outs_0, outs_1, outs_2, outs_3, total_at_0 m c t h, readW, readM, readV]
    exact ⟨rfl, rfl, rfl, rfl⟩
  · rw [outs_at_1 m c t h, outs_0, outs_1, outs_2, outs_3, total_at_1 m c t h, readW, readM, readV]
    exact ⟨rfl, rfl, rfl, rfl⟩

theorem array5 : (dats m 0 c).arrAt 5 cfg0.N = fun y : S2x1024x384.Idx => grad m c y := by
  refine (dats m 0 c).arrAt_eq_of_covers 5 _ (by decide +kernel) fun t hf y => ?_
  blk_simp
  rw [after0_5]
  idx_vars y
  obtain rfl : y0 = 0 := Subsingleton.elim _ _
  refine ((point m c t _ _).1).trans (congrArg (fun y : S2x1024x384.Idx => grad m c y) ?_)
  refine funext fun a => Fin.ext ?_
  match a with
  | 0 => show t.val / 4 = _; blk_simp [idx t]; rfl
  | 1 => show t.val % 4 * 256 + y1.val = _; blk_simp [idx t]
  | 2 => blk_simp [idx t]
theorem array6 : (dats m 0 c).arrAt 6 cfg0.N = fun y : S2x1024x384.Idx => delta (grad m c y) (m ((c : Thread nD τ).loc main_arg2) y) (m ((c : Thread nD τ).loc main_arg3) y) (m ((c : Thread nD τ).loc main_arg4) y) := by
  refine (dats m 0 c).arrAt_eq_of_covers 6 _ (by decide +kernel) fun t hf y => ?_
  blk_simp
  rw [after0_6]
  idx_vars y
  obtain rfl : y0 = 0 := Subsingleton.elim _ _
  refine ((point m c t _ _).2.1).trans (congrArg (fun y : S2x1024x384.Idx => delta (grad m c y) (m ((c : Thread nD τ).loc main_arg2) y) (m ((c : Thread nD τ).loc main_arg3) y) (m ((c : Thread nD τ).loc main_arg4) y)) ?_)
  refine funext fun a => Fin.ext ?_
  match a with
  | 0 => show t.val / 4 = _; blk_simp [idx t]; rfl
  | 1 => show t.val % 4 * 256 + y1.val = _; blk_simp [idx t]
  | 2 => blk_simp [idx t]
theorem array7 : (dats m 0 c).arrAt 7 cfg0.N = fun y : S2x1024x384.Idx => newM (grad m c y) (m ((c : Thread nD τ).loc main_arg3) y) := by
  refine (dats m 0 c).arrAt_eq_of_covers 7 _ (by decide +kernel) fun t hf y => ?_
  blk_simp
  rw [after0_7]
  idx_vars y
  obtain rfl : y0 = 0 := Subsingleton.elim _ _
  refine ((point m c t _ _).2.2.1).trans (congrArg (fun y : S2x1024x384.Idx => newM (grad m c y) (m ((c : Thread nD τ).loc main_arg3) y)) ?_)
  refine funext fun a => Fin.ext ?_
  match a with
  | 0 => show t.val / 4 = _; blk_simp [idx t]; rfl
  | 1 => show t.val % 4 * 256 + y1.val = _; blk_simp [idx t]
  | 2 => blk_simp [idx t]
theorem array8 : (dats m 0 c).arrAt 8 cfg0.N = fun y : S2x1024x384.Idx => newV (grad m c y) (m ((c : Thread nD τ).loc main_arg4) y) := by
  refine (dats m 0 c).arrAt_eq_of_covers 8 _ (by decide +kernel) fun t hf y => ?_
  blk_simp
  rw [after0_8]
  idx_vars y
  obtain rfl : y0 = 0 := Subsingleton.elim _ _
  refine ((point m c t _ _).2.2.2).trans (congrArg (fun y : S2x1024x384.Idx => newV (grad m c y) (m ((c : Thread nD τ).loc main_arg4) y)) ?_)
  refine funext fun a => Fin.ext ?_
  match a with
  | 0 => show t.val / 4 = _; blk_simp [idx t]; rfl
  | 1 => show t.val % 4 * 256 + y1.val = _; blk_simp [idx t]
  | 2 => blk_simp [idx t]
end Kernel

theorem frameK : Cert.quiescent_KernelAdamQkv := fun m ρ _ => Cert.KernelAdamQkv.Gen.frame m ρ

theorem frameKI : Cert.quiescent_KernelAdamQkvIdeal := fun m ρ _ => Cert.KernelAdamQkvIdeal.Gen.frame m ρ

theorem frameRI : Cert.quiescent_ReferenceAdamQkvIdeal := fun m ρ _ =>
  (θ_run _ _ _).mono
    (fun r h => ⟨fun c => (h c).2.2.2.2, sem_eq_zero_of_no_sems (by decide) r.2⟩) (Cert.ReferenceAdamQkvIdeal.Value.run m ρ)

theorem preserves : Cert.preserves_KernelAdamQkv_KernelAdamQkvIdeal := trivial

theorem algebraic : Cert.algebraic_KernelAdamQkvIdeal_ReferenceAdamQkvIdeal := by
  intro m g m' g' _ hagree
  refine ⟨_, _, _, _, (θ_run _ _ _).mono (fun r k c => ?_) (Cert.KernelAdamQkvIdeal.Value.run_blocks m g),
    Cert.ReferenceAdamQkvIdeal.Value.run m' g'⟩
  refine ⟨(k c).1.trans ?_, (k c).2.1.trans ?_, (k c).2.2.1.trans ?_, (k c).2.2.2.1.trans ?_, (k c).2.2.2.2⟩
  all_goals obtain ⟨h0, h1, h2, h3, h4⟩ := hagree c
  · rw [array5, h0, h1]
    exact rfl
  · rw [array6, h0, h1, h2, h3, h4]
    exact rfl
  · rw [array7, h0, h1, h3]
    exact rfl
  · rw [array8, h0, h1, h4]
    exact rfl

end Cert.AdamQkv

end
end
-- ==== Proof.Attn.Softmax.lean ====
module

public import Idealize.ShloMosaic.Lib.IdealHost
public import Idealize.ShloMosaic.Lib.Pipeline.ValueKit

@[expose] public section

/-! The weighted mean of a row of values under the exponentials of a row of scores, normalised before or after the sum. -/

noncomputable section

namespace Cert.Attn

open Idealize.ShloMosaic

variable {n : ℕ}

/-- The greatest score. -/
def top (s : Fin n → EReal) : EReal := (Finset.univ : Finset (Fin n)).fold max ⊥ s

/-- A score's exponential, taken from the greatest. -/
def weight (s : Fin n → EReal) (j : Fin n) : EReal := Ideal.exp (s j - top s)

/-- The sum of the exponentials. -/
def total (s : Fin n → EReal) : EReal := ∑ j, weight s j

/-- The mean, normalised after the sum. -/
def mean (s v : Fin n → EReal) : EReal := (∑ j, weight s j * v j) * Ideal.div 1 (total s)

/-- The mean, normalised before the sum. -/
def meanBefore (s v : Fin n → EReal) : EReal := ∑ j, Ideal.div (weight s j) (total s) * v j

/-- A masked score weighs nothing, so the value there does not matter. -/
theorem mean_congr (s v w : Fin n → EReal) (h : ∀ j, s j ≠ ⊥ → v j = w j) : mean s v = mean s w := by
  unfold mean
  refine congrArg (· * _) (Finset.sum_congr rfl fun j _ => ?_)
  by_cases hs : s j = ⊥
  · have hw : weight s j = 0 := by simp [weight, hs, EReal.bot_sub]
    simp [hw]
  · rw [h j hs]

theorem le_top (s : Fin n → EReal) (j : Fin n) : s j ≤ top s := by
  unfold top
  rw [Finset.le_fold_max]
  exact Or.inr ⟨j, Finset.mem_univ j, le_rfl⟩

theorem top_mem (s : Fin n → EReal) (h : top s ≠ ⊥) : ∃ j, s j = top s := by
  have := (Finset.le_fold_max (s := (Finset.univ : Finset (Fin n))) (f := s) (b := ⊥) (top s)).mp le_rfl
  rcases this with h' | ⟨j, _, hj⟩
  · exact absurd (le_bot_iff.mp h') h
  · exact ⟨j, le_antisymm (le_top s j) hj⟩

theorem weight_nonneg (s : Fin n → EReal) (j : Fin n) : 0 ≤ weight s j := by
  unfold weight
  induction s j - top s with
  | bot => exact le_rfl
  | top => exact _root_.le_top
  | coe r => exact EReal.coe_nonneg.mpr (Real.exp_pos r).le

theorem total_ne_zero (s : Fin n → EReal) (hs : ∀ j, s j ≠ ⊤) (i : Fin n) (hi : s i ≠ ⊥) : total s ≠ 0 := by
  have hb : top s ≠ ⊥ := fun h => hi (le_bot_iff.mp (h ▸ le_top s i))
  obtain ⟨j, hj⟩ := top_mem s hb
  have h1 : weight s j = 1 := by
    unfold weight
    rw [← hj, EReal.sub_self (hs j) (hj ▸ hb), ← EReal.coe_zero, Ideal.exp_coe, Real.exp_zero, EReal.coe_one]
  have h2 : weight s j ≤ total s := Finset.single_le_sum (fun k _ => weight_nonneg s k) (Finset.mem_univ j)
  intro h
  rw [h1, h] at h2
  exact absurd h2 (by norm_num)

theorem inv_ne_top (x : EReal) : x⁻¹ ≠ ⊤ := by
  induction x with
  | bot => simp
  | top => simp
  | coe r => exact EReal.coe_ne_top _

theorem sum_mul {ι : Type*} (t : Finset ι) (f : ι → EReal) (c : EReal) (h0 : 0 ≤ c) (h1 : c ≠ ⊤) :
    (∑ j ∈ t, f j) * c = ∑ j ∈ t, f j * c := by
  classical
  induction t using Finset.induction_on with
  | empty => simp
  | insert a t ha ih => rw [Finset.sum_insert ha, Finset.sum_insert ha, EReal.right_distrib_of_nonneg_of_ne_top h0 h1, ih]

/-- The two means agree where some score is not masked and none is infinite. -/
theorem mean_eq (s v : Fin n → EReal) (hs : ∀ j, s j ≠ ⊤) (i : Fin n) (hi : s i ≠ ⊥) : meanBefore s v = mean s v := by
  have ht := total_ne_zero s hs i hi
  have h0 : 0 ≤ (total s)⁻¹ := EReal.inv_nonneg_of_nonneg (Finset.sum_nonneg fun j _ => weight_nonneg s j)
  unfold meanBefore mean
  simp only [Ideal.div, if_neg ht, one_mul]
  rw [sum_mul _ _ _ h0 (inv_ne_top _)]
  exact Finset.sum_congr rfl fun j _ => by rw [mul_assoc, mul_comm (total s)⁻¹, ← mul_assoc]

end Cert.Attn

end
-- ==== Proof.Attn.Block.lean ====
module

public import proofs.«01_k».proof.Proof.Gen.KernelAttnFwdIdeal.Value
public import proofs.«01_k».proof.Proof.Attn.Softmax
public import Idealize.ShloMosaic.Lib.Pipeline.ValueKit
public import Idealize.ShloMosaic.Lib.Pointwise

@[expose] public section

set_option maxRecDepth 16384

/-! One tile of queries against its three tiles of keys, in the kernel's operations. -/

noncomputable section

namespace Cert.Attn

open Idealize.ShloMosaic Idealize.ShloMosaic.TcCoe Idealize.SL.Sem
open Idealize.ShloMosaic.Pipeline (Dat)
open Cert.KernelAttnFwdIdeal Cert.KernelAttnFwdIdeal.Gen

theorem ofBits_bot : Ideal.ofBits .f32 0xFF800000#32 = ⊥ := by
  simp [Ideal.ofBits, Ideal.ieee]

/-- The scale of the queries. -/
abbrev eighth : EReal := Ideal.ofBits .f32 0x3E000000#32

theorem eighth_real : eighth = (((1 : ℝ) / 8 : ℝ) : EReal) := by
  simp [eighth, Ideal.ofBits, Ideal.ieee, -EReal.coe_mul]; norm_num
theorem eighth_bf16 : Ideal.ofBits .bf16 0x3E00#16 = eighth := by
  rw [eighth_real]
  simp [Ideal.ofBits, Ideal.ieee, -EReal.coe_mul]; norm_num

/-- The lanes of a pair's second head. -/
def second : IVec S256x128 1 := xori k0_pay1 (constantI S256x128 1 1#1)

/-- Three tiles of rows, one below the other. -/
def stack (a b c : FVec Ideal S256x128 .bf16) : FVec Ideal S768x128 .bf16 :=
  concatenate S768x128 0 [⟨S256x128, a⟩, ⟨S256x128, b⟩, ⟨S256x128, c⟩] concatenates_S256x128_S256x128_S256x128_S768x128_d0

/-- A head's scores: the scaled queries, the other head's lanes set to zero, against the keys, and the bias. -/
def scores (lanes : IVec S256x128 1) (q : FVec Ideal S256x128 .bf16) (k : FVec Ideal S768x128 .bf16) (b : FVec Ideal S1x256x768 .f32) :
    FVec Ideal S256x768 .f32 :=
  addf (matmul dot_S256x128_S768x128_S256x768_1_1_0_0_n_n none
    (select lanes (mulf q (broadcast S256x128 (Scalar.ofBits .bf16 0x3E00#16))) (broadcast S256x128 (Scalar.sitofp .bf16 0#32))) k
    (constant S256x768 .f32 0x00000000#32)) (shapeCast S256x768 b shapeCasts_S1x256x768_S256x768)

/-- Scores with the keys before the first row masked. -/
def masked (n : BitVec 32) (s : FVec Ideal S256x768 .f32) : FVec Ideal S256x768 .f32 :=
  select (cmpi .sge (addi (broadcast S256x768 (Scalar.muli (Scalar.subi n 2#32) 256#32)) (iota .tc S256x768 32 [1] iota_S256x768_d1_w32))
    (broadcast S256x768 0#32)) s (broadcast S256x768 (Named.named κ "mask" 0xF149F2CA#32))

/-- The exponentials of the scores, and a head's output. -/
def weights (s : FVec Ideal S256x768 .f32) : FVec Ideal S256x768 .f32 :=
  exp (subf s (broadcastTo S256x768 (shapeCast S256x1 (multiReduction .maximumf [1] S256 s 0xFF800000#32 reduces_S256x768_S256 (.inl rfl) rfl)
    shapeCasts_S256_S256x1) broadcasts_S256x1_S256x768))
def head (s : FVec Ideal S256x768 .f32) (v : FVec Ideal S768x128 .bf16) : FVec Ideal S256x128 .f32 :=
  mulf (matmul dot_S256x768_S768x128_S256x128_1_0_0_1_n_n none (truncf .bf16 (weights s) bitsLt_bf16_f32) v (constant S256x128 .f32 0x00000000#32))
    (broadcastTo S256x128 (divf (broadcast S256x1 (Scalar.ofBits .f32 0x3F800000#32))
      (shapeCast S256x1 (multiReduction .add [1] S256 (weights s) 0x00000000#32 reduces_S256x768_S256 (.inl rfl) rfl) shapeCasts_S256_S256x1))
      broadcasts_S256x1_S256x128)

/-- A pair of heads: the first head's lanes and the second's. -/
def pair (s s' : FVec Ideal S256x768 .f32) (v : FVec Ideal S768x128 .bf16) : FVec Ideal S256x128 .bf16 :=
  truncf .bf16 (select k0_pay1 (head s v) (head s' v)) bitsLt_bf16_f32

theorem weights_apply (s : FVec Ideal S256x768 .f32) (r : Fin 256) (j : Fin 768) : weights s (ix2 r j) = weight (fun j => s (ix2 r j)) j := by
  pointwise [weights, weight, top, ofBits_bot]

theorem head_apply (s : FVec Ideal S256x768 .f32) (v : FVec Ideal S768x128 .bf16) (r : Fin 256) (l : Fin 128) :
    head s v (ix2 r l) = mean (fun j => s (ix2 r j)) (fun j => v (ix2 j l)) := by
  pointwise [head, mean, total, weights_apply]

theorem lanes_apply (r : Fin 256) (l : Fin 128) : k0_pay1 (ix2 r l) = if l.val < 64 then 1#1 else 0#1 := by
  pointwise [k0_pay1]
  revert l
  decide +kernel

theorem second_apply (r : Fin 256) (l : Fin 128) : second (ix2 r l) = if l.val < 64 then 0#1 else 1#1 := by
  pointwise [second, lanes_apply]
  split <;> rfl

theorem pair_apply (s s' : FVec Ideal S256x768 .f32) (v : FVec Ideal S768x128 .bf16) (r : Fin 256) (l : Fin 128) :
    pair s s' v (ix2 r l) = mean (fun j => if l.val < 64 then s (ix2 r j) else s' (ix2 r j)) (fun j => v (ix2 j l)) := by
  pointwise [pair, lanes_apply, head_apply]
  split <;> rfl

/-- The product of a scaled query and a key over one head's lanes. -/
def dot (q k : Fin 128 → EReal) (h : ℕ) (hh : h + 64 ≤ 128) : EReal :=
  ∑ d : Fin 64, q ⟨h + d.val, by omega⟩ * eighth * k ⟨h + d.val, by omega⟩

theorem zero_lane : (((0#32 : BitVec 32).toInt : ℝ) : EReal) = 0 := by simp

theorem scores_first (q : FVec Ideal S256x128 .bf16) (k : FVec Ideal S768x128 .bf16) (b : FVec Ideal S1x256x768 .f32) (r : Fin 256) (j : Fin 768) :
    scores k0_pay1 q k b (ix2 r j) = dot (fun l => q (ix2 r l)) (fun l => k (ix2 j l)) 0 (by decide) + b (ix3 0 r j) := by
  pointwise [scores, lanes_apply, zero_lane]
  simp only [zero_mul, Finset.sum_const_zero, add_zero, dot, zero_add, eighth_bf16]

theorem scores_second (q : FVec Ideal S256x128 .bf16) (k : FVec Ideal S768x128 .bf16) (b : FVec Ideal S1x256x768 .f32) (r : Fin 256) (j : Fin 768) :
    scores second q k b (ix2 r j) = dot (fun l => q (ix2 r l)) (fun l => k (ix2 j l)) 64 (by decide) + b (ix3 0 r j) := by
  pointwise [scores, second_apply, zero_lane]
  simp only [zero_mul, Finset.sum_const_zero, dot, zero_add, eighth_bf16]

theorem stack_apply (a0 a1 a2 : FVec Ideal S256x128 .bf16) (A : ℕ → ℕ → Fin 128 → EReal)
    (h0 : ∀ r l, a0 (ix2 r l) = A 0 r.val l) (h1 : ∀ r l, a1 (ix2 r l) = A 1 r.val l) (h2 : ∀ r l, a2 (ix2 r l) = A 2 r.val l)
    (j : Fin 768) (l : Fin 128) : stack a0 a1 a2 (ix2 j l) = A (j.val / 256) (j.val % 256) l := by
  pointwise [stack, h0, h1, h2]
  split_ifs
  · rw [show j.val / 256 = 0 by omega, show j.val % 256 = j.val by omega]
  · rw [show j.val / 256 = 1 by omega, show j.val % 256 = j.val - 256 by omega]
  · rw [show j.val / 256 = 2 by omega, show j.val % 256 = j.val - 256 - 256 by omega]

theorem mask_bot : Named.named (F := Ideal) κ "mask" (φ := .f32) 0xF149F2CA#32 = (⊥ : EReal) :=
  IdealRules.named_const.ideal_named_scalar _ _ _ _ rfl

theorem masked_apply (n : ℕ) (hn : n < 2) (s : FVec Ideal S256x768 .f32) (r : Fin 256) (j : Fin 768) :
    masked (BitVec.ofNat 32 n) s (ix2 r j) = if 512 ≤ n * 256 + j.val then s (ix2 r j) else ⊥ := by
  have hc : ∀ n : Fin 2, ∀ j : Fin 768, IntOp.cmpi CmpIPredicate.sge
      (IntOp.addi (Scalar.muli (Scalar.subi (BitVec.ofNat 32 n.val) 2#32) 256#32) (BitVec.ofNat 32 j.val)) 0#32
      = if 512 ≤ n.val * 256 + j.val then 1#1 else 0#1 := by decide +kernel
  pointwise [masked, mask_bot]
  rw [hc ⟨n, hn⟩ j]
  show Scalar.select (if 512 ≤ n * 256 + j.val then _ else _) _ _ = _
  split <;> rfl

section Tile
variable (q k0 k1 k2 v0 v1 v2 : FVec Ideal S256x128 .bf16) (b b' : FVec Ideal S1x256x768 .f32)

/-- A pair's tile with and without the mask. -/
def tileA (n : BitVec 32) : FVec Ideal S256x128 .bf16 :=
  pair (masked n (scores k0_pay1 q (stack k0 k1 k2) b)) (masked n (scores second q (stack k0 k1 k2) b')) (stack v0 v1 v2)
def tileB : FVec Ideal S256x128 .bf16 :=
  pair (scores k0_pay1 q (stack k0 k1 k2) b) (scores second q (stack k0 k1 k2) b') (stack v0 v1 v2)

end Tile

/-- An entry of the projected rows and of the bias by natural coordinates, zero outside the array. -/
def zAt (z : FVec Ideal S8192x3072 .bf16) (n e : ℕ) : EReal := if h : n < 8192 ∧ e < 3072 then z (ix2 ⟨n, h.1⟩ ⟨e, h.2⟩) else 0
def bAt (b : FVec Ideal S16x256x768 .f32) (h r : ℕ) (j : Fin 768) : EReal :=
  if p : h < 16 ∧ r < 256 then b (ix3 ⟨h, p.1⟩ ⟨r, p.2⟩ j) else 0

/-- The score of a query row against the `j`-th key of its tile's three in one head; nothing before the first row. -/
def score (z : FVec Ideal S8192x3072 .bf16) (b : FVec Ideal S16x256x768 .f32) (n h : ℕ) (j : Fin 768) : EReal :=
  if 512 ≤ n / 256 * 256 + j.val then
    (∑ d : Fin 64, zAt z n (h * 64 + d.val) * eighth * zAt z (n / 256 * 256 + j.val - 512) (1024 + (h * 64 + d.val))) + bAt b h (n % 256) j
  else ⊥

/-- Banded attention at one row and column. -/
def attn (z : FVec Ideal S8192x3072 .bf16) (b : FVec Ideal S16x256x768 .f32) (n e : ℕ) : EReal :=
  mean (score z b n (e / 64)) (fun j => zAt z (n / 256 * 256 + j.val - 512) (2048 + e))

section Point
variable (z : FVec Ideal S8192x3072 .bf16) (bias : FVec Ideal S16x256x768 .f32)
variable {q k0 k1 k2 v0 v1 v2 : FVec Ideal S256x128 .bf16} {b b' : FVec Ideal S1x256x768 .f32} (n g : ℕ)

/-- The tiles hold the array's entries for tile `n` of the queries and pair `g` of the heads. -/
structure Holds (q k0 k1 k2 v0 v1 v2 : FVec Ideal S256x128 .bf16) (b b' : FVec Ideal S1x256x768 .f32) (n g : ℕ) : Prop where
  hq : ∀ r l, q (ix2 r l) = zAt z (n * 256 + r.val) (g * 128 + l.val)
  hk0 : ∀ r l, k0 (ix2 r l) = zAt z ((n + 0 - 2) * 256 + r.val) (1024 + (g * 128 + l.val))
  hk1 : ∀ r l, k1 (ix2 r l) = zAt z ((n + 1 - 2) * 256 + r.val) (1024 + (g * 128 + l.val))
  hk2 : ∀ r l, k2 (ix2 r l) = zAt z ((n + 2 - 2) * 256 + r.val) (1024 + (g * 128 + l.val))
  hv0 : ∀ r l, v0 (ix2 r l) = zAt z ((n + 0 - 2) * 256 + r.val) (2048 + (g * 128 + l.val))
  hv1 : ∀ r l, v1 (ix2 r l) = zAt z ((n + 1 - 2) * 256 + r.val) (2048 + (g * 128 + l.val))
  hv2 : ∀ r l, v2 (ix2 r l) = zAt z ((n + 2 - 2) * 256 + r.val) (2048 + (g * 128 + l.val))
  hb : ∀ r j, b (ix3 0 r j) = bAt bias (2 * g) r.val j
  hb' : ∀ r j, b' (ix3 0 r j) = bAt bias (2 * g + 1) r.val j

variable {z bias n g} (H : Holds z bias q k0 k1 k2 v0 v1 v2 b b' n g)
include H

theorem keys (j : Fin 768) (l : Fin 128) (hj : 512 ≤ n * 256 + j.val) :
    stack k0 k1 k2 (ix2 j l) = zAt z (n * 256 + j.val - 512) (1024 + (g * 128 + l.val)) := by
  rw [stack_apply k0 k1 k2 (fun b r l => zAt z ((n + b - 2) * 256 + r) (1024 + (g * 128 + l.val))) H.hk0 H.hk1 H.hk2]
  exact congrArg (zAt z · _) (by omega)

theorem values (j : Fin 768) (l : Fin 128) (hj : 512 ≤ n * 256 + j.val) :
    stack v0 v1 v2 (ix2 j l) = zAt z (n * 256 + j.val - 512) (2048 + (g * 128 + l.val)) := by
  rw [stack_apply v0 v1 v2 (fun b r l => zAt z ((n + b - 2) * 256 + r) (2048 + (g * 128 + l.val))) H.hv0 H.hv1 H.hv2]
  exact congrArg (zAt z · _) (by omega)

/-- The two heads' scores where the key exists. -/
theorem first_score (r : Fin 256) (j : Fin 768) (hj : 512 ≤ n * 256 + j.val) :
    scores k0_pay1 q (stack k0 k1 k2) b (ix2 r j) = score z bias (n * 256 + r.val) (2 * g) j := by
  have h1 : (n * 256 + r.val) / 256 = n := by omega
  have h2 : (n * 256 + r.val) % 256 = r.val := by omega
  rw [scores_first, score, h1, h2, if_pos hj, H.hb]
  refine congrArg (· + _) (Finset.sum_congr rfl fun d _ => ?_)
  dsimp only
  rw [keys H _ _ hj, H.hq]
  refine congrArg (fun a => zAt z (n * 256 + r.val) a * eighth * zAt z (n * 256 + j.val - 512) (1024 + a)) ?_
  dsimp only
  omega

theorem second_score (r : Fin 256) (j : Fin 768) (hj : 512 ≤ n * 256 + j.val) :
    scores second q (stack k0 k1 k2) b' (ix2 r j) = score z bias (n * 256 + r.val) (2 * g + 1) j := by
  have h1 : (n * 256 + r.val) / 256 = n := by omega
  have h2 : (n * 256 + r.val) % 256 = r.val := by omega
  rw [scores_second, score, h1, h2, if_pos hj, H.hb']
  refine congrArg (· + _) (Finset.sum_congr rfl fun d _ => ?_)
  dsimp only
  rw [keys H _ _ hj, H.hq]
  refine congrArg (fun a => zAt z (n * 256 + r.val) a * eighth * zAt z (n * 256 + j.val - 512) (1024 + a)) ?_
  dsimp only
  omega

theorem pair_attn (s s' : FVec Ideal S256x768 .f32) (r : Fin 256) (l : Fin 128)
    (hs : ∀ j, s (ix2 r j) = score z bias (n * 256 + r.val) (2 * g) j)
    (hs' : ∀ j, s' (ix2 r j) = score z bias (n * 256 + r.val) (2 * g + 1) j) :
    pair s s' (stack v0 v1 v2) (ix2 r l) = attn z bias (n * 256 + r.val) (g * 128 + l.val) := by
  have h1 : (n * 256 + r.val) / 256 = n := by omega
  have e : (fun j => if l.val < 64 then s (ix2 r j) else s' (ix2 r j)) = score z bias (n * 256 + r.val) ((g * 128 + l.val) / 64) := by
    funext j
    split
    · rw [hs, show (g * 128 + l.val) / 64 = 2 * g by omega]
    · rw [hs', show (g * 128 + l.val) / 64 = 2 * g + 1 by omega]
  rw [pair_apply, e, attn]
  refine mean_congr _ _ _ fun j hj => ?_
  have hv : 512 ≤ n * 256 + j.val := by
    by_contra hn
    exact hj (by rw [score, h1, if_neg hn])
  rw [h1]
  exact values H j l hv

theorem tileA_attn (hn : n < 2) (r : Fin 256) (l : Fin 128) :
    tileA q k0 k1 k2 v0 v1 v2 b b' (BitVec.ofNat 32 n) (ix2 r l) = attn z bias (n * 256 + r.val) (g * 128 + l.val) := by
  have h1 : (n * 256 + r.val) / 256 = n := by omega
  refine pair_attn H _ _ r l (fun j => ?_) fun j => ?_
  · rw [masked_apply n hn]
    by_cases hj : 512 ≤ n * 256 + j.val
    · rw [if_pos hj, first_score H r j hj]
    · rw [if_neg hj, score, h1, if_neg hj]
  · rw [masked_apply n hn]
    by_cases hj : 512 ≤ n * 256 + j.val
    · rw [if_pos hj, second_score H r j hj]
    · rw [if_neg hj, score, h1, if_neg hj]

theorem tileB_attn (hn : 2 ≤ n) (r : Fin 256) (l : Fin 128) :
    tileB q k0 k1 k2 v0 v1 v2 b b' (ix2 r l) = attn z bias (n * 256 + r.val) (g * 128 + l.val) :=
  pair_attn H _ _ r l (fun j => first_score H r j (by omega)) fun j => second_score H r j (by omega)

end Point

end Cert.Attn

end
-- ==== Proof.Attn.Point.lean ====
module

public import proofs.«01_k».proof.Proof.Attn.Block

@[expose] public section

set_option maxRecDepth 16384

/-! The kernel's blocks and its output array, of the argument arrays. -/

noncomputable section

namespace Cert.Attn

open Idealize.ShloMosaic Idealize.ShloMosaic.TcCoe Idealize.SL.Sem
open Idealize.ShloMosaic.Pipeline (Dat)
open Cert.KernelAttnFwdIdeal Cert.KernelAttnFwdIdeal.Gen

variable (m : (ℓ : Loc nD τ sig) → Buf (Elt Ideal) ℓ) (c : Dev nD)

def zK : FVec Ideal S8192x3072 .bf16 := m ((c : Thread nD τ).loc main_arg0)
def bK : FVec Ideal S16x256x768 .f32 := m ((c : Thread nD τ).loc main_arg1)

theorem idx : ∀ t : Fin cfg0.N, win0_0.index t = ![t.val % 32, t.val / 32]
    ∧ win0_1.index t = ![t.val % 32 + 0 - 2, 2 + t.val / 32] ∧ win0_2.index t = ![t.val % 32 + 1 - 2, 2 + t.val / 32]
    ∧ win0_3.index t = ![t.val % 32 + 2 - 2, 2 + t.val / 32]
    ∧ win0_4.index t = ![t.val % 32 + 0 - 2, 4 + t.val / 32] ∧ win0_5.index t = ![t.val % 32 + 1 - 2, 4 + t.val / 32]
    ∧ win0_6.index t = ![t.val % 32 + 2 - 2, 4 + t.val / 32]
    ∧ win0_7.index t = ![t.val / 32, 0, 0] ∧ win0_8.index t = ![t.val % 32, t.val / 32] :=
  (by decide +kernel : ∀ t : Fin grid0.N, _)

theorem coord (t : Fin cfg0.N) : (grid0.coords t 1).val = t.val % 32 :=
  (by decide +kernel : ∀ t : Fin grid0.N, (grid0.coords t 1).val = t.val % 32) t

/-- Entries of the blocks by the arrays' coordinates. -/
theorem read0 (t : Fin cfg0.N) (i : Fin 256) (l : Fin 512) : iblk m c 0 t (ix2 i l) = zAt (zK m c) (t.val % 32 * 256 + i.val) ((t.val / 32 * 512 + l.val)) := by
  have ht : t.val < 64 := lt_of_lt_of_eq t.isLt N_0
  rw [zAt, dif_pos ⟨by omega, by omega⟩]
  blk_point [iblk, V, idx t, zK]
  all_goals omega
theorem read1 (t : Fin cfg0.N) (i : Fin 256) (l : Fin 512) : iblk m c 1 t (ix2 i l) = zAt (zK m c) ((t.val % 32 + 0 - 2) * 256 + i.val) (1024 + (t.val / 32 * 512 + l.val)) := by
  have ht : t.val < 64 := lt_of_lt_of_eq t.isLt N_0
  rw [zAt, dif_pos ⟨by omega, by omega⟩]
  blk_point [iblk, V, idx t, zK]
  all_goals omega
theorem read2 (t : Fin cfg0.N) (i : Fin 256) (l : Fin 512) : iblk m c 2 t (ix2 i l) = zAt (zK m c) ((t.val % 32 + 1 - 2) * 256 + i.val) (1024 + (t.val / 32 * 512 + l.val)) := by
  have ht : t.val < 64 := lt_of_lt_of_eq t.isLt N_0
  rw [zAt, dif_pos ⟨by omega, by omega⟩]
  blk_point [iblk, V, idx t, zK]
  all_goals omega
theorem read3 (t : Fin cfg0.N) (i : Fin 256) (l : Fin 512) : iblk m c 3 t (ix2 i l) = zAt (zK m c) ((t.val % 32 + 2 - 2) * 256 + i.val) (1024 + (t.val / 32 * 512 + l.val)) := by
  have ht : t.val < 64 := lt_of_lt_of_eq t.isLt N_0
  rw [zAt, dif_pos ⟨by omega, by omega⟩]
  blk_point [iblk, V, idx t, zK]
  all_goals omega
theorem read4 (t : Fin cfg0.N) (i : Fin 256) (l : Fin 512) : iblk m c 4 t (ix2 i l) = zAt (zK m c) ((t.val % 32 + 0 - 2) * 256 + i.val) (2048 + (t.val / 32 * 512 + l.val)) := by
  have ht : t.val < 64 := lt_of_lt_of_eq t.isLt N_0
  rw [zAt, dif_pos ⟨by omega, by omega⟩]
  blk_point [iblk, V, idx t, zK]
  all_goals omega
theorem read5 (t : Fin cfg0.N) (i : Fin 256) (l : Fin 512) : iblk m c 5 t (ix2 i l) = zAt (zK m c) ((t.val % 32 + 1 - 2) * 256 + i.val) (2048 + (t.val / 32 * 512 + l.val)) := by
  have ht : t.val < 64 := lt_of_lt_of_eq t.isLt N_0
  rw [zAt, dif_pos ⟨by omega, by omega⟩]
  blk_point [iblk, V, idx t, zK]
  all_goals omega
theorem read6 (t : Fin cfg0.N) (i : Fin 256) (l : Fin 512) : iblk m c 6 t (ix2 i l) = zAt (zK m c) ((t.val % 32 + 2 - 2) * 256 + i.val) (2048 + (t.val / 32 * 512 + l.val)) := by
  have ht : t.val < 64 := lt_of_lt_of_eq t.isLt N_0
  rw [zAt, dif_pos ⟨by omega, by omega⟩]
  blk_point [iblk, V, idx t, zK]
  all_goals omega
theorem read7 (t : Fin cfg0.N) (h : Fin 8) (i : Fin 256) (j : Fin 768) : iblk m c 7 t (ix3 h i j) = bAt (bK m c) (t.val / 32 * 8 + h.val) i.val j := by
  have ht : t.val < 64 := lt_of_lt_of_eq t.isLt N_0
  rw [bAt, dif_pos ⟨by omega, by omega⟩]
  blk_point [iblk, V, idx t, bK]
  all_goals omega

/-- A pair's columns of a block and a head's bias. -/
theorem ld_cols (x : FVec Ideal S256x512 .bf16) (o : ℕ) (ho : o + 128 ≤ 512) (inb : ∀ a, (![0, o] : Fin 2 → ℕ) a + (![256, 128] : Fin 2 → ℕ) a ≤ S256x512.size a)
    (r : Fin 256) (l : Fin 128) :
    View.ld (Val := Elt Ideal) (e' := .bf16) x (Rect.unit ![0, o] ![256, 128] inb) (ix2 r l) = x (ix2 r ⟨o + l.val, by omega⟩) := by
  refine congrArg x (funext fun a => Fin.ext ?_)
  match a with
  | 0 => show 0 + 1 * r.val = r.val; omega
  | 1 => show o + 1 * l.val = o + l.val; omega

theorem ld_head (x : FVec Ideal S8x256x768 .f32) (o : ℕ) (ho : o < 8) (inb : ∀ a, (![o, 0, 0] : Fin 3 → ℕ) a + (![1, 256, 768] : Fin 3 → ℕ) a ≤ S8x256x768.size a)
    (r : Fin 256) (j : Fin 768) :
    View.ld (Val := Elt Ideal) (e' := .f32) x (Rect.unit ![o, 0, 0] ![1, 256, 768] inb) (ix3 0 r j) = x (ix3 ⟨o, ho⟩ r j) := by
  refine congrArg x (funext fun a => Fin.ext ?_)
  match a with
  | 0 => show o + 1 * 0 = o; omega
  | 1 => show 0 + 1 * r.val = r.val; omega
  | 2 => show 0 + 1 * j.val = j.val; omega

/-- The loads of pair `p` hold the arrays' entries. -/
theorem holds (t : Fin cfg0.N) (p : ℕ) (hp : p < 4) (inb : ∀ a, (![0, 128 * p] : Fin 2 → ℕ) a + (![256, 128] : Fin 2 → ℕ) a ≤ S256x512.size a)
    (ib : ∀ a, (![2 * p, 0, 0] : Fin 3 → ℕ) a + (![1, 256, 768] : Fin 3 → ℕ) a ≤ S8x256x768.size a)
    (ib' : ∀ a, (![2 * p + 1, 0, 0] : Fin 3 → ℕ) a + (![1, 256, 768] : Fin 3 → ℕ) a ≤ S8x256x768.size a) :
    Holds (zK m c) (bK m c)
      (View.ld (Val := Elt Ideal) (e' := .bf16) (iblk m c 0 t) (Rect.unit ![0, 128 * p] ![256, 128] inb))
      (View.ld (Val := Elt Ideal) (e' := .bf16) (iblk m c 1 t) (Rect.unit ![0, 128 * p] ![256, 128] inb))
      (View.ld (Val := Elt Ideal) (e' := .bf16) (iblk m c 2 t) (Rect.unit ![0, 128 * p] ![256, 128] inb))
      (View.ld (Val := Elt Ideal) (e' := .bf16) (iblk m c 3 t) (Rect.unit ![0, 128 * p] ![256, 128] inb))
      (View.ld (Val := Elt Ideal) (e' := .bf16) (iblk m c 4 t) (Rect.unit ![0, 128 * p] ![256, 128] inb))
      (View.ld (Val := Elt Ideal) (e' := .bf16) (iblk m c 5 t) (Rect.unit ![0, 128 * p] ![256, 128] inb))
      (View.ld (Val := Elt Ideal) (e' := .bf16) (iblk m c 6 t) (Rect.unit ![0, 128 * p] ![256, 128] inb))
      (View.ld (Val := Elt Ideal) (e' := .f32) (iblk m c 7 t) (Rect.unit ![2 * p, 0, 0] ![1, 256, 768] ib))
      (View.ld (Val := Elt Ideal) (e' := .f32) (iblk m c 7 t) (Rect.unit ![2 * p + 1, 0, 0] ![1, 256, 768] ib'))
      (t.val % 32) (t.val / 32 * 4 + p) where
  hq r l := ((ld_cols _ _ (by omega) inb r l).trans (read0 m c t r _)).trans (congrArg (zAt _ _) (by dsimp only; omega))
  hk0 r l := ((ld_cols _ _ (by omega) inb r l).trans (read1 m c t r _)).trans (congrArg (zAt _ _) (by dsimp only; omega))
  hk1 r l := ((ld_cols _ _ (by omega) inb r l).trans (read2 m c t r _)).trans (congrArg (zAt _ _) (by dsimp only; omega))
  hk2 r l := ((ld_cols _ _ (by omega) inb r l).trans (read3 m c t r _)).trans (congrArg (zAt _ _) (by dsimp only; omega))
  hv0 r l := ((ld_cols _ _ (by omega) inb r l).trans (read4 m c t r _)).trans (congrArg (zAt _ _) (by dsimp only; omega))
  hv1 r l := ((ld_cols _ _ (by omega) inb r l).trans (read5 m c t r _)).trans (congrArg (zAt _ _) (by dsimp only; omega))
  hv2 r l := ((ld_cols _ _ (by omega) inb r l).trans (read6 m c t r _)).trans (congrArg (zAt _ _) (by dsimp only; omega))
  hb r j := ((ld_head _ _ (by omega) ib r j).trans (read7 m c t _ r j)).trans (congrArg (bAt _ · _ _) (by dsimp only; omega))
  hb' r j := ((ld_head _ _ (by omega) ib' r j).trans (read7 m c t _ r j)).trans (congrArg (bAt _ · _ _) (by dsimp only; omega))

theorem blockA (t : Fin cfg0.N) (h0 : t.val % 32 ≤ 1) (h1 : ¬2 ≤ t.val % 32) (i : Fin 256) (j : Fin 512) :
    outsAt0 (F := Ideal) m c t.val t.isLt (ix2 i j) = attn (zK m c) (bK m c) (t.val % 32 * 256 + i.val) (t.val / 32 * 512 + j.val) := by
  rw [outsAt0_A m c t h0 h1]
  frame_out
  canon_tiles y h
  all_goals idx_vars y
  case piece0 =>
    change tileA _ _ _ _ _ _ _ _ _ _ (ix2 y0 y1) = _
    rw [coord t]
    refine (tileA_attn (holds m c t 3 (by omega) _ _ _) (by omega) y0 y1).trans (congrArg₂ (attn _ _) (by omega) (by omega))
  case piece1 =>
    change tileA _ _ _ _ _ _ _ _ _ _ (ix2 y0 y1) = _
    rw [coord t]
    refine (tileA_attn (holds m c t 2 (by omega) _ _ _) (by omega) y0 y1).trans (congrArg₂ (attn _ _) (by omega) (by omega))
  case piece2 =>
    change tileA _ _ _ _ _ _ _ _ _ _ (ix2 y0 y1) = _
    rw [coord t]
    refine (tileA_attn (holds m c t 1 (by omega) _ _ _) (by omega) y0 y1).trans (congrArg₂ (attn _ _) (by omega) (by omega))
  case piece3 =>
    change tileA _ _ _ _ _ _ _ _ _ _ (ix2 y0 y1) = _
    rw [coord t]
    refine (tileA_attn (holds m c t 0 (by omega) _ _ _) (by omega) y0 y1).trans (congrArg₂ (attn _ _) (by omega) (by omega))

theorem blockB (t : Fin cfg0.N) (h0 : ¬t.val % 32 ≤ 1) (h1 : 2 ≤ t.val % 32) (i : Fin 256) (j : Fin 512) :
    outsAt0 (F := Ideal) m c t.val t.isLt (ix2 i j) = attn (zK m c) (bK m c) (t.val % 32 * 256 + i.val) (t.val / 32 * 512 + j.val) := by
  rw [outsAt0_B m c t h0 h1]
  frame_out
  canon_tiles y h
  all_goals idx_vars y
  case piece0 =>
    change tileB _ _ _ _ _ _ _ _ _ (ix2 y0 y1) = _
    refine (tileB_attn (holds m c t 3 (by omega) _ _ _) (by omega) y0 y1).trans (congrArg₂ (attn _ _) (by omega) (by omega))
  case piece1 =>
    change tileB _ _ _ _ _ _ _ _ _ (ix2 y0 y1) = _
    refine (tileB_attn (holds m c t 2 (by omega) _ _ _) (by omega) y0 y1).trans (congrArg₂ (attn _ _) (by omega) (by omega))
  case piece2 =>
    change tileB _ _ _ _ _ _ _ _ _ (ix2 y0 y1) = _
    refine (tileB_attn (holds m c t 1 (by omega) _ _ _) (by omega) y0 y1).trans (congrArg₂ (attn _ _) (by omega) (by omega))
  case piece3 =>
    change tileB _ _ _ _ _ _ _ _ _ (ix2 y0 y1) = _
    refine (tileB_attn (holds m c t 0 (by omega) _ _ _) (by omega) y0 y1).trans (congrArg₂ (attn _ _) (by omega) (by omega))

theorem block8 (t : Fin cfg0.N) (i : Fin 256) (j : Fin 512) :
    outsAt0 (F := Ideal) m c t.val t.isLt (ix2 i j) = attn (zK m c) (bK m c) (t.val % 32 * 256 + i.val) (t.val / 32 * 512 + j.val) := by
  by_cases h : t.val % 32 ≤ 1
  · exact blockA m c t h (by omega) i j
  · exact blockB m c t h (by omega) i j

theorem array8 : (dats m 0 c).arrAt 8 cfg0.N = fun y : S8192x1024.Idx => attn (zK m c) (bK m c) (y 0).val (y 1).val := by
  refine (dats m 0 c).arrAt_eq_of_covers 8 _ (by decide +kernel) fun t hf y => ?_
  blk_simp
  rw [after0_8]
  idx_vars y
  rw [block8]
  refine congrArg₂ (attn (zK m c) (bK m c)) ?_ ?_
  · show t.val % 32 * 256 + y0.val = _
    blk_simp [idx t]
  · show t.val / 32 * 512 + y1.val = _
    blk_simp [idx t]

end Cert.Attn

end
-- ==== Proof.Attn.Fold.lean ====
module

public import proofs.«01_k».proof.Proof.Gen.ReferenceAttnFwdIdeal.Run
public import Idealize.ShloMosaic.Lib.Pointwise

@[expose] public section

/-! A maximum along the last of four axes, at any sizes. -/

noncomputable section

namespace Cert.Attn

open Idealize.ShloMosaic

theorem reduce_last {n0 n1 n2 n3 : ℕ} (h : (⟨4, ![n0, n1, n2, n3]⟩ : Shape).ReducesTo [3] ⟨3, ![n0, n1, n2]⟩) {u : Shape} (hu : 0 < u.numel)
    (v : FVec Ideal ⟨4, ![n0, n1, n2, n3]⟩ .f32) (init : FVec Ideal u .f32) (a : Fin n0) (b : Fin n1) (c : Fin n2) :
    Host.reduce FloatOps.maximumf v init h hu (ix3 a b c)
      = (Finset.univ : Finset (Fin n3)).fold max (init (Shape.Idx.first hu)) (fun k => v (ix4 a b c k)) := by
  simp only [pointwise]

end Cert.Attn

end
-- ==== Proof.Attn.Reference.lean ====
module

public import proofs.«01_k».proof.Proof.Gen.ReferenceAttnFwdIdeal.Run
public import proofs.«01_k».proof.Proof.Attn.Block
public import proofs.«01_k».proof.Proof.Attn.Fold
public import Idealize.ShloMosaic.Lib.Pointwise

@[expose] public section

set_option maxRecDepth 16384

/-! The reference's attention, entry by entry. -/

noncomputable section

namespace Cert.Attn

open Idealize.ShloMosaic Idealize.ShloMosaic.TcCoe Idealize.SL.Sem
open Cert.ReferenceAttnFwdIdeal Cert.ReferenceAttnFwdIdeal.Gen

variable (z : FVec Ideal S8192x3072 .bf16) (b : FVec Ideal S16x256x768 .f32)

/-- The keys and the values each tile of queries sees. -/
def keysR : FVec Ideal S32x768x16x64 .f32 :=
  ((concatenate S32x768x16x64 1 [⟨S32x256x16x64, ((extractStridedSlice S32x256x16x64 ![0, 0, 0, 0] (pad S34x256x16x64 ![2, 0, 0, 0] ![0, 0, 0, 0] ![0, 0, 0, 0] (shapeCast _ (extractStridedSlice S8192x1024 ![0, 1024] (extf .f32 z bitsLt_bf16_f32) slices_S8192x3072_S8192x1024_0_1024) shapeCasts_S8192x1024_S32x256x16x64) (sitofp (F := Ideal) .f32 (constantI S_ 32 0#32)) pads_S32x256x16x64_S34x256x16x64_200_000_000_000 h_S_) slices_S34x256x16x64_S32x256x16x64_0_0_0_0) : (⟨S32x256x16x64, .f32⟩ : BufTy).Contents (Elt Ideal))⟩, ⟨S32x256x16x64, ((extractStridedSlice S32x256x16x64 ![1, 0, 0, 0] (pad S34x256x16x64 ![2, 0, 0, 0] ![0, 0, 0, 0] ![0, 0, 0, 0] (shapeCast _ (extractStridedSlice S8192x1024 ![0, 1024] (extf .f32 z bitsLt_bf16_f32) slices_S8192x3072_S8192x1024_0_1024) shapeCasts_S8192x1024_S32x256x16x64) (sitofp (F := Ideal) .f32 (constantI S_ 32 0#32)) pads_S32x256x16x64_S34x256x16x64_200_000_000_000 h_S_) slices_S34x256x16x64_S32x256x16x64_1_0_0_0) : (⟨S32x256x16x64, .f32⟩ : BufTy).Contents (Elt Ideal))⟩, ⟨S32x256x16x64, ((extractStridedSlice S32x256x16x64 ![2, 0, 0, 0] (pad S34x256x16x64 ![2, 0, 0, 0] ![0, 0, 0, 0] ![0, 0, 0, 0] (shapeCast _ (extractStridedSlice S8192x1024 ![0, 1024] (extf .f32 z bitsLt_bf16_f32) slices_S8192x3072_S8192x1024_0_1024) shapeCasts_S8192x1024_S32x256x16x64) (sitofp (F := Ideal) .f32 (constantI S_ 32 0#32)) pads_S32x256x16x64_S34x256x16x64_200_000_000_000 h_S_) slices_S34x256x16x64_S32x256x16x64_2_0_0_0) : (⟨S32x256x16x64, .f32⟩ : BufTy).Contents (Elt Ideal))⟩] concatenates_S32x256x16x64_S32x256x16x64_S32x256x16x64_S32x768x16x64_d1 : (⟨S32x768x16x64, .f32⟩ : BufTy).Contents (Elt Ideal)))
def valuesR : FVec Ideal S32x768x16x64 .f32 :=
  ((concatenate S32x768x16x64 1 [⟨S32x256x16x64, ((extractStridedSlice S32x256x16x64 ![0, 0, 0, 0] (pad S34x256x16x64 ![2, 0, 0, 0] ![0, 0, 0, 0] ![0, 0, 0, 0] (shapeCast _ (extractStridedSlice S8192x1024 ![0, 2048] (extf .f32 z bitsLt_bf16_f32) slices_S8192x3072_S8192x1024_0_2048) shapeCasts_S8192x1024_S32x256x16x64) (sitofp (F := Ideal) .f32 (constantI S_ 32 0#32)) pads_S32x256x16x64_S34x256x16x64_200_000_000_000 h_S_) slices_S34x256x16x64_S32x256x16x64_0_0_0_0) : (⟨S32x256x16x64, .f32⟩ : BufTy).Contents (Elt Ideal))⟩, ⟨S32x256x16x64, ((extractStridedSlice S32x256x16x64 ![1, 0, 0, 0] (pad S34x256x16x64 ![2, 0, 0, 0] ![0, 0, 0, 0] ![0, 0, 0, 0] (shapeCast _ (extractStridedSlice S8192x1024 ![0, 2048] (extf .f32 z bitsLt_bf16_f32) slices_S8192x3072_S8192x1024_0_2048) shapeCasts_S8192x1024_S32x256x16x64) (sitofp (F := Ideal) .f32 (constantI S_ 32 0#32)) pads_S32x256x16x64_S34x256x16x64_200_000_000_000 h_S_) slices_S34x256x16x64_S32x256x16x64_1_0_0_0) : (⟨S32x256x16x64, .f32⟩ : BufTy).Contents (Elt Ideal))⟩, ⟨S32x256x16x64, ((extractStridedSlice S32x256x16x64 ![2, 0, 0, 0] (pad S34x256x16x64 ![2, 0, 0, 0] ![0, 0, 0, 0] ![0, 0, 0, 0] (shapeCast _ (extractStridedSlice S8192x1024 ![0, 2048] (extf .f32 z bitsLt_bf16_f32) slices_S8192x3072_S8192x1024_0_2048) shapeCasts_S8192x1024_S32x256x16x64) (sitofp (F := Ideal) .f32 (constantI S_ 32 0#32)) pads_S32x256x16x64_S34x256x16x64_200_000_000_000 h_S_) slices_S34x256x16x64_S32x256x16x64_2_0_0_0) : (⟨S32x256x16x64, .f32⟩ : BufTy).Contents (Elt Ideal))⟩] concatenates_S32x256x16x64_S32x256x16x64_S32x256x16x64_S32x768x16x64_d1 : (⟨S32x768x16x64, .f32⟩ : BufTy).Contents (Elt Ideal)))

/-- The scores, their weights and the output. -/
def scoresR : FVec Ideal S32x16x256x768 .f32 :=
  (select (broadcastInDim S32x16x256x768 ![0, 1, 2, 3] bcast_S32x1x1x768_S32x16x256x768_0_1_2_3 (broadcastInDim S32x1x1x768 ![0, 3] bcast_S32x768_S32x1x1x768_0_3 (cmpi .sge (broadcastInDim S32x768 ![0, 1] bcast_S1x768_S32x768_0_1 (broadcastInDim S1x768 ![1] bcast_S768_S1x768_1 (iotaInDim S768 32 0))) (broadcastInDim S32x768 ![0, 1] bcast_S32x1_S32x768_0_1 (muli (broadcastInDim S32x1 ![0] bcast_S32_S32x1_0 (subi (broadcastInDim S32 ![] bcast_S_S32 (constantI S_ 32 2#32)) (iotaInDim S32 32 0))) (broadcastInDim S32x1 ![] bcast_S_S32x1 (constantI S_ 32 256#32))))))) (addf (Host.dotGeneral dot_S32x256x16x64_S32x768x16x64_S32x16x256x768_3_3_1_1_02_02 none (mulf (shapeCast _ (extractStridedSlice S8192x1024 ![0, 0] (extf .f32 z bitsLt_bf16_f32) slices_S8192x3072_S8192x1024_0_0) shapeCasts_S8192x1024_S32x256x16x64) (broadcastInDim S32x256x16x64 ![] bcast_S_S32x256x16x64 (constant S_ .f32 0x3E000000#32))) (keysR z)) (broadcastInDim S32x16x256x768 ![0, 1, 2, 3] bcast_S1x16x256x768_S32x16x256x768_0_1_2_3 (broadcastInDim S1x16x256x768 ![1, 2, 3] bcast_S16x256x768_S1x16x256x768_1_2_3 b))) (broadcastInDim S32x16x256x768 ![] bcast_S_S32x16x256x768 (id (constant S_ .f32 0xFF800000#32))))
def topsR (s : FVec Ideal S32x16x256x768 .f32) : FVec Ideal S32x16x256 .f32 :=
  Host.reduce FloatOps.maximumf s (constant S_ .f32 0xFF800000#32) reducesTo_S32x16x256x768_S32x16x256_d3 h_S_
def expR (s : FVec Ideal S32x16x256x768 .f32) (t : FVec Ideal S32x16x256 .f32) : FVec Ideal S32x16x256x768 .f32 :=
  (Host.exp (subf s (broadcastInDim S32x16x256x768 ![0, 1, 2, 3] bcast_S32x16x256x1_S32x16x256x768_0_1_2_3 (broadcastInDim S32x16x256x1 ![0, 1, 2] bcast_S32x16x256_S32x16x256x1_0_1_2 (maximumf (broadcastInDim S32x16x256 ![] bcast_S_S32x16x256 (constant S_ .f32 0xFF800000#32)) t)))))
def weightsR (s : FVec Ideal S32x16x256x768 .f32) : FVec Ideal S32x16x256x768 .f32 := expR s (topsR s)
def probsR (s : FVec Ideal S32x16x256x768 .f32) : FVec Ideal S32x16x256x768 .f32 :=
  (Host.divf (weightsR s) (broadcastInDim S32x16x256x768 ![0, 1, 2, 3] bcast_S32x16x256x1_S32x16x256x768_0_1_2_3 (broadcastInDim S32x16x256x1 ![0, 1, 2] bcast_S32x16x256_S32x16x256x1_0_1_2 (Host.reduceAdd (weightsR s) (constant S_ .f32 0x00000000#32) reducesTo_S32x16x256x768_S32x16x256_d3 h_S_))))
def outR : FVec Ideal S8192x1024 .bf16 :=
  truncf .bf16 (shapeCast _ (transpose S32x256x16x64 [0, 3, 1, 2] (Host.dotGeneral dot_S32x768x16x64_S32x16x256x768_S32x16x64x256_1_3_3_2_02_01 none (valuesR z) (probsR (scoresR z b))) transposes_S32x16x64x256_S32x256x16x64_0_3_1_2) shapeCasts_S32x256x16x64_S8192x1024) bitsLt_bf16_f32

theorem zAt_of (n e n' e' : ℕ) (hn : n < 8192) (he : e < 3072) (h : n = n') (h' : e = e') : z (ix2 ⟨n, hn⟩ ⟨e, he⟩) = zAt z n' e' := by
  subst h h'
  rw [zAt, dif_pos ⟨hn, he⟩]

theorem keysR_apply (c : Fin 32) (j : Fin 768) (h : Fin 16) (d : Fin 64) (hj : 512 ≤ c.val * 256 + j.val) :
    keysR z (ix4 c j h d) = zAt z (c.val * 256 + j.val - 512) (1024 + (h.val * 64 + d.val)) := by
  pointwise [keysR]
  split_ifs <;> first | (exfalso; omega) | (refine zAt_of z _ _ _ _ _ _ ?_ ?_ <;> omega)

theorem valuesR_apply (c : Fin 32) (j : Fin 768) (h : Fin 16) (d : Fin 64) (hj : 512 ≤ c.val * 256 + j.val) :
    valuesR z (ix4 c j h d) = zAt z (c.val * 256 + j.val - 512) (2048 + (h.val * 64 + d.val)) := by
  pointwise [valuesR]
  split_ifs <;> first | (exfalso; omega) | (refine zAt_of z _ _ _ _ _ _ ?_ ?_ <;> omega)

theorem topsR_apply (s : FVec Ideal S32x16x256x768 .f32) (c : Fin 32) (h : Fin 16) (n : Fin 256) :
    topsR s (ix3 c h n) = top (fun j => s (ix4 c h n j)) := by
  refine (reduce_last _ _ s _ c h n).trans ?_
  rw [top, show constant (F := Ideal) S_ .f32 0xFF800000#32 (Shape.Idx.first h_S_) = (⊥ : EReal) from ofBits_bot]

theorem expR_apply (s : FVec Ideal S32x16x256x768 .f32) (t : FVec Ideal S32x16x256 .f32) (c : Fin 32) (h : Fin 16) (n : Fin 256) (j : Fin 768) :
    expR s t (ix4 c h n j) = Ideal.exp (s (ix4 c h n j) - max ⊥ (t (ix3 c h n))) := by
  pointwise [expR, ofBits_bot]

theorem weightsR_apply (s : FVec Ideal S32x16x256x768 .f32) (c : Fin 32) (h : Fin 16) (n : Fin 256) (j : Fin 768) :
    weightsR s (ix4 c h n j) = weight (fun j => s (ix4 c h n j)) j := by
  rw [weightsR, expR_apply, topsR_apply, bot_sup_eq, weight]

theorem probsR_apply (s : FVec Ideal S32x16x256x768 .f32) (c : Fin 32) (h : Fin 16) (n : Fin 256) (j : Fin 768) :
    probsR s (ix4 c h n j) = Ideal.div (weight (fun j => s (ix4 c h n j)) j) (total (fun j => s (ix4 c h n j))) := by
  pointwise [probsR, total, weightsR_apply]

theorem reaches : ∀ c : Fin 32, ∀ j : Fin 768, IntOp.cmpi CmpIPredicate.sge (BitVec.ofNat 32 j.val)
    (IntOp.muli (IntOp.subi 2#32 (BitVec.ofNat 32 c.val)) 256#32) = if 512 ≤ c.val * 256 + j.val then 1#1 else 0#1 := by
  decide +kernel

theorem scoresR_apply (c : Fin 32) (h : Fin 16) (n : Fin 256) (j : Fin 768) :
    scoresR z b (ix4 c h n j) = score z b (c.val * 256 + n.val) h.val j := by
  have h1 : (c.val * 256 + n.val) / 256 = c.val := by omega
  have h2 : (c.val * 256 + n.val) % 256 = n.val := by omega
  pointwise [scoresR]
  rw [reaches, score, h1, h2]
  by_cases hj : 512 ≤ c.val * 256 + j.val
  · rw [if_pos hj, if_pos hj]
    refine congrArg₂ (· + ·) (Finset.sum_congr rfl fun d _ => ?_) ?_
    · rw [keysR_apply z c j h d hj]
      exact congrArg (· * _ * _) (zAt_of z _ _ _ _ _ _ rfl rfl)
    · rw [bAt, dif_pos ⟨h.isLt, n.isLt⟩]
  · rw [if_neg hj, if_neg hj]
    exact ofBits_bot

/-- Real values among the extended reals. -/
def IsReal (x : EReal) : Prop := ∃ r : ℝ, x = r

theorem isReal_mul (x y : EReal) (hx : IsReal x) (hy : IsReal y) : IsReal (x * y) := by
  obtain ⟨r, rfl⟩ := hx
  obtain ⟨s, rfl⟩ := hy
  exact ⟨r * s, (EReal.coe_mul r s).symm⟩

theorem isReal_add (x y : EReal) (hx : IsReal x) (hy : IsReal y) : IsReal (x + y) := by
  obtain ⟨r, rfl⟩ := hx
  obtain ⟨s, rfl⟩ := hy
  exact ⟨r + s, (EReal.coe_add r s).symm⟩

theorem isReal_zAt (hz : ∀ i, IsReal (z i)) (n e : ℕ) : IsReal (zAt z n e) := by
  rw [zAt]
  split
  · exact hz _
  · exact ⟨0, EReal.coe_zero.symm⟩

theorem isReal_bAt (hb : ∀ i, IsReal (b i)) (h r : ℕ) (j : Fin 768) : IsReal (bAt b h r j) := by
  rw [bAt]
  split
  · exact hb _
  · exact ⟨0, EReal.coe_zero.symm⟩

theorem isReal_score (hz : ∀ i, IsReal (z i)) (hb : ∀ i, IsReal (b i)) (n h : ℕ) (j : Fin 768) (hj : 512 ≤ n / 256 * 256 + j.val) :
    IsReal (score z b n h j) := by
  rw [score, if_pos hj]
  refine isReal_add _ _ (Finset.sum_induction _ IsReal isReal_add ⟨0, EReal.coe_zero.symm⟩ fun d _ => ?_) (isReal_bAt b hb _ _ _)
  exact isReal_mul _ _ (isReal_mul _ _ (isReal_zAt z hz _ _) ⟨_, eighth_real⟩) (isReal_zAt z hz _ _)

theorem score_ne_top (hz : ∀ i, IsReal (z i)) (hb : ∀ i, IsReal (b i)) (n h : ℕ) (j : Fin 768) : score z b n h j ≠ ⊤ := by
  by_cases hj : 512 ≤ n / 256 * 256 + j.val
  · obtain ⟨r, hr⟩ := isReal_score z b hz hb n h j hj
    rw [hr]
    exact EReal.coe_ne_top r
  · rw [score, if_neg hj]
    exact bot_ne_top

theorem score_last (hz : ∀ i, IsReal (z i)) (hb : ∀ i, IsReal (b i)) (n h : ℕ) : score z b n h ⟨767, by omega⟩ ≠ ⊥ := by
  obtain ⟨r, hr⟩ := isReal_score z b hz hb n h ⟨767, by omega⟩ (by show 512 ≤ n / 256 * 256 + 767; omega)
  rw [hr]
  exact EReal.coe_ne_bot r

theorem outR_mean (n : Fin 8192) (e : Fin 1024) :
    outR z b (ix2 n e) = meanBefore (fun j => score z b (n.val / 256 * 256 + n.val % 256) (e.val / 64) j)
      (fun j => valuesR z (ix4 ⟨n.val / 256, by omega⟩ j ⟨e.val / 64, by omega⟩ ⟨e.val % 64, by omega⟩)) := by
  pointwise [outR, probsR_apply, scoresR_apply]
  unfold meanBefore
  exact Finset.sum_congr rfl fun j _ => mul_comm _ _

theorem attn_values (n e : ℕ) (v : Fin 768 → EReal) (h : ∀ j, 512 ≤ n / 256 * 256 + j.val → v j = zAt z (n / 256 * 256 + j.val - 512) (2048 + e)) :
    mean (score z b n (e / 64)) v = attn z b n e := by
  rw [attn]
  refine mean_congr _ _ _ fun j hj => h j ?_
  by_contra hm
  exact hj (by rw [score, if_neg hm])

theorem attn_before (hz : ∀ i, IsReal (z i)) (hb : ∀ i, IsReal (b i)) (n e : ℕ) (v : Fin 768 → EReal)
    (h : ∀ j, 512 ≤ n / 256 * 256 + j.val → v j = zAt z (n / 256 * 256 + j.val - 512) (2048 + e)) :
    meanBefore (score z b n (e / 64)) v = attn z b n e :=
  (mean_eq _ _ (score_ne_top z b hz hb n (e / 64)) _ (score_last z b hz hb n (e / 64))).trans (attn_values z b n e v h)

theorem values_at (n e : ℕ) (hn : n / 256 < 32) (h1 : e / 64 < 16) (h2 : e % 64 < 64) (j : Fin 768) (hv : 512 ≤ n / 256 * 256 + j.val) :
    valuesR z (ix4 ⟨n / 256, hn⟩ j ⟨e / 64, h1⟩ ⟨e % 64, h2⟩) = zAt z (n / 256 * 256 + j.val - 512) (2048 + e) :=
  (valuesR_apply z ⟨n / 256, hn⟩ j ⟨e / 64, h1⟩ ⟨e % 64, h2⟩ hv).trans
    (congrArg (fun x => zAt z (n / 256 * 256 + j.val - 512) (2048 + x)) (Nat.div_add_mod' e 64))

theorem row_split (n : ℕ) : n / 256 * 256 + n % 256 = n := Nat.div_add_mod' n 256

theorem outR_apply (hz : ∀ i, IsReal (z i)) (hb : ∀ i, IsReal (b i)) (n : Fin 8192) (e : Fin 1024) :
    outR z b (ix2 n e) = attn z b n.val e.val := by
  have h := outR_mean z b n e
  rw [row_split] at h
  exact h.trans (attn_before z b hz hb n.val e.val _ fun j hv => values_at z n.val e.val _ _ _ j hv)

end Cert.Attn

end
-- ==== Proof.Attn.Equation.lean ====
module

public import proofs.«01_k».proof.Proof.Gen.KernelAttnFwd.Frame
public import proofs.«01_k».proof.Proof.Gen.Pre_finite_attn
public import proofs.«01_k».proof.Proof.Attn.Point
public import proofs.«01_k».proof.Proof.Attn.Reference
public import proofs.«01_k».proof.Defs
public import Idealize.ShloMosaic.Lib.ReduceAll

@[expose] public section

set_option maxRecDepth 16384

/-! The claims of banded attention. -/

noncomputable section

namespace Cert.Attn

open Idealize.ShloMosaic Idealize.ShloMosaic.TcCoe Idealize.SL.Sem

theorem infinity : Ideal.ofBits .f32 0x7F800000#32 = ⊤ := by
  simp [Ideal.ofBits, Ideal.ieee]

/-- A value below infinity in magnitude is real. -/
theorem isReal_of_lt (x : EReal) (h : Ideal.cmp .olt (max x (-x)) (Ideal.ofBits .f32 0x7F800000#32) = 1#1) : IsReal x := by
  rw [infinity] at h
  have hx : max x (-x) < ⊤ := by
    by_contra hn
    simp only [Ideal.cmp, hn, decide_false] at h
    exact absurd h (by decide)
  have h1 : x ≠ ⊤ := ne_of_lt (lt_of_le_of_lt (le_max_left _ _) hx)
  have h2 : x ≠ ⊥ := fun e => by
    subst e
    exact absurd hx (by simp)
  exact ⟨x.toReal, (EReal.coe_toReal h1 h2).symm⟩

open Cert.Pre_finite_attn in
open Cert.Pre_finite_attn.Facts in
theorem isReal_args (z : FVec Ideal Cert.KernelAttnFwdIdeal.S8192x3072 .bf16) (b : FVec Ideal Cert.KernelAttnFwdIdeal.S16x256x768 .f32)
    (h : Cert.Pre_finite_attn.fn (F := Ideal) z b = fun _ => 1#1) : (∀ i, IsReal (z i)) ∧ ∀ i, IsReal (b i) := by
  have h0 := congrFun h (fun a => a.elim0)
  obtain ⟨hz, hb⟩ := IntOp.andi_eq_one.1 h0
  haveI : Subsingleton Cert.Pre_finite_attn.S_.Idx := ⟨fun a b => funext fun k => k.elim0⟩
  exact ⟨fun i => isReal_of_lt _ (Host.reduce_andi_all _ _ _ _ _ hz i), fun i => isReal_of_lt _ (Host.reduce_andi_all _ _ _ _ _ hb i)⟩

theorem frameK : Cert.quiescent_KernelAttnFwd := fun m ρ _ => Cert.KernelAttnFwd.Gen.frame m ρ

theorem frameKI : Cert.quiescent_KernelAttnFwdIdeal := fun m ρ _ => Cert.KernelAttnFwdIdeal.Gen.frame m ρ

theorem frameRI : Cert.quiescent_ReferenceAttnFwdIdeal := fun m ρ _ =>
  (θ_run _ _ _).mono
    (fun r h => ⟨fun c => (h c).2, sem_eq_zero_of_no_sems (by decide) r.2⟩) (Cert.ReferenceAttnFwdIdeal.Value.run m ρ)

theorem frameKI_finite : Cert.quiescent_KernelAttnFwdIdeal_pre_finite_attn := fun m ρ _ => Cert.KernelAttnFwdIdeal.Gen.frame m ρ

theorem frameRI_finite : Cert.quiescent_ReferenceAttnFwdIdeal_pre_finite_attn := fun m ρ _ =>
  (θ_run _ _ _).mono
    (fun r h => ⟨fun c => (h c).2, sem_eq_zero_of_no_sems (by decide) r.2⟩) (Cert.ReferenceAttnFwdIdeal.Value.run m ρ)

theorem preserves : Cert.preserves_KernelAttnFwd_KernelAttnFwdIdeal :=
  IdealRules.named_const.statement Cert.KernelAttnFwdIdeal.κ "mask" .f32 0xF149F2CA#32 ⊥ rfl

theorem outR_attn (z : FVec Ideal Cert.KernelAttnFwdIdeal.S8192x3072 .bf16) (b : FVec Ideal Cert.KernelAttnFwdIdeal.S16x256x768 .f32)
    (h : Cert.Pre_finite_attn.fn (F := Ideal) z b = fun _ => 1#1) :
    (fun y : Cert.KernelAttnFwdIdeal.S8192x1024.Idx => attn z b (y 0).val (y 1).val) = outR z b := by
  obtain ⟨hz, hb⟩ := isReal_args z b h
  funext y
  idx_vars y
  exact (outR_apply z b hz hb y0 y1).symm

theorem algebraic : Cert.algebraic_KernelAttnFwdIdeal_ReferenceAttnFwdIdeal_pre_finite_attn := by
  intro m g m' g' hpre hagree
  refine ⟨_, (θ_run _ _ _).mono (fun r k c => ?_) (Cert.KernelAttnFwdIdeal.Value.run_blocks m g),
    Cert.ReferenceAttnFwdIdeal.Value.run m' g'⟩
  refine ⟨(k c).1.trans ?_, (k c).2⟩
  obtain ⟨h0, h1⟩ := hagree c
  refine (array8 m c).trans ((outR_attn (zK m c) (bK m c) (hpre c)).trans ?_)
  unfold Cert.ReferenceAttnFwdIdeal.Value.res_main_v50
  rw [h0, h1]
  exact rfl

end Cert.Attn

end
-- ==== Proof.Small.Step.lean ====
module

public import Idealize.ShloMosaic.Lib.IdealHost
public import Idealize.ShloMosaic.Lib.Pipeline.ValueKit
public import proofs.«01_k».proof.Proof.Adam.Update

@[expose] public section

/-! The step of the optimiser on whole arrays of one shape, and its value at an entry. -/

noncomputable section

namespace Cert.Small

open Idealize.ShloMosaic

section
variable {F : FTy → Type} [FloatOps F] {S : Shape}

/-- Eight arrays added one after the other. -/
def sum8 (a b c d e f g h : FVec F S .f32) : FVec F S .f32 :=
  addf (addf (addf (addf (addf (addf (addf a b) c) d) e) f) g) h

/-- The first moments after the step. -/
def newM (g m : FVec F S .f32) : FVec F S .f32 :=
  addf (mulf (broadcast S (Scalar.ofBits .f32 0x3F666666#32)) m) (mulf (broadcast S (Scalar.ofBits .f32 0x3DCCCCCD#32)) g)

/-- The second moments after the step. -/
def newV (g v : FVec F S .f32) : FVec F S .f32 :=
  addf (mulf (broadcast S (Scalar.ofBits .f32 0x3F7FBE77#32)) v) (mulf (broadcast S (Scalar.ofBits .f32 0x3A83126F#32)) (mulf g g))

/-- The changes of the weights. -/
def delta (g w m v : FVec F S .f32) : FVec F S .f32 :=
  mulf (broadcast S (Scalar.ofBits .f32 0xBA83126F#32))
    (addf (divf (divf (newM g m) (broadcast S (Scalar.ofBits .f32 0x3F26BD02#32)))
        (addf (sqrt (divf (newV g v) (broadcast S (Scalar.ofBits .f32 0x3C231ACC#32)))) (broadcast S (Scalar.ofBits .f32 0x322BCC77#32))))
      (mulf (broadcast S (Scalar.ofBits .f32 0x3C23D70A#32)) w))
end

section
variable {S : Shape}

theorem newM_apply (g m : FVec Ideal S .f32) (y : S.Idx) : newM g m y = Adam.newM (g y) (m y) := rfl

theorem newV_apply (g v : FVec Ideal S .f32) (y : S.Idx) : newV g v y = Adam.newV (g y) (v y) := rfl

theorem delta_apply (g w m v : FVec Ideal S .f32) (y : S.Idx) : delta g w m v y = Adam.delta (g y) (w y) (m y) (v y) := rfl

theorem sum8_apply (a : Fin 8 → FVec Ideal S .f32) (y : S.Idx) :
    sum8 (a 0) (a 1) (a 2) (a 3) (a 4) (a 5) (a 6) (a 7) y = Adam.sumDevices fun p => a p y := rfl
end

end Cert.Small

end
end
-- ==== Proof.Small.IdealizedBody.lean ====
module

public import proofs.«01_k».proof.Proof.Gen.KernelAdamSmallIdeal.Launch
public import proofs.«01_k».proof.Proof.Gen.KernelAdamSmallIdeal.Skeleton
public import proofs.«01_k».proof.Proof.Gen.KernelAdamSmallIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.Small.Step

@[expose] public section

set_option maxRecDepth 16384

/-! The body of the optimiser on the small parameters: what it leaves in every output, from the blocks it reads. -/

noncomputable section

namespace Cert.Small.Idealized

open Cert.KernelAdamSmallIdeal Cert.KernelAdamSmallIdeal.Gen Cert.Small
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole of an array of shape 4x1024. -/
abbrev full_4x1024 : Rect S4x1024 := Rect.unit (s := S4x1024) ![0, 0] S4x1024.size inb_S4x1024_S4x1024_0_0

/-- The eight devices' arrays of shape 4x1024, added. -/
def total_4x1024 (x : Vec F S8x4x1024 .f32) : FVec F S4x1024 .f32 := sum8
  (shapeCast S4x1024 (View.ld x (Rect.unit (s := S8x4x1024) ![0, 0, 0] S1x4x1024.size inb_S8x4x1024_S1x4x1024_0_0_0)) shapeCasts_S1x4x1024_S4x1024)
  (shapeCast S4x1024 (View.ld x (Rect.unit (s := S8x4x1024) ![1, 0, 0] S1x4x1024.size inb_S8x4x1024_S1x4x1024_1_0_0)) shapeCasts_S1x4x1024_S4x1024)
  (shapeCast S4x1024 (View.ld x (Rect.unit (s := S8x4x1024) ![2, 0, 0] S1x4x1024.size inb_S8x4x1024_S1x4x1024_2_0_0)) shapeCasts_S1x4x1024_S4x1024)
  (shapeCast S4x1024 (View.ld x (Rect.unit (s := S8x4x1024) ![3, 0, 0] S1x4x1024.size inb_S8x4x1024_S1x4x1024_3_0_0)) shapeCasts_S1x4x1024_S4x1024)
  (shapeCast S4x1024 (View.ld x (Rect.unit (s := S8x4x1024) ![4, 0, 0] S1x4x1024.size inb_S8x4x1024_S1x4x1024_4_0_0)) shapeCasts_S1x4x1024_S4x1024)
  (shapeCast S4x1024 (View.ld x (Rect.unit (s := S8x4x1024) ![5, 0, 0] S1x4x1024.size inb_S8x4x1024_S1x4x1024_5_0_0)) shapeCasts_S1x4x1024_S4x1024)
  (shapeCast S4x1024 (View.ld x (Rect.unit (s := S8x4x1024) ![6, 0, 0] S1x4x1024.size inb_S8x4x1024_S1x4x1024_6_0_0)) shapeCasts_S1x4x1024_S4x1024)
  (shapeCast S4x1024 (View.ld x (Rect.unit (s := S8x4x1024) ![7, 0, 0] S1x4x1024.size inb_S8x4x1024_S1x4x1024_7_0_0)) shapeCasts_S1x4x1024_S4x1024)

/-- What a store of the whole array leaves. -/
def left_4x1024 (p : FVec F S4x1024 .f32) : Vec F S4x1024 .f32 := View.canon [⟨full_4x1024, p⟩]

theorem cover_4x1024 (p : Vec F S4x1024 .f32) (y : S4x1024.Idx) :
    ∃ pc ∈ ([⟨full_4x1024, p⟩] : List (View.Piece (Elt F) S4x1024 .f32)), y ∈ pc.1.set :=
  View.cover_of_tiled [⟨full_4x1024, p⟩] S4x1024.size (by rfl) y

/-- The whole of an array of shape 2x512. -/
abbrev full_2x512 : Rect S2x512 := Rect.unit (s := S2x512) ![0, 0] S2x512.size inb_S2x512_S2x512_0_0

/-- The eight devices' arrays of shape 2x512, added. -/
def total_2x512 (x : Vec F S8x2x512 .f32) : FVec F S2x512 .f32 := sum8
  (shapeCast S2x512 (View.ld x (Rect.unit (s := S8x2x512) ![0, 0, 0] S1x2x512.size inb_S8x2x512_S1x2x512_0_0_0)) shapeCasts_S1x2x512_S2x512)
  (shapeCast S2x512 (View.ld x (Rect.unit (s := S8x2x512) ![1, 0, 0] S1x2x512.size inb_S8x2x512_S1x2x512_1_0_0)) shapeCasts_S1x2x512_S2x512)
  (shapeCast S2x512 (View.ld x (Rect.unit (s := S8x2x512) ![2, 0, 0] S1x2x512.size inb_S8x2x512_S1x2x512_2_0_0)) shapeCasts_S1x2x512_S2x512)
  (shapeCast S2x512 (View.ld x (Rect.unit (s := S8x2x512) ![3, 0, 0] S1x2x512.size inb_S8x2x512_S1x2x512_3_0_0)) shapeCasts_S1x2x512_S2x512)
  (shapeCast S2x512 (View.ld x (Rect.unit (s := S8x2x512) ![4, 0, 0] S1x2x512.size inb_S8x2x512_S1x2x512_4_0_0)) shapeCasts_S1x2x512_S2x512)
  (shapeCast S2x512 (View.ld x (Rect.unit (s := S8x2x512) ![5, 0, 0] S1x2x512.size inb_S8x2x512_S1x2x512_5_0_0)) shapeCasts_S1x2x512_S2x512)
  (shapeCast S2x512 (View.ld x (Rect.unit (s := S8x2x512) ![6, 0, 0] S1x2x512.size inb_S8x2x512_S1x2x512_6_0_0)) shapeCasts_S1x2x512_S2x512)
  (shapeCast S2x512 (View.ld x (Rect.unit (s := S8x2x512) ![7, 0, 0] S1x2x512.size inb_S8x2x512_S1x2x512_7_0_0)) shapeCasts_S1x2x512_S2x512)

/-- What a store of the whole array leaves. -/
def left_2x512 (p : FVec F S2x512 .f32) : Vec F S2x512 .f32 := View.canon [⟨full_2x512, p⟩]

theorem cover_2x512 (p : Vec F S2x512 .f32) (y : S2x512.Idx) :
    ∃ pc ∈ ([⟨full_2x512, p⟩] : List (View.Piece (Elt F) S2x512 .f32)), y ∈ pc.1.set :=
  View.cover_of_tiled [⟨full_2x512, p⟩] S2x512.size (by rfl) y

/-- The whole of an array of shape 2x4x128x128. -/
abbrev full_2x4x128x128 : Rect S2x4x128x128 := Rect.unit (s := S2x4x128x128) ![0, 0, 0, 0] S2x4x128x128.size inb_S2x4x128x128_S2x4x128x128_0_0_0_0

/-- The eight devices' arrays of shape 2x4x128x128, added. -/
def total_2x4x128x128 (x : Vec F S8x2x4x128x128 .bf16) : FVec F S2x4x128x128 .f32 := sum8
  (extf .f32 (shapeCast S2x4x128x128 (View.ld x (Rect.unit (s := S8x2x4x128x128) ![0, 0, 0, 0, 0] S1x2x4x128x128.size inb_S8x2x4x128x128_S1x2x4x128x128_0_0_0_0_0)) shapeCasts_S1x2x4x128x128_S2x4x128x128) bitsLt_bf16_f32)
  (extf .f32 (shapeCast S2x4x128x128 (View.ld x (Rect.unit (s := S8x2x4x128x128) ![1, 0, 0, 0, 0] S1x2x4x128x128.size inb_S8x2x4x128x128_S1x2x4x128x128_1_0_0_0_0)) shapeCasts_S1x2x4x128x128_S2x4x128x128) bitsLt_bf16_f32)
  (extf .f32 (shapeCast S2x4x128x128 (View.ld x (Rect.unit (s := S8x2x4x128x128) ![2, 0, 0, 0, 0] S1x2x4x128x128.size inb_S8x2x4x128x128_S1x2x4x128x128_2_0_0_0_0)) shapeCasts_S1x2x4x128x128_S2x4x128x128) bitsLt_bf16_f32)
  (extf .f32 (shapeCast S2x4x128x128 (View.ld x (Rect.unit (s := S8x2x4x128x128) ![3, 0, 0, 0, 0] S1x2x4x128x128.size inb_S8x2x4x128x128_S1x2x4x128x128_3_0_0_0_0)) shapeCasts_S1x2x4x128x128_S2x4x128x128) bitsLt_bf16_f32)
  (extf .f32 (shapeCast S2x4x128x128 (View.ld x (Rect.unit (s := S8x2x4x128x128) ![4, 0, 0, 0, 0] S1x2x4x128x128.size inb_S8x2x4x128x128_S1x2x4x128x128_4_0_0_0_0)) shapeCasts_S1x2x4x128x128_S2x4x128x128) bitsLt_bf16_f32)
  (extf .f32 (shapeCast S2x4x128x128 (View.ld x (Rect.unit (s := S8x2x4x128x128) ![5, 0, 0, 0, 0] S1x2x4x128x128.size inb_S8x2x4x128x128_S1x2x4x128x128_5_0_0_0_0)) shapeCasts_S1x2x4x128x128_S2x4x128x128) bitsLt_bf16_f32)
  (extf .f32 (shapeCast S2x4x128x128 (View.ld x (Rect.unit (s := S8x2x4x128x128) ![6, 0, 0, 0, 0] S1x2x4x128x128.size inb_S8x2x4x128x128_S1x2x4x128x128_6_0_0_0_0)) shapeCasts_S1x2x4x128x128_S2x4x128x128) bitsLt_bf16_f32)
  (extf .f32 (shapeCast S2x4x128x128 (View.ld x (Rect.unit (s := S8x2x4x128x128) ![7, 0, 0, 0, 0] S1x2x4x128x128.size inb_S8x2x4x128x128_S1x2x4x128x128_7_0_0_0_0)) shapeCasts_S1x2x4x128x128_S2x4x128x128) bitsLt_bf16_f32)

/-- What a store of the whole array leaves. -/
def left_2x4x128x128 (p : FVec F S2x4x128x128 .f32) : Vec F S2x4x128x128 .f32 := View.canon [⟨full_2x4x128x128, p⟩]

theorem cover_2x4x128x128 (p : Vec F S2x4x128x128 .f32) (y : S2x4x128x128.Idx) :
    ∃ pc ∈ ([⟨full_2x4x128x128, p⟩] : List (View.Piece (Elt F) S2x4x128x128 .f32)), y ∈ pc.1.set :=
  View.cover_of_tiled [⟨full_2x4x128x128, p⟩] S2x4x128x128.size (by rfl) y

/-- The whole of an array of shape 2x16x257. -/
abbrev full_2x16x257 : Rect S2x16x257 := Rect.unit (s := S2x16x257) ![0, 0, 0] S2x16x257.size inb_S2x16x257_S2x16x257_0_0_0

/-- The eight devices' arrays of shape 2x16x257, added. -/
def total_2x16x257 (x : Vec F S8x2x16x257 .f32) : FVec F S2x16x257 .f32 := sum8
  (shapeCast S2x16x257 (View.ld x (Rect.unit (s := S8x2x16x257) ![0, 0, 0, 0] S1x2x16x257.size inb_S8x2x16x257_S1x2x16x257_0_0_0_0)) shapeCasts_S1x2x16x257_S2x16x257)
  (shapeCast S2x16x257 (View.ld x (Rect.unit (s := S8x2x16x257) ![1, 0, 0, 0] S1x2x16x257.size inb_S8x2x16x257_S1x2x16x257_1_0_0_0)) shapeCasts_S1x2x16x257_S2x16x257)
  (shapeCast S2x16x257 (View.ld x (Rect.unit (s := S8x2x16x257) ![2, 0, 0, 0] S1x2x16x257.size inb_S8x2x16x257_S1x2x16x257_2_0_0_0)) shapeCasts_S1x2x16x257_S2x16x257)
  (shapeCast S2x16x257 (View.ld x (Rect.unit (s := S8x2x16x257) ![3, 0, 0, 0] S1x2x16x257.size inb_S8x2x16x257_S1x2x16x257_3_0_0_0)) shapeCasts_S1x2x16x257_S2x16x257)
  (shapeCast S2x16x257 (View.ld x (Rect.unit (s := S8x2x16x257) ![4, 0, 0, 0] S1x2x16x257.size inb_S8x2x16x257_S1x2x16x257_4_0_0_0)) shapeCasts_S1x2x16x257_S2x16x257)
  (shapeCast S2x16x257 (View.ld x (Rect.unit (s := S8x2x16x257) ![5, 0, 0, 0] S1x2x16x257.size inb_S8x2x16x257_S1x2x16x257_5_0_0_0)) shapeCasts_S1x2x16x257_S2x16x257)
  (shapeCast S2x16x257 (View.ld x (Rect.unit (s := S8x2x16x257) ![6, 0, 0, 0] S1x2x16x257.size inb_S8x2x16x257_S1x2x16x257_6_0_0_0)) shapeCasts_S1x2x16x257_S2x16x257)
  (shapeCast S2x16x257 (View.ld x (Rect.unit (s := S8x2x16x257) ![7, 0, 0, 0] S1x2x16x257.size inb_S8x2x16x257_S1x2x16x257_7_0_0_0)) shapeCasts_S1x2x16x257_S2x16x257)

/-- What a store of the whole array leaves. -/
def left_2x16x257 (p : FVec F S2x16x257 .f32) : Vec F S2x16x257 .f32 := View.canon [⟨full_2x16x257, p⟩]

theorem cover_2x16x257 (p : Vec F S2x16x257 .f32) (y : S2x16x257.Idx) :
    ∃ pc ∈ ([⟨full_2x16x257, p⟩] : List (View.Piece (Elt F) S2x16x257 .f32)), y ∈ pc.1.set :=
  View.cover_of_tiled [⟨full_2x16x257, p⟩] S2x16x257.size (by rfl) y

/-- The whole of an array of shape 1x1024. -/
abbrev full_1x1024 : Rect S1x1024 := Rect.unit (s := S1x1024) ![0, 0] S1x1024.size inb_S1x1024_S1x1024_0_0

/-- The eight devices' arrays of shape 1x1024, added. -/
def total_1x1024 (x : Vec F S8x1x1024 .f32) : FVec F S1x1024 .f32 := sum8
  (shapeCast S1x1024 (View.ld x (Rect.unit (s := S8x1x1024) ![0, 0, 0] S1x1x1024.size inb_S8x1x1024_S1x1x1024_0_0_0)) shapeCasts_S1x1x1024_S1x1024)
  (shapeCast S1x1024 (View.ld x (Rect.unit (s := S8x1x1024) ![1, 0, 0] S1x1x1024.size inb_S8x1x1024_S1x1x1024_1_0_0)) shapeCasts_S1x1x1024_S1x1024)
  (shapeCast S1x1024 (View.ld x (Rect.unit (s := S8x1x1024) ![2, 0, 0] S1x1x1024.size inb_S8x1x1024_S1x1x1024_2_0_0)) shapeCasts_S1x1x1024_S1x1024)
  (shapeCast S1x1024 (View.ld x (Rect.unit (s := S8x1x1024) ![3, 0, 0] S1x1x1024.size inb_S8x1x1024_S1x1x1024_3_0_0)) shapeCasts_S1x1x1024_S1x1024)
  (shapeCast S1x1024 (View.ld x (Rect.unit (s := S8x1x1024) ![4, 0, 0] S1x1x1024.size inb_S8x1x1024_S1x1x1024_4_0_0)) shapeCasts_S1x1x1024_S1x1024)
  (shapeCast S1x1024 (View.ld x (Rect.unit (s := S8x1x1024) ![5, 0, 0] S1x1x1024.size inb_S8x1x1024_S1x1x1024_5_0_0)) shapeCasts_S1x1x1024_S1x1024)
  (shapeCast S1x1024 (View.ld x (Rect.unit (s := S8x1x1024) ![6, 0, 0] S1x1x1024.size inb_S8x1x1024_S1x1x1024_6_0_0)) shapeCasts_S1x1x1024_S1x1024)
  (shapeCast S1x1024 (View.ld x (Rect.unit (s := S8x1x1024) ![7, 0, 0] S1x1x1024.size inb_S8x1x1024_S1x1x1024_7_0_0)) shapeCasts_S1x1x1024_S1x1024)

/-- What a store of the whole array leaves. -/
def left_1x1024 (p : FVec F S1x1024 .f32) : Vec F S1x1024 .f32 := View.canon [⟨full_1x1024, p⟩]

theorem cover_1x1024 (p : Vec F S1x1024 .f32) (y : S1x1024.Idx) :
    ∃ pc ∈ ([⟨full_1x1024, p⟩] : List (View.Piece (Elt F) S1x1024 .f32)), y ∈ pc.1.set :=
  View.cover_of_tiled [⟨full_1x1024, p⟩] S1x1024.size (by rfl) y

/-- The whole of an array of shape 8x128. -/
abbrev full_8x128 : Rect S8x128 := Rect.unit (s := S8x128) ![0, 0] S8x128.size inb_S8x128_S8x128_0_0

/-- The eight devices' arrays of shape 8x128, added. -/
def total_8x128 (x : Vec F S8x8x128 .f32) : FVec F S8x128 .f32 := sum8
  (shapeCast S8x128 (View.ld x (Rect.unit (s := S8x8x128) ![0, 0, 0] S1x8x128.size inb_S8x8x128_S1x8x128_0_0_0)) shapeCasts_S1x8x128_S8x128)
  (shapeCast S8x128 (View.ld x (Rect.unit (s := S8x8x128) ![1, 0, 0] S1x8x128.size inb_S8x8x128_S1x8x128_1_0_0)) shapeCasts_S1x8x128_S8x128)
  (shapeCast S8x128 (View.ld x (Rect.unit (s := S8x8x128) ![2, 0, 0] S1x8x128.size inb_S8x8x128_S1x8x128_2_0_0)) shapeCasts_S1x8x128_S8x128)
  (shapeCast S8x128 (View.ld x (Rect.unit (s := S8x8x128) ![3, 0, 0] S1x8x128.size inb_S8x8x128_S1x8x128_3_0_0)) shapeCasts_S1x8x128_S8x128)
  (shapeCast S8x128 (View.ld x (Rect.unit (s := S8x8x128) ![4, 0, 0] S1x8x128.size inb_S8x8x128_S1x8x128_4_0_0)) shapeCasts_S1x8x128_S8x128)
  (shapeCast S8x128 (View.ld x (Rect.unit (s := S8x8x128) ![5, 0, 0] S1x8x128.size inb_S8x8x128_S1x8x128_5_0_0)) shapeCasts_S1x8x128_S8x128)
  (shapeCast S8x128 (View.ld x (Rect.unit (s := S8x8x128) ![6, 0, 0] S1x8x128.size inb_S8x8x128_S1x8x128_6_0_0)) shapeCasts_S1x8x128_S8x128)
  (shapeCast S8x128 (View.ld x (Rect.unit (s := S8x8x128) ![7, 0, 0] S1x8x128.size inb_S8x8x128_S1x8x128_7_0_0)) shapeCasts_S1x8x128_S8x128)

/-- What a store of the whole array leaves. -/
def left_8x128 (p : FVec F S8x128 .f32) : Vec F S8x128 .f32 := View.canon [⟨full_8x128, p⟩]

theorem cover_8x128 (p : Vec F S8x128 .f32) (y : S8x128.Idx) :
    ∃ pc ∈ ([⟨full_8x128, p⟩] : List (View.Piece (Elt F) S8x128 .f32)), y ∈ pc.1.set :=
  View.cover_of_tiled [⟨full_8x128, p⟩] S8x128.size (by rfl) y

set_option maxHeartbeats 2000000 in
/-- The body reads its inputs, leaves them as they are, and leaves in every output the step's array. -/
theorem body_leaves (c : Dev nD) (E : Set ℕ) (arg0 : Memref sig .tc .vmem S8x4x1024 .f32) (harg0 : arg0.IsWhole) (arg1 : Memref sig .tc .vmem S8x4x1024 .f32) (harg1 : arg1.IsWhole) (arg2 : Memref sig .tc .vmem S8x2x512 .f32) (harg2 : arg2.IsWhole) (arg3 : Memref sig .tc .vmem S8x2x4x128x128 .bf16) (harg3 : arg3.IsWhole) (arg4 : Memref sig .tc .vmem S8x2x512 .f32) (harg4 : arg4.IsWhole) (arg5 : Memref sig .tc .vmem S8x2x16x257 .f32) (harg5 : arg5.IsWhole) (arg6 : Memref sig .tc .vmem S8x1x1024 .f32) (harg6 : arg6.IsWhole) (arg7 : Memref sig .tc .vmem S8x8x128 .f32) (harg7 : arg7.IsWhole) (arg8 : Memref sig .tc .vmem S4x1024 .f32) (harg8 : arg8.IsWhole) (arg9 : Memref sig .tc .vmem S4x1024 .f32) (harg9 : arg9.IsWhole) (arg10 : Memref sig .tc .vmem S2x512 .f32) (harg10 : arg10.IsWhole) (arg11 : Memref sig .tc .vmem S2x4x128x128 .f32) (harg11 : arg11.IsWhole) (arg12 : Memref sig .tc .vmem S2x512 .f32) (harg12 : arg12.IsWhole) (arg13 : Memref sig .tc .vmem S2x16x257 .f32) (harg13 : arg13.IsWhole) (arg14 : Memref sig .tc .vmem S1x1024 .f32) (harg14 : arg14.IsWhole) (arg15 : Memref sig .tc .vmem S4x1024 .f32) (harg15 : arg15.IsWhole) (arg16 : Memref sig .tc .vmem S4x1024 .f32) (harg16 : arg16.IsWhole) (arg17 : Memref sig .tc .vmem S2x512 .f32) (harg17 : arg17.IsWhole) (arg18 : Memref sig .tc .vmem S2x4x128x128 .f32) (harg18 : arg18.IsWhole) (arg19 : Memref sig .tc .vmem S2x512 .f32) (harg19 : arg19.IsWhole) (arg20 : Memref sig .tc .vmem S2x16x257 .f32) (harg20 : arg20.IsWhole) (arg21 : Memref sig .tc .vmem S1x1024 .f32) (harg21 : arg21.IsWhole) (arg22 : Memref sig .tc .vmem S4x1024 .f32) (harg22 : arg22.IsWhole) (arg23 : Memref sig .tc .vmem S4x1024 .f32) (harg23 : arg23.IsWhole) (arg24 : Memref sig .tc .vmem S2x512 .f32) (harg24 : arg24.IsWhole) (arg25 : Memref sig .tc .vmem S2x4x128x128 .f32) (harg25 : arg25.IsWhole) (arg26 : Memref sig .tc .vmem S2x512 .f32) (harg26 : arg26.IsWhole) (arg27 : Memref sig .tc .vmem S2x16x257 .f32) (harg27 : arg27.IsWhole) (arg28 : Memref sig .tc .vmem S1x1024 .f32) (harg28 : arg28.IsWhole) (arg29 : Memref sig .tc .vmem S4x1024 .f32) (harg29 : arg29.IsWhole) (arg30 : Memref sig .tc .vmem S4x1024 .f32) (harg30 : arg30.IsWhole) (arg31 : Memref sig .tc .vmem S4x1024 .f32) (harg31 : arg31.IsWhole) (arg32 : Memref sig .tc .vmem S4x1024 .f32) (harg32 : arg32.IsWhole) (arg33 : Memref sig .tc .vmem S4x1024 .f32) (harg33 : arg33.IsWhole) (arg34 : Memref sig .tc .vmem S4x1024 .f32) (harg34 : arg34.IsWhole) (arg35 : Memref sig .tc .vmem S4x1024 .f32) (harg35 : arg35.IsWhole) (arg36 : Memref sig .tc .vmem S4x1024 .f32) (harg36 : arg36.IsWhole) (arg37 : Memref sig .tc .vmem S2x512 .f32) (harg37 : arg37.IsWhole) (arg38 : Memref sig .tc .vmem S2x512 .f32) (harg38 : arg38.IsWhole) (arg39 : Memref sig .tc .vmem S2x512 .f32) (harg39 : arg39.IsWhole) (arg40 : Memref sig .tc .vmem S2x512 .f32) (harg40 : arg40.IsWhole) (arg41 : Memref sig .tc .vmem S2x4x128x128 .f32) (harg41 : arg41.IsWhole) (arg42 : Memref sig .tc .vmem S2x4x128x128 .f32) (harg42 : arg42.IsWhole) (arg43 : Memref sig .tc .vmem S2x4x128x128 .f32) (harg43 : arg43.IsWhole) (arg44 : Memref sig .tc .vmem S2x4x128x128 .f32) (harg44 : arg44.IsWhole) (arg45 : Memref sig .tc .vmem S2x512 .f32) (harg45 : arg45.IsWhole) (arg46 : Memref sig .tc .vmem S2x512 .f32) (harg46 : arg46.IsWhole) (arg47 : Memref sig .tc .vmem S2x512 .f32) (harg47 : arg47.IsWhole) (arg48 : Memref sig .tc .vmem S2x512 .f32) (harg48 : arg48.IsWhole) (arg49 : Memref sig .tc .vmem S2x16x257 .f32) (harg49 : arg49.IsWhole) (arg50 : Memref sig .tc .vmem S2x16x257 .f32) (harg50 : arg50.IsWhole) (arg51 : Memref sig .tc .vmem S2x16x257 .f32) (harg51 : arg51.IsWhole) (arg52 : Memref sig .tc .vmem S2x16x257 .f32) (harg52 : arg52.IsWhole) (arg53 : Memref sig .tc .vmem S1x1024 .f32) (harg53 : arg53.IsWhole) (arg54 : Memref sig .tc .vmem S1x1024 .f32) (harg54 : arg54.IsWhole) (arg55 : Memref sig .tc .vmem S1x1024 .f32) (harg55 : arg55.IsWhole) (arg56 : Memref sig .tc .vmem S1x1024 .f32) (harg56 : arg56.IsWhole) (arg57 : Memref sig .tc .vmem S8x128 .f32) (harg57 : arg57.IsWhole)
    (x0 : Vec F S8x4x1024 .f32) (x1 : Vec F S8x4x1024 .f32) (x2 : Vec F S8x2x512 .f32) (x3 : Vec F S8x2x4x128x128 .bf16) (x4 : Vec F S8x2x512 .f32) (x5 : Vec F S8x2x16x257 .f32) (x6 : Vec F S8x1x1024 .f32) (x7 : Vec F S8x8x128 .f32) (x8 : Vec F S4x1024 .f32) (x9 : Vec F S4x1024 .f32) (x10 : Vec F S2x512 .f32) (x11 : Vec F S2x4x128x128 .f32) (x12 : Vec F S2x512 .f32) (x13 : Vec F S2x16x257 .f32) (x14 : Vec F S1x1024 .f32) (x15 : Vec F S4x1024 .f32) (x16 : Vec F S4x1024 .f32) (x17 : Vec F S2x512 .f32) (x18 : Vec F S2x4x128x128 .f32) (x19 : Vec F S2x512 .f32) (x20 : Vec F S2x16x257 .f32) (x21 : Vec F S1x1024 .f32) (x22 : Vec F S4x1024 .f32) (x23 : Vec F S4x1024 .f32) (x24 : Vec F S2x512 .f32) (x25 : Vec F S2x4x128x128 .f32) (x26 : Vec F S2x512 .f32) (x27 : Vec F S2x16x257 .f32) (x28 : Vec F S1x1024 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare (left_4x1024 (total_4x1024 x0)) ∗ owns (c : Thread nD τ) arg30 fullShare (left_4x1024 (delta (total_4x1024 x0) (View.ld x8 full_4x1024) (View.ld x15 full_4x1024) (View.ld x22 full_4x1024))) ∗ owns (c : Thread nD τ) arg31 fullShare (left_4x1024 (newM (total_4x1024 x0) (View.ld x15 full_4x1024))) ∗ owns (c : Thread nD τ) arg32 fullShare (left_4x1024 (newV (total_4x1024 x0) (View.ld x22 full_4x1024))) ∗ owns (c : Thread nD τ) arg33 fullShare (left_4x1024 (total_4x1024 x1)) ∗ owns (c : Thread nD τ) arg34 fullShare (left_4x1024 (delta (total_4x1024 x1) (View.ld x9 full_4x1024) (View.ld x16 full_4x1024) (View.ld x23 full_4x1024))) ∗ owns (c : Thread nD τ) arg35 fullShare (left_4x1024 (newM (total_4x1024 x1) (View.ld x16 full_4x1024))) ∗ owns (c : Thread nD τ) arg36 fullShare (left_4x1024 (newV (total_4x1024 x1) (View.ld x23 full_4x1024))) ∗ owns (c : Thread nD τ) arg37 fullShare (left_2x512 (total_2x512 x2)) ∗ owns (c : Thread nD τ) arg38 fullShare (left_2x512 (delta (total_2x512 x2) (View.ld x10 full_2x512) (View.ld x17 full_2x512) (View.ld x24 full_2x512))) ∗ owns (c : Thread nD τ) arg39 fullShare (left_2x512 (newM (total_2x512 x2) (View.ld x17 full_2x512))) ∗ owns (c : Thread nD τ) arg40 fullShare (left_2x512 (newV (total_2x512 x2) (View.ld x24 full_2x512))) ∗ owns (c : Thread nD τ) arg41 fullShare (left_2x4x128x128 (total_2x4x128x128 x3)) ∗ owns (c : Thread nD τ) arg42 fullShare (left_2x4x128x128 (delta (total_2x4x128x128 x3) (View.ld x11 full_2x4x128x128) (View.ld x18 full_2x4x128x128) (View.ld x25 full_2x4x128x128))) ∗ owns (c : Thread nD τ) arg43 fullShare (left_2x4x128x128 (newM (total_2x4x128x128 x3) (View.ld x18 full_2x4x128x128))) ∗ owns (c : Thread nD τ) arg44 fullShare (left_2x4x128x128 (newV (total_2x4x128x128 x3) (View.ld x25 full_2x4x128x128))) ∗ owns (c : Thread nD τ) arg45 fullShare (left_2x512 (total_2x512 x4)) ∗ owns (c : Thread nD τ) arg46 fullShare (left_2x512 (delta (total_2x512 x4) (View.ld x12 full_2x512) (View.ld x19 full_2x512) (View.ld x26 full_2x512))) ∗ owns (c : Thread nD τ) arg47 fullShare (left_2x512 (newM (total_2x512 x4) (View.ld x19 full_2x512))) ∗ owns (c : Thread nD τ) arg48 fullShare (left_2x512 (newV (total_2x512 x4) (View.ld x26 full_2x512))) ∗ owns (c : Thread nD τ) arg49 fullShare (left_2x16x257 (total_2x16x257 x5)) ∗ owns (c : Thread nD τ) arg50 fullShare (left_2x16x257 (delta (total_2x16x257 x5) (View.ld x13 full_2x16x257) (View.ld x20 full_2x16x257) (View.ld x27 full_2x16x257))) ∗ owns (c : Thread nD τ) arg51 fullShare (left_2x16x257 (newM (total_2x16x257 x5) (View.ld x20 full_2x16x257))) ∗ owns (c : Thread nD τ) arg52 fullShare (left_2x16x257 (newV (total_2x16x257 x5) (View.ld x27 full_2x16x257))) ∗ owns (c : Thread nD τ) arg53 fullShare (left_1x1024 (total_1x1024 x6)) ∗ owns (c : Thread nD τ) arg54 fullShare (left_1x1024 (delta (total_1x1024 x6) (View.ld x14 full_1x1024) (View.ld x21 full_1x1024) (View.ld x28 full_1x1024))) ∗ owns (c : Thread nD τ) arg55 fullShare (left_1x1024 (newM (total_1x1024 x6) (View.ld x21 full_1x1024))) ∗ owns (c : Thread nD τ) arg56 fullShare (left_1x1024 (newV (total_1x1024 x6) (View.ld x28 full_1x1024))) ∗ owns (c : Thread nD τ) arg57 fullShare (left_8x128 (total_8x128 x7))) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57) K := by
  simp only [cc0_adamw_small_eq_skeleton]; unfold cc0_adamw_small_skel
  simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists _; isplitr
    swap; · iexact H29
    ipureintro; exact (View.read_writes_eq_canon _ _ _ (cover_4x1024 _)).trans rfl
  isplitl [H30]
  · iexists _; isplitr
    swap; · iexact H30
    ipureintro; exact (View.read_writes_eq_canon _ _ _ (cover_4x1024 _)).trans rfl
  isplitl [H31]
  · iexists _; isplitr
    swap; · iexact H31
    ipureintro; exact (View.read_writes_eq_canon _ _ _ (cover_4x1024 _)).trans rfl
  isplitl [H32]
  · iexists _; isplitr
    swap; · iexact H32
    ipureintro; exact (View.read_writes_eq_canon _ _ _ (cover_4x1024 _)).trans rfl
  isplitl [H33]
  · iexists _; isplitr
    swap; · iexact H33
    ipureintro; exact (View.read_writes_eq_canon _ _ _ (cover_4x1024 _)).trans rfl
  isplitl [H34]
  · iexists _; isplitr
    swap; · iexact H34
    ipureintro; exact (View.read_writes_eq_canon _ _ _ (cover_4x1024 _)).trans rfl
  isplitl [H35]
  · iexists _; isplitr
    swap; · iexact H35
    ipureintro; exact (View.read_writes_eq_canon _ _ _ (cover_4x1024 _)).trans rfl
  isplitl [H36]
  · iexists _; isplitr
    swap; · iexact H36
    ipureintro; exact (View.read_writes_eq_canon _ _ _ (cover_4x1024 _)).trans rfl
  isplitl [H37]
  · iexists _; isplitr
    swap; · iexact H37
    ipureintro; exact (View.read_writes_eq_canon _ _ _ (cover_2x512 _)).trans rfl
  isplitl [H38]
  · iexists _; isplitr
    swap; · iexact H38
    ipureintro; exact (View.read_writes_eq_canon _ _ _ (cover_2x512 _)).trans rfl
  isplitl [H39]
  · iexists _; isplitr
    swap; · iexact H39
    ipureintro; exact (View.read_writes_eq_canon _ _ _ (cover_2x512 _)).trans rfl
  isplitl [H40]
  · iexists _; isplitr
    swap; · iexact H40
    ipureintro; exact (View.read_writes_eq_canon _ _ _ (cover_2x512 _)).trans rfl
  isplitl [H41]
  · iexists _; isplitr
    swap; · iexact H41
    ipureintro; exact (View.read_writes_eq_canon _ _ _ (cover_2x4x128x128 _)).trans rfl
  isplitl [H42]
  · iexists _; isplitr
    swap; · iexact H42
    ipureintro; exact (View.read_writes_eq_canon _ _ _ (cover_2x4x128x128 _)).trans rfl
  isplitl [H43]
  · iexists _; isplitr
    swap; · iexact H43
    ipureintro; exact (View.read_writes_eq_canon _ _ _ (cover_2x4x128x128 _)).trans rfl
  isplitl [H44]
  · iexists _; isplitr
    swap; · iexact H44
    ipureintro; exact (View.read_writes_eq_canon _ _ _ (cover_2x4x128x128 _)).trans rfl
  isplitl [H45]
  · iexists _; isplitr
    swap; · iexact H45
    ipureintro; exact (View.read_writes_eq_canon _ _ _ (cover_2x512 _)).trans rfl
  isplitl [H46]
  · iexists _; isplitr
    swap; · iexact H46
    ipureintro; exact (View.read_writes_eq_canon _ _ _ (cover_2x512 _)).trans rfl
  isplitl [H47]
  · iexists _; isplitr
    swap; · iexact H47
    ipureintro; exact (View.read_writes_eq_canon _ _ _ (cover_2x512 _)).trans rfl
  isplitl [H48]
  · iexists _; isplitr
    swap; · iexact H48
    ipureintro; exact (View.read_writes_eq_canon _ _ _ (cover_2x512 _)).trans rfl
  isplitl [H49]
  · iexists _; isplitr
    swap; · iexact H49
    ipureintro; exact (View.read_writes_eq_canon _ _ _ (cover_2x16x257 _)).trans rfl
  isplitl [H50]
  · iexists _; isplitr
    swap; · iexact H50
    ipureintro; exact (View.read_writes_eq_canon _ _ _ (cover_2x16x257 _)).trans rfl
  isplitl [H51]
  · iexists _; isplitr
    swap; · iexact H51
    ipureintro; exact (View.read_writes_eq_canon _ _ _ (cover_2x16x257 _)).trans rfl
  isplitl [H52]
  · iexists _; isplitr
    swap; · iexact H52
    ipureintro; exact (View.read_writes_eq_canon _ _ _ (cover_2x16x257 _)).trans rfl
  isplitl [H53]
  · iexists _; isplitr
    swap; · iexact H53
    ipureintro; exact (View.read_writes_eq_canon _ _ _ (cover_1x1024 _)).trans rfl
  isplitl [H54]
  · iexists _; isplitr
    swap; · iexact H54
    ipureintro; exact (View.read_writes_eq_canon _ _ _ (cover_1x1024 _)).trans rfl
  isplitl [H55]
  · iexists _; isplitr
    swap; · iexact H55
    ipureintro; exact (View.read_writes_eq_canon _ _ _ (cover_1x1024 _)).trans rfl
  isplitl [H56]
  · iexists _; isplitr
    swap; · iexact H56
    ipureintro; exact (View.read_writes_eq_canon _ _ _ (cover_1x1024 _)).trans rfl
  iexists _; isplitr
  swap; · iexact H57
  ipureintro; exact (View.read_writes_eq_canon _ _ _ (cover_8x128 _)).trans rfl

end Cert.Small.Idealized

end
end
-- ==== Proof.Small.IdealizedRun.lean ====
module

public import proofs.«01_k».proof.Proof.Small.IdealizedBody

@[expose] public section

set_option maxRecDepth 16384

/-! The run of the optimiser on the small parameters, from the body's triple. -/

noncomputable section

namespace Cert.Small.Idealized

open Cert.KernelAdamSmallIdeal Cert.KernelAdamSmallIdeal.Gen Cert.Small
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The arrays as launched. -/
abbrev V (c : Dev nD) (b : Ref sig .tc) : Buf (Elt F) ((c : Thread nD τ).loc b) := m ((c : Thread nD τ).loc b)

set_option maxHeartbeats 800000 in
theorem main_region (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of a window at a point. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The data of the proof: the inputs stay, the outputs hold the step's arrays. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => blk m c 16 t
    | ⟨17, _⟩ => blk m c 17 t
    | ⟨18, _⟩ => blk m c 18 t
    | ⟨19, _⟩ => blk m c 19 t
    | ⟨20, _⟩ => blk m c 20 t
    | ⟨21, _⟩ => blk m c 21 t
    | ⟨22, _⟩ => blk m c 22 t
    | ⟨23, _⟩ => blk m c 23 t
    | ⟨24, _⟩ => blk m c 24 t
    | ⟨25, _⟩ => blk m c 25 t
    | ⟨26, _⟩ => blk m c 26 t
    | ⟨27, _⟩ => blk m c 27 t
    | ⟨28, _⟩ => blk m c 28 t
    | ⟨29, _⟩ => left_4x1024 (total_4x1024 (blk m c 0 t))
    | ⟨30, _⟩ => left_4x1024 (delta (total_4x1024 (blk m c 0 t)) (View.ld (blk m c 8 t) full_4x1024) (View.ld (blk m c 15 t) full_4x1024) (View.ld (blk m c 22 t) full_4x1024))
    | ⟨31, _⟩ => left_4x1024 (newM (total_4x1024 (blk m c 0 t)) (View.ld (blk m c 15 t) full_4x1024))
    | ⟨32, _⟩ => left_4x1024 (newV (total_4x1024 (blk m c 0 t)) (View.ld (blk m c 22 t) full_4x1024))
    | ⟨33, _⟩ => left_4x1024 (total_4x1024 (blk m c 1 t))
    | ⟨34, _⟩ => left_4x1024 (delta (total_4x1024 (blk m c 1 t)) (View.ld (blk m c 9 t) full_4x1024) (View.ld (blk m c 16 t) full_4x1024) (View.ld (blk m c 23 t) full_4x1024))
    | ⟨35, _⟩ => left_4x1024 (newM (total_4x1024 (blk m c 1 t)) (View.ld (blk m c 16 t) full_4x1024))
    | ⟨36, _⟩ => left_4x1024 (newV (total_4x1024 (blk m c 1 t)) (View.ld (blk m c 23 t) full_4x1024))
    | ⟨37, _⟩ => left_2x512 (total_2x512 (blk m c 2 t))
    | ⟨38, _⟩ => left_2x512 (delta (total_2x512 (blk m c 2 t)) (View.ld (blk m c 10 t) full_2x512) (View.ld (blk m c 17 t) full_2x512) (View.ld (blk m c 24 t) full_2x512))
    | ⟨39, _⟩ => left_2x512 (newM (total_2x512 (blk m c 2 t)) (View.ld (blk m c 17 t) full_2x512))
    | ⟨40, _⟩ => left_2x512 (newV (total_2x512 (blk m c 2 t)) (View.ld (blk m c 24 t) full_2x512))
    | ⟨41, _⟩ => left_2x4x128x128 (total_2x4x128x128 (blk m c 3 t))
    | ⟨42, _⟩ => left_2x4x128x128 (delta (total_2x4x128x128 (blk m c 3 t)) (View.ld (blk m c 11 t) full_2x4x128x128) (View.ld (blk m c 18 t) full_2x4x128x128) (View.ld (blk m c 25 t) full_2x4x128x128))
    | ⟨43, _⟩ => left_2x4x128x128 (newM (total_2x4x128x128 (blk m c 3 t)) (View.ld (blk m c 18 t) full_2x4x128x128))
    | ⟨44, _⟩ => left_2x4x128x128 (newV (total_2x4x128x128 (blk m c 3 t)) (View.ld (blk m c 25 t) full_2x4x128x128))
    | ⟨45, _⟩ => left_2x512 (total_2x512 (blk m c 4 t))
    | ⟨46, _⟩ => left_2x512 (delta (total_2x512 (blk m c 4 t)) (View.ld (blk m c 12 t) full_2x512) (View.ld (blk m c 19 t) full_2x512) (View.ld (blk m c 26 t) full_2x512))
    | ⟨47, _⟩ => left_2x512 (newM (total_2x512 (blk m c 4 t)) (View.ld (blk m c 19 t) full_2x512))
    | ⟨48, _⟩ => left_2x512 (newV (total_2x512 (blk m c 4 t)) (View.ld (blk m c 26 t) full_2x512))
    | ⟨49, _⟩ => left_2x16x257 (total_2x16x257 (blk m c 5 t))
    | ⟨50, _⟩ => left_2x16x257 (delta (total_2x16x257 (blk m c 5 t)) (View.ld (blk m c 13 t) full_2x16x257) (View.ld (blk m c 20 t) full_2x16x257) (View.ld (blk m c 27 t) full_2x16x257))
    | ⟨51, _⟩ => left_2x16x257 (newM (total_2x16x257 (blk m c 5 t)) (View.ld (blk m c 20 t) full_2x16x257))
    | ⟨52, _⟩ => left_2x16x257 (newV (total_2x16x257 (blk m c 5 t)) (View.ld (blk m c 27 t) full_2x16x257))
    | ⟨53, _⟩ => left_1x1024 (total_1x1024 (blk m c 6 t))
    | ⟨54, _⟩ => left_1x1024 (delta (total_1x1024 (blk m c 6 t)) (View.ld (blk m c 14 t) full_1x1024) (View.ld (blk m c 21 t) full_1x1024) (View.ld (blk m c 28 t) full_1x1024))
    | ⟨55, _⟩ => left_1x1024 (newM (total_1x1024 (blk m c 6 t)) (View.ld (blk m c 21 t) full_1x1024))
    | ⟨56, _⟩ => left_1x1024 (newV (total_1x1024 (blk m c 6 t)) (View.ld (blk m c 28 t) full_1x1024))
    | ⟨57, _⟩ => left_8x128 (total_8x128 (blk m c 7 t))
    | ⟨_ + 58, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's block is in place before every point. -/
theorem before_in (c : Dev nD) (w : Fin cfg0.W) (h1 : (cfg0.win w).isOut = false) (h2 : ∀ i, cfg0.idle w i = false)
    (h3 : ∀ t t' : Fin cfg0.N, (cfg0.win w).index t = (cfg0.win w).index t' →
      (cfg0.win w).clip (cfg0.grid.coords t) = (cfg0.win w).clip (cfg0.grid.coords t'))
    (h4 : ∀ t, (cfg0.win w).cut (cfg0.grid.coords t) ((dats m 0 c).after w t) = blk m c w t)
    (t : Fin cfg0.N) (d) : (dats m 0 c).before w t d = (dats m 0 c).fetched w t d :=
  (dats m 0 c).before_in_eq_fetched w h1 h2 h3 (fun t => (h4 t).trans (by unfold Dat.blockOf blk; rw [A_eq])) t d

/-- What the body starts from at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d)))

/-- What it ends with. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t))

theorem in_0 (c : Dev nD) (t : Fin cfg0.N) (d) : (dats m 0 c).before 0 t d = blk m c 0 t :=
  (before_in m c 0 rfl (fun _ => rfl) (fun _ _ _ => rfl) (fun t => by dsimp only [dats]) t d).trans (by unfold Dat.fetched Dat.blockOf blk; rw [A_eq]; try rfl)
theorem in_1 (c : Dev nD) (t : Fin cfg0.N) (d) : (dats m 0 c).before 1 t d = blk m c 1 t :=
  (before_in m c 1 rfl (fun _ => rfl) (fun _ _ _ => rfl) (fun t => by dsimp only [dats]) t d).trans (by unfold Dat.fetched Dat.blockOf blk; rw [A_eq]; try rfl)
theorem in_2 (c : Dev nD) (t : Fin cfg0.N) (d) : (dats m 0 c).before 2 t d = blk m c 2 t :=
  (before_in m c 2 rfl (fun _ => rfl) (fun _ _ _ => rfl) (fun t => by dsimp only [dats]) t d).trans (by unfold Dat.fetched Dat.blockOf blk; rw [A_eq]; try rfl)
theorem in_3 (c : Dev nD) (t : Fin cfg0.N) (d) : (dats m 0 c).before 3 t d = blk m c 3 t :=
  (before_in m c 3 rfl (fun _ => rfl) (fun _ _ _ => rfl) (fun t => by dsimp only [dats]) t d).trans (by unfold Dat.fetched Dat.blockOf blk; rw [A_eq]; try rfl)
theorem in_4 (c : Dev nD) (t : Fin cfg0.N) (d) : (dats m 0 c).before 4 t d = blk m c 4 t :=
  (before_in m c 4 rfl (fun _ => rfl) (fun _ _ _ => rfl) (fun t => by dsimp only [dats]) t d).trans (by unfold Dat.fetched Dat.blockOf blk; rw [A_eq]; try rfl)
theorem in_5 (c : Dev nD) (t : Fin cfg0.N) (d) : (dats m 0 c).before 5 t d = blk m c 5 t :=
  (before_in m c 5 rfl (fun _ => rfl) (fun _ _ _ => rfl) (fun t => by dsimp only [dats]) t d).trans (by unfold Dat.fetched Dat.blockOf blk; rw [A_eq]; try rfl)
theorem in_6 (c : Dev nD) (t : Fin cfg0.N) (d) : (dats m 0 c).before 6 t d = blk m c 6 t :=
  (before_in m c 6 rfl (fun _ => rfl) (fun _ _ _ => rfl) (fun t => by dsimp only [dats]) t d).trans (by unfold Dat.fetched Dat.blockOf blk; rw [A_eq]; try rfl)
theorem in_7 (c : Dev nD) (t : Fin cfg0.N) (d) : (dats m 0 c).before 7 t d = blk m c 7 t :=
  (before_in m c 7 rfl (fun _ => rfl) (fun _ _ _ => rfl) (fun t => by dsimp only [dats]) t d).trans (by unfold Dat.fetched Dat.blockOf blk; rw [A_eq]; try rfl)
theorem in_8 (c : Dev nD) (t : Fin cfg0.N) (d) : (dats m 0 c).before 8 t d = blk m c 8 t :=
  (before_in m c 8 rfl (fun _ => rfl) (fun _ _ _ => rfl) (fun t => by dsimp only [dats]) t d).trans (by unfold Dat.fetched Dat.blockOf blk; rw [A_eq]; try rfl)
theorem in_9 (c : Dev nD) (t : Fin cfg0.N) (d) : (dats m 0 c).before 9 t d = blk m c 9 t :=
  (before_in m c 9 rfl (fun _ => rfl) (fun _ _ _ => rfl) (fun t => by dsimp only [dats]) t d).trans (by unfold Dat.fetched Dat.blockOf blk; rw [A_eq]; try rfl)
theorem in_10 (c : Dev nD) (t : Fin cfg0.N) (d) : (dats m 0 c).before 10 t d = blk m c 10 t :=
  (before_in m c 10 rfl (fun _ => rfl) (fun _ _ _ => rfl) (fun t => by dsimp only [dats]) t d).trans (by unfold Dat.fetched Dat.blockOf blk; rw [A_eq]; try rfl)
theorem in_11 (c : Dev nD) (t : Fin cfg0.N) (d) : (dats m 0 c).before 11 t d = blk m c 11 t :=
  (before_in m c 11 rfl (fun _ => rfl) (fun _ _ _ => rfl) (fun t => by dsimp only [dats]) t d).trans (by unfold Dat.fetched Dat.blockOf blk; rw [A_eq]; try rfl)
theorem in_12 (c : Dev nD) (t : Fin cfg0.N) (d) : (dats m 0 c).before 12 t d = blk m c 12 t :=
  (before_in m c 12 rfl (fun _ => rfl) (fun _ _ _ => rfl) (fun t => by dsimp only [dats]) t d).trans (by unfold Dat.fetched Dat.blockOf blk; rw [A_eq]; try rfl)
theorem in_13 (c : Dev nD) (t : Fin cfg0.N) (d) : (dats m 0 c).before 13 t d = blk m c 13 t :=
  (before_in m c 13 rfl (fun _ => rfl) (fun _ _ _ => rfl) (fun t => by dsimp only [dats]) t d).trans (by unfold Dat.fetched Dat.blockOf blk; rw [A_eq]; try rfl)
theorem in_14 (c : Dev nD) (t : Fin cfg0.N) (d) : (dats m 0 c).before 14 t d = blk m c 14 t :=
  (before_in m c 14 rfl (fun _ => rfl) (fun _ _ _ => rfl) (fun t => by dsimp only [dats]) t d).trans (by unfold Dat.fetched Dat.blockOf blk; rw [A_eq]; try rfl)
theorem in_15 (c : Dev nD) (t : Fin cfg0.N) (d) : (dats m 0 c).before 15 t d = blk m c 15 t :=
  (before_in m c 15 rfl (fun _ => rfl) (fun _ _ _ => rfl) (fun t => by dsimp only [dats]) t d).trans (by unfold Dat.fetched Dat.blockOf blk; rw [A_eq]; try rfl)
theorem in_16 (c : Dev nD) (t : Fin cfg0.N) (d) : (dats m 0 c).before 16 t d = blk m c 16 t :=
  (before_in m c 16 rfl (fun _ => rfl) (fun _ _ _ => rfl) (fun t => by dsimp only [dats]) t d).trans (by unfold Dat.fetched Dat.blockOf blk; rw [A_eq]; try rfl)
theorem in_17 (c : Dev nD) (t : Fin cfg0.N) (d) : (dats m 0 c).before 17 t d = blk m c 17 t :=
  (before_in m c 17 rfl (fun _ => rfl) (fun _ _ _ => rfl) (fun t => by dsimp only [dats]) t d).trans (by unfold Dat.fetched Dat.blockOf blk; rw [A_eq]; try rfl)
theorem in_18 (c : Dev nD) (t : Fin cfg0.N) (d) : (dats m 0 c).before 18 t d = blk m c 18 t :=
  (before_in m c 18 rfl (fun _ => rfl) (fun _ _ _ => rfl) (fun t => by dsimp only [dats]) t d).trans (by unfold Dat.fetched Dat.blockOf blk; rw [A_eq]; try rfl)
theorem in_19 (c : Dev nD) (t : Fin cfg0.N) (d) : (dats m 0 c).before 19 t d = blk m c 19 t :=
  (before_in m c 19 rfl (fun _ => rfl) (fun _ _ _ => rfl) (fun t => by dsimp only [dats]) t d).trans (by unfold Dat.fetched Dat.blockOf blk; rw [A_eq]; try rfl)
theorem in_20 (c : Dev nD) (t : Fin cfg0.N) (d) : (dats m 0 c).before 20 t d = blk m c 20 t :=
  (before_in m c 20 rfl (fun _ => rfl) (fun _ _ _ => rfl) (fun t => by dsimp only [dats]) t d).trans (by unfold Dat.fetched Dat.blockOf blk; rw [A_eq]; try rfl)
theorem in_21 (c : Dev nD) (t : Fin cfg0.N) (d) : (dats m 0 c).before 21 t d = blk m c 21 t :=
  (before_in m c 21 rfl (fun _ => rfl) (fun _ _ _ => rfl) (fun t => by dsimp only [dats]) t d).trans (by unfold Dat.fetched Dat.blockOf blk; rw [A_eq]; try rfl)
theorem in_22 (c : Dev nD) (t : Fin cfg0.N) (d) : (dats m 0 c).before 22 t d = blk m c 22 t :=
  (before_in m c 22 rfl (fun _ => rfl) (fun _ _ _ => rfl) (fun t => by dsimp only [dats]) t d).trans (by unfold Dat.fetched Dat.blockOf blk; rw [A_eq]; try rfl)
theorem in_23 (c : Dev nD) (t : Fin cfg0.N) (d) : (dats m 0 c).before 23 t d = blk m c 23 t :=
  (before_in m c 23 rfl (fun _ => rfl) (fun _ _ _ => rfl) (fun t => by dsimp only [dats]) t d).trans (by unfold Dat.fetched Dat.blockOf blk; rw [A_eq]; try rfl)
theorem in_24 (c : Dev nD) (t : Fin cfg0.N) (d) : (dats m 0 c).before 24 t d = blk m c 24 t :=
  (before_in m c 24 rfl (fun _ => rfl) (fun _ _ _ => rfl) (fun t => by dsimp only [dats]) t d).trans (by unfold Dat.fetched Dat.blockOf blk; rw [A_eq]; try rfl)
theorem in_25 (c : Dev nD) (t : Fin cfg0.N) (d) : (dats m 0 c).before 25 t d = blk m c 25 t :=
  (before_in m c 25 rfl (fun _ => rfl) (fun _ _ _ => rfl) (fun t => by dsimp only [dats]) t d).trans (by unfold Dat.fetched Dat.blockOf blk; rw [A_eq]; try rfl)
theorem in_26 (c : Dev nD) (t : Fin cfg0.N) (d) : (dats m 0 c).before 26 t d = blk m c 26 t :=
  (before_in m c 26 rfl (fun _ => rfl) (fun _ _ _ => rfl) (fun t => by dsimp only [dats]) t d).trans (by unfold Dat.fetched Dat.blockOf blk; rw [A_eq]; try rfl)
theorem in_27 (c : Dev nD) (t : Fin cfg0.N) (d) : (dats m 0 c).before 27 t d = blk m c 27 t :=
  (before_in m c 27 rfl (fun _ => rfl) (fun _ _ _ => rfl) (fun t => by dsimp only [dats]) t d).trans (by unfold Dat.fetched Dat.blockOf blk; rw [A_eq]; try rfl)
theorem in_28 (c : Dev nD) (t : Fin cfg0.N) (d) : (dats m 0 c).before 28 t d = blk m c 28 t :=
  (before_in m c 28 rfl (fun _ => rfl) (fun _ _ _ => rfl) (fun t => by dsimp only [dats]) t d).trans (by unfold Dat.fetched Dat.blockOf blk; rw [A_eq]; try rfl)
theorem out_0 (c : Dev nD) (t : Fin cfg0.N) : (dats m 0 c).after 29 t = left_4x1024 (total_4x1024 (blk m c 0 t)) := by dsimp only [dats]
theorem out_1 (c : Dev nD) (t : Fin cfg0.N) : (dats m 0 c).after 30 t = left_4x1024 (delta (total_4x1024 (blk m c 0 t)) (View.ld (blk m c 8 t) full_4x1024) (View.ld (blk m c 15 t) full_4x1024) (View.ld (blk m c 22 t) full_4x1024)) := by dsimp only [dats]
theorem out_2 (c : Dev nD) (t : Fin cfg0.N) : (dats m 0 c).after 31 t = left_4x1024 (newM (total_4x1024 (blk m c 0 t)) (View.ld (blk m c 15 t) full_4x1024)) := by dsimp only [dats]
theorem out_3 (c : Dev nD) (t : Fin cfg0.N) : (dats m 0 c).after 32 t = left_4x1024 (newV (total_4x1024 (blk m c 0 t)) (View.ld (blk m c 22 t) full_4x1024)) := by dsimp only [dats]
theorem out_4 (c : Dev nD) (t : Fin cfg0.N) : (dats m 0 c).after 33 t = left_4x1024 (total_4x1024 (blk m c 1 t)) := by dsimp only [dats]
theorem out_5 (c : Dev nD) (t : Fin cfg0.N) : (dats m 0 c).after 34 t = left_4x1024 (delta (total_4x1024 (blk m c 1 t)) (View.ld (blk m c 9 t) full_4x1024) (View.ld (blk m c 16 t) full_4x1024) (View.ld (blk m c 23 t) full_4x1024)) := by dsimp only [dats]
theorem out_6 (c : Dev nD) (t : Fin cfg0.N) : (dats m 0 c).after 35 t = left_4x1024 (newM (total_4x1024 (blk m c 1 t)) (View.ld (blk m c 16 t) full_4x1024)) := by dsimp only [dats]
theorem out_7 (c : Dev nD) (t : Fin cfg0.N) : (dats m 0 c).after 36 t = left_4x1024 (newV (total_4x1024 (blk m c 1 t)) (View.ld (blk m c 23 t) full_4x1024)) := by dsimp only [dats]
theorem out_8 (c : Dev nD) (t : Fin cfg0.N) : (dats m 0 c).after 37 t = left_2x512 (total_2x512 (blk m c 2 t)) := by dsimp only [dats]
theorem out_9 (c : Dev nD) (t : Fin cfg0.N) : (dats m 0 c).after 38 t = left_2x512 (delta (total_2x512 (blk m c 2 t)) (View.ld (blk m c 10 t) full_2x512) (View.ld (blk m c 17 t) full_2x512) (View.ld (blk m c 24 t) full_2x512)) := by dsimp only [dats]
theorem out_10 (c : Dev nD) (t : Fin cfg0.N) : (dats m 0 c).after 39 t = left_2x512 (newM (total_2x512 (blk m c 2 t)) (View.ld (blk m c 17 t) full_2x512)) := by dsimp only [dats]
theorem out_11 (c : Dev nD) (t : Fin cfg0.N) : (dats m 0 c).after 40 t = left_2x512 (newV (total_2x512 (blk m c 2 t)) (View.ld (blk m c 24 t) full_2x512)) := by dsimp only [dats]
theorem out_12 (c : Dev nD) (t : Fin cfg0.N) : (dats m 0 c).after 41 t = left_2x4x128x128 (total_2x4x128x128 (blk m c 3 t)) := by dsimp only [dats]
theorem out_13 (c : Dev nD) (t : Fin cfg0.N) : (dats m 0 c).after 42 t = left_2x4x128x128 (delta (total_2x4x128x128 (blk m c 3 t)) (View.ld (blk m c 11 t) full_2x4x128x128) (View.ld (blk m c 18 t) full_2x4x128x128) (View.ld (blk m c 25 t) full_2x4x128x128)) := by dsimp only [dats]
theorem out_14 (c : Dev nD) (t : Fin cfg0.N) : (dats m 0 c).after 43 t = left_2x4x128x128 (newM (total_2x4x128x128 (blk m c 3 t)) (View.ld (blk m c 18 t) full_2x4x128x128)) := by dsimp only [dats]
theorem out_15 (c : Dev nD) (t : Fin cfg0.N) : (dats m 0 c).after 44 t = left_2x4x128x128 (newV (total_2x4x128x128 (blk m c 3 t)) (View.ld (blk m c 25 t) full_2x4x128x128)) := by dsimp only [dats]
theorem out_16 (c : Dev nD) (t : Fin cfg0.N) : (dats m 0 c).after 45 t = left_2x512 (total_2x512 (blk m c 4 t)) := by dsimp only [dats]
theorem out_17 (c : Dev nD) (t : Fin cfg0.N) : (dats m 0 c).after 46 t = left_2x512 (delta (total_2x512 (blk m c 4 t)) (View.ld (blk m c 12 t) full_2x512) (View.ld (blk m c 19 t) full_2x512) (View.ld (blk m c 26 t) full_2x512)) := by dsimp only [dats]
theorem out_18 (c : Dev nD) (t : Fin cfg0.N) : (dats m 0 c).after 47 t = left_2x512 (newM (total_2x512 (blk m c 4 t)) (View.ld (blk m c 19 t) full_2x512)) := by dsimp only [dats]
theorem out_19 (c : Dev nD) (t : Fin cfg0.N) : (dats m 0 c).after 48 t = left_2x512 (newV (total_2x512 (blk m c 4 t)) (View.ld (blk m c 26 t) full_2x512)) := by dsimp only [dats]
theorem out_20 (c : Dev nD) (t : Fin cfg0.N) : (dats m 0 c).after 49 t = left_2x16x257 (total_2x16x257 (blk m c 5 t)) := by dsimp only [dats]
theorem out_21 (c : Dev nD) (t : Fin cfg0.N) : (dats m 0 c).after 50 t = left_2x16x257 (delta (total_2x16x257 (blk m c 5 t)) (View.ld (blk m c 13 t) full_2x16x257) (View.ld (blk m c 20 t) full_2x16x257) (View.ld (blk m c 27 t) full_2x16x257)) := by dsimp only [dats]
theorem out_22 (c : Dev nD) (t : Fin cfg0.N) : (dats m 0 c).after 51 t = left_2x16x257 (newM (total_2x16x257 (blk m c 5 t)) (View.ld (blk m c 20 t) full_2x16x257)) := by dsimp only [dats]
theorem out_23 (c : Dev nD) (t : Fin cfg0.N) : (dats m 0 c).after 52 t = left_2x16x257 (newV (total_2x16x257 (blk m c 5 t)) (View.ld (blk m c 27 t) full_2x16x257)) := by dsimp only [dats]
theorem out_24 (c : Dev nD) (t : Fin cfg0.N) : (dats m 0 c).after 53 t = left_1x1024 (total_1x1024 (blk m c 6 t)) := by dsimp only [dats]
theorem out_25 (c : Dev nD) (t : Fin cfg0.N) : (dats m 0 c).after 54 t = left_1x1024 (delta (total_1x1024 (blk m c 6 t)) (View.ld (blk m c 14 t) full_1x1024) (View.ld (blk m c 21 t) full_1x1024) (View.ld (blk m c 28 t) full_1x1024)) := by dsimp only [dats]
theorem out_26 (c : Dev nD) (t : Fin cfg0.N) : (dats m 0 c).after 55 t = left_1x1024 (newM (total_1x1024 (blk m c 6 t)) (View.ld (blk m c 21 t) full_1x1024)) := by dsimp only [dats]
theorem out_27 (c : Dev nD) (t : Fin cfg0.N) : (dats m 0 c).after 56 t = left_1x1024 (newV (total_1x1024 (blk m c 6 t)) (View.ld (blk m c 28 t) full_1x1024)) := by dsimp only [dats]
theorem out_28 (c : Dev nD) (t : Fin cfg0.N) : (dats m 0 c).after 57 t = left_8x128 (total_8x128 (blk m c 7 t)) := by dsimp only [dats]
theorem kept_0 (c : Dev nD) (t : Fin cfg0.N) : (dats m 0 c).after 0 t = blk m c 0 t := by dsimp only [dats]
theorem kept_1 (c : Dev nD) (t : Fin cfg0.N) : (dats m 0 c).after 1 t = blk m c 1 t := by dsimp only [dats]
theorem kept_2 (c : Dev nD) (t : Fin cfg0.N) : (dats m 0 c).after 2 t = blk m c 2 t := by dsimp only [dats]
theorem kept_3 (c : Dev nD) (t : Fin cfg0.N) : (dats m 0 c).after 3 t = blk m c 3 t := by dsimp only [dats]
theorem kept_4 (c : Dev nD) (t : Fin cfg0.N) : (dats m 0 c).after 4 t = blk m c 4 t := by dsimp only [dats]
theorem kept_5 (c : Dev nD) (t : Fin cfg0.N) : (dats m 0 c).after 5 t = blk m c 5 t := by dsimp only [dats]
theorem kept_6 (c : Dev nD) (t : Fin cfg0.N) : (dats m 0 c).after 6 t = blk m c 6 t := by dsimp only [dats]
theorem kept_7 (c : Dev nD) (t : Fin cfg0.N) : (dats m 0 c).after 7 t = blk m c 7 t := by dsimp only [dats]
theorem kept_8 (c : Dev nD) (t : Fin cfg0.N) : (dats m 0 c).after 8 t = blk m c 8 t := by dsimp only [dats]
theorem kept_9 (c : Dev nD) (t : Fin cfg0.N) : (dats m 0 c).after 9 t = blk m c 9 t := by dsimp only [dats]
theorem kept_10 (c : Dev nD) (t : Fin cfg0.N) : (dats m 0 c).after 10 t = blk m c 10 t := by dsimp only [dats]
theorem kept_11 (c : Dev nD) (t : Fin cfg0.N) : (dats m 0 c).after 11 t = blk m c 11 t := by dsimp only [dats]
theorem kept_12 (c : Dev nD) (t : Fin cfg0.N) : (dats m 0 c).after 12 t = blk m c 12 t := by dsimp only [dats]
theorem kept_13 (c : Dev nD) (t : Fin cfg0.N) : (dats m 0 c).after 13 t = blk m c 13 t := by dsimp only [dats]
theorem kept_14 (c : Dev nD) (t : Fin cfg0.N) : (dats m 0 c).after 14 t = blk m c 14 t := by dsimp only [dats]
theorem kept_15 (c : Dev nD) (t : Fin cfg0.N) : (dats m 0 c).after 15 t = blk m c 15 t := by dsimp only [dats]
theorem kept_16 (c : Dev nD) (t : Fin cfg0.N) : (dats m 0 c).after 16 t = blk m c 16 t := by dsimp only [dats]
theorem kept_17 (c : Dev nD) (t : Fin cfg0.N) : (dats m 0 c).after 17 t = blk m c 17 t := by dsimp only [dats]
theorem kept_18 (c : Dev nD) (t : Fin cfg0.N) : (dats m 0 c).after 18 t = blk m c 18 t := by dsimp only [dats]
theorem kept_19 (c : Dev nD) (t : Fin cfg0.N) : (dats m 0 c).after 19 t = blk m c 19 t := by dsimp only [dats]
theorem kept_20 (c : Dev nD) (t : Fin cfg0.N) : (dats m 0 c).after 20 t = blk m c 20 t := by dsimp only [dats]
theorem kept_21 (c : Dev nD) (t : Fin cfg0.N) : (dats m 0 c).after 21 t = blk m c 21 t := by dsimp only [dats]
theorem kept_22 (c : Dev nD) (t : Fin cfg0.N) : (dats m 0 c).after 22 t = blk m c 22 t := by dsimp only [dats]
theorem kept_23 (c : Dev nD) (t : Fin cfg0.N) : (dats m 0 c).after 23 t = blk m c 23 t := by dsimp only [dats]
theorem kept_24 (c : Dev nD) (t : Fin cfg0.N) : (dats m 0 c).after 24 t = blk m c 24 t := by dsimp only [dats]
theorem kept_25 (c : Dev nD) (t : Fin cfg0.N) : (dats m 0 c).after 25 t = blk m c 25 t := by dsimp only [dats]
theorem kept_26 (c : Dev nD) (t : Fin cfg0.N) : (dats m 0 c).after 26 t = blk m c 26 t := by dsimp only [dats]
theorem kept_27 (c : Dev nD) (t : Fin cfg0.N) : (dats m 0 c).after 27 t = blk m c 27 t := by dsimp only [dats]
theorem kept_28 (c : Dev nD) (t : Fin cfg0.N) : (dats m 0 c).after 28 t = blk m c 28 t := by dsimp only [dats]

set_option maxHeartbeats 8000000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [in_0, in_1, in_2, in_3, in_4, in_5, in_6, in_7, in_8, in_9, in_10, in_11, in_12, in_13, in_14, in_15, in_16, in_17, in_18, in_19, in_20, in_21, in_22, in_23, in_24, in_25, in_26, in_27, in_28]
  rw [show (dats m 0 c).Φ t.succ = (dats m 0 c).Φ t.castSucc from rfl,
    show (dats m 0 c).owesAt () t.succ = (dats m 0 c).owesAt () t.castSucc from rfl,
    kept_0, kept_1, kept_2, kept_3, kept_4, kept_5, kept_6, kept_7, kept_8, kept_9, kept_10, kept_11, kept_12, kept_13, kept_14, kept_15, kept_16, kept_17, kept_18, kept_19, kept_20, kept_21, kept_22, kept_23, kept_24, kept_25, kept_26, kept_27, kept_28, out_0, out_1, out_2, out_3, out_4, out_5, out_6, out_7, out_8, out_9, out_10, out_11, out_12, out_13, out_14, out_15, out_16, out_17, out_18, out_19, out_20, out_21, out_22, out_23, out_24, out_25, out_26, out_27, out_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩⟩
  iapply (body_leaves c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) (blk m c 14 t) (blk m c 15 t) (blk m c 16 t) (blk m c 17 t) (blk m c 18 t) (blk m c 19 t) (blk m c 20 t) (blk m c 21 t) (blk m c 22 t) (blk m c 23 t) (blk m c 24 t) (blk m c 25 t) (blk m c 26 t) (blk m c 27 t) (blk m c 28 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  iexact H57

theorem row (t : Fin cfg0.N) :
    defs₀ (F := F) .tc cfg0.body (cfg0.bodyArgs t (cfg0.slots t)) = bodyAt0 t := by
  unfold defs₀; rw [Defs.onTc_tc]

set_option maxHeartbeats 8000000 in
theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
set_option maxHeartbeats 800000 in
/-- The run ends, with every array at what the body left and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := main_region m Variants.none) (hA := A_eq m) (hΦ := fun _ _ => rfl)

/-- An input array is after the run as launched. -/
theorem input_kept (r : PUnit × MemSt nD τ sig (Elt F)) (h : Pipeline.FramePost cfgs (dats m) 0 (V m) r) (c : Dev nD) (w : Fin cfg0.W)
    (hw : (cfg0.win w).isOut = false) : (dats m 0 c).arrAt w cfg0.N = V m c (Pipeline.arrRef spec0 w) :=
  ((dats m 0 c).arrAt_in w hw _).trans (A_eq m c w)

set_option maxHeartbeats 8000000 in
theorem inputs_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  ⟨((h c).1 0).trans (input_kept m r h c 0 rfl),
    ((h c).1 1).trans (input_kept m r h c 1 rfl),
    ((h c).1 2).trans (input_kept m r h c 2 rfl),
    ((h c).1 3).trans (input_kept m r h c 3 rfl),
    ((h c).1 4).trans (input_kept m r h c 4 rfl),
    ((h c).1 5).trans (input_kept m r h c 5 rfl),
    ((h c).1 6).trans (input_kept m r h c 6 rfl),
    ((h c).1 7).trans (input_kept m r h c 7 rfl),
    ((h c).1 8).trans (input_kept m r h c 8 rfl),
    ((h c).1 9).trans (input_kept m r h c 9 rfl),
    ((h c).1 10).trans (input_kept m r h c 10 rfl),
    ((h c).1 11).trans (input_kept m r h c 11 rfl),
    ((h c).1 12).trans (input_kept m r h c 12 rfl),
    ((h c).1 13).trans (input_kept m r h c 13 rfl),
    ((h c).1 14).trans (input_kept m r h c 14 rfl),
    ((h c).1 15).trans (input_kept m r h c 15 rfl),
    ((h c).1 16).trans (input_kept m r h c 16 rfl),
    ((h c).1 17).trans (input_kept m r h c 17 rfl),
    ((h c).1 18).trans (input_kept m r h c 18 rfl),
    ((h c).1 19).trans (input_kept m r h c 19 rfl),
    ((h c).1 20).trans (input_kept m r h c 20 rfl),
    ((h c).1 21).trans (input_kept m r h c 21 rfl),
    ((h c).1 22).trans (input_kept m r h c 22 rfl),
    ((h c).1 23).trans (input_kept m r h c 23 rfl),
    ((h c).1 24).trans (input_kept m r h c 24 rfl),
    ((h c).1 25).trans (input_kept m r h c 25 rfl),
    ((h c).1 26).trans (input_kept m r h c 26 rfl),
    ((h c).1 27).trans (input_kept m r h c 27 rfl),
    ((h c).1 28).trans (input_kept m r h c 28 rfl)⟩

set_option maxHeartbeats 8000000 in
/-- The run leaves the arguments and the counters. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  (θ_run defs _ _).mono (fun r h => ⟨fun c => inputs_kept m r h.1 c, h.2⟩) (run m ρ)

end Cert.Small.Idealized

end
end
-- ==== Proof.Small.Values.lean ====
module

public import proofs.«01_k».proof.Proof.Small.IdealizedBody
public import Idealize.ShloMosaic.Lib.Pipeline.Value
public import Idealize.ShloMosaic.Lib.Pipeline.ValueKit

@[expose] public section

set_option maxRecDepth 16384

/-! The arrays the body leaves, at an entry. -/

noncomputable section

namespace Cert.Small.Idealized

open Cert.KernelAdamSmallIdeal Cert.KernelAdamSmallIdeal.Gen Cert.Small
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem left_4x1024_eq (p : FVec F S4x1024 .f32) : left_4x1024 p = p := by
  unfold left_4x1024
  exact View.canon_unit_zero (by funext a; fin_cases a <;> rfl) _ _

theorem full_4x1024_eq (x : Vec F S4x1024 .f32) : View.ld x full_4x1024 = x := View.ld_unit_zero (by funext a; fin_cases a <;> rfl) _ _

theorem total_4x1024_apply (x : Vec Ideal S8x4x1024 .f32) (i : Fin 4) (j : Fin 1024) :
    total_4x1024 x (ix2 i j) = Adam.sumDevices fun p => x (ix3 p i j) := by
  pointwise [total_4x1024, sum8, Adam.sumDevices]

theorem left_2x512_eq (p : FVec F S2x512 .f32) : left_2x512 p = p := by
  unfold left_2x512
  exact View.canon_unit_zero (by funext a; fin_cases a <;> rfl) _ _

theorem full_2x512_eq (x : Vec F S2x512 .f32) : View.ld x full_2x512 = x := View.ld_unit_zero (by funext a; fin_cases a <;> rfl) _ _

theorem total_2x512_apply (x : Vec Ideal S8x2x512 .f32) (i : Fin 2) (j : Fin 512) :
    total_2x512 x (ix2 i j) = Adam.sumDevices fun p => x (ix3 p i j) := by
  pointwise [total_2x512, sum8, Adam.sumDevices]

theorem left_2x4x128x128_eq (p : FVec F S2x4x128x128 .f32) : left_2x4x128x128 p = p := by
  unfold left_2x4x128x128
  exact View.canon_unit_zero (by funext a; fin_cases a <;> rfl) _ _

theorem full_2x4x128x128_eq (x : Vec F S2x4x128x128 .f32) : View.ld x full_2x4x128x128 = x := View.ld_unit_zero (by funext a; fin_cases a <;> rfl) _ _

theorem total_2x4x128x128_apply (x : Vec Ideal S8x2x4x128x128 .bf16) (i : Fin 2) (j : Fin 4) (k : Fin 128) (l : Fin 128) :
    total_2x4x128x128 x (ix4 i j k l) = Adam.sumDevices fun p => x (ix5 p i j k l) := by
  pointwise [total_2x4x128x128, sum8, Adam.sumDevices]

theorem left_2x16x257_eq (p : FVec F S2x16x257 .f32) : left_2x16x257 p = p := by
  unfold left_2x16x257
  exact View.canon_unit_zero (by funext a; fin_cases a <;> rfl) _ _

theorem full_2x16x257_eq (x : Vec F S2x16x257 .f32) : View.ld x full_2x16x257 = x := View.ld_unit_zero (by funext a; fin_cases a <;> rfl) _ _

theorem total_2x16x257_apply (x : Vec Ideal S8x2x16x257 .f32) (i : Fin 2) (j : Fin 16) (k : Fin 257) :
    total_2x16x257 x (ix3 i j k) = Adam.sumDevices fun p => x (ix4 p i j k) := by
  pointwise [total_2x16x257, sum8, Adam.sumDevices]

theorem left_1x1024_eq (p : FVec F S1x1024 .f32) : left_1x1024 p = p := by
  unfold left_1x1024
  exact View.canon_unit_zero (by funext a; fin_cases a <;> rfl) _ _

theorem full_1x1024_eq (x : Vec F S1x1024 .f32) : View.ld x full_1x1024 = x := View.ld_unit_zero (by funext a; fin_cases a <;> rfl) _ _

theorem total_1x1024_apply (x : Vec Ideal S8x1x1024 .f32) (i : Fin 1) (j : Fin 1024) :
    total_1x1024 x (ix2 i j) = Adam.sumDevices fun p => x (ix3 p i j) := by
  obtain rfl : i = 0 := Subsingleton.elim _ _
  pointwise [total_1x1024, sum8, Adam.sumDevices]

theorem left_8x128_eq (p : FVec F S8x128 .f32) : left_8x128 p = p := by
  unfold left_8x128
  exact View.canon_unit_zero (by funext a; fin_cases a <;> rfl) _ _

theorem full_8x128_eq (x : Vec F S8x128 .f32) : View.ld x full_8x128 = x := View.ld_unit_zero (by funext a; fin_cases a <;> rfl) _ _

theorem total_8x128_apply (x : Vec Ideal S8x8x128 .f32) (i : Fin 8) (j : Fin 128) :
    total_8x128 x (ix2 i j) = Adam.sumDevices fun p => x (ix3 p i j) := by
  pointwise [total_8x128, sum8, Adam.sumDevices]

end Cert.Small.Idealized

end
end
-- ==== Proof.Small.Arrays.lean ====
module

public import proofs.«01_k».proof.Proof.Small.IdealizedRun
public import proofs.«01_k».proof.Proof.Small.Values
public import Idealize.ShloMosaic.Lib.Pipeline.ValueKit

@[expose] public section

set_option maxRecDepth 16384

/-! The output arrays after the run. -/

noncomputable section

namespace Cert.Small.Idealized

open Cert.KernelAdamSmallIdeal Cert.KernelAdamSmallIdeal.Gen Cert.Small
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (c : Dev nD)

/-- The grid's one point. -/
def point : Fin cfg0.N := ⟨0, by decide +kernel⟩

theorem at_origin : (win0_0.index point = fun _ => 0) ∧ (win0_1.index point = fun _ => 0) ∧ (win0_2.index point = fun _ => 0) ∧ (win0_3.index point = fun _ => 0) ∧ (win0_4.index point = fun _ => 0) ∧ (win0_5.index point = fun _ => 0) ∧ (win0_6.index point = fun _ => 0) ∧ (win0_7.index point = fun _ => 0) ∧ (win0_8.index point = fun _ => 0) ∧ (win0_9.index point = fun _ => 0) ∧ (win0_10.index point = fun _ => 0) ∧ (win0_11.index point = fun _ => 0) ∧ (win0_12.index point = fun _ => 0) ∧ (win0_13.index point = fun _ => 0) ∧ (win0_14.index point = fun _ => 0) ∧ (win0_15.index point = fun _ => 0) ∧ (win0_16.index point = fun _ => 0) ∧ (win0_17.index point = fun _ => 0) ∧ (win0_18.index point = fun _ => 0) ∧ (win0_19.index point = fun _ => 0) ∧ (win0_20.index point = fun _ => 0) ∧ (win0_21.index point = fun _ => 0) ∧ (win0_22.index point = fun _ => 0) ∧ (win0_23.index point = fun _ => 0) ∧ (win0_24.index point = fun _ => 0) ∧ (win0_25.index point = fun _ => 0) ∧ (win0_26.index point = fun _ => 0) ∧ (win0_27.index point = fun _ => 0) ∧ (win0_28.index point = fun _ => 0) := by
  decide +kernel

theorem block_0 : blk m c 0 point = m ((c : Thread nD τ).loc main_arg0) := by
  funext y
  unfold blk
  blk_simp
  refine congrArg (m ((c : Thread nD τ).loc main_arg0)) (funext fun a => Fin.ext ?_)
  blk_simp
  simp [at_origin]

theorem block_1 : blk m c 1 point = m ((c : Thread nD τ).loc main_arg1) := by
  funext y
  unfold blk
  blk_simp
  refine congrArg (m ((c : Thread nD τ).loc main_arg1)) (funext fun a => Fin.ext ?_)
  blk_simp
  simp [at_origin]

theorem block_2 : blk m c 2 point = m ((c : Thread nD τ).loc main_arg2) := by
  funext y
  unfold blk
  blk_simp
  refine congrArg (m ((c : Thread nD τ).loc main_arg2)) (funext fun a => Fin.ext ?_)
  blk_simp
  simp [at_origin]

theorem block_3 : blk m c 3 point = m ((c : Thread nD τ).loc main_arg3) := by
  funext y
  unfold blk
  blk_simp
  refine congrArg (m ((c : Thread nD τ).loc main_arg3)) (funext fun a => Fin.ext ?_)
  blk_simp
  simp [at_origin]

theorem block_4 : blk m c 4 point = m ((c : Thread nD τ).loc main_arg4) := by
  funext y
  unfold blk
  blk_simp
  refine congrArg (m ((c : Thread nD τ).loc main_arg4)) (funext fun a => Fin.ext ?_)
  blk_simp
  simp [at_origin]

theorem block_5 : blk m c 5 point = m ((c : Thread nD τ).loc main_arg5) := by
  funext y
  unfold blk
  blk_simp
  refine congrArg (m ((c : Thread nD τ).loc main_arg5)) (funext fun a => Fin.ext ?_)
  blk_simp
  simp [at_origin]

theorem block_6 : blk m c 6 point = m ((c : Thread nD τ).loc main_arg6) := by
  funext y
  unfold blk
  blk_simp
  refine congrArg (m ((c : Thread nD τ).loc main_arg6)) (funext fun a => Fin.ext ?_)
  blk_simp
  simp [at_origin]

theorem block_7 : blk m c 7 point = m ((c : Thread nD τ).loc main_arg7) := by
  funext y
  unfold blk
  blk_simp
  refine congrArg (m ((c : Thread nD τ).loc main_arg7)) (funext fun a => Fin.ext ?_)
  blk_simp
  simp [at_origin]

theorem block_8 : blk m c 8 point = m ((c : Thread nD τ).loc main_arg8) := by
  funext y
  unfold blk
  blk_simp
  refine congrArg (m ((c : Thread nD τ).loc main_arg8)) (funext fun a => Fin.ext ?_)
  blk_simp
  simp [at_origin]

theorem block_9 : blk m c 9 point = m ((c : Thread nD τ).loc main_arg9) := by
  funext y
  unfold blk
  blk_simp
  refine congrArg (m ((c : Thread nD τ).loc main_arg9)) (funext fun a => Fin.ext ?_)
  blk_simp
  simp [at_origin]

theorem block_10 : blk m c 10 point = m ((c : Thread nD τ).loc main_arg10) := by
  funext y
  unfold blk
  blk_simp
  refine congrArg (m ((c : Thread nD τ).loc main_arg10)) (funext fun a => Fin.ext ?_)
  blk_simp
  simp [at_origin]

theorem block_11 : blk m c 11 point = m ((c : Thread nD τ).loc main_arg11) := by
  funext y
  unfold blk
  blk_simp
  refine congrArg (m ((c : Thread nD τ).loc main_arg11)) (funext fun a => Fin.ext ?_)
  blk_simp
  simp [at_origin]

theorem block_12 : blk m c 12 point = m ((c : Thread nD τ).loc main_arg12) := by
  funext y
  unfold blk
  blk_simp
  refine congrArg (m ((c : Thread nD τ).loc main_arg12)) (funext fun a => Fin.ext ?_)
  blk_simp
  simp [at_origin]

theorem block_13 : blk m c 13 point = m ((c : Thread nD τ).loc main_arg13) := by
  funext y
  unfold blk
  blk_simp
  refine congrArg (m ((c : Thread nD τ).loc main_arg13)) (funext fun a => Fin.ext ?_)
  blk_simp
  simp [at_origin]

theorem block_14 : blk m c 14 point = m ((c : Thread nD τ).loc main_arg14) := by
  funext y
  unfold blk
  blk_simp
  refine congrArg (m ((c : Thread nD τ).loc main_arg14)) (funext fun a => Fin.ext ?_)
  blk_simp
  simp [at_origin]

theorem block_15 : blk m c 15 point = m ((c : Thread nD τ).loc main_arg15) := by
  funext y
  unfold blk
  blk_simp
  refine congrArg (m ((c : Thread nD τ).loc main_arg15)) (funext fun a => Fin.ext ?_)
  blk_simp
  simp [at_origin]

theorem block_16 : blk m c 16 point = m ((c : Thread nD τ).loc main_arg16) := by
  funext y
  unfold blk
  blk_simp
  refine congrArg (m ((c : Thread nD τ).loc main_arg16)) (funext fun a => Fin.ext ?_)
  blk_simp
  simp [at_origin]

theorem block_17 : blk m c 17 point = m ((c : Thread nD τ).loc main_arg17) := by
  funext y
  unfold blk
  blk_simp
  refine congrArg (m ((c : Thread nD τ).loc main_arg17)) (funext fun a => Fin.ext ?_)
  blk_simp
  simp [at_origin]

theorem block_18 : blk m c 18 point = m ((c : Thread nD τ).loc main_arg18) := by
  funext y
  unfold blk
  blk_simp
  refine congrArg (m ((c : Thread nD τ).loc main_arg18)) (funext fun a => Fin.ext ?_)
  blk_simp
  simp [at_origin]

theorem block_19 : blk m c 19 point = m ((c : Thread nD τ).loc main_arg19) := by
  funext y
  unfold blk
  blk_simp
  refine congrArg (m ((c : Thread nD τ).loc main_arg19)) (funext fun a => Fin.ext ?_)
  blk_simp
  simp [at_origin]

theorem block_20 : blk m c 20 point = m ((c : Thread nD τ).loc main_arg20) := by
  funext y
  unfold blk
  blk_simp
  refine congrArg (m ((c : Thread nD τ).loc main_arg20)) (funext fun a => Fin.ext ?_)
  blk_simp
  simp [at_origin]

theorem block_21 : blk m c 21 point = m ((c : Thread nD τ).loc main_arg21) := by
  funext y
  unfold blk
  blk_simp
  refine congrArg (m ((c : Thread nD τ).loc main_arg21)) (funext fun a => Fin.ext ?_)
  blk_simp
  simp [at_origin]

theorem block_22 : blk m c 22 point = m ((c : Thread nD τ).loc main_arg22) := by
  funext y
  unfold blk
  blk_simp
  refine congrArg (m ((c : Thread nD τ).loc main_arg22)) (funext fun a => Fin.ext ?_)
  blk_simp
  simp [at_origin]

theorem block_23 : blk m c 23 point = m ((c : Thread nD τ).loc main_arg23) := by
  funext y
  unfold blk
  blk_simp
  refine congrArg (m ((c : Thread nD τ).loc main_arg23)) (funext fun a => Fin.ext ?_)
  blk_simp
  simp [at_origin]

theorem block_24 : blk m c 24 point = m ((c : Thread nD τ).loc main_arg24) := by
  funext y
  unfold blk
  blk_simp
  refine congrArg (m ((c : Thread nD τ).loc main_arg24)) (funext fun a => Fin.ext ?_)
  blk_simp
  simp [at_origin]

theorem block_25 : blk m c 25 point = m ((c : Thread nD τ).loc main_arg25) := by
  funext y
  unfold blk
  blk_simp
  refine congrArg (m ((c : Thread nD τ).loc main_arg25)) (funext fun a => Fin.ext ?_)
  blk_simp
  simp [at_origin]

theorem block_26 : blk m c 26 point = m ((c : Thread nD τ).loc main_arg26) := by
  funext y
  unfold blk
  blk_simp
  refine congrArg (m ((c : Thread nD τ).loc main_arg26)) (funext fun a => Fin.ext ?_)
  blk_simp
  simp [at_origin]

theorem block_27 : blk m c 27 point = m ((c : Thread nD τ).loc main_arg27) := by
  funext y
  unfold blk
  blk_simp
  refine congrArg (m ((c : Thread nD τ).loc main_arg27)) (funext fun a => Fin.ext ?_)
  blk_simp
  simp [at_origin]

theorem block_28 : blk m c 28 point = m ((c : Thread nD τ).loc main_arg28) := by
  funext y
  unfold blk
  blk_simp
  refine congrArg (m ((c : Thread nD τ).loc main_arg28)) (funext fun a => Fin.ext ?_)
  blk_simp
  simp [at_origin]

theorem array_0 : (dats m 0 c).arrAt 29 cfg0.N = (total_4x1024 (m ((c : Thread nD τ).loc main_arg0))) := by
  refine (dats m 0 c).arrAt_eq_of_after_last 29 point (by decide +kernel) _ fun j => ?_
  have h : (dats m 0 c).after 29 point = (total_4x1024 (m ((c : Thread nD τ).loc main_arg0))) := by
    rw [out_0, left_4x1024_eq, block_0]
  exact congrFun h j

theorem array_1 : (dats m 0 c).arrAt 30 cfg0.N = (delta (total_4x1024 (m ((c : Thread nD τ).loc main_arg0))) (m ((c : Thread nD τ).loc main_arg8)) (m ((c : Thread nD τ).loc main_arg15)) (m ((c : Thread nD τ).loc main_arg22))) := by
  refine (dats m 0 c).arrAt_eq_of_after_last 30 point (by decide +kernel) _ fun j => ?_
  have h : (dats m 0 c).after 30 point = (delta (total_4x1024 (m ((c : Thread nD τ).loc main_arg0))) (m ((c : Thread nD τ).loc main_arg8)) (m ((c : Thread nD τ).loc main_arg15)) (m ((c : Thread nD τ).loc main_arg22))) := by
    rw [out_1, left_4x1024_eq, block_0, block_8, block_15, block_22, full_4x1024_eq, full_4x1024_eq, full_4x1024_eq]
  exact congrFun h j

theorem array_2 : (dats m 0 c).arrAt 31 cfg0.N = (newM (total_4x1024 (m ((c : Thread nD τ).loc main_arg0))) (m ((c : Thread nD τ).loc main_arg15))) := by
  refine (dats m 0 c).arrAt_eq_of_after_last 31 point (by decide +kernel) _ fun j => ?_
  have h : (dats m 0 c).after 31 point = (newM (total_4x1024 (m ((c : Thread nD τ).loc main_arg0))) (m ((c : Thread nD τ).loc main_arg15))) := by
    rw [out_2, left_4x1024_eq, block_0, block_15, full_4x1024_eq]
  exact congrFun h j

theorem array_3 : (dats m 0 c).arrAt 32 cfg0.N = (newV (total_4x1024 (m ((c : Thread nD τ).loc main_arg0))) (m ((c : Thread nD τ).loc main_arg22))) := by
  refine (dats m 0 c).arrAt_eq_of_after_last 32 point (by decide +kernel) _ fun j => ?_
  have h : (dats m 0 c).after 32 point = (newV (total_4x1024 (m ((c : Thread nD τ).loc main_arg0))) (m ((c : Thread nD τ).loc main_arg22))) := by
    rw [out_3, left_4x1024_eq, block_0, block_22, full_4x1024_eq]
  exact congrFun h j

theorem array_4 : (dats m 0 c).arrAt 33 cfg0.N = (total_4x1024 (m ((c : Thread nD τ).loc main_arg1))) := by
  refine (dats m 0 c).arrAt_eq_of_after_last 33 point (by decide +kernel) _ fun j => ?_
  have h : (dats m 0 c).after 33 point = (total_4x1024 (m ((c : Thread nD τ).loc main_arg1))) := by
    rw [out_4, left_4x1024_eq, block_1]
  exact congrFun h j

theorem array_5 : (dats m 0 c).arrAt 34 cfg0.N = (delta (total_4x1024 (m ((c : Thread nD τ).loc main_arg1))) (m ((c : Thread nD τ).loc main_arg9)) (m ((c : Thread nD τ).loc main_arg16)) (m ((c : Thread nD τ).loc main_arg23))) := by
  refine (dats m 0 c).arrAt_eq_of_after_last 34 point (by decide +kernel) _ fun j => ?_
  have h : (dats m 0 c).after 34 point = (delta (total_4x1024 (m ((c : Thread nD τ).loc main_arg1))) (m ((c : Thread nD τ).loc main_arg9)) (m ((c : Thread nD τ).loc main_arg16)) (m ((c : Thread nD τ).loc main_arg23))) := by
    rw [out_5, left_4x1024_eq, block_1, block_9, block_16, block_23, full_4x1024_eq, full_4x1024_eq, full_4x1024_eq]
  exact congrFun h j

theorem array_6 : (dats m 0 c).arrAt 35 cfg0.N = (newM (total_4x1024 (m ((c : Thread nD τ).loc main_arg1))) (m ((c : Thread nD τ).loc main_arg16))) := by
  refine (dats m 0 c).arrAt_eq_of_after_last 35 point (by decide +kernel) _ fun j => ?_
  have h : (dats m 0 c).after 35 point = (newM (total_4x1024 (m ((c : Thread nD τ).loc main_arg1))) (m ((c : Thread nD τ).loc main_arg16))) := by
    rw [out_6, left_4x1024_eq, block_1, block_16, full_4x1024_eq]
  exact congrFun h j

theorem array_7 : (dats m 0 c).arrAt 36 cfg0.N = (newV (total_4x1024 (m ((c : Thread nD τ).loc main_arg1))) (m ((c : Thread nD τ).loc main_arg23))) := by
  refine (dats m 0 c).arrAt_eq_of_after_last 36 point (by decide +kernel) _ fun j => ?_
  have h : (dats m 0 c).after 36 point = (newV (total_4x1024 (m ((c : Thread nD τ).loc main_arg1))) (m ((c : Thread nD τ).loc main_arg23))) := by
    rw [out_7, left_4x1024_eq, block_1, block_23, full_4x1024_eq]
  exact congrFun h j

theorem array_8 : (dats m 0 c).arrAt 37 cfg0.N = (total_2x512 (m ((c : Thread nD τ).loc main_arg2))) := by
  refine (dats m 0 c).arrAt_eq_of_after_last 37 point (by decide +kernel) _ fun j => ?_
  have h : (dats m 0 c).after 37 point = (total_2x512 (m ((c : Thread nD τ).loc main_arg2))) := by
    rw [out_8, left_2x512_eq, block_2]
  exact congrFun h j

theorem array_9 : (dats m 0 c).arrAt 38 cfg0.N = (delta (total_2x512 (m ((c : Thread nD τ).loc main_arg2))) (m ((c : Thread nD τ).loc main_arg10)) (m ((c : Thread nD τ).loc main_arg17)) (m ((c : Thread nD τ).loc main_arg24))) := by
  refine (dats m 0 c).arrAt_eq_of_after_last 38 point (by decide +kernel) _ fun j => ?_
  have h : (dats m 0 c).after 38 point = (delta (total_2x512 (m ((c : Thread nD τ).loc main_arg2))) (m ((c : Thread nD τ).loc main_arg10)) (m ((c : Thread nD τ).loc main_arg17)) (m ((c : Thread nD τ).loc main_arg24))) := by
    rw [out_9, left_2x512_eq, block_2, block_10, block_17, block_24, full_2x512_eq, full_2x512_eq, full_2x512_eq]
  exact congrFun h j

theorem array_10 : (dats m 0 c).arrAt 39 cfg0.N = (newM (total_2x512 (m ((c : Thread nD τ).loc main_arg2))) (m ((c : Thread nD τ).loc main_arg17))) := by
  refine (dats m 0 c).arrAt_eq_of_after_last 39 point (by decide +kernel) _ fun j => ?_
  have h : (dats m 0 c).after 39 point = (newM (total_2x512 (m ((c : Thread nD τ).loc main_arg2))) (m ((c : Thread nD τ).loc main_arg17))) := by
    rw [out_10, left_2x512_eq, block_2, block_17, full_2x512_eq]
  exact congrFun h j

theorem array_11 : (dats m 0 c).arrAt 40 cfg0.N = (newV (total_2x512 (m ((c : Thread nD τ).loc main_arg2))) (m ((c : Thread nD τ).loc main_arg24))) := by
  refine (dats m 0 c).arrAt_eq_of_after_last 40 point (by decide +kernel) _ fun j => ?_
  have h : (dats m 0 c).after 40 point = (newV (total_2x512 (m ((c : Thread nD τ).loc main_arg2))) (m ((c : Thread nD τ).loc main_arg24))) := by
    rw [out_11, left_2x512_eq, block_2, block_24, full_2x512_eq]
  exact congrFun h j

theorem array_12 : (dats m 0 c).arrAt 41 cfg0.N = (total_2x4x128x128 (m ((c : Thread nD τ).loc main_arg3))) := by
  refine (dats m 0 c).arrAt_eq_of_after_last 41 point (by decide +kernel) _ fun j => ?_
  have h : (dats m 0 c).after 41 point = (total_2x4x128x128 (m ((c : Thread nD τ).loc main_arg3))) := by
    rw [out_12, left_2x4x128x128_eq, block_3]
  exact congrFun h j

theorem array_13 : (dats m 0 c).arrAt 42 cfg0.N = (delta (total_2x4x128x128 (m ((c : Thread nD τ).loc main_arg3))) (m ((c : Thread nD τ).loc main_arg11)) (m ((c : Thread nD τ).loc main_arg18)) (m ((c : Thread nD τ).loc main_arg25))) := by
  refine (dats m 0 c).arrAt_eq_of_after_last 42 point (by decide +kernel) _ fun j => ?_
  have h : (dats m 0 c).after 42 point = (delta (total_2x4x128x128 (m ((c : Thread nD τ).loc main_arg3))) (m ((c : Thread nD τ).loc main_arg11)) (m ((c : Thread nD τ).loc main_arg18)) (m ((c : Thread nD τ).loc main_arg25))) := by
    rw [out_13, left_2x4x128x128_eq, block_3, block_11, block_18, block_25, full_2x4x128x128_eq, full_2x4x128x128_eq, full_2x4x128x128_eq]
  exact congrFun h j

theorem array_14 : (dats m 0 c).arrAt 43 cfg0.N = (newM (total_2x4x128x128 (m ((c : Thread nD τ).loc main_arg3))) (m ((c : Thread nD τ).loc main_arg18))) := by
  refine (dats m 0 c).arrAt_eq_of_after_last 43 point (by decide +kernel) _ fun j => ?_
  have h : (dats m 0 c).after 43 point = (newM (total_2x4x128x128 (m ((c : Thread nD τ).loc main_arg3))) (m ((c : Thread nD τ).loc main_arg18))) := by
    rw [out_14, left_2x4x128x128_eq, block_3, block_18, full_2x4x128x128_eq]
  exact congrFun h j

theorem array_15 : (dats m 0 c).arrAt 44 cfg0.N = (newV (total_2x4x128x128 (m ((c : Thread nD τ).loc main_arg3))) (m ((c : Thread nD τ).loc main_arg25))) := by
  refine (dats m 0 c).arrAt_eq_of_after_last 44 point (by decide +kernel) _ fun j => ?_
  have h : (dats m 0 c).after 44 point = (newV (total_2x4x128x128 (m ((c : Thread nD τ).loc main_arg3))) (m ((c : Thread nD τ).loc main_arg25))) := by
    rw [out_15, left_2x4x128x128_eq, block_3, block_25, full_2x4x128x128_eq]
  exact congrFun h j

theorem array_16 : (dats m 0 c).arrAt 45 cfg0.N = (total_2x512 (m ((c : Thread nD τ).loc main_arg4))) := by
  refine (dats m 0 c).arrAt_eq_of_after_last 45 point (by decide +kernel) _ fun j => ?_
  have h : (dats m 0 c).after 45 point = (total_2x512 (m ((c : Thread nD τ).loc main_arg4))) := by
    rw [out_16, left_2x512_eq, block_4]
  exact congrFun h j

theorem array_17 : (dats m 0 c).arrAt 46 cfg0.N = (delta (total_2x512 (m ((c : Thread nD τ).loc main_arg4))) (m ((c : Thread nD τ).loc main_arg12)) (m ((c : Thread nD τ).loc main_arg19)) (m ((c : Thread nD τ).loc main_arg26))) := by
  refine (dats m 0 c).arrAt_eq_of_after_last 46 point (by decide +kernel) _ fun j => ?_
  have h : (dats m 0 c).after 46 point = (delta (total_2x512 (m ((c : Thread nD τ).loc main_arg4))) (m ((c : Thread nD τ).loc main_arg12)) (m ((c : Thread nD τ).loc main_arg19)) (m ((c : Thread nD τ).loc main_arg26))) := by
    rw [out_17, left_2x512_eq, block_4, block_12, block_19, block_26, full_2x512_eq, full_2x512_eq, full_2x512_eq]
  exact congrFun h j

theorem array_18 : (dats m 0 c).arrAt 47 cfg0.N = (newM (total_2x512 (m ((c : Thread nD τ).loc main_arg4))) (m ((c : Thread nD τ).loc main_arg19))) := by
  refine (dats m 0 c).arrAt_eq_of_after_last 47 point (by decide +kernel) _ fun j => ?_
  have h : (dats m 0 c).after 47 point = (newM (total_2x512 (m ((c : Thread nD τ).loc main_arg4))) (m ((c : Thread nD τ).loc main_arg19))) := by
    rw [out_18, left_2x512_eq, block_4, block_19, full_2x512_eq]
  exact congrFun h j

theorem array_19 : (dats m 0 c).arrAt 48 cfg0.N = (newV (total_2x512 (m ((c : Thread nD τ).loc main_arg4))) (m ((c : Thread nD τ).loc main_arg26))) := by
  refine (dats m 0 c).arrAt_eq_of_after_last 48 point (by decide +kernel) _ fun j => ?_
  have h : (dats m 0 c).after 48 point = (newV (total_2x512 (m ((c : Thread nD τ).loc main_arg4))) (m ((c : Thread nD τ).loc main_arg26))) := by
    rw [out_19, left_2x512_eq, block_4, block_26, full_2x512_eq]
  exact congrFun h j

theorem array_20 : (dats m 0 c).arrAt 49 cfg0.N = (total_2x16x257 (m ((c : Thread nD τ).loc main_arg5))) := by
  refine (dats m 0 c).arrAt_eq_of_after_last 49 point (by decide +kernel) _ fun j => ?_
  have h : (dats m 0 c).after 49 point = (total_2x16x257 (m ((c : Thread nD τ).loc main_arg5))) := by
    rw [out_20, left_2x16x257_eq, block_5]
  exact congrFun h j

theorem array_21 : (dats m 0 c).arrAt 50 cfg0.N = (delta (total_2x16x257 (m ((c : Thread nD τ).loc main_arg5))) (m ((c : Thread nD τ).loc main_arg13)) (m ((c : Thread nD τ).loc main_arg20)) (m ((c : Thread nD τ).loc main_arg27))) := by
  refine (dats m 0 c).arrAt_eq_of_after_last 50 point (by decide +kernel) _ fun j => ?_
  have h : (dats m 0 c).after 50 point = (delta (total_2x16x257 (m ((c : Thread nD τ).loc main_arg5))) (m ((c : Thread nD τ).loc main_arg13)) (m ((c : Thread nD τ).loc main_arg20)) (m ((c : Thread nD τ).loc main_arg27))) := by
    rw [out_21, left_2x16x257_eq, block_5, block_13, block_20, block_27, full_2x16x257_eq, full_2x16x257_eq, full_2x16x257_eq]
  exact congrFun h j

theorem array_22 : (dats m 0 c).arrAt 51 cfg0.N = (newM (total_2x16x257 (m ((c : Thread nD τ).loc main_arg5))) (m ((c : Thread nD τ).loc main_arg20))) := by
  refine (dats m 0 c).arrAt_eq_of_after_last 51 point (by decide +kernel) _ fun j => ?_
  have h : (dats m 0 c).after 51 point = (newM (total_2x16x257 (m ((c : Thread nD τ).loc main_arg5))) (m ((c : Thread nD τ).loc main_arg20))) := by
    rw [out_22, left_2x16x257_eq, block_5, block_20, full_2x16x257_eq]
  exact congrFun h j

theorem array_23 : (dats m 0 c).arrAt 52 cfg0.N = (newV (total_2x16x257 (m ((c : Thread nD τ).loc main_arg5))) (m ((c : Thread nD τ).loc main_arg27))) := by
  refine (dats m 0 c).arrAt_eq_of_after_last 52 point (by decide +kernel) _ fun j => ?_
  have h : (dats m 0 c).after 52 point = (newV (total_2x16x257 (m ((c : Thread nD τ).loc main_arg5))) (m ((c : Thread nD τ).loc main_arg27))) := by
    rw [out_23, left_2x16x257_eq, block_5, block_27, full_2x16x257_eq]
  exact congrFun h j

theorem array_24 : (dats m 0 c).arrAt 53 cfg0.N = (total_1x1024 (m ((c : Thread nD τ).loc main_arg6))) := by
  refine (dats m 0 c).arrAt_eq_of_after_last 53 point (by decide +kernel) _ fun j => ?_
  have h : (dats m 0 c).after 53 point = (total_1x1024 (m ((c : Thread nD τ).loc main_arg6))) := by
    rw [out_24, left_1x1024_eq, block_6]
  exact congrFun h j

theorem array_25 : (dats m 0 c).arrAt 54 cfg0.N = (delta (total_1x1024 (m ((c : Thread nD τ).loc main_arg6))) (m ((c : Thread nD τ).loc main_arg14)) (m ((c : Thread nD τ).loc main_arg21)) (m ((c : Thread nD τ).loc main_arg28))) := by
  refine (dats m 0 c).arrAt_eq_of_after_last 54 point (by decide +kernel) _ fun j => ?_
  have h : (dats m 0 c).after 54 point = (delta (total_1x1024 (m ((c : Thread nD τ).loc main_arg6))) (m ((c : Thread nD τ).loc main_arg14)) (m ((c : Thread nD τ).loc main_arg21)) (m ((c : Thread nD τ).loc main_arg28))) := by
    rw [out_25, left_1x1024_eq, block_6, block_14, block_21, block_28, full_1x1024_eq, full_1x1024_eq, full_1x1024_eq]
  exact congrFun h j

theorem array_26 : (dats m 0 c).arrAt 55 cfg0.N = (newM (total_1x1024 (m ((c : Thread nD τ).loc main_arg6))) (m ((c : Thread nD τ).loc main_arg21))) := by
  refine (dats m 0 c).arrAt_eq_of_after_last 55 point (by decide +kernel) _ fun j => ?_
  have h : (dats m 0 c).after 55 point = (newM (total_1x1024 (m ((c : Thread nD τ).loc main_arg6))) (m ((c : Thread nD τ).loc main_arg21))) := by
    rw [out_26, left_1x1024_eq, block_6, block_21, full_1x1024_eq]
  exact congrFun h j

theorem array_27 : (dats m 0 c).arrAt 56 cfg0.N = (newV (total_1x1024 (m ((c : Thread nD τ).loc main_arg6))) (m ((c : Thread nD τ).loc main_arg28))) := by
  refine (dats m 0 c).arrAt_eq_of_after_last 56 point (by decide +kernel) _ fun j => ?_
  have h : (dats m 0 c).after 56 point = (newV (total_1x1024 (m ((c : Thread nD τ).loc main_arg6))) (m ((c : Thread nD τ).loc main_arg28))) := by
    rw [out_27, left_1x1024_eq, block_6, block_28, full_1x1024_eq]
  exact congrFun h j

theorem array_28 : (dats m 0 c).arrAt 57 cfg0.N = (total_8x128 (m ((c : Thread nD τ).loc main_arg7))) := by
  refine (dats m 0 c).arrAt_eq_of_after_last 57 point (by decide +kernel) _ fun j => ?_
  have h : (dats m 0 c).after 57 point = (total_8x128 (m ((c : Thread nD τ).loc main_arg7))) := by
    rw [out_28, left_8x128_eq, block_7]
  exact congrFun h j

end Cert.Small.Idealized

end
end
-- ==== Proof.Small.Reference.lean ====
module

public import proofs.«01_k».proof.Proof.Small.Values
public import proofs.«01_k».proof.Proof.Gen.ReferenceAdamSmallIdeal
public import Idealize.ShloMosaic.Lib.IdealHost

@[expose] public section

set_option maxRecDepth 16384

/-! The reference's sums over the devices are the body's. -/

noncomputable section

namespace Cert.Small.Reference

open Cert.ReferenceAdamSmallIdeal Cert.ReferenceAdamSmallIdeal.Gen Cert.Small
open Idealize.ShloMosaic Idealize.ShloMosaic.TcCoe

theorem sum_4x1024_apply (x : FVec Ideal S8x4x1024 .f32) (i : Fin 4) (j : Fin 1024) :
    (Host.reduceAdd x (constant S_ .f32 0x00000000#32) reducesTo_S8x4x1024_S4x1024_d0 h_S_ : FVec Ideal S4x1024 .f32) (ix2 i j) = Adam.sumDevices fun p => x (ix3 p i j) := by
  rw [← Adam.sumDevices_eq]
  pointwise []

theorem sum_4x1024 (x : FVec Ideal S8x4x1024 .f32) :
    (Host.reduceAdd x (constant S_ .f32 0x00000000#32) reducesTo_S8x4x1024_S4x1024_d0 h_S_ : FVec Ideal S4x1024 .f32) = Idealized.total_4x1024 (F := Ideal) x := by
  funext y
  idx_vars y
  exact (sum_4x1024_apply x y0 y1).trans (Idealized.total_4x1024_apply x y0 y1).symm

theorem sum_2x512_apply (x : FVec Ideal S8x2x512 .f32) (i : Fin 2) (j : Fin 512) :
    (Host.reduceAdd x (constant S_ .f32 0x00000000#32) reducesTo_S8x2x512_S2x512_d0 h_S_ : FVec Ideal S2x512 .f32) (ix2 i j) = Adam.sumDevices fun p => x (ix3 p i j) := by
  rw [← Adam.sumDevices_eq]
  pointwise []

theorem sum_2x512 (x : FVec Ideal S8x2x512 .f32) :
    (Host.reduceAdd x (constant S_ .f32 0x00000000#32) reducesTo_S8x2x512_S2x512_d0 h_S_ : FVec Ideal S2x512 .f32) = Idealized.total_2x512 (F := Ideal) x := by
  funext y
  idx_vars y
  exact (sum_2x512_apply x y0 y1).trans (Idealized.total_2x512_apply x y0 y1).symm

theorem sum_2x4x128x128_apply (x : FVec Ideal S8x2x4x128x128 .bf16) (i : Fin 2) (j : Fin 4) (k : Fin 128) (l : Fin 128) :
    (Host.reduceAdd (extf .f32 x bitsLt_bf16_f32) (constant S_ .f32 0x00000000#32) reducesTo_S8x2x4x128x128_S2x4x128x128_d0 h_S_ : FVec Ideal S2x4x128x128 .f32) (ix4 i j k l) = Adam.sumDevices fun p => x (ix5 p i j k l) := by
  rw [← Adam.sumDevices_eq]
  pointwise []

theorem sum_2x4x128x128 (x : FVec Ideal S8x2x4x128x128 .bf16) :
    (Host.reduceAdd (extf .f32 x bitsLt_bf16_f32) (constant S_ .f32 0x00000000#32) reducesTo_S8x2x4x128x128_S2x4x128x128_d0 h_S_ : FVec Ideal S2x4x128x128 .f32) = Idealized.total_2x4x128x128 (F := Ideal) x := by
  funext y
  idx_vars y
  exact (sum_2x4x128x128_apply x y0 y1 y2 y3).trans (Idealized.total_2x4x128x128_apply x y0 y1 y2 y3).symm

theorem sum_2x16x257_apply (x : FVec Ideal S8x2x16x257 .f32) (i : Fin 2) (j : Fin 16) (k : Fin 257) :
    (Host.reduceAdd x (constant S_ .f32 0x00000000#32) reducesTo_S8x2x16x257_S2x16x257_d0 h_S_ : FVec Ideal S2x16x257 .f32) (ix3 i j k) = Adam.sumDevices fun p => x (ix4 p i j k) := by
  rw [← Adam.sumDevices_eq]
  pointwise []

theorem sum_2x16x257 (x : FVec Ideal S8x2x16x257 .f32) :
    (Host.reduceAdd x (constant S_ .f32 0x00000000#32) reducesTo_S8x2x16x257_S2x16x257_d0 h_S_ : FVec Ideal S2x16x257 .f32) = Idealized.total_2x16x257 (F := Ideal) x := by
  funext y
  idx_vars y
  exact (sum_2x16x257_apply x y0 y1 y2).trans (Idealized.total_2x16x257_apply x y0 y1 y2).symm

theorem sum_1x1024_apply (x : FVec Ideal S8x1x1024 .f32) (i : Fin 1) (j : Fin 1024) :
    (Host.reduceAdd x (constant S_ .f32 0x00000000#32) reducesTo_S8x1x1024_S1x1024_d0 h_S_ : FVec Ideal S1x1024 .f32) (ix2 i j) = Adam.sumDevices fun p => x (ix3 p i j) := by
  rw [← Adam.sumDevices_eq]
  obtain rfl : i = 0 := Subsingleton.elim _ _
  pointwise []

theorem sum_1x1024 (x : FVec Ideal S8x1x1024 .f32) :
    (Host.reduceAdd x (constant S_ .f32 0x00000000#32) reducesTo_S8x1x1024_S1x1024_d0 h_S_ : FVec Ideal S1x1024 .f32) = Idealized.total_1x1024 (F := Ideal) x := by
  funext y
  idx_vars y
  exact (sum_1x1024_apply x y0 y1).trans (Idealized.total_1x1024_apply x y0 y1).symm

theorem sum_8x128_apply (x : FVec Ideal S8x8x128 .f32) (i : Fin 8) (j : Fin 128) :
    (Host.reduceAdd x (constant S_ .f32 0x00000000#32) reducesTo_S8x8x128_S8x128_d0 h_S_ : FVec Ideal S8x128 .f32) (ix2 i j) = Adam.sumDevices fun p => x (ix3 p i j) := by
  rw [← Adam.sumDevices_eq]
  pointwise []

theorem sum_8x128 (x : FVec Ideal S8x8x128 .f32) :
    (Host.reduceAdd x (constant S_ .f32 0x00000000#32) reducesTo_S8x8x128_S8x128_d0 h_S_ : FVec Ideal S8x128 .f32) = Idealized.total_8x128 (F := Ideal) x := by
  funext y
  idx_vars y
  exact (sum_8x128_apply x y0 y1).trans (Idealized.total_8x128_apply x y0 y1).symm

section
variable {S : Shape} (hb : S_.BroadcastsInDim S (![] : Fin 0 → Fin S.rank)) {g g' w w' m m' v v' : FVec Ideal S .f32}

/-- The reference's first moments are the step's. -/
theorem newM_eq (hg : g' = g) (hm : m' = m) :
    (addf (mulf (broadcastInDim S ![] hb (constant S_ .f32 0x3F666666#32)) m') (mulf (broadcastInDim S ![] hb (constant S_ .f32 0x3DCCCCCD#32)) g') : FVec Ideal S .f32) = newM g m := by
  subst hg hm; rfl

/-- The reference's second moments are the step's. -/
theorem newV_eq (hg : g' = g) (hv : v' = v) :
    (addf (mulf (broadcastInDim S ![] hb (constant S_ .f32 0x3F7FBE77#32)) v') (mulf (broadcastInDim S ![] hb (constant S_ .f32 0x3A83126F#32)) (mulf g' g')) : FVec Ideal S .f32) = newV g v := by
  subst hg hv; rfl

/-- The reference's changes of the weights are the step's. -/
theorem delta_eq (hg : g' = g) (hw : w' = w) (hm : m' = m) (hv : v' = v) :
    (mulf (broadcastInDim S ![] hb (constant S_ .f32 0xBA83126F#32)) (addf (Host.divf (Host.divf (addf (mulf (broadcastInDim S ![] hb (constant S_ .f32 0x3F666666#32)) m') (mulf (broadcastInDim S ![] hb (constant S_ .f32 0x3DCCCCCD#32)) g')) (broadcastInDim S ![] hb (constant S_ .f32 0x3F26BD02#32))) (addf (Host.sqrt (Host.divf (addf (mulf (broadcastInDim S ![] hb (constant S_ .f32 0x3F7FBE77#32)) v') (mulf (broadcastInDim S ![] hb (constant S_ .f32 0x3A83126F#32)) (mulf g' g'))) (broadcastInDim S ![] hb (constant S_ .f32 0x3C231ACC#32)))) (broadcastInDim S ![] hb (constant S_ .f32 0x322BCC77#32)))) (mulf (broadcastInDim S ![] hb (constant S_ .f32 0x3C23D70A#32)) w')) : FVec Ideal S .f32) = delta g w m v := by
  subst hg hw hm hv; rfl
end

end Cert.Small.Reference

end
end
-- ==== Proof.Small.Equation.lean ====
module

public import proofs.«01_k».proof.Defs
public import proofs.«01_k».proof.Proof.Small.ExactRun
public import proofs.«01_k».proof.Proof.Small.Arrays
public import proofs.«01_k».proof.Proof.Small.Reference
public import proofs.«01_k».proof.Proof.Gen.ReferenceAdamSmallIdeal.Run

@[expose] public section

set_option maxRecDepth 16384

/-! The optimiser on the small parameters: the call's results are the reference's. -/

noncomputable section

namespace Cert.Small

open Idealize.ShloMosaic Idealize.ShloMosaic.TcCoe Idealize.SL.Sem Idealize.ShloMosaic.StableHlo
open Cert.ReferenceAdamSmallIdeal.Gen Cert.Small.Reference Cert.Small.Idealized

theorem frameK : Cert.quiescent_KernelAdamSmall := fun m ρ _ => Cert.Small.Exact.unchanged m ρ

theorem frameKI : Cert.quiescent_KernelAdamSmallIdeal := fun m ρ _ => Cert.Small.Idealized.unchanged m ρ

theorem frameRI : Cert.quiescent_ReferenceAdamSmallIdeal := fun m ρ _ =>
  (θ_run _ _ _).mono (fun r h => ⟨fun c => (h c).2.2.2.2.2.2.2.2.2.2.2.2.2.2.2.2.2.2.2.2.2.2.2.2.2.2.2.2.2, sem_eq_zero_of_no_sems (by decide) r.2⟩)
    (Cert.ReferenceAdamSmallIdeal.Value.run m ρ)

theorem preserves : Cert.preserves_KernelAdamSmall_KernelAdamSmallIdeal := trivial

set_option maxHeartbeats 8000000 in
theorem algebraic : Cert.algebraic_KernelAdamSmallIdeal_ReferenceAdamSmallIdeal := by
  intro m g m' g' _ hagree
  refine ⟨_, _, _, _, _, _, _, _, _, _, _, _, _, _, _, _, _, _, _, _, _, _, _, _, _, _, _, _, _, (θ_run _ _ _).mono (fun r k c => ?_) (Cert.Small.Idealized.run m g),
    Cert.ReferenceAdamSmallIdeal.Value.run m' g'⟩
  obtain ⟨h0, h1, h2, h3, h4, h5, h6, h7, h8, h9, h10, h11, h12, h13, h14, h15, h16, h17, h18, h19, h20, h21, h22, h23, h24, h25, h26, h27, h28⟩ := hagree c
  have g0 : Cert.ReferenceAdamSmallIdeal.Value.res_main_v0 (launchContents m' c) = total_4x1024 (F := Ideal) _ := (sum_4x1024 (m' ((c.tc : Thread Cert.ReferenceAdamSmallIdeal.nD Cert.ReferenceAdamSmallIdeal.τ).loc Cert.ReferenceAdamSmallIdeal.main_arg0))).trans (congrArg (total_4x1024 (F := Ideal)) h0)
  have g1 : Cert.ReferenceAdamSmallIdeal.Value.res_main_v1 (launchContents m' c) = total_4x1024 (F := Ideal) _ := (sum_4x1024 (m' ((c.tc : Thread Cert.ReferenceAdamSmallIdeal.nD Cert.ReferenceAdamSmallIdeal.τ).loc Cert.ReferenceAdamSmallIdeal.main_arg1))).trans (congrArg (total_4x1024 (F := Ideal)) h1)
  have g2 : Cert.ReferenceAdamSmallIdeal.Value.res_main_v2 (launchContents m' c) = total_2x512 (F := Ideal) _ := (sum_2x512 (m' ((c.tc : Thread Cert.ReferenceAdamSmallIdeal.nD Cert.ReferenceAdamSmallIdeal.τ).loc Cert.ReferenceAdamSmallIdeal.main_arg2))).trans (congrArg (total_2x512 (F := Ideal)) h2)
  have g3 : Cert.ReferenceAdamSmallIdeal.Value.res_main_v4 (launchContents m' c) = total_2x4x128x128 (F := Ideal) _ := (sum_2x4x128x128 (m' ((c.tc : Thread Cert.ReferenceAdamSmallIdeal.nD Cert.ReferenceAdamSmallIdeal.τ).loc Cert.ReferenceAdamSmallIdeal.main_arg3))).trans (congrArg (total_2x4x128x128 (F := Ideal)) h3)
  have g4 : Cert.ReferenceAdamSmallIdeal.Value.res_main_v5 (launchContents m' c) = total_2x512 (F := Ideal) _ := (sum_2x512 (m' ((c.tc : Thread Cert.ReferenceAdamSmallIdeal.nD Cert.ReferenceAdamSmallIdeal.τ).loc Cert.ReferenceAdamSmallIdeal.main_arg4))).trans (congrArg (total_2x512 (F := Ideal)) h4)
  have g5 : Cert.ReferenceAdamSmallIdeal.Value.res_main_v6 (launchContents m' c) = total_2x16x257 (F := Ideal) _ := (sum_2x16x257 (m' ((c.tc : Thread Cert.ReferenceAdamSmallIdeal.nD Cert.ReferenceAdamSmallIdeal.τ).loc Cert.ReferenceAdamSmallIdeal.main_arg5))).trans (congrArg (total_2x16x257 (F := Ideal)) h5)
  have g6 : Cert.ReferenceAdamSmallIdeal.Value.res_main_v7 (launchContents m' c) = total_1x1024 (F := Ideal) _ := (sum_1x1024 (m' ((c.tc : Thread Cert.ReferenceAdamSmallIdeal.nD Cert.ReferenceAdamSmallIdeal.τ).loc Cert.ReferenceAdamSmallIdeal.main_arg6))).trans (congrArg (total_1x1024 (F := Ideal)) h6)
  exact ⟨
    (((k.1 c).1 29).trans (array_0 m c)).trans g0.symm,
    (((k.1 c).1 30).trans (array_1 m c)).trans (delta_eq bcast_S_S4x1024 g0 h8 h15 h22).symm,
    (((k.1 c).1 31).trans (array_2 m c)).trans (newM_eq bcast_S_S4x1024 g0 h15).symm,
    (((k.1 c).1 32).trans (array_3 m c)).trans (newV_eq bcast_S_S4x1024 g0 h22).symm,
    (((k.1 c).1 33).trans (array_4 m c)).trans g1.symm,
    (((k.1 c).1 34).trans (array_5 m c)).trans (delta_eq bcast_S_S4x1024 g1 h9 h16 h23).symm,
    (((k.1 c).1 35).trans (array_6 m c)).trans (newM_eq bcast_S_S4x1024 g1 h16).symm,
    (((k.1 c).1 36).trans (array_7 m c)).trans (newV_eq bcast_S_S4x1024 g1 h23).symm,
    (((k.1 c).1 37).trans (array_8 m c)).trans g2.symm,
    (((k.1 c).1 38).trans (array_9 m c)).trans (delta_eq bcast_S_S2x512 g2 h10 h17 h24).symm,
    (((k.1 c).1 39).trans (array_10 m c)).trans (newM_eq bcast_S_S2x512 g2 h17).symm,
    (((k.1 c).1 40).trans (array_11 m c)).trans (newV_eq bcast_S_S2x512 g2 h24).symm,
    (((k.1 c).1 41).trans (array_12 m c)).trans g3.symm,
    (((k.1 c).1 42).trans (array_13 m c)).trans (delta_eq bcast_S_S2x4x128x128 g3 h11 h18 h25).symm,
    (((k.1 c).1 43).trans (array_14 m c)).trans (newM_eq bcast_S_S2x4x128x128 g3 h18).symm,
    (((k.1 c).1 44).trans (array_15 m c)).trans (newV_eq bcast_S_S2x4x128x128 g3 h25).symm,
    (((k.1 c).1 45).trans (array_16 m c)).trans g4.symm,
    (((k.1 c).1 46).trans (array_17 m c)).trans (delta_eq bcast_S_S2x512 g4 h12 h19 h26).symm,
    (((k.1 c).1 47).trans (array_18 m c)).trans (newM_eq bcast_S_S2x512 g4 h19).symm,
    (((k.1 c).1 48).trans (array_19 m c)).trans (newV_eq bcast_S_S2x512 g4 h26).symm,
    (((k.1 c).1 49).trans (array_20 m c)).trans g5.symm,
    (((k.1 c).1 50).trans (array_21 m c)).trans (delta_eq bcast_S_S2x16x257 g5 h13 h20 h27).symm,
    (((k.1 c).1 51).trans (array_22 m c)).trans (newM_eq bcast_S_S2x16x257 g5 h20).symm,
    (((k.1 c).1 52).trans (array_23 m c)).trans (newV_eq bcast_S_S2x16x257 g5 h27).symm,
    (((k.1 c).1 53).trans (array_24 m c)).trans g6.symm,
    (((k.1 c).1 54).trans (array_25 m c)).trans (delta_eq bcast_S_S1x1024 g6 h14 h21 h28).symm,
    (((k.1 c).1 55).trans (array_26 m c)).trans (newM_eq bcast_S_S1x1024 g6 h21).symm,
    (((k.1 c).1 56).trans (array_27 m c)).trans (newV_eq bcast_S_S1x1024 g6 h28).symm,
    (((k.1 c).1 57).trans (array_28 m c)).trans ((sum_8x128 (m' ((c.tc : Thread Cert.ReferenceAdamSmallIdeal.nD Cert.ReferenceAdamSmallIdeal.τ).loc Cert.ReferenceAdamSmallIdeal.main_arg7))).trans (congrArg (total_8x128 (F := Ideal)) h7)).symm,
    inputs_kept m r k.1 c⟩

end Cert.Small

end
end
-- ==== Proof.LossHead.Algebra.lean ====
module

public import proofs.«01_k».proof.Proof.Norm.Algebra

@[expose] public section

/-! The loss of a row and its derivative, of extended reals. -/

noncomputable section

namespace Cert.LossHead

open Idealize.ShloMosaic Cert.Norm

/-- The kernel's factors of the squares and of the errors, and the reference's one half, one and two. -/
abbrev halfOverLanes : EReal := Ideal.ofBits .f32 0x3A000000#32
abbrev oneOverLanes : EReal := Ideal.ofBits .f32 0x3A800000#32
abbrev half : EReal := Ideal.ofBits .f32 0x3F000000#32
abbrev one : EReal := Ideal.ofBits .f32 0x3F800000#32
abbrev two : EReal := Ideal.ofBits .f32 0x40000000#32

theorem halfOverLanes_eq : halfOverLanes = ((1 / 2048 : ℝ) : EReal) := by
  simp [halfOverLanes, Ideal.ofBits, Ideal.ieee, -EReal.coe_mul]; norm_num
theorem oneOverLanes_eq : oneOverLanes = ((1024⁻¹ : ℝ) : EReal) := by
  simp [oneOverLanes, Ideal.ofBits, Ideal.ieee, -EReal.coe_mul]; norm_num
theorem half_eq : half = ((1 / 2 : ℝ) : EReal) := by
  simp [half, Ideal.ofBits, Ideal.ieee, -EReal.coe_mul]; norm_num
theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num

/-- The normed row times the gain, less the target. -/
def error (x g t : Fin 1024 → EReal) (j : Fin 1024) : EReal := x j * rinv x * g j - t j

/-- The sum of the squared errors of a row. -/
def squares (x g t : Fin 1024 → EReal) : EReal := ∑ k, error x g t k * error x g t k

/-- The derivative by the normed row times the gain, as the kernel and as the reference write it. -/
def slope (x g t : Fin 1024 → EReal) (j : Fin 1024) : EReal := error x g t j * oneOverLanes
def slopeReference (x g t : Fin 1024 → EReal) (j : Fin 1024) : EReal := Ideal.div (half * one) lanes * (two * error x g t j)

theorem slope_eq (x g t : Fin 1024 → EReal) : slopeReference x g t = slope x g t := by
  funext j
  rw [slopeReference, slope, div_lanes, half_eq, one_eq, two_eq, oneOverLanes_eq, ← mul_assoc, mul_comm (error x g t j),
    ← EReal.coe_mul, ← EReal.coe_mul, ← EReal.coe_mul]
  norm_num

/-- The loss of all rows: the factor outside of the sums of the rows, or inside. -/
theorem loss_eq {n : ℕ} (s : Fin n → EReal) : half * ∑ i, Ideal.div (s i) lanes = ∑ i, halfOverLanes * s i := by
  rw [half_eq, coe_mul_sum _ _ (by norm_num)]
  refine Finset.sum_congr rfl fun i _ => ?_
  rw [div_lanes, halfOverLanes_eq, mul_left_comm, ← EReal.coe_mul, mul_comm]
  norm_num

/-- The kernel's factor goes into a sum of rows. -/
theorem factor_in {n : ℕ} (s : Fin n → EReal) : halfOverLanes * ∑ i, s i = ∑ i, halfOverLanes * s i := by
  rw [halfOverLanes_eq, coe_mul_sum _ _ (by norm_num)]

/-- The kernel's gradient of a row. -/
def rowGrad (a x : Fin 1024 → EReal) (j : Fin 1024) : EReal :=
  rinv x * (a j - x j * rinv x * Ideal.div (∑ k, a k * (x k * rinv x)) lanes)

theorem rowGrad_eq (a x : Fin 1024 → EReal) (j : Fin 1024) :
    rowGrad a x j = a j * rinv x + x j * rowTerm a x + rowTerm a x * x j := by
  have h := row_eq (fun _ => 0) a x j
  rw [rowKernel, rowReference, zero_add, zero_add] at h
  exact h

end Cert.LossHead

end
end
-- ==== Proof.LossHead.Forms.lean ====
module

public import proofs.«01_k».proof.Proof.Gen.ReferenceLossIdeal.Run
public import proofs.«01_k».proof.Proof.Norm.Forms
public import proofs.«01_k».proof.Proof.LossHead.Algebra
public import Idealize.ShloMosaic.Lib.Pipeline.ValueKit
public import Idealize.ShloMosaic.Lib.Pointwise

@[expose] public section

set_option maxRecDepth 16384

/-! The three results of the reference of the loss head, of given arrays. -/

noncomputable section

namespace Cert.LossHead

open Idealize.ShloMosaic Idealize.ShloMosaic.TcCoe Idealize.SL.Sem
open Cert.ReferenceLossIdeal Cert.ReferenceLossIdeal.Gen Cert.Norm

variable (h x t : FVec Ideal S8192x1024 .f32) (g : FVec Ideal S1x1024 .f32)

/-- The errors, their derivatives, the loss in all places of a tile, and the gradient of the rows, as the reference's run states them. -/
def errorForm : FVec Ideal S8192x1024 .f32 :=
  subf (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))) t
def slopeForm : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (errorForm x t g))
def lossForm : FVec Ideal S8x128 .f32 :=
  broadcastInDim S8x128 ![] bcast_S_S8x128 (mulf (constant S_ .f32 0x3F000000#32) (Host.reduceAdd (Host.divf (Host.reduceAdd (mulf (errorForm x t g) (errorForm x t g)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))
def gradForm : FVec Ideal S8192x1024 .f32 :=
  addf (addf (mulf (mulf h (broadcastInDim S8192x1024 ![0, 1] bcast_S1x1024_S8192x1024_0_1 (broadcastInDim S1x1024 ![1] bcast_S1024_S1x1024_1 (shapeCast _ g shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf x (broadcastInDim S8192x1024 ![0] bcast_S8192_S8192x1024_0 (Host.reduceAdd (Host.divf (mulf (shapeCast _ (Host.reduceAdd (mulf x (mulf h (broadcastInDim S8192x1024 ![0, 1] bcast_S1x1024_S8192x1024_0_1 (broadcastInDim S1x1024 ![1] bcast_S1024_S1x1024_1 (shapeCast _ g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf h (broadcastInDim S8192x1024 ![0, 1] bcast_S1x1024_S8192x1024_0_1 (broadcastInDim S1x1024 ![1] bcast_S1024_S1x1024_1 (shapeCast _ g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)

theorem errorForm_apply (n : Fin 8192) (j : Fin 1024) : errorForm x t g (ix2 n j)
    = error (fun k => x (ix2 n k)) (fun k => g (ix2 0 k)) (fun k => t (ix2 n k)) j := by
  pointwise [errorForm, error, rinv, meanSq]

theorem slopeForm_apply (n : Fin 8192) (j : Fin 1024) : slopeForm x t g (ix2 n j)
    = slope (fun k => x (ix2 n k)) (fun k => g (ix2 0 k)) (fun k => t (ix2 n k)) j := by
  rw [← slope_eq]
  pointwise [slopeForm, errorForm_apply, slopeReference]

theorem lossForm_apply (a : Fin 8) (b : Fin 128) : lossForm x t g (ix2 a b)
    = ∑ n, halfOverLanes * squares (fun k => x (ix2 n k)) (fun k => g (ix2 0 k)) (fun k => t (ix2 n k)) := by
  rw [← loss_eq]
  pointwise [lossForm, errorForm_apply, squares]

theorem gradForm_apply (n : Fin 8192) (j : Fin 1024) : gradForm h x g (ix2 n j)
    = rowGrad (fun k => h (ix2 n k) * g (ix2 0 k)) (fun k => x (ix2 n k)) j := by
  rw [rowGrad_eq]
  pointwise [gradForm]
  simp only [Finset.univ_unique, Finset.sum_singleton]
  rfl

end Cert.LossHead

end
-- ==== Proof.LossHead.Block.lean ====
module

public import proofs.«01_k».proof.Proof.Gen.KernelLossIdeal.Frame
public import proofs.«01_k».proof.Proof.LossHead.Algebra
public import Idealize.ShloMosaic.Lib.Pipeline.ValueKit
public import Idealize.ShloMosaic.Lib.Pipeline.ReadBack
public import Idealize.ShloMosaic.Lib.Pointwise

@[expose] public section

set_option maxRecDepth 16384

/-! What one grid point of the loss head computes from 512 rows. -/

noncomputable section

namespace Cert.LossHead

open Idealize.ShloMosaic Idealize.ShloMosaic.TcCoe Idealize.SL.Sem
open Cert.KernelLossIdeal Cert.KernelLossIdeal.Gen Cert.Norm

section
variable (x t : FVec Ideal S512x1024 .f32) (g : FVec Ideal S1x1024 .f32) (i : Fin 512) (j : Fin 1024)

/-- The error of a block's row, and the sum of the squares, the slope and the gradient. -/
def blockSquares : EReal := squares (fun k => x (ix2 i k)) (fun k => g (ix2 0 k)) (fun k => t (ix2 i k))
def blockSlope : Fin 1024 → EReal := slope (fun k => x (ix2 i k)) (fun k => g (ix2 0 k)) (fun k => t (ix2 i k))
def blockRow : Fin 1024 → EReal := rowGrad (fun k => blockSlope x t g i k * g (ix2 0 k)) (fun k => x (ix2 i k))
def blockGain (j : Fin 1024) : EReal := blockSlope x t g i j * (x (ix2 i j) * rinv fun k => x (ix2 i k))

theorem pay5 : k0_pay5 (F := Ideal) x (ix2 i 0) = rinv fun k => x (ix2 i k) := by
  pointwise [k0_pay5, rinv, meanSq]

theorem pay6 : k0_pay6 (F := Ideal) x (ix2 i j) = x (ix2 i j) * rinv fun k => x (ix2 i k) := by
  pointwise [k0_pay6, pay5]

theorem pay7 : k0_pay7 (F := Ideal) x g t (ix2 i j) = error (fun k => x (ix2 i k)) (fun k => g (ix2 0 k)) (fun k => t (ix2 i k)) j := by
  pointwise [k0_pay7, pay6, error]

theorem pay9 : k0_pay9 (F := Ideal) x g t (ix2 i j) = blockSlope x t g i j := by
  pointwise [k0_pay9, pay7, blockSlope, slope]

theorem pay8 (acc : FVec Ideal S8x128 .f32) (a : Fin 8) (b : Fin 128) :
    k0_pay8 (F := Ideal) x g t acc (ix2 a b) = acc (ix2 a b) + halfOverLanes * ∑ i, blockSquares x t g i := by
  pointwise [k0_pay8, pay7, blockSquares, squares]

theorem pay1 (acc : FVec Ideal S1x1024 .f32) :
    k0_pay1 (F := Ideal) (k0_pay10 acc) (k0_pay11 x g t) (ix2 0 j) = acc (ix2 0 j) + ∑ i, blockGain x t g i j := by
  pointwise [k0_pay1, k0_pay10, k0_pay11, pay9, pay6, blockGain]

theorem pay2 : k0_pay2 (F := Ideal) (k0_pay5 x) (k0_pay6 x) (k0_pay9 x g t) g (ix2 i j) = blockRow x t g i j := by
  pointwise [k0_pay2, pay5, pay6, pay9, blockRow, rowGrad]

theorem pay3 (a : Fin 8) (b : Fin 128) : k0_pay3 (F := Ideal) (ix2 a b) = 0 := by
  pointwise [k0_pay3]

theorem pay4 : k0_pay4 (F := Ideal) (ix2 0 j) = 0 := by
  pointwise [k0_pay4]
end

variable (m : (ℓ : Loc nD τ sig) → Buf (Elt Ideal) ℓ)

theorem point3 (c : Dev nD) (t : Fin cfg0.N) (a : Fin 8) (b : Fin 128) (h0 : t.val % 16 = 0) :
    (outsAt0 m c t.val t.isLt).1 (ix2 a b) = halfOverLanes * ∑ i, blockSquares (iblk m c 0 t) (iblk m c 2 t) (iblk m c 1 t) i := by
  rw [outsAt0_A m c t h0]
  frame_out
  exact (pay8 _ _ _ _ _ _).trans ((congrArg (· + _) (pay3 a b)).trans (zero_add _))

theorem step3 (c : Dev nD) (t : Fin cfg0.N) (a : Fin 8) (b : Fin 128) (h0 : ¬ t.val % 16 = 0) :
    (outsAt0 m c t.val t.isLt).1 (ix2 a b)
      = (outsAt0 m c (t.val - 1) (Nat.lt_of_le_of_lt (Nat.sub_le _ _) t.isLt)).1 (ix2 a b)
        + halfOverLanes * ∑ i, blockSquares (iblk m c 0 t) (iblk m c 2 t) (iblk m c 1 t) i := by
  rw [outsAt0_B m c t h0]
  frame_out
  exact pay8 _ _ _ _ _ _

theorem point4 (c : Dev nD) (t : Fin cfg0.N) (i : Fin 512) (j : Fin 1024) :
    (outsAt0 m c t.val t.isLt).2.1 (ix2 i j) = blockRow (iblk m c 0 t) (iblk m c 2 t) (iblk m c 1 t) i j := by
  by_cases h0 : t.val % 16 = 0
  · rw [outsAt0_A m c t h0]
    frame_out
    exact pay2 _ _ _ _ _
  · rw [outsAt0_B m c t h0]
    frame_out
    exact pay2 _ _ _ _ _

theorem point5 (c : Dev nD) (t : Fin cfg0.N) (j : Fin 1024) (h0 : t.val % 16 = 0) :
    (outsAt0 m c t.val t.isLt).2.2 (ix2 0 j) = ∑ i, blockGain (iblk m c 0 t) (iblk m c 2 t) (iblk m c 1 t) i j := by
  rw [outsAt0_A m c t h0]
  frame_out
  exact (pay1 _ _ _ _ _).trans ((congrArg (· + _) (pay4 j)).trans (zero_add _))

theorem step5 (c : Dev nD) (t : Fin cfg0.N) (j : Fin 1024) (h0 : ¬ t.val % 16 = 0) :
    (outsAt0 m c t.val t.isLt).2.2 (ix2 0 j)
      = (outsAt0 m c (t.val - 1) (Nat.lt_of_le_of_lt (Nat.sub_le _ _) t.isLt)).2.2 (ix2 0 j)
        + ∑ i, blockGain (iblk m c 0 t) (iblk m c 2 t) (iblk m c 1 t) i j := by
  rw [outsAt0_B m c t h0]
  frame_out
  exact pay1 _ _ _ _ _

end Cert.LossHead

end
end
-- ==== Proof.LossHead.Equation.lean ====
module

public import proofs.«01_k».proof.Defs
public import proofs.«01_k».proof.Proof.Gen.KernelLoss.Frame
public import proofs.«01_k».proof.Proof.Gen.KernelLossIdeal.Value
public import proofs.«01_k».proof.Proof.LossHead.Forms
public import proofs.«01_k».proof.Proof.LossHead.Block

@[expose] public section

set_option maxRecDepth 16384

/-! The loss head: the three result arrays, and that the reference has the same. -/

noncomputable section

namespace Cert.LossHead

open Idealize.ShloMosaic Idealize.ShloMosaic.TcCoe Idealize.SL.Sem
open Idealize.ShloMosaic.Pipeline (Dat)
open Cert.Norm (rinv)

section Result
variable (X : Fin 8192 → Fin 1024 → EReal) (G : Fin 1024 → EReal) (T : Fin 8192 → Fin 1024 → EReal)

/-- The loss, row `n` of the gradient of the rows, and lane `j` of the gradient of the gain. -/
def loss : EReal := ∑ n : Fin 8192, halfOverLanes * squares (X n) G (T n)
def gradRow (n : Fin 8192) : Fin 1024 → EReal := rowGrad (fun k => slope (X n) G (T n) k * G k) (X n)
def gradGain (j : Fin 1024) : EReal := ∑ n : Fin 8192, slope (X n) G (T n) j * (X n j * rinv (X n))
end Result

section Kernel
open Cert.KernelLossIdeal Cert.KernelLossIdeal.Gen
variable (m : (ℓ : Loc nD τ sig) → Buf (Elt Ideal) ℓ) (c : Dev nD)

/-- The argument arrays of the kernel by coordinates. -/
def xK (n : Fin 8192) (k : Fin 1024) : EReal := m ((c : Thread nD τ).loc main_arg0) (ix2 n k)
def gK (k : Fin 1024) : EReal := m ((c : Thread nD τ).loc main_arg1) (ix2 0 k)
def tK (n : Fin 8192) (k : Fin 1024) : EReal := m ((c : Thread nD τ).loc main_arg2) (ix2 n k)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem points : cfg0.N = 16 := N_0

theorem rowAt_lt (t : Fin cfg0.N) (i : Fin 512) : t.val * 512 + i.val < 8192 := by
  have h : t.val < 16 := lt_of_lt_of_eq t.isLt points
  omega

/-- The array row that is row `i` of point `t`'s block. -/
def rowAt (t : Fin cfg0.N) (i : Fin 512) : Fin 8192 := ⟨t.val * 512 + i.val, rowAt_lt t i⟩

theorem read0 (t : Fin cfg0.N) (i : Fin 512) (k : Fin 1024) : iblk m c 0 t (ix2 i k) = m ((c : Thread nD τ).loc main_arg0) (ix2 (rowAt t i) k) := by
  show _ = m ((c : Thread nD τ).loc main_arg0) (ix2 ⟨t.val * 512 + i.val, rowAt_lt t i⟩ k)
  blk_point [iblk, V, idx t]
theorem read1 (t : Fin cfg0.N) (k : Fin 1024) : iblk m c 1 t (ix2 0 k) = m ((c : Thread nD τ).loc main_arg1) (ix2 0 k) := by
  blk_point [iblk, V, idx t]
theorem read2 (t : Fin cfg0.N) (i : Fin 512) (k : Fin 1024) : iblk m c 2 t (ix2 i k) = m ((c : Thread nD τ).loc main_arg2) (ix2 (rowAt t i) k) := by
  show _ = m ((c : Thread nD τ).loc main_arg2) (ix2 ⟨t.val * 512 + i.val, rowAt_lt t i⟩ k)
  blk_point [iblk, V, idx t]

theorem blockSquares_eq (t : Fin cfg0.N) (i : Fin 512) :
    blockSquares (iblk m c 0 t) (iblk m c 2 t) (iblk m c 1 t) i = squares (xK m c (rowAt t i)) (gK m c) (tK m c (rowAt t i)) := by
  simp only [blockSquares, read0, read1, read2]
  rfl

theorem blockSlope_eq (t : Fin cfg0.N) (i : Fin 512) :
    blockSlope (iblk m c 0 t) (iblk m c 2 t) (iblk m c 1 t) i = slope (xK m c (rowAt t i)) (gK m c) (tK m c (rowAt t i)) := by
  simp only [blockSlope, read0, read1, read2]
  rfl

theorem blockRow_eq (t : Fin cfg0.N) (i : Fin 512) :
    blockRow (iblk m c 0 t) (iblk m c 2 t) (iblk m c 1 t) i = gradRow (xK m c) (gK m c) (tK m c) (rowAt t i) := by
  simp only [blockRow, gradRow, blockSlope_eq, read0, read1]
  rfl

theorem blockGain_eq (t : Fin cfg0.N) (i : Fin 512) (j : Fin 1024) :
    blockGain (iblk m c 0 t) (iblk m c 2 t) (iblk m c 1 t) i j
      = slope (xK m c (rowAt t i)) (gK m c) (tK m c (rowAt t i)) j * (xK m c (rowAt t i) j * rinv (xK m c (rowAt t i))) := by
  simp only [blockGain, blockSlope_eq, read0]
  rfl

theorem array3 : (dats m 0 c).arrAt 3 cfg0.N = fun y : S8x128.Idx => loss (xK m c) (gK m c) (tK m c) := by
  refine (dats m 0 c).arrAt_eq_of_after_last 3 t0_15 (by decide +kernel) _ fun y => ?_
  blk_simp
  idx_vars y
  rw [after0_3]
  refine (Pipeline.eq_sum_fin_of_reset_step_apply_last (fun n h => (outsAt0 m c n h).1) 16 (fun _ => (0 : EReal))
    (fun t y => halfOverLanes * ∑ i, blockSquares (iblk m c 0 t) (iblk m c 2 t) (iblk m c 1 t) i)
    (fun t h y => ?_) (fun t h y => ?_) (le_of_eq points) t0_15 rfl (ix2 y0 y1)).trans ?_
  · idx_vars y
    exact (point3 m c t y0 y1 h).trans (zero_add _).symm
  · idx_vars y
    exact step3 m c t y0 y1 h
  · rw [zero_add]
    simp only [factor_in, blockSquares_eq]
    exact Fin.sum_mul_add_congr (L := 8192) (S := 16) (n := 512)
      (f := fun n => halfOverLanes * squares (xK m c n) (gK m c) (tK m c n)) fun t i h => rfl

theorem array4 : (dats m 0 c).arrAt 4 cfg0.N
    = fun y : S8192x1024.Idx => gradRow (xK m c) (gK m c) (tK m c) (y 0) (y 1) := by
  refine (dats m 0 c).arrAt_eq_of_covers 4 _ (by decide +kernel) fun t hf y => ?_
  blk_simp
  rw [after0_4]
  idx_vars y
  rw [point4, blockRow_eq]
  refine congrArg₂ (gradRow (xK m c) (gK m c) (tK m c)) (Fin.ext ?_) (Fin.ext ?_)
  · show t.val * 512 + y0.val = _
    blk_simp [idx t]
  · blk_simp [idx t]

theorem array5 : (dats m 0 c).arrAt 5 cfg0.N
    = fun y : S1x1024.Idx => gradGain (xK m c) (gK m c) (tK m c) (y 1) := by
  refine (dats m 0 c).arrAt_eq_of_after_last 5 t0_15 (by decide +kernel) _ fun y => ?_
  blk_simp
  idx_vars y
  obtain rfl : y0 = 0 := Subsingleton.elim _ _
  rw [after0_5]
  refine (Pipeline.eq_sum_fin_of_reset_step_apply_last (fun n h => (outsAt0 m c n h).2.2) 16 (fun _ => (0 : EReal))
    (fun t y => ∑ i, blockGain (iblk m c 0 t) (iblk m c 2 t) (iblk m c 1 t) i (y 1))
    (fun t h y => ?_) (fun t h y => ?_) (le_of_eq points) t0_15 rfl (ix2 0 y1)).trans ?_
  · idx_vars y
    obtain rfl : y0 = 0 := Subsingleton.elim _ _
    exact (point5 m c t y1 h).trans (zero_add _).symm
  · idx_vars y
    obtain rfl : y0 = 0 := Subsingleton.elim _ _
    exact step5 m c t y1 h
  · rw [zero_add]
    refine (Finset.sum_congr rfl fun p _ => Finset.sum_congr rfl fun i _ => blockGain_eq m c _ i y1).trans ?_
    exact Fin.sum_mul_add_congr (L := 8192) (S := 16) (n := 512)
      (f := fun n => slope (xK m c n) (gK m c) (tK m c n) y1 * (xK m c n y1 * rinv (xK m c n))) fun t i h => rfl
end Kernel

section Reference
open Cert.ReferenceLossIdeal Cert.ReferenceLossIdeal.Gen Cert.ReferenceLossIdeal.Value
variable (m : (ℓ : Loc nD τ sig) → Buf (Elt Ideal) ℓ) (c : Dev nD)

/-- The argument arrays of the reference by coordinates. -/
def xR (n : Fin 8192) (k : Fin 1024) : EReal := m ((c : Thread nD τ).loc main_arg0) (ix2 n k)
def gR (k : Fin 1024) : EReal := m ((c : Thread nD τ).loc main_arg1) (ix2 0 k)
def tR (n : Fin 8192) (k : Fin 1024) : EReal := m ((c : Thread nD τ).loc main_arg2) (ix2 n k)

/-- The reference's three results. -/
def slopeR : FVec Ideal S8192x1024 .f32 := slopeForm (m ((c : Thread nD τ).loc main_arg0)) (m ((c : Thread nD τ).loc main_arg2)) (m ((c : Thread nD τ).loc main_arg1))
def lossR : FVec Ideal S8x128 .f32 := lossForm (m ((c : Thread nD τ).loc main_arg0)) (m ((c : Thread nD τ).loc main_arg2)) (m ((c : Thread nD τ).loc main_arg1))
def gradR : FVec Ideal S8192x1024 .f32 := gradForm (slopeR m c) (m ((c : Thread nD τ).loc main_arg0)) (m ((c : Thread nD τ).loc main_arg1))
def gainR : FVec Ideal S1x1024 .f32 := Cert.Norm.gainForm (slopeR m c) (m ((c : Thread nD τ).loc main_arg0))

theorem slopeR_apply (n : Fin 8192) (j : Fin 1024) : slopeR m c (ix2 n j) = slope (xR m c n) (gR m c) (tR m c n) j :=
  slopeForm_apply _ _ _ n j

theorem lossR_apply (a : Fin 8) (b : Fin 128) : lossR m c (ix2 a b) = loss (xR m c) (gR m c) (tR m c) :=
  lossForm_apply _ _ _ a b

theorem gradR_apply (n : Fin 8192) (j : Fin 1024) : gradR m c (ix2 n j) = gradRow (xR m c) (gR m c) (tR m c) n j := by
  refine (gradForm_apply _ _ _ n j).trans ?_
  simp only [slopeR_apply]
  rfl

theorem gainR_apply (j : Fin 1024) : gainR m c (ix2 0 j) = gradGain (xR m c) (gR m c) (tR m c) j := by
  refine (Cert.Norm.gainForm_apply _ _ j).trans ?_
  simp only [slopeR_apply]
  exact Finset.sum_congr rfl fun n _ => mul_comm _ _
end Reference

section Equation
variable (m : (ℓ : Loc Cert.KernelLossIdeal.nD Cert.KernelLossIdeal.τ Cert.KernelLossIdeal.sig) → Buf (Elt Ideal) ℓ)
  (m' : (ℓ : Loc Cert.ReferenceLossIdeal.nD Cert.ReferenceLossIdeal.τ Cert.ReferenceLossIdeal.sig) → Buf (Elt Ideal) ℓ)
  (c : Dev Cert.KernelLossIdeal.nD)

/-- The two programs' argument arrays hold the same. -/
structure Same : Prop where
  x : xR m' c = xK m c
  g : gR m' c = gK m c
  t : tR m' c = tK m c

variable {m m' c}

theorem result0 (h : Same m m' c) :
    (Cert.KernelLossIdeal.Gen.dats m 0 c).arrAt 3 Cert.KernelLossIdeal.cfg0.N = lossR m' c := by
  rw [array3]
  funext y
  idx_vars y
  refine Eq.trans ?_ (lossR_apply m' c _ _).symm
  rw [h.x, h.g, h.t]

theorem result1 (h : Same m m' c) :
    (Cert.KernelLossIdeal.Gen.dats m 0 c).arrAt 4 Cert.KernelLossIdeal.cfg0.N = gradR m' c := by
  rw [array4]
  funext y
  idx_vars y
  refine Eq.trans ?_ (gradR_apply m' c _ _).symm
  rw [h.x, h.g, h.t]

theorem gain_eq (h : Same m m' c) (j : Fin 1024) :
    gradGain (xK m c) (gK m c) (tK m c) j = gainR m' c (ix2 0 j) := by
  rw [gainR_apply, h.x, h.g, h.t]

theorem result2 (h : Same m m' c) :
    (Cert.KernelLossIdeal.Gen.dats m 0 c).arrAt 5 Cert.KernelLossIdeal.cfg0.N = gainR m' c := by
  rw [array5]
  generalize hR : gainR m' c = R
  funext y
  have hy : y = ix2 0 (y 1) := by
    funext a
    match a with
    | 0 => exact Subsingleton.elim (α := Fin 1) _ _
    | 1 => rfl
  rw [hy, ← hR]
  exact gain_eq h _
end Equation

theorem frameK : Cert.quiescent_KernelLoss := fun m ρ _ => Cert.KernelLoss.Gen.frame m ρ

theorem frameKI : Cert.quiescent_KernelLossIdeal := fun m ρ _ => Cert.KernelLossIdeal.Gen.frame m ρ

theorem frameRI : Cert.quiescent_ReferenceLossIdeal := fun m ρ _ =>
  (θ_run _ _ _).mono
    (fun r h => ⟨fun c => (h c).2.2.2, sem_eq_zero_of_no_sems (by decide) r.2⟩) (Cert.ReferenceLossIdeal.Value.run m ρ)

theorem preserves : Cert.preserves_KernelLoss_KernelLossIdeal := trivial

theorem algebraic : Cert.algebraic_KernelLossIdeal_ReferenceLossIdeal := by
  intro m g m' g' _ hagree
  have h : ∀ c, Same m m' c := fun c => by
    obtain ⟨h0, h1, h2⟩ := hagree c
    exact ⟨congrArg (fun (a : FVec Ideal Cert.KernelLossIdeal.S8192x1024 .f32) n k => a (ix2 n k)) h0,
      congrArg (fun (a : FVec Ideal Cert.KernelLossIdeal.S1x1024 .f32) k => a (ix2 0 k)) h1,
      congrArg (fun (a : FVec Ideal Cert.KernelLossIdeal.S8192x1024 .f32) n k => a (ix2 n k)) h2⟩
  refine ⟨fun c => lossR m' c, fun c => gradR m' c, fun c => gainR m' c,
    (θ_run _ _ _).mono (fun r k c => ?_) (Cert.KernelLossIdeal.Value.run_blocks m g),
    Cert.ReferenceLossIdeal.Value.run m' g'⟩
  obtain ⟨k0, k1, k2, ka⟩ := k c
  exact ⟨k0.trans (result0 (h c)), k1.trans (result1 (h c)), k2.trans (result2 (h c)), ka⟩

end Cert.LossHead

end
-- ==== Proof.lean ====
module

public import proofs.«01_k».proof.Defs
public import proofs.«01_k».proof.Proof.Gen.KernelN.Frame
public import proofs.«01_k».proof.Proof.Gen.KernelNIdeal.Value
public import proofs.«01_k».proof.Proof.Gen.ReferenceNIdeal.Run
public import proofs.«01_k».proof.Proof.Gen.KernelRows.Frame
public import proofs.«01_k».proof.Proof.Gen.KernelRowsIdeal.Value
public import proofs.«01_k».proof.Proof.Gen.ReferenceRowsIdeal.Run
public import proofs.«01_k».proof.Proof.Gen.KernelOutDw.Frame
public import proofs.«01_k».proof.Proof.Gen.KernelOutDwIdeal.Value
public import proofs.«01_k».proof.Proof.Gen.ReferenceOutDwIdeal.Run
public import proofs.«01_k».proof.Proof.Gen.KernelInDw.Frame
public import proofs.«01_k».proof.Proof.Gen.KernelInDwIdeal.Value
public import proofs.«01_k».proof.Proof.Gen.ReferenceInDwIdeal.Run
public import proofs.«01_k».proof.Proof.Gen.KernelFfnFwd.Frame
public import proofs.«01_k».proof.Proof.Gen.KernelFfnFwdIdeal.Value
public import proofs.«01_k».proof.Proof.Gen.ReferenceFfnFwdIdeal.Run
public import proofs.«01_k».proof.Proof.Gen.KernelOutFwd.Frame
public import proofs.«01_k».proof.Proof.Gen.KernelOutFwdIdeal.Value
public import proofs.«01_k».proof.Proof.Gen.ReferenceOutFwdIdeal.Run
public import proofs.«01_k».proof.Proof.Gen.KernelFfnFwd2.Frame
public import proofs.«01_k».proof.Proof.Gen.KernelFfnFwd2Ideal.Value
public import proofs.«01_k».proof.Proof.Gen.ReferenceFfnFwd2Ideal.Run
public import proofs.«01_k».proof.Proof.Gen.KernelMixDw.Frame
public import proofs.«01_k».proof.Proof.Gen.KernelMixDwIdeal.Value
public import proofs.«01_k».proof.Proof.Gen.ReferenceMixDwIdeal.Run
public import proofs.«01_k».proof.Proof.Gen.KernelMixDw2.Frame
public import proofs.«01_k».proof.Proof.Gen.KernelMixDw2Ideal.Value
public import proofs.«01_k».proof.Proof.Gen.ReferenceMixDw2Ideal.Run
public import proofs.«01_k».proof.Proof.Gen.KernelAbDw.Frame
public import proofs.«01_k».proof.Proof.Gen.KernelAbDwIdeal.Value
public import proofs.«01_k».proof.Proof.Gen.ReferenceAbDwIdeal.Run
public import proofs.«01_k».proof.Proof.Gen.KernelQkvDw.Frame
public import proofs.«01_k».proof.Proof.Gen.KernelQkvDwIdeal.Value
public import proofs.«01_k».proof.Proof.Gen.ReferenceQkvDwIdeal.Run
public import proofs.«01_k».proof.Proof.Gen.KernelAbBwd.Frame
public import proofs.«01_k».proof.Proof.Gen.KernelAbBwdIdeal.Value
public import proofs.«01_k».proof.Proof.Gen.ReferenceAbBwdIdeal.Run
public import proofs.«01_k».proof.Proof.Gen.KernelQkvBwd.Frame
public import proofs.«01_k».proof.Proof.Gen.KernelQkvBwdIdeal.Value
public import proofs.«01_k».proof.Proof.Gen.ReferenceQkvBwdIdeal.Run
public import proofs.«01_k».proof.Proof.Gen.KernelAbFwd.Frame
public import proofs.«01_k».proof.Proof.Gen.KernelAbFwdIdeal.Value
public import proofs.«01_k».proof.Proof.Gen.ReferenceAbFwdIdeal.Run
public import proofs.«01_k».proof.Proof.Gen.KernelQkvFwd.Frame
public import proofs.«01_k».proof.Proof.Gen.KernelQkvFwdIdeal.Value
public import proofs.«01_k».proof.Proof.Gen.ReferenceQkvFwdIdeal.Run
public import proofs.«01_k».proof.Proof.Gen.KernelAdamIn.Frame
public import proofs.«01_k».proof.Proof.Gen.KernelAdamInIdeal.Value
public import proofs.«01_k».proof.Proof.Gen.ReferenceAdamInIdeal.Run
public import proofs.«01_k».proof.Proof.Gen.KernelAdamOut.Frame
public import proofs.«01_k».proof.Proof.Gen.KernelAdamOutIdeal.Value
public import proofs.«01_k».proof.Proof.Gen.ReferenceAdamOutIdeal.Run
public import proofs.«01_k».proof.Proof.Gen.KernelAdamMix.Frame
public import proofs.«01_k».proof.Proof.Gen.KernelAdamMixIdeal.Value
public import proofs.«01_k».proof.Proof.Gen.ReferenceAdamMixIdeal.Run
public import proofs.«01_k».proof.Proof.Gen.KernelAdamAb.Frame
public import proofs.«01_k».proof.Proof.Gen.KernelAdamAbIdeal.Value
public import proofs.«01_k».proof.Proof.Gen.ReferenceAdamAbIdeal.Run
public import proofs.«01_k».proof.Proof.Gen.KernelAdamQkv.Frame
public import proofs.«01_k».proof.Proof.Gen.KernelAdamQkvIdeal.Value
public import proofs.«01_k».proof.Proof.Gen.ReferenceAdamQkvIdeal.Run
public import proofs.«01_k».proof.Proof.Gen.KernelAttnFwd.Frame
public import proofs.«01_k».proof.Proof.Gen.KernelAttnFwdIdeal.Value
public import proofs.«01_k».proof.Proof.Gen.ReferenceAttnFwdIdeal.Run
public import proofs.«01_k».proof.Proof.Gen.KernelAdamSmall.Launch
public import proofs.«01_k».proof.Proof.Gen.KernelAdamSmall.Skeleton
public import proofs.«01_k».proof.Proof.Gen.KernelAdamSmall.Points
public import proofs.«01_k».proof.Proof.Gen.KernelAdamSmallIdeal.Launch
public import proofs.«01_k».proof.Proof.Gen.KernelAdamSmallIdeal.Skeleton
public import proofs.«01_k».proof.Proof.Gen.KernelAdamSmallIdeal.Points
public import proofs.«01_k».proof.Proof.Gen.ReferenceAdamSmallIdeal.Run
public import proofs.«01_k».proof.Proof.Gen.KernelLoss.Frame
public import proofs.«01_k».proof.Proof.Gen.KernelLossIdeal.Value
public import proofs.«01_k».proof.Proof.Gen.ReferenceLossIdeal.Run
public import proofs.«01_k».proof.Proof.Norm.Claims
public import proofs.«01_k».proof.Proof.Rows.Equation
public import proofs.«01_k».proof.Proof.OutDw.Equation
public import proofs.«01_k».proof.Proof.InDw.Equation
public import proofs.«01_k».proof.Proof.FfnFwd.Equation
public import proofs.«01_k».proof.Proof.OutFwd.Equation
public import proofs.«01_k».proof.Proof.FfnFwd2.Equation
public import proofs.«01_k».proof.Proof.MixDw.Equation
public import proofs.«01_k».proof.Proof.MixDw2.Equation
public import proofs.«01_k».proof.Proof.AbDw.Equation
public import proofs.«01_k».proof.Proof.QkvDw.Equation
public import proofs.«01_k».proof.Proof.AbBwd.Equation
public import proofs.«01_k».proof.Proof.QkvBwd.Equation
public import proofs.«01_k».proof.Proof.AbFwd.Equation
public import proofs.«01_k».proof.Proof.QkvFwd.Equation
public import proofs.«01_k».proof.Proof.AdamIn.Equation
public import proofs.«01_k».proof.Proof.AdamOut.Equation
public import proofs.«01_k».proof.Proof.AdamMix.Equation
public import proofs.«01_k».proof.Proof.AdamAb.Equation
public import proofs.«01_k».proof.Proof.AdamQkv.Equation
public import proofs.«01_k».proof.Proof.Attn.Equation
public import proofs.«01_k».proof.Proof.Small.Equation
public import proofs.«01_k».proof.Proof.LossHead.Equation
public import proofs.«01_k».proof.Proof.Gen.Pre_finite_attn
public import Idealize.ShloMosaic.Adequacy
public import Idealize.ShloMosaic.Init

@[expose] public section

noncomputable section

namespace Cert.Proof

open Idealize.ShloMosaic Idealize.SL.Sem

theorem claim : Cert.Claim :=
  ⟨Cert.KernelN.Gen.facts, Cert.KernelNIdeal.Gen.facts, Cert.ReferenceNIdeal.Gen.facts,
  Cert.KernelRows.Gen.facts, Cert.KernelRowsIdeal.Gen.facts, Cert.ReferenceRowsIdeal.Gen.facts,
  Cert.KernelOutDw.Gen.facts, Cert.KernelOutDwIdeal.Gen.facts, Cert.ReferenceOutDwIdeal.Gen.facts,
  Cert.KernelInDw.Gen.facts, Cert.KernelInDwIdeal.Gen.facts, Cert.ReferenceInDwIdeal.Gen.facts,
  Cert.KernelFfnFwd.Gen.facts, Cert.KernelFfnFwdIdeal.Gen.facts, Cert.ReferenceFfnFwdIdeal.Gen.facts,
  Cert.KernelOutFwd.Gen.facts, Cert.KernelOutFwdIdeal.Gen.facts, Cert.ReferenceOutFwdIdeal.Gen.facts,
  Cert.KernelFfnFwd2.Gen.facts, Cert.KernelFfnFwd2Ideal.Gen.facts, Cert.ReferenceFfnFwd2Ideal.Gen.facts,
  Cert.KernelMixDw.Gen.facts, Cert.KernelMixDwIdeal.Gen.facts, Cert.ReferenceMixDwIdeal.Gen.facts,
  Cert.KernelMixDw2.Gen.facts, Cert.KernelMixDw2Ideal.Gen.facts, Cert.ReferenceMixDw2Ideal.Gen.facts,
  Cert.KernelAbDw.Gen.facts, Cert.KernelAbDwIdeal.Gen.facts, Cert.ReferenceAbDwIdeal.Gen.facts,
  Cert.KernelQkvDw.Gen.facts, Cert.KernelQkvDwIdeal.Gen.facts, Cert.ReferenceQkvDwIdeal.Gen.facts,
  Cert.KernelAbBwd.Gen.facts, Cert.KernelAbBwdIdeal.Gen.facts, Cert.ReferenceAbBwdIdeal.Gen.facts,
  Cert.KernelQkvBwd.Gen.facts, Cert.KernelQkvBwdIdeal.Gen.facts, Cert.ReferenceQkvBwdIdeal.Gen.facts,
  Cert.KernelAbFwd.Gen.facts, Cert.KernelAbFwdIdeal.Gen.facts, Cert.ReferenceAbFwdIdeal.Gen.facts,
  Cert.KernelQkvFwd.Gen.facts, Cert.KernelQkvFwdIdeal.Gen.facts, Cert.ReferenceQkvFwdIdeal.Gen.facts,
  Cert.KernelAdamIn.Gen.facts, Cert.KernelAdamInIdeal.Gen.facts, Cert.ReferenceAdamInIdeal.Gen.facts,
  Cert.KernelAdamOut.Gen.facts, Cert.KernelAdamOutIdeal.Gen.facts, Cert.ReferenceAdamOutIdeal.Gen.facts,
  Cert.KernelAdamMix.Gen.facts, Cert.KernelAdamMixIdeal.Gen.facts, Cert.ReferenceAdamMixIdeal.Gen.facts,
  Cert.KernelAdamAb.Gen.facts, Cert.KernelAdamAbIdeal.Gen.facts, Cert.ReferenceAdamAbIdeal.Gen.facts,
  Cert.KernelAdamQkv.Gen.facts, Cert.KernelAdamQkvIdeal.Gen.facts, Cert.ReferenceAdamQkvIdeal.Gen.facts,
  Cert.KernelAttnFwd.Gen.facts, Cert.KernelAttnFwdIdeal.Gen.facts, Cert.ReferenceAttnFwdIdeal.Gen.facts,
  Cert.KernelAdamSmall.Gen.facts, Cert.KernelAdamSmallIdeal.Gen.facts, Cert.ReferenceAdamSmallIdeal.Gen.facts,
  Cert.KernelLoss.Gen.facts, Cert.KernelLossIdeal.Gen.facts, Cert.ReferenceLossIdeal.Gen.facts,
  Cert.Pre_finite_attn.Gen.facts,
  Norm.frameK, Norm.frameKI, Norm.frameRI,
  Rows.frameK, Rows.frameKI, Rows.frameRI,
  OutDw.frameK, OutDw.frameKI, OutDw.frameRI,
  InDw.frameK, InDw.frameKI, InDw.frameRI,
  FfnFwd.frameK, FfnFwd.frameKI, FfnFwd.frameRI,
  OutFwd.frameK, OutFwd.frameKI, OutFwd.frameRI,
  FfnFwd2.frameK, FfnFwd2.frameKI, FfnFwd2.frameRI,
  MixDw.frameK, MixDw.frameKI, MixDw.frameRI,
  MixDw2.frameK, MixDw2.frameKI, MixDw2.frameRI,
  AbDw.frameK, AbDw.frameKI, AbDw.frameRI,
  QkvDw.frameK, QkvDw.frameKI, QkvDw.frameRI,
  AbBwd.frameK, AbBwd.frameKI, AbBwd.frameRI,
  QkvBwd.frameK, QkvBwd.frameKI, QkvBwd.frameRI,
  AbFwd.frameK, AbFwd.frameKI, AbFwd.frameRI,
  QkvFwd.frameK, QkvFwd.frameKI, QkvFwd.frameRI,
  AdamIn.frameK, AdamIn.frameKI, AdamIn.frameRI,
  AdamOut.frameK, AdamOut.frameKI, AdamOut.frameRI,
  AdamMix.frameK, AdamMix.frameKI, AdamMix.frameRI,
  AdamAb.frameK, AdamAb.frameKI, AdamAb.frameRI,
  AdamQkv.frameK, AdamQkv.frameKI, AdamQkv.frameRI,
  Attn.frameK, Attn.frameKI, Attn.frameKI_finite, Attn.frameRI, Attn.frameRI_finite,
  Small.frameK, Small.frameKI, Small.frameRI,
  LossHead.frameK, LossHead.frameKI, LossHead.frameRI,
  Norm.preserves, Norm.algebraic,
  Rows.preserves, Rows.algebraic,
  OutDw.preserves, OutDw.algebraic,
  InDw.preserves, InDw.algebraic,
  FfnFwd.preserves, FfnFwd.algebraic,
  OutFwd.preserves, OutFwd.algebraic,
  FfnFwd2.preserves, FfnFwd2.algebraic,
  MixDw.preserves, MixDw.algebraic,
  MixDw2.preserves, MixDw2.algebraic,
  AbDw.preserves, AbDw.algebraic,
  QkvDw.preserves, QkvDw.algebraic,
  AbBwd.preserves, AbBwd.algebraic,
  QkvBwd.preserves, QkvBwd.algebraic,
  AbFwd.preserves, AbFwd.algebraic,
  QkvFwd.preserves, QkvFwd.algebraic,
  AdamIn.preserves, AdamIn.algebraic,
  AdamOut.preserves, AdamOut.algebraic,
  AdamMix.preserves, AdamMix.algebraic,
  AdamAb.preserves, AdamAb.algebraic,
  AdamQkv.preserves, AdamQkv.algebraic,
  Attn.preserves, Attn.algebraic,
  Small.preserves, Small.algebraic,
  LossHead.preserves, LossHead.algebraic⟩

end Cert.Proof

end
